-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4x4096x128 : Shape := ⟨4, ![4, 4, 4096, 128]⟩
abbrev S288 : Shape := ⟨1, ![288]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x4096x128 : Shape := ⟨4, ![4, 1, 4096, 128]⟩
abbrev S2x512x128 : Shape := ⟨3, ![2, 512, 128]⟩
abbrev S2x4x512x128 : Shape := ⟨4, ![2, 4, 512, 128]⟩
abbrev S4x512x128 : Shape := ⟨3, ![4, 512, 128]⟩
abbrev S3x2x512x128 : Shape := ⟨4, ![3, 2, 512, 128]⟩
abbrev S1x2x512x128 : Shape := ⟨4, ![1, 2, 512, 128]⟩
abbrev S512x128 : Shape := ⟨2, ![512, 128]⟩
abbrev S1x1x512x128 : Shape := ⟨4, ![1, 1, 512, 128]⟩
abbrev S256x128 : Shape := ⟨2, ![256, 128]⟩
abbrev S1 : Shape := ⟨1, ![1]⟩
abbrev S1x512x128 : Shape := ⟨3, ![1, 512, 128]⟩
abbrev S512x512 : Shape := ⟨2, ![512, 512]⟩
abbrev S1x1x256x128 : Shape := ⟨4, ![1, 1, 256, 128]⟩
abbrev S512x256 : Shape := ⟨2, ![512, 256]⟩
abbrev S512x1 : Shape := ⟨2, ![512, 1]⟩

abbrev nBuf : Space → Nat
  | .hbm => 12
  | .vmem => 14
  | .smem => 3
  | _ => 0

abbrev bufTy : (tb : Table) → Fin (tcTables nBuf tb) → BufTy
  | .hbm, ⟨0, _⟩ => ⟨S4x4x4096x128, .bf16⟩
  | .hbm, ⟨1, _⟩ => ⟨S4x4x4096x128, .bf16⟩
  | .hbm, ⟨2, _⟩ => ⟨S4x4x4096x128, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S256x256, .bf16⟩
  | .hbm, ⟨11, _⟩ => ⟨S4x4x4096x128, .f32⟩
  | .local _ .vmem, ⟨0, _⟩ => ⟨S4x1x4096x128, .bf16⟩
  | .local _ .vmem, ⟨1, _⟩ => ⟨S4x1x4096x128, .bf16⟩
  | .local _ .vmem, ⟨2, _⟩ => ⟨S4x1x4096x128, .bf16⟩
  | .local _ .vmem, ⟨3, _⟩ => ⟨S4x1x4096x128, .bf16⟩
  | .local _ .vmem, ⟨4, _⟩ => ⟨S4x1x4096x128, .bf16⟩
  | .local _ .vmem, ⟨5, _⟩ => ⟨S4x1x4096x128, .bf16⟩
  | .local _ .vmem, ⟨6, _⟩ => ⟨S256x256, .bf16⟩
  | .local _ .vmem, ⟨7, _⟩ => ⟨S4x1x4096x128, .f32⟩
  | .local _ .vmem, ⟨8, _⟩ => ⟨S4x1x4096x128, .f32⟩
  | .local _ .vmem, ⟨9, _⟩ => ⟨S2x512x128, .f32⟩
  | .local _ .vmem, ⟨10, _⟩ => ⟨S2x4x512x128, .f32⟩
  | .local _ .vmem, ⟨11, _⟩ => ⟨S4x512x128, .bf16⟩
  | .local _ .vmem, ⟨12, _⟩ => ⟨S4x512x128, .bf16⟩
  | .local _ .vmem, ⟨13, _⟩ => ⟨S3x2x512x128, .f32⟩
  | .local _ .smem, ⟨0, _⟩ => ⟨S288, .i32⟩
  | .local _ .smem, ⟨1, _⟩ => ⟨S288, .i32⟩
  | .local _ .smem, ⟨2, _⟩ => ⟨S288, .i32⟩
  | _, _ => ⟨S4x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop : Scf.Loop 32 :=
  let c0_i32_52 : BitVec 32 := 0#32
  let c18_i32 : BitVec 32 := 18#32
  let v91 : BitVec 32 := Scalar.addi c0_i32_52 c18_i32
  let c1_i32_53 : BitVec 32 := 1#32
  ⟨c0_i32_52, v91, c1_i32_53⟩
def k0_off1 (k0_t1 : Fin k0_t1_loop.trips) : Fin 1 → Nat :=
  let c287_i32_391 : BitVec 32 := 287#32
  let c0_i32_390 : BitVec 32 := 0#32
  let c16_i32 : BitVec 32 := 16#32
  let c0_i32_52 : BitVec 32 := 0#32
  let c1_i32_53 : BitVec 32 := 1#32
  let arg14 : BitVec 32 := Scf.iv c0_i32_52 c1_i32_53 k0_t1
  let v622 : BitVec 32 := Scalar.muli c16_i32 arg14
  let c0_i32_388 : BitVec 32 := 0#32
  let v623 : BitVec 32 := Scalar.addi v622 c0_i32_388
  let c2_i32_389 : BitVec 32 := 2#32
  let v624 : BitVec 32 := Scalar.subi v623 c2_i32_389
  let v625 : BitVec 32 := Scalar.maxsi c0_i32_390 v624
  let v626 : BitVec 32 := Scalar.minsi c287_i32_391 v625
  let v627 : Index := Scalar.indexCast v626
  ![v627.toNat]
def k0_mult1 (v630 : BitVec 32) : BitVec 32 :=
  let c512_i32_392 : BitVec 32 := 512#32
  let v633 : BitVec 32 := Scalar.muli v630 c512_i32_392
  v633

def k0_off2 (v628 : BitVec 32) (v630 : BitVec 32) : Fin 4 → Nat :=
  let v639 : Index := Scalar.indexCast v628
  let c0_396 : Index := 0#32
  let c512_i32_392 : BitVec 32 := 512#32
  let v633 : BitVec 32 := Scalar.muli v630 c512_i32_392
  let v634 : BitVec 32 := v633
  let v640 : Index := Scalar.indexCast v634
  let c0_397 : Index := 0#32
  ![v639.toNat, 0, v640.toNat, 0]
def k0_mult2 (v632 : BitVec 32) : BitVec 32 :=
  let c256_i32_411 : BitVec 32 := 256#32
  let v654 : BitVec 32 := Scalar.muli v632 c256_i32_411
  v654

def k0_off3 (v628 : BitVec 32) (v632 : BitVec 32) : Fin 4 → Nat :=
  let v656 : Index := Scalar.indexCast v628
  let c0_412 : Index := 0#32
  let c256_i32_411 : BitVec 32 := 256#32
  let v654 : BitVec 32 := Scalar.muli v632 c256_i32_411
  let v655 : BitVec 32 := v654
  let v657 : Index := Scalar.indexCast v655
  let c0_413 : Index := 0#32
  ![v656.toNat, 0, v657.toNat, 0]

def k0_chk2 (v628 : BitVec 32) (v632 : BitVec 32) : Prop :=
  (256 ∣ (k0_mult2 v632).toNat) ∧
  (∀ a, (k0_off3 v628 v632) a + S1x1x256x128.size a ≤ S4x1x4096x128.size a)
theorem k0_mult2_dvd : ∀ (v628 : BitVec 32) (v632 : BitVec 32) (k0_hw2 : k0_chk2 v628 v632), 256 ∣ (k0_mult2 v632).toNat := fun v628 v632 k0_hw2 => k0_hw2.1
theorem k0_off3_inb : ∀ (v628 : BitVec 32) (v632 : BitVec 32) (k0_hw2 : k0_chk2 v628 v632), ∀ a, (k0_off3 v628 v632) a + S1x1x256x128.size a ≤ S4x1x4096x128.size a := fun v628 v632 k0_hw2 => k0_hw2.2

def k0_off4 (v628 : BitVec 32) (v630 : BitVec 32) : Fin 4 → Nat :=
  let v671 : Index := Scalar.indexCast v628
  let c0_419 : Index := 0#32
  let c512_i32_392 : BitVec 32 := 512#32
  let v633 : BitVec 32 := Scalar.muli v630 c512_i32_392
  let v634 : BitVec 32 := v633
  let v672 : Index := Scalar.indexCast v634
  let c0_420 : Index := 0#32
  ![v671.toNat, 0, v672.toNat, 0]

def k0_chk1 (v628 : BitVec 32) (v630 : BitVec 32) : Prop :=
  (512 ∣ (k0_mult1 v630).toNat) ∧
  (∀ a, (k0_off2 v628 v630) a + S1x1x512x128.size a ≤ S4x1x4096x128.size a) ∧
  (∀ a, (k0_off4 v628 v630) a + S1x1x512x128.size a ≤ S4x1x4096x128.size a)
theorem k0_mult1_dvd : ∀ (v628 : BitVec 32) (v630 : BitVec 32) (k0_hw1 : k0_chk1 v628 v630), 512 ∣ (k0_mult1 v630).toNat := fun v628 v630 k0_hw1 => k0_hw1.1
theorem k0_off2_inb : ∀ (v628 : BitVec 32) (v630 : BitVec 32) (k0_hw1 : k0_chk1 v628 v630), ∀ a, (k0_off2 v628 v630) a + S1x1x512x128.size a ≤ S4x1x4096x128.size a := fun v628 v630 k0_hw1 => k0_hw1.2.1
theorem k0_off4_inb : ∀ (v628 : BitVec 32) (v630 : BitVec 32) (k0_hw1 : k0_chk1 v628 v630), ∀ a, (k0_off4 v628 v630) a + S1x1x512x128.size a ≤ S4x1x4096x128.size a := fun v628 v630 k0_hw1 => k0_hw1.2.2

def k0_off5 (k0_t1 : Fin k0_t1_loop.trips) : Fin 1 → Nat :=
  let c287_i32_423 : BitVec 32 := 287#32
  let c0_i32_422 : BitVec 32 := 0#32
  let c16_i32 : BitVec 32 := 16#32
  let c0_i32_52 : BitVec 32 := 0#32
  let c1_i32_53 : BitVec 32 := 1#32
  let arg14 : BitVec 32 := Scf.iv c0_i32_52 c1_i32_53 k0_t1
  let v622 : BitVec 32 := Scalar.muli c16_i32 arg14
  let c0_i32_388 : BitVec 32 := 0#32
  let v623 : BitVec 32 := Scalar.addi v622 c0_i32_388
  let c1_i32_421 : BitVec 32 := 1#32
  let v676 : BitVec 32 := Scalar.subi v623 c1_i32_421
  let v677 : BitVec 32 := Scalar.maxsi c0_i32_422 v676
  let v678 : BitVec 32 := Scalar.minsi c287_i32_423 v677
  let v679 : Index := Scalar.indexCast v678
  ![v679.toNat]
def k0_off6 (k0_t1 : Fin k0_t1_loop.trips) : Fin 1 → Nat :=
  let c287_i32_491 : BitVec 32 := 287#32
  let c0_i32_490 : BitVec 32 := 0#32
  let c16_i32 : BitVec 32 := 16#32
  let c0_i32_52 : BitVec 32 := 0#32
  let c1_i32_53 : BitVec 32 := 1#32
  let arg14 : BitVec 32 := Scf.iv c0_i32_52 c1_i32_53 k0_t1
  let v622 : BitVec 32 := Scalar.muli c16_i32 arg14
  let c0_i32_388 : BitVec 32 := 0#32
  let v623 : BitVec 32 := Scalar.addi v622 c0_i32_388
  let v769 : BitVec 32 := Scalar.maxsi c0_i32_490 v623
  let v770 : BitVec 32 := Scalar.minsi c287_i32_491 v769
  let v771 : Index := Scalar.indexCast v770
  ![v771.toNat]
def k0_mult3 (v774 : BitVec 32) : BitVec 32 :=
  let c512_i32_492 : BitVec 32 := 512#32
  let v777 : BitVec 32 := Scalar.muli v774 c512_i32_492
  v777

def k0_off7 (v772 : BitVec 32) (v774 : BitVec 32) : Fin 4 → Nat :=
  let v779 : Index := Scalar.indexCast v772
  let c0_493 : Index := 0#32
  let c512_i32_492 : BitVec 32 := 512#32
  let v777 : BitVec 32 := Scalar.muli v774 c512_i32_492
  let v778 : BitVec 32 := v777
  let v780 : Index := Scalar.indexCast v778
  let c0_494 : Index := 0#32
  ![v779.toNat, 0, v780.toNat, 0]

def k0_chk3 (v772 : BitVec 32) (v774 : BitVec 32) : Prop :=
  (512 ∣ (k0_mult3 v774).toNat) ∧
  (∀ a, (k0_off7 v772 v774) a + S1x1x512x128.size a ≤ S4x1x4096x128.size a)
theorem k0_mult3_dvd : ∀ (v772 : BitVec 32) (v774 : BitVec 32) (k0_hw3 : k0_chk3 v772 v774), 512 ∣ (k0_mult3 v774).toNat := fun v772 v774 k0_hw3 => k0_hw3.1
theorem k0_off7_inb : ∀ (v772 : BitVec 32) (v774 : BitVec 32) (k0_hw3 : k0_chk3 v772 v774), ∀ a, (k0_off7 v772 v774) a + S1x1x512x128.size a ≤ S4x1x4096x128.size a := fun v772 v774 k0_hw3 => k0_hw3.2

def k0_mult4 (v776 : BitVec 32) : BitVec 32 :=
  let c256_i32_495 : BitVec 32 := 256#32
  let v783 : BitVec 32 := Scalar.muli v776 c256_i32_495
  v783

def k0_off8 (v772 : BitVec 32) (v776 : BitVec 32) : Fin 4 → Nat :=
  let v785 : Index := Scalar.indexCast v772
  let c0_496 : Index := 0#32
  let c256_i32_495 : BitVec 32 := 256#32
  let v783 : BitVec 32 := Scalar.muli v776 c256_i32_495
  let v784 : BitVec 32 := v783
  let v786 : Index := Scalar.indexCast v784
  let c0_497 : Index := 0#32
  ![v785.toNat, 0, v786.toNat, 0]
def k0_off9 (v774 : BitVec 32) (v776 : BitVec 32) : Fin 4 → Nat :=
  let c2_i32_503 : BitVec 32 := 2#32
  let v799 : BitVec 32 := Scalar.muli v774 c2_i32_503
  let v800 : BitVec 32 := Scalar.subi v776 v799
  let c1_i32_504 : BitVec 32 := 1#32
  let v801 : BitVec 32 := Scalar.addi v800 c1_i32_504
  let c0_i32_505 : BitVec 32 := 0#32
  let v802 : BitVec 32 := Scalar.maxsi v801 c0_i32_505
  let v804 : Index := Scalar.indexCast v802
  let c0_506 : Index := 0#32
  let c0_507 : Index := 0#32
  let c0_508 : Index := 0#32
  ![v804.toNat, 0, 0, 0]
def k0_off10 (v774 : BitVec 32) (v776 : BitVec 32) : Fin 4 → Nat :=
  let c2_i32_503 : BitVec 32 := 2#32
  let v799 : BitVec 32 := Scalar.muli v774 c2_i32_503
  let v800 : BitVec 32 := Scalar.subi v776 v799
  let c1_i32_504 : BitVec 32 := 1#32
  let v801 : BitVec 32 := Scalar.addi v800 c1_i32_504
  let c0_i32_505 : BitVec 32 := 0#32
  let v802 : BitVec 32 := Scalar.maxsi v801 c0_i32_505
  let v826 : Index := Scalar.indexCast v802
  let c1_519 : Index := 1#32
  let c0_520 : Index := 0#32
  let c0_521 : Index := 0#32
  ![v826.toNat, 1, 0, 0]

def k0_chk4 (v772 : BitVec 32) (v774 : BitVec 32) (v776 : BitVec 32) : Prop :=
  (256 ∣ (k0_mult4 v776).toNat) ∧
  (∀ a, (k0_off8 v772 v776) a + S1x1x256x128.size a ≤ S4x1x4096x128.size a) ∧
  (∀ a, (k0_off9 v774 v776) a + S1x1x512x128.size a ≤ S3x2x512x128.size a) ∧
  (∀ a, (k0_off10 v774 v776) a + S1x1x512x128.size a ≤ S3x2x512x128.size a)
theorem k0_mult4_dvd : ∀ (v772 : BitVec 32) (v774 : BitVec 32) (v776 : BitVec 32) (k0_hw4 : k0_chk4 v772 v774 v776), 256 ∣ (k0_mult4 v776).toNat := fun v772 v774 v776 k0_hw4 => k0_hw4.1
theorem k0_off8_inb : ∀ (v772 : BitVec 32) (v774 : BitVec 32) (v776 : BitVec 32) (k0_hw4 : k0_chk4 v772 v774 v776), ∀ a, (k0_off8 v772 v776) a + S1x1x256x128.size a ≤ S4x1x4096x128.size a := fun v772 v774 v776 k0_hw4 => k0_hw4.2.1
theorem k0_off9_inb : ∀ (v772 : BitVec 32) (v774 : BitVec 32) (v776 : BitVec 32) (k0_hw4 : k0_chk4 v772 v774 v776), ∀ a, (k0_off9 v774 v776) a + S1x1x512x128.size a ≤ S3x2x512x128.size a := fun v772 v774 v776 k0_hw4 => k0_hw4.2.2.1
theorem k0_off10_inb : ∀ (v772 : BitVec 32) (v774 : BitVec 32) (v776 : BitVec 32) (k0_hw4 : k0_chk4 v772 v774 v776), ∀ a, (k0_off10 v774 v776) a + S1x1x512x128.size a ≤ S3x2x512x128.size a := fun v772 v774 v776 k0_hw4 => k0_hw4.2.2.2

def k0_off11 (k0_t1 : Fin k0_t1_loop.trips) : Fin 1 → Nat :=
  let c287_i32_562 : BitVec 32 := 287#32
  let c0_i32_561 : BitVec 32 := 0#32
  let c16_i32_558 : BitVec 32 := 16#32
  let c0_i32_52 : BitVec 32 := 0#32
  let c1_i32_53 : BitVec 32 := 1#32
  let arg14 : BitVec 32 := Scf.iv c0_i32_52 c1_i32_53 k0_t1
  let v891 : BitVec 32 := Scalar.muli c16_i32_558 arg14
  let c1_i32_559 : BitVec 32 := 1#32
  let v892 : BitVec 32 := Scalar.addi v891 c1_i32_559
  let c2_i32_560 : BitVec 32 := 2#32
  let v893 : BitVec 32 := Scalar.subi v892 c2_i32_560
  let v894 : BitVec 32 := Scalar.maxsi c0_i32_561 v893
  let v895 : BitVec 32 := Scalar.minsi c287_i32_562 v894
  let v896 : Index := Scalar.indexCast v895
  ![v896.toNat]
def k0_mult5 (v899 : BitVec 32) : BitVec 32 :=
  let c512_i32_563 : BitVec 32 := 512#32
  let v902 : BitVec 32 := Scalar.muli v899 c512_i32_563
  v902

def k0_off12 (v897 : BitVec 32) (v899 : BitVec 32) : Fin 4 → Nat :=
  let v908 : Index := Scalar.indexCast v897
  let c0_567 : Index := 0#32
  let c512_i32_563 : BitVec 32 := 512#32
  let v902 : BitVec 32 := Scalar.muli v899 c512_i32_563
  let v903 : BitVec 32 := v902
  let v909 : Index := Scalar.indexCast v903
  let c0_568 : Index := 0#32
  ![v908.toNat, 0, v909.toNat, 0]
def k0_mult6 (v901 : BitVec 32) : BitVec 32 :=
  let c256_i32_582 : BitVec 32 := 256#32
  let v923 : BitVec 32 := Scalar.muli v901 c256_i32_582
  v923

def k0_off13 (v897 : BitVec 32) (v901 : BitVec 32) : Fin 4 → Nat :=
  let v925 : Index := Scalar.indexCast v897
  let c0_583 : Index := 0#32
  let c256_i32_582 : BitVec 32 := 256#32
  let v923 : BitVec 32 := Scalar.muli v901 c256_i32_582
  let v924 : BitVec 32 := v923
  let v926 : Index := Scalar.indexCast v924
  let c0_584 : Index := 0#32
  ![v925.toNat, 0, v926.toNat, 0]

def k0_chk6 (v897 : BitVec 32) (v901 : BitVec 32) : Prop :=
  (256 ∣ (k0_mult6 v901).toNat) ∧
  (∀ a, (k0_off13 v897 v901) a + S1x1x256x128.size a ≤ S4x1x4096x128.size a)
theorem k0_mult6_dvd : ∀ (v897 : BitVec 32) (v901 : BitVec 32) (k0_hw6 : k0_chk6 v897 v901), 256 ∣ (k0_mult6 v901).toNat := fun v897 v901 k0_hw6 => k0_hw6.1
theorem k0_off13_inb : ∀ (v897 : BitVec 32) (v901 : BitVec 32) (k0_hw6 : k0_chk6 v897 v901), ∀ a, (k0_off13 v897 v901) a + S1x1x256x128.size a ≤ S4x1x4096x128.size a := fun v897 v901 k0_hw6 => k0_hw6.2

def k0_off14 (v897 : BitVec 32) (v899 : BitVec 32) : Fin 4 → Nat :=
  let v940 : Index := Scalar.indexCast v897
  let c0_590 : Index := 0#32
  let c512_i32_563 : BitVec 32 := 512#32
  let v902 : BitVec 32 := Scalar.muli v899 c512_i32_563
  let v903 : BitVec 32 := v902
  let v941 : Index := Scalar.indexCast v903
  let c0_591 : Index := 0#32
  ![v940.toNat, 0, v941.toNat, 0]

def k0_chk5 (v897 : BitVec 32) (v899 : BitVec 32) : Prop :=
  (512 ∣ (k0_mult5 v899).toNat) ∧
  (∀ a, (k0_off12 v897 v899) a + S1x1x512x128.size a ≤ S4x1x4096x128.size a) ∧
  (∀ a, (k0_off14 v897 v899) a + S1x1x512x128.size a ≤ S4x1x4096x128.size a)
theorem k0_mult5_dvd : ∀ (v897 : BitVec 32) (v899 : BitVec 32) (k0_hw5 : k0_chk5 v897 v899), 512 ∣ (k0_mult5 v899).toNat := fun v897 v899 k0_hw5 => k0_hw5.1
theorem k0_off12_inb : ∀ (v897 : BitVec 32) (v899 : BitVec 32) (k0_hw5 : k0_chk5 v897 v899), ∀ a, (k0_off12 v897 v899) a + S1x1x512x128.size a ≤ S4x1x4096x128.size a := fun v897 v899 k0_hw5 => k0_hw5.2.1
theorem k0_off14_inb : ∀ (v897 : BitVec 32) (v899 : BitVec 32) (k0_hw5 : k0_chk5 v897 v899), ∀ a, (k0_off14 v897 v899) a + S1x1x512x128.size a ≤ S4x1x4096x128.size a := fun v897 v899 k0_hw5 => k0_hw5.2.2

def k0_off15 (k0_t1 : Fin k0_t1_loop.trips) : Fin 1 → Nat :=
  let c287_i32_594 : BitVec 32 := 287#32
  let c0_i32_593 : BitVec 32 := 0#32
  let c16_i32_558 : BitVec 32 := 16#32
  let c0_i32_52 : BitVec 32 := 0#32
  let c1_i32_53 : BitVec 32 := 1#32
  let arg14 : BitVec 32 := Scf.iv c0_i32_52 c1_i32_53 k0_t1
  let v891 : BitVec 32 := Scalar.muli c16_i32_558 arg14
  let c1_i32_559 : BitVec 32 := 1#32
  let v892 : BitVec 32 := Scalar.addi v891 c1_i32_559
  let c1_i32_592 : BitVec 32 := 1#32
  let v945 : BitVec 32 := Scalar.subi v892 c1_i32_592
  let v946 : BitVec 32 := Scalar.maxsi c0_i32_593 v945
  let v947 : BitVec 32 := Scalar.minsi c287_i32_594 v946
  let v948 : Index := Scalar.indexCast v947
  ![v948.toNat]
def k0_off16 (k0_t1 : Fin k0_t1_loop.trips) : Fin 1 → Nat :=
  let c287_i32_662 : BitVec 32 := 287#32
  let c0_i32_661 : BitVec 32 := 0#32
  let c16_i32_558 : BitVec 32 := 16#32
  let c0_i32_52 : BitVec 32 := 0#32
  let c1_i32_53 : BitVec 32 := 1#32
  let arg14 : BitVec 32 := Scf.iv c0_i32_52 c1_i32_53 k0_t1
  let v891 : BitVec 32 := Scalar.muli c16_i32_558 arg14
  let c1_i32_559 : BitVec 32 := 1#32
  let v892 : BitVec 32 := Scalar.addi v891 c1_i32_559
  let v1038 : BitVec 32 := Scalar.maxsi c0_i32_661 v892
  let v1039 : BitVec 32 := Scalar.minsi c287_i32_662 v1038
  let v1040 : Index := Scalar.indexCast v1039
  ![v1040.toNat]
def k0_mult7 (v1043 : BitVec 32) : BitVec 32 :=
  let c512_i32_663 : BitVec 32 := 512#32
  let v1046 : BitVec 32 := Scalar.muli v1043 c512_i32_663
  v1046

def k0_off17 (v1041 : BitVec 32) (v1043 : BitVec 32) : Fin 4 → Nat :=
  let v1048 : Index := Scalar.indexCast v1041
  let c0_664 : Index := 0#32
  let c512_i32_663 : BitVec 32 := 512#32
  let v1046 : BitVec 32 := Scalar.muli v1043 c512_i32_663
  let v1047 : BitVec 32 := v1046
  let v1049 : Index := Scalar.indexCast v1047
  let c0_665 : Index := 0#32
  ![v1048.toNat, 0, v1049.toNat, 0]

def k0_chk7 (v1041 : BitVec 32) (v1043 : BitVec 32) : Prop :=
  (512 ∣ (k0_mult7 v1043).toNat) ∧
  (∀ a, (k0_off17 v1041 v1043) a + S1x1x512x128.size a ≤ S4x1x4096x128.size a)
theorem k0_mult7_dvd : ∀ (v1041 : BitVec 32) (v1043 : BitVec 32) (k0_hw7 : k0_chk7 v1041 v1043), 512 ∣ (k0_mult7 v1043).toNat := fun v1041 v1043 k0_hw7 => k0_hw7.1
theorem k0_off17_inb : ∀ (v1041 : BitVec 32) (v1043 : BitVec 32) (k0_hw7 : k0_chk7 v1041 v1043), ∀ a, (k0_off17 v1041 v1043) a + S1x1x512x128.size a ≤ S4x1x4096x128.size a := fun v1041 v1043 k0_hw7 => k0_hw7.2

def k0_mult8 (v1045 : BitVec 32) : BitVec 32 :=
  let c256_i32_666 : BitVec 32 := 256#32
  let v1052 : BitVec 32 := Scalar.muli v1045 c256_i32_666
  v1052

def k0_off18 (v1041 : BitVec 32) (v1045 : BitVec 32) : Fin 4 → Nat :=
  let v1054 : Index := Scalar.indexCast v1041
  let c0_667 : Index := 0#32
  let c256_i32_666 : BitVec 32 := 256#32
  let v1052 : BitVec 32 := Scalar.muli v1045 c256_i32_666
  let v1053 : BitVec 32 := v1052
  let v1055 : Index := Scalar.indexCast v1053
  let c0_668 : Index := 0#32
  ![v1054.toNat, 0, v1055.toNat, 0]
def k0_off19 (v1043 : BitVec 32) (v1045 : BitVec 32) : Fin 4 → Nat :=
  let c2_i32_674 : BitVec 32 := 2#32
  let v1068 : BitVec 32 := Scalar.muli v1043 c2_i32_674
  let v1069 : BitVec 32 := Scalar.subi v1045 v1068
  let c1_i32_675 : BitVec 32 := 1#32
  let v1070 : BitVec 32 := Scalar.addi v1069 c1_i32_675
  let c0_i32_676 : BitVec 32 := 0#32
  let v1071 : BitVec 32 := Scalar.maxsi v1070 c0_i32_676
  let v1073 : Index := Scalar.indexCast v1071
  let c0_677 : Index := 0#32
  let c0_678 : Index := 0#32
  let c0_679 : Index := 0#32
  ![v1073.toNat, 0, 0, 0]
def k0_off20 (v1043 : BitVec 32) (v1045 : BitVec 32) : Fin 4 → Nat :=
  let c2_i32_674 : BitVec 32 := 2#32
  let v1068 : BitVec 32 := Scalar.muli v1043 c2_i32_674
  let v1069 : BitVec 32 := Scalar.subi v1045 v1068
  let c1_i32_675 : BitVec 32 := 1#32
  let v1070 : BitVec 32 := Scalar.addi v1069 c1_i32_675
  let c0_i32_676 : BitVec 32 := 0#32
  let v1071 : BitVec 32 := Scalar.maxsi v1070 c0_i32_676
  let v1095 : Index := Scalar.indexCast v1071
  let c1_690 : Index := 1#32
  let c0_691 : Index := 0#32
  let c0_692 : Index := 0#32
  ![v1095.toNat, 1, 0, 0]

def k0_chk8 (v1041 : BitVec 32) (v1043 : BitVec 32) (v1045 : BitVec 32) : Prop :=
  (256 ∣ (k0_mult8 v1045).toNat) ∧
  (∀ a, (k0_off18 v1041 v1045) a + S1x1x256x128.size a ≤ S4x1x4096x128.size a) ∧
  (∀ a, (k0_off19 v1043 v1045) a + S1x1x512x128.size a ≤ S3x2x512x128.size a) ∧
  (∀ a, (k0_off20 v1043 v1045) a + S1x1x512x128.size a ≤ S3x2x512x128.size a)
theorem k0_mult8_dvd : ∀ (v1041 : BitVec 32) (v1043 : BitVec 32) (v1045 : BitVec 32) (k0_hw8 : k0_chk8 v1041 v1043 v1045), 256 ∣ (k0_mult8 v1045).toNat := fun v1041 v1043 v1045 k0_hw8 => k0_hw8.1
theorem k0_off18_inb : ∀ (v1041 : BitVec 32) (v1043 : BitVec 32) (v1045 : BitVec 32) (k0_hw8 : k0_chk8 v1041 v1043 v1045), ∀ a, (k0_off18 v1041 v1045) a + S1x1x256x128.size a ≤ S4x1x4096x128.size a := fun v1041 v1043 v1045 k0_hw8 => k0_hw8.2.1
theorem k0_off19_inb : ∀ (v1041 : BitVec 32) (v1043 : BitVec 32) (v1045 : BitVec 32) (k0_hw8 : k0_chk8 v1041 v1043 v1045), ∀ a, (k0_off19 v1043 v1045) a + S1x1x512x128.size a ≤ S3x2x512x128.size a := fun v1041 v1043 v1045 k0_hw8 => k0_hw8.2.2.1
theorem k0_off20_inb : ∀ (v1041 : BitVec 32) (v1043 : BitVec 32) (v1045 : BitVec 32) (k0_hw8 : k0_chk8 v1041 v1043 v1045), ∀ a, (k0_off20 v1043 v1045) a + S1x1x512x128.size a ≤ S3x2x512x128.size a := fun v1041 v1043 v1045 k0_hw8 => k0_hw8.2.2.2

def k0_off21 (k0_t1 : Fin k0_t1_loop.trips) : Fin 1 → Nat :=
  let c287_i32_733 : BitVec 32 := 287#32
  let c0_i32_732 : BitVec 32 := 0#32
  let c16_i32_729 : BitVec 32 := 16#32
  let c0_i32_52 : BitVec 32 := 0#32
  let c1_i32_53 : BitVec 32 := 1#32
  let arg14 : BitVec 32 := Scf.iv c0_i32_52 c1_i32_53 k0_t1
  let v1160 : BitVec 32 := Scalar.muli c16_i32_729 arg14
  let c2_i32_730 : BitVec 32 := 2#32
  let v1161 : BitVec 32 := Scalar.addi v1160 c2_i32_730
  let c2_i32_731 : BitVec 32 := 2#32
  let v1162 : BitVec 32 := Scalar.subi v1161 c2_i32_731
  let v1163 : BitVec 32 := Scalar.maxsi c0_i32_732 v1162
  let v1164 : BitVec 32 := Scalar.minsi c287_i32_733 v1163
  let v1165 : Index := Scalar.indexCast v1164
  ![v1165.toNat]
def k0_mult9 (v1168 : BitVec 32) : BitVec 32 :=
  let c512_i32_734 : BitVec 32 := 512#32
  let v1171 : BitVec 32 := Scalar.muli v1168 c512_i32_734
  v1171

def k0_off22 (v1166 : BitVec 32) (v1168 : BitVec 32) : Fin 4 → Nat :=
  let v1177 : Index := Scalar.indexCast v1166
  let c0_738 : Index := 0#32
  let c512_i32_734 : BitVec 32 := 512#32
  let v1171 : BitVec 32 := Scalar.muli v1168 c512_i32_734
  let v1172 : BitVec 32 := v1171
  let v1178 : Index := Scalar.indexCast v1172
  let c0_739 : Index := 0#32
  ![v1177.toNat, 0, v1178.toNat, 0]
def k0_mult10 (v1170 : BitVec 32) : BitVec 32 :=
  let c256_i32_753 : BitVec 32 := 256#32
  let v1192 : BitVec 32 := Scalar.muli v1170 c256_i32_753
  v1192

def k0_off23 (v1166 : BitVec 32) (v1170 : BitVec 32) : Fin 4 → Nat :=
  let v1194 : Index := Scalar.indexCast v1166
  let c0_754 : Index := 0#32
  let c256_i32_753 : BitVec 32 := 256#32
  let v1192 : BitVec 32 := Scalar.muli v1170 c256_i32_753
  let v1193 : BitVec 32 := v1192
  let v1195 : Index := Scalar.indexCast v1193
  let c0_755 : Index := 0#32
  ![v1194.toNat, 0, v1195.toNat, 0]

def k0_chk10 (v1166 : BitVec 32) (v1170 : BitVec 32) : Prop :=
  (256 ∣ (k0_mult10 v1170).toNat) ∧
  (∀ a, (k0_off23 v1166 v1170) a + S1x1x256x128.size a ≤ S4x1x4096x128.size a)
theorem k0_mult10_dvd : ∀ (v1166 : BitVec 32) (v1170 : BitVec 32) (k0_hw10 : k0_chk10 v1166 v1170), 256 ∣ (k0_mult10 v1170).toNat := fun v1166 v1170 k0_hw10 => k0_hw10.1
theorem k0_off23_inb : ∀ (v1166 : BitVec 32) (v1170 : BitVec 32) (k0_hw10 : k0_chk10 v1166 v1170), ∀ a, (k0_off23 v1166 v1170) a + S1x1x256x128.size a ≤ S4x1x4096x128.size a := fun v1166 v1170 k0_hw10 => k0_hw10.2

def k0_off24 (v1166 : BitVec 32) (v1168 : BitVec 32) : Fin 4 → Nat :=
  let v1209 : Index := Scalar.indexCast v1166
  let c0_761 : Index := 0#32
  let c512_i32_734 : BitVec 32 := 512#32
  let v1171 : BitVec 32 := Scalar.muli v1168 c512_i32_734
  let v1172 : BitVec 32 := v1171
  let v1210 : Index := Scalar.indexCast v1172
  let c0_762 : Index := 0#32
  ![v1209.toNat, 0, v1210.toNat, 0]

def k0_chk9 (v1166 : BitVec 32) (v1168 : BitVec 32) : Prop :=
  (512 ∣ (k0_mult9 v1168).toNat) ∧
  (∀ a, (k0_off22 v1166 v1168) a + S1x1x512x128.size a ≤ S4x1x4096x128.size a) ∧
  (∀ a, (k0_off24 v1166 v1168) a + S1x1x512x128.size a ≤ S4x1x4096x128.size a)
theorem k0_mult9_dvd : ∀ (v1166 : BitVec 32) (v1168 : BitVec 32) (k0_hw9 : k0_chk9 v1166 v1168), 512 ∣ (k0_mult9 v1168).toNat := fun v1166 v1168 k0_hw9 => k0_hw9.1
theorem k0_off22_inb : ∀ (v1166 : BitVec 32) (v1168 : BitVec 32) (k0_hw9 : k0_chk9 v1166 v1168), ∀ a, (k0_off22 v1166 v1168) a + S1x1x512x128.size a ≤ S4x1x4096x128.size a := fun v1166 v1168 k0_hw9 => k0_hw9.2.1
theorem k0_off24_inb : ∀ (v1166 : BitVec 32) (v1168 : BitVec 32) (k0_hw9 : k0_chk9 v1166 v1168), ∀ a, (k0_off24 v1166 v1168) a + S1x1x512x128.size a ≤ S4x1x4096x128.size a := fun v1166 v1168 k0_hw9 => k0_hw9.2.2

def k0_off25 (k0_t1 : Fin k0_t1_loop.trips) : Fin 1 → Nat :=
  let c287_i32_765 : BitVec 32 := 287#32
  let c0_i32_764 : BitVec 32 := 0#32
  let c16_i32_729 : BitVec 32 := 16#32
  let c0_i32_52 : BitVec 32 := 0#32
  let c1_i32_53 : BitVec 32 := 1#32
  let arg14 : BitVec 32 := Scf.iv c0_i32_52 c1_i32_53 k0_t1
  let v1160 : BitVec 32 := Scalar.muli c16_i32_729 arg14
  let c2_i32_730 : BitVec 32 := 2#32
  let v1161 : BitVec 32 := Scalar.addi v1160 c2_i32_730
  let c1_i32_763 : BitVec 32 := 1#32
  let v1214 : BitVec 32 := Scalar.subi v1161 c1_i32_763
  let v1215 : BitVec 32 := Scalar.maxsi c0_i32_764 v1214
  let v1216 : BitVec 32 := Scalar.minsi c287_i32_765 v1215
  let v1217 : Index := Scalar.indexCast v1216
  ![v1217.toNat]
def k0_off26 (k0_t1 : Fin k0_t1_loop.trips) : Fin 1 → Nat :=
  let c287_i32_833 : BitVec 32 := 287#32
  let c0_i32_832 : BitVec 32 := 0#32
  let c16_i32_729 : BitVec 32 := 16#32
  let c0_i32_52 : BitVec 32 := 0#32
  let c1_i32_53 : BitVec 32 := 1#32
  let arg14 : BitVec 32 := Scf.iv c0_i32_52 c1_i32_53 k0_t1
  let v1160 : BitVec 32 := Scalar.muli c16_i32_729 arg14
  let c2_i32_730 : BitVec 32 := 2#32
  let v1161 : BitVec 32 := Scalar.addi v1160 c2_i32_730
  let v1307 : BitVec 32 := Scalar.maxsi c0_i32_832 v1161
  let v1308 : BitVec 32 := Scalar.minsi c287_i32_833 v1307
  let v1309 : Index := Scalar.indexCast v1308
  ![v1309.toNat]
def k0_mult11 (v1312 : BitVec 32) : BitVec 32 :=
  let c512_i32_834 : BitVec 32 := 512#32
  let v1315 : BitVec 32 := Scalar.muli v1312 c512_i32_834
  v1315

def k0_off27 (v1310 : BitVec 32) (v1312 : BitVec 32) : Fin 4 → Nat :=
  let v1317 : Index := Scalar.indexCast v1310
  let c0_835 : Index := 0#32
  let c512_i32_834 : BitVec 32 := 512#32
  let v1315 : BitVec 32 := Scalar.muli v1312 c512_i32_834
  let v1316 : BitVec 32 := v1315
  let v1318 : Index := Scalar.indexCast v1316
  let c0_836 : Index := 0#32
  ![v1317.toNat, 0, v1318.toNat, 0]

def k0_chk11 (v1310 : BitVec 32) (v1312 : BitVec 32) : Prop :=
  (512 ∣ (k0_mult11 v1312).toNat) ∧
  (∀ a, (k0_off27 v1310 v1312) a + S1x1x512x128.size a ≤ S4x1x4096x128.size a)
theorem k0_mult11_dvd : ∀ (v1310 : BitVec 32) (v1312 : BitVec 32) (k0_hw11 : k0_chk11 v1310 v1312), 512 ∣ (k0_mult11 v1312).toNat := fun v1310 v1312 k0_hw11 => k0_hw11.1
theorem k0_off27_inb : ∀ (v1310 : BitVec 32) (v1312 : BitVec 32) (k0_hw11 : k0_chk11 v1310 v1312), ∀ a, (k0_off27 v1310 v1312) a + S1x1x512x128.size a ≤ S4x1x4096x128.size a := fun v1310 v1312 k0_hw11 => k0_hw11.2

def k0_mult12 (v1314 : BitVec 32) : BitVec 32 :=
  let c256_i32_837 : BitVec 32 := 256#32
  let v1321 : BitVec 32 := Scalar.muli v1314 c256_i32_837
  v1321

def k0_off28 (v1310 : BitVec 32) (v1314 : BitVec 32) : Fin 4 → Nat :=
  let v1323 : Index := Scalar.indexCast v1310
  let c0_838 : Index := 0#32
  let c256_i32_837 : BitVec 32 := 256#32
  let v1321 : BitVec 32 := Scalar.muli v1314 c256_i32_837
  let v1322 : BitVec 32 := v1321
  let v1324 : Index := Scalar.indexCast v1322
  let c0_839 : Index := 0#32
  ![v1323.toNat, 0, v1324.toNat, 0]
def k0_off29 (v1312 : BitVec 32) (v1314 : BitVec 32) : Fin 4 → Nat :=
  let c2_i32_845 : BitVec 32 := 2#32
  let v1337 : BitVec 32 := Scalar.muli v1312 c2_i32_845
  let v1338 : BitVec 32 := Scalar.subi v1314 v1337
  let c1_i32_846 : BitVec 32 := 1#32
  let v1339 : BitVec 32 := Scalar.addi v1338 c1_i32_846
  let c0_i32_847 : BitVec 32 := 0#32
  let v1340 : BitVec 32 := Scalar.maxsi v1339 c0_i32_847
  let v1342 : Index := Scalar.indexCast v1340
  let c0_848 : Index := 0#32
  let c0_849 : Index := 0#32
  let c0_850 : Index := 0#32
  ![v1342.toNat, 0, 0, 0]
def k0_off30 (v1312 : BitVec 32) (v1314 : BitVec 32) : Fin 4 → Nat :=
  let c2_i32_845 : BitVec 32 := 2#32
  let v1337 : BitVec 32 := Scalar.muli v1312 c2_i32_845
  let v1338 : BitVec 32 := Scalar.subi v1314 v1337
  let c1_i32_846 : BitVec 32 := 1#32
  let v1339 : BitVec 32 := Scalar.addi v1338 c1_i32_846
  let c0_i32_847 : BitVec 32 := 0#32
  let v1340 : BitVec 32 := Scalar.maxsi v1339 c0_i32_847
  let v1364 : Index := Scalar.indexCast v1340
  let c1_861 : Index := 1#32
  let c0_862 : Index := 0#32
  let c0_863 : Index := 0#32
  ![v1364.toNat, 1, 0, 0]

def k0_chk12 (v1310 : BitVec 32) (v1312 : BitVec 32) (v1314 : BitVec 32) : Prop :=
  (256 ∣ (k0_mult12 v1314).toNat) ∧
  (∀ a, (k0_off28 v1310 v1314) a + S1x1x256x128.size a ≤ S4x1x4096x128.size a) ∧
  (∀ a, (k0_off29 v1312 v1314) a + S1x1x512x128.size a ≤ S3x2x512x128.size a) ∧
  (∀ a, (k0_off30 v1312 v1314) a + S1x1x512x128.size a ≤ S3x2x512x128.size a)
theorem k0_mult12_dvd : ∀ (v1310 : BitVec 32) (v1312 : BitVec 32) (v1314 : BitVec 32) (k0_hw12 : k0_chk12 v1310 v1312 v1314), 256 ∣ (k0_mult12 v1314).toNat := fun v1310 v1312 v1314 k0_hw12 => k0_hw12.1
theorem k0_off28_inb : ∀ (v1310 : BitVec 32) (v1312 : BitVec 32) (v1314 : BitVec 32) (k0_hw12 : k0_chk12 v1310 v1312 v1314), ∀ a, (k0_off28 v1310 v1314) a + S1x1x256x128.size a ≤ S4x1x4096x128.size a := fun v1310 v1312 v1314 k0_hw12 => k0_hw12.2.1
theorem k0_off29_inb : ∀ (v1310 : BitVec 32) (v1312 : BitVec 32) (v1314 : BitVec 32) (k0_hw12 : k0_chk12 v1310 v1312 v1314), ∀ a, (k0_off29 v1312 v1314) a + S1x1x512x128.size a ≤ S3x2x512x128.size a := fun v1310 v1312 v1314 k0_hw12 => k0_hw12.2.2.1
theorem k0_off30_inb : ∀ (v1310 : BitVec 32) (v1312 : BitVec 32) (v1314 : BitVec 32) (k0_hw12 : k0_chk12 v1310 v1312 v1314), ∀ a, (k0_off30 v1312 v1314) a + S1x1x512x128.size a ≤ S3x2x512x128.size a := fun v1310 v1312 v1314 k0_hw12 => k0_hw12.2.2.2

def k0_off31 (k0_t1 : Fin k0_t1_loop.trips) : Fin 1 → Nat :=
  let c287_i32_903 : BitVec 32 := 287#32
  let c0_i32_902 : BitVec 32 := 0#32
  let c16_i32_900 : BitVec 32 := 16#32
  let c0_i32_52 : BitVec 32 := 0#32
  let c1_i32_53 : BitVec 32 := 1#32
  let arg14 : BitVec 32 := Scf.iv c0_i32_52 c1_i32_53 k0_t1
  let v1429 : BitVec 32 := Scalar.muli c16_i32_900 arg14
  let c3_i32 : BitVec 32 := 3#32
  let v1430 : BitVec 32 := Scalar.addi v1429 c3_i32
  let c2_i32_901 : BitVec 32 := 2#32
  let v1431 : BitVec 32 := Scalar.subi v1430 c2_i32_901
  let v1432 : BitVec 32 := Scalar.maxsi c0_i32_902 v1431
  let v1433 : BitVec 32 := Scalar.minsi c287_i32_903 v1432
  let v1434 : Index := Scalar.indexCast v1433
  ![v1434.toNat]
def k0_mult13 (v1437 : BitVec 32) : BitVec 32 :=
  let c512_i32_904 : BitVec 32 := 512#32
  let v1440 : BitVec 32 := Scalar.muli v1437 c512_i32_904
  v1440

def k0_off32 (v1435 : BitVec 32) (v1437 : BitVec 32) : Fin 4 → Nat :=
  let v1446 : Index := Scalar.indexCast v1435
  let c0_908 : Index := 0#32
  let c512_i32_904 : BitVec 32 := 512#32
  let v1440 : BitVec 32 := Scalar.muli v1437 c512_i32_904
  let v1441 : BitVec 32 := v1440
  let v1447 : Index := Scalar.indexCast v1441
  let c0_909 : Index := 0#32
  ![v1446.toNat, 0, v1447.toNat, 0]
def k0_mult14 (v1439 : BitVec 32) : BitVec 32 :=
  let c256_i32_923 : BitVec 32 := 256#32
  let v1461 : BitVec 32 := Scalar.muli v1439 c256_i32_923
  v1461

def k0_off33 (v1435 : BitVec 32) (v1439 : BitVec 32) : Fin 4 → Nat :=
  let v1463 : Index := Scalar.indexCast v1435
  let c0_924 : Index := 0#32
  let c256_i32_923 : BitVec 32 := 256#32
  let v1461 : BitVec 32 := Scalar.muli v1439 c256_i32_923
  let v1462 : BitVec 32 := v1461
  let v1464 : Index := Scalar.indexCast v1462
  let c0_925 : Index := 0#32
  ![v1463.toNat, 0, v1464.toNat, 0]

def k0_chk14 (v1435 : BitVec 32) (v1439 : BitVec 32) : Prop :=
  (256 ∣ (k0_mult14 v1439).toNat) ∧
  (∀ a, (k0_off33 v1435 v1439) a + S1x1x256x128.size a ≤ S4x1x4096x128.size a)
theorem k0_mult14_dvd : ∀ (v1435 : BitVec 32) (v1439 : BitVec 32) (k0_hw14 : k0_chk14 v1435 v1439), 256 ∣ (k0_mult14 v1439).toNat := fun v1435 v1439 k0_hw14 => k0_hw14.1
theorem k0_off33_inb : ∀ (v1435 : BitVec 32) (v1439 : BitVec 32) (k0_hw14 : k0_chk14 v1435 v1439), ∀ a, (k0_off33 v1435 v1439) a + S1x1x256x128.size a ≤ S4x1x4096x128.size a := fun v1435 v1439 k0_hw14 => k0_hw14.2

def k0_off34 (v1435 : BitVec 32) (v1437 : BitVec 32) : Fin 4 → Nat :=
  let v1478 : Index := Scalar.indexCast v1435
  let c0_931 : Index := 0#32
  let c512_i32_904 : BitVec 32 := 512#32
  let v1440 : BitVec 32 := Scalar.muli v1437 c512_i32_904
  let v1441 : BitVec 32 := v1440
  let v1479 : Index := Scalar.indexCast v1441
  let c0_932 : Index := 0#32
  ![v1478.toNat, 0, v1479.toNat, 0]

def k0_chk13 (v1435 : BitVec 32) (v1437 : BitVec 32) : Prop :=
  (512 ∣ (k0_mult13 v1437).toNat) ∧
  (∀ a, (k0_off32 v1435 v1437) a + S1x1x512x128.size a ≤ S4x1x4096x128.size a) ∧
  (∀ a, (k0_off34 v1435 v1437) a + S1x1x512x128.size a ≤ S4x1x4096x128.size a)
theorem k0_mult13_dvd : ∀ (v1435 : BitVec 32) (v1437 : BitVec 32) (k0_hw13 : k0_chk13 v1435 v1437), 512 ∣ (k0_mult13 v1437).toNat := fun v1435 v1437 k0_hw13 => k0_hw13.1
theorem k0_off32_inb : ∀ (v1435 : BitVec 32) (v1437 : BitVec 32) (k0_hw13 : k0_chk13 v1435 v1437), ∀ a, (k0_off32 v1435 v1437) a + S1x1x512x128.size a ≤ S4x1x4096x128.size a := fun v1435 v1437 k0_hw13 => k0_hw13.2.1
theorem k0_off34_inb : ∀ (v1435 : BitVec 32) (v1437 : BitVec 32) (k0_hw13 : k0_chk13 v1435 v1437), ∀ a, (k0_off34 v1435 v1437) a + S1x1x512x128.size a ≤ S4x1x4096x128.size a := fun v1435 v1437 k0_hw13 => k0_hw13.2.2

def k0_off35 (k0_t1 : Fin k0_t1_loop.trips) : Fin 1 → Nat :=
  let c287_i32_935 : BitVec 32 := 287#32
  let c0_i32_934 : BitVec 32 := 0#32
  let c16_i32_900 : BitVec 32 := 16#32
  let c0_i32_52 : BitVec 32 := 0#32
  let c1_i32_53 : BitVec 32 := 1#32
  let arg14 : BitVec 32 := Scf.iv c0_i32_52 c1_i32_53 k0_t1
  let v1429 : BitVec 32 := Scalar.muli c16_i32_900 arg14
  let c3_i32 : BitVec 32 := 3#32
  let v1430 : BitVec 32 := Scalar.addi v1429 c3_i32
  let c1_i32_933 : BitVec 32 := 1#32
  let v1483 : BitVec 32 := Scalar.subi v1430 c1_i32_933
  let v1484 : BitVec 32 := Scalar.maxsi c0_i32_934 v1483
  let v1485 : BitVec 32 := Scalar.minsi c287_i32_935 v1484
  let v1486 : Index := Scalar.indexCast v1485
  ![v1486.toNat]
def k0_off36 (k0_t1 : Fin k0_t1_loop.trips) : Fin 1 → Nat :=
  let c287_i32_1003 : BitVec 32 := 287#32
  let c0_i32_1002 : BitVec 32 := 0#32
  let c16_i32_900 : BitVec 32 := 16#32
  let c0_i32_52 : BitVec 32 := 0#32
  let c1_i32_53 : BitVec 32 := 1#32
  let arg14 : BitVec 32 := Scf.iv c0_i32_52 c1_i32_53 k0_t1
  let v1429 : BitVec 32 := Scalar.muli c16_i32_900 arg14
  let c3_i32 : BitVec 32 := 3#32
  let v1430 : BitVec 32 := Scalar.addi v1429 c3_i32
  let v1576 : BitVec 32 := Scalar.maxsi c0_i32_1002 v1430
  let v1577 : BitVec 32 := Scalar.minsi c287_i32_1003 v1576
  let v1578 : Index := Scalar.indexCast v1577
  ![v1578.toNat]
def k0_mult15 (v1581 : BitVec 32) : BitVec 32 :=
  let c512_i32_1004 : BitVec 32 := 512#32
  let v1584 : BitVec 32 := Scalar.muli v1581 c512_i32_1004
  v1584

def k0_off37 (v1579 : BitVec 32) (v1581 : BitVec 32) : Fin 4 → Nat :=
  let v1586 : Index := Scalar.indexCast v1579
  let c0_1005 : Index := 0#32
  let c512_i32_1004 : BitVec 32 := 512#32
  let v1584 : BitVec 32 := Scalar.muli v1581 c512_i32_1004
  let v1585 : BitVec 32 := v1584
  let v1587 : Index := Scalar.indexCast v1585
  let c0_1006 : Index := 0#32
  ![v1586.toNat, 0, v1587.toNat, 0]

def k0_chk15 (v1579 : BitVec 32) (v1581 : BitVec 32) : Prop :=
  (512 ∣ (k0_mult15 v1581).toNat) ∧
  (∀ a, (k0_off37 v1579 v1581) a + S1x1x512x128.size a ≤ S4x1x4096x128.size a)
theorem k0_mult15_dvd : ∀ (v1579 : BitVec 32) (v1581 : BitVec 32) (k0_hw15 : k0_chk15 v1579 v1581), 512 ∣ (k0_mult15 v1581).toNat := fun v1579 v1581 k0_hw15 => k0_hw15.1
theorem k0_off37_inb : ∀ (v1579 : BitVec 32) (v1581 : BitVec 32) (k0_hw15 : k0_chk15 v1579 v1581), ∀ a, (k0_off37 v1579 v1581) a + S1x1x512x128.size a ≤ S4x1x4096x128.size a := fun v1579 v1581 k0_hw15 => k0_hw15.2

def k0_mult16 (v1583 : BitVec 32) : BitVec 32 :=
  let c256_i32_1007 : BitVec 32 := 256#32
  let v1590 : BitVec 32 := Scalar.muli v1583 c256_i32_1007
  v1590

def k0_off38 (v1579 : BitVec 32) (v1583 : BitVec 32) : Fin 4 → Nat :=
  let v1592 : Index := Scalar.indexCast v1579
  let c0_1008 : Index := 0#32
  let c256_i32_1007 : BitVec 32 := 256#32
  let v1590 : BitVec 32 := Scalar.muli v1583 c256_i32_1007
  let v1591 : BitVec 32 := v1590
  let v1593 : Index := Scalar.indexCast v1591
  let c0_1009 : Index := 0#32
  ![v1592.toNat, 0, v1593.toNat, 0]
def k0_off39 (v1581 : BitVec 32) (v1583 : BitVec 32) : Fin 4 → Nat :=
  let c2_i32_1015 : BitVec 32 := 2#32
  let v1606 : BitVec 32 := Scalar.muli v1581 c2_i32_1015
  let v1607 : BitVec 32 := Scalar.subi v1583 v1606
  let c1_i32_1016 : BitVec 32 := 1#32
  let v1608 : BitVec 32 := Scalar.addi v1607 c1_i32_1016
  let c0_i32_1017 : BitVec 32 := 0#32
  let v1609 : BitVec 32 := Scalar.maxsi v1608 c0_i32_1017
  let v1611 : Index := Scalar.indexCast v1609
  let c0_1018 : Index := 0#32
  let c0_1019 : Index := 0#32
  let c0_1020 : Index := 0#32
  ![v1611.toNat, 0, 0, 0]
def k0_off40 (v1581 : BitVec 32) (v1583 : BitVec 32) : Fin 4 → Nat :=
  let c2_i32_1015 : BitVec 32 := 2#32
  let v1606 : BitVec 32 := Scalar.muli v1581 c2_i32_1015
  let v1607 : BitVec 32 := Scalar.subi v1583 v1606
  let c1_i32_1016 : BitVec 32 := 1#32
  let v1608 : BitVec 32 := Scalar.addi v1607 c1_i32_1016
  let c0_i32_1017 : BitVec 32 := 0#32
  let v1609 : BitVec 32 := Scalar.maxsi v1608 c0_i32_1017
  let v1633 : Index := Scalar.indexCast v1609
  let c1_1031 : Index := 1#32
  let c0_1032 : Index := 0#32
  let c0_1033 : Index := 0#32
  ![v1633.toNat, 1, 0, 0]

def k0_chk16 (v1579 : BitVec 32) (v1581 : BitVec 32) (v1583 : BitVec 32) : Prop :=
  (256 ∣ (k0_mult16 v1583).toNat) ∧
  (∀ a, (k0_off38 v1579 v1583) a + S1x1x256x128.size a ≤ S4x1x4096x128.size a) ∧
  (∀ a, (k0_off39 v1581 v1583) a + S1x1x512x128.size a ≤ S3x2x512x128.size a) ∧
  (∀ a, (k0_off40 v1581 v1583) a + S1x1x512x128.size a ≤ S3x2x512x128.size a)
theorem k0_mult16_dvd : ∀ (v1579 : BitVec 32) (v1581 : BitVec 32) (v1583 : BitVec 32) (k0_hw16 : k0_chk16 v1579 v1581 v1583), 256 ∣ (k0_mult16 v1583).toNat := fun v1579 v1581 v1583 k0_hw16 => k0_hw16.1
theorem k0_off38_inb : ∀ (v1579 : BitVec 32) (v1581 : BitVec 32) (v1583 : BitVec 32) (k0_hw16 : k0_chk16 v1579 v1581 v1583), ∀ a, (k0_off38 v1579 v1583) a + S1x1x256x128.size a ≤ S4x1x4096x128.size a := fun v1579 v1581 v1583 k0_hw16 => k0_hw16.2.1
theorem k0_off39_inb : ∀ (v1579 : BitVec 32) (v1581 : BitVec 32) (v1583 : BitVec 32) (k0_hw16 : k0_chk16 v1579 v1581 v1583), ∀ a, (k0_off39 v1581 v1583) a + S1x1x512x128.size a ≤ S3x2x512x128.size a := fun v1579 v1581 v1583 k0_hw16 => k0_hw16.2.2.1
theorem k0_off40_inb : ∀ (v1579 : BitVec 32) (v1581 : BitVec 32) (v1583 : BitVec 32) (k0_hw16 : k0_chk16 v1579 v1581 v1583), ∀ a, (k0_off40 v1581 v1583) a + S1x1x512x128.size a ≤ S3x2x512x128.size a := fun v1579 v1581 v1583 k0_hw16 => k0_hw16.2.2.2

def k0_off41 (k0_t1 : Fin k0_t1_loop.trips) : Fin 1 → Nat :=
  let c287_i32_1073 : BitVec 32 := 287#32
  let c0_i32_1072 : BitVec 32 := 0#32
  let c16_i32_1070 : BitVec 32 := 16#32
  let c0_i32_52 : BitVec 32 := 0#32
  let c1_i32_53 : BitVec 32 := 1#32
  let arg14 : BitVec 32 := Scf.iv c0_i32_52 c1_i32_53 k0_t1
  let v1698 : BitVec 32 := Scalar.muli c16_i32_1070 arg14
  let c4_i32 : BitVec 32 := 4#32
  let v1699 : BitVec 32 := Scalar.addi v1698 c4_i32
  let c2_i32_1071 : BitVec 32 := 2#32
  let v1700 : BitVec 32 := Scalar.subi v1699 c2_i32_1071
  let v1701 : BitVec 32 := Scalar.maxsi c0_i32_1072 v1700
  let v1702 : BitVec 32 := Scalar.minsi c287_i32_1073 v1701
  let v1703 : Index := Scalar.indexCast v1702
  ![v1703.toNat]
def k0_mult17 (v1706 : BitVec 32) : BitVec 32 :=
  let c512_i32_1074 : BitVec 32 := 512#32
  let v1709 : BitVec 32 := Scalar.muli v1706 c512_i32_1074
  v1709

def k0_off42 (v1704 : BitVec 32) (v1706 : BitVec 32) : Fin 4 → Nat :=
  let v1715 : Index := Scalar.indexCast v1704
  let c0_1078 : Index := 0#32
  let c512_i32_1074 : BitVec 32 := 512#32
  let v1709 : BitVec 32 := Scalar.muli v1706 c512_i32_1074
  let v1710 : BitVec 32 := v1709
  let v1716 : Index := Scalar.indexCast v1710
  let c0_1079 : Index := 0#32
  ![v1715.toNat, 0, v1716.toNat, 0]
def k0_mult18 (v1708 : BitVec 32) : BitVec 32 :=
  let c256_i32_1093 : BitVec 32 := 256#32
  let v1730 : BitVec 32 := Scalar.muli v1708 c256_i32_1093
  v1730

def k0_off43 (v1704 : BitVec 32) (v1708 : BitVec 32) : Fin 4 → Nat :=
  let v1732 : Index := Scalar.indexCast v1704
  let c0_1094 : Index := 0#32
  let c256_i32_1093 : BitVec 32 := 256#32
  let v1730 : BitVec 32 := Scalar.muli v1708 c256_i32_1093
  let v1731 : BitVec 32 := v1730
  let v1733 : Index := Scalar.indexCast v1731
  let c0_1095 : Index := 0#32
  ![v1732.toNat, 0, v1733.toNat, 0]

def k0_chk18 (v1704 : BitVec 32) (v1708 : BitVec 32) : Prop :=
  (256 ∣ (k0_mult18 v1708).toNat) ∧
  (∀ a, (k0_off43 v1704 v1708) a + S1x1x256x128.size a ≤ S4x1x4096x128.size a)
theorem k0_mult18_dvd : ∀ (v1704 : BitVec 32) (v1708 : BitVec 32) (k0_hw18 : k0_chk18 v1704 v1708), 256 ∣ (k0_mult18 v1708).toNat := fun v1704 v1708 k0_hw18 => k0_hw18.1
theorem k0_off43_inb : ∀ (v1704 : BitVec 32) (v1708 : BitVec 32) (k0_hw18 : k0_chk18 v1704 v1708), ∀ a, (k0_off43 v1704 v1708) a + S1x1x256x128.size a ≤ S4x1x4096x128.size a := fun v1704 v1708 k0_hw18 => k0_hw18.2

def k0_off44 (v1704 : BitVec 32) (v1706 : BitVec 32) : Fin 4 → Nat :=
  let v1747 : Index := Scalar.indexCast v1704
  let c0_1101 : Index := 0#32
  let c512_i32_1074 : BitVec 32 := 512#32
  let v1709 : BitVec 32 := Scalar.muli v1706 c512_i32_1074
  let v1710 : BitVec 32 := v1709
  let v1748 : Index := Scalar.indexCast v1710
  let c0_1102 : Index := 0#32
  ![v1747.toNat, 0, v1748.toNat, 0]

def k0_chk17 (v1704 : BitVec 32) (v1706 : BitVec 32) : Prop :=
  (512 ∣ (k0_mult17 v1706).toNat) ∧
  (∀ a, (k0_off42 v1704 v1706) a + S1x1x512x128.size a ≤ S4x1x4096x128.size a) ∧
  (∀ a, (k0_off44 v1704 v1706) a + S1x1x512x128.size a ≤ S4x1x4096x128.size a)
theorem k0_mult17_dvd : ∀ (v1704 : BitVec 32) (v1706 : BitVec 32) (k0_hw17 : k0_chk17 v1704 v1706), 512 ∣ (k0_mult17 v1706).toNat := fun v1704 v1706 k0_hw17 => k0_hw17.1
theorem k0_off42_inb : ∀ (v1704 : BitVec 32) (v1706 : BitVec 32) (k0_hw17 : k0_chk17 v1704 v1706), ∀ a, (k0_off42 v1704 v1706) a + S1x1x512x128.size a ≤ S4x1x4096x128.size a := fun v1704 v1706 k0_hw17 => k0_hw17.2.1
theorem k0_off44_inb : ∀ (v1704 : BitVec 32) (v1706 : BitVec 32) (k0_hw17 : k0_chk17 v1704 v1706), ∀ a, (k0_off44 v1704 v1706) a + S1x1x512x128.size a ≤ S4x1x4096x128.size a := fun v1704 v1706 k0_hw17 => k0_hw17.2.2

def k0_off45 (k0_t1 : Fin k0_t1_loop.trips) : Fin 1 → Nat :=
  let c287_i32_1105 : BitVec 32 := 287#32
  let c0_i32_1104 : BitVec 32 := 0#32
  let c16_i32_1070 : BitVec 32 := 16#32
  let c0_i32_52 : BitVec 32 := 0#32
  let c1_i32_53 : BitVec 32 := 1#32
  let arg14 : BitVec 32 := Scf.iv c0_i32_52 c1_i32_53 k0_t1
  let v1698 : BitVec 32 := Scalar.muli c16_i32_1070 arg14
  let c4_i32 : BitVec 32 := 4#32
  let v1699 : BitVec 32 := Scalar.addi v1698 c4_i32
  let c1_i32_1103 : BitVec 32 := 1#32
  let v1752 : BitVec 32 := Scalar.subi v1699 c1_i32_1103
  let v1753 : BitVec 32 := Scalar.maxsi c0_i32_1104 v1752
  let v1754 : BitVec 32 := Scalar.minsi c287_i32_1105 v1753
  let v1755 : Index := Scalar.indexCast v1754
  ![v1755.toNat]
def k0_off46 (k0_t1 : Fin k0_t1_loop.trips) : Fin 1 → Nat :=
  let c287_i32_1173 : BitVec 32 := 287#32
  let c0_i32_1172 : BitVec 32 := 0#32
  let c16_i32_1070 : BitVec 32 := 16#32
  let c0_i32_52 : BitVec 32 := 0#32
  let c1_i32_53 : BitVec 32 := 1#32
  let arg14 : BitVec 32 := Scf.iv c0_i32_52 c1_i32_53 k0_t1
  let v1698 : BitVec 32 := Scalar.muli c16_i32_1070 arg14
  let c4_i32 : BitVec 32 := 4#32
  let v1699 : BitVec 32 := Scalar.addi v1698 c4_i32
  let v1845 : BitVec 32 := Scalar.maxsi c0_i32_1172 v1699
  let v1846 : BitVec 32 := Scalar.minsi c287_i32_1173 v1845
  let v1847 : Index := Scalar.indexCast v1846
  ![v1847.toNat]
def k0_mult19 (v1850 : BitVec 32) : BitVec 32 :=
  let c512_i32_1174 : BitVec 32 := 512#32
  let v1853 : BitVec 32 := Scalar.muli v1850 c512_i32_1174
  v1853

def k0_off47 (v1848 : BitVec 32) (v1850 : BitVec 32) : Fin 4 → Nat :=
  let v1855 : Index := Scalar.indexCast v1848
  let c0_1175 : Index := 0#32
  let c512_i32_1174 : BitVec 32 := 512#32
  let v1853 : BitVec 32 := Scalar.muli v1850 c512_i32_1174
  let v1854 : BitVec 32 := v1853
  let v1856 : Index := Scalar.indexCast v1854
  let c0_1176 : Index := 0#32
  ![v1855.toNat, 0, v1856.toNat, 0]

def k0_chk19 (v1848 : BitVec 32) (v1850 : BitVec 32) : Prop :=
  (512 ∣ (k0_mult19 v1850).toNat) ∧
  (∀ a, (k0_off47 v1848 v1850) a + S1x1x512x128.size a ≤ S4x1x4096x128.size a)
theorem k0_mult19_dvd : ∀ (v1848 : BitVec 32) (v1850 : BitVec 32) (k0_hw19 : k0_chk19 v1848 v1850), 512 ∣ (k0_mult19 v1850).toNat := fun v1848 v1850 k0_hw19 => k0_hw19.1
theorem k0_off47_inb : ∀ (v1848 : BitVec 32) (v1850 : BitVec 32) (k0_hw19 : k0_chk19 v1848 v1850), ∀ a, (k0_off47 v1848 v1850) a + S1x1x512x128.size a ≤ S4x1x4096x128.size a := fun v1848 v1850 k0_hw19 => k0_hw19.2

def k0_mult20 (v1852 : BitVec 32) : BitVec 32 :=
  let c256_i32_1177 : BitVec 32 := 256#32
  let v1859 : BitVec 32 := Scalar.muli v1852 c256_i32_1177
  v1859

def k0_off48 (v1848 : BitVec 32) (v1852 : BitVec 32) : Fin 4 → Nat :=
  let v1861 : Index := Scalar.indexCast v1848
  let c0_1178 : Index := 0#32
  let c256_i32_1177 : BitVec 32 := 256#32
  let v1859 : BitVec 32 := Scalar.muli v1852 c256_i32_1177
  let v1860 : BitVec 32 := v1859
  let v1862 : Index := Scalar.indexCast v1860
  let c0_1179 : Index := 0#32
  ![v1861.toNat, 0, v1862.toNat, 0]
def k0_off49 (v1850 : BitVec 32) (v1852 : BitVec 32) : Fin 4 → Nat :=
  let c2_i32_1185 : BitVec 32 := 2#32
  let v1875 : BitVec 32 := Scalar.muli v1850 c2_i32_1185
  let v1876 : BitVec 32 := Scalar.subi v1852 v1875
  let c1_i32_1186 : BitVec 32 := 1#32
  let v1877 : BitVec 32 := Scalar.addi v1876 c1_i32_1186
  let c0_i32_1187 : BitVec 32 := 0#32
  let v1878 : BitVec 32 := Scalar.maxsi v1877 c0_i32_1187
  let v1880 : Index := Scalar.indexCast v1878
  let c0_1188 : Index := 0#32
  let c0_1189 : Index := 0#32
  let c0_1190 : Index := 0#32
  ![v1880.toNat, 0, 0, 0]
def k0_off50 (v1850 : BitVec 32) (v1852 : BitVec 32) : Fin 4 → Nat :=
  let c2_i32_1185 : BitVec 32 := 2#32
  let v1875 : BitVec 32 := Scalar.muli v1850 c2_i32_1185
  let v1876 : BitVec 32 := Scalar.subi v1852 v1875
  let c1_i32_1186 : BitVec 32 := 1#32
  let v1877 : BitVec 32 := Scalar.addi v1876 c1_i32_1186
  let c0_i32_1187 : BitVec 32 := 0#32
  let v1878 : BitVec 32 := Scalar.maxsi v1877 c0_i32_1187
  let v1902 : Index := Scalar.indexCast v1878
  let c1_1201 : Index := 1#32
  let c0_1202 : Index := 0#32
  let c0_1203 : Index := 0#32
  ![v1902.toNat, 1, 0, 0]

def k0_chk20 (v1848 : BitVec 32) (v1850 : BitVec 32) (v1852 : BitVec 32) : Prop :=
  (256 ∣ (k0_mult20 v1852).toNat) ∧
  (∀ a, (k0_off48 v1848 v1852) a + S1x1x256x128.size a ≤ S4x1x4096x128.size a) ∧
  (∀ a, (k0_off49 v1850 v1852) a + S1x1x512x128.size a ≤ S3x2x512x128.size a) ∧
  (∀ a, (k0_off50 v1850 v1852) a + S1x1x512x128.size a ≤ S3x2x512x128.size a)
theorem k0_mult20_dvd : ∀ (v1848 : BitVec 32) (v1850 : BitVec 32) (v1852 : BitVec 32) (k0_hw20 : k0_chk20 v1848 v1850 v1852), 256 ∣ (k0_mult20 v1852).toNat := fun v1848 v1850 v1852 k0_hw20 => k0_hw20.1
theorem k0_off48_inb : ∀ (v1848 : BitVec 32) (v1850 : BitVec 32) (v1852 : BitVec 32) (k0_hw20 : k0_chk20 v1848 v1850 v1852), ∀ a, (k0_off48 v1848 v1852) a + S1x1x256x128.size a ≤ S4x1x4096x128.size a := fun v1848 v1850 v1852 k0_hw20 => k0_hw20.2.1
theorem k0_off49_inb : ∀ (v1848 : BitVec 32) (v1850 : BitVec 32) (v1852 : BitVec 32) (k0_hw20 : k0_chk20 v1848 v1850 v1852), ∀ a, (k0_off49 v1850 v1852) a + S1x1x512x128.size a ≤ S3x2x512x128.size a := fun v1848 v1850 v1852 k0_hw20 => k0_hw20.2.2.1
theorem k0_off50_inb : ∀ (v1848 : BitVec 32) (v1850 : BitVec 32) (v1852 : BitVec 32) (k0_hw20 : k0_chk20 v1848 v1850 v1852), ∀ a, (k0_off50 v1850 v1852) a + S1x1x512x128.size a ≤ S3x2x512x128.size a := fun v1848 v1850 v1852 k0_hw20 => k0_hw20.2.2.2

def k0_off51 (k0_t1 : Fin k0_t1_loop.trips) : Fin 1 → Nat :=
  let c287_i32_1243 : BitVec 32 := 287#32
  let c0_i32_1242 : BitVec 32 := 0#32
  let c16_i32_1240 : BitVec 32 := 16#32
  let c0_i32_52 : BitVec 32 := 0#32
  let c1_i32_53 : BitVec 32 := 1#32
  let arg14 : BitVec 32 := Scf.iv c0_i32_52 c1_i32_53 k0_t1
  let v1967 : BitVec 32 := Scalar.muli c16_i32_1240 arg14
  let c5_i32 : BitVec 32 := 5#32
  let v1968 : BitVec 32 := Scalar.addi v1967 c5_i32
  let c2_i32_1241 : BitVec 32 := 2#32
  let v1969 : BitVec 32 := Scalar.subi v1968 c2_i32_1241
  let v1970 : BitVec 32 := Scalar.maxsi c0_i32_1242 v1969
  let v1971 : BitVec 32 := Scalar.minsi c287_i32_1243 v1970
  let v1972 : Index := Scalar.indexCast v1971
  ![v1972.toNat]
def k0_mult21 (v1975 : BitVec 32) : BitVec 32 :=
  let c512_i32_1244 : BitVec 32 := 512#32
  let v1978 : BitVec 32 := Scalar.muli v1975 c512_i32_1244
  v1978

def k0_off52 (v1973 : BitVec 32) (v1975 : BitVec 32) : Fin 4 → Nat :=
  let v1984 : Index := Scalar.indexCast v1973
  let c0_1248 : Index := 0#32
  let c512_i32_1244 : BitVec 32 := 512#32
  let v1978 : BitVec 32 := Scalar.muli v1975 c512_i32_1244
  let v1979 : BitVec 32 := v1978
  let v1985 : Index := Scalar.indexCast v1979
  let c0_1249 : Index := 0#32
  ![v1984.toNat, 0, v1985.toNat, 0]
def k0_mult22 (v1977 : BitVec 32) : BitVec 32 :=
  let c256_i32_1263 : BitVec 32 := 256#32
  let v1999 : BitVec 32 := Scalar.muli v1977 c256_i32_1263
  v1999

def k0_off53 (v1973 : BitVec 32) (v1977 : BitVec 32) : Fin 4 → Nat :=
  let v2001 : Index := Scalar.indexCast v1973
  let c0_1264 : Index := 0#32
  let c256_i32_1263 : BitVec 32 := 256#32
  let v1999 : BitVec 32 := Scalar.muli v1977 c256_i32_1263
  let v2000 : BitVec 32 := v1999
  let v2002 : Index := Scalar.indexCast v2000
  let c0_1265 : Index := 0#32
  ![v2001.toNat, 0, v2002.toNat, 0]

def k0_chk22 (v1973 : BitVec 32) (v1977 : BitVec 32) : Prop :=
  (256 ∣ (k0_mult22 v1977).toNat) ∧
  (∀ a, (k0_off53 v1973 v1977) a + S1x1x256x128.size a ≤ S4x1x4096x128.size a)
theorem k0_mult22_dvd : ∀ (v1973 : BitVec 32) (v1977 : BitVec 32) (k0_hw22 : k0_chk22 v1973 v1977), 256 ∣ (k0_mult22 v1977).toNat := fun v1973 v1977 k0_hw22 => k0_hw22.1
theorem k0_off53_inb : ∀ (v1973 : BitVec 32) (v1977 : BitVec 32) (k0_hw22 : k0_chk22 v1973 v1977), ∀ a, (k0_off53 v1973 v1977) a + S1x1x256x128.size a ≤ S4x1x4096x128.size a := fun v1973 v1977 k0_hw22 => k0_hw22.2

def k0_off54 (v1973 : BitVec 32) (v1975 : BitVec 32) : Fin 4 → Nat :=
  let v2016 : Index := Scalar.indexCast v1973
  let c0_1271 : Index := 0#32
  let c512_i32_1244 : BitVec 32 := 512#32
  let v1978 : BitVec 32 := Scalar.muli v1975 c512_i32_1244
  let v1979 : BitVec 32 := v1978
  let v2017 : Index := Scalar.indexCast v1979
  let c0_1272 : Index := 0#32
  ![v2016.toNat, 0, v2017.toNat, 0]

def k0_chk21 (v1973 : BitVec 32) (v1975 : BitVec 32) : Prop :=
  (512 ∣ (k0_mult21 v1975).toNat) ∧
  (∀ a, (k0_off52 v1973 v1975) a + S1x1x512x128.size a ≤ S4x1x4096x128.size a) ∧
  (∀ a, (k0_off54 v1973 v1975) a + S1x1x512x128.size a ≤ S4x1x4096x128.size a)
theorem k0_mult21_dvd : ∀ (v1973 : BitVec 32) (v1975 : BitVec 32) (k0_hw21 : k0_chk21 v1973 v1975), 512 ∣ (k0_mult21 v1975).toNat := fun v1973 v1975 k0_hw21 => k0_hw21.1
theorem k0_off52_inb : ∀ (v1973 : BitVec 32) (v1975 : BitVec 32) (k0_hw21 : k0_chk21 v1973 v1975), ∀ a, (k0_off52 v1973 v1975) a + S1x1x512x128.size a ≤ S4x1x4096x128.size a := fun v1973 v1975 k0_hw21 => k0_hw21.2.1
theorem k0_off54_inb : ∀ (v1973 : BitVec 32) (v1975 : BitVec 32) (k0_hw21 : k0_chk21 v1973 v1975), ∀ a, (k0_off54 v1973 v1975) a + S1x1x512x128.size a ≤ S4x1x4096x128.size a := fun v1973 v1975 k0_hw21 => k0_hw21.2.2

def k0_off55 (k0_t1 : Fin k0_t1_loop.trips) : Fin 1 → Nat :=
  let c287_i32_1275 : BitVec 32 := 287#32
  let c0_i32_1274 : BitVec 32 := 0#32
  let c16_i32_1240 : BitVec 32 := 16#32
  let c0_i32_52 : BitVec 32 := 0#32
  let c1_i32_53 : BitVec 32 := 1#32
  let arg14 : BitVec 32 := Scf.iv c0_i32_52 c1_i32_53 k0_t1
  let v1967 : BitVec 32 := Scalar.muli c16_i32_1240 arg14
  let c5_i32 : BitVec 32 := 5#32
  let v1968 : BitVec 32 := Scalar.addi v1967 c5_i32
  let c1_i32_1273 : BitVec 32 := 1#32
  let v2021 : BitVec 32 := Scalar.subi v1968 c1_i32_1273
  let v2022 : BitVec 32 := Scalar.maxsi c0_i32_1274 v2021
  let v2023 : BitVec 32 := Scalar.minsi c287_i32_1275 v2022
  let v2024 : Index := Scalar.indexCast v2023
  ![v2024.toNat]
def k0_off56 (k0_t1 : Fin k0_t1_loop.trips) : Fin 1 → Nat :=
  let c287_i32_1343 : BitVec 32 := 287#32
  let c0_i32_1342 : BitVec 32 := 0#32
  let c16_i32_1240 : BitVec 32 := 16#32
  let c0_i32_52 : BitVec 32 := 0#32
  let c1_i32_53 : BitVec 32 := 1#32
  let arg14 : BitVec 32 := Scf.iv c0_i32_52 c1_i32_53 k0_t1
  let v1967 : BitVec 32 := Scalar.muli c16_i32_1240 arg14
  let c5_i32 : BitVec 32 := 5#32
  let v1968 : BitVec 32 := Scalar.addi v1967 c5_i32
  let v2114 : BitVec 32 := Scalar.maxsi c0_i32_1342 v1968
  let v2115 : BitVec 32 := Scalar.minsi c287_i32_1343 v2114
  let v2116 : Index := Scalar.indexCast v2115
  ![v2116.toNat]
def k0_mult23 (v2119 : BitVec 32) : BitVec 32 :=
  let c512_i32_1344 : BitVec 32 := 512#32
  let v2122 : BitVec 32 := Scalar.muli v2119 c512_i32_1344
  v2122

def k0_off57 (v2117 : BitVec 32) (v2119 : BitVec 32) : Fin 4 → Nat :=
  let v2124 : Index := Scalar.indexCast v2117
  let c0_1345 : Index := 0#32
  let c512_i32_1344 : BitVec 32 := 512#32
  let v2122 : BitVec 32 := Scalar.muli v2119 c512_i32_1344
  let v2123 : BitVec 32 := v2122
  let v2125 : Index := Scalar.indexCast v2123
  let c0_1346 : Index := 0#32
  ![v2124.toNat, 0, v2125.toNat, 0]

def k0_chk23 (v2117 : BitVec 32) (v2119 : BitVec 32) : Prop :=
  (512 ∣ (k0_mult23 v2119).toNat) ∧
  (∀ a, (k0_off57 v2117 v2119) a + S1x1x512x128.size a ≤ S4x1x4096x128.size a)
theorem k0_mult23_dvd : ∀ (v2117 : BitVec 32) (v2119 : BitVec 32) (k0_hw23 : k0_chk23 v2117 v2119), 512 ∣ (k0_mult23 v2119).toNat := fun v2117 v2119 k0_hw23 => k0_hw23.1
theorem k0_off57_inb : ∀ (v2117 : BitVec 32) (v2119 : BitVec 32) (k0_hw23 : k0_chk23 v2117 v2119), ∀ a, (k0_off57 v2117 v2119) a + S1x1x512x128.size a ≤ S4x1x4096x128.size a := fun v2117 v2119 k0_hw23 => k0_hw23.2

def k0_mult24 (v2121 : BitVec 32) : BitVec 32 :=
  let c256_i32_1347 : BitVec 32 := 256#32
  let v2128 : BitVec 32 := Scalar.muli v2121 c256_i32_1347
  v2128

def k0_off58 (v2117 : BitVec 32) (v2121 : BitVec 32) : Fin 4 → Nat :=
  let v2130 : Index := Scalar.indexCast v2117
  let c0_1348 : Index := 0#32
  let c256_i32_1347 : BitVec 32 := 256#32
  let v2128 : BitVec 32 := Scalar.muli v2121 c256_i32_1347
  let v2129 : BitVec 32 := v2128
  let v2131 : Index := Scalar.indexCast v2129
  let c0_1349 : Index := 0#32
  ![v2130.toNat, 0, v2131.toNat, 0]
def k0_off59 (v2119 : BitVec 32) (v2121 : BitVec 32) : Fin 4 → Nat :=
  let c2_i32_1355 : BitVec 32 := 2#32
  let v2144 : BitVec 32 := Scalar.muli v2119 c2_i32_1355
  let v2145 : BitVec 32 := Scalar.subi v2121 v2144
  let c1_i32_1356 : BitVec 32 := 1#32
  let v2146 : BitVec 32 := Scalar.addi v2145 c1_i32_1356
  let c0_i32_1357 : BitVec 32 := 0#32
  let v2147 : BitVec 32 := Scalar.maxsi v2146 c0_i32_1357
  let v2149 : Index := Scalar.indexCast v2147
  let c0_1358 : Index := 0#32
  let c0_1359 : Index := 0#32
  let c0_1360 : Index := 0#32
  ![v2149.toNat, 0, 0, 0]
def k0_off60 (v2119 : BitVec 32) (v2121 : BitVec 32) : Fin 4 → Nat :=
  let c2_i32_1355 : BitVec 32 := 2#32
  let v2144 : BitVec 32 := Scalar.muli v2119 c2_i32_1355
  let v2145 : BitVec 32 := Scalar.subi v2121 v2144
  let c1_i32_1356 : BitVec 32 := 1#32
  let v2146 : BitVec 32 := Scalar.addi v2145 c1_i32_1356
  let c0_i32_1357 : BitVec 32 := 0#32
  let v2147 : BitVec 32 := Scalar.maxsi v2146 c0_i32_1357
  let v2171 : Index := Scalar.indexCast v2147
  let c1_1371 : Index := 1#32
  let c0_1372 : Index := 0#32
  let c0_1373 : Index := 0#32
  ![v2171.toNat, 1, 0, 0]

def k0_chk24 (v2117 : BitVec 32) (v2119 : BitVec 32) (v2121 : BitVec 32) : Prop :=
  (256 ∣ (k0_mult24 v2121).toNat) ∧
  (∀ a, (k0_off58 v2117 v2121) a + S1x1x256x128.size a ≤ S4x1x4096x128.size a) ∧
  (∀ a, (k0_off59 v2119 v2121) a + S1x1x512x128.size a ≤ S3x2x512x128.size a) ∧
  (∀ a, (k0_off60 v2119 v2121) a + S1x1x512x128.size a ≤ S3x2x512x128.size a)
theorem k0_mult24_dvd : ∀ (v2117 : BitVec 32) (v2119 : BitVec 32) (v2121 : BitVec 32) (k0_hw24 : k0_chk24 v2117 v2119 v2121), 256 ∣ (k0_mult24 v2121).toNat := fun v2117 v2119 v2121 k0_hw24 => k0_hw24.1
theorem k0_off58_inb : ∀ (v2117 : BitVec 32) (v2119 : BitVec 32) (v2121 : BitVec 32) (k0_hw24 : k0_chk24 v2117 v2119 v2121), ∀ a, (k0_off58 v2117 v2121) a + S1x1x256x128.size a ≤ S4x1x4096x128.size a := fun v2117 v2119 v2121 k0_hw24 => k0_hw24.2.1
theorem k0_off59_inb : ∀ (v2117 : BitVec 32) (v2119 : BitVec 32) (v2121 : BitVec 32) (k0_hw24 : k0_chk24 v2117 v2119 v2121), ∀ a, (k0_off59 v2119 v2121) a + S1x1x512x128.size a ≤ S3x2x512x128.size a := fun v2117 v2119 v2121 k0_hw24 => k0_hw24.2.2.1
theorem k0_off60_inb : ∀ (v2117 : BitVec 32) (v2119 : BitVec 32) (v2121 : BitVec 32) (k0_hw24 : k0_chk24 v2117 v2119 v2121), ∀ a, (k0_off60 v2119 v2121) a + S1x1x512x128.size a ≤ S3x2x512x128.size a := fun v2117 v2119 v2121 k0_hw24 => k0_hw24.2.2.2

def k0_off61 (k0_t1 : Fin k0_t1_loop.trips) : Fin 1 → Nat :=
  let c287_i32_1413 : BitVec 32 := 287#32
  let c0_i32_1412 : BitVec 32 := 0#32
  let c16_i32_1410 : BitVec 32 := 16#32
  let c0_i32_52 : BitVec 32 := 0#32
  let c1_i32_53 : BitVec 32 := 1#32
  let arg14 : BitVec 32 := Scf.iv c0_i32_52 c1_i32_53 k0_t1
  let v2236 : BitVec 32 := Scalar.muli c16_i32_1410 arg14
  let c6_i32 : BitVec 32 := 6#32
  let v2237 : BitVec 32 := Scalar.addi v2236 c6_i32
  let c2_i32_1411 : BitVec 32 := 2#32
  let v2238 : BitVec 32 := Scalar.subi v2237 c2_i32_1411
  let v2239 : BitVec 32 := Scalar.maxsi c0_i32_1412 v2238
  let v2240 : BitVec 32 := Scalar.minsi c287_i32_1413 v2239
  let v2241 : Index := Scalar.indexCast v2240
  ![v2241.toNat]
def k0_mult25 (v2244 : BitVec 32) : BitVec 32 :=
  let c512_i32_1414 : BitVec 32 := 512#32
  let v2247 : BitVec 32 := Scalar.muli v2244 c512_i32_1414
  v2247

def k0_off62 (v2242 : BitVec 32) (v2244 : BitVec 32) : Fin 4 → Nat :=
  let v2253 : Index := Scalar.indexCast v2242
  let c0_1418 : Index := 0#32
  let c512_i32_1414 : BitVec 32 := 512#32
  let v2247 : BitVec 32 := Scalar.muli v2244 c512_i32_1414
  let v2248 : BitVec 32 := v2247
  let v2254 : Index := Scalar.indexCast v2248
  let c0_1419 : Index := 0#32
  ![v2253.toNat, 0, v2254.toNat, 0]
def k0_mult26 (v2246 : BitVec 32) : BitVec 32 :=
  let c256_i32_1433 : BitVec 32 := 256#32
  let v2268 : BitVec 32 := Scalar.muli v2246 c256_i32_1433
  v2268

def k0_off63 (v2242 : BitVec 32) (v2246 : BitVec 32) : Fin 4 → Nat :=
  let v2270 : Index := Scalar.indexCast v2242
  let c0_1434 : Index := 0#32
  let c256_i32_1433 : BitVec 32 := 256#32
  let v2268 : BitVec 32 := Scalar.muli v2246 c256_i32_1433
  let v2269 : BitVec 32 := v2268
  let v2271 : Index := Scalar.indexCast v2269
  let c0_1435 : Index := 0#32
  ![v2270.toNat, 0, v2271.toNat, 0]

def k0_chk26 (v2242 : BitVec 32) (v2246 : BitVec 32) : Prop :=
  (256 ∣ (k0_mult26 v2246).toNat) ∧
  (∀ a, (k0_off63 v2242 v2246) a + S1x1x256x128.size a ≤ S4x1x4096x128.size a)
theorem k0_mult26_dvd : ∀ (v2242 : BitVec 32) (v2246 : BitVec 32) (k0_hw26 : k0_chk26 v2242 v2246), 256 ∣ (k0_mult26 v2246).toNat := fun v2242 v2246 k0_hw26 => k0_hw26.1
theorem k0_off63_inb : ∀ (v2242 : BitVec 32) (v2246 : BitVec 32) (k0_hw26 : k0_chk26 v2242 v2246), ∀ a, (k0_off63 v2242 v2246) a + S1x1x256x128.size a ≤ S4x1x4096x128.size a := fun v2242 v2246 k0_hw26 => k0_hw26.2

def k0_off64 (v2242 : BitVec 32) (v2244 : BitVec 32) : Fin 4 → Nat :=
  let v2285 : Index := Scalar.indexCast v2242
  let c0_1441 : Index := 0#32
  let c512_i32_1414 : BitVec 32 := 512#32
  let v2247 : BitVec 32 := Scalar.muli v2244 c512_i32_1414
  let v2248 : BitVec 32 := v2247
  let v2286 : Index := Scalar.indexCast v2248
  let c0_1442 : Index := 0#32
  ![v2285.toNat, 0, v2286.toNat, 0]

def k0_chk25 (v2242 : BitVec 32) (v2244 : BitVec 32) : Prop :=
  (512 ∣ (k0_mult25 v2244).toNat) ∧
  (∀ a, (k0_off62 v2242 v2244) a + S1x1x512x128.size a ≤ S4x1x4096x128.size a) ∧
  (∀ a, (k0_off64 v2242 v2244) a + S1x1x512x128.size a ≤ S4x1x4096x128.size a)
theorem k0_mult25_dvd : ∀ (v2242 : BitVec 32) (v2244 : BitVec 32) (k0_hw25 : k0_chk25 v2242 v2244), 512 ∣ (k0_mult25 v2244).toNat := fun v2242 v2244 k0_hw25 => k0_hw25.1
theorem k0_off62_inb : ∀ (v2242 : BitVec 32) (v2244 : BitVec 32) (k0_hw25 : k0_chk25 v2242 v2244), ∀ a, (k0_off62 v2242 v2244) a + S1x1x512x128.size a ≤ S4x1x4096x128.size a := fun v2242 v2244 k0_hw25 => k0_hw25.2.1
theorem k0_off64_inb : ∀ (v2242 : BitVec 32) (v2244 : BitVec 32) (k0_hw25 : k0_chk25 v2242 v2244), ∀ a, (k0_off64 v2242 v2244) a + S1x1x512x128.size a ≤ S4x1x4096x128.size a := fun v2242 v2244 k0_hw25 => k0_hw25.2.2

def k0_off65 (k0_t1 : Fin k0_t1_loop.trips) : Fin 1 → Nat :=
  let c287_i32_1445 : BitVec 32 := 287#32
  let c0_i32_1444 : BitVec 32 := 0#32
  let c16_i32_1410 : BitVec 32 := 16#32
  let c0_i32_52 : BitVec 32 := 0#32
  let c1_i32_53 : BitVec 32 := 1#32
  let arg14 : BitVec 32 := Scf.iv c0_i32_52 c1_i32_53 k0_t1
  let v2236 : BitVec 32 := Scalar.muli c16_i32_1410 arg14
  let c6_i32 : BitVec 32 := 6#32
  let v2237 : BitVec 32 := Scalar.addi v2236 c6_i32
  let c1_i32_1443 : BitVec 32 := 1#32
  let v2290 : BitVec 32 := Scalar.subi v2237 c1_i32_1443
  let v2291 : BitVec 32 := Scalar.maxsi c0_i32_1444 v2290
  let v2292 : BitVec 32 := Scalar.minsi c287_i32_1445 v2291
  let v2293 : Index := Scalar.indexCast v2292
  ![v2293.toNat]
def k0_off66 (k0_t1 : Fin k0_t1_loop.trips) : Fin 1 → Nat :=
  let c287_i32_1513 : BitVec 32 := 287#32
  let c0_i32_1512 : BitVec 32 := 0#32
  let c16_i32_1410 : BitVec 32 := 16#32
  let c0_i32_52 : BitVec 32 := 0#32
  let c1_i32_53 : BitVec 32 := 1#32
  let arg14 : BitVec 32 := Scf.iv c0_i32_52 c1_i32_53 k0_t1
  let v2236 : BitVec 32 := Scalar.muli c16_i32_1410 arg14
  let c6_i32 : BitVec 32 := 6#32
  let v2237 : BitVec 32 := Scalar.addi v2236 c6_i32
  let v2383 : BitVec 32 := Scalar.maxsi c0_i32_1512 v2237
  let v2384 : BitVec 32 := Scalar.minsi c287_i32_1513 v2383
  let v2385 : Index := Scalar.indexCast v2384
  ![v2385.toNat]
def k0_mult27 (v2388 : BitVec 32) : BitVec 32 :=
  let c512_i32_1514 : BitVec 32 := 512#32
  let v2391 : BitVec 32 := Scalar.muli v2388 c512_i32_1514
  v2391

def k0_off67 (v2386 : BitVec 32) (v2388 : BitVec 32) : Fin 4 → Nat :=
  let v2393 : Index := Scalar.indexCast v2386
  let c0_1515 : Index := 0#32
  let c512_i32_1514 : BitVec 32 := 512#32
  let v2391 : BitVec 32 := Scalar.muli v2388 c512_i32_1514
  let v2392 : BitVec 32 := v2391
  let v2394 : Index := Scalar.indexCast v2392
  let c0_1516 : Index := 0#32
  ![v2393.toNat, 0, v2394.toNat, 0]

def k0_chk27 (v2386 : BitVec 32) (v2388 : BitVec 32) : Prop :=
  (512 ∣ (k0_mult27 v2388).toNat) ∧
  (∀ a, (k0_off67 v2386 v2388) a + S1x1x512x128.size a ≤ S4x1x4096x128.size a)
theorem k0_mult27_dvd : ∀ (v2386 : BitVec 32) (v2388 : BitVec 32) (k0_hw27 : k0_chk27 v2386 v2388), 512 ∣ (k0_mult27 v2388).toNat := fun v2386 v2388 k0_hw27 => k0_hw27.1
theorem k0_off67_inb : ∀ (v2386 : BitVec 32) (v2388 : BitVec 32) (k0_hw27 : k0_chk27 v2386 v2388), ∀ a, (k0_off67 v2386 v2388) a + S1x1x512x128.size a ≤ S4x1x4096x128.size a := fun v2386 v2388 k0_hw27 => k0_hw27.2

def k0_mult28 (v2390 : BitVec 32) : BitVec 32 :=
  let c256_i32_1517 : BitVec 32 := 256#32
  let v2397 : BitVec 32 := Scalar.muli v2390 c256_i32_1517
  v2397

def k0_off68 (v2386 : BitVec 32) (v2390 : BitVec 32) : Fin 4 → Nat :=
  let v2399 : Index := Scalar.indexCast v2386
  let c0_1518 : Index := 0#32
  let c256_i32_1517 : BitVec 32 := 256#32
  let v2397 : BitVec 32 := Scalar.muli v2390 c256_i32_1517
  let v2398 : BitVec 32 := v2397
  let v2400 : Index := Scalar.indexCast v2398
  let c0_1519 : Index := 0#32
  ![v2399.toNat, 0, v2400.toNat, 0]
def k0_off69 (v2388 : BitVec 32) (v2390 : BitVec 32) : Fin 4 → Nat :=
  let c2_i32_1525 : BitVec 32 := 2#32
  let v2413 : BitVec 32 := Scalar.muli v2388 c2_i32_1525
  let v2414 : BitVec 32 := Scalar.subi v2390 v2413
  let c1_i32_1526 : BitVec 32 := 1#32
  let v2415 : BitVec 32 := Scalar.addi v2414 c1_i32_1526
  let c0_i32_1527 : BitVec 32 := 0#32
  let v2416 : BitVec 32 := Scalar.maxsi v2415 c0_i32_1527
  let v2418 : Index := Scalar.indexCast v2416
  let c0_1528 : Index := 0#32
  let c0_1529 : Index := 0#32
  let c0_1530 : Index := 0#32
  ![v2418.toNat, 0, 0, 0]
def k0_off70 (v2388 : BitVec 32) (v2390 : BitVec 32) : Fin 4 → Nat :=
  let c2_i32_1525 : BitVec 32 := 2#32
  let v2413 : BitVec 32 := Scalar.muli v2388 c2_i32_1525
  let v2414 : BitVec 32 := Scalar.subi v2390 v2413
  let c1_i32_1526 : BitVec 32 := 1#32
  let v2415 : BitVec 32 := Scalar.addi v2414 c1_i32_1526
  let c0_i32_1527 : BitVec 32 := 0#32
  let v2416 : BitVec 32 := Scalar.maxsi v2415 c0_i32_1527
  let v2440 : Index := Scalar.indexCast v2416
  let c1_1541 : Index := 1#32
  let c0_1542 : Index := 0#32
  let c0_1543 : Index := 0#32
  ![v2440.toNat, 1, 0, 0]

def k0_chk28 (v2386 : BitVec 32) (v2388 : BitVec 32) (v2390 : BitVec 32) : Prop :=
  (256 ∣ (k0_mult28 v2390).toNat) ∧
  (∀ a, (k0_off68 v2386 v2390) a + S1x1x256x128.size a ≤ S4x1x4096x128.size a) ∧
  (∀ a, (k0_off69 v2388 v2390) a + S1x1x512x128.size a ≤ S3x2x512x128.size a) ∧
  (∀ a, (k0_off70 v2388 v2390) a + S1x1x512x128.size a ≤ S3x2x512x128.size a)
theorem k0_mult28_dvd : ∀ (v2386 : BitVec 32) (v2388 : BitVec 32) (v2390 : BitVec 32) (k0_hw28 : k0_chk28 v2386 v2388 v2390), 256 ∣ (k0_mult28 v2390).toNat := fun v2386 v2388 v2390 k0_hw28 => k0_hw28.1
theorem k0_off68_inb : ∀ (v2386 : BitVec 32) (v2388 : BitVec 32) (v2390 : BitVec 32) (k0_hw28 : k0_chk28 v2386 v2388 v2390), ∀ a, (k0_off68 v2386 v2390) a + S1x1x256x128.size a ≤ S4x1x4096x128.size a := fun v2386 v2388 v2390 k0_hw28 => k0_hw28.2.1
theorem k0_off69_inb : ∀ (v2386 : BitVec 32) (v2388 : BitVec 32) (v2390 : BitVec 32) (k0_hw28 : k0_chk28 v2386 v2388 v2390), ∀ a, (k0_off69 v2388 v2390) a + S1x1x512x128.size a ≤ S3x2x512x128.size a := fun v2386 v2388 v2390 k0_hw28 => k0_hw28.2.2.1
theorem k0_off70_inb : ∀ (v2386 : BitVec 32) (v2388 : BitVec 32) (v2390 : BitVec 32) (k0_hw28 : k0_chk28 v2386 v2388 v2390), ∀ a, (k0_off70 v2388 v2390) a + S1x1x512x128.size a ≤ S3x2x512x128.size a := fun v2386 v2388 v2390 k0_hw28 => k0_hw28.2.2.2

def k0_off71 (k0_t1 : Fin k0_t1_loop.trips) : Fin 1 → Nat :=
  let c287_i32_1583 : BitVec 32 := 287#32
  let c0_i32_1582 : BitVec 32 := 0#32
  let c16_i32_1580 : BitVec 32 := 16#32
  let c0_i32_52 : BitVec 32 := 0#32
  let c1_i32_53 : BitVec 32 := 1#32
  let arg14 : BitVec 32 := Scf.iv c0_i32_52 c1_i32_53 k0_t1
  let v2505 : BitVec 32 := Scalar.muli c16_i32_1580 arg14
  let c7_i32 : BitVec 32 := 7#32
  let v2506 : BitVec 32 := Scalar.addi v2505 c7_i32
  let c2_i32_1581 : BitVec 32 := 2#32
  let v2507 : BitVec 32 := Scalar.subi v2506 c2_i32_1581
  let v2508 : BitVec 32 := Scalar.maxsi c0_i32_1582 v2507
  let v2509 : BitVec 32 := Scalar.minsi c287_i32_1583 v2508
  let v2510 : Index := Scalar.indexCast v2509
  ![v2510.toNat]
def k0_mult29 (v2513 : BitVec 32) : BitVec 32 :=
  let c512_i32_1584 : BitVec 32 := 512#32
  let v2516 : BitVec 32 := Scalar.muli v2513 c512_i32_1584
  v2516

def k0_off72 (v2511 : BitVec 32) (v2513 : BitVec 32) : Fin 4 → Nat :=
  let v2522 : Index := Scalar.indexCast v2511
  let c0_1588 : Index := 0#32
  let c512_i32_1584 : BitVec 32 := 512#32
  let v2516 : BitVec 32 := Scalar.muli v2513 c512_i32_1584
  let v2517 : BitVec 32 := v2516
  let v2523 : Index := Scalar.indexCast v2517
  let c0_1589 : Index := 0#32
  ![v2522.toNat, 0, v2523.toNat, 0]
def k0_mult30 (v2515 : BitVec 32) : BitVec 32 :=
  let c256_i32_1603 : BitVec 32 := 256#32
  let v2537 : BitVec 32 := Scalar.muli v2515 c256_i32_1603
  v2537

def k0_off73 (v2511 : BitVec 32) (v2515 : BitVec 32) : Fin 4 → Nat :=
  let v2539 : Index := Scalar.indexCast v2511
  let c0_1604 : Index := 0#32
  let c256_i32_1603 : BitVec 32 := 256#32
  let v2537 : BitVec 32 := Scalar.muli v2515 c256_i32_1603
  let v2538 : BitVec 32 := v2537
  let v2540 : Index := Scalar.indexCast v2538
  let c0_1605 : Index := 0#32
  ![v2539.toNat, 0, v2540.toNat, 0]

def k0_chk30 (v2511 : BitVec 32) (v2515 : BitVec 32) : Prop :=
  (256 ∣ (k0_mult30 v2515).toNat) ∧
  (∀ a, (k0_off73 v2511 v2515) a + S1x1x256x128.size a ≤ S4x1x4096x128.size a)
theorem k0_mult30_dvd : ∀ (v2511 : BitVec 32) (v2515 : BitVec 32) (k0_hw30 : k0_chk30 v2511 v2515), 256 ∣ (k0_mult30 v2515).toNat := fun v2511 v2515 k0_hw30 => k0_hw30.1
theorem k0_off73_inb : ∀ (v2511 : BitVec 32) (v2515 : BitVec 32) (k0_hw30 : k0_chk30 v2511 v2515), ∀ a, (k0_off73 v2511 v2515) a + S1x1x256x128.size a ≤ S4x1x4096x128.size a := fun v2511 v2515 k0_hw30 => k0_hw30.2

def k0_off74 (v2511 : BitVec 32) (v2513 : BitVec 32) : Fin 4 → Nat :=
  let v2554 : Index := Scalar.indexCast v2511
  let c0_1611 : Index := 0#32
  let c512_i32_1584 : BitVec 32 := 512#32
  let v2516 : BitVec 32 := Scalar.muli v2513 c512_i32_1584
  let v2517 : BitVec 32 := v2516
  let v2555 : Index := Scalar.indexCast v2517
  let c0_1612 : Index := 0#32
  ![v2554.toNat, 0, v2555.toNat, 0]

def k0_chk29 (v2511 : BitVec 32) (v2513 : BitVec 32) : Prop :=
  (512 ∣ (k0_mult29 v2513).toNat) ∧
  (∀ a, (k0_off72 v2511 v2513) a + S1x1x512x128.size a ≤ S4x1x4096x128.size a) ∧
  (∀ a, (k0_off74 v2511 v2513) a + S1x1x512x128.size a ≤ S4x1x4096x128.size a)
theorem k0_mult29_dvd : ∀ (v2511 : BitVec 32) (v2513 : BitVec 32) (k0_hw29 : k0_chk29 v2511 v2513), 512 ∣ (k0_mult29 v2513).toNat := fun v2511 v2513 k0_hw29 => k0_hw29.1
theorem k0_off72_inb : ∀ (v2511 : BitVec 32) (v2513 : BitVec 32) (k0_hw29 : k0_chk29 v2511 v2513), ∀ a, (k0_off72 v2511 v2513) a + S1x1x512x128.size a ≤ S4x1x4096x128.size a := fun v2511 v2513 k0_hw29 => k0_hw29.2.1
theorem k0_off74_inb : ∀ (v2511 : BitVec 32) (v2513 : BitVec 32) (k0_hw29 : k0_chk29 v2511 v2513), ∀ a, (k0_off74 v2511 v2513) a + S1x1x512x128.size a ≤ S4x1x4096x128.size a := fun v2511 v2513 k0_hw29 => k0_hw29.2.2

def k0_off75 (k0_t1 : Fin k0_t1_loop.trips) : Fin 1 → Nat :=
  let c287_i32_1615 : BitVec 32 := 287#32
  let c0_i32_1614 : BitVec 32 := 0#32
  let c16_i32_1580 : BitVec 32 := 16#32
  let c0_i32_52 : BitVec 32 := 0#32
  let c1_i32_53 : BitVec 32 := 1#32
  let arg14 : BitVec 32 := Scf.iv c0_i32_52 c1_i32_53 k0_t1
  let v2505 : BitVec 32 := Scalar.muli c16_i32_1580 arg14
  let c7_i32 : BitVec 32 := 7#32
  let v2506 : BitVec 32 := Scalar.addi v2505 c7_i32
  let c1_i32_1613 : BitVec 32 := 1#32
  let v2559 : BitVec 32 := Scalar.subi v2506 c1_i32_1613
  let v2560 : BitVec 32 := Scalar.maxsi c0_i32_1614 v2559
  let v2561 : BitVec 32 := Scalar.minsi c287_i32_1615 v2560
  let v2562 : Index := Scalar.indexCast v2561
  ![v2562.toNat]
def k0_off76 (k0_t1 : Fin k0_t1_loop.trips) : Fin 1 → Nat :=
  let c287_i32_1683 : BitVec 32 := 287#32
  let c0_i32_1682 : BitVec 32 := 0#32
  let c16_i32_1580 : BitVec 32 := 16#32
  let c0_i32_52 : BitVec 32 := 0#32
  let c1_i32_53 : BitVec 32 := 1#32
  let arg14 : BitVec 32 := Scf.iv c0_i32_52 c1_i32_53 k0_t1
  let v2505 : BitVec 32 := Scalar.muli c16_i32_1580 arg14
  let c7_i32 : BitVec 32 := 7#32
  let v2506 : BitVec 32 := Scalar.addi v2505 c7_i32
  let v2652 : BitVec 32 := Scalar.maxsi c0_i32_1682 v2506
  let v2653 : BitVec 32 := Scalar.minsi c287_i32_1683 v2652
  let v2654 : Index := Scalar.indexCast v2653
  ![v2654.toNat]
def k0_mult31 (v2657 : BitVec 32) : BitVec 32 :=
  let c512_i32_1684 : BitVec 32 := 512#32
  let v2660 : BitVec 32 := Scalar.muli v2657 c512_i32_1684
  v2660

def k0_off77 (v2655 : BitVec 32) (v2657 : BitVec 32) : Fin 4 → Nat :=
  let v2662 : Index := Scalar.indexCast v2655
  let c0_1685 : Index := 0#32
  let c512_i32_1684 : BitVec 32 := 512#32
  let v2660 : BitVec 32 := Scalar.muli v2657 c512_i32_1684
  let v2661 : BitVec 32 := v2660
  let v2663 : Index := Scalar.indexCast v2661
  let c0_1686 : Index := 0#32
  ![v2662.toNat, 0, v2663.toNat, 0]

def k0_chk31 (v2655 : BitVec 32) (v2657 : BitVec 32) : Prop :=
  (512 ∣ (k0_mult31 v2657).toNat) ∧
  (∀ a, (k0_off77 v2655 v2657) a + S1x1x512x128.size a ≤ S4x1x4096x128.size a)
theorem k0_mult31_dvd : ∀ (v2655 : BitVec 32) (v2657 : BitVec 32) (k0_hw31 : k0_chk31 v2655 v2657), 512 ∣ (k0_mult31 v2657).toNat := fun v2655 v2657 k0_hw31 => k0_hw31.1
theorem k0_off77_inb : ∀ (v2655 : BitVec 32) (v2657 : BitVec 32) (k0_hw31 : k0_chk31 v2655 v2657), ∀ a, (k0_off77 v2655 v2657) a + S1x1x512x128.size a ≤ S4x1x4096x128.size a := fun v2655 v2657 k0_hw31 => k0_hw31.2

def k0_mult32 (v2659 : BitVec 32) : BitVec 32 :=
  let c256_i32_1687 : BitVec 32 := 256#32
  let v2666 : BitVec 32 := Scalar.muli v2659 c256_i32_1687
  v2666

def k0_off78 (v2655 : BitVec 32) (v2659 : BitVec 32) : Fin 4 → Nat :=
  let v2668 : Index := Scalar.indexCast v2655
  let c0_1688 : Index := 0#32
  let c256_i32_1687 : BitVec 32 := 256#32
  let v2666 : BitVec 32 := Scalar.muli v2659 c256_i32_1687
  let v2667 : BitVec 32 := v2666
  let v2669 : Index := Scalar.indexCast v2667
  let c0_1689 : Index := 0#32
  ![v2668.toNat, 0, v2669.toNat, 0]
def k0_off79 (v2657 : BitVec 32) (v2659 : BitVec 32) : Fin 4 → Nat :=
  let c2_i32_1695 : BitVec 32 := 2#32
  let v2682 : BitVec 32 := Scalar.muli v2657 c2_i32_1695
  let v2683 : BitVec 32 := Scalar.subi v2659 v2682
  let c1_i32_1696 : BitVec 32 := 1#32
  let v2684 : BitVec 32 := Scalar.addi v2683 c1_i32_1696
  let c0_i32_1697 : BitVec 32 := 0#32
  let v2685 : BitVec 32 := Scalar.maxsi v2684 c0_i32_1697
  let v2687 : Index := Scalar.indexCast v2685
  let c0_1698 : Index := 0#32
  let c0_1699 : Index := 0#32
  let c0_1700 : Index := 0#32
  ![v2687.toNat, 0, 0, 0]
def k0_off80 (v2657 : BitVec 32) (v2659 : BitVec 32) : Fin 4 → Nat :=
  let c2_i32_1695 : BitVec 32 := 2#32
  let v2682 : BitVec 32 := Scalar.muli v2657 c2_i32_1695
  let v2683 : BitVec 32 := Scalar.subi v2659 v2682
  let c1_i32_1696 : BitVec 32 := 1#32
  let v2684 : BitVec 32 := Scalar.addi v2683 c1_i32_1696
  let c0_i32_1697 : BitVec 32 := 0#32
  let v2685 : BitVec 32 := Scalar.maxsi v2684 c0_i32_1697
  let v2709 : Index := Scalar.indexCast v2685
  let c1_1711 : Index := 1#32
  let c0_1712 : Index := 0#32
  let c0_1713 : Index := 0#32
  ![v2709.toNat, 1, 0, 0]

def k0_chk32 (v2655 : BitVec 32) (v2657 : BitVec 32) (v2659 : BitVec 32) : Prop :=
  (256 ∣ (k0_mult32 v2659).toNat) ∧
  (∀ a, (k0_off78 v2655 v2659) a + S1x1x256x128.size a ≤ S4x1x4096x128.size a) ∧
  (∀ a, (k0_off79 v2657 v2659) a + S1x1x512x128.size a ≤ S3x2x512x128.size a) ∧
  (∀ a, (k0_off80 v2657 v2659) a + S1x1x512x128.size a ≤ S3x2x512x128.size a)
theorem k0_mult32_dvd : ∀ (v2655 : BitVec 32) (v2657 : BitVec 32) (v2659 : BitVec 32) (k0_hw32 : k0_chk32 v2655 v2657 v2659), 256 ∣ (k0_mult32 v2659).toNat := fun v2655 v2657 v2659 k0_hw32 => k0_hw32.1
theorem k0_off78_inb : ∀ (v2655 : BitVec 32) (v2657 : BitVec 32) (v2659 : BitVec 32) (k0_hw32 : k0_chk32 v2655 v2657 v2659), ∀ a, (k0_off78 v2655 v2659) a + S1x1x256x128.size a ≤ S4x1x4096x128.size a := fun v2655 v2657 v2659 k0_hw32 => k0_hw32.2.1
theorem k0_off79_inb : ∀ (v2655 : BitVec 32) (v2657 : BitVec 32) (v2659 : BitVec 32) (k0_hw32 : k0_chk32 v2655 v2657 v2659), ∀ a, (k0_off79 v2657 v2659) a + S1x1x512x128.size a ≤ S3x2x512x128.size a := fun v2655 v2657 v2659 k0_hw32 => k0_hw32.2.2.1
theorem k0_off80_inb : ∀ (v2655 : BitVec 32) (v2657 : BitVec 32) (v2659 : BitVec 32) (k0_hw32 : k0_chk32 v2655 v2657 v2659), ∀ a, (k0_off80 v2657 v2659) a + S1x1x512x128.size a ≤ S3x2x512x128.size a := fun v2655 v2657 v2659 k0_hw32 => k0_hw32.2.2.2

def k0_off81 (k0_t1 : Fin k0_t1_loop.trips) : Fin 1 → Nat :=
  let c287_i32_1753 : BitVec 32 := 287#32
  let c0_i32_1752 : BitVec 32 := 0#32
  let c16_i32_1750 : BitVec 32 := 16#32
  let c0_i32_52 : BitVec 32 := 0#32
  let c1_i32_53 : BitVec 32 := 1#32
  let arg14 : BitVec 32 := Scf.iv c0_i32_52 c1_i32_53 k0_t1
  let v2774 : BitVec 32 := Scalar.muli c16_i32_1750 arg14
  let c8_i32 : BitVec 32 := 8#32
  let v2775 : BitVec 32 := Scalar.addi v2774 c8_i32
  let c2_i32_1751 : BitVec 32 := 2#32
  let v2776 : BitVec 32 := Scalar.subi v2775 c2_i32_1751
  let v2777 : BitVec 32 := Scalar.maxsi c0_i32_1752 v2776
  let v2778 : BitVec 32 := Scalar.minsi c287_i32_1753 v2777
  let v2779 : Index := Scalar.indexCast v2778
  ![v2779.toNat]
def k0_mult33 (v2782 : BitVec 32) : BitVec 32 :=
  let c512_i32_1754 : BitVec 32 := 512#32
  let v2785 : BitVec 32 := Scalar.muli v2782 c512_i32_1754
  v2785

def k0_off82 (v2780 : BitVec 32) (v2782 : BitVec 32) : Fin 4 → Nat :=
  let v2791 : Index := Scalar.indexCast v2780
  let c0_1758 : Index := 0#32
  let c512_i32_1754 : BitVec 32 := 512#32
  let v2785 : BitVec 32 := Scalar.muli v2782 c512_i32_1754
  let v2786 : BitVec 32 := v2785
  let v2792 : Index := Scalar.indexCast v2786
  let c0_1759 : Index := 0#32
  ![v2791.toNat, 0, v2792.toNat, 0]
def k0_mult34 (v2784 : BitVec 32) : BitVec 32 :=
  let c256_i32_1773 : BitVec 32 := 256#32
  let v2806 : BitVec 32 := Scalar.muli v2784 c256_i32_1773
  v2806

def k0_off83 (v2780 : BitVec 32) (v2784 : BitVec 32) : Fin 4 → Nat :=
  let v2808 : Index := Scalar.indexCast v2780
  let c0_1774 : Index := 0#32
  let c256_i32_1773 : BitVec 32 := 256#32
  let v2806 : BitVec 32 := Scalar.muli v2784 c256_i32_1773
  let v2807 : BitVec 32 := v2806
  let v2809 : Index := Scalar.indexCast v2807
  let c0_1775 : Index := 0#32
  ![v2808.toNat, 0, v2809.toNat, 0]

def k0_chk34 (v2780 : BitVec 32) (v2784 : BitVec 32) : Prop :=
  (256 ∣ (k0_mult34 v2784).toNat) ∧
  (∀ a, (k0_off83 v2780 v2784) a + S1x1x256x128.size a ≤ S4x1x4096x128.size a)
theorem k0_mult34_dvd : ∀ (v2780 : BitVec 32) (v2784 : BitVec 32) (k0_hw34 : k0_chk34 v2780 v2784), 256 ∣ (k0_mult34 v2784).toNat := fun v2780 v2784 k0_hw34 => k0_hw34.1
theorem k0_off83_inb : ∀ (v2780 : BitVec 32) (v2784 : BitVec 32) (k0_hw34 : k0_chk34 v2780 v2784), ∀ a, (k0_off83 v2780 v2784) a + S1x1x256x128.size a ≤ S4x1x4096x128.size a := fun v2780 v2784 k0_hw34 => k0_hw34.2

def k0_off84 (v2780 : BitVec 32) (v2782 : BitVec 32) : Fin 4 → Nat :=
  let v2823 : Index := Scalar.indexCast v2780
  let c0_1781 : Index := 0#32
  let c512_i32_1754 : BitVec 32 := 512#32
  let v2785 : BitVec 32 := Scalar.muli v2782 c512_i32_1754
  let v2786 : BitVec 32 := v2785
  let v2824 : Index := Scalar.indexCast v2786
  let c0_1782 : Index := 0#32
  ![v2823.toNat, 0, v2824.toNat, 0]

def k0_chk33 (v2780 : BitVec 32) (v2782 : BitVec 32) : Prop :=
  (512 ∣ (k0_mult33 v2782).toNat) ∧
  (∀ a, (k0_off82 v2780 v2782) a + S1x1x512x128.size a ≤ S4x1x4096x128.size a) ∧
  (∀ a, (k0_off84 v2780 v2782) a + S1x1x512x128.size a ≤ S4x1x4096x128.size a)
theorem k0_mult33_dvd : ∀ (v2780 : BitVec 32) (v2782 : BitVec 32) (k0_hw33 : k0_chk33 v2780 v2782), 512 ∣ (k0_mult33 v2782).toNat := fun v2780 v2782 k0_hw33 => k0_hw33.1
theorem k0_off82_inb : ∀ (v2780 : BitVec 32) (v2782 : BitVec 32) (k0_hw33 : k0_chk33 v2780 v2782), ∀ a, (k0_off82 v2780 v2782) a + S1x1x512x128.size a ≤ S4x1x4096x128.size a := fun v2780 v2782 k0_hw33 => k0_hw33.2.1
theorem k0_off84_inb : ∀ (v2780 : BitVec 32) (v2782 : BitVec 32) (k0_hw33 : k0_chk33 v2780 v2782), ∀ a, (k0_off84 v2780 v2782) a + S1x1x512x128.size a ≤ S4x1x4096x128.size a := fun v2780 v2782 k0_hw33 => k0_hw33.2.2

def k0_off85 (k0_t1 : Fin k0_t1_loop.trips) : Fin 1 → Nat :=
  let c287_i32_1785 : BitVec 32 := 287#32
  let c0_i32_1784 : BitVec 32 := 0#32
  let c16_i32_1750 : BitVec 32 := 16#32
  let c0_i32_52 : BitVec 32 := 0#32
  let c1_i32_53 : BitVec 32 := 1#32
  let arg14 : BitVec 32 := Scf.iv c0_i32_52 c1_i32_53 k0_t1
  let v2774 : BitVec 32 := Scalar.muli c16_i32_1750 arg14
  let c8_i32 : BitVec 32 := 8#32
  let v2775 : BitVec 32 := Scalar.addi v2774 c8_i32
  let c1_i32_1783 : BitVec 32 := 1#32
  let v2828 : BitVec 32 := Scalar.subi v2775 c1_i32_1783
  let v2829 : BitVec 32 := Scalar.maxsi c0_i32_1784 v2828
  let v2830 : BitVec 32 := Scalar.minsi c287_i32_1785 v2829
  let v2831 : Index := Scalar.indexCast v2830
  ![v2831.toNat]
def k0_off86 (k0_t1 : Fin k0_t1_loop.trips) : Fin 1 → Nat :=
  let c287_i32_1853 : BitVec 32 := 287#32
  let c0_i32_1852 : BitVec 32 := 0#32
  let c16_i32_1750 : BitVec 32 := 16#32
  let c0_i32_52 : BitVec 32 := 0#32
  let c1_i32_53 : BitVec 32 := 1#32
  let arg14 : BitVec 32 := Scf.iv c0_i32_52 c1_i32_53 k0_t1
  let v2774 : BitVec 32 := Scalar.muli c16_i32_1750 arg14
  let c8_i32 : BitVec 32 := 8#32
  let v2775 : BitVec 32 := Scalar.addi v2774 c8_i32
  let v2921 : BitVec 32 := Scalar.maxsi c0_i32_1852 v2775
  let v2922 : BitVec 32 := Scalar.minsi c287_i32_1853 v2921
  let v2923 : Index := Scalar.indexCast v2922
  ![v2923.toNat]
def k0_mult35 (v2926 : BitVec 32) : BitVec 32 :=
  let c512_i32_1854 : BitVec 32 := 512#32
  let v2929 : BitVec 32 := Scalar.muli v2926 c512_i32_1854
  v2929

def k0_off87 (v2924 : BitVec 32) (v2926 : BitVec 32) : Fin 4 → Nat :=
  let v2931 : Index := Scalar.indexCast v2924
  let c0_1855 : Index := 0#32
  let c512_i32_1854 : BitVec 32 := 512#32
  let v2929 : BitVec 32 := Scalar.muli v2926 c512_i32_1854
  let v2930 : BitVec 32 := v2929
  let v2932 : Index := Scalar.indexCast v2930
  let c0_1856 : Index := 0#32
  ![v2931.toNat, 0, v2932.toNat, 0]

def k0_chk35 (v2924 : BitVec 32) (v2926 : BitVec 32) : Prop :=
  (512 ∣ (k0_mult35 v2926).toNat) ∧
  (∀ a, (k0_off87 v2924 v2926) a + S1x1x512x128.size a ≤ S4x1x4096x128.size a)
theorem k0_mult35_dvd : ∀ (v2924 : BitVec 32) (v2926 : BitVec 32) (k0_hw35 : k0_chk35 v2924 v2926), 512 ∣ (k0_mult35 v2926).toNat := fun v2924 v2926 k0_hw35 => k0_hw35.1
theorem k0_off87_inb : ∀ (v2924 : BitVec 32) (v2926 : BitVec 32) (k0_hw35 : k0_chk35 v2924 v2926), ∀ a, (k0_off87 v2924 v2926) a + S1x1x512x128.size a ≤ S4x1x4096x128.size a := fun v2924 v2926 k0_hw35 => k0_hw35.2

def k0_mult36 (v2928 : BitVec 32) : BitVec 32 :=
  let c256_i32_1857 : BitVec 32 := 256#32
  let v2935 : BitVec 32 := Scalar.muli v2928 c256_i32_1857
  v2935

def k0_off88 (v2924 : BitVec 32) (v2928 : BitVec 32) : Fin 4 → Nat :=
  let v2937 : Index := Scalar.indexCast v2924
  let c0_1858 : Index := 0#32
  let c256_i32_1857 : BitVec 32 := 256#32
  let v2935 : BitVec 32 := Scalar.muli v2928 c256_i32_1857
  let v2936 : BitVec 32 := v2935
  let v2938 : Index := Scalar.indexCast v2936
  let c0_1859 : Index := 0#32
  ![v2937.toNat, 0, v2938.toNat, 0]
def k0_off89 (v2926 : BitVec 32) (v2928 : BitVec 32) : Fin 4 → Nat :=
  let c2_i32_1865 : BitVec 32 := 2#32
  let v2951 : BitVec 32 := Scalar.muli v2926 c2_i32_1865
  let v2952 : BitVec 32 := Scalar.subi v2928 v2951
  let c1_i32_1866 : BitVec 32 := 1#32
  let v2953 : BitVec 32 := Scalar.addi v2952 c1_i32_1866
  let c0_i32_1867 : BitVec 32 := 0#32
  let v2954 : BitVec 32 := Scalar.maxsi v2953 c0_i32_1867
  let v2956 : Index := Scalar.indexCast v2954
  let c0_1868 : Index := 0#32
  let c0_1869 : Index := 0#32
  let c0_1870 : Index := 0#32
  ![v2956.toNat, 0, 0, 0]
def k0_off90 (v2926 : BitVec 32) (v2928 : BitVec 32) : Fin 4 → Nat :=
  let c2_i32_1865 : BitVec 32 := 2#32
  let v2951 : BitVec 32 := Scalar.muli v2926 c2_i32_1865
  let v2952 : BitVec 32 := Scalar.subi v2928 v2951
  let c1_i32_1866 : BitVec 32 := 1#32
  let v2953 : BitVec 32 := Scalar.addi v2952 c1_i32_1866
  let c0_i32_1867 : BitVec 32 := 0#32
  let v2954 : BitVec 32 := Scalar.maxsi v2953 c0_i32_1867
  let v2978 : Index := Scalar.indexCast v2954
  let c1_1881 : Index := 1#32
  let c0_1882 : Index := 0#32
  let c0_1883 : Index := 0#32
  ![v2978.toNat, 1, 0, 0]

def k0_chk36 (v2924 : BitVec 32) (v2926 : BitVec 32) (v2928 : BitVec 32) : Prop :=
  (256 ∣ (k0_mult36 v2928).toNat) ∧
  (∀ a, (k0_off88 v2924 v2928) a + S1x1x256x128.size a ≤ S4x1x4096x128.size a) ∧
  (∀ a, (k0_off89 v2926 v2928) a + S1x1x512x128.size a ≤ S3x2x512x128.size a) ∧
  (∀ a, (k0_off90 v2926 v2928) a + S1x1x512x128.size a ≤ S3x2x512x128.size a)
theorem k0_mult36_dvd : ∀ (v2924 : BitVec 32) (v2926 : BitVec 32) (v2928 : BitVec 32) (k0_hw36 : k0_chk36 v2924 v2926 v2928), 256 ∣ (k0_mult36 v2928).toNat := fun v2924 v2926 v2928 k0_hw36 => k0_hw36.1
theorem k0_off88_inb : ∀ (v2924 : BitVec 32) (v2926 : BitVec 32) (v2928 : BitVec 32) (k0_hw36 : k0_chk36 v2924 v2926 v2928), ∀ a, (k0_off88 v2924 v2928) a + S1x1x256x128.size a ≤ S4x1x4096x128.size a := fun v2924 v2926 v2928 k0_hw36 => k0_hw36.2.1
theorem k0_off89_inb : ∀ (v2924 : BitVec 32) (v2926 : BitVec 32) (v2928 : BitVec 32) (k0_hw36 : k0_chk36 v2924 v2926 v2928), ∀ a, (k0_off89 v2926 v2928) a + S1x1x512x128.size a ≤ S3x2x512x128.size a := fun v2924 v2926 v2928 k0_hw36 => k0_hw36.2.2.1
theorem k0_off90_inb : ∀ (v2924 : BitVec 32) (v2926 : BitVec 32) (v2928 : BitVec 32) (k0_hw36 : k0_chk36 v2924 v2926 v2928), ∀ a, (k0_off90 v2926 v2928) a + S1x1x512x128.size a ≤ S3x2x512x128.size a := fun v2924 v2926 v2928 k0_hw36 => k0_hw36.2.2.2

def k0_off91 (k0_t1 : Fin k0_t1_loop.trips) : Fin 1 → Nat :=
  let c287_i32_1923 : BitVec 32 := 287#32
  let c0_i32_1922 : BitVec 32 := 0#32
  let c16_i32_1920 : BitVec 32 := 16#32
  let c0_i32_52 : BitVec 32 := 0#32
  let c1_i32_53 : BitVec 32 := 1#32
  let arg14 : BitVec 32 := Scf.iv c0_i32_52 c1_i32_53 k0_t1
  let v3043 : BitVec 32 := Scalar.muli c16_i32_1920 arg14
  let c9_i32 : BitVec 32 := 9#32
  let v3044 : BitVec 32 := Scalar.addi v3043 c9_i32
  let c2_i32_1921 : BitVec 32 := 2#32
  let v3045 : BitVec 32 := Scalar.subi v3044 c2_i32_1921
  let v3046 : BitVec 32 := Scalar.maxsi c0_i32_1922 v3045
  let v3047 : BitVec 32 := Scalar.minsi c287_i32_1923 v3046
  let v3048 : Index := Scalar.indexCast v3047
  ![v3048.toNat]
def k0_mult37 (v3051 : BitVec 32) : BitVec 32 :=
  let c512_i32_1924 : BitVec 32 := 512#32
  let v3054 : BitVec 32 := Scalar.muli v3051 c512_i32_1924
  v3054

def k0_off92 (v3049 : BitVec 32) (v3051 : BitVec 32) : Fin 4 → Nat :=
  let v3060 : Index := Scalar.indexCast v3049
  let c0_1928 : Index := 0#32
  let c512_i32_1924 : BitVec 32 := 512#32
  let v3054 : BitVec 32 := Scalar.muli v3051 c512_i32_1924
  let v3055 : BitVec 32 := v3054
  let v3061 : Index := Scalar.indexCast v3055
  let c0_1929 : Index := 0#32
  ![v3060.toNat, 0, v3061.toNat, 0]
def k0_mult38 (v3053 : BitVec 32) : BitVec 32 :=
  let c256_i32_1943 : BitVec 32 := 256#32
  let v3075 : BitVec 32 := Scalar.muli v3053 c256_i32_1943
  v3075

def k0_off93 (v3049 : BitVec 32) (v3053 : BitVec 32) : Fin 4 → Nat :=
  let v3077 : Index := Scalar.indexCast v3049
  let c0_1944 : Index := 0#32
  let c256_i32_1943 : BitVec 32 := 256#32
  let v3075 : BitVec 32 := Scalar.muli v3053 c256_i32_1943
  let v3076 : BitVec 32 := v3075
  let v3078 : Index := Scalar.indexCast v3076
  let c0_1945 : Index := 0#32
  ![v3077.toNat, 0, v3078.toNat, 0]

def k0_chk38 (v3049 : BitVec 32) (v3053 : BitVec 32) : Prop :=
  (256 ∣ (k0_mult38 v3053).toNat) ∧
  (∀ a, (k0_off93 v3049 v3053) a + S1x1x256x128.size a ≤ S4x1x4096x128.size a)
theorem k0_mult38_dvd : ∀ (v3049 : BitVec 32) (v3053 : BitVec 32) (k0_hw38 : k0_chk38 v3049 v3053), 256 ∣ (k0_mult38 v3053).toNat := fun v3049 v3053 k0_hw38 => k0_hw38.1
theorem k0_off93_inb : ∀ (v3049 : BitVec 32) (v3053 : BitVec 32) (k0_hw38 : k0_chk38 v3049 v3053), ∀ a, (k0_off93 v3049 v3053) a + S1x1x256x128.size a ≤ S4x1x4096x128.size a := fun v3049 v3053 k0_hw38 => k0_hw38.2

def k0_off94 (v3049 : BitVec 32) (v3051 : BitVec 32) : Fin 4 → Nat :=
  let v3092 : Index := Scalar.indexCast v3049
  let c0_1951 : Index := 0#32
  let c512_i32_1924 : BitVec 32 := 512#32
  let v3054 : BitVec 32 := Scalar.muli v3051 c512_i32_1924
  let v3055 : BitVec 32 := v3054
  let v3093 : Index := Scalar.indexCast v3055
  let c0_1952 : Index := 0#32
  ![v3092.toNat, 0, v3093.toNat, 0]

def k0_chk37 (v3049 : BitVec 32) (v3051 : BitVec 32) : Prop :=
  (512 ∣ (k0_mult37 v3051).toNat) ∧
  (∀ a, (k0_off92 v3049 v3051) a + S1x1x512x128.size a ≤ S4x1x4096x128.size a) ∧
  (∀ a, (k0_off94 v3049 v3051) a + S1x1x512x128.size a ≤ S4x1x4096x128.size a)
theorem k0_mult37_dvd : ∀ (v3049 : BitVec 32) (v3051 : BitVec 32) (k0_hw37 : k0_chk37 v3049 v3051), 512 ∣ (k0_mult37 v3051).toNat := fun v3049 v3051 k0_hw37 => k0_hw37.1
theorem k0_off92_inb : ∀ (v3049 : BitVec 32) (v3051 : BitVec 32) (k0_hw37 : k0_chk37 v3049 v3051), ∀ a, (k0_off92 v3049 v3051) a + S1x1x512x128.size a ≤ S4x1x4096x128.size a := fun v3049 v3051 k0_hw37 => k0_hw37.2.1
theorem k0_off94_inb : ∀ (v3049 : BitVec 32) (v3051 : BitVec 32) (k0_hw37 : k0_chk37 v3049 v3051), ∀ a, (k0_off94 v3049 v3051) a + S1x1x512x128.size a ≤ S4x1x4096x128.size a := fun v3049 v3051 k0_hw37 => k0_hw37.2.2

def k0_off95 (k0_t1 : Fin k0_t1_loop.trips) : Fin 1 → Nat :=
  let c287_i32_1955 : BitVec 32 := 287#32
  let c0_i32_1954 : BitVec 32 := 0#32
  let c16_i32_1920 : BitVec 32 := 16#32
  let c0_i32_52 : BitVec 32 := 0#32
  let c1_i32_53 : BitVec 32 := 1#32
  let arg14 : BitVec 32 := Scf.iv c0_i32_52 c1_i32_53 k0_t1
  let v3043 : BitVec 32 := Scalar.muli c16_i32_1920 arg14
  let c9_i32 : BitVec 32 := 9#32
  let v3044 : BitVec 32 := Scalar.addi v3043 c9_i32
  let c1_i32_1953 : BitVec 32 := 1#32
  let v3097 : BitVec 32 := Scalar.subi v3044 c1_i32_1953
  let v3098 : BitVec 32 := Scalar.maxsi c0_i32_1954 v3097
  let v3099 : BitVec 32 := Scalar.minsi c287_i32_1955 v3098
  let v3100 : Index := Scalar.indexCast v3099
  ![v3100.toNat]
def k0_off96 (k0_t1 : Fin k0_t1_loop.trips) : Fin 1 → Nat :=
  let c287_i32_2023 : BitVec 32 := 287#32
  let c0_i32_2022 : BitVec 32 := 0#32
  let c16_i32_1920 : BitVec 32 := 16#32
  let c0_i32_52 : BitVec 32 := 0#32
  let c1_i32_53 : BitVec 32 := 1#32
  let arg14 : BitVec 32 := Scf.iv c0_i32_52 c1_i32_53 k0_t1
  let v3043 : BitVec 32 := Scalar.muli c16_i32_1920 arg14
  let c9_i32 : BitVec 32 := 9#32
  let v3044 : BitVec 32 := Scalar.addi v3043 c9_i32
  let v3190 : BitVec 32 := Scalar.maxsi c0_i32_2022 v3044
  let v3191 : BitVec 32 := Scalar.minsi c287_i32_2023 v3190
  let v3192 : Index := Scalar.indexCast v3191
  ![v3192.toNat]
def k0_mult39 (v3195 : BitVec 32) : BitVec 32 :=
  let c512_i32_2024 : BitVec 32 := 512#32
  let v3198 : BitVec 32 := Scalar.muli v3195 c512_i32_2024
  v3198

def k0_off97 (v3193 : BitVec 32) (v3195 : BitVec 32) : Fin 4 → Nat :=
  let v3200 : Index := Scalar.indexCast v3193
  let c0_2025 : Index := 0#32
  let c512_i32_2024 : BitVec 32 := 512#32
  let v3198 : BitVec 32 := Scalar.muli v3195 c512_i32_2024
  let v3199 : BitVec 32 := v3198
  let v3201 : Index := Scalar.indexCast v3199
  let c0_2026 : Index := 0#32
  ![v3200.toNat, 0, v3201.toNat, 0]

def k0_chk39 (v3193 : BitVec 32) (v3195 : BitVec 32) : Prop :=
  (512 ∣ (k0_mult39 v3195).toNat) ∧
  (∀ a, (k0_off97 v3193 v3195) a + S1x1x512x128.size a ≤ S4x1x4096x128.size a)
theorem k0_mult39_dvd : ∀ (v3193 : BitVec 32) (v3195 : BitVec 32) (k0_hw39 : k0_chk39 v3193 v3195), 512 ∣ (k0_mult39 v3195).toNat := fun v3193 v3195 k0_hw39 => k0_hw39.1
theorem k0_off97_inb : ∀ (v3193 : BitVec 32) (v3195 : BitVec 32) (k0_hw39 : k0_chk39 v3193 v3195), ∀ a, (k0_off97 v3193 v3195) a + S1x1x512x128.size a ≤ S4x1x4096x128.size a := fun v3193 v3195 k0_hw39 => k0_hw39.2

def k0_mult40 (v3197 : BitVec 32) : BitVec 32 :=
  let c256_i32_2027 : BitVec 32 := 256#32
  let v3204 : BitVec 32 := Scalar.muli v3197 c256_i32_2027
  v3204

def k0_off98 (v3193 : BitVec 32) (v3197 : BitVec 32) : Fin 4 → Nat :=
  let v3206 : Index := Scalar.indexCast v3193
  let c0_2028 : Index := 0#32
  let c256_i32_2027 : BitVec 32 := 256#32
  let v3204 : BitVec 32 := Scalar.muli v3197 c256_i32_2027
  let v3205 : BitVec 32 := v3204
  let v3207 : Index := Scalar.indexCast v3205
  let c0_2029 : Index := 0#32
  ![v3206.toNat, 0, v3207.toNat, 0]
def k0_off99 (v3195 : BitVec 32) (v3197 : BitVec 32) : Fin 4 → Nat :=
  let c2_i32_2035 : BitVec 32 := 2#32
  let v3220 : BitVec 32 := Scalar.muli v3195 c2_i32_2035
  let v3221 : BitVec 32 := Scalar.subi v3197 v3220
  let c1_i32_2036 : BitVec 32 := 1#32
  let v3222 : BitVec 32 := Scalar.addi v3221 c1_i32_2036
  let c0_i32_2037 : BitVec 32 := 0#32
  let v3223 : BitVec 32 := Scalar.maxsi v3222 c0_i32_2037
  let v3225 : Index := Scalar.indexCast v3223
  let c0_2038 : Index := 0#32
  let c0_2039 : Index := 0#32
  let c0_2040 : Index := 0#32
  ![v3225.toNat, 0, 0, 0]
def k0_off100 (v3195 : BitVec 32) (v3197 : BitVec 32) : Fin 4 → Nat :=
  let c2_i32_2035 : BitVec 32 := 2#32
  let v3220 : BitVec 32 := Scalar.muli v3195 c2_i32_2035
  let v3221 : BitVec 32 := Scalar.subi v3197 v3220
  let c1_i32_2036 : BitVec 32 := 1#32
  let v3222 : BitVec 32 := Scalar.addi v3221 c1_i32_2036
  let c0_i32_2037 : BitVec 32 := 0#32
  let v3223 : BitVec 32 := Scalar.maxsi v3222 c0_i32_2037
  let v3247 : Index := Scalar.indexCast v3223
  let c1_2051 : Index := 1#32
  let c0_2052 : Index := 0#32
  let c0_2053 : Index := 0#32
  ![v3247.toNat, 1, 0, 0]

def k0_chk40 (v3193 : BitVec 32) (v3195 : BitVec 32) (v3197 : BitVec 32) : Prop :=
  (256 ∣ (k0_mult40 v3197).toNat) ∧
  (∀ a, (k0_off98 v3193 v3197) a + S1x1x256x128.size a ≤ S4x1x4096x128.size a) ∧
  (∀ a, (k0_off99 v3195 v3197) a + S1x1x512x128.size a ≤ S3x2x512x128.size a) ∧
  (∀ a, (k0_off100 v3195 v3197) a + S1x1x512x128.size a ≤ S3x2x512x128.size a)
theorem k0_mult40_dvd : ∀ (v3193 : BitVec 32) (v3195 : BitVec 32) (v3197 : BitVec 32) (k0_hw40 : k0_chk40 v3193 v3195 v3197), 256 ∣ (k0_mult40 v3197).toNat := fun v3193 v3195 v3197 k0_hw40 => k0_hw40.1
theorem k0_off98_inb : ∀ (v3193 : BitVec 32) (v3195 : BitVec 32) (v3197 : BitVec 32) (k0_hw40 : k0_chk40 v3193 v3195 v3197), ∀ a, (k0_off98 v3193 v3197) a + S1x1x256x128.size a ≤ S4x1x4096x128.size a := fun v3193 v3195 v3197 k0_hw40 => k0_hw40.2.1
theorem k0_off99_inb : ∀ (v3193 : BitVec 32) (v3195 : BitVec 32) (v3197 : BitVec 32) (k0_hw40 : k0_chk40 v3193 v3195 v3197), ∀ a, (k0_off99 v3195 v3197) a + S1x1x512x128.size a ≤ S3x2x512x128.size a := fun v3193 v3195 v3197 k0_hw40 => k0_hw40.2.2.1
theorem k0_off100_inb : ∀ (v3193 : BitVec 32) (v3195 : BitVec 32) (v3197 : BitVec 32) (k0_hw40 : k0_chk40 v3193 v3195 v3197), ∀ a, (k0_off100 v3195 v3197) a + S1x1x512x128.size a ≤ S3x2x512x128.size a := fun v3193 v3195 v3197 k0_hw40 => k0_hw40.2.2.2

def k0_off101 (k0_t1 : Fin k0_t1_loop.trips) : Fin 1 → Nat :=
  let c287_i32_2093 : BitVec 32 := 287#32
  let c0_i32_2092 : BitVec 32 := 0#32
  let c16_i32_2090 : BitVec 32 := 16#32
  let c0_i32_52 : BitVec 32 := 0#32
  let c1_i32_53 : BitVec 32 := 1#32
  let arg14 : BitVec 32 := Scf.iv c0_i32_52 c1_i32_53 k0_t1
  let v3312 : BitVec 32 := Scalar.muli c16_i32_2090 arg14
  let c10_i32 : BitVec 32 := 10#32
  let v3313 : BitVec 32 := Scalar.addi v3312 c10_i32
  let c2_i32_2091 : BitVec 32 := 2#32
  let v3314 : BitVec 32 := Scalar.subi v3313 c2_i32_2091
  let v3315 : BitVec 32 := Scalar.maxsi c0_i32_2092 v3314
  let v3316 : BitVec 32 := Scalar.minsi c287_i32_2093 v3315
  let v3317 : Index := Scalar.indexCast v3316
  ![v3317.toNat]
def k0_mult41 (v3320 : BitVec 32) : BitVec 32 :=
  let c512_i32_2094 : BitVec 32 := 512#32
  let v3323 : BitVec 32 := Scalar.muli v3320 c512_i32_2094
  v3323

def k0_off102 (v3318 : BitVec 32) (v3320 : BitVec 32) : Fin 4 → Nat :=
  let v3329 : Index := Scalar.indexCast v3318
  let c0_2098 : Index := 0#32
  let c512_i32_2094 : BitVec 32 := 512#32
  let v3323 : BitVec 32 := Scalar.muli v3320 c512_i32_2094
  let v3324 : BitVec 32 := v3323
  let v3330 : Index := Scalar.indexCast v3324
  let c0_2099 : Index := 0#32
  ![v3329.toNat, 0, v3330.toNat, 0]
def k0_mult42 (v3322 : BitVec 32) : BitVec 32 :=
  let c256_i32_2113 : BitVec 32 := 256#32
  let v3344 : BitVec 32 := Scalar.muli v3322 c256_i32_2113
  v3344

def k0_off103 (v3318 : BitVec 32) (v3322 : BitVec 32) : Fin 4 → Nat :=
  let v3346 : Index := Scalar.indexCast v3318
  let c0_2114 : Index := 0#32
  let c256_i32_2113 : BitVec 32 := 256#32
  let v3344 : BitVec 32 := Scalar.muli v3322 c256_i32_2113
  let v3345 : BitVec 32 := v3344
  let v3347 : Index := Scalar.indexCast v3345
  let c0_2115 : Index := 0#32
  ![v3346.toNat, 0, v3347.toNat, 0]

def k0_chk42 (v3318 : BitVec 32) (v3322 : BitVec 32) : Prop :=
  (256 ∣ (k0_mult42 v3322).toNat) ∧
  (∀ a, (k0_off103 v3318 v3322) a + S1x1x256x128.size a ≤ S4x1x4096x128.size a)
theorem k0_mult42_dvd : ∀ (v3318 : BitVec 32) (v3322 : BitVec 32) (k0_hw42 : k0_chk42 v3318 v3322), 256 ∣ (k0_mult42 v3322).toNat := fun v3318 v3322 k0_hw42 => k0_hw42.1
theorem k0_off103_inb : ∀ (v3318 : BitVec 32) (v3322 : BitVec 32) (k0_hw42 : k0_chk42 v3318 v3322), ∀ a, (k0_off103 v3318 v3322) a + S1x1x256x128.size a ≤ S4x1x4096x128.size a := fun v3318 v3322 k0_hw42 => k0_hw42.2

def k0_off104 (v3318 : BitVec 32) (v3320 : BitVec 32) : Fin 4 → Nat :=
  let v3361 : Index := Scalar.indexCast v3318
  let c0_2121 : Index := 0#32
  let c512_i32_2094 : BitVec 32 := 512#32
  let v3323 : BitVec 32 := Scalar.muli v3320 c512_i32_2094
  let v3324 : BitVec 32 := v3323
  let v3362 : Index := Scalar.indexCast v3324
  let c0_2122 : Index := 0#32
  ![v3361.toNat, 0, v3362.toNat, 0]

def k0_chk41 (v3318 : BitVec 32) (v3320 : BitVec 32) : Prop :=
  (512 ∣ (k0_mult41 v3320).toNat) ∧
  (∀ a, (k0_off102 v3318 v3320) a + S1x1x512x128.size a ≤ S4x1x4096x128.size a) ∧
  (∀ a, (k0_off104 v3318 v3320) a + S1x1x512x128.size a ≤ S4x1x4096x128.size a)
theorem k0_mult41_dvd : ∀ (v3318 : BitVec 32) (v3320 : BitVec 32) (k0_hw41 : k0_chk41 v3318 v3320), 512 ∣ (k0_mult41 v3320).toNat := fun v3318 v3320 k0_hw41 => k0_hw41.1
theorem k0_off102_inb : ∀ (v3318 : BitVec 32) (v3320 : BitVec 32) (k0_hw41 : k0_chk41 v3318 v3320), ∀ a, (k0_off102 v3318 v3320) a + S1x1x512x128.size a ≤ S4x1x4096x128.size a := fun v3318 v3320 k0_hw41 => k0_hw41.2.1
theorem k0_off104_inb : ∀ (v3318 : BitVec 32) (v3320 : BitVec 32) (k0_hw41 : k0_chk41 v3318 v3320), ∀ a, (k0_off104 v3318 v3320) a + S1x1x512x128.size a ≤ S4x1x4096x128.size a := fun v3318 v3320 k0_hw41 => k0_hw41.2.2

def k0_off105 (k0_t1 : Fin k0_t1_loop.trips) : Fin 1 → Nat :=
  let c287_i32_2125 : BitVec 32 := 287#32
  let c0_i32_2124 : BitVec 32 := 0#32
  let c16_i32_2090 : BitVec 32 := 16#32
  let c0_i32_52 : BitVec 32 := 0#32
  let c1_i32_53 : BitVec 32 := 1#32
  let arg14 : BitVec 32 := Scf.iv c0_i32_52 c1_i32_53 k0_t1
  let v3312 : BitVec 32 := Scalar.muli c16_i32_2090 arg14
  let c10_i32 : BitVec 32 := 10#32
  let v3313 : BitVec 32 := Scalar.addi v3312 c10_i32
  let c1_i32_2123 : BitVec 32 := 1#32
  let v3366 : BitVec 32 := Scalar.subi v3313 c1_i32_2123
  let v3367 : BitVec 32 := Scalar.maxsi c0_i32_2124 v3366
  let v3368 : BitVec 32 := Scalar.minsi c287_i32_2125 v3367
  let v3369 : Index := Scalar.indexCast v3368
  ![v3369.toNat]
def k0_off106 (k0_t1 : Fin k0_t1_loop.trips) : Fin 1 → Nat :=
  let c287_i32_2193 : BitVec 32 := 287#32
  let c0_i32_2192 : BitVec 32 := 0#32
  let c16_i32_2090 : BitVec 32 := 16#32
  let c0_i32_52 : BitVec 32 := 0#32
  let c1_i32_53 : BitVec 32 := 1#32
  let arg14 : BitVec 32 := Scf.iv c0_i32_52 c1_i32_53 k0_t1
  let v3312 : BitVec 32 := Scalar.muli c16_i32_2090 arg14
  let c10_i32 : BitVec 32 := 10#32
  let v3313 : BitVec 32 := Scalar.addi v3312 c10_i32
  let v3459 : BitVec 32 := Scalar.maxsi c0_i32_2192 v3313
  let v3460 : BitVec 32 := Scalar.minsi c287_i32_2193 v3459
  let v3461 : Index := Scalar.indexCast v3460
  ![v3461.toNat]
def k0_mult43 (v3464 : BitVec 32) : BitVec 32 :=
  let c512_i32_2194 : BitVec 32 := 512#32
  let v3467 : BitVec 32 := Scalar.muli v3464 c512_i32_2194
  v3467

def k0_off107 (v3462 : BitVec 32) (v3464 : BitVec 32) : Fin 4 → Nat :=
  let v3469 : Index := Scalar.indexCast v3462
  let c0_2195 : Index := 0#32
  let c512_i32_2194 : BitVec 32 := 512#32
  let v3467 : BitVec 32 := Scalar.muli v3464 c512_i32_2194
  let v3468 : BitVec 32 := v3467
  let v3470 : Index := Scalar.indexCast v3468
  let c0_2196 : Index := 0#32
  ![v3469.toNat, 0, v3470.toNat, 0]

def k0_chk43 (v3462 : BitVec 32) (v3464 : BitVec 32) : Prop :=
  (512 ∣ (k0_mult43 v3464).toNat) ∧
  (∀ a, (k0_off107 v3462 v3464) a + S1x1x512x128.size a ≤ S4x1x4096x128.size a)
theorem k0_mult43_dvd : ∀ (v3462 : BitVec 32) (v3464 : BitVec 32) (k0_hw43 : k0_chk43 v3462 v3464), 512 ∣ (k0_mult43 v3464).toNat := fun v3462 v3464 k0_hw43 => k0_hw43.1
theorem k0_off107_inb : ∀ (v3462 : BitVec 32) (v3464 : BitVec 32) (k0_hw43 : k0_chk43 v3462 v3464), ∀ a, (k0_off107 v3462 v3464) a + S1x1x512x128.size a ≤ S4x1x4096x128.size a := fun v3462 v3464 k0_hw43 => k0_hw43.2

def k0_mult44 (v3466 : BitVec 32) : BitVec 32 :=
  let c256_i32_2197 : BitVec 32 := 256#32
  let v3473 : BitVec 32 := Scalar.muli v3466 c256_i32_2197
  v3473

def k0_off108 (v3462 : BitVec 32) (v3466 : BitVec 32) : Fin 4 → Nat :=
  let v3475 : Index := Scalar.indexCast v3462
  let c0_2198 : Index := 0#32
  let c256_i32_2197 : BitVec 32 := 256#32
  let v3473 : BitVec 32 := Scalar.muli v3466 c256_i32_2197
  let v3474 : BitVec 32 := v3473
  let v3476 : Index := Scalar.indexCast v3474
  let c0_2199 : Index := 0#32
  ![v3475.toNat, 0, v3476.toNat, 0]
def k0_off109 (v3464 : BitVec 32) (v3466 : BitVec 32) : Fin 4 → Nat :=
  let c2_i32_2205 : BitVec 32 := 2#32
  let v3489 : BitVec 32 := Scalar.muli v3464 c2_i32_2205
  let v3490 : BitVec 32 := Scalar.subi v3466 v3489
  let c1_i32_2206 : BitVec 32 := 1#32
  let v3491 : BitVec 32 := Scalar.addi v3490 c1_i32_2206
  let c0_i32_2207 : BitVec 32 := 0#32
  let v3492 : BitVec 32 := Scalar.maxsi v3491 c0_i32_2207
  let v3494 : Index := Scalar.indexCast v3492
  let c0_2208 : Index := 0#32
  let c0_2209 : Index := 0#32
  let c0_2210 : Index := 0#32
  ![v3494.toNat, 0, 0, 0]
def k0_off110 (v3464 : BitVec 32) (v3466 : BitVec 32) : Fin 4 → Nat :=
  let c2_i32_2205 : BitVec 32 := 2#32
  let v3489 : BitVec 32 := Scalar.muli v3464 c2_i32_2205
  let v3490 : BitVec 32 := Scalar.subi v3466 v3489
  let c1_i32_2206 : BitVec 32 := 1#32
  let v3491 : BitVec 32 := Scalar.addi v3490 c1_i32_2206
  let c0_i32_2207 : BitVec 32 := 0#32
  let v3492 : BitVec 32 := Scalar.maxsi v3491 c0_i32_2207
  let v3516 : Index := Scalar.indexCast v3492
  let c1_2221 : Index := 1#32
  let c0_2222 : Index := 0#32
  let c0_2223 : Index := 0#32
  ![v3516.toNat, 1, 0, 0]

def k0_chk44 (v3462 : BitVec 32) (v3464 : BitVec 32) (v3466 : BitVec 32) : Prop :=
  (256 ∣ (k0_mult44 v3466).toNat) ∧
  (∀ a, (k0_off108 v3462 v3466) a + S1x1x256x128.size a ≤ S4x1x4096x128.size a) ∧
  (∀ a, (k0_off109 v3464 v3466) a + S1x1x512x128.size a ≤ S3x2x512x128.size a) ∧
  (∀ a, (k0_off110 v3464 v3466) a + S1x1x512x128.size a ≤ S3x2x512x128.size a)
theorem k0_mult44_dvd : ∀ (v3462 : BitVec 32) (v3464 : BitVec 32) (v3466 : BitVec 32) (k0_hw44 : k0_chk44 v3462 v3464 v3466), 256 ∣ (k0_mult44 v3466).toNat := fun v3462 v3464 v3466 k0_hw44 => k0_hw44.1
theorem k0_off108_inb : ∀ (v3462 : BitVec 32) (v3464 : BitVec 32) (v3466 : BitVec 32) (k0_hw44 : k0_chk44 v3462 v3464 v3466), ∀ a, (k0_off108 v3462 v3466) a + S1x1x256x128.size a ≤ S4x1x4096x128.size a := fun v3462 v3464 v3466 k0_hw44 => k0_hw44.2.1
theorem k0_off109_inb : ∀ (v3462 : BitVec 32) (v3464 : BitVec 32) (v3466 : BitVec 32) (k0_hw44 : k0_chk44 v3462 v3464 v3466), ∀ a, (k0_off109 v3464 v3466) a + S1x1x512x128.size a ≤ S3x2x512x128.size a := fun v3462 v3464 v3466 k0_hw44 => k0_hw44.2.2.1
theorem k0_off110_inb : ∀ (v3462 : BitVec 32) (v3464 : BitVec 32) (v3466 : BitVec 32) (k0_hw44 : k0_chk44 v3462 v3464 v3466), ∀ a, (k0_off110 v3464 v3466) a + S1x1x512x128.size a ≤ S3x2x512x128.size a := fun v3462 v3464 v3466 k0_hw44 => k0_hw44.2.2.2

def k0_off111 (k0_t1 : Fin k0_t1_loop.trips) : Fin 1 → Nat :=
  let c287_i32_2263 : BitVec 32 := 287#32
  let c0_i32_2262 : BitVec 32 := 0#32
  let c16_i32_2260 : BitVec 32 := 16#32
  let c0_i32_52 : BitVec 32 := 0#32
  let c1_i32_53 : BitVec 32 := 1#32
  let arg14 : BitVec 32 := Scf.iv c0_i32_52 c1_i32_53 k0_t1
  let v3581 : BitVec 32 := Scalar.muli c16_i32_2260 arg14
  let c11_i32 : BitVec 32 := 11#32
  let v3582 : BitVec 32 := Scalar.addi v3581 c11_i32
  let c2_i32_2261 : BitVec 32 := 2#32
  let v3583 : BitVec 32 := Scalar.subi v3582 c2_i32_2261
  let v3584 : BitVec 32 := Scalar.maxsi c0_i32_2262 v3583
  let v3585 : BitVec 32 := Scalar.minsi c287_i32_2263 v3584
  let v3586 : Index := Scalar.indexCast v3585
  ![v3586.toNat]
def k0_mult45 (v3589 : BitVec 32) : BitVec 32 :=
  let c512_i32_2264 : BitVec 32 := 512#32
  let v3592 : BitVec 32 := Scalar.muli v3589 c512_i32_2264
  v3592

def k0_off112 (v3587 : BitVec 32) (v3589 : BitVec 32) : Fin 4 → Nat :=
  let v3598 : Index := Scalar.indexCast v3587
  let c0_2268 : Index := 0#32
  let c512_i32_2264 : BitVec 32 := 512#32
  let v3592 : BitVec 32 := Scalar.muli v3589 c512_i32_2264
  let v3593 : BitVec 32 := v3592
  let v3599 : Index := Scalar.indexCast v3593
  let c0_2269 : Index := 0#32
  ![v3598.toNat, 0, v3599.toNat, 0]
def k0_mult46 (v3591 : BitVec 32) : BitVec 32 :=
  let c256_i32_2283 : BitVec 32 := 256#32
  let v3613 : BitVec 32 := Scalar.muli v3591 c256_i32_2283
  v3613

def k0_off113 (v3587 : BitVec 32) (v3591 : BitVec 32) : Fin 4 → Nat :=
  let v3615 : Index := Scalar.indexCast v3587
  let c0_2284 : Index := 0#32
  let c256_i32_2283 : BitVec 32 := 256#32
  let v3613 : BitVec 32 := Scalar.muli v3591 c256_i32_2283
  let v3614 : BitVec 32 := v3613
  let v3616 : Index := Scalar.indexCast v3614
  let c0_2285 : Index := 0#32
  ![v3615.toNat, 0, v3616.toNat, 0]

def k0_chk46 (v3587 : BitVec 32) (v3591 : BitVec 32) : Prop :=
  (256 ∣ (k0_mult46 v3591).toNat) ∧
  (∀ a, (k0_off113 v3587 v3591) a + S1x1x256x128.size a ≤ S4x1x4096x128.size a)
theorem k0_mult46_dvd : ∀ (v3587 : BitVec 32) (v3591 : BitVec 32) (k0_hw46 : k0_chk46 v3587 v3591), 256 ∣ (k0_mult46 v3591).toNat := fun v3587 v3591 k0_hw46 => k0_hw46.1
theorem k0_off113_inb : ∀ (v3587 : BitVec 32) (v3591 : BitVec 32) (k0_hw46 : k0_chk46 v3587 v3591), ∀ a, (k0_off113 v3587 v3591) a + S1x1x256x128.size a ≤ S4x1x4096x128.size a := fun v3587 v3591 k0_hw46 => k0_hw46.2

def k0_off114 (v3587 : BitVec 32) (v3589 : BitVec 32) : Fin 4 → Nat :=
  let v3630 : Index := Scalar.indexCast v3587
  let c0_2291 : Index := 0#32
  let c512_i32_2264 : BitVec 32 := 512#32
  let v3592 : BitVec 32 := Scalar.muli v3589 c512_i32_2264
  let v3593 : BitVec 32 := v3592
  let v3631 : Index := Scalar.indexCast v3593
  let c0_2292 : Index := 0#32
  ![v3630.toNat, 0, v3631.toNat, 0]

def k0_chk45 (v3587 : BitVec 32) (v3589 : BitVec 32) : Prop :=
  (512 ∣ (k0_mult45 v3589).toNat) ∧
  (∀ a, (k0_off112 v3587 v3589) a + S1x1x512x128.size a ≤ S4x1x4096x128.size a) ∧
  (∀ a, (k0_off114 v3587 v3589) a + S1x1x512x128.size a ≤ S4x1x4096x128.size a)
theorem k0_mult45_dvd : ∀ (v3587 : BitVec 32) (v3589 : BitVec 32) (k0_hw45 : k0_chk45 v3587 v3589), 512 ∣ (k0_mult45 v3589).toNat := fun v3587 v3589 k0_hw45 => k0_hw45.1
theorem k0_off112_inb : ∀ (v3587 : BitVec 32) (v3589 : BitVec 32) (k0_hw45 : k0_chk45 v3587 v3589), ∀ a, (k0_off112 v3587 v3589) a + S1x1x512x128.size a ≤ S4x1x4096x128.size a := fun v3587 v3589 k0_hw45 => k0_hw45.2.1
theorem k0_off114_inb : ∀ (v3587 : BitVec 32) (v3589 : BitVec 32) (k0_hw45 : k0_chk45 v3587 v3589), ∀ a, (k0_off114 v3587 v3589) a + S1x1x512x128.size a ≤ S4x1x4096x128.size a := fun v3587 v3589 k0_hw45 => k0_hw45.2.2

def k0_off115 (k0_t1 : Fin k0_t1_loop.trips) : Fin 1 → Nat :=
  let c287_i32_2295 : BitVec 32 := 287#32
  let c0_i32_2294 : BitVec 32 := 0#32
  let c16_i32_2260 : BitVec 32 := 16#32
  let c0_i32_52 : BitVec 32 := 0#32
  let c1_i32_53 : BitVec 32 := 1#32
  let arg14 : BitVec 32 := Scf.iv c0_i32_52 c1_i32_53 k0_t1
  let v3581 : BitVec 32 := Scalar.muli c16_i32_2260 arg14
  let c11_i32 : BitVec 32 := 11#32
  let v3582 : BitVec 32 := Scalar.addi v3581 c11_i32
  let c1_i32_2293 : BitVec 32 := 1#32
  let v3635 : BitVec 32 := Scalar.subi v3582 c1_i32_2293
  let v3636 : BitVec 32 := Scalar.maxsi c0_i32_2294 v3635
  let v3637 : BitVec 32 := Scalar.minsi c287_i32_2295 v3636
  let v3638 : Index := Scalar.indexCast v3637
  ![v3638.toNat]
def k0_off116 (k0_t1 : Fin k0_t1_loop.trips) : Fin 1 → Nat :=
  let c287_i32_2363 : BitVec 32 := 287#32
  let c0_i32_2362 : BitVec 32 := 0#32
  let c16_i32_2260 : BitVec 32 := 16#32
  let c0_i32_52 : BitVec 32 := 0#32
  let c1_i32_53 : BitVec 32 := 1#32
  let arg14 : BitVec 32 := Scf.iv c0_i32_52 c1_i32_53 k0_t1
  let v3581 : BitVec 32 := Scalar.muli c16_i32_2260 arg14
  let c11_i32 : BitVec 32 := 11#32
  let v3582 : BitVec 32 := Scalar.addi v3581 c11_i32
  let v3728 : BitVec 32 := Scalar.maxsi c0_i32_2362 v3582
  let v3729 : BitVec 32 := Scalar.minsi c287_i32_2363 v3728
  let v3730 : Index := Scalar.indexCast v3729
  ![v3730.toNat]
def k0_mult47 (v3733 : BitVec 32) : BitVec 32 :=
  let c512_i32_2364 : BitVec 32 := 512#32
  let v3736 : BitVec 32 := Scalar.muli v3733 c512_i32_2364
  v3736

def k0_off117 (v3731 : BitVec 32) (v3733 : BitVec 32) : Fin 4 → Nat :=
  let v3738 : Index := Scalar.indexCast v3731
  let c0_2365 : Index := 0#32
  let c512_i32_2364 : BitVec 32 := 512#32
  let v3736 : BitVec 32 := Scalar.muli v3733 c512_i32_2364
  let v3737 : BitVec 32 := v3736
  let v3739 : Index := Scalar.indexCast v3737
  let c0_2366 : Index := 0#32
  ![v3738.toNat, 0, v3739.toNat, 0]

def k0_chk47 (v3731 : BitVec 32) (v3733 : BitVec 32) : Prop :=
  (512 ∣ (k0_mult47 v3733).toNat) ∧
  (∀ a, (k0_off117 v3731 v3733) a + S1x1x512x128.size a ≤ S4x1x4096x128.size a)
theorem k0_mult47_dvd : ∀ (v3731 : BitVec 32) (v3733 : BitVec 32) (k0_hw47 : k0_chk47 v3731 v3733), 512 ∣ (k0_mult47 v3733).toNat := fun v3731 v3733 k0_hw47 => k0_hw47.1
theorem k0_off117_inb : ∀ (v3731 : BitVec 32) (v3733 : BitVec 32) (k0_hw47 : k0_chk47 v3731 v3733), ∀ a, (k0_off117 v3731 v3733) a + S1x1x512x128.size a ≤ S4x1x4096x128.size a := fun v3731 v3733 k0_hw47 => k0_hw47.2

def k0_mult48 (v3735 : BitVec 32) : BitVec 32 :=
  let c256_i32_2367 : BitVec 32 := 256#32
  let v3742 : BitVec 32 := Scalar.muli v3735 c256_i32_2367
  v3742

def k0_off118 (v3731 : BitVec 32) (v3735 : BitVec 32) : Fin 4 → Nat :=
  let v3744 : Index := Scalar.indexCast v3731
  let c0_2368 : Index := 0#32
  let c256_i32_2367 : BitVec 32 := 256#32
  let v3742 : BitVec 32 := Scalar.muli v3735 c256_i32_2367
  let v3743 : BitVec 32 := v3742
  let v3745 : Index := Scalar.indexCast v3743
  let c0_2369 : Index := 0#32
  ![v3744.toNat, 0, v3745.toNat, 0]
def k0_off119 (v3733 : BitVec 32) (v3735 : BitVec 32) : Fin 4 → Nat :=
  let c2_i32_2375 : BitVec 32 := 2#32
  let v3758 : BitVec 32 := Scalar.muli v3733 c2_i32_2375
  let v3759 : BitVec 32 := Scalar.subi v3735 v3758
  let c1_i32_2376 : BitVec 32 := 1#32
  let v3760 : BitVec 32 := Scalar.addi v3759 c1_i32_2376
  let c0_i32_2377 : BitVec 32 := 0#32
  let v3761 : BitVec 32 := Scalar.maxsi v3760 c0_i32_2377
  let v3763 : Index := Scalar.indexCast v3761
  let c0_2378 : Index := 0#32
  let c0_2379 : Index := 0#32
  let c0_2380 : Index := 0#32
  ![v3763.toNat, 0, 0, 0]
def k0_off120 (v3733 : BitVec 32) (v3735 : BitVec 32) : Fin 4 → Nat :=
  let c2_i32_2375 : BitVec 32 := 2#32
  let v3758 : BitVec 32 := Scalar.muli v3733 c2_i32_2375
  let v3759 : BitVec 32 := Scalar.subi v3735 v3758
  let c1_i32_2376 : BitVec 32 := 1#32
  let v3760 : BitVec 32 := Scalar.addi v3759 c1_i32_2376
  let c0_i32_2377 : BitVec 32 := 0#32
  let v3761 : BitVec 32 := Scalar.maxsi v3760 c0_i32_2377
  let v3785 : Index := Scalar.indexCast v3761
  let c1_2391 : Index := 1#32
  let c0_2392 : Index := 0#32
  let c0_2393 : Index := 0#32
  ![v3785.toNat, 1, 0, 0]

def k0_chk48 (v3731 : BitVec 32) (v3733 : BitVec 32) (v3735 : BitVec 32) : Prop :=
  (256 ∣ (k0_mult48 v3735).toNat) ∧
  (∀ a, (k0_off118 v3731 v3735) a + S1x1x256x128.size a ≤ S4x1x4096x128.size a) ∧
  (∀ a, (k0_off119 v3733 v3735) a + S1x1x512x128.size a ≤ S3x2x512x128.size a) ∧
  (∀ a, (k0_off120 v3733 v3735) a + S1x1x512x128.size a ≤ S3x2x512x128.size a)
theorem k0_mult48_dvd : ∀ (v3731 : BitVec 32) (v3733 : BitVec 32) (v3735 : BitVec 32) (k0_hw48 : k0_chk48 v3731 v3733 v3735), 256 ∣ (k0_mult48 v3735).toNat := fun v3731 v3733 v3735 k0_hw48 => k0_hw48.1
theorem k0_off118_inb : ∀ (v3731 : BitVec 32) (v3733 : BitVec 32) (v3735 : BitVec 32) (k0_hw48 : k0_chk48 v3731 v3733 v3735), ∀ a, (k0_off118 v3731 v3735) a + S1x1x256x128.size a ≤ S4x1x4096x128.size a := fun v3731 v3733 v3735 k0_hw48 => k0_hw48.2.1
theorem k0_off119_inb : ∀ (v3731 : BitVec 32) (v3733 : BitVec 32) (v3735 : BitVec 32) (k0_hw48 : k0_chk48 v3731 v3733 v3735), ∀ a, (k0_off119 v3733 v3735) a + S1x1x512x128.size a ≤ S3x2x512x128.size a := fun v3731 v3733 v3735 k0_hw48 => k0_hw48.2.2.1
theorem k0_off120_inb : ∀ (v3731 : BitVec 32) (v3733 : BitVec 32) (v3735 : BitVec 32) (k0_hw48 : k0_chk48 v3731 v3733 v3735), ∀ a, (k0_off120 v3733 v3735) a + S1x1x512x128.size a ≤ S3x2x512x128.size a := fun v3731 v3733 v3735 k0_hw48 => k0_hw48.2.2.2

def k0_off121 (k0_t1 : Fin k0_t1_loop.trips) : Fin 1 → Nat :=
  let c287_i32_2433 : BitVec 32 := 287#32
  let c0_i32_2432 : BitVec 32 := 0#32
  let c16_i32_2430 : BitVec 32 := 16#32
  let c0_i32_52 : BitVec 32 := 0#32
  let c1_i32_53 : BitVec 32 := 1#32
  let arg14 : BitVec 32 := Scf.iv c0_i32_52 c1_i32_53 k0_t1
  let v3850 : BitVec 32 := Scalar.muli c16_i32_2430 arg14
  let c12_i32 : BitVec 32 := 12#32
  let v3851 : BitVec 32 := Scalar.addi v3850 c12_i32
  let c2_i32_2431 : BitVec 32 := 2#32
  let v3852 : BitVec 32 := Scalar.subi v3851 c2_i32_2431
  let v3853 : BitVec 32 := Scalar.maxsi c0_i32_2432 v3852
  let v3854 : BitVec 32 := Scalar.minsi c287_i32_2433 v3853
  let v3855 : Index := Scalar.indexCast v3854
  ![v3855.toNat]
def k0_mult49 (v3858 : BitVec 32) : BitVec 32 :=
  let c512_i32_2434 : BitVec 32 := 512#32
  let v3861 : BitVec 32 := Scalar.muli v3858 c512_i32_2434
  v3861

def k0_off122 (v3856 : BitVec 32) (v3858 : BitVec 32) : Fin 4 → Nat :=
  let v3867 : Index := Scalar.indexCast v3856
  let c0_2438 : Index := 0#32
  let c512_i32_2434 : BitVec 32 := 512#32
  let v3861 : BitVec 32 := Scalar.muli v3858 c512_i32_2434
  let v3862 : BitVec 32 := v3861
  let v3868 : Index := Scalar.indexCast v3862
  let c0_2439 : Index := 0#32
  ![v3867.toNat, 0, v3868.toNat, 0]
def k0_mult50 (v3860 : BitVec 32) : BitVec 32 :=
  let c256_i32_2453 : BitVec 32 := 256#32
  let v3882 : BitVec 32 := Scalar.muli v3860 c256_i32_2453
  v3882

def k0_off123 (v3856 : BitVec 32) (v3860 : BitVec 32) : Fin 4 → Nat :=
  let v3884 : Index := Scalar.indexCast v3856
  let c0_2454 : Index := 0#32
  let c256_i32_2453 : BitVec 32 := 256#32
  let v3882 : BitVec 32 := Scalar.muli v3860 c256_i32_2453
  let v3883 : BitVec 32 := v3882
  let v3885 : Index := Scalar.indexCast v3883
  let c0_2455 : Index := 0#32
  ![v3884.toNat, 0, v3885.toNat, 0]

def k0_chk50 (v3856 : BitVec 32) (v3860 : BitVec 32) : Prop :=
  (256 ∣ (k0_mult50 v3860).toNat) ∧
  (∀ a, (k0_off123 v3856 v3860) a + S1x1x256x128.size a ≤ S4x1x4096x128.size a)
theorem k0_mult50_dvd : ∀ (v3856 : BitVec 32) (v3860 : BitVec 32) (k0_hw50 : k0_chk50 v3856 v3860), 256 ∣ (k0_mult50 v3860).toNat := fun v3856 v3860 k0_hw50 => k0_hw50.1
theorem k0_off123_inb : ∀ (v3856 : BitVec 32) (v3860 : BitVec 32) (k0_hw50 : k0_chk50 v3856 v3860), ∀ a, (k0_off123 v3856 v3860) a + S1x1x256x128.size a ≤ S4x1x4096x128.size a := fun v3856 v3860 k0_hw50 => k0_hw50.2

def k0_off124 (v3856 : BitVec 32) (v3858 : BitVec 32) : Fin 4 → Nat :=
  let v3899 : Index := Scalar.indexCast v3856
  let c0_2461 : Index := 0#32
  let c512_i32_2434 : BitVec 32 := 512#32
  let v3861 : BitVec 32 := Scalar.muli v3858 c512_i32_2434
  let v3862 : BitVec 32 := v3861
  let v3900 : Index := Scalar.indexCast v3862
  let c0_2462 : Index := 0#32
  ![v3899.toNat, 0, v3900.toNat, 0]

def k0_chk49 (v3856 : BitVec 32) (v3858 : BitVec 32) : Prop :=
  (512 ∣ (k0_mult49 v3858).toNat) ∧
  (∀ a, (k0_off122 v3856 v3858) a + S1x1x512x128.size a ≤ S4x1x4096x128.size a) ∧
  (∀ a, (k0_off124 v3856 v3858) a + S1x1x512x128.size a ≤ S4x1x4096x128.size a)
theorem k0_mult49_dvd : ∀ (v3856 : BitVec 32) (v3858 : BitVec 32) (k0_hw49 : k0_chk49 v3856 v3858), 512 ∣ (k0_mult49 v3858).toNat := fun v3856 v3858 k0_hw49 => k0_hw49.1
theorem k0_off122_inb : ∀ (v3856 : BitVec 32) (v3858 : BitVec 32) (k0_hw49 : k0_chk49 v3856 v3858), ∀ a, (k0_off122 v3856 v3858) a + S1x1x512x128.size a ≤ S4x1x4096x128.size a := fun v3856 v3858 k0_hw49 => k0_hw49.2.1
theorem k0_off124_inb : ∀ (v3856 : BitVec 32) (v3858 : BitVec 32) (k0_hw49 : k0_chk49 v3856 v3858), ∀ a, (k0_off124 v3856 v3858) a + S1x1x512x128.size a ≤ S4x1x4096x128.size a := fun v3856 v3858 k0_hw49 => k0_hw49.2.2

def k0_off125 (k0_t1 : Fin k0_t1_loop.trips) : Fin 1 → Nat :=
  let c287_i32_2465 : BitVec 32 := 287#32
  let c0_i32_2464 : BitVec 32 := 0#32
  let c16_i32_2430 : BitVec 32 := 16#32
  let c0_i32_52 : BitVec 32 := 0#32
  let c1_i32_53 : BitVec 32 := 1#32
  let arg14 : BitVec 32 := Scf.iv c0_i32_52 c1_i32_53 k0_t1
  let v3850 : BitVec 32 := Scalar.muli c16_i32_2430 arg14
  let c12_i32 : BitVec 32 := 12#32
  let v3851 : BitVec 32 := Scalar.addi v3850 c12_i32
  let c1_i32_2463 : BitVec 32 := 1#32
  let v3904 : BitVec 32 := Scalar.subi v3851 c1_i32_2463
  let v3905 : BitVec 32 := Scalar.maxsi c0_i32_2464 v3904
  let v3906 : BitVec 32 := Scalar.minsi c287_i32_2465 v3905
  let v3907 : Index := Scalar.indexCast v3906
  ![v3907.toNat]
def k0_off126 (k0_t1 : Fin k0_t1_loop.trips) : Fin 1 → Nat :=
  let c287_i32_2533 : BitVec 32 := 287#32
  let c0_i32_2532 : BitVec 32 := 0#32
  let c16_i32_2430 : BitVec 32 := 16#32
  let c0_i32_52 : BitVec 32 := 0#32
  let c1_i32_53 : BitVec 32 := 1#32
  let arg14 : BitVec 32 := Scf.iv c0_i32_52 c1_i32_53 k0_t1
  let v3850 : BitVec 32 := Scalar.muli c16_i32_2430 arg14
  let c12_i32 : BitVec 32 := 12#32
  let v3851 : BitVec 32 := Scalar.addi v3850 c12_i32
  let v3997 : BitVec 32 := Scalar.maxsi c0_i32_2532 v3851
  let v3998 : BitVec 32 := Scalar.minsi c287_i32_2533 v3997
  let v3999 : Index := Scalar.indexCast v3998
  ![v3999.toNat]
def k0_mult51 (v4002 : BitVec 32) : BitVec 32 :=
  let c512_i32_2534 : BitVec 32 := 512#32
  let v4005 : BitVec 32 := Scalar.muli v4002 c512_i32_2534
  v4005

def k0_off127 (v4000 : BitVec 32) (v4002 : BitVec 32) : Fin 4 → Nat :=
  let v4007 : Index := Scalar.indexCast v4000
  let c0_2535 : Index := 0#32
  let c512_i32_2534 : BitVec 32 := 512#32
  let v4005 : BitVec 32 := Scalar.muli v4002 c512_i32_2534
  let v4006 : BitVec 32 := v4005
  let v4008 : Index := Scalar.indexCast v4006
  let c0_2536 : Index := 0#32
  ![v4007.toNat, 0, v4008.toNat, 0]

def k0_chk51 (v4000 : BitVec 32) (v4002 : BitVec 32) : Prop :=
  (512 ∣ (k0_mult51 v4002).toNat) ∧
  (∀ a, (k0_off127 v4000 v4002) a + S1x1x512x128.size a ≤ S4x1x4096x128.size a)
theorem k0_mult51_dvd : ∀ (v4000 : BitVec 32) (v4002 : BitVec 32) (k0_hw51 : k0_chk51 v4000 v4002), 512 ∣ (k0_mult51 v4002).toNat := fun v4000 v4002 k0_hw51 => k0_hw51.1
theorem k0_off127_inb : ∀ (v4000 : BitVec 32) (v4002 : BitVec 32) (k0_hw51 : k0_chk51 v4000 v4002), ∀ a, (k0_off127 v4000 v4002) a + S1x1x512x128.size a ≤ S4x1x4096x128.size a := fun v4000 v4002 k0_hw51 => k0_hw51.2

def k0_mult52 (v4004 : BitVec 32) : BitVec 32 :=
  let c256_i32_2537 : BitVec 32 := 256#32
  let v4011 : BitVec 32 := Scalar.muli v4004 c256_i32_2537
  v4011

def k0_off128 (v4000 : BitVec 32) (v4004 : BitVec 32) : Fin 4 → Nat :=
  let v4013 : Index := Scalar.indexCast v4000
  let c0_2538 : Index := 0#32
  let c256_i32_2537 : BitVec 32 := 256#32
  let v4011 : BitVec 32 := Scalar.muli v4004 c256_i32_2537
  let v4012 : BitVec 32 := v4011
  let v4014 : Index := Scalar.indexCast v4012
  let c0_2539 : Index := 0#32
  ![v4013.toNat, 0, v4014.toNat, 0]
def k0_off129 (v4002 : BitVec 32) (v4004 : BitVec 32) : Fin 4 → Nat :=
  let c2_i32_2545 : BitVec 32 := 2#32
  let v4027 : BitVec 32 := Scalar.muli v4002 c2_i32_2545
  let v4028 : BitVec 32 := Scalar.subi v4004 v4027
  let c1_i32_2546 : BitVec 32 := 1#32
  let v4029 : BitVec 32 := Scalar.addi v4028 c1_i32_2546
  let c0_i32_2547 : BitVec 32 := 0#32
  let v4030 : BitVec 32 := Scalar.maxsi v4029 c0_i32_2547
  let v4032 : Index := Scalar.indexCast v4030
  let c0_2548 : Index := 0#32
  let c0_2549 : Index := 0#32
  let c0_2550 : Index := 0#32
  ![v4032.toNat, 0, 0, 0]
def k0_off130 (v4002 : BitVec 32) (v4004 : BitVec 32) : Fin 4 → Nat :=
  let c2_i32_2545 : BitVec 32 := 2#32
  let v4027 : BitVec 32 := Scalar.muli v4002 c2_i32_2545
  let v4028 : BitVec 32 := Scalar.subi v4004 v4027
  let c1_i32_2546 : BitVec 32 := 1#32
  let v4029 : BitVec 32 := Scalar.addi v4028 c1_i32_2546
  let c0_i32_2547 : BitVec 32 := 0#32
  let v4030 : BitVec 32 := Scalar.maxsi v4029 c0_i32_2547
  let v4054 : Index := Scalar.indexCast v4030
  let c1_2561 : Index := 1#32
  let c0_2562 : Index := 0#32
  let c0_2563 : Index := 0#32
  ![v4054.toNat, 1, 0, 0]

def k0_chk52 (v4000 : BitVec 32) (v4002 : BitVec 32) (v4004 : BitVec 32) : Prop :=
  (256 ∣ (k0_mult52 v4004).toNat) ∧
  (∀ a, (k0_off128 v4000 v4004) a + S1x1x256x128.size a ≤ S4x1x4096x128.size a) ∧
  (∀ a, (k0_off129 v4002 v4004) a + S1x1x512x128.size a ≤ S3x2x512x128.size a) ∧
  (∀ a, (k0_off130 v4002 v4004) a + S1x1x512x128.size a ≤ S3x2x512x128.size a)
theorem k0_mult52_dvd : ∀ (v4000 : BitVec 32) (v4002 : BitVec 32) (v4004 : BitVec 32) (k0_hw52 : k0_chk52 v4000 v4002 v4004), 256 ∣ (k0_mult52 v4004).toNat := fun v4000 v4002 v4004 k0_hw52 => k0_hw52.1
theorem k0_off128_inb : ∀ (v4000 : BitVec 32) (v4002 : BitVec 32) (v4004 : BitVec 32) (k0_hw52 : k0_chk52 v4000 v4002 v4004), ∀ a, (k0_off128 v4000 v4004) a + S1x1x256x128.size a ≤ S4x1x4096x128.size a := fun v4000 v4002 v4004 k0_hw52 => k0_hw52.2.1
theorem k0_off129_inb : ∀ (v4000 : BitVec 32) (v4002 : BitVec 32) (v4004 : BitVec 32) (k0_hw52 : k0_chk52 v4000 v4002 v4004), ∀ a, (k0_off129 v4002 v4004) a + S1x1x512x128.size a ≤ S3x2x512x128.size a := fun v4000 v4002 v4004 k0_hw52 => k0_hw52.2.2.1
theorem k0_off130_inb : ∀ (v4000 : BitVec 32) (v4002 : BitVec 32) (v4004 : BitVec 32) (k0_hw52 : k0_chk52 v4000 v4002 v4004), ∀ a, (k0_off130 v4002 v4004) a + S1x1x512x128.size a ≤ S3x2x512x128.size a := fun v4000 v4002 v4004 k0_hw52 => k0_hw52.2.2.2

def k0_off131 (k0_t1 : Fin k0_t1_loop.trips) : Fin 1 → Nat :=
  let c287_i32_2603 : BitVec 32 := 287#32
  let c0_i32_2602 : BitVec 32 := 0#32
  let c16_i32_2600 : BitVec 32 := 16#32
  let c0_i32_52 : BitVec 32 := 0#32
  let c1_i32_53 : BitVec 32 := 1#32
  let arg14 : BitVec 32 := Scf.iv c0_i32_52 c1_i32_53 k0_t1
  let v4119 : BitVec 32 := Scalar.muli c16_i32_2600 arg14
  let c13_i32 : BitVec 32 := 13#32
  let v4120 : BitVec 32 := Scalar.addi v4119 c13_i32
  let c2_i32_2601 : BitVec 32 := 2#32
  let v4121 : BitVec 32 := Scalar.subi v4120 c2_i32_2601
  let v4122 : BitVec 32 := Scalar.maxsi c0_i32_2602 v4121
  let v4123 : BitVec 32 := Scalar.minsi c287_i32_2603 v4122
  let v4124 : Index := Scalar.indexCast v4123
  ![v4124.toNat]
def k0_mult53 (v4127 : BitVec 32) : BitVec 32 :=
  let c512_i32_2604 : BitVec 32 := 512#32
  let v4130 : BitVec 32 := Scalar.muli v4127 c512_i32_2604
  v4130

def k0_off132 (v4125 : BitVec 32) (v4127 : BitVec 32) : Fin 4 → Nat :=
  let v4136 : Index := Scalar.indexCast v4125
  let c0_2608 : Index := 0#32
  let c512_i32_2604 : BitVec 32 := 512#32
  let v4130 : BitVec 32 := Scalar.muli v4127 c512_i32_2604
  let v4131 : BitVec 32 := v4130
  let v4137 : Index := Scalar.indexCast v4131
  let c0_2609 : Index := 0#32
  ![v4136.toNat, 0, v4137.toNat, 0]
def k0_mult54 (v4129 : BitVec 32) : BitVec 32 :=
  let c256_i32_2623 : BitVec 32 := 256#32
  let v4151 : BitVec 32 := Scalar.muli v4129 c256_i32_2623
  v4151

def k0_off133 (v4125 : BitVec 32) (v4129 : BitVec 32) : Fin 4 → Nat :=
  let v4153 : Index := Scalar.indexCast v4125
  let c0_2624 : Index := 0#32
  let c256_i32_2623 : BitVec 32 := 256#32
  let v4151 : BitVec 32 := Scalar.muli v4129 c256_i32_2623
  let v4152 : BitVec 32 := v4151
  let v4154 : Index := Scalar.indexCast v4152
  let c0_2625 : Index := 0#32
  ![v4153.toNat, 0, v4154.toNat, 0]

def k0_chk54 (v4125 : BitVec 32) (v4129 : BitVec 32) : Prop :=
  (256 ∣ (k0_mult54 v4129).toNat) ∧
  (∀ a, (k0_off133 v4125 v4129) a + S1x1x256x128.size a ≤ S4x1x4096x128.size a)
theorem k0_mult54_dvd : ∀ (v4125 : BitVec 32) (v4129 : BitVec 32) (k0_hw54 : k0_chk54 v4125 v4129), 256 ∣ (k0_mult54 v4129).toNat := fun v4125 v4129 k0_hw54 => k0_hw54.1
theorem k0_off133_inb : ∀ (v4125 : BitVec 32) (v4129 : BitVec 32) (k0_hw54 : k0_chk54 v4125 v4129), ∀ a, (k0_off133 v4125 v4129) a + S1x1x256x128.size a ≤ S4x1x4096x128.size a := fun v4125 v4129 k0_hw54 => k0_hw54.2

def k0_off134 (v4125 : BitVec 32) (v4127 : BitVec 32) : Fin 4 → Nat :=
  let v4168 : Index := Scalar.indexCast v4125
  let c0_2631 : Index := 0#32
  let c512_i32_2604 : BitVec 32 := 512#32
  let v4130 : BitVec 32 := Scalar.muli v4127 c512_i32_2604
  let v4131 : BitVec 32 := v4130
  let v4169 : Index := Scalar.indexCast v4131
  let c0_2632 : Index := 0#32
  ![v4168.toNat, 0, v4169.toNat, 0]

def k0_chk53 (v4125 : BitVec 32) (v4127 : BitVec 32) : Prop :=
  (512 ∣ (k0_mult53 v4127).toNat) ∧
  (∀ a, (k0_off132 v4125 v4127) a + S1x1x512x128.size a ≤ S4x1x4096x128.size a) ∧
  (∀ a, (k0_off134 v4125 v4127) a + S1x1x512x128.size a ≤ S4x1x4096x128.size a)
theorem k0_mult53_dvd : ∀ (v4125 : BitVec 32) (v4127 : BitVec 32) (k0_hw53 : k0_chk53 v4125 v4127), 512 ∣ (k0_mult53 v4127).toNat := fun v4125 v4127 k0_hw53 => k0_hw53.1
theorem k0_off132_inb : ∀ (v4125 : BitVec 32) (v4127 : BitVec 32) (k0_hw53 : k0_chk53 v4125 v4127), ∀ a, (k0_off132 v4125 v4127) a + S1x1x512x128.size a ≤ S4x1x4096x128.size a := fun v4125 v4127 k0_hw53 => k0_hw53.2.1
theorem k0_off134_inb : ∀ (v4125 : BitVec 32) (v4127 : BitVec 32) (k0_hw53 : k0_chk53 v4125 v4127), ∀ a, (k0_off134 v4125 v4127) a + S1x1x512x128.size a ≤ S4x1x4096x128.size a := fun v4125 v4127 k0_hw53 => k0_hw53.2.2

def k0_off135 (k0_t1 : Fin k0_t1_loop.trips) : Fin 1 → Nat :=
  let c287_i32_2635 : BitVec 32 := 287#32
  let c0_i32_2634 : BitVec 32 := 0#32
  let c16_i32_2600 : BitVec 32 := 16#32
  let c0_i32_52 : BitVec 32 := 0#32
  let c1_i32_53 : BitVec 32 := 1#32
  let arg14 : BitVec 32 := Scf.iv c0_i32_52 c1_i32_53 k0_t1
  let v4119 : BitVec 32 := Scalar.muli c16_i32_2600 arg14
  let c13_i32 : BitVec 32 := 13#32
  let v4120 : BitVec 32 := Scalar.addi v4119 c13_i32
  let c1_i32_2633 : BitVec 32 := 1#32
  let v4173 : BitVec 32 := Scalar.subi v4120 c1_i32_2633
  let v4174 : BitVec 32 := Scalar.maxsi c0_i32_2634 v4173
  let v4175 : BitVec 32 := Scalar.minsi c287_i32_2635 v4174
  let v4176 : Index := Scalar.indexCast v4175
  ![v4176.toNat]
def k0_off136 (k0_t1 : Fin k0_t1_loop.trips) : Fin 1 → Nat :=
  let c287_i32_2703 : BitVec 32 := 287#32
  let c0_i32_2702 : BitVec 32 := 0#32
  let c16_i32_2600 : BitVec 32 := 16#32
  let c0_i32_52 : BitVec 32 := 0#32
  let c1_i32_53 : BitVec 32 := 1#32
  let arg14 : BitVec 32 := Scf.iv c0_i32_52 c1_i32_53 k0_t1
  let v4119 : BitVec 32 := Scalar.muli c16_i32_2600 arg14
  let c13_i32 : BitVec 32 := 13#32
  let v4120 : BitVec 32 := Scalar.addi v4119 c13_i32
  let v4266 : BitVec 32 := Scalar.maxsi c0_i32_2702 v4120
  let v4267 : BitVec 32 := Scalar.minsi c287_i32_2703 v4266
  let v4268 : Index := Scalar.indexCast v4267
  ![v4268.toNat]
def k0_mult55 (v4271 : BitVec 32) : BitVec 32 :=
  let c512_i32_2704 : BitVec 32 := 512#32
  let v4274 : BitVec 32 := Scalar.muli v4271 c512_i32_2704
  v4274

def k0_off137 (v4269 : BitVec 32) (v4271 : BitVec 32) : Fin 4 → Nat :=
  let v4276 : Index := Scalar.indexCast v4269
  let c0_2705 : Index := 0#32
  let c512_i32_2704 : BitVec 32 := 512#32
  let v4274 : BitVec 32 := Scalar.muli v4271 c512_i32_2704
  let v4275 : BitVec 32 := v4274
  let v4277 : Index := Scalar.indexCast v4275
  let c0_2706 : Index := 0#32
  ![v4276.toNat, 0, v4277.toNat, 0]

def k0_chk55 (v4269 : BitVec 32) (v4271 : BitVec 32) : Prop :=
  (512 ∣ (k0_mult55 v4271).toNat) ∧
  (∀ a, (k0_off137 v4269 v4271) a + S1x1x512x128.size a ≤ S4x1x4096x128.size a)
theorem k0_mult55_dvd : ∀ (v4269 : BitVec 32) (v4271 : BitVec 32) (k0_hw55 : k0_chk55 v4269 v4271), 512 ∣ (k0_mult55 v4271).toNat := fun v4269 v4271 k0_hw55 => k0_hw55.1
theorem k0_off137_inb : ∀ (v4269 : BitVec 32) (v4271 : BitVec 32) (k0_hw55 : k0_chk55 v4269 v4271), ∀ a, (k0_off137 v4269 v4271) a + S1x1x512x128.size a ≤ S4x1x4096x128.size a := fun v4269 v4271 k0_hw55 => k0_hw55.2

def k0_mult56 (v4273 : BitVec 32) : BitVec 32 :=
  let c256_i32_2707 : BitVec 32 := 256#32
  let v4280 : BitVec 32 := Scalar.muli v4273 c256_i32_2707
  v4280

def k0_off138 (v4269 : BitVec 32) (v4273 : BitVec 32) : Fin 4 → Nat :=
  let v4282 : Index := Scalar.indexCast v4269
  let c0_2708 : Index := 0#32
  let c256_i32_2707 : BitVec 32 := 256#32
  let v4280 : BitVec 32 := Scalar.muli v4273 c256_i32_2707
  let v4281 : BitVec 32 := v4280
  let v4283 : Index := Scalar.indexCast v4281
  let c0_2709 : Index := 0#32
  ![v4282.toNat, 0, v4283.toNat, 0]
def k0_off139 (v4271 : BitVec 32) (v4273 : BitVec 32) : Fin 4 → Nat :=
  let c2_i32_2715 : BitVec 32 := 2#32
  let v4296 : BitVec 32 := Scalar.muli v4271 c2_i32_2715
  let v4297 : BitVec 32 := Scalar.subi v4273 v4296
  let c1_i32_2716 : BitVec 32 := 1#32
  let v4298 : BitVec 32 := Scalar.addi v4297 c1_i32_2716
  let c0_i32_2717 : BitVec 32 := 0#32
  let v4299 : BitVec 32 := Scalar.maxsi v4298 c0_i32_2717
  let v4301 : Index := Scalar.indexCast v4299
  let c0_2718 : Index := 0#32
  let c0_2719 : Index := 0#32
  let c0_2720 : Index := 0#32
  ![v4301.toNat, 0, 0, 0]
def k0_off140 (v4271 : BitVec 32) (v4273 : BitVec 32) : Fin 4 → Nat :=
  let c2_i32_2715 : BitVec 32 := 2#32
  let v4296 : BitVec 32 := Scalar.muli v4271 c2_i32_2715
  let v4297 : BitVec 32 := Scalar.subi v4273 v4296
  let c1_i32_2716 : BitVec 32 := 1#32
  let v4298 : BitVec 32 := Scalar.addi v4297 c1_i32_2716
  let c0_i32_2717 : BitVec 32 := 0#32
  let v4299 : BitVec 32 := Scalar.maxsi v4298 c0_i32_2717
  let v4323 : Index := Scalar.indexCast v4299
  let c1_2731 : Index := 1#32
  let c0_2732 : Index := 0#32
  let c0_2733 : Index := 0#32
  ![v4323.toNat, 1, 0, 0]

def k0_chk56 (v4269 : BitVec 32) (v4271 : BitVec 32) (v4273 : BitVec 32) : Prop :=
  (256 ∣ (k0_mult56 v4273).toNat) ∧
  (∀ a, (k0_off138 v4269 v4273) a + S1x1x256x128.size a ≤ S4x1x4096x128.size a) ∧
  (∀ a, (k0_off139 v4271 v4273) a + S1x1x512x128.size a ≤ S3x2x512x128.size a) ∧
  (∀ a, (k0_off140 v4271 v4273) a + S1x1x512x128.size a ≤ S3x2x512x128.size a)
theorem k0_mult56_dvd : ∀ (v4269 : BitVec 32) (v4271 : BitVec 32) (v4273 : BitVec 32) (k0_hw56 : k0_chk56 v4269 v4271 v4273), 256 ∣ (k0_mult56 v4273).toNat := fun v4269 v4271 v4273 k0_hw56 => k0_hw56.1
theorem k0_off138_inb : ∀ (v4269 : BitVec 32) (v4271 : BitVec 32) (v4273 : BitVec 32) (k0_hw56 : k0_chk56 v4269 v4271 v4273), ∀ a, (k0_off138 v4269 v4273) a + S1x1x256x128.size a ≤ S4x1x4096x128.size a := fun v4269 v4271 v4273 k0_hw56 => k0_hw56.2.1
theorem k0_off139_inb : ∀ (v4269 : BitVec 32) (v4271 : BitVec 32) (v4273 : BitVec 32) (k0_hw56 : k0_chk56 v4269 v4271 v4273), ∀ a, (k0_off139 v4271 v4273) a + S1x1x512x128.size a ≤ S3x2x512x128.size a := fun v4269 v4271 v4273 k0_hw56 => k0_hw56.2.2.1
theorem k0_off140_inb : ∀ (v4269 : BitVec 32) (v4271 : BitVec 32) (v4273 : BitVec 32) (k0_hw56 : k0_chk56 v4269 v4271 v4273), ∀ a, (k0_off140 v4271 v4273) a + S1x1x512x128.size a ≤ S3x2x512x128.size a := fun v4269 v4271 v4273 k0_hw56 => k0_hw56.2.2.2

def k0_off141 (k0_t1 : Fin k0_t1_loop.trips) : Fin 1 → Nat :=
  let c287_i32_2773 : BitVec 32 := 287#32
  let c0_i32_2772 : BitVec 32 := 0#32
  let c16_i32_2770 : BitVec 32 := 16#32
  let c0_i32_52 : BitVec 32 := 0#32
  let c1_i32_53 : BitVec 32 := 1#32
  let arg14 : BitVec 32 := Scf.iv c0_i32_52 c1_i32_53 k0_t1
  let v4388 : BitVec 32 := Scalar.muli c16_i32_2770 arg14
  let c14_i32 : BitVec 32 := 14#32
  let v4389 : BitVec 32 := Scalar.addi v4388 c14_i32
  let c2_i32_2771 : BitVec 32 := 2#32
  let v4390 : BitVec 32 := Scalar.subi v4389 c2_i32_2771
  let v4391 : BitVec 32 := Scalar.maxsi c0_i32_2772 v4390
  let v4392 : BitVec 32 := Scalar.minsi c287_i32_2773 v4391
  let v4393 : Index := Scalar.indexCast v4392
  ![v4393.toNat]
def k0_mult57 (v4396 : BitVec 32) : BitVec 32 :=
  let c512_i32_2774 : BitVec 32 := 512#32
  let v4399 : BitVec 32 := Scalar.muli v4396 c512_i32_2774
  v4399

def k0_off142 (v4394 : BitVec 32) (v4396 : BitVec 32) : Fin 4 → Nat :=
  let v4405 : Index := Scalar.indexCast v4394
  let c0_2778 : Index := 0#32
  let c512_i32_2774 : BitVec 32 := 512#32
  let v4399 : BitVec 32 := Scalar.muli v4396 c512_i32_2774
  let v4400 : BitVec 32 := v4399
  let v4406 : Index := Scalar.indexCast v4400
  let c0_2779 : Index := 0#32
  ![v4405.toNat, 0, v4406.toNat, 0]
def k0_mult58 (v4398 : BitVec 32) : BitVec 32 :=
  let c256_i32_2793 : BitVec 32 := 256#32
  let v4420 : BitVec 32 := Scalar.muli v4398 c256_i32_2793
  v4420

def k0_off143 (v4394 : BitVec 32) (v4398 : BitVec 32) : Fin 4 → Nat :=
  let v4422 : Index := Scalar.indexCast v4394
  let c0_2794 : Index := 0#32
  let c256_i32_2793 : BitVec 32 := 256#32
  let v4420 : BitVec 32 := Scalar.muli v4398 c256_i32_2793
  let v4421 : BitVec 32 := v4420
  let v4423 : Index := Scalar.indexCast v4421
  let c0_2795 : Index := 0#32
  ![v4422.toNat, 0, v4423.toNat, 0]

def k0_chk58 (v4394 : BitVec 32) (v4398 : BitVec 32) : Prop :=
  (256 ∣ (k0_mult58 v4398).toNat) ∧
  (∀ a, (k0_off143 v4394 v4398) a + S1x1x256x128.size a ≤ S4x1x4096x128.size a)
theorem k0_mult58_dvd : ∀ (v4394 : BitVec 32) (v4398 : BitVec 32) (k0_hw58 : k0_chk58 v4394 v4398), 256 ∣ (k0_mult58 v4398).toNat := fun v4394 v4398 k0_hw58 => k0_hw58.1
theorem k0_off143_inb : ∀ (v4394 : BitVec 32) (v4398 : BitVec 32) (k0_hw58 : k0_chk58 v4394 v4398), ∀ a, (k0_off143 v4394 v4398) a + S1x1x256x128.size a ≤ S4x1x4096x128.size a := fun v4394 v4398 k0_hw58 => k0_hw58.2

def k0_off144 (v4394 : BitVec 32) (v4396 : BitVec 32) : Fin 4 → Nat :=
  let v4437 : Index := Scalar.indexCast v4394
  let c0_2801 : Index := 0#32
  let c512_i32_2774 : BitVec 32 := 512#32
  let v4399 : BitVec 32 := Scalar.muli v4396 c512_i32_2774
  let v4400 : BitVec 32 := v4399
  let v4438 : Index := Scalar.indexCast v4400
  let c0_2802 : Index := 0#32
  ![v4437.toNat, 0, v4438.toNat, 0]

def k0_chk57 (v4394 : BitVec 32) (v4396 : BitVec 32) : Prop :=
  (512 ∣ (k0_mult57 v4396).toNat) ∧
  (∀ a, (k0_off142 v4394 v4396) a + S1x1x512x128.size a ≤ S4x1x4096x128.size a) ∧
  (∀ a, (k0_off144 v4394 v4396) a + S1x1x512x128.size a ≤ S4x1x4096x128.size a)
theorem k0_mult57_dvd : ∀ (v4394 : BitVec 32) (v4396 : BitVec 32) (k0_hw57 : k0_chk57 v4394 v4396), 512 ∣ (k0_mult57 v4396).toNat := fun v4394 v4396 k0_hw57 => k0_hw57.1
theorem k0_off142_inb : ∀ (v4394 : BitVec 32) (v4396 : BitVec 32) (k0_hw57 : k0_chk57 v4394 v4396), ∀ a, (k0_off142 v4394 v4396) a + S1x1x512x128.size a ≤ S4x1x4096x128.size a := fun v4394 v4396 k0_hw57 => k0_hw57.2.1
theorem k0_off144_inb : ∀ (v4394 : BitVec 32) (v4396 : BitVec 32) (k0_hw57 : k0_chk57 v4394 v4396), ∀ a, (k0_off144 v4394 v4396) a + S1x1x512x128.size a ≤ S4x1x4096x128.size a := fun v4394 v4396 k0_hw57 => k0_hw57.2.2

def k0_off145 (k0_t1 : Fin k0_t1_loop.trips) : Fin 1 → Nat :=
  let c287_i32_2805 : BitVec 32 := 287#32
  let c0_i32_2804 : BitVec 32 := 0#32
  let c16_i32_2770 : BitVec 32 := 16#32
  let c0_i32_52 : BitVec 32 := 0#32
  let c1_i32_53 : BitVec 32 := 1#32
  let arg14 : BitVec 32 := Scf.iv c0_i32_52 c1_i32_53 k0_t1
  let v4388 : BitVec 32 := Scalar.muli c16_i32_2770 arg14
  let c14_i32 : BitVec 32 := 14#32
  let v4389 : BitVec 32 := Scalar.addi v4388 c14_i32
  let c1_i32_2803 : BitVec 32 := 1#32
  let v4442 : BitVec 32 := Scalar.subi v4389 c1_i32_2803
  let v4443 : BitVec 32 := Scalar.maxsi c0_i32_2804 v4442
  let v4444 : BitVec 32 := Scalar.minsi c287_i32_2805 v4443
  let v4445 : Index := Scalar.indexCast v4444
  ![v4445.toNat]
def k0_off146 (k0_t1 : Fin k0_t1_loop.trips) : Fin 1 → Nat :=
  let c287_i32_2873 : BitVec 32 := 287#32
  let c0_i32_2872 : BitVec 32 := 0#32
  let c16_i32_2770 : BitVec 32 := 16#32
  let c0_i32_52 : BitVec 32 := 0#32
  let c1_i32_53 : BitVec 32 := 1#32
  let arg14 : BitVec 32 := Scf.iv c0_i32_52 c1_i32_53 k0_t1
  let v4388 : BitVec 32 := Scalar.muli c16_i32_2770 arg14
  let c14_i32 : BitVec 32 := 14#32
  let v4389 : BitVec 32 := Scalar.addi v4388 c14_i32
  let v4535 : BitVec 32 := Scalar.maxsi c0_i32_2872 v4389
  let v4536 : BitVec 32 := Scalar.minsi c287_i32_2873 v4535
  let v4537 : Index := Scalar.indexCast v4536
  ![v4537.toNat]
def k0_mult59 (v4540 : BitVec 32) : BitVec 32 :=
  let c512_i32_2874 : BitVec 32 := 512#32
  let v4543 : BitVec 32 := Scalar.muli v4540 c512_i32_2874
  v4543

def k0_off147 (v4538 : BitVec 32) (v4540 : BitVec 32) : Fin 4 → Nat :=
  let v4545 : Index := Scalar.indexCast v4538
  let c0_2875 : Index := 0#32
  let c512_i32_2874 : BitVec 32 := 512#32
  let v4543 : BitVec 32 := Scalar.muli v4540 c512_i32_2874
  let v4544 : BitVec 32 := v4543
  let v4546 : Index := Scalar.indexCast v4544
  let c0_2876 : Index := 0#32
  ![v4545.toNat, 0, v4546.toNat, 0]

def k0_chk59 (v4538 : BitVec 32) (v4540 : BitVec 32) : Prop :=
  (512 ∣ (k0_mult59 v4540).toNat) ∧
  (∀ a, (k0_off147 v4538 v4540) a + S1x1x512x128.size a ≤ S4x1x4096x128.size a)
theorem k0_mult59_dvd : ∀ (v4538 : BitVec 32) (v4540 : BitVec 32) (k0_hw59 : k0_chk59 v4538 v4540), 512 ∣ (k0_mult59 v4540).toNat := fun v4538 v4540 k0_hw59 => k0_hw59.1
theorem k0_off147_inb : ∀ (v4538 : BitVec 32) (v4540 : BitVec 32) (k0_hw59 : k0_chk59 v4538 v4540), ∀ a, (k0_off147 v4538 v4540) a + S1x1x512x128.size a ≤ S4x1x4096x128.size a := fun v4538 v4540 k0_hw59 => k0_hw59.2

def k0_mult60 (v4542 : BitVec 32) : BitVec 32 :=
  let c256_i32_2877 : BitVec 32 := 256#32
  let v4549 : BitVec 32 := Scalar.muli v4542 c256_i32_2877
  v4549

def k0_off148 (v4538 : BitVec 32) (v4542 : BitVec 32) : Fin 4 → Nat :=
  let v4551 : Index := Scalar.indexCast v4538
  let c0_2878 : Index := 0#32
  let c256_i32_2877 : BitVec 32 := 256#32
  let v4549 : BitVec 32 := Scalar.muli v4542 c256_i32_2877
  let v4550 : BitVec 32 := v4549
  let v4552 : Index := Scalar.indexCast v4550
  let c0_2879 : Index := 0#32
  ![v4551.toNat, 0, v4552.toNat, 0]
def k0_off149 (v4540 : BitVec 32) (v4542 : BitVec 32) : Fin 4 → Nat :=
  let c2_i32_2885 : BitVec 32 := 2#32
  let v4565 : BitVec 32 := Scalar.muli v4540 c2_i32_2885
  let v4566 : BitVec 32 := Scalar.subi v4542 v4565
  let c1_i32_2886 : BitVec 32 := 1#32
  let v4567 : BitVec 32 := Scalar.addi v4566 c1_i32_2886
  let c0_i32_2887 : BitVec 32 := 0#32
  let v4568 : BitVec 32 := Scalar.maxsi v4567 c0_i32_2887
  let v4570 : Index := Scalar.indexCast v4568
  let c0_2888 : Index := 0#32
  let c0_2889 : Index := 0#32
  let c0_2890 : Index := 0#32
  ![v4570.toNat, 0, 0, 0]
def k0_off150 (v4540 : BitVec 32) (v4542 : BitVec 32) : Fin 4 → Nat :=
  let c2_i32_2885 : BitVec 32 := 2#32
  let v4565 : BitVec 32 := Scalar.muli v4540 c2_i32_2885
  let v4566 : BitVec 32 := Scalar.subi v4542 v4565
  let c1_i32_2886 : BitVec 32 := 1#32
  let v4567 : BitVec 32 := Scalar.addi v4566 c1_i32_2886
  let c0_i32_2887 : BitVec 32 := 0#32
  let v4568 : BitVec 32 := Scalar.maxsi v4567 c0_i32_2887
  let v4592 : Index := Scalar.indexCast v4568
  let c1_2901 : Index := 1#32
  let c0_2902 : Index := 0#32
  let c0_2903 : Index := 0#32
  ![v4592.toNat, 1, 0, 0]

def k0_chk60 (v4538 : BitVec 32) (v4540 : BitVec 32) (v4542 : BitVec 32) : Prop :=
  (256 ∣ (k0_mult60 v4542).toNat) ∧
  (∀ a, (k0_off148 v4538 v4542) a + S1x1x256x128.size a ≤ S4x1x4096x128.size a) ∧
  (∀ a, (k0_off149 v4540 v4542) a + S1x1x512x128.size a ≤ S3x2x512x128.size a) ∧
  (∀ a, (k0_off150 v4540 v4542) a + S1x1x512x128.size a ≤ S3x2x512x128.size a)
theorem k0_mult60_dvd : ∀ (v4538 : BitVec 32) (v4540 : BitVec 32) (v4542 : BitVec 32) (k0_hw60 : k0_chk60 v4538 v4540 v4542), 256 ∣ (k0_mult60 v4542).toNat := fun v4538 v4540 v4542 k0_hw60 => k0_hw60.1
theorem k0_off148_inb : ∀ (v4538 : BitVec 32) (v4540 : BitVec 32) (v4542 : BitVec 32) (k0_hw60 : k0_chk60 v4538 v4540 v4542), ∀ a, (k0_off148 v4538 v4542) a + S1x1x256x128.size a ≤ S4x1x4096x128.size a := fun v4538 v4540 v4542 k0_hw60 => k0_hw60.2.1
theorem k0_off149_inb : ∀ (v4538 : BitVec 32) (v4540 : BitVec 32) (v4542 : BitVec 32) (k0_hw60 : k0_chk60 v4538 v4540 v4542), ∀ a, (k0_off149 v4540 v4542) a + S1x1x512x128.size a ≤ S3x2x512x128.size a := fun v4538 v4540 v4542 k0_hw60 => k0_hw60.2.2.1
theorem k0_off150_inb : ∀ (v4538 : BitVec 32) (v4540 : BitVec 32) (v4542 : BitVec 32) (k0_hw60 : k0_chk60 v4538 v4540 v4542), ∀ a, (k0_off150 v4540 v4542) a + S1x1x512x128.size a ≤ S3x2x512x128.size a := fun v4538 v4540 v4542 k0_hw60 => k0_hw60.2.2.2

def k0_off151 (k0_t1 : Fin k0_t1_loop.trips) : Fin 1 → Nat :=
  let c287_i32_2943 : BitVec 32 := 287#32
  let c0_i32_2942 : BitVec 32 := 0#32
  let c16_i32_2940 : BitVec 32 := 16#32
  let c0_i32_52 : BitVec 32 := 0#32
  let c1_i32_53 : BitVec 32 := 1#32
  let arg14 : BitVec 32 := Scf.iv c0_i32_52 c1_i32_53 k0_t1
  let v4657 : BitVec 32 := Scalar.muli c16_i32_2940 arg14
  let c15_i32 : BitVec 32 := 15#32
  let v4658 : BitVec 32 := Scalar.addi v4657 c15_i32
  let c2_i32_2941 : BitVec 32 := 2#32
  let v4659 : BitVec 32 := Scalar.subi v4658 c2_i32_2941
  let v4660 : BitVec 32 := Scalar.maxsi c0_i32_2942 v4659
  let v4661 : BitVec 32 := Scalar.minsi c287_i32_2943 v4660
  let v4662 : Index := Scalar.indexCast v4661
  ![v4662.toNat]
def k0_mult61 (v4665 : BitVec 32) : BitVec 32 :=
  let c512_i32_2944 : BitVec 32 := 512#32
  let v4668 : BitVec 32 := Scalar.muli v4665 c512_i32_2944
  v4668

def k0_off152 (v4663 : BitVec 32) (v4665 : BitVec 32) : Fin 4 → Nat :=
  let v4674 : Index := Scalar.indexCast v4663
  let c0_2948 : Index := 0#32
  let c512_i32_2944 : BitVec 32 := 512#32
  let v4668 : BitVec 32 := Scalar.muli v4665 c512_i32_2944
  let v4669 : BitVec 32 := v4668
  let v4675 : Index := Scalar.indexCast v4669
  let c0_2949 : Index := 0#32
  ![v4674.toNat, 0, v4675.toNat, 0]
def k0_mult62 (v4667 : BitVec 32) : BitVec 32 :=
  let c256_i32_2963 : BitVec 32 := 256#32
  let v4689 : BitVec 32 := Scalar.muli v4667 c256_i32_2963
  v4689

def k0_off153 (v4663 : BitVec 32) (v4667 : BitVec 32) : Fin 4 → Nat :=
  let v4691 : Index := Scalar.indexCast v4663
  let c0_2964 : Index := 0#32
  let c256_i32_2963 : BitVec 32 := 256#32
  let v4689 : BitVec 32 := Scalar.muli v4667 c256_i32_2963
  let v4690 : BitVec 32 := v4689
  let v4692 : Index := Scalar.indexCast v4690
  let c0_2965 : Index := 0#32
  ![v4691.toNat, 0, v4692.toNat, 0]

def k0_chk62 (v4663 : BitVec 32) (v4667 : BitVec 32) : Prop :=
  (256 ∣ (k0_mult62 v4667).toNat) ∧
  (∀ a, (k0_off153 v4663 v4667) a + S1x1x256x128.size a ≤ S4x1x4096x128.size a)
theorem k0_mult62_dvd : ∀ (v4663 : BitVec 32) (v4667 : BitVec 32) (k0_hw62 : k0_chk62 v4663 v4667), 256 ∣ (k0_mult62 v4667).toNat := fun v4663 v4667 k0_hw62 => k0_hw62.1
theorem k0_off153_inb : ∀ (v4663 : BitVec 32) (v4667 : BitVec 32) (k0_hw62 : k0_chk62 v4663 v4667), ∀ a, (k0_off153 v4663 v4667) a + S1x1x256x128.size a ≤ S4x1x4096x128.size a := fun v4663 v4667 k0_hw62 => k0_hw62.2

def k0_off154 (v4663 : BitVec 32) (v4665 : BitVec 32) : Fin 4 → Nat :=
  let v4706 : Index := Scalar.indexCast v4663
  let c0_2971 : Index := 0#32
  let c512_i32_2944 : BitVec 32 := 512#32
  let v4668 : BitVec 32 := Scalar.muli v4665 c512_i32_2944
  let v4669 : BitVec 32 := v4668
  let v4707 : Index := Scalar.indexCast v4669
  let c0_2972 : Index := 0#32
  ![v4706.toNat, 0, v4707.toNat, 0]

def k0_chk61 (v4663 : BitVec 32) (v4665 : BitVec 32) : Prop :=
  (512 ∣ (k0_mult61 v4665).toNat) ∧
  (∀ a, (k0_off152 v4663 v4665) a + S1x1x512x128.size a ≤ S4x1x4096x128.size a) ∧
  (∀ a, (k0_off154 v4663 v4665) a + S1x1x512x128.size a ≤ S4x1x4096x128.size a)
theorem k0_mult61_dvd : ∀ (v4663 : BitVec 32) (v4665 : BitVec 32) (k0_hw61 : k0_chk61 v4663 v4665), 512 ∣ (k0_mult61 v4665).toNat := fun v4663 v4665 k0_hw61 => k0_hw61.1
theorem k0_off152_inb : ∀ (v4663 : BitVec 32) (v4665 : BitVec 32) (k0_hw61 : k0_chk61 v4663 v4665), ∀ a, (k0_off152 v4663 v4665) a + S1x1x512x128.size a ≤ S4x1x4096x128.size a := fun v4663 v4665 k0_hw61 => k0_hw61.2.1
theorem k0_off154_inb : ∀ (v4663 : BitVec 32) (v4665 : BitVec 32) (k0_hw61 : k0_chk61 v4663 v4665), ∀ a, (k0_off154 v4663 v4665) a + S1x1x512x128.size a ≤ S4x1x4096x128.size a := fun v4663 v4665 k0_hw61 => k0_hw61.2.2

def k0_off155 (k0_t1 : Fin k0_t1_loop.trips) : Fin 1 → Nat :=
  let c287_i32_2975 : BitVec 32 := 287#32
  let c0_i32_2974 : BitVec 32 := 0#32
  let c16_i32_2940 : BitVec 32 := 16#32
  let c0_i32_52 : BitVec 32 := 0#32
  let c1_i32_53 : BitVec 32 := 1#32
  let arg14 : BitVec 32 := Scf.iv c0_i32_52 c1_i32_53 k0_t1
  let v4657 : BitVec 32 := Scalar.muli c16_i32_2940 arg14
  let c15_i32 : BitVec 32 := 15#32
  let v4658 : BitVec 32 := Scalar.addi v4657 c15_i32
  let c1_i32_2973 : BitVec 32 := 1#32
  let v4711 : BitVec 32 := Scalar.subi v4658 c1_i32_2973
  let v4712 : BitVec 32 := Scalar.maxsi c0_i32_2974 v4711
  let v4713 : BitVec 32 := Scalar.minsi c287_i32_2975 v4712
  let v4714 : Index := Scalar.indexCast v4713
  ![v4714.toNat]
def k0_off156 (k0_t1 : Fin k0_t1_loop.trips) : Fin 1 → Nat :=
  let c287_i32_3043 : BitVec 32 := 287#32
  let c0_i32_3042 : BitVec 32 := 0#32
  let c16_i32_2940 : BitVec 32 := 16#32
  let c0_i32_52 : BitVec 32 := 0#32
  let c1_i32_53 : BitVec 32 := 1#32
  let arg14 : BitVec 32 := Scf.iv c0_i32_52 c1_i32_53 k0_t1
  let v4657 : BitVec 32 := Scalar.muli c16_i32_2940 arg14
  let c15_i32 : BitVec 32 := 15#32
  let v4658 : BitVec 32 := Scalar.addi v4657 c15_i32
  let v4804 : BitVec 32 := Scalar.maxsi c0_i32_3042 v4658
  let v4805 : BitVec 32 := Scalar.minsi c287_i32_3043 v4804
  let v4806 : Index := Scalar.indexCast v4805
  ![v4806.toNat]
def k0_mult63 (v4809 : BitVec 32) : BitVec 32 :=
  let c512_i32_3044 : BitVec 32 := 512#32
  let v4812 : BitVec 32 := Scalar.muli v4809 c512_i32_3044
  v4812

def k0_off157 (v4807 : BitVec 32) (v4809 : BitVec 32) : Fin 4 → Nat :=
  let v4814 : Index := Scalar.indexCast v4807
  let c0_3045 : Index := 0#32
  let c512_i32_3044 : BitVec 32 := 512#32
  let v4812 : BitVec 32 := Scalar.muli v4809 c512_i32_3044
  let v4813 : BitVec 32 := v4812
  let v4815 : Index := Scalar.indexCast v4813
  let c0_3046 : Index := 0#32
  ![v4814.toNat, 0, v4815.toNat, 0]

def k0_chk63 (v4807 : BitVec 32) (v4809 : BitVec 32) : Prop :=
  (512 ∣ (k0_mult63 v4809).toNat) ∧
  (∀ a, (k0_off157 v4807 v4809) a + S1x1x512x128.size a ≤ S4x1x4096x128.size a)
theorem k0_mult63_dvd : ∀ (v4807 : BitVec 32) (v4809 : BitVec 32) (k0_hw63 : k0_chk63 v4807 v4809), 512 ∣ (k0_mult63 v4809).toNat := fun v4807 v4809 k0_hw63 => k0_hw63.1
theorem k0_off157_inb : ∀ (v4807 : BitVec 32) (v4809 : BitVec 32) (k0_hw63 : k0_chk63 v4807 v4809), ∀ a, (k0_off157 v4807 v4809) a + S1x1x512x128.size a ≤ S4x1x4096x128.size a := fun v4807 v4809 k0_hw63 => k0_hw63.2

def k0_mult64 (v4811 : BitVec 32) : BitVec 32 :=
  let c256_i32_3047 : BitVec 32 := 256#32
  let v4818 : BitVec 32 := Scalar.muli v4811 c256_i32_3047
  v4818

def k0_off158 (v4807 : BitVec 32) (v4811 : BitVec 32) : Fin 4 → Nat :=
  let v4820 : Index := Scalar.indexCast v4807
  let c0_3048 : Index := 0#32
  let c256_i32_3047 : BitVec 32 := 256#32
  let v4818 : BitVec 32 := Scalar.muli v4811 c256_i32_3047
  let v4819 : BitVec 32 := v4818
  let v4821 : Index := Scalar.indexCast v4819
  let c0_3049 : Index := 0#32
  ![v4820.toNat, 0, v4821.toNat, 0]
def k0_off159 (v4809 : BitVec 32) (v4811 : BitVec 32) : Fin 4 → Nat :=
  let c2_i32_3055 : BitVec 32 := 2#32
  let v4834 : BitVec 32 := Scalar.muli v4809 c2_i32_3055
  let v4835 : BitVec 32 := Scalar.subi v4811 v4834
  let c1_i32_3056 : BitVec 32 := 1#32
  let v4836 : BitVec 32 := Scalar.addi v4835 c1_i32_3056
  let c0_i32_3057 : BitVec 32 := 0#32
  let v4837 : BitVec 32 := Scalar.maxsi v4836 c0_i32_3057
  let v4839 : Index := Scalar.indexCast v4837
  let c0_3058 : Index := 0#32
  let c0_3059 : Index := 0#32
  let c0_3060 : Index := 0#32
  ![v4839.toNat, 0, 0, 0]
def k0_off160 (v4809 : BitVec 32) (v4811 : BitVec 32) : Fin 4 → Nat :=
  let c2_i32_3055 : BitVec 32 := 2#32
  let v4834 : BitVec 32 := Scalar.muli v4809 c2_i32_3055
  let v4835 : BitVec 32 := Scalar.subi v4811 v4834
  let c1_i32_3056 : BitVec 32 := 1#32
  let v4836 : BitVec 32 := Scalar.addi v4835 c1_i32_3056
  let c0_i32_3057 : BitVec 32 := 0#32
  let v4837 : BitVec 32 := Scalar.maxsi v4836 c0_i32_3057
  let v4861 : Index := Scalar.indexCast v4837
  let c1_3071 : Index := 1#32
  let c0_3072 : Index := 0#32
  let c0_3073 : Index := 0#32
  ![v4861.toNat, 1, 0, 0]

def k0_chk64 (v4807 : BitVec 32) (v4809 : BitVec 32) (v4811 : BitVec 32) : Prop :=
  (256 ∣ (k0_mult64 v4811).toNat) ∧
  (∀ a, (k0_off158 v4807 v4811) a + S1x1x256x128.size a ≤ S4x1x4096x128.size a) ∧
  (∀ a, (k0_off159 v4809 v4811) a + S1x1x512x128.size a ≤ S3x2x512x128.size a) ∧
  (∀ a, (k0_off160 v4809 v4811) a + S1x1x512x128.size a ≤ S3x2x512x128.size a)
theorem k0_mult64_dvd : ∀ (v4807 : BitVec 32) (v4809 : BitVec 32) (v4811 : BitVec 32) (k0_hw64 : k0_chk64 v4807 v4809 v4811), 256 ∣ (k0_mult64 v4811).toNat := fun v4807 v4809 v4811 k0_hw64 => k0_hw64.1
theorem k0_off158_inb : ∀ (v4807 : BitVec 32) (v4809 : BitVec 32) (v4811 : BitVec 32) (k0_hw64 : k0_chk64 v4807 v4809 v4811), ∀ a, (k0_off158 v4807 v4811) a + S1x1x256x128.size a ≤ S4x1x4096x128.size a := fun v4807 v4809 v4811 k0_hw64 => k0_hw64.2.1
theorem k0_off159_inb : ∀ (v4807 : BitVec 32) (v4809 : BitVec 32) (v4811 : BitVec 32) (k0_hw64 : k0_chk64 v4807 v4809 v4811), ∀ a, (k0_off159 v4809 v4811) a + S1x1x512x128.size a ≤ S3x2x512x128.size a := fun v4807 v4809 v4811 k0_hw64 => k0_hw64.2.2.1
theorem k0_off160_inb : ∀ (v4807 : BitVec 32) (v4809 : BitVec 32) (v4811 : BitVec 32) (k0_hw64 : k0_chk64 v4807 v4809 v4811), ∀ a, (k0_off160 v4809 v4811) a + S1x1x512x128.size a ≤ S3x2x512x128.size a := fun v4807 v4809 v4811 k0_hw64 => k0_hw64.2.2.2

def k0_off161 : Fin 1 → Nat :=
  let c287_i32 : BitVec 32 := 287#32
  let c0_i32_55 : BitVec 32 := 0#32
  let c286_i32 : BitVec 32 := 286#32
  let v92 : BitVec 32 := Scalar.maxsi c0_i32_55 c286_i32
  let v93 : BitVec 32 := Scalar.minsi c287_i32 v92
  let v94 : Index := Scalar.indexCast v93
  ![v94.toNat]
def k0_mult65 (v97 : BitVec 32) : BitVec 32 :=
  let c512_i32 : BitVec 32 := 512#32
  let v100 : BitVec 32 := Scalar.muli v97 c512_i32
  v100

def k0_off162 (v95 : BitVec 32) (v97 : BitVec 32) : Fin 4 → Nat :=
  let v106 : Index := Scalar.indexCast v95
  let c0_58 : Index := 0#32
  let c512_i32 : BitVec 32 := 512#32
  let v100 : BitVec 32 := Scalar.muli v97 c512_i32
  let v101 : BitVec 32 := v100
  let v107 : Index := Scalar.indexCast v101
  let c0_59 : Index := 0#32
  ![v106.toNat, 0, v107.toNat, 0]
def k0_mult66 (v99 : BitVec 32) : BitVec 32 :=
  let c256_i32_72 : BitVec 32 := 256#32
  let v121 : BitVec 32 := Scalar.muli v99 c256_i32_72
  v121

def k0_off163 (v95 : BitVec 32) (v99 : BitVec 32) : Fin 4 → Nat :=
  let v123 : Index := Scalar.indexCast v95
  let c0_73 : Index := 0#32
  let c256_i32_72 : BitVec 32 := 256#32
  let v121 : BitVec 32 := Scalar.muli v99 c256_i32_72
  let v122 : BitVec 32 := v121
  let v124 : Index := Scalar.indexCast v122
  let c0_74 : Index := 0#32
  ![v123.toNat, 0, v124.toNat, 0]

def k0_chk66 (v95 : BitVec 32) (v99 : BitVec 32) : Prop :=
  (256 ∣ (k0_mult66 v99).toNat) ∧
  (∀ a, (k0_off163 v95 v99) a + S1x1x256x128.size a ≤ S4x1x4096x128.size a)
theorem k0_mult66_dvd : ∀ (v95 : BitVec 32) (v99 : BitVec 32) (k0_hw66 : k0_chk66 v95 v99), 256 ∣ (k0_mult66 v99).toNat := fun v95 v99 k0_hw66 => k0_hw66.1
theorem k0_off163_inb : ∀ (v95 : BitVec 32) (v99 : BitVec 32) (k0_hw66 : k0_chk66 v95 v99), ∀ a, (k0_off163 v95 v99) a + S1x1x256x128.size a ≤ S4x1x4096x128.size a := fun v95 v99 k0_hw66 => k0_hw66.2

def k0_off164 (v95 : BitVec 32) (v97 : BitVec 32) : Fin 4 → Nat :=
  let v138 : Index := Scalar.indexCast v95
  let c0_80 : Index := 0#32
  let c512_i32 : BitVec 32 := 512#32
  let v100 : BitVec 32 := Scalar.muli v97 c512_i32
  let v101 : BitVec 32 := v100
  let v139 : Index := Scalar.indexCast v101
  let c0_81 : Index := 0#32
  ![v138.toNat, 0, v139.toNat, 0]

def k0_chk65 (v95 : BitVec 32) (v97 : BitVec 32) : Prop :=
  (512 ∣ (k0_mult65 v97).toNat) ∧
  (∀ a, (k0_off162 v95 v97) a + S1x1x512x128.size a ≤ S4x1x4096x128.size a) ∧
  (∀ a, (k0_off164 v95 v97) a + S1x1x512x128.size a ≤ S4x1x4096x128.size a)
theorem k0_mult65_dvd : ∀ (v95 : BitVec 32) (v97 : BitVec 32) (k0_hw65 : k0_chk65 v95 v97), 512 ∣ (k0_mult65 v97).toNat := fun v95 v97 k0_hw65 => k0_hw65.1
theorem k0_off162_inb : ∀ (v95 : BitVec 32) (v97 : BitVec 32) (k0_hw65 : k0_chk65 v95 v97), ∀ a, (k0_off162 v95 v97) a + S1x1x512x128.size a ≤ S4x1x4096x128.size a := fun v95 v97 k0_hw65 => k0_hw65.2.1
theorem k0_off164_inb : ∀ (v95 : BitVec 32) (v97 : BitVec 32) (k0_hw65 : k0_chk65 v95 v97), ∀ a, (k0_off164 v95 v97) a + S1x1x512x128.size a ≤ S4x1x4096x128.size a := fun v95 v97 k0_hw65 => k0_hw65.2.2

def k0_off165 (c287_i32_82 : BitVec 32) : Fin 1 → Nat :=
  let c287_i32_84 : BitVec 32 := 287#32
  let c0_i32_83 : BitVec 32 := 0#32
  let v143 : BitVec 32 := Scalar.maxsi c0_i32_83 c287_i32_82
  let v144 : BitVec 32 := Scalar.minsi c287_i32_84 v143
  let v145 : Index := Scalar.indexCast v144
  ![v145.toNat]
def k0_mult67 (v240 : BitVec 32) : BitVec 32 :=
  let c512_i32_153 : BitVec 32 := 512#32
  let v243 : BitVec 32 := Scalar.muli v240 c512_i32_153
  v243

def k0_off166 (v238 : BitVec 32) (v240 : BitVec 32) : Fin 4 → Nat :=
  let v245 : Index := Scalar.indexCast v238
  let c0_154 : Index := 0#32
  let c512_i32_153 : BitVec 32 := 512#32
  let v243 : BitVec 32 := Scalar.muli v240 c512_i32_153
  let v244 : BitVec 32 := v243
  let v246 : Index := Scalar.indexCast v244
  let c0_155 : Index := 0#32
  ![v245.toNat, 0, v246.toNat, 0]

def k0_chk67 (v238 : BitVec 32) (v240 : BitVec 32) : Prop :=
  (512 ∣ (k0_mult67 v240).toNat) ∧
  (∀ a, (k0_off166 v238 v240) a + S1x1x512x128.size a ≤ S4x1x4096x128.size a)
theorem k0_mult67_dvd : ∀ (v238 : BitVec 32) (v240 : BitVec 32) (k0_hw67 : k0_chk67 v238 v240), 512 ∣ (k0_mult67 v240).toNat := fun v238 v240 k0_hw67 => k0_hw67.1
theorem k0_off166_inb : ∀ (v238 : BitVec 32) (v240 : BitVec 32) (k0_hw67 : k0_chk67 v238 v240), ∀ a, (k0_off166 v238 v240) a + S1x1x512x128.size a ≤ S4x1x4096x128.size a := fun v238 v240 k0_hw67 => k0_hw67.2

def k0_mult68 (v242 : BitVec 32) : BitVec 32 :=
  let c256_i32_156 : BitVec 32 := 256#32
  let v249 : BitVec 32 := Scalar.muli v242 c256_i32_156
  v249

def k0_off167 (v238 : BitVec 32) (v242 : BitVec 32) : Fin 4 → Nat :=
  let v251 : Index := Scalar.indexCast v238
  let c0_157 : Index := 0#32
  let c256_i32_156 : BitVec 32 := 256#32
  let v249 : BitVec 32 := Scalar.muli v242 c256_i32_156
  let v250 : BitVec 32 := v249
  let v252 : Index := Scalar.indexCast v250
  let c0_158 : Index := 0#32
  ![v251.toNat, 0, v252.toNat, 0]
def k0_off168 (v240 : BitVec 32) (v242 : BitVec 32) : Fin 4 → Nat :=
  let c2_i32_164 : BitVec 32 := 2#32
  let v265 : BitVec 32 := Scalar.muli v240 c2_i32_164
  let v266 : BitVec 32 := Scalar.subi v242 v265
  let c1_i32_165 : BitVec 32 := 1#32
  let v267 : BitVec 32 := Scalar.addi v266 c1_i32_165
  let c0_i32_166 : BitVec 32 := 0#32
  let v268 : BitVec 32 := Scalar.maxsi v267 c0_i32_166
  let v270 : Index := Scalar.indexCast v268
  let c0_167 : Index := 0#32
  let c0_168 : Index := 0#32
  let c0_169 : Index := 0#32
  ![v270.toNat, 0, 0, 0]
def k0_off169 (v240 : BitVec 32) (v242 : BitVec 32) : Fin 4 → Nat :=
  let c2_i32_164 : BitVec 32 := 2#32
  let v265 : BitVec 32 := Scalar.muli v240 c2_i32_164
  let v266 : BitVec 32 := Scalar.subi v242 v265
  let c1_i32_165 : BitVec 32 := 1#32
  let v267 : BitVec 32 := Scalar.addi v266 c1_i32_165
  let c0_i32_166 : BitVec 32 := 0#32
  let v268 : BitVec 32 := Scalar.maxsi v267 c0_i32_166
  let v292 : Index := Scalar.indexCast v268
  let c1_180 : Index := 1#32
  let c0_181 : Index := 0#32
  let c0_182 : Index := 0#32
  ![v292.toNat, 1, 0, 0]

def k0_chk68 (v238 : BitVec 32) (v240 : BitVec 32) (v242 : BitVec 32) : Prop :=
  (256 ∣ (k0_mult68 v242).toNat) ∧
  (∀ a, (k0_off167 v238 v242) a + S1x1x256x128.size a ≤ S4x1x4096x128.size a) ∧
  (∀ a, (k0_off168 v240 v242) a + S1x1x512x128.size a ≤ S3x2x512x128.size a) ∧
  (∀ a, (k0_off169 v240 v242) a + S1x1x512x128.size a ≤ S3x2x512x128.size a)
theorem k0_mult68_dvd : ∀ (v238 : BitVec 32) (v240 : BitVec 32) (v242 : BitVec 32) (k0_hw68 : k0_chk68 v238 v240 v242), 256 ∣ (k0_mult68 v242).toNat := fun v238 v240 v242 k0_hw68 => k0_hw68.1
theorem k0_off167_inb : ∀ (v238 : BitVec 32) (v240 : BitVec 32) (v242 : BitVec 32) (k0_hw68 : k0_chk68 v238 v240 v242), ∀ a, (k0_off167 v238 v242) a + S1x1x256x128.size a ≤ S4x1x4096x128.size a := fun v238 v240 v242 k0_hw68 => k0_hw68.2.1
theorem k0_off168_inb : ∀ (v238 : BitVec 32) (v240 : BitVec 32) (v242 : BitVec 32) (k0_hw68 : k0_chk68 v238 v240 v242), ∀ a, (k0_off168 v240 v242) a + S1x1x512x128.size a ≤ S3x2x512x128.size a := fun v238 v240 v242 k0_hw68 => k0_hw68.2.2.1
theorem k0_off169_inb : ∀ (v238 : BitVec 32) (v240 : BitVec 32) (v242 : BitVec 32) (k0_hw68 : k0_chk68 v238 v240 v242), ∀ a, (k0_off169 v240 v242) a + S1x1x512x128.size a ≤ S3x2x512x128.size a := fun v238 v240 v242 k0_hw68 => k0_hw68.2.2.2

def k0_off170 : Fin 1 → Nat :=
  let c287_i32_221 : BitVec 32 := 287#32
  let c0_i32_220 : BitVec 32 := 0#32
  let c287_i32_219 : BitVec 32 := 287#32
  let v357 : BitVec 32 := Scalar.maxsi c0_i32_220 c287_i32_219
  let v358 : BitVec 32 := Scalar.minsi c287_i32_221 v357
  let v359 : Index := Scalar.indexCast v358
  ![v359.toNat]
def k0_mult69 (v362 : BitVec 32) : BitVec 32 :=
  let c512_i32_222 : BitVec 32 := 512#32
  let v365 : BitVec 32 := Scalar.muli v362 c512_i32_222
  v365

def k0_off171 (v360 : BitVec 32) (v362 : BitVec 32) : Fin 4 → Nat :=
  let v371 : Index := Scalar.indexCast v360
  let c0_226 : Index := 0#32
  let c512_i32_222 : BitVec 32 := 512#32
  let v365 : BitVec 32 := Scalar.muli v362 c512_i32_222
  let v366 : BitVec 32 := v365
  let v372 : Index := Scalar.indexCast v366
  let c0_227 : Index := 0#32
  ![v371.toNat, 0, v372.toNat, 0]
def k0_mult70 (v364 : BitVec 32) : BitVec 32 :=
  let c256_i32_241 : BitVec 32 := 256#32
  let v386 : BitVec 32 := Scalar.muli v364 c256_i32_241
  v386

def k0_off172 (v360 : BitVec 32) (v364 : BitVec 32) : Fin 4 → Nat :=
  let v388 : Index := Scalar.indexCast v360
  let c0_242 : Index := 0#32
  let c256_i32_241 : BitVec 32 := 256#32
  let v386 : BitVec 32 := Scalar.muli v364 c256_i32_241
  let v387 : BitVec 32 := v386
  let v389 : Index := Scalar.indexCast v387
  let c0_243 : Index := 0#32
  ![v388.toNat, 0, v389.toNat, 0]

def k0_chk70 (v360 : BitVec 32) (v364 : BitVec 32) : Prop :=
  (256 ∣ (k0_mult70 v364).toNat) ∧
  (∀ a, (k0_off172 v360 v364) a + S1x1x256x128.size a ≤ S4x1x4096x128.size a)
theorem k0_mult70_dvd : ∀ (v360 : BitVec 32) (v364 : BitVec 32) (k0_hw70 : k0_chk70 v360 v364), 256 ∣ (k0_mult70 v364).toNat := fun v360 v364 k0_hw70 => k0_hw70.1
theorem k0_off172_inb : ∀ (v360 : BitVec 32) (v364 : BitVec 32) (k0_hw70 : k0_chk70 v360 v364), ∀ a, (k0_off172 v360 v364) a + S1x1x256x128.size a ≤ S4x1x4096x128.size a := fun v360 v364 k0_hw70 => k0_hw70.2

def k0_off173 (v360 : BitVec 32) (v362 : BitVec 32) : Fin 4 → Nat :=
  let v403 : Index := Scalar.indexCast v360
  let c0_249 : Index := 0#32
  let c512_i32_222 : BitVec 32 := 512#32
  let v365 : BitVec 32 := Scalar.muli v362 c512_i32_222
  let v366 : BitVec 32 := v365
  let v404 : Index := Scalar.indexCast v366
  let c0_250 : Index := 0#32
  ![v403.toNat, 0, v404.toNat, 0]

def k0_chk69 (v360 : BitVec 32) (v362 : BitVec 32) : Prop :=
  (512 ∣ (k0_mult69 v362).toNat) ∧
  (∀ a, (k0_off171 v360 v362) a + S1x1x512x128.size a ≤ S4x1x4096x128.size a) ∧
  (∀ a, (k0_off173 v360 v362) a + S1x1x512x128.size a ≤ S4x1x4096x128.size a)
theorem k0_mult69_dvd : ∀ (v360 : BitVec 32) (v362 : BitVec 32) (k0_hw69 : k0_chk69 v360 v362), 512 ∣ (k0_mult69 v362).toNat := fun v360 v362 k0_hw69 => k0_hw69.1
theorem k0_off171_inb : ∀ (v360 : BitVec 32) (v362 : BitVec 32) (k0_hw69 : k0_chk69 v360 v362), ∀ a, (k0_off171 v360 v362) a + S1x1x512x128.size a ≤ S4x1x4096x128.size a := fun v360 v362 k0_hw69 => k0_hw69.2.1
theorem k0_off173_inb : ∀ (v360 : BitVec 32) (v362 : BitVec 32) (k0_hw69 : k0_chk69 v360 v362), ∀ a, (k0_off173 v360 v362) a + S1x1x512x128.size a ≤ S4x1x4096x128.size a := fun v360 v362 k0_hw69 => k0_hw69.2.2

def k0_off174 (c288_i32_251 : BitVec 32) : Fin 1 → Nat :=
  let c287_i32_253 : BitVec 32 := 287#32
  let c0_i32_252 : BitVec 32 := 0#32
  let v408 : BitVec 32 := Scalar.maxsi c0_i32_252 c288_i32_251
  let v409 : BitVec 32 := Scalar.minsi c287_i32_253 v408
  let v410 : Index := Scalar.indexCast v409
  ![v410.toNat]
def k0_mult71 (v505 : BitVec 32) : BitVec 32 :=
  let c512_i32_322 : BitVec 32 := 512#32
  let v508 : BitVec 32 := Scalar.muli v505 c512_i32_322
  v508

def k0_off175 (v503 : BitVec 32) (v505 : BitVec 32) : Fin 4 → Nat :=
  let v510 : Index := Scalar.indexCast v503
  let c0_323 : Index := 0#32
  let c512_i32_322 : BitVec 32 := 512#32
  let v508 : BitVec 32 := Scalar.muli v505 c512_i32_322
  let v509 : BitVec 32 := v508
  let v511 : Index := Scalar.indexCast v509
  let c0_324 : Index := 0#32
  ![v510.toNat, 0, v511.toNat, 0]

def k0_chk71 (v503 : BitVec 32) (v505 : BitVec 32) : Prop :=
  (512 ∣ (k0_mult71 v505).toNat) ∧
  (∀ a, (k0_off175 v503 v505) a + S1x1x512x128.size a ≤ S4x1x4096x128.size a)
theorem k0_mult71_dvd : ∀ (v503 : BitVec 32) (v505 : BitVec 32) (k0_hw71 : k0_chk71 v503 v505), 512 ∣ (k0_mult71 v505).toNat := fun v503 v505 k0_hw71 => k0_hw71.1
theorem k0_off175_inb : ∀ (v503 : BitVec 32) (v505 : BitVec 32) (k0_hw71 : k0_chk71 v503 v505), ∀ a, (k0_off175 v503 v505) a + S1x1x512x128.size a ≤ S4x1x4096x128.size a := fun v503 v505 k0_hw71 => k0_hw71.2

def k0_mult72 (v507 : BitVec 32) : BitVec 32 :=
  let c256_i32_325 : BitVec 32 := 256#32
  let v514 : BitVec 32 := Scalar.muli v507 c256_i32_325
  v514

def k0_off176 (v503 : BitVec 32) (v507 : BitVec 32) : Fin 4 → Nat :=
  let v516 : Index := Scalar.indexCast v503
  let c0_326 : Index := 0#32
  let c256_i32_325 : BitVec 32 := 256#32
  let v514 : BitVec 32 := Scalar.muli v507 c256_i32_325
  let v515 : BitVec 32 := v514
  let v517 : Index := Scalar.indexCast v515
  let c0_327 : Index := 0#32
  ![v516.toNat, 0, v517.toNat, 0]
def k0_off177 (v505 : BitVec 32) (v507 : BitVec 32) : Fin 4 → Nat :=
  let c2_i32_333 : BitVec 32 := 2#32
  let v530 : BitVec 32 := Scalar.muli v505 c2_i32_333
  let v531 : BitVec 32 := Scalar.subi v507 v530
  let c1_i32_334 : BitVec 32 := 1#32
  let v532 : BitVec 32 := Scalar.addi v531 c1_i32_334
  let c0_i32_335 : BitVec 32 := 0#32
  let v533 : BitVec 32 := Scalar.maxsi v532 c0_i32_335
  let v535 : Index := Scalar.indexCast v533
  let c0_336 : Index := 0#32
  let c0_337 : Index := 0#32
  let c0_338 : Index := 0#32
  ![v535.toNat, 0, 0, 0]
def k0_off178 (v505 : BitVec 32) (v507 : BitVec 32) : Fin 4 → Nat :=
  let c2_i32_333 : BitVec 32 := 2#32
  let v530 : BitVec 32 := Scalar.muli v505 c2_i32_333
  let v531 : BitVec 32 := Scalar.subi v507 v530
  let c1_i32_334 : BitVec 32 := 1#32
  let v532 : BitVec 32 := Scalar.addi v531 c1_i32_334
  let c0_i32_335 : BitVec 32 := 0#32
  let v533 : BitVec 32 := Scalar.maxsi v532 c0_i32_335
  let v557 : Index := Scalar.indexCast v533
  let c1_349 : Index := 1#32
  let c0_350 : Index := 0#32
  let c0_351 : Index := 0#32
  ![v557.toNat, 1, 0, 0]

def k0_chk72 (v503 : BitVec 32) (v505 : BitVec 32) (v507 : BitVec 32) : Prop :=
  (256 ∣ (k0_mult72 v507).toNat) ∧
  (∀ a, (k0_off176 v503 v507) a + S1x1x256x128.size a ≤ S4x1x4096x128.size a) ∧
  (∀ a, (k0_off177 v505 v507) a + S1x1x512x128.size a ≤ S3x2x512x128.size a) ∧
  (∀ a, (k0_off178 v505 v507) a + S1x1x512x128.size a ≤ S3x2x512x128.size a)
theorem k0_mult72_dvd : ∀ (v503 : BitVec 32) (v505 : BitVec 32) (v507 : BitVec 32) (k0_hw72 : k0_chk72 v503 v505 v507), 256 ∣ (k0_mult72 v507).toNat := fun v503 v505 v507 k0_hw72 => k0_hw72.1
theorem k0_off176_inb : ∀ (v503 : BitVec 32) (v505 : BitVec 32) (v507 : BitVec 32) (k0_hw72 : k0_chk72 v503 v505 v507), ∀ a, (k0_off176 v503 v507) a + S1x1x256x128.size a ≤ S4x1x4096x128.size a := fun v503 v505 v507 k0_hw72 => k0_hw72.2.1
theorem k0_off177_inb : ∀ (v503 : BitVec 32) (v505 : BitVec 32) (v507 : BitVec 32) (k0_hw72 : k0_chk72 v503 v505 v507), ∀ a, (k0_off177 v505 v507) a + S1x1x512x128.size a ≤ S3x2x512x128.size a := fun v503 v505 v507 k0_hw72 => k0_hw72.2.2.1
theorem k0_off178_inb : ∀ (v503 : BitVec 32) (v505 : BitVec 32) (v507 : BitVec 32) (k0_hw72 : k0_chk72 v503 v505 v507), ∀ a, (k0_off178 v505 v507) a + S1x1x512x128.size a ≤ S3x2x512x128.size a := fun v503 v505 v507 k0_hw72 => k0_hw72.2.2.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | "neg_log2e" => some ((-((Real.log 2)⁻¹) : ℝ) : EReal)
  | _ => none
-- ==== ReferenceIdeal.lean ====
abbrev S4x4x4096x128 : Shape := ⟨4, ![4, 4, 4096, 128]⟩
abbrev S4x4x4096x2x64 : Shape := ⟨5, ![4, 4, 4096, 2, 64]⟩
abbrev S4x4x2x4096x64 : Shape := ⟨5, ![4, 4, 2, 4096, 64]⟩
abbrev S4x8x4096x64 : Shape := ⟨4, ![4, 8, 4096, 64]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4x4x4096x128, .bf16⟩
  | .hbm, ⟨1, _⟩ => ⟨S4x4x4096x128, .bf16⟩
  | .hbm, ⟨2, _⟩ => ⟨S4x4x4096x128, .bf16⟩
  | .hbm, ⟨3, _⟩ => ⟨S4x4x4096x128, .f32⟩
  | .hbm, ⟨4, _⟩ => ⟨S4x4x4096x2x64, .f32⟩
  | .hbm, ⟨5, _⟩ => ⟨S4x4x2x4096x64, .f32⟩
  | .hbm, ⟨6, _⟩ => ⟨S4x8x4096x64, .f32⟩
  | .hbm, ⟨7, _⟩ => ⟨S4x4x4096x128, .f32⟩
  | .hbm, ⟨8, _⟩ => ⟨S4x4x4096x2x64, .f32⟩
  | .hbm, ⟨9, _⟩ => ⟨S4x4x2x4096x64, .f32⟩
  | .hbm, ⟨10, _⟩ => ⟨S4x8x4096x64, .f32⟩
  | .hbm, ⟨11, _⟩ => ⟨S4x4x4096x128, .f32⟩
  | .hbm, ⟨12, _⟩ => ⟨S4x4x4096x2x64, .f32⟩
  | .hbm, ⟨13, _⟩ => ⟨S4x4x2x4096x64, .f32⟩
  | .hbm, ⟨14, _⟩ => ⟨S4x8x4096x64, .f32⟩
  | .hbm, ⟨15, _⟩ => ⟨S4x8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4x8x4096x4096, .f32⟩
  | .hbm, ⟨23, _⟩ => ⟨S_, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .i1⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .i1⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S_, .f32⟩
  | .hbm, ⟨56, _⟩ => ⟨S_, .f32⟩
  | .hbm, ⟨57, _⟩ => ⟨S4x8x4096x4096, .i1⟩
  | .hbm, ⟨58, _⟩ => ⟨S4x8x4096x4096, .f32⟩
  | .hbm, ⟨59, _⟩ => ⟨S4x8x4096x4096, .f32⟩
  | .hbm, ⟨60, _⟩ => ⟨S_, .f32⟩
  | .hbm, ⟨61, _⟩ => ⟨S_, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S_, .f32⟩
  | .hbm, ⟨67, _⟩ => ⟨S_, .f32⟩
  | .hbm, ⟨68, _⟩ => ⟨S4x8x4096x4096, .i1⟩
  | .hbm, ⟨69, _⟩ => ⟨S4x8x4096x4096, .f32⟩
  | .hbm, ⟨70, _⟩ => ⟨S4x8x4096x4096, .f32⟩
  | .hbm, ⟨71, _⟩ => ⟨S4x8x4096x64, .f32⟩
  | .hbm, ⟨72, _⟩ => ⟨S4x4x2x4096x64, .f32⟩
  | .hbm, ⟨73, _⟩ => ⟨S4x4x4096x2x64, .f32⟩
  | .hbm, ⟨74, _⟩ => ⟨S4x4x4096x128, .f32⟩
  | _, _ => ⟨S4x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v21 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v22 : Ref sig .tc := ⟨.hbm, 59, rfl⟩
abbrev main_call3_cst : Ref sig .tc := ⟨.hbm, 60, rfl⟩
abbrev main_call3_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_0 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S4x16384x128 : Shape := ⟨3, ![4, 16384, 128]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S4x512x128 : Shape := ⟨3, ![4, 512, 128]⟩
abbrev S512x2816 : Shape := ⟨2, ![512, 2816]⟩
abbrev S6x128x2816 : Shape := ⟨3, ![6, 128, 2816]⟩
abbrev S6 : Shape := ⟨1, ![6]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S1x128x2816 : Shape := ⟨3, ![1, 128, 2816]⟩
abbrev S128x2816 : Shape := ⟨2, ![128, 2816]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S4x16384x128, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S4x512x128, .f32⟩
  | .local _ .vmem, ⟨5, _⟩ => ⟨S4x512x128, .f32⟩
  | .local _ .vmem, ⟨6, _⟩ => ⟨S1x512, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S6x128x2816, .f32⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch6 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_136 : BitVec 32 := 0#32
  let c8_i32 : BitVec 32 := 8#32
  let v201 : BitVec 32 := Scalar.addi c0_i32_136 c8_i32
  let c1_i32_137 : BitVec 32 := 1#32
  ⟨c0_i32_136, v201, c1_i32_137⟩
def k0_cond2 (k0_t1 : Fin k0_t1_loop.trips) : BitVec 1 :=
  let c0_i32_136 : BitVec 32 := 0#32
  let c1_i32_137 : BitVec 32 := 1#32
  let arg18 : BitVec 32 := Scf.iv c0_i32_136 c1_i32_137 k0_t1
  let c6_i32_245 : BitVec 32 := 6#32
  let v290 : BitVec 32 := Scalar.addi arg18 c6_i32_245
  let c1_i32_246 : BitVec 32 := 1#32
  let v291 : BitVec 32 := Scalar.subi v290 c1_i32_246
  let c8_i32_247 : BitVec 32 := 8#32
  let v292 : BitVec 1 := Scalar.cmpi .slt v291 c8_i32_247
  let v293 : BitVec 32 := Scalar.extui v292
  let c0_i32_248 : BitVec 32 := 0#32
  let v294 : BitVec 1 := Scalar.cmpi .ne v293 c0_i32_248
  v294

def k0_off1 (k0_t1 : Fin k0_t1_loop.trips) : Fin 1 → Nat :=
  let c0_i32_136 : BitVec 32 := 0#32
  let c1_i32_137 : BitVec 32 := 1#32
  let arg18 : BitVec 32 := Scf.iv c0_i32_136 c1_i32_137 k0_t1
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  ![v320.toNat]
def k0_off2 (k0_t1 : Fin k0_t1_loop.trips) : Fin 3 → Nat :=
  let c0_i32_136 : BitVec 32 := 0#32
  let c1_i32_137 : BitVec 32 := 1#32
  let arg18 : BitVec 32 := Scf.iv c0_i32_136 c1_i32_137 k0_t1
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  let c0_i32_264 : BitVec 32 := 0#32
  let c0_i32_265 : BitVec 32 := 0#32
  ![v320.toNat, 0, 0]
def k0_off3 (k0_t1 : Fin k0_t1_loop.trips) : Fin 2 → Nat :=
  let c0_i32_136 : BitVec 32 := 0#32
  let c1_i32_137 : BitVec 32 := 1#32
  let arg18 : BitVec 32 := Scf.iv c0_i32_136 c1_i32_137 k0_t1
  let c6_i32_245 : BitVec 32 := 6#32
  let v290 : BitVec 32 := Scalar.addi arg18 c6_i32_245
  let c1_i32_246 : BitVec 32 := 1#32
  let v291 : BitVec 32 := Scalar.subi v290 c1_i32_246
  let c128_i32_263 : BitVec 32 := 128#32
  let v321 : BitVec 32 := Scalar.muli v291 c128_i32_263
  let c0_i32_266 : BitVec 32 := 0#32
  ![v321.toNat, 0]
def k0_off4 (k0_t1 : Fin k0_t1_loop.trips) : Fin 1 → Nat :=
  let c0_i32_136 : BitVec 32 := 0#32
  let c1_i32_137 : BitVec 32 := 1#32
  let arg18 : BitVec 32 := Scf.iv c0_i32_136 c1_i32_137 k0_t1
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  ![v289.toNat]
def k0_off5 (k0_t1 : Fin k0_t1_loop.trips) : Fin 3 → Nat :=
  let c0_i32_136 : BitVec 32 := 0#32
  let c1_i32_137 : BitVec 32 := 1#32
  let arg18 : BitVec 32 := Scf.iv c0_i32_136 c1_i32_137 k0_t1
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let c0_i32_250 : BitVec 32 := 0#32
  let c0_i32_251 : BitVec 32 := 0#32
  ![v289.toNat, 0, 0]
def k0_off6 (k0_t1 : Fin k0_t1_loop.trips) : Fin 2 → Nat :=
  let c0_i32_136 : BitVec 32 := 0#32
  let c1_i32_137 : BitVec 32 := 1#32
  let arg18 : BitVec 32 := Scf.iv c0_i32_136 c1_i32_137 k0_t1
  let c128_i32_249 : BitVec 32 := 128#32
  let v295 : BitVec 32 := Scalar.muli arg18 c128_i32_249
  let c0_i32_252 : BitVec 32 := 0#32
  ![v295.toNat, 0]
def k0_mult1 (k0_t1 : Fin k0_t1_loop.trips) : BitVec 32 :=
  let c0_i32_136 : BitVec 32 := 0#32
  let c1_i32_137 : BitVec 32 := 1#32
  let arg18 : BitVec 32 := Scf.iv c0_i32_136 c1_i32_137 k0_t1
  let c128_i32_253 : BitVec 32 := 128#32
  let v301 : BitVec 32 := Scalar.muli arg18 c128_i32_253
  v301
def k0_off7 (k0_t1 : Fin k0_t1_loop.trips) : Fin 3 → Nat :=
  let c0_i32_136 : BitVec 32 := 0#32
  let c1_i32_137 : BitVec 32 := 1#32
  let arg18 : BitVec 32 := Scf.iv c0_i32_136 c1_i32_137 k0_t1
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let v303 : Index := Scalar.indexCast v289
  let c0_254 : Index := 0#32
  let c0_255 : Index := 0#32
  ![v303.toNat, 0, 0]
def k0_off8 (k0_t1 : Fin k0_t1_loop.trips) : Fin 2 → Nat :=
  let c0_i32_136 : BitVec 32 := 0#32
  let c1_i32_137 : BitVec 32 := 1#32
  let arg18 : BitVec 32 := Scf.iv c0_i32_136 c1_i32_137 k0_t1
  let c128_i32_253 : BitVec 32 := 128#32
  let v301 : BitVec 32 := Scalar.muli arg18 c128_i32_253
  let v302 : BitVec 32 := v301
  let v307 : Index := Scalar.indexCast v302
  let c0_256 : Index := 0#32
  ![v307.toNat, 0]
@[reducible] def k0_t2_loop : Scf.Loop 32 :=
  let c0_i32_169 : BitVec 32 := 0#32
  let c8_i32_170 : BitVec 32 := 8#32
  let v227 : BitVec 32 := Scalar.addi c0_i32_169 c8_i32_170
  let c1_i32_171 : BitVec 32 := 1#32
  ⟨c0_i32_169, v227, c1_i32_171⟩
def k0_cond3 (k0_t2 : Fin k0_t2_loop.trips) : BitVec 1 :=
  let c0_i32_169 : BitVec 32 := 0#32
  let c1_i32_171 : BitVec 32 := 1#32
  let arg18 : BitVec 32 := Scf.iv c0_i32_169 c1_i32_171 k0_t2
  let c6_i32_245 : BitVec 32 := 6#32
  let v290 : BitVec 32 := Scalar.addi arg18 c6_i32_245
  let c1_i32_246 : BitVec 32 := 1#32
  let v291 : BitVec 32 := Scalar.subi v290 c1_i32_246
  let c8_i32_247 : BitVec 32 := 8#32
  let v292 : BitVec 1 := Scalar.cmpi .slt v291 c8_i32_247
  let v293 : BitVec 32 := Scalar.extui v292
  let c0_i32_248 : BitVec 32 := 0#32
  let v294 : BitVec 1 := Scalar.cmpi .ne v293 c0_i32_248
  v294

def k0_off9 (k0_t2 : Fin k0_t2_loop.trips) : Fin 1 → Nat :=
  let c0_i32_169 : BitVec 32 := 0#32
  let c1_i32_171 : BitVec 32 := 1#32
  let arg18 : BitVec 32 := Scf.iv c0_i32_169 c1_i32_171 k0_t2
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  ![v320.toNat]
def k0_off10 (k0_t2 : Fin k0_t2_loop.trips) : Fin 3 → Nat :=
  let c0_i32_169 : BitVec 32 := 0#32
  let c1_i32_171 : BitVec 32 := 1#32
  let arg18 : BitVec 32 := Scf.iv c0_i32_169 c1_i32_171 k0_t2
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  let c0_i32_264 : BitVec 32 := 0#32
  let c0_i32_265 : BitVec 32 := 0#32
  ![v320.toNat, 0, 0]
def k0_off11 (k0_t2 : Fin k0_t2_loop.trips) : Fin 2 → Nat :=
  let c0_i32_169 : BitVec 32 := 0#32
  let c1_i32_171 : BitVec 32 := 1#32
  let arg18 : BitVec 32 := Scf.iv c0_i32_169 c1_i32_171 k0_t2
  let c6_i32_245 : BitVec 32 := 6#32
  let v290 : BitVec 32 := Scalar.addi arg18 c6_i32_245
  let c1_i32_246 : BitVec 32 := 1#32
  let v291 : BitVec 32 := Scalar.subi v290 c1_i32_246
  let c128_i32_263 : BitVec 32 := 128#32
  let v321 : BitVec 32 := Scalar.muli v291 c128_i32_263
  let c0_i32_266 : BitVec 32 := 0#32
  ![v321.toNat, 0]
def k0_off12 (k0_t2 : Fin k0_t2_loop.trips) : Fin 1 → Nat :=
  let c0_i32_169 : BitVec 32 := 0#32
  let c1_i32_171 : BitVec 32 := 1#32
  let arg18 : BitVec 32 := Scf.iv c0_i32_169 c1_i32_171 k0_t2
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  ![v289.toNat]
def k0_off13 (k0_t2 : Fin k0_t2_loop.trips) : Fin 3 → Nat :=
  let c0_i32_169 : BitVec 32 := 0#32
  let c1_i32_171 : BitVec 32 := 1#32
  let arg18 : BitVec 32 := Scf.iv c0_i32_169 c1_i32_171 k0_t2
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let c0_i32_250 : BitVec 32 := 0#32
  let c0_i32_251 : BitVec 32 := 0#32
  ![v289.toNat, 0, 0]
def k0_off14 (k0_t2 : Fin k0_t2_loop.trips) : Fin 2 → Nat :=
  let c0_i32_169 : BitVec 32 := 0#32
  let c1_i32_171 : BitVec 32 := 1#32
  let arg18 : BitVec 32 := Scf.iv c0_i32_169 c1_i32_171 k0_t2
  let c128_i32_249 : BitVec 32 := 128#32
  let v295 : BitVec 32 := Scalar.muli arg18 c128_i32_249
  let c0_i32_252 : BitVec 32 := 0#32
  ![v295.toNat, 0]
def k0_mult2 (k0_t2 : Fin k0_t2_loop.trips) : BitVec 32 :=
  let c0_i32_169 : BitVec 32 := 0#32
  let c1_i32_171 : BitVec 32 := 1#32
  let arg18 : BitVec 32 := Scf.iv c0_i32_169 c1_i32_171 k0_t2
  let c128_i32_253 : BitVec 32 := 128#32
  let v301 : BitVec 32 := Scalar.muli arg18 c128_i32_253
  v301
def k0_off15 (k0_t2 : Fin k0_t2_loop.trips) : Fin 3 → Nat :=
  let c0_i32_169 : BitVec 32 := 0#32
  let c1_i32_171 : BitVec 32 := 1#32
  let arg18 : BitVec 32 := Scf.iv c0_i32_169 c1_i32_171 k0_t2
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let v303 : Index := Scalar.indexCast v289
  let c0_254 : Index := 0#32
  let c0_255 : Index := 0#32
  ![v303.toNat, 0, 0]
def k0_off16 (k0_t2 : Fin k0_t2_loop.trips) : Fin 2 → Nat :=
  let c0_i32_169 : BitVec 32 := 0#32
  let c1_i32_171 : BitVec 32 := 1#32
  let arg18 : BitVec 32 := Scf.iv c0_i32_169 c1_i32_171 k0_t2
  let c128_i32_253 : BitVec 32 := 128#32
  let v301 : BitVec 32 := Scalar.muli arg18 c128_i32_253
  let v302 : BitVec 32 := v301
  let v307 : Index := Scalar.indexCast v302
  let c0_256 : Index := 0#32
  ![v307.toNat, 0]
@[reducible] def k0_t3_loop : Scf.Loop 32 :=
  let c0_i32_203 : BitVec 32 := 0#32
  let c8_i32_204 : BitVec 32 := 8#32
  let v253 : BitVec 32 := Scalar.addi c0_i32_203 c8_i32_204
  let c1_i32_205 : BitVec 32 := 1#32
  ⟨c0_i32_203, v253, c1_i32_205⟩
def k0_cond4 (k0_t3 : Fin k0_t3_loop.trips) : BitVec 1 :=
  let c0_i32_203 : BitVec 32 := 0#32
  let c1_i32_205 : BitVec 32 := 1#32
  let arg18 : BitVec 32 := Scf.iv c0_i32_203 c1_i32_205 k0_t3
  let c6_i32_245 : BitVec 32 := 6#32
  let v290 : BitVec 32 := Scalar.addi arg18 c6_i32_245
  let c1_i32_246 : BitVec 32 := 1#32
  let v291 : BitVec 32 := Scalar.subi v290 c1_i32_246
  let c8_i32_247 : BitVec 32 := 8#32
  let v292 : BitVec 1 := Scalar.cmpi .slt v291 c8_i32_247
  let v293 : BitVec 32 := Scalar.extui v292
  let c0_i32_248 : BitVec 32 := 0#32
  let v294 : BitVec 1 := Scalar.cmpi .ne v293 c0_i32_248
  v294

def k0_off17 (k0_t3 : Fin k0_t3_loop.trips) : Fin 1 → Nat :=
  let c0_i32_203 : BitVec 32 := 0#32
  let c1_i32_205 : BitVec 32 := 1#32
  let arg18 : BitVec 32 := Scf.iv c0_i32_203 c1_i32_205 k0_t3
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  ![v320.toNat]
def k0_off18 (k0_t3 : Fin k0_t3_loop.trips) : Fin 3 → Nat :=
  let c0_i32_203 : BitVec 32 := 0#32
  let c1_i32_205 : BitVec 32 := 1#32
  let arg18 : BitVec 32 := Scf.iv c0_i32_203 c1_i32_205 k0_t3
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  let c0_i32_264 : BitVec 32 := 0#32
  let c0_i32_265 : BitVec 32 := 0#32
  ![v320.toNat, 0, 0]
def k0_off19 (k0_t3 : Fin k0_t3_loop.trips) : Fin 2 → Nat :=
  let c0_i32_203 : BitVec 32 := 0#32
  let c1_i32_205 : BitVec 32 := 1#32
  let arg18 : BitVec 32 := Scf.iv c0_i32_203 c1_i32_205 k0_t3
  let c6_i32_245 : BitVec 32 := 6#32
  let v290 : BitVec 32 := Scalar.addi arg18 c6_i32_245
  let c1_i32_246 : BitVec 32 := 1#32
  let v291 : BitVec 32 := Scalar.subi v290 c1_i32_246
  let c128_i32_263 : BitVec 32 := 128#32
  let v321 : BitVec 32 := Scalar.muli v291 c128_i32_263
  let c0_i32_266 : BitVec 32 := 0#32
  ![v321.toNat, 0]
def k0_off20 (k0_t3 : Fin k0_t3_loop.trips) : Fin 1 → Nat :=
  let c0_i32_203 : BitVec 32 := 0#32
  let c1_i32_205 : BitVec 32 := 1#32
  let arg18 : BitVec 32 := Scf.iv c0_i32_203 c1_i32_205 k0_t3
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  ![v289.toNat]
def k0_off21 (k0_t3 : Fin k0_t3_loop.trips) : Fin 3 → Nat :=
  let c0_i32_203 : BitVec 32 := 0#32
  let c1_i32_205 : BitVec 32 := 1#32
  let arg18 : BitVec 32 := Scf.iv c0_i32_203 c1_i32_205 k0_t3
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let c0_i32_250 : BitVec 32 := 0#32
  let c0_i32_251 : BitVec 32 := 0#32
  ![v289.toNat, 0, 0]
def k0_off22 (k0_t3 : Fin k0_t3_loop.trips) : Fin 2 → Nat :=
  let c0_i32_203 : BitVec 32 := 0#32
  let c1_i32_205 : BitVec 32 := 1#32
  let arg18 : BitVec 32 := Scf.iv c0_i32_203 c1_i32_205 k0_t3
  let c128_i32_249 : BitVec 32 := 128#32
  let v295 : BitVec 32 := Scalar.muli arg18 c128_i32_249
  let c0_i32_252 : BitVec 32 := 0#32
  ![v295.toNat, 0]
def k0_mult3 (k0_t3 : Fin k0_t3_loop.trips) : BitVec 32 :=
  let c0_i32_203 : BitVec 32 := 0#32
  let c1_i32_205 : BitVec 32 := 1#32
  let arg18 : BitVec 32 := Scf.iv c0_i32_203 c1_i32_205 k0_t3
  let c128_i32_253 : BitVec 32 := 128#32
  let v301 : BitVec 32 := Scalar.muli arg18 c128_i32_253
  v301
def k0_off23 (k0_t3 : Fin k0_t3_loop.trips) : Fin 3 → Nat :=
  let c0_i32_203 : BitVec 32 := 0#32
  let c1_i32_205 : BitVec 32 := 1#32
  let arg18 : BitVec 32 := Scf.iv c0_i32_203 c1_i32_205 k0_t3
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let v303 : Index := Scalar.indexCast v289
  let c0_254 : Index := 0#32
  let c0_255 : Index := 0#32
  ![v303.toNat, 0, 0]
def k0_off24 (k0_t3 : Fin k0_t3_loop.trips) : Fin 2 → Nat :=
  let c0_i32_203 : BitVec 32 := 0#32
  let c1_i32_205 : BitVec 32 := 1#32
  let arg18 : BitVec 32 := Scf.iv c0_i32_203 c1_i32_205 k0_t3
  let c128_i32_253 : BitVec 32 := 128#32
  let v301 : BitVec 32 := Scalar.muli arg18 c128_i32_253
  let v302 : BitVec 32 := v301
  let v307 : Index := Scalar.indexCast v302
  let c0_256 : Index := 0#32
  ![v307.toNat, 0]
@[reducible] def k0_t4_loop : Scf.Loop 32 :=
  let c0_i32_237 : BitVec 32 := 0#32
  let c22_i32 : BitVec 32 := 22#32
  let v279 : BitVec 32 := Scalar.addi c0_i32_237 c22_i32
  let c1_i32_238 : BitVec 32 := 1#32
  ⟨c0_i32_237, v279, c1_i32_238⟩
def k0_cond5 (k0_t4 : Fin k0_t4_loop.trips) : BitVec 1 :=
  let c0_i32_237 : BitVec 32 := 0#32
  let c1_i32_238 : BitVec 32 := 1#32
  let arg18 : BitVec 32 := Scf.iv c0_i32_237 c1_i32_238 k0_t4
  let c6_i32_245 : BitVec 32 := 6#32
  let v290 : BitVec 32 := Scalar.addi arg18 c6_i32_245
  let c1_i32_246 : BitVec 32 := 1#32
  let v291 : BitVec 32 := Scalar.subi v290 c1_i32_246
  let c22_i32_247 : BitVec 32 := 22#32
  let v292 : BitVec 1 := Scalar.cmpi .slt v291 c22_i32_247
  let v293 : BitVec 32 := Scalar.extui v292
  let c0_i32_248 : BitVec 32 := 0#32
  let v294 : BitVec 1 := Scalar.cmpi .ne v293 c0_i32_248
  v294

def k0_off25 (k0_t4 : Fin k0_t4_loop.trips) : Fin 1 → Nat :=
  let c0_i32_237 : BitVec 32 := 0#32
  let c1_i32_238 : BitVec 32 := 1#32
  let arg18 : BitVec 32 := Scf.iv c0_i32_237 c1_i32_238 k0_t4
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  ![v320.toNat]
def k0_off26 (k0_t4 : Fin k0_t4_loop.trips) : Fin 3 → Nat :=
  let c0_i32_237 : BitVec 32 := 0#32
  let c1_i32_238 : BitVec 32 := 1#32
  let arg18 : BitVec 32 := Scf.iv c0_i32_237 c1_i32_238 k0_t4
  let c6_i32_245 : BitVec 32 := 6#32
  let v290 : BitVec 32 := Scalar.addi arg18 c6_i32_245
  let c1_i32_246 : BitVec 32 := 1#32
  let v291 : BitVec 32 := Scalar.subi v290 c1_i32_246
  let c6_i32_257 : BitVec 32 := 6#32
  let c0_i32_258 : BitVec 32 := 0#32
  let v311 : BitVec 1 := Scalar.cmpi .eq c6_i32_257 c0_i32_258
  let c1_i32_259 : BitVec 32 := 1#32
  let v312 : BitVec 32 := Scalar.select v311 c1_i32_259 c6_i32_257
  let v313 : BitVec 32 := Scalar.remsi v291 v312
  let c0_i32_261 : BitVec 32 := 0#32
  let v315 : BitVec 1 := Scalar.cmpi .slt v313 c0_i32_261
  let c0_i32_262 : BitVec 32 := 0#32
  let v316 : BitVec 1 := Scalar.cmpi .slt v312 c0_i32_262
  let v317 : BitVec 1 := Scalar.xori v315 v316
  let c0_i32_260 : BitVec 32 := 0#32
  let v314 : BitVec 1 := Scalar.cmpi .ne v313 c0_i32_260
  let v318 : BitVec 1 := Scalar.andi v317 v314
  let v319 : BitVec 32 := Scalar.addi v313 v312
  let v320 : BitVec 32 := Scalar.select v318 v319 v313
  let c0_i32_264 : BitVec 32 := 0#32
  let c0_i32_265 : BitVec 32 := 0#32
  ![v320.toNat, 0, 0]
def k0_off27 (k0_t4 : Fin k0_t4_loop.trips) : Fin 2 → Nat :=
  let c0_i32_237 : BitVec 32 := 0#32
  let c1_i32_238 : BitVec 32 := 1#32
  let arg18 : BitVec 32 := Scf.iv c0_i32_237 c1_i32_238 k0_t4
  let c6_i32_245 : BitVec 32 := 6#32
  let v290 : BitVec 32 := Scalar.addi arg18 c6_i32_245
  let c1_i32_246 : BitVec 32 := 1#32
  let v291 : BitVec 32 := Scalar.subi v290 c1_i32_246
  let c128_i32_263 : BitVec 32 := 128#32
  let v321 : BitVec 32 := Scalar.muli v291 c128_i32_263
  let c0_i32_266 : BitVec 32 := 0#32
  ![v321.toNat, 0]
def k0_off28 (k0_t4 : Fin k0_t4_loop.trips) : Fin 1 → Nat :=
  let c0_i32_237 : BitVec 32 := 0#32
  let c1_i32_238 : BitVec 32 := 1#32
  let arg18 : BitVec 32 := Scf.iv c0_i32_237 c1_i32_238 k0_t4
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  ![v289.toNat]
def k0_off29 (k0_t4 : Fin k0_t4_loop.trips) : Fin 3 → Nat :=
  let c0_i32_237 : BitVec 32 := 0#32
  let c1_i32_238 : BitVec 32 := 1#32
  let arg18 : BitVec 32 := Scf.iv c0_i32_237 c1_i32_238 k0_t4
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let c0_i32_250 : BitVec 32 := 0#32
  let c0_i32_251 : BitVec 32 := 0#32
  ![v289.toNat, 0, 0]
def k0_off30 (k0_t4 : Fin k0_t4_loop.trips) : Fin 2 → Nat :=
  let c0_i32_237 : BitVec 32 := 0#32
  let c1_i32_238 : BitVec 32 := 1#32
  let arg18 : BitVec 32 := Scf.iv c0_i32_237 c1_i32_238 k0_t4
  let c128_i32_249 : BitVec 32 := 128#32
  let v295 : BitVec 32 := Scalar.muli arg18 c128_i32_249
  let c0_i32_252 : BitVec 32 := 0#32
  ![v295.toNat, 0]
def k0_mult4 (k0_t4 : Fin k0_t4_loop.trips) : BitVec 32 :=
  let c0_i32_237 : BitVec 32 := 0#32
  let c1_i32_238 : BitVec 32 := 1#32
  let arg18 : BitVec 32 := Scf.iv c0_i32_237 c1_i32_238 k0_t4
  let c128_i32_253 : BitVec 32 := 128#32
  let v301 : BitVec 32 := Scalar.muli arg18 c128_i32_253
  v301
def k0_off31 (k0_t4 : Fin k0_t4_loop.trips) : Fin 3 → Nat :=
  let c0_i32_237 : BitVec 32 := 0#32
  let c1_i32_238 : BitVec 32 := 1#32
  let arg18 : BitVec 32 := Scf.iv c0_i32_237 c1_i32_238 k0_t4
  let c6_i32 : BitVec 32 := 6#32
  let c0_i32_240 : BitVec 32 := 0#32
  let v280 : BitVec 1 := Scalar.cmpi .eq c6_i32 c0_i32_240
  let c1_i32_241 : BitVec 32 := 1#32
  let v281 : BitVec 32 := Scalar.select v280 c1_i32_241 c6_i32
  let v282 : BitVec 32 := Scalar.remsi arg18 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let v303 : Index := Scalar.indexCast v289
  let c0_254 : Index := 0#32
  let c0_255 : Index := 0#32
  ![v303.toNat, 0, 0]
def k0_off32 (k0_t4 : Fin k0_t4_loop.trips) : Fin 2 → Nat :=
  let c0_i32_237 : BitVec 32 := 0#32
  let c1_i32_238 : BitVec 32 := 1#32
  let arg18 : BitVec 32 := Scf.iv c0_i32_237 c1_i32_238 k0_t4
  let c128_i32_253 : BitVec 32 := 128#32
  let v301 : BitVec 32 := Scalar.muli arg18 c128_i32_253
  let v302 : BitVec 32 := v301
  let v307 : Index := Scalar.indexCast v302
  let c0_256 : Index := 0#32
  ![v307.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S16384x512 : Shape := ⟨2, ![16384, 512]⟩
abbrev S4x16384x128 : Shape := ⟨3, ![4, 16384, 128]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S16384x4x128 : Shape := ⟨3, ![16384, 4, 128]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S4x16384x128, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S1024x2560 : Shape := ⟨2, ![1024, 2560]⟩
abbrev S1x512 : Shape := ⟨2, ![1, 512]⟩
abbrev S256x128 : Shape := ⟨2, ![256, 128]⟩
abbrev S4x512 : Shape := ⟨2, ![4, 512]⟩
abbrev S512x512 : Shape := ⟨2, ![512, 512]⟩
abbrev S16384x512 : Shape := ⟨2, ![16384, 512]⟩
abbrev S4x16384x128 : Shape := ⟨3, ![4, 16384, 128]⟩
abbrev S512x1024 : Shape := ⟨2, ![512, 1024]⟩
abbrev S4x512x128 : Shape := ⟨3, ![4, 512, 128]⟩
abbrev S512x2816 : Shape := ⟨2, ![512, 2816]⟩
abbrev S6x128x2816 : Shape := ⟨3, ![6, 128, 2816]⟩
abbrev S6 : Shape := ⟨1, ![6]⟩
abbrev S520x512 : Shape := ⟨2, ![520, 512]⟩
abbrev S1 : Shape := ⟨1, ![1]⟩
abbrev S_ : Shape := ⟨0, ![]⟩
abbrev S1x128x2816 : Shape := ⟨3, ![1, 128, 2816]⟩
abbrev S128x2816 : Shape := ⟨2, ![128, 2816]⟩
abbrev S1x128x1024 : Shape := ⟨3, ![1, 128, 1024]⟩
abbrev S128x1024 : Shape := ⟨2, ![128, 1024]⟩
abbrev S1x128x2560 : Shape := ⟨3, ![1, 128, 2560]⟩
abbrev S128x2560 : Shape := ⟨2, ![128, 2560]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S8x128 : Shape := ⟨2, ![8, 128]⟩
abbrev S1x128 : Shape := ⟨2, ![1, 128]⟩
abbrev S128x128 : Shape := ⟨2, ![128, 128]⟩
abbrev S64x8x128 : Shape := ⟨3, ![64, 8, 128]⟩
abbrev S1x8x128 : Shape := ⟨3, ![1, 8, 128]⟩
abbrev S1024x512 : Shape := ⟨2, ![1024, 512]⟩
abbrev S1x512x128 : Shape := ⟨3, ![1, 512, 128]⟩

abbrev nBuf : Space → Nat
  | .hbm => 23
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2560, .f32⟩
  | .hbm, ⟨7, _⟩ => ⟨S1x512, .f32⟩
  | .hbm, ⟨8, _⟩ => ⟨S1x512, .f32⟩
  | .hbm, ⟨9, _⟩ => ⟨S256x128, .bf16⟩
  | .hbm, ⟨10, _⟩ => ⟨S4x512, .f32⟩
  | .hbm, ⟨11, _⟩ => ⟨S1x512, .f32⟩
  | .hbm, ⟨12, _⟩ => ⟨S512x512, .bf16⟩
  | .hbm, ⟨13, _⟩ => ⟨S1x512, .f32⟩
  | .hbm, ⟨14, _⟩ => ⟨S512x512, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S16384x1024, .f32⟩
  | .hbm, ⟨19, _⟩ => ⟨S16384x512, .bf16⟩
  | .hbm, ⟨20, _⟩ => ⟨S4x16384x128, .bf16⟩
  | .hbm, ⟨21, _⟩ => ⟨S4x16384x128, .bf16⟩
  | .hbm, ⟨22, _⟩ => ⟨S4x16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x512, .f32⟩
  | .local _ .vmem, ⟨5, _⟩ => ⟨S1x512, .f32⟩
  | .local _ .vmem, ⟨6, _⟩ => ⟨S256x128, .bf16⟩
  | .local _ .vmem, ⟨7, _⟩ => ⟨S4x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1024, .f32⟩
  | .local _ .vmem, ⟨16, _⟩ => ⟨S512x1024, .f32⟩
  | .local _ .vmem, ⟨17, _⟩ => ⟨S512x512, .bf16⟩
  | .local _ .vmem, ⟨18, _⟩ => ⟨S512x512, .bf16⟩
  | .local _ .vmem, ⟨19, _⟩ => ⟨S4x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | .local _ .vmem, ⟨24, _⟩ => ⟨S4x512x128, .bf16⟩
  | .local _ .vmem, ⟨25, _⟩ => ⟨S512x2816, .bf16⟩
  | .local _ .vmem, ⟨26, _⟩ => ⟨S1024x2816, .bf16⟩
  | .local _ .vmem, ⟨27, _⟩ => ⟨S1024x2816, .bf16⟩
  | .local _ .vmem, ⟨28, _⟩ => ⟨S2816x1024, .bf16⟩
  | .local _ .vmem, ⟨29, _⟩ => ⟨S6x128x2816, .f32⟩
  | .local _ .vmem, ⟨30, _⟩ => ⟨S1024x2560, .bf16⟩
  | .local _ .vmem, ⟨31, _⟩ => ⟨S512x512, .f32⟩
  | .local _ .vmem, ⟨32, _⟩ => ⟨S512x512, .f32⟩
  | .local _ .vmem, ⟨33, _⟩ => ⟨S520x512, .f32⟩
  | .local _ .vmem, ⟨34, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_479 : BitVec 32 := 0#32
  let c8_i32_480 : BitVec 32 := 8#32
  let v3160 : BitVec 32 := Scalar.addi c0_i32_479 c8_i32_480
  let c1_i32_481 : BitVec 32 := 1#32
  ⟨c0_i32_479, v3160, c1_i32_481⟩
def k0_cond2 (k0_t1 : Fin k0_t1_loop.trips) : BitVec 1 :=
  let c0_i32_479 : BitVec 32 := 0#32
  let c1_i32_481 : BitVec 32 := 1#32
  let arg35 : BitVec 32 := Scf.iv c0_i32_479 c1_i32_481 k0_t1
  let c6_i32_601 : BitVec 32 := 6#32
  let v3265 : BitVec 32 := Scalar.addi arg35 c6_i32_601
  let c1_i32_602 : BitVec 32 := 1#32
  let v3266 : BitVec 32 := Scalar.subi v3265 c1_i32_602
  let c8_i32_603 : BitVec 32 := 8#32
  let v3267 : BitVec 1 := Scalar.cmpi .slt v3266 c8_i32_603
  let v3268 : BitVec 32 := Scalar.extui v3267
  let c0_i32_604 : BitVec 32 := 0#32
  let v3269 : BitVec 1 := Scalar.cmpi .ne v3268 c0_i32_604
  v3269

def k0_off1 (k0_t1 : Fin k0_t1_loop.trips) : Fin 1 → Nat :=
  let c0_i32_479 : BitVec 32 := 0#32
  let c1_i32_481 : BitVec 32 := 1#32
  let arg35 : BitVec 32 := Scf.iv c0_i32_479 c1_i32_481 k0_t1
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  ![v3295.toNat]
def k0_off2 (k0_t1 : Fin k0_t1_loop.trips) : Fin 3 → Nat :=
  let c0_i32_479 : BitVec 32 := 0#32
  let c1_i32_481 : BitVec 32 := 1#32
  let arg35 : BitVec 32 := Scf.iv c0_i32_479 c1_i32_481 k0_t1
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  let c0_i32_620 : BitVec 32 := 0#32
  let c0_i32_621 : BitVec 32 := 0#32
  ![v3295.toNat, 0, 0]
def k0_off3 (k0_t1 : Fin k0_t1_loop.trips) : Fin 2 → Nat :=
  let c0_i32_479 : BitVec 32 := 0#32
  let c1_i32_481 : BitVec 32 := 1#32
  let arg35 : BitVec 32 := Scf.iv c0_i32_479 c1_i32_481 k0_t1
  let c6_i32_601 : BitVec 32 := 6#32
  let v3265 : BitVec 32 := Scalar.addi arg35 c6_i32_601
  let c1_i32_602 : BitVec 32 := 1#32
  let v3266 : BitVec 32 := Scalar.subi v3265 c1_i32_602
  let c128_i32_619 : BitVec 32 := 128#32
  let v3296 : BitVec 32 := Scalar.muli v3266 c128_i32_619
  let c0_i32_622 : BitVec 32 := 0#32
  ![v3296.toNat, 0]
def k0_off4 (k0_t1 : Fin k0_t1_loop.trips) : Fin 1 → Nat :=
  let c0_i32_479 : BitVec 32 := 0#32
  let c1_i32_481 : BitVec 32 := 1#32
  let arg35 : BitVec 32 := Scf.iv c0_i32_479 c1_i32_481 k0_t1
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  ![v3264.toNat]
def k0_off5 (k0_t1 : Fin k0_t1_loop.trips) : Fin 3 → Nat :=
  let c0_i32_479 : BitVec 32 := 0#32
  let c1_i32_481 : BitVec 32 := 1#32
  let arg35 : BitVec 32 := Scf.iv c0_i32_479 c1_i32_481 k0_t1
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let c0_i32_606 : BitVec 32 := 0#32
  let c0_i32_607 : BitVec 32 := 0#32
  ![v3264.toNat, 0, 0]
def k0_off6 (k0_t1 : Fin k0_t1_loop.trips) : Fin 2 → Nat :=
  let c0_i32_479 : BitVec 32 := 0#32
  let c1_i32_481 : BitVec 32 := 1#32
  let arg35 : BitVec 32 := Scf.iv c0_i32_479 c1_i32_481 k0_t1
  let c128_i32_605 : BitVec 32 := 128#32
  let v3270 : BitVec 32 := Scalar.muli arg35 c128_i32_605
  let c0_i32_608 : BitVec 32 := 0#32
  ![v3270.toNat, 0]
def k0_mult1 (k0_t1 : Fin k0_t1_loop.trips) : BitVec 32 :=
  let c0_i32_479 : BitVec 32 := 0#32
  let c1_i32_481 : BitVec 32 := 1#32
  let arg35 : BitVec 32 := Scf.iv c0_i32_479 c1_i32_481 k0_t1
  let c128_i32_609 : BitVec 32 := 128#32
  let v3276 : BitVec 32 := Scalar.muli arg35 c128_i32_609
  v3276
def k0_off7 (k0_t1 : Fin k0_t1_loop.trips) : Fin 3 → Nat :=
  let c0_i32_479 : BitVec 32 := 0#32
  let c1_i32_481 : BitVec 32 := 1#32
  let arg35 : BitVec 32 := Scf.iv c0_i32_479 c1_i32_481 k0_t1
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let v3278 : Index := Scalar.indexCast v3264
  let c0_610 : Index := 0#32
  let c0_611 : Index := 0#32
  ![v3278.toNat, 0, 0]
def k0_off8 (k0_t1 : Fin k0_t1_loop.trips) : Fin 2 → Nat :=
  let c0_i32_479 : BitVec 32 := 0#32
  let c1_i32_481 : BitVec 32 := 1#32
  let arg35 : BitVec 32 := Scf.iv c0_i32_479 c1_i32_481 k0_t1
  let c128_i32_609 : BitVec 32 := 128#32
  let v3276 : BitVec 32 := Scalar.muli arg35 c128_i32_609
  let v3277 : BitVec 32 := v3276
  let v3282 : Index := Scalar.indexCast v3277
  let c0_612 : Index := 0#32
  ![v3282.toNat, 0]
@[reducible] def k0_t2_loop : Scf.Loop 32 :=
  let c0_i32_513 : BitVec 32 := 0#32
  let c8_i32_514 : BitVec 32 := 8#32
  let v3186 : BitVec 32 := Scalar.addi c0_i32_513 c8_i32_514
  let c1_i32_515 : BitVec 32 := 1#32
  ⟨c0_i32_513, v3186, c1_i32_515⟩
def k0_cond3 (k0_t2 : Fin k0_t2_loop.trips) : BitVec 1 :=
  let c0_i32_513 : BitVec 32 := 0#32
  let c1_i32_515 : BitVec 32 := 1#32
  let arg35 : BitVec 32 := Scf.iv c0_i32_513 c1_i32_515 k0_t2
  let c6_i32_601 : BitVec 32 := 6#32
  let v3265 : BitVec 32 := Scalar.addi arg35 c6_i32_601
  let c1_i32_602 : BitVec 32 := 1#32
  let v3266 : BitVec 32 := Scalar.subi v3265 c1_i32_602
  let c8_i32_603 : BitVec 32 := 8#32
  let v3267 : BitVec 1 := Scalar.cmpi .slt v3266 c8_i32_603
  let v3268 : BitVec 32 := Scalar.extui v3267
  let c0_i32_604 : BitVec 32 := 0#32
  let v3269 : BitVec 1 := Scalar.cmpi .ne v3268 c0_i32_604
  v3269

def k0_off9 (k0_t2 : Fin k0_t2_loop.trips) : Fin 1 → Nat :=
  let c0_i32_513 : BitVec 32 := 0#32
  let c1_i32_515 : BitVec 32 := 1#32
  let arg35 : BitVec 32 := Scf.iv c0_i32_513 c1_i32_515 k0_t2
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  ![v3295.toNat]
def k0_off10 (k0_t2 : Fin k0_t2_loop.trips) : Fin 3 → Nat :=
  let c0_i32_513 : BitVec 32 := 0#32
  let c1_i32_515 : BitVec 32 := 1#32
  let arg35 : BitVec 32 := Scf.iv c0_i32_513 c1_i32_515 k0_t2
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  let c0_i32_620 : BitVec 32 := 0#32
  let c0_i32_621 : BitVec 32 := 0#32
  ![v3295.toNat, 0, 0]
def k0_off11 (k0_t2 : Fin k0_t2_loop.trips) : Fin 2 → Nat :=
  let c0_i32_513 : BitVec 32 := 0#32
  let c1_i32_515 : BitVec 32 := 1#32
  let arg35 : BitVec 32 := Scf.iv c0_i32_513 c1_i32_515 k0_t2
  let c6_i32_601 : BitVec 32 := 6#32
  let v3265 : BitVec 32 := Scalar.addi arg35 c6_i32_601
  let c1_i32_602 : BitVec 32 := 1#32
  let v3266 : BitVec 32 := Scalar.subi v3265 c1_i32_602
  let c128_i32_619 : BitVec 32 := 128#32
  let v3296 : BitVec 32 := Scalar.muli v3266 c128_i32_619
  let c0_i32_622 : BitVec 32 := 0#32
  ![v3296.toNat, 0]
def k0_off12 (k0_t2 : Fin k0_t2_loop.trips) : Fin 1 → Nat :=
  let c0_i32_513 : BitVec 32 := 0#32
  let c1_i32_515 : BitVec 32 := 1#32
  let arg35 : BitVec 32 := Scf.iv c0_i32_513 c1_i32_515 k0_t2
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  ![v3264.toNat]
def k0_off13 (k0_t2 : Fin k0_t2_loop.trips) : Fin 3 → Nat :=
  let c0_i32_513 : BitVec 32 := 0#32
  let c1_i32_515 : BitVec 32 := 1#32
  let arg35 : BitVec 32 := Scf.iv c0_i32_513 c1_i32_515 k0_t2
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let c0_i32_606 : BitVec 32 := 0#32
  let c0_i32_607 : BitVec 32 := 0#32
  ![v3264.toNat, 0, 0]
def k0_off14 (k0_t2 : Fin k0_t2_loop.trips) : Fin 2 → Nat :=
  let c0_i32_513 : BitVec 32 := 0#32
  let c1_i32_515 : BitVec 32 := 1#32
  let arg35 : BitVec 32 := Scf.iv c0_i32_513 c1_i32_515 k0_t2
  let c128_i32_605 : BitVec 32 := 128#32
  let v3270 : BitVec 32 := Scalar.muli arg35 c128_i32_605
  let c0_i32_608 : BitVec 32 := 0#32
  ![v3270.toNat, 0]
def k0_mult2 (k0_t2 : Fin k0_t2_loop.trips) : BitVec 32 :=
  let c0_i32_513 : BitVec 32 := 0#32
  let c1_i32_515 : BitVec 32 := 1#32
  let arg35 : BitVec 32 := Scf.iv c0_i32_513 c1_i32_515 k0_t2
  let c128_i32_609 : BitVec 32 := 128#32
  let v3276 : BitVec 32 := Scalar.muli arg35 c128_i32_609
  v3276
def k0_off15 (k0_t2 : Fin k0_t2_loop.trips) : Fin 3 → Nat :=
  let c0_i32_513 : BitVec 32 := 0#32
  let c1_i32_515 : BitVec 32 := 1#32
  let arg35 : BitVec 32 := Scf.iv c0_i32_513 c1_i32_515 k0_t2
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let v3278 : Index := Scalar.indexCast v3264
  let c0_610 : Index := 0#32
  let c0_611 : Index := 0#32
  ![v3278.toNat, 0, 0]
def k0_off16 (k0_t2 : Fin k0_t2_loop.trips) : Fin 2 → Nat :=
  let c0_i32_513 : BitVec 32 := 0#32
  let c1_i32_515 : BitVec 32 := 1#32
  let arg35 : BitVec 32 := Scf.iv c0_i32_513 c1_i32_515 k0_t2
  let c128_i32_609 : BitVec 32 := 128#32
  let v3276 : BitVec 32 := Scalar.muli arg35 c128_i32_609
  let v3277 : BitVec 32 := v3276
  let v3282 : Index := Scalar.indexCast v3277
  let c0_612 : Index := 0#32
  ![v3282.toNat, 0]
@[reducible] def k0_t3_loop : Scf.Loop 32 :=
  let c0_i32_547 : BitVec 32 := 0#32
  let c22_i32 : BitVec 32 := 22#32
  let v3212 : BitVec 32 := Scalar.addi c0_i32_547 c22_i32
  let c1_i32_548 : BitVec 32 := 1#32
  ⟨c0_i32_547, v3212, c1_i32_548⟩
def k0_cond4 (k0_t3 : Fin k0_t3_loop.trips) : BitVec 1 :=
  let c0_i32_547 : BitVec 32 := 0#32
  let c1_i32_548 : BitVec 32 := 1#32
  let arg35 : BitVec 32 := Scf.iv c0_i32_547 c1_i32_548 k0_t3
  let c6_i32_601 : BitVec 32 := 6#32
  let v3265 : BitVec 32 := Scalar.addi arg35 c6_i32_601
  let c1_i32_602 : BitVec 32 := 1#32
  let v3266 : BitVec 32 := Scalar.subi v3265 c1_i32_602
  let c22_i32_603 : BitVec 32 := 22#32
  let v3267 : BitVec 1 := Scalar.cmpi .slt v3266 c22_i32_603
  let v3268 : BitVec 32 := Scalar.extui v3267
  let c0_i32_604 : BitVec 32 := 0#32
  let v3269 : BitVec 1 := Scalar.cmpi .ne v3268 c0_i32_604
  v3269

def k0_off17 (k0_t3 : Fin k0_t3_loop.trips) : Fin 1 → Nat :=
  let c0_i32_547 : BitVec 32 := 0#32
  let c1_i32_548 : BitVec 32 := 1#32
  let arg35 : BitVec 32 := Scf.iv c0_i32_547 c1_i32_548 k0_t3
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  ![v3295.toNat]
def k0_off18 (k0_t3 : Fin k0_t3_loop.trips) : Fin 3 → Nat :=
  let c0_i32_547 : BitVec 32 := 0#32
  let c1_i32_548 : BitVec 32 := 1#32
  let arg35 : BitVec 32 := Scf.iv c0_i32_547 c1_i32_548 k0_t3
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  let c0_i32_620 : BitVec 32 := 0#32
  let c0_i32_621 : BitVec 32 := 0#32
  ![v3295.toNat, 0, 0]
def k0_off19 (k0_t3 : Fin k0_t3_loop.trips) : Fin 2 → Nat :=
  let c0_i32_547 : BitVec 32 := 0#32
  let c1_i32_548 : BitVec 32 := 1#32
  let arg35 : BitVec 32 := Scf.iv c0_i32_547 c1_i32_548 k0_t3
  let c6_i32_601 : BitVec 32 := 6#32
  let v3265 : BitVec 32 := Scalar.addi arg35 c6_i32_601
  let c1_i32_602 : BitVec 32 := 1#32
  let v3266 : BitVec 32 := Scalar.subi v3265 c1_i32_602
  let c128_i32_619 : BitVec 32 := 128#32
  let v3296 : BitVec 32 := Scalar.muli v3266 c128_i32_619
  let c0_i32_622 : BitVec 32 := 0#32
  ![v3296.toNat, 0]
def k0_off20 (k0_t3 : Fin k0_t3_loop.trips) : Fin 1 → Nat :=
  let c0_i32_547 : BitVec 32 := 0#32
  let c1_i32_548 : BitVec 32 := 1#32
  let arg35 : BitVec 32 := Scf.iv c0_i32_547 c1_i32_548 k0_t3
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  ![v3264.toNat]
def k0_off21 (k0_t3 : Fin k0_t3_loop.trips) : Fin 3 → Nat :=
  let c0_i32_547 : BitVec 32 := 0#32
  let c1_i32_548 : BitVec 32 := 1#32
  let arg35 : BitVec 32 := Scf.iv c0_i32_547 c1_i32_548 k0_t3
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let c0_i32_606 : BitVec 32 := 0#32
  let c0_i32_607 : BitVec 32 := 0#32
  ![v3264.toNat, 0, 0]
def k0_off22 (k0_t3 : Fin k0_t3_loop.trips) : Fin 2 → Nat :=
  let c0_i32_547 : BitVec 32 := 0#32
  let c1_i32_548 : BitVec 32 := 1#32
  let arg35 : BitVec 32 := Scf.iv c0_i32_547 c1_i32_548 k0_t3
  let c128_i32_605 : BitVec 32 := 128#32
  let v3270 : BitVec 32 := Scalar.muli arg35 c128_i32_605
  let c0_i32_608 : BitVec 32 := 0#32
  ![v3270.toNat, 0]
def k0_mult3 (k0_t3 : Fin k0_t3_loop.trips) : BitVec 32 :=
  let c0_i32_547 : BitVec 32 := 0#32
  let c1_i32_548 : BitVec 32 := 1#32
  let arg35 : BitVec 32 := Scf.iv c0_i32_547 c1_i32_548 k0_t3
  let c128_i32_609 : BitVec 32 := 128#32
  let v3276 : BitVec 32 := Scalar.muli arg35 c128_i32_609
  v3276
def k0_off23 (k0_t3 : Fin k0_t3_loop.trips) : Fin 3 → Nat :=
  let c0_i32_547 : BitVec 32 := 0#32
  let c1_i32_548 : BitVec 32 := 1#32
  let arg35 : BitVec 32 := Scf.iv c0_i32_547 c1_i32_548 k0_t3
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let v3278 : Index := Scalar.indexCast v3264
  let c0_610 : Index := 0#32
  let c0_611 : Index := 0#32
  ![v3278.toNat, 0, 0]
def k0_off24 (k0_t3 : Fin k0_t3_loop.trips) : Fin 2 → Nat :=
  let c0_i32_547 : BitVec 32 := 0#32
  let c1_i32_548 : BitVec 32 := 1#32
  let arg35 : BitVec 32 := Scf.iv c0_i32_547 c1_i32_548 k0_t3
  let c128_i32_609 : BitVec 32 := 128#32
  let v3276 : BitVec 32 := Scalar.muli arg35 c128_i32_609
  let v3277 : BitVec 32 := v3276
  let v3282 : Index := Scalar.indexCast v3277
  let c0_612 : Index := 0#32
  ![v3282.toNat, 0]
@[reducible] def k0_t4_loop : Scf.Loop 32 :=
  let c0_i32_580 : BitVec 32 := 0#32
  let c8_i32_581 : BitVec 32 := 8#32
  let v3238 : BitVec 32 := Scalar.addi c0_i32_580 c8_i32_581
  let c1_i32_582 : BitVec 32 := 1#32
  ⟨c0_i32_580, v3238, c1_i32_582⟩
def k0_cond5 (k0_t4 : Fin k0_t4_loop.trips) : BitVec 1 :=
  let c0_i32_580 : BitVec 32 := 0#32
  let c1_i32_582 : BitVec 32 := 1#32
  let arg35 : BitVec 32 := Scf.iv c0_i32_580 c1_i32_582 k0_t4
  let c6_i32_601 : BitVec 32 := 6#32
  let v3265 : BitVec 32 := Scalar.addi arg35 c6_i32_601
  let c1_i32_602 : BitVec 32 := 1#32
  let v3266 : BitVec 32 := Scalar.subi v3265 c1_i32_602
  let c8_i32_603 : BitVec 32 := 8#32
  let v3267 : BitVec 1 := Scalar.cmpi .slt v3266 c8_i32_603
  let v3268 : BitVec 32 := Scalar.extui v3267
  let c0_i32_604 : BitVec 32 := 0#32
  let v3269 : BitVec 1 := Scalar.cmpi .ne v3268 c0_i32_604
  v3269

def k0_off25 (k0_t4 : Fin k0_t4_loop.trips) : Fin 1 → Nat :=
  let c0_i32_580 : BitVec 32 := 0#32
  let c1_i32_582 : BitVec 32 := 1#32
  let arg35 : BitVec 32 := Scf.iv c0_i32_580 c1_i32_582 k0_t4
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  ![v3295.toNat]
def k0_off26 (k0_t4 : Fin k0_t4_loop.trips) : Fin 3 → Nat :=
  let c0_i32_580 : BitVec 32 := 0#32
  let c1_i32_582 : BitVec 32 := 1#32
  let arg35 : BitVec 32 := Scf.iv c0_i32_580 c1_i32_582 k0_t4
  let c6_i32_601 : BitVec 32 := 6#32
  let v3265 : BitVec 32 := Scalar.addi arg35 c6_i32_601
  let c1_i32_602 : BitVec 32 := 1#32
  let v3266 : BitVec 32 := Scalar.subi v3265 c1_i32_602
  let c6_i32_613 : BitVec 32 := 6#32
  let c0_i32_614 : BitVec 32 := 0#32
  let v3286 : BitVec 1 := Scalar.cmpi .eq c6_i32_613 c0_i32_614
  let c1_i32_615 : BitVec 32 := 1#32
  let v3287 : BitVec 32 := Scalar.select v3286 c1_i32_615 c6_i32_613
  let v3288 : BitVec 32 := Scalar.remsi v3266 v3287
  let c0_i32_617 : BitVec 32 := 0#32
  let v3290 : BitVec 1 := Scalar.cmpi .slt v3288 c0_i32_617
  let c0_i32_618 : BitVec 32 := 0#32
  let v3291 : BitVec 1 := Scalar.cmpi .slt v3287 c0_i32_618
  let v3292 : BitVec 1 := Scalar.xori v3290 v3291
  let c0_i32_616 : BitVec 32 := 0#32
  let v3289 : BitVec 1 := Scalar.cmpi .ne v3288 c0_i32_616
  let v3293 : BitVec 1 := Scalar.andi v3292 v3289
  let v3294 : BitVec 32 := Scalar.addi v3288 v3287
  let v3295 : BitVec 32 := Scalar.select v3293 v3294 v3288
  let c0_i32_620 : BitVec 32 := 0#32
  let c0_i32_621 : BitVec 32 := 0#32
  ![v3295.toNat, 0, 0]
def k0_off27 (k0_t4 : Fin k0_t4_loop.trips) : Fin 2 → Nat :=
  let c0_i32_580 : BitVec 32 := 0#32
  let c1_i32_582 : BitVec 32 := 1#32
  let arg35 : BitVec 32 := Scf.iv c0_i32_580 c1_i32_582 k0_t4
  let c6_i32_601 : BitVec 32 := 6#32
  let v3265 : BitVec 32 := Scalar.addi arg35 c6_i32_601
  let c1_i32_602 : BitVec 32 := 1#32
  let v3266 : BitVec 32 := Scalar.subi v3265 c1_i32_602
  let c128_i32_619 : BitVec 32 := 128#32
  let v3296 : BitVec 32 := Scalar.muli v3266 c128_i32_619
  let c0_i32_622 : BitVec 32 := 0#32
  ![v3296.toNat, 0]
def k0_off28 (k0_t4 : Fin k0_t4_loop.trips) : Fin 1 → Nat :=
  let c0_i32_580 : BitVec 32 := 0#32
  let c1_i32_582 : BitVec 32 := 1#32
  let arg35 : BitVec 32 := Scf.iv c0_i32_580 c1_i32_582 k0_t4
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  ![v3264.toNat]
def k0_off29 (k0_t4 : Fin k0_t4_loop.trips) : Fin 3 → Nat :=
  let c0_i32_580 : BitVec 32 := 0#32
  let c1_i32_582 : BitVec 32 := 1#32
  let arg35 : BitVec 32 := Scf.iv c0_i32_580 c1_i32_582 k0_t4
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let c0_i32_606 : BitVec 32 := 0#32
  let c0_i32_607 : BitVec 32 := 0#32
  ![v3264.toNat, 0, 0]
def k0_off30 (k0_t4 : Fin k0_t4_loop.trips) : Fin 2 → Nat :=
  let c0_i32_580 : BitVec 32 := 0#32
  let c1_i32_582 : BitVec 32 := 1#32
  let arg35 : BitVec 32 := Scf.iv c0_i32_580 c1_i32_582 k0_t4
  let c128_i32_605 : BitVec 32 := 128#32
  let v3270 : BitVec 32 := Scalar.muli arg35 c128_i32_605
  let c0_i32_608 : BitVec 32 := 0#32
  ![v3270.toNat, 0]
def k0_mult4 (k0_t4 : Fin k0_t4_loop.trips) : BitVec 32 :=
  let c0_i32_580 : BitVec 32 := 0#32
  let c1_i32_582 : BitVec 32 := 1#32
  let arg35 : BitVec 32 := Scf.iv c0_i32_580 c1_i32_582 k0_t4
  let c128_i32_609 : BitVec 32 := 128#32
  let v3276 : BitVec 32 := Scalar.muli arg35 c128_i32_609
  v3276
def k0_off31 (k0_t4 : Fin k0_t4_loop.trips) : Fin 3 → Nat :=
  let c0_i32_580 : BitVec 32 := 0#32
  let c1_i32_582 : BitVec 32 := 1#32
  let arg35 : BitVec 32 := Scf.iv c0_i32_580 c1_i32_582 k0_t4
  let c6_i32 : BitVec 32 := 6#32
  let c0_i32_596 : BitVec 32 := 0#32
  let v3255 : BitVec 1 := Scalar.cmpi .eq c6_i32 c0_i32_596
  let c1_i32_597 : BitVec 32 := 1#32
  let v3256 : BitVec 32 := Scalar.select v3255 c1_i32_597 c6_i32
  let v3257 : BitVec 32 := Scalar.remsi arg35 v3256
  let c0_i32_599 : BitVec 32 := 0#32
  let v3259 : BitVec 1 := Scalar.cmpi .slt v3257 c0_i32_599
  let c0_i32_600 : BitVec 32 := 0#32
  let v3260 : BitVec 1 := Scalar.cmpi .slt v3256 c0_i32_600
  let v3261 : BitVec 1 := Scalar.xori v3259 v3260
  let c0_i32_598 : BitVec 32 := 0#32
  let v3258 : BitVec 1 := Scalar.cmpi .ne v3257 c0_i32_598
  let v3262 : BitVec 1 := Scalar.andi v3261 v3258
  let v3263 : BitVec 32 := Scalar.addi v3257 v3256
  let v3264 : BitVec 32 := Scalar.select v3262 v3263 v3257
  let v3278 : Index := Scalar.indexCast v3264
  let c0_610 : Index := 0#32
  let c0_611 : Index := 0#32
  ![v3278.toNat, 0, 0]
def k0_off32 (k0_t4 : Fin k0_t4_loop.trips) : Fin 2 → Nat :=
  let c0_i32_580 : BitVec 32 := 0#32
  let c1_i32_582 : BitVec 32 := 1#32
  let arg35 : BitVec 32 := Scf.iv c0_i32_580 c1_i32_582 k0_t4
  let c128_i32_609 : BitVec 32 := 128#32
  let v3276 : BitVec 32 := Scalar.muli arg35 c128_i32_609
  let v3277 : BitVec 32 := v3276
  let v3282 : Index := Scalar.indexCast v3277
  let c0_612 : Index := 0#32
  ![v3282.toNat, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_21 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_22 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S1024x2560 : Shape := ⟨2, ![1024, 2560]⟩
abbrev S1x512 : Shape := ⟨2, ![1, 512]⟩
abbrev S256x128 : Shape := ⟨2, ![256, 128]⟩
abbrev S4x512 : Shape := ⟨2, ![4, 512]⟩
abbrev S512x512 : Shape := ⟨2, ![512, 512]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x2560 : Shape := ⟨2, ![16384, 2560]⟩
abbrev S16384x512 : Shape := ⟨2, ![16384, 512]⟩
abbrev S16384x4x128 : Shape := ⟨3, ![16384, 4, 128]⟩
abbrev S4x16384x128 : Shape := ⟨3, ![4, 16384, 128]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2560, .f32⟩
  | .hbm, ⟨7, _⟩ => ⟨S1x512, .f32⟩
  | .hbm, ⟨8, _⟩ => ⟨S1x512, .f32⟩
  | .hbm, ⟨9, _⟩ => ⟨S256x128, .bf16⟩
  | .hbm, ⟨10, _⟩ => ⟨S4x512, .f32⟩
  | .hbm, ⟨11, _⟩ => ⟨S1x512, .f32⟩
  | .hbm, ⟨12, _⟩ => ⟨S512x512, .bf16⟩
  | .hbm, ⟨13, _⟩ => ⟨S1x512, .f32⟩
  | .hbm, ⟨14, _⟩ => ⟨S512x512, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x2560, .f32⟩
  | .hbm, ⟨66, _⟩ => ⟨S16384x512, .f32⟩
  | .hbm, ⟨67, _⟩ => ⟨S16384x4x128, .f32⟩
  | .hbm, ⟨68, _⟩ => ⟨S4x16384x128, .f32⟩
  | .hbm, ⟨69, _⟩ => ⟨S4x16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]
-- ==== Proof.Iter.lean ====
/- One iteration of the kernel's software pipeline as three program fragments — the accumulation of item i−2, the
   weights of item i−1, the scores of item i —, and the kernel's function written with them. -/
module

public import proofs.«01_k».proof.Proof.Gen.KernelIdeal
public import Idealize.ShloMosaic.Lib.Tactic

@[expose] public section

noncomputable section

namespace Cert.KernelIdeal.Stick

open Idealize.ShloMosaic Idealize.SL.Sem
open Cert.KernelIdeal Cert.KernelIdeal.Facts₀ Cert.KernelIdeal.Facts

variable {F : FTy → Type} [FloatOps F] [Named F]

/-! ## Offsets -/

/-- The place in the tables of item number `j`, clamped to the tables. -/
def tabOff (j : BitVec 32) : Fin 1 → ℕ := ![(Scalar.indexCast (Scalar.minsi 287#32 (Scalar.maxsi 0#32 j))).toNat]

theorem tabOff_lt (j : BitVec 32) : (Scalar.indexCast (Scalar.minsi 287#32 (Scalar.maxsi 0#32 j))).toNat < 288 := by
  unfold Scalar.indexCast Scalar.minsi Scalar.maxsi IntOp.minsi IntOp.maxsi
  split <;> split <;> simp_all [BitVec.slt, BitVec.toInt] <;> omega

theorem tabOff_inb (j : BitVec 32) : ∀ a, tabOff j a + S1.size a ≤ S288.size a := by
  intro a
  have h := tabOff_lt j
  fin_cases a
  show (Scalar.indexCast (Scalar.minsi 287#32 (Scalar.maxsi 0#32 j))).toNat + 1 ≤ 288
  omega

theorem inbBlk {b : ℕ} (hb : b < 4) : ∀ a, (![b, 0, 0] : Fin 3 → ℕ) a + S1x512x128.size a ≤ S4x512x128.size a := by
  interval_cases b
  exacts [inb_S4x512x128_S1x512x128_0_0_0, inb_S4x512x128_S1x512x128_1_0_0, inb_S4x512x128_S1x512x128_2_0_0, inb_S4x512x128_S1x512x128_3_0_0]

theorem packBlk {b : ℕ} (hb : b < 4) : (Rect.unit (s := S4x512x128) ![b, 0, 0] S1x512x128.size (inbBlk hb)).PackedRows (EltTy.packing .bf16) := by
  interval_cases b
  exacts [packedbf16_S4x512x128_S1x512x128_0_0_0, packedbf16_S4x512x128_S1x512x128_1_0_0, packedbf16_S4x512x128_S1x512x128_2_0_0,
    packedbf16_S4x512x128_S1x512x128_3_0_0]

theorem inbHead {h : ℕ} (hh : h < 2) : ∀ a, (![h, 0, 0] : Fin 3 → ℕ) a + S1x512x128.size a ≤ S2x512x128.size a := by
  interval_cases h
  exacts [inb_S2x512x128_S1x512x128_0_0_0, inb_S2x512x128_S1x512x128_1_0_0]

theorem inbZ {s b : ℕ} (hs : s < 2) (hb : b < 4) : ∀ a, (![s, b, 0, 0] : Fin 4 → ℕ) a + S1x1x512x128.size a ≤ S2x4x512x128.size a := by
  interval_cases s <;> interval_cases b
  exacts [inb_S2x4x512x128_S1x1x512x128_0_0_0_0, inb_S2x4x512x128_S1x1x512x128_0_1_0_0, inb_S2x4x512x128_S1x1x512x128_0_2_0_0,
    inb_S2x4x512x128_S1x1x512x128_0_3_0_0, inb_S2x4x512x128_S1x1x512x128_1_0_0_0, inb_S2x4x512x128_S1x1x512x128_1_1_0_0,
    inb_S2x4x512x128_S1x1x512x128_1_2_0_0, inb_S2x4x512x128_S1x1x512x128_1_3_0_0]

theorem sliceBlk {b : ℕ} (hb : b < 4) : S512x512.Slices ![0, 128 * b] S512x128 := by
  interval_cases b
  exacts [slices_S512x512_o0_0_S512x128, slices_S512x512_o0_128_S512x128, slices_S512x512_o0_256_S512x128, slices_S512x512_o0_384_S512x128]

/-! ## The values of an iteration -/

/-- Which head of the pair a lane belongs to. -/
def laneHead : IVec S256x128 32 :=
  have v66 : IVec S256x128 32 := iota .tc S256x128 32 [1] iota_S256x128_d1_w32
  have v68 : IVec S256x128 32 := divsi v66 (broadcast S256x128 64#32)
  have v71 : IVec S256x128 32 := extui 32 (cmpi .sgt v66 (broadcast S256x128 0#32)) natLt_1_32
  have v74 : IVec S256x128 32 := extui 32 (cmpi .slt v66 (broadcast S256x128 0#32)) natLt_1_32
  have v75 : IVec S256x128 32 := subi v71 v74
  let v80 : BitVec 32 := Scalar.subi (Scalar.extui (Scalar.cmpi .sgt 64#32 0#32)) (Scalar.extui (Scalar.cmpi .slt 64#32 0#32))
  have v82 : IVec S256x128 1 := cmpi .ne v75 (broadcast S256x128 v80)
  have v84 : IVec S256x128 32 := remsi v66 (broadcast S256x128 64#32)
  have v86 : IVec S256x128 1 := cmpi .ne v84 (broadcast S256x128 0#32)
  have v87 : IVec S256x128 1 := andi v82 v86
  have v89 : IVec S256x128 32 := subi v68 (broadcast S256x128 1#32)
  select v87 v89 v68

/-- Whether tile `t` is the first one of query block `qi`. -/
def isDiag (qi t : BitVec 32) : BitVec 1 := Scalar.cmpi .eq t (Scalar.subi (Scalar.muli (Scalar.addi qi 1#32) 2#32) 1#32)

/-- `x`, or zero at the first tile of a query block. -/
def resetAt (d : BitVec 1) (x : FVec F S512x128 .f32) : FVec F S512x128 .f32 :=
  Scalar.select d (broadcast S512x128 (Scalar.ofBits .f32 0x00000000#32)) x

/-- The rows of a tile once per head, the other head's lanes zero. -/
def headRows (x : Vec F S1x1x256x128 .bf16) : FVec F S512x128 .bf16 :=
  have y : FVec F S256x128 .bf16 := shapeCast S256x128 x shapeCasts_S1x1x256x128_S256x128
  concatenate S512x128 0
    [⟨S256x128, select (cmpi .eq laneHead (broadcast S256x128 0#32)) y (broadcast S256x128 (Scalar.ofBits .bf16 0x0000#16))⟩,
     ⟨S256x128, select (cmpi .eq laneHead (broadcast S256x128 1#32)) y (broadcast S256x128 (Scalar.ofBits .bf16 0x0000#16))⟩]
    concatenates_S256x128_S256x128_S512x128_d0

/-- The accumulation: the output rows and the product of the four blocks of weights with the values. -/
def accVal (d : BitVec 1) (o : Vec F S1x1x512x128 .f32) (w0 w1 w2 w3 : Vec F S1x512x128 .bf16) (v : Vec F S1x1x256x128 .bf16) : FVec F S1x1x512x128 .f32 :=
  have w : FVec F S512x512 .bf16 := concatenate S512x512 1
    [⟨S512x128, shapeCast S512x128 w0 shapeCasts_S1x512x128_S512x128⟩, ⟨S512x128, shapeCast S512x128 w1 shapeCasts_S1x512x128_S512x128⟩,
     ⟨S512x128, shapeCast S512x128 w2 shapeCasts_S1x512x128_S512x128⟩, ⟨S512x128, shapeCast S512x128 w3 shapeCasts_S1x512x128_S512x128⟩]
    concatenates_S512x128_S512x128_S512x128_S512x128_S512x512_d1
  shapeCast S1x1x512x128
    (addf (resetAt d (shapeCast S512x128 o shapeCasts_S1x1x512x128_S512x128))
      (matmul dot_S512x512_S512x128_S512x128_1_0_0_1_n_n none w (headRows v) (constant S512x128 .f32 0x00000000#32)))
    shapeCasts_S512x128_S1x1x512x128

/-- The sums within a tile: two blocks of softplus values times the scan matrix. -/
def scanVal (s0 s1 : Vec F S1x512x128 .bf16) (tri : Vec F S256x256 .bf16) : FVec F S512x256 .f32 :=
  matmul dot_S512x256_S256x256_S512x256_1_0_0_1_n_n none
    (concatenate S512x256 1 [⟨S512x128, shapeCast S512x128 s0 shapeCasts_S1x512x128_S512x128⟩, ⟨S512x128, shapeCast S512x128 s1 shapeCasts_S1x512x128_S512x128⟩]
      concatenates_S512x128_S512x128_S512x256_d1 : FVec F S512x256 .bf16)
    (shapeCast S256x256 tri shapeCasts_S256x256_S256x256 : FVec F S256x256 .bf16) (constant S512x256 .f32 0x00000000#32)

/-- The weights of one block of keys. -/
def weightVal (z : Vec F S1x1x512x128 .f32) (r c : FVec F S512x128 .f32) : FVec F S1x512x128 .bf16 :=
  shapeCast S1x512x128 (truncf .bf16 (exp (addf (addf (shapeCast S512x128 z shapeCasts_S1x1x512x128_S512x128) r) c)) bitsLt_bf16_f32)
    shapeCasts_S512x128_S1x512x128

/-- The sum carried to the next tile. -/
def carryVal (r : FVec F S512x256 .f32) (c : FVec F S512x128 .f32) : FVec F S1x512x128 .f32 :=
  shapeCast S1x512x128
    (addf c (broadcastTo S512x128 (shapeCast S512x1 (extractStridedSlice S512x1 ![0, 0] r slices_S512x256_o0_0_S512x1) shapeCasts_S512x1_S512x1)
      broadcasts_S512x1_S512x128)) shapeCasts_S512x128_S1x512x128

/-- The scores of the queries against both heads' keys. -/
def scoreVal (q : Vec F S1x1x512x128 .bf16) (k : Vec F S1x1x256x128 .bf16) : FVec F S512x512 .f32 :=
  matmul dot_S512x128_S512x128_S512x512_1_1_0_0_n_n none (shapeCast S512x128 q shapeCasts_S1x1x512x128_S512x128 : FVec F S512x128 .bf16) (headRows k)
    (constant S512x512 .f32 0x00000000#32)

/-- The masked scores of block `b`. -/
def maskedVal (zz : FVec F S512x512 .f32) (b : ℕ) (hb : b < 4) (pen : Vec F S1x1x512x128 .f32) : FVec F S512x128 .f32 :=
  addf (extractStridedSlice S512x128 ![0, 128 * b] zz (sliceBlk hb)) (shapeCast S512x128 pen shapeCasts_S1x1x512x128_S512x128)

/-- The softplus of the masked scores. -/
def softplusVal (zm : FVec F S512x128 .f32) : FVec F S512x128 .f32 :=
  addf (log (addf (broadcast S512x128 (Scalar.ofBits .f32 0x3F800000#32))
      (exp2 (mulf (absf zm) (broadcast S512x128 (Named.named κ "neg_log2e" 0xBFB8AA3B#32))))))
    (maximumf zm (broadcast S512x128 (Scalar.ofBits .f32 0x00000000#32)))

/-! ## The fragments -/

variable (arg1 : Memref sig .tc .smem S288 .i32) (harg1 : arg1.IsWhole) (arg2 : Memref sig .tc .smem S288 .i32) (harg2 : arg2.IsWhole)
  (arg3 : Memref sig .tc .smem S288 .i32) (harg3 : arg3.IsWhole) (arg4 : Memref sig .tc .vmem S4x1x4096x128 .bf16) (harg4 : arg4.IsWhole)
  (arg5 : Memref sig .tc .vmem S4x1x4096x128 .bf16) (harg5 : arg5.IsWhole) (arg6 : Memref sig .tc .vmem S4x1x4096x128 .bf16) (harg6 : arg6.IsWhole)
  (arg7 : Memref sig .tc .vmem S256x256 .bf16) (harg7 : arg7.IsWhole) (arg8 : Memref sig .tc .vmem S4x1x4096x128 .f32) (harg8 : arg8.IsWhole)
  (arg9 : Memref sig .tc .vmem S2x512x128 .f32) (harg9 : arg9.IsWhole) (arg10 : Memref sig .tc .vmem S2x4x512x128 .f32) (harg10 : arg10.IsWhole)
  (arg11 : Memref sig .tc .vmem S4x512x128 .bf16) (harg11 : arg11.IsWhole) (arg12 : Memref sig .tc .vmem S4x512x128 .bf16) (harg12 : arg12.IsWhole)
  (arg13 : Memref sig .tc .vmem S3x2x512x128 .f32) (harg13 : arg13.IsWhole)

/-- Reads entry `j` of a table. -/
abbrev item (T : Memref sig .tc .smem S288 .i32) (j : BitVec 32) : Prog (TpuEff nD τ sig (Elt F) Λ₀ .tc) (Elt F .i32) :=
  smemLoad T (Rect.unit (s := S288) (tabOff j) S1.size (tabOff_inb j)) numel1_S1 rfl

/-- Reads block `b` of a buffer of four. -/
abbrev loadBlk (B : Memref sig .tc .vmem S4x512x128 .bf16) {b : ℕ} (hb : b < 4) : Prog (TpuEff nD τ sig (Elt F) Λ₀ .tc) (Vec F S1x512x128 .bf16) :=
  Prog.lift (.load B (Rect.unit (s := S4x512x128) ![b, 0, 0] S1x512x128.size (inbBlk hb)).toLoadRect (View.loadsAt_vmem h_S1x512x128))

/-- The accumulation of item `j`. -/
def stageC2 (j : BitVec 32) : Prog (TpuEff nD τ sig (Elt F) Λ₀ .tc) PUnit := do
  let hp : Elt F .i32 ← item arg1 j
  let qi : Elt F .i32 ← item arg2 j
  have hw1 : k0_chk1 hp qi := (← Prog.lift (TpuEff.assume (k0_chk1 hp qi) (k0_chk1.dec hp qi))).down
  let t : Elt F .i32 ← item arg3 j
  have hw2 : k0_chk2 hp t := (← Prog.lift (TpuEff.assume (k0_chk2 hp t) (k0_chk2.dec hp t))).down
  let o : Vec F S1x1x512x128 .f32 ← Prog.lift (.load arg8 (Rect.unit (s := S4x1x4096x128) (k0_off2 hp qi) S1x1x512x128.size (k0_off2_inb hp qi hw1)).toLoadRect (View.loadsAt_vmem h_S1x1x512x128))
  let w0 : Vec F S1x512x128 .bf16 ← loadBlk arg12 (b := 0) (by decide)
  let w1 : Vec F S1x512x128 .bf16 ← loadBlk arg12 (b := 1) (by decide)
  let w2 : Vec F S1x512x128 .bf16 ← loadBlk arg12 (b := 2) (by decide)
  let w3 : Vec F S1x512x128 .bf16 ← loadBlk arg12 (b := 3) (by decide)
  let v : Vec F S1x1x256x128 .bf16 ← Prog.lift (.load arg6 (Rect.unit (s := S4x1x4096x128) (k0_off3 hp t) S1x1x256x128.size (k0_off3_inb hp t hw2)).toLoadRect (View.loadsAt_vmem h_S1x1x256x128))
  let _o' : Vec F S1x1x512x128 .f32 ← Prog.lift (.load arg8 (Rect.unit (s := S4x1x4096x128) (k0_off4 hp qi) S1x1x512x128.size (k0_off4_inb hp qi hw1)).toLoadRect (View.loadsAt_vmem h_S1x1x512x128))
  Prog.lift (.store arg8 (Rect.unit (s := S4x1x4096x128) (k0_off4 hp qi) S1x1x512x128.size (k0_off4_inb hp qi hw1)) (accVal (isDiag qi t) o w0 w1 w2 w3 v) Finset.univ (View.stores_vmem_bits_univ h_S1x1x512x128 rfl) (.inl rfl))

include harg12 in
/-- The weights of one head: blocks `b0` and `b1`, head `h`, scores in slot `s`. -/
def stageHead (qi t : Elt F .i32) {s h b0 b1 : ℕ} (hs : s < 2) (hh : h < 2) (hb0 : b0 < 4) (hb1 : b1 < 4) : Prog (TpuEff nD τ sig (Elt F) Λ₀ .tc) PUnit := do
  let s0 : Vec F S1x512x128 .bf16 ← loadBlk arg11 hb0
  let s1 : Vec F S1x512x128 .bf16 ← loadBlk arg11 hb1
  let tri : Vec F S256x256 .bf16 ← Prog.lift (.load arg7 (Rect.unit (s := S256x256) ![0, 0] S256x256.size inb_S256x256_S256x256_0_0).toLoadRect (View.loadsAt_vmem h_S256x256))
  let c : Vec F S1x512x128 .f32 ← Prog.lift (.load arg9 (Rect.unit (s := S2x512x128) ![h, 0, 0] S1x512x128.size (inbHead hh)).toLoadRect (View.loadsAt_vmem h_S1x512x128))
  let z0 : Vec F S1x1x512x128 .f32 ← Prog.lift (.load arg10 (Rect.unit (s := S2x4x512x128) ![s, b0, 0, 0] S1x1x512x128.size (inbZ hs hb0)).toLoadRect (View.loadsAt_vmem h_S1x1x512x128))
  let _w0 : Vec F S1x512x128 .bf16 ← loadBlk arg12 hb0
  Prog.lift (.store arg12 (Rect.unit (s := S4x512x128) ![b0, 0, 0] S1x512x128.size (inbBlk hb0))
    (weightVal z0 (extractStridedSlice S512x128 ![0, 0] (scanVal s0 s1 tri) slices_S512x256_o0_0_S512x128) (resetAt (isDiag qi t) (shapeCast S512x128 c shapeCasts_S1x512x128_S512x128)))
    Finset.univ (View.stores_vmem h_S1x512x128 (harg12.storeExact_slice rfl _ (packBlk hb0)) (fun _ => rfl)) (.inl rfl))
  let z1 : Vec F S1x1x512x128 .f32 ← Prog.lift (.load arg10 (Rect.unit (s := S2x4x512x128) ![s, b1, 0, 0] S1x1x512x128.size (inbZ hs hb1)).toLoadRect (View.loadsAt_vmem h_S1x1x512x128))
  let _w1 : Vec F S1x512x128 .bf16 ← loadBlk arg12 hb1
  Prog.lift (.store arg12 (Rect.unit (s := S4x512x128) ![b1, 0, 0] S1x512x128.size (inbBlk hb1))
    (weightVal z1 (extractStridedSlice S512x128 ![0, 128] (scanVal s0 s1 tri) slices_S512x256_o0_128_S512x128) (resetAt (isDiag qi t) (shapeCast S512x128 c shapeCasts_S1x512x128_S512x128)))
    Finset.univ (View.stores_vmem h_S1x512x128 (harg12.storeExact_slice rfl _ (packBlk hb1)) (fun _ => rfl)) (.inl rfl))
  let _c : Vec F S1x512x128 .f32 ← Prog.lift (.load arg9 (Rect.unit (s := S2x512x128) ![h, 0, 0] S1x512x128.size (inbHead hh)).toLoadRect (View.loadsAt_vmem h_S1x512x128))
  Prog.lift (.store arg9 (Rect.unit (s := S2x512x128) ![h, 0, 0] S1x512x128.size (inbHead hh))
    (carryVal (scanVal s0 s1 tri) (resetAt (isDiag qi t) (shapeCast S512x128 c shapeCasts_S1x512x128_S512x128))) Finset.univ (View.stores_vmem_bits_univ h_S1x512x128 rfl) (.inl rfl))

/-- The weights of item `j`, its scores in slot `s`. -/
def stageB2C1 (j : BitVec 32) {s : ℕ} (hs : s < 2) : Prog (TpuEff nD τ sig (Elt F) Λ₀ .tc) PUnit := do
  let qi : Elt F .i32 ← item arg2 j
  let t : Elt F .i32 ← item arg3 j
  stageHead arg7 arg9 arg10 arg11 arg12 harg12 qi t hs (h := 0) (b0 := 0) (b1 := 1) (by decide) (by decide) (by decide)
  stageHead arg7 arg9 arg10 arg11 arg12 harg12 qi t hs (h := 1) (b0 := 2) (b1 := 3) (by decide) (by decide) (by decide)

/-- The masked scores of block `b` into slot `s`, and their softplus. -/
def stageBlk (zz : FVec F S512x512 .f32) {b s : ℕ} (hs : s < 2) (hb : b < 4) (off : Fin 4 → ℕ) (inb : ∀ a, off a + S1x1x512x128.size a ≤ S3x2x512x128.size a) :
    Prog (TpuEff nD τ sig (Elt F) Λ₀ .tc) PUnit := do
  let pen : Vec F S1x1x512x128 .f32 ← Prog.lift (.load arg13 (Rect.unit (s := S3x2x512x128) off S1x1x512x128.size inb).toLoadRect (View.loadsAt_vmem h_S1x1x512x128))
  let _z : Vec F S1x1x512x128 .f32 ← Prog.lift (.load arg10 (Rect.unit (s := S2x4x512x128) ![s, b, 0, 0] S1x1x512x128.size (inbZ hs hb)).toLoadRect (View.loadsAt_vmem h_S1x1x512x128))
  Prog.lift (.store arg10 (Rect.unit (s := S2x4x512x128) ![s, b, 0, 0] S1x1x512x128.size (inbZ hs hb))
    (shapeCast S1x1x512x128 (maskedVal zz b hb pen) shapeCasts_S512x128_S1x1x512x128 : FVec F S1x1x512x128 .f32) Finset.univ (View.stores_vmem_bits_univ h_S1x1x512x128 rfl) (.inl rfl))
  let _sp : Vec F S1x512x128 .bf16 ← loadBlk arg11 hb
  Prog.lift (.store arg11 (Rect.unit (s := S4x512x128) ![b, 0, 0] S1x512x128.size (inbBlk hb))
    (shapeCast S1x512x128 (truncf .bf16 (softplusVal (maskedVal zz b hb pen)) bitsLt_bf16_f32) shapeCasts_S512x128_S1x512x128 : FVec F S1x512x128 .bf16)
    Finset.univ (View.stores_vmem h_S1x512x128 (harg11.storeExact_slice rfl _ (packBlk hb)) (fun _ => rfl)) (.inl rfl))

/-- The scores of item `j` into slot `s`. -/
def stageAB1 (j : BitVec 32) {s : ℕ} (hs : s < 2) : Prog (TpuEff nD τ sig (Elt F) Λ₀ .tc) PUnit := do
  let hp : Elt F .i32 ← item arg1 j
  let qi : Elt F .i32 ← item arg2 j
  have hw3 : k0_chk3 hp qi := (← Prog.lift (TpuEff.assume (k0_chk3 hp qi) (k0_chk3.dec hp qi))).down
  let t : Elt F .i32 ← item arg3 j
  have hw4 : k0_chk4 hp qi t := (← Prog.lift (TpuEff.assume (k0_chk4 hp qi t) (k0_chk4.dec hp qi t))).down
  let q : Vec F S1x1x512x128 .bf16 ← Prog.lift (.load arg4 (Rect.unit (s := S4x1x4096x128) (k0_off7 hp qi) S1x1x512x128.size (k0_off7_inb hp qi hw3)).toLoadRect (View.loadsAt_vmem h_S1x1x512x128))
  let k : Vec F S1x1x256x128 .bf16 ← Prog.lift (.load arg5 (Rect.unit (s := S4x1x4096x128) (k0_off8 hp t) S1x1x256x128.size (k0_off8_inb hp qi t hw4)).toLoadRect (View.loadsAt_vmem h_S1x1x256x128))
  stageBlk arg10 arg11 harg11 arg13 (scoreVal q k) hs (b := 0) (by decide) (k0_off9 qi t) (k0_off9_inb hp qi t hw4)
  stageBlk arg10 arg11 harg11 arg13 (scoreVal q k) hs (b := 1) (by decide) (k0_off10 qi t) (k0_off10_inb hp qi t hw4)
  stageBlk arg10 arg11 harg11 arg13 (scoreVal q k) hs (b := 2) (by decide) (k0_off9 qi t) (k0_off9_inb hp qi t hw4)
  stageBlk arg10 arg11 harg11 arg13 (scoreVal q k) hs (b := 3) (by decide) (k0_off10 qi t) (k0_off10_inb hp qi t hw4)

/-- Iteration `i`: the three stages at the items i−2, i−1 and i, reading slot `rs` and writing slot `ws`. -/
def iter (i : BitVec 32) {rs ws : ℕ} (hr : rs < 2) (hw : ws < 2) : Prog (TpuEff nD τ sig (Elt F) Λ₀ .tc) PUnit := do
  stageC2 arg1 arg2 arg3 arg6 arg8 arg12 (Scalar.subi i 2#32)
  stageB2C1 arg2 arg3 arg7 arg9 arg10 arg11 arg12 harg12 (Scalar.subi i 1#32) hr
  stageAB1 arg1 arg2 arg3 arg4 arg5 arg10 arg11 harg11 arg13 i hw

/-- Two iterations, an even one and an odd one. -/
def iter2 (i i' : BitVec 32) : Prog (TpuEff nD τ sig (Elt F) Λ₀ .tc) PUnit := do
  iter arg1 arg2 arg3 arg4 arg5 arg6 arg7 arg8 arg9 arg10 arg11 harg11 arg12 harg12 arg13 i (rs := 1) (ws := 0) (by decide) (by decide)
  iter arg1 arg2 arg3 arg4 arg5 arg6 arg7 arg8 arg9 arg10 arg11 harg11 arg12 harg12 arg13 i' (rs := 0) (ws := 1) (by decide) (by decide)

end Cert.KernelIdeal.Stick

end
-- ==== Proof.Body.lean ====
/- The kernel's function is the start, 18 trips of sixteen iterations, and two more iterations. -/
module

public import proofs.«01_k».proof.Proof.Iter

@[expose] public section

noncomputable section

namespace Cert.KernelIdeal.Stick

open Idealize.ShloMosaic Idealize.SL.Sem
open Cert.KernelIdeal Cert.KernelIdeal.Facts₀ Cert.KernelIdeal.Facts

variable {F : FTy → Type} [FloatOps F] [Named F]

variable (arg1 : Memref sig .tc .smem S288 .i32) (harg1 : arg1.IsWhole) (arg2 : Memref sig .tc .smem S288 .i32) (harg2 : arg2.IsWhole)
  (arg3 : Memref sig .tc .smem S288 .i32) (harg3 : arg3.IsWhole) (arg4 : Memref sig .tc .vmem S4x1x4096x128 .bf16) (harg4 : arg4.IsWhole)
  (arg5 : Memref sig .tc .vmem S4x1x4096x128 .bf16) (harg5 : arg5.IsWhole) (arg6 : Memref sig .tc .vmem S4x1x4096x128 .bf16) (harg6 : arg6.IsWhole)
  (arg7 : Memref sig .tc .vmem S256x256 .bf16) (harg7 : arg7.IsWhole) (arg8 : Memref sig .tc .vmem S4x1x4096x128 .f32) (harg8 : arg8.IsWhole)
  (arg9 : Memref sig .tc .vmem S2x512x128 .f32) (harg9 : arg9.IsWhole) (arg10 : Memref sig .tc .vmem S2x4x512x128 .f32) (harg10 : arg10.IsWhole)
  (arg11 : Memref sig .tc .vmem S4x512x128 .bf16) (harg11 : arg11.IsWhole) (arg12 : Memref sig .tc .vmem S4x512x128 .bf16) (harg12 : arg12.IsWhole)
  (arg13 : Memref sig .tc .vmem S3x2x512x128 .f32) (harg13 : arg13.IsWhole)

/-- Number of iteration `u` of trip `m`. -/
abbrev itNo (m : BitVec 32) (u : BitVec 32) : BitVec 32 := Scalar.addi (Scalar.muli 16#32 m) u

/-- A trip of the loop: sixteen iterations. -/
def trip (m : BitVec 32) : Prog (TpuEff nD τ sig (Elt F) Λ₀ .tc) PUnit := do
  iter2 arg1 arg2 arg3 arg4 arg5 arg6 arg7 arg8 arg9 arg10 arg11 harg11 arg12 harg12 arg13 (itNo m 0#32) (itNo m 1#32)
  iter2 arg1 arg2 arg3 arg4 arg5 arg6 arg7 arg8 arg9 arg10 arg11 harg11 arg12 harg12 arg13 (itNo m 2#32) (itNo m 3#32)
  iter2 arg1 arg2 arg3 arg4 arg5 arg6 arg7 arg8 arg9 arg10 arg11 harg11 arg12 harg12 arg13 (itNo m 4#32) (itNo m 5#32)
  iter2 arg1 arg2 arg3 arg4 arg5 arg6 arg7 arg8 arg9 arg10 arg11 harg11 arg12 harg12 arg13 (itNo m 6#32) (itNo m 7#32)
  iter2 arg1 arg2 arg3 arg4 arg5 arg6 arg7 arg8 arg9 arg10 arg11 harg11 arg12 harg12 arg13 (itNo m 8#32) (itNo m 9#32)
  iter2 arg1 arg2 arg3 arg4 arg5 arg6 arg7 arg8 arg9 arg10 arg11 harg11 arg12 harg12 arg13 (itNo m 10#32) (itNo m 11#32)
  iter2 arg1 arg2 arg3 arg4 arg5 arg6 arg7 arg8 arg9 arg10 arg11 harg11 arg12 harg12 arg13 (itNo m 12#32) (itNo m 13#32)
  iter2 arg1 arg2 arg3 arg4 arg5 arg6 arg7 arg8 arg9 arg10 arg11 harg11 arg12 harg12 arg13 (itNo m 14#32) (itNo m 15#32)

/-- The penalties of a block of keys that starts at key `c` of the query block: zero for an earlier key, and the mask. -/
def penVal (c : BitVec 32) : FVec F S1x1x512x128 .f32 :=
  shapeCast S1x1x512x128
    (select (cmpi .slt (addi (iota .tc S512x128 32 [1] iota_S512x128_d1_w32) (broadcast S512x128 c)) (iota .tc S512x128 32 [0] iota_S512x128_d0_w32))
      (broadcast S512x128 (Scalar.ofBits .f32 0x00000000#32 : F .f32)) (broadcast S512x128 (Named.named κ "mask" 0xF149F2CA#32 : F .f32)) : FVec F S512x128 .f32)
    shapeCasts_S512x128_S1x1x512x128

/-- Writes the penalties of one block of keys. -/
def storePen (off : Fin 4 → ℕ) (inb : ∀ a, off a + S1x1x512x128.size a ≤ S3x2x512x128.size a) (c : BitVec 32) :
    Prog (TpuEff nD τ sig (Elt F) Λ₀ .tc) PUnit := do
  let _p : Vec F S1x1x512x128 .f32 ← Prog.lift (.load arg13 (Rect.unit (s := S3x2x512x128) off S1x1x512x128.size inb).toLoadRect (View.loadsAt_vmem h_S1x1x512x128))
  Prog.lift (.store arg13 (Rect.unit (s := S3x2x512x128) off S1x1x512x128.size inb) (penVal c : FVec F S1x1x512x128 .f32) Finset.univ (View.stores_vmem_bits_univ h_S1x1x512x128 rfl) (.inl rfl))

/-- The start: every buffer zero, and the penalties. -/
def prologue : Prog (TpuEff nD τ sig (Elt F) Λ₀ .tc) PUnit := do
  let _o : Vec F S4x1x4096x128 .f32 ← Prog.lift (.load arg8 (Rect.unit (s := S4x1x4096x128) ![0, 0, 0, 0] S4x1x4096x128.size inb_S4x1x4096x128_S4x1x4096x128_0_0_0_0).toLoadRect (View.loadsAt_vmem h_S4x1x4096x128))
  Prog.lift (.store arg8 (Rect.unit (s := S4x1x4096x128) ![0, 0, 0, 0] S4x1x4096x128.size inb_S4x1x4096x128_S4x1x4096x128_0_0_0_0) (broadcast S4x1x4096x128 (Scalar.ofBits .f32 0x00000000#32 : F .f32) : FVec F S4x1x4096x128 .f32) Finset.univ (View.stores_vmem_bits_univ h_S4x1x4096x128 rfl) (.inl rfl))
  let _c : Vec F S2x512x128 .f32 ← Prog.lift (.load arg9 (Rect.unit (s := S2x512x128) ![0, 0, 0] S2x512x128.size inb_S2x512x128_S2x512x128_0_0_0).toLoadRect (View.loadsAt_vmem h_S2x512x128))
  Prog.lift (.store arg9 (Rect.unit (s := S2x512x128) ![0, 0, 0] S2x512x128.size inb_S2x512x128_S2x512x128_0_0_0) (shapeCast S2x512x128 (broadcast S2x512x128 (Scalar.ofBits .f32 0x00000000#32 : F .f32)) shapeCasts_S2x512x128_S2x512x128 : FVec F S2x512x128 .f32) Finset.univ (View.stores_vmem_bits_univ h_S2x512x128 rfl) (.inl rfl))
  let _z : Vec F S2x4x512x128 .f32 ← Prog.lift (.load arg10 (Rect.unit (s := S2x4x512x128) ![0, 0, 0, 0] S2x4x512x128.size inb_S2x4x512x128_S2x4x512x128_0_0_0_0).toLoadRect (View.loadsAt_vmem h_S2x4x512x128))
  Prog.lift (.store arg10 (Rect.unit (s := S2x4x512x128) ![0, 0, 0, 0] S2x4x512x128.size inb_S2x4x512x128_S2x4x512x128_0_0_0_0) (shapeCast S2x4x512x128 (broadcast S2x4x512x128 (Scalar.ofBits .f32 0x00000000#32 : F .f32)) shapeCasts_S2x4x512x128_S2x4x512x128 : FVec F S2x4x512x128 .f32) Finset.univ (View.stores_vmem_bits_univ h_S2x4x512x128 rfl) (.inl rfl))
  let _s : Vec F S4x512x128 .bf16 ← Prog.lift (.load arg11 (Rect.unit (s := S4x512x128) ![0, 0, 0] S4x512x128.size inb_S4x512x128_S4x512x128_0_0_0).toLoadRect (View.loadsAt_vmem h_S4x512x128))
  Prog.lift (.store arg11 (Rect.unit (s := S4x512x128) ![0, 0, 0] S4x512x128.size inb_S4x512x128_S4x512x128_0_0_0) (shapeCast S4x512x128 (broadcast S4x512x128 (Scalar.ofBits .bf16 0x0000#16 : F .bf16)) shapeCasts_S4x512x128_S4x512x128 : FVec F S4x512x128 .bf16) Finset.univ (View.stores_vmem h_S4x512x128 (harg11.storeExact_slice rfl _ packedbf16_S4x512x128_S4x512x128_0_0_0) (fun _ => rfl)) (.inl rfl))
  let _w : Vec F S4x512x128 .bf16 ← Prog.lift (.load arg12 (Rect.unit (s := S4x512x128) ![0, 0, 0] S4x512x128.size inb_S4x512x128_S4x512x128_0_0_0).toLoadRect (View.loadsAt_vmem h_S4x512x128))
  Prog.lift (.store arg12 (Rect.unit (s := S4x512x128) ![0, 0, 0] S4x512x128.size inb_S4x512x128_S4x512x128_0_0_0) (shapeCast S4x512x128 (broadcast S4x512x128 (Scalar.ofBits .bf16 0x0000#16 : F .bf16)) shapeCasts_S4x512x128_S4x512x128 : FVec F S4x512x128 .bf16) Finset.univ (View.stores_vmem h_S4x512x128 (harg12.storeExact_slice rfl _ packedbf16_S4x512x128_S4x512x128_0_0_0) (fun _ => rfl)) (.inl rfl))
  let _p : Vec F S1x2x512x128 .f32 ← Prog.lift (.load arg13 (Rect.unit (s := S3x2x512x128) ![0, 0, 0, 0] S1x2x512x128.size inb_S3x2x512x128_S1x2x512x128_0_0_0_0).toLoadRect (View.loadsAt_vmem h_S1x2x512x128))
  Prog.lift (.store arg13 (Rect.unit (s := S3x2x512x128) ![0, 0, 0, 0] S1x2x512x128.size inb_S3x2x512x128_S1x2x512x128_0_0_0_0) (shapeCast S1x2x512x128 (broadcast S2x512x128 (Scalar.ofBits .f32 0x00000000#32 : F .f32)) shapeCasts_S2x512x128_S1x2x512x128 : FVec F S1x2x512x128 .f32) Finset.univ (View.stores_vmem_bits_univ h_S1x2x512x128 rfl) (.inl rfl))
  storePen arg13 ![1, 0, 0, 0] inb_S3x2x512x128_S1x1x512x128_1_0_0_0 0#32
  storePen arg13 ![1, 1, 0, 0] inb_S3x2x512x128_S1x1x512x128_1_1_0_0 128#32
  storePen arg13 ![2, 0, 0, 0] inb_S3x2x512x128_S1x1x512x128_2_0_0_0 256#32
  storePen arg13 ![2, 1, 0, 0] inb_S3x2x512x128_S1x1x512x128_2_1_0_0 384#32

/-- The kernel's function: the start, 18 trips, and the two iterations left over. -/
def whole : Prog (TpuEff nD τ sig (Elt F) Λ₀ .tc) PUnit := do
  prologue arg8 arg9 arg10 arg11 harg11 arg12 harg12 arg13
  Scf.Loop.for k0_t1_loop k0_t1_ok ⟨⟩ fun k _ => trip arg1 arg2 arg3 arg4 arg5 arg6 arg7 arg8 arg9 arg10 arg11 harg11 arg12 harg12 arg13 (Scf.iv 0#32 1#32 k)
  iter2 arg1 arg2 arg3 arg4 arg5 arg6 arg7 arg8 arg9 arg10 arg11 harg11 arg12 harg12 arg13 288#32 289#32

theorem whole_eq (i : grid0.Coords) :
    cc0_stickbreak (F := F) i arg1 harg1 arg2 harg2 arg3 harg3 arg4 harg4 arg5 harg5 arg6 harg6 arg7 harg7 arg8 harg8 arg9 harg9 arg10 harg10 arg11 harg11 arg12 harg12 arg13 harg13
      = whole arg1 arg2 arg3 arg4 arg5 arg6 arg7 arg8 arg9 arg10 arg11 harg11 arg12 harg12 arg13 := by
  unfold cc0_stickbreak k0_part142 k0_part127 whole
  simp only [bind_assoc]
  sl_kernel_rfl

end Cert.KernelIdeal.Stick

end
-- ==== Proof.Stages.lean ====
/- What each fragment of an iteration does to the buffers. -/
module

public import proofs.«01_k».proof.Proof.Body
public import Idealize.ShloMosaic.Lib.VecWindow
public import Idealize.ShloMosaic.Lib.Pipeline.FrameBody
public import Idealize.ShloMosaic.Lib.Claim

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Named F]

local notation "𝕄" => MT nD τ sig Unit (Elt F) ℕ (UR sig nD τ) ℕ

variable (arg1 : Memref sig .tc .smem S288 .i32) (harg1 : arg1.IsWhole) (arg2 : Memref sig .tc .smem S288 .i32) (harg2 : arg2.IsWhole)
  (arg3 : Memref sig .tc .smem S288 .i32) (harg3 : arg3.IsWhole) (arg4 : Memref sig .tc .vmem S4x1x4096x128 .bf16) (harg4 : arg4.IsWhole)
  (arg5 : Memref sig .tc .vmem S4x1x4096x128 .bf16) (harg5 : arg5.IsWhole) (arg6 : Memref sig .tc .vmem S4x1x4096x128 .bf16) (harg6 : arg6.IsWhole)
  (arg7 : Memref sig .tc .vmem S256x256 .bf16) (harg7 : arg7.IsWhole) (arg8 : Memref sig .tc .vmem S4x1x4096x128 .f32) (harg8 : arg8.IsWhole)
  (arg9 : Memref sig .tc .vmem S2x512x128 .f32) (harg9 : arg9.IsWhole) (arg10 : Memref sig .tc .vmem S2x4x512x128 .f32) (harg10 : arg10.IsWhole)
  (arg11 : Memref sig .tc .vmem S4x512x128 .bf16) (harg11 : arg11.IsWhole) (arg12 : Memref sig .tc .vmem S4x512x128 .bf16) (harg12 : arg12.IsWhole)
  (arg13 : Memref sig .tc .vmem S3x2x512x128 .f32) (harg13 : arg13.IsWhole)

/-- The entry of a table that item `j` reads. -/
def tabIdx (j : BitVec 32) : S288.Idx := fun a => ⟨tabOff j a, by
  have h := tabOff_lt j
  fin_cases a
  exact h⟩

/-- A read of a table's entry. -/
theorem readAt_tab (M : Memref sig .tc .smem S288 .i32) (j : BitVec 32) (f : M.view.ty.Contents (Elt F)) (t : Vec F S288 .i32) (w : Elt F .i32)
    (hf : M.view.read (Elt F) f = t) (hw : t (tabIdx j) = w) (pf) (pf') :
    View.readAt (Elt F) M.view (Rect.unit (s := S288) (tabOff j) S1.size pf).toLoadRect f (Shape.Idx.first (s := S1) pf') = w := by
  subst hf; subst hw
  rw [View.readAt_unit M.view f (off := tabOff j) (off' := tabOff j) (size := S1.size) pf rfl pf]
  show M.view.read (Elt F) f _ = _
  congr 1

/-! ## The contents of the buffers -/

/-- What the kernel only reads: the three tables, the queries, keys and values, the scan matrix, and the penalties. -/
structure Ins (F : FTy → Type) where
  t1 : Vec F S288 .i32
  t2 : Vec F S288 .i32
  t3 : Vec F S288 .i32
  q : Vec F S4x1x4096x128 .bf16
  k : Vec F S4x1x4096x128 .bf16
  v : Vec F S4x1x4096x128 .bf16
  tri : Vec F S256x256 .bf16
  pen : Vec F S3x2x512x128 .f32

/-- What it writes: the output, the carried sums, the masked scores, their softplus, the weights. -/
structure St (F : FTy → Type) where
  o : Vec F S4x1x4096x128 .f32
  c : Vec F S2x512x128 .f32
  z : Vec F S2x4x512x128 .f32
  sp : Vec F S4x512x128 .bf16
  w : Vec F S4x512x128 .bf16

/-- Block `b` of a buffer of four. -/
def blkOf (x : Vec F S4x512x128 .bf16) {b : ℕ} (hb : b < 4) : Vec F S1x512x128 .bf16 := VecWindow.window x ![b, 0, 0] S1x512x128.size (inbBlk hb)

/-- The output after the accumulation. -/
def outC2 (I : Ins F) (s : St F) (hp qi t : BitVec 32) (hw1 : k0_chk1 hp qi) (hw2 : k0_chk2 hp t) : Vec F S4x1x4096x128 .f32 :=
  VecWindow.put s.o (k0_off4 hp qi) S1x1x512x128.size
    (accVal (isDiag qi t) (VecWindow.window s.o (k0_off2 hp qi) S1x1x512x128.size (k0_off2_inb hp qi hw1))
      (blkOf s.w (b := 0) (by decide)) (blkOf s.w (b := 1) (by decide)) (blkOf s.w (b := 2) (by decide)) (blkOf s.w (b := 3) (by decide))
      (VecWindow.window I.v (k0_off3 hp t) S1x1x256x128.size (k0_off3_inb hp t hw2)))

/-- The state after the accumulation. -/
def stepC2 (I : Ins F) (s : St F) (hp qi t : BitVec 32) (hw1 : k0_chk1 hp qi) (hw2 : k0_chk2 hp t) : St F :=
  { s with o := outC2 I s hp qi t hw1 hw2 }

/-- The sums within the tile of one head. -/
def headScan (I : Ins F) (s : St F) {b0 b1 : ℕ} (hb0 : b0 < 4) (hb1 : b1 < 4) : FVec F S512x256 .f32 :=
  scanVal (blkOf s.sp hb0) (blkOf s.sp hb1) (VecWindow.window I.tri ![0, 0] S256x256.size inb_S256x256_S256x256_0_0)

/-- The sum carried into the tile. -/
def headCarry (s : St F) (qi t : BitVec 32) {h : ℕ} (hh : h < 2) : FVec F S512x128 .f32 :=
  resetAt (isDiag qi t) (shapeCast S512x128 (VecWindow.window s.c ![h, 0, 0] S1x512x128.size (inbHead hh) : Vec F S1x512x128 .f32) shapeCasts_S1x512x128_S512x128)

/-- The state after the weights of one head. -/
def stepHead (I : Ins F) (s : St F) (qi t : BitVec 32) {r h b0 b1 : ℕ} (hr : r < 2) (hh : h < 2) (hb0 : b0 < 4) (hb1 : b1 < 4) : St F :=
  { s with
    w := VecWindow.put
      (VecWindow.put s.w ![b0, 0, 0] S1x512x128.size
        (weightVal (VecWindow.window s.z ![r, b0, 0, 0] S1x1x512x128.size (inbZ hr hb0))
          (extractStridedSlice S512x128 ![0, 0] (headScan I s hb0 hb1) slices_S512x256_o0_0_S512x128) (headCarry s qi t hh)))
      ![b1, 0, 0] S1x512x128.size
      (weightVal (VecWindow.window s.z ![r, b1, 0, 0] S1x1x512x128.size (inbZ hr hb1))
        (extractStridedSlice S512x128 ![0, 128] (headScan I s hb0 hb1) slices_S512x256_o0_128_S512x128) (headCarry s qi t hh))
    c := VecWindow.put s.c ![h, 0, 0] S1x512x128.size (carryVal (headScan I s hb0 hb1) (headCarry s qi t hh)) }

/-- The state after the weights of both heads. -/
def stepB2C1 (I : Ins F) (s : St F) (qi t : BitVec 32) {r : ℕ} (hr : r < 2) : St F :=
  stepHead I (stepHead I s qi t hr (h := 0) (b0 := 0) (b1 := 1) (by decide) (by decide) (by decide)) qi t hr (h := 1) (b0 := 2) (b1 := 3)
    (by decide) (by decide) (by decide)

/-- The state after the scores of one block. -/
def stepBlk (I : Ins F) (s : St F) (zz : FVec F S512x512 .f32) {b r : ℕ} (hr : r < 2) (hb : b < 4) (off : Fin 4 → ℕ)
    (inb : ∀ a, off a + S1x1x512x128.size a ≤ S3x2x512x128.size a) : St F :=
  { s with
    z := VecWindow.put s.z ![r, b, 0, 0] S1x1x512x128.size
      (shapeCast S1x1x512x128 (maskedVal zz b hb (VecWindow.window I.pen off S1x1x512x128.size inb)) shapeCasts_S512x128_S1x1x512x128 : FVec F S1x1x512x128 .f32)
    sp := VecWindow.put s.sp ![b, 0, 0] S1x512x128.size
      (shapeCast S1x512x128 (truncf .bf16 (softplusVal (maskedVal zz b hb (VecWindow.window I.pen off S1x1x512x128.size inb))) bitsLt_bf16_f32)
        shapeCasts_S512x128_S1x512x128 : FVec F S1x512x128 .bf16) }

/-- The scores of an item. -/
def itemScore (I : Ins F) (hp qi t : BitVec 32) (hw3 : k0_chk3 hp qi) (hw4 : k0_chk4 hp qi t) : FVec F S512x512 .f32 :=
  scoreVal (VecWindow.window I.q (k0_off7 hp qi) S1x1x512x128.size (k0_off7_inb hp qi hw3))
    (VecWindow.window I.k (k0_off8 hp t) S1x1x256x128.size (k0_off8_inb hp qi t hw4))

/-- The state after the scores of an item. -/
def stepAB1 (I : Ins F) (s : St F) (hp qi t : BitVec 32) (hw3 : k0_chk3 hp qi) (hw4 : k0_chk4 hp qi t) {r : ℕ} (hr : r < 2) : St F :=
  let zz := itemScore I hp qi t hw3 hw4
  let s := stepBlk I s zz hr (b := 0) (by decide) (k0_off9 qi t) (k0_off9_inb hp qi t hw4)
  let s := stepBlk I s zz hr (b := 1) (by decide) (k0_off10 qi t) (k0_off10_inb hp qi t hw4)
  let s := stepBlk I s zz hr (b := 2) (by decide) (k0_off9 qi t) (k0_off9_inb hp qi t hw4)
  stepBlk I s zz hr (b := 3) (by decide) (k0_off10 qi t) (k0_off10_inb hp qi t hw4)

/-! ## The triples -/

/-- The buffers, at their contents. -/
def held (c : Dev nD) (I : Ins F) (s : St F) : sProp 𝕄 :=
  iprop(owns (c : Thread nD τ) arg1 fullShare.right I.t1 ∗ owns (c : Thread nD τ) arg2 fullShare.right I.t2 ∗ owns (c : Thread nD τ) arg3 fullShare.right I.t3
    ∗ owns (c : Thread nD τ) arg4 fullShare I.q ∗ owns (c : Thread nD τ) arg5 fullShare I.k ∗ owns (c : Thread nD τ) arg6 fullShare I.v
    ∗ owns (c : Thread nD τ) arg7 fullShare I.tri ∗ owns (c : Thread nD τ) arg8 fullShare s.o ∗ owns (c : Thread nD τ) arg9 fullShare s.c
    ∗ owns (c : Thread nD τ) arg10 fullShare s.z ∗ owns (c : Thread nD τ) arg11 fullShare s.sp ∗ owns (c : Thread nD τ) arg12 fullShare s.w
    ∗ owns (c : Thread nD τ) arg13 fullShare I.pen)

local notation "Held" => held arg1 arg2 arg3 arg4 arg5 arg6 arg7 arg8 arg9 arg10 arg11 arg12 arg13

/-- A fragment takes the buffers from one state to another. -/
def Runs (c : Dev nD) (I : Ins F) (p : Prog (TpuEff nD τ sig (Elt F) Λ₀ .tc) PUnit) (s s' : St F) : Prop :=
  ∀ (E : Set ℕ) (K : PUnit → sProp 𝕄),
    iprop(Held c I s ∗ (Held c I s' -∗ K ⟨⟩)) ⊢ wp frame (wpE (defs₀ (F := F)) Variants.none c none) E p K

theorem stageC2_run (c : Dev nD) (I : Ins F) (s : St F) (j : BitVec 32)
    (hp qi t : Elt F .i32) (e1 : I.t1 (tabIdx j) = hp) (e2 : I.t2 (tabIdx j) = qi) (e3 : I.t3 (tabIdx j) = t)
    (hw1 : k0_chk1 hp qi) (hw2 : k0_chk2 hp t) :
    Runs arg1 arg2 arg3 arg4 arg5 arg6 arg7 arg8 arg9 arg10 arg11 arg12 arg13 c I (stageC2 arg1 arg2 arg3 arg6 arg8 arg12 j) s (stepC2 I s hp qi t hw1 hw2) := by
  intro E K
  unfold stageC2 held
  rcases s with ⟨o, cc, z, sp, w⟩
  rcases I with ⟨t1, t2, t3, q, k, v, tri, pen⟩
  unfold owns
  iintro ⟨⟨⟨%f1, %h1, H1⟩, ⟨%f2, %h2, H2⟩, ⟨%f3, %h3, H3⟩, H4, H5, ⟨%f6, %h6, H6⟩, H7, ⟨%f8, %h8, H8⟩, H9, H10, H11, ⟨%f12, %h12, H12⟩, H13⟩, Hk⟩
  sl_exec
  delta stageC2_run.sl.r stageC2_run.sl.r_1
  rw [readAt_tab arg1 j f1 t1 hp h1 e1, readAt_tab arg2 j f2 t2 qi h2 e2]
  sl_exec
  delta stageC2_run.sl.r_2
  rw [readAt_tab arg3 j f3 t3 t h3 e3]
  sl_exec
  sl_step
  iapply Hk
  isplitl [H1]; · iexists _; isplitr; swap; · iexact H1
                  ipureintro; exact h1
  isplitl [H2]; · iexists _; isplitr; swap; · iexact H2
                  ipureintro; exact h2
  isplitl [H3]; · iexists _; isplitr; swap; · iexact H3
                  ipureintro; exact h3
  isplitl [H4]; · iexact H4
  isplitl [H5]; · iexact H5
  isplitl [H6]; · iexists _; isplitr; swap; · iexact H6
                  ipureintro; exact h6
  isplitl [H7]; · iexact H7
  isplitl [H8]
  · iexists _; isplitr; swap; · iexact H8
    ipureintro
    delta stageC2_run.sl.r_3 stageC2_run.sl.r_4 stageC2_run.sl.r_5 stageC2_run.sl.r_6
    rw [View.read_writes_cons_put arg8.view f8 _ _ _ rfl]
    rw [View.readAt_unit arg8.view f8 _ rfl (k0_off2_inb hp qi hw1), View.readAt_unit arg6.view f6 _ rfl (k0_off3_inb hp t hw2)]
    cases h6; cases h8; cases h12
    rfl
  isplitl [H9]; · iexact H9
  isplitl [H10]; · iexact H10
  isplitl [H11]; · iexact H11
  isplitl [H12]; · iexists _; isplitr; swap; · iexact H12
                   ipureintro; exact h12
  iexact H13

theorem stageHead_run (c : Dev nD) (I : Ins F) (s : St F) (qi t : Elt F .i32) {r h b0 b1 : ℕ} (hr : r < 2) (hh : h < 2) (hb0 : b0 < 4) (hb1 : b1 < 4) :
    Runs arg1 arg2 arg3 arg4 arg5 arg6 arg7 arg8 arg9 arg10 arg11 arg12 arg13 c I (stageHead arg7 arg9 arg10 arg11 arg12 harg12 qi t hr hh hb0 hb1) s
      (stepHead I s qi t hr hh hb0 hb1) := by
  intro E K
  unfold stageHead held
  rcases s with ⟨o, cc, z, sp, w⟩
  rcases I with ⟨t1, t2, t3, q, k, v, tri, pen⟩
  unfold owns
  iintro ⟨⟨H1, H2, H3, H4, H5, H6, ⟨%f7, %h7, H7⟩, H8, ⟨%f9, %h9, H9⟩, ⟨%f10, %h10, H10⟩, ⟨%f11, %h11, H11⟩, ⟨%f12, %h12, H12⟩, H13⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; isplitr; swap; · iexact H7
                  ipureintro; exact h7
  isplitl [H8]; · iexact H8
  isplitl [H9]
  · iexists _; isplitr; swap; · iexact H9
    ipureintro
    rw [View.read_writes_cons_put arg9.view f9 _ _ _ rfl]
    cases h7; cases h9; cases h11
    rfl
  isplitl [H10]; · iexists _; isplitr; swap; · iexact H10
                   ipureintro; exact h10
  isplitl [H11]; · iexists _; isplitr; swap; · iexact H11
                   ipureintro; exact h11
  isplitl [H12]
  · iexists _; isplitr; swap; · iexact H12
    ipureintro
    delta stageHead_run.sl.H12_1
    rw [View.read_writes_cons_put arg12.view f12 _ _ _ rfl, View.read_writes_cons_put arg12.view f12 _ _ _ rfl]
    cases h7; cases h9; cases h10; cases h11; cases h12
    rfl
  iexact H13

theorem stageBlk_run (c : Dev nD) (I : Ins F) (s : St F) (zz : FVec F S512x512 .f32) {r b : ℕ} (hr : r < 2) (hb : b < 4) (off : Fin 4 → ℕ)
    (inb : ∀ a, off a + S1x1x512x128.size a ≤ S3x2x512x128.size a) :
    Runs arg1 arg2 arg3 arg4 arg5 arg6 arg7 arg8 arg9 arg10 arg11 arg12 arg13 c I (stageBlk arg10 arg11 harg11 arg13 zz hr hb off inb) s
      (stepBlk I s zz hr hb off inb) := by
  intro E K
  unfold stageBlk held
  rcases s with ⟨o, cc, z, sp, w⟩
  rcases I with ⟨t1, t2, t3, q, k, v, tri, pen⟩
  unfold owns
  iintro ⟨⟨H1, H2, H3, H4, H5, H6, H7, H8, H9, ⟨%f10, %h10, H10⟩, ⟨%f11, %h11, H11⟩, H12, ⟨%f13, %h13, H13⟩⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro
    rw [View.read_writes_cons_put arg10.view f10 _ _ _ rfl]
    cases h10; cases h13
    rfl
  isplitl [H11]
  · iexists _; isplitr; swap; · iexact H11
    ipureintro
    rw [View.read_writes_cons_put arg11.view f11 _ _ _ rfl]
    cases h11; cases h13
    rfl
  isplitl [H12]; · iexact H12
  iexists _; isplitr; swap; · iexact H13
  ipureintro; exact h13

/-- Fragments one after the other. -/
theorem Runs.bind {c : Dev nD} {I : Ins F} {p q : Prog (TpuEff nD τ sig (Elt F) Λ₀ .tc) PUnit} {s s' s'' : St F}
    (hp : Runs arg1 arg2 arg3 arg4 arg5 arg6 arg7 arg8 arg9 arg10 arg11 arg12 arg13 c I p s s')
    (hq : Runs arg1 arg2 arg3 arg4 arg5 arg6 arg7 arg8 arg9 arg10 arg11 arg12 arg13 c I q s' s'') :
    Runs arg1 arg2 arg3 arg4 arg5 arg6 arg7 arg8 arg9 arg10 arg11 arg12 arg13 c I (p >>= fun _ => q) s s'' := by
  intro E K
  rw [wp_bind_eq]
  refine .trans ?_ (hp E _)
  iintro ⟨H, Hk⟩
  isplitl [H]; · iexact H
  iintro H
  iapply (hq E K)
  isplitl [H]; · iexact H
  iexact Hk

theorem Runs.item1 {c : Dev nD} {I : Ins F} {s s' : St F} {j : BitVec 32} {w : Elt F .i32} {k : Elt F .i32 → Prog (TpuEff nD τ sig (Elt F) Λ₀ .tc) PUnit}
    (hw : I.t1 (tabIdx j) = w) (hk : Runs arg1 arg2 arg3 arg4 arg5 arg6 arg7 arg8 arg9 arg10 arg11 arg12 arg13 c I (k w) s s') :
    Runs arg1 arg2 arg3 arg4 arg5 arg6 arg7 arg8 arg9 arg10 arg11 arg12 arg13 c I (item arg1 j >>= k) s s' := by
  intro E K
  unfold held
  unfold owns
  iintro ⟨⟨⟨%f, %h, H1⟩, H2, H3, HR⟩, Hk⟩
  sl_exec
  delta item1.sl.r
  rw [readAt_tab arg1 j f I.t1 w h hw]
  iapply (hk E K)
  unfold held owns
  isplitr [Hk]; swap; · iexact Hk
  isplitl [H1]; · iexists _; isplitr; swap; · iexact H1
                  ipureintro; exact h
  isplitl [H2]; · iexact H2
  isplitl [H3]; · iexact H3
  iexact HR

theorem Runs.item2 {c : Dev nD} {I : Ins F} {s s' : St F} {j : BitVec 32} {w : Elt F .i32} {k : Elt F .i32 → Prog (TpuEff nD τ sig (Elt F) Λ₀ .tc) PUnit}
    (hw : I.t2 (tabIdx j) = w) (hk : Runs arg1 arg2 arg3 arg4 arg5 arg6 arg7 arg8 arg9 arg10 arg11 arg12 arg13 c I (k w) s s') :
    Runs arg1 arg2 arg3 arg4 arg5 arg6 arg7 arg8 arg9 arg10 arg11 arg12 arg13 c I (item arg2 j >>= k) s s' := by
  intro E K
  unfold held
  unfold owns
  iintro ⟨⟨H1, ⟨%f, %h, H2⟩, H3, HR⟩, Hk⟩
  sl_exec
  delta item2.sl.r
  rw [readAt_tab arg2 j f I.t2 w h hw]
  iapply (hk E K)
  unfold held owns
  isplitr [Hk]; swap; · iexact Hk
  isplitl [H1]; · iexact H1
  isplitl [H2]; · iexists _; isplitr; swap; · iexact H2
                  ipureintro; exact h
  isplitl [H3]; · iexact H3
  iexact HR

theorem Runs.item3 {c : Dev nD} {I : Ins F} {s s' : St F} {j : BitVec 32} {w : Elt F .i32} {k : Elt F .i32 → Prog (TpuEff nD τ sig (Elt F) Λ₀ .tc) PUnit}
    (hw : I.t3 (tabIdx j) = w) (hk : Runs arg1 arg2 arg3 arg4 arg5 arg6 arg7 arg8 arg9 arg10 arg11 arg12 arg13 c I (k w) s s') :
    Runs arg1 arg2 arg3 arg4 arg5 arg6 arg7 arg8 arg9 arg10 arg11 arg12 arg13 c I (item arg3 j >>= k) s s' := by
  intro E K
  unfold held
  unfold owns
  iintro ⟨⟨H1, H2, ⟨%f, %h, H3⟩, HR⟩, Hk⟩
  sl_exec
  delta item3.sl.r
  rw [readAt_tab arg3 j f I.t3 w h hw]
  iapply (hk E K)
  unfold held owns
  isplitr [Hk]; swap; · iexact Hk
  isplitl [H1]; · iexact H1
  isplitl [H2]; · iexact H2
  isplitl [H3]; · iexists _; isplitr; swap; · iexact H3
                  ipureintro; exact h
  iexact HR

theorem Runs.loadQ {c : Dev nD} {I : Ins F} {s s' : St F} {off : Fin 4 → ℕ} {inb : ∀ a, off a + S1x1x512x128.size a ≤ S4x1x4096x128.size a}
    {k : Vec F S1x1x512x128 .bf16 → Prog (TpuEff nD τ sig (Elt F) Λ₀ .tc) PUnit} (hk : Runs arg1 arg2 arg3 arg4 arg5 arg6 arg7 arg8 arg9 arg10 arg11 arg12 arg13 c I (k (VecWindow.window I.q off S1x1x512x128.size inb)) s s') :
    Runs arg1 arg2 arg3 arg4 arg5 arg6 arg7 arg8 arg9 arg10 arg11 arg12 arg13 c I
      (Prog.lift (.load arg4 (Rect.unit (s := S4x1x4096x128) off S1x1x512x128.size inb).toLoadRect (View.loadsAt_vmem h_S1x1x512x128)) >>= k) s s' := by
  intro E K
  unfold held
  unfold owns
  iintro ⟨⟨H1, H2, H3, ⟨%f, %h, H4⟩, HR⟩, Hk⟩
  sl_exec
  rw [View.readAt_unit arg4.view f inb rfl inb, h]
  iapply (hk E K)
  unfold held owns
  isplitr [Hk]; swap; · iexact Hk
  isplitl [H1]; · iexact H1
  isplitl [H2]; · iexact H2
  isplitl [H3]; · iexact H3
  isplitl [H4]; · iexists _; isplitr; swap; · iexact H4
                  ipureintro; exact h
  iexact HR

theorem Runs.loadK {c : Dev nD} {I : Ins F} {s s' : St F} {off : Fin 4 → ℕ} {inb : ∀ a, off a + S1x1x256x128.size a ≤ S4x1x4096x128.size a}
    {k : Vec F S1x1x256x128 .bf16 → Prog (TpuEff nD τ sig (Elt F) Λ₀ .tc) PUnit} (hk : Runs arg1 arg2 arg3 arg4 arg5 arg6 arg7 arg8 arg9 arg10 arg11 arg12 arg13 c I (k (VecWindow.window I.k off S1x1x256x128.size inb)) s s') :
    Runs arg1 arg2 arg3 arg4 arg5 arg6 arg7 arg8 arg9 arg10 arg11 arg12 arg13 c I
      (Prog.lift (.load arg5 (Rect.unit (s := S4x1x4096x128) off S1x1x256x128.size inb).toLoadRect (View.loadsAt_vmem h_S1x1x256x128)) >>= k) s s' := by
  intro E K
  unfold held
  unfold owns
  iintro ⟨⟨H1, H2, H3, H4, ⟨%f, %h, H5⟩, HR⟩, Hk⟩
  sl_exec
  rw [View.readAt_unit arg5.view f inb rfl inb, h]
  iapply (hk E K)
  unfold held owns
  isplitr [Hk]; swap; · iexact Hk
  isplitl [H1]; · iexact H1
  isplitl [H2]; · iexact H2
  isplitl [H3]; · iexact H3
  isplitl [H4]; · iexact H4
  isplitl [H5]; · iexists _; isplitr; swap; · iexact H5
                  ipureintro; exact h
  iexact HR

theorem Runs.check {c : Dev nD} {I : Ins F} {s s' : St F} {P : Prop} {dec : Decidable P} {k : PLift P → Prog (TpuEff nD τ sig (Elt F) Λ₀ .tc) PUnit}
    (h : P) (hk : Runs arg1 arg2 arg3 arg4 arg5 arg6 arg7 arg8 arg9 arg10 arg11 arg12 arg13 c I (k ⟨h⟩) s s') :
    Runs arg1 arg2 arg3 arg4 arg5 arg6 arg7 arg8 arg9 arg10 arg11 arg12 arg13 c I (Prog.lift (TpuEff.assume P dec) >>= k) s s' := by
  intro E K
  iintro H
  sl_exec
  iapply (hk E K)
  iexact H

theorem stageB2C1_run (c : Dev nD) (I : Ins F) (s : St F) (j : BitVec 32) (qi t : Elt F .i32) (e2 : I.t2 (tabIdx j) = qi) (e3 : I.t3 (tabIdx j) = t)
    {r : ℕ} (hr : r < 2) :
    Runs arg1 arg2 arg3 arg4 arg5 arg6 arg7 arg8 arg9 arg10 arg11 arg12 arg13 c I (stageB2C1 arg2 arg3 arg7 arg9 arg10 arg11 arg12 harg12 j hr) s
      (stepB2C1 I s qi t hr) :=
  Runs.item2 arg1 arg2 arg3 arg4 arg5 arg6 arg7 arg8 arg9 arg10 arg11 arg12 arg13 e2 <| Runs.item3 arg1 arg2 arg3 arg4 arg5 arg6 arg7 arg8 arg9 arg10 arg11 arg12 arg13 e3 <|
    Runs.bind arg1 arg2 arg3 arg4 arg5 arg6 arg7 arg8 arg9 arg10 arg11 arg12 arg13 (stageHead_run arg1 arg2 arg3 arg4 arg5 arg6 arg7 arg8 arg9 arg10 arg11 arg12 harg12 arg13 c I _ qi t hr _ _ _)
      (stageHead_run arg1 arg2 arg3 arg4 arg5 arg6 arg7 arg8 arg9 arg10 arg11 arg12 harg12 arg13 c I _ qi t hr _ _ _)

theorem stageAB1_run (c : Dev nD) (I : Ins F) (s : St F) (j : BitVec 32)
    (hp qi t : Elt F .i32) (e1 : I.t1 (tabIdx j) = hp) (e2 : I.t2 (tabIdx j) = qi) (e3 : I.t3 (tabIdx j) = t)
    (hw3 : k0_chk3 hp qi) (hw4 : k0_chk4 hp qi t) {r : ℕ} (hr : r < 2) :
    Runs arg1 arg2 arg3 arg4 arg5 arg6 arg7 arg8 arg9 arg10 arg11 arg12 arg13 c I (stageAB1 arg1 arg2 arg3 arg4 arg5 arg10 arg11 harg11 arg13 j hr) s
      (stepAB1 I s hp qi t hw3 hw4 hr) :=
  Runs.item1 arg1 arg2 arg3 arg4 arg5 arg6 arg7 arg8 arg9 arg10 arg11 arg12 arg13 e1 <| Runs.item2 arg1 arg2 arg3 arg4 arg5 arg6 arg7 arg8 arg9 arg10 arg11 arg12 arg13 e2 <| Runs.check arg1 arg2 arg3 arg4 arg5 arg6 arg7 arg8 arg9 arg10 arg11 arg12 arg13 hw3 <| Runs.item3 arg1 arg2 arg3 arg4 arg5 arg6 arg7 arg8 arg9 arg10 arg11 arg12 arg13 e3 <| Runs.check arg1 arg2 arg3 arg4 arg5 arg6 arg7 arg8 arg9 arg10 arg11 arg12 arg13 hw4 <|
    Runs.loadQ arg1 arg2 arg3 arg4 arg5 arg6 arg7 arg8 arg9 arg10 arg11 arg12 arg13 <| Runs.loadK arg1 arg2 arg3 arg4 arg5 arg6 arg7 arg8 arg9 arg10 arg11 arg12 arg13 <|
    Runs.bind arg1 arg2 arg3 arg4 arg5 arg6 arg7 arg8 arg9 arg10 arg11 arg12 arg13 (stageBlk_run arg1 arg2 arg3 arg4 arg5 arg6 arg7 arg8 arg9 arg10 arg11 harg11 arg12 arg13 c I _ _ hr _ _ _) <|
    Runs.bind arg1 arg2 arg3 arg4 arg5 arg6 arg7 arg8 arg9 arg10 arg11 arg12 arg13 (stageBlk_run arg1 arg2 arg3 arg4 arg5 arg6 arg7 arg8 arg9 arg10 arg11 harg11 arg12 arg13 c I _ _ hr _ _ _) <|
    Runs.bind arg1 arg2 arg3 arg4 arg5 arg6 arg7 arg8 arg9 arg10 arg11 arg12 arg13 (stageBlk_run arg1 arg2 arg3 arg4 arg5 arg6 arg7 arg8 arg9 arg10 arg11 harg11 arg12 arg13 c I _ _ hr _ _ _) <|
    stageBlk_run arg1 arg2 arg3 arg4 arg5 arg6 arg7 arg8 arg9 arg10 arg11 harg11 arg12 arg13 c I _ _ hr _ _ _

end Cert.KernelIdeal.Stick

end
-- ==== Proof.Loop.lean ====
/- What an iteration, a trip, the loop and the whole function do to the buffers. -/
module

public import proofs.«01_k».proof.Proof.Stages
public import Idealize.ShloMosaic.Lib.Scf

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Named F]

local notation "𝕄" => MT nD τ sig Unit (Elt F) ℕ (UR sig nD τ) ℕ

variable (arg1 : Memref sig .tc .smem S288 .i32) (harg1 : arg1.IsWhole) (arg2 : Memref sig .tc .smem S288 .i32) (harg2 : arg2.IsWhole)
  (arg3 : Memref sig .tc .smem S288 .i32) (harg3 : arg3.IsWhole) (arg4 : Memref sig .tc .vmem S4x1x4096x128 .bf16) (harg4 : arg4.IsWhole)
  (arg5 : Memref sig .tc .vmem S4x1x4096x128 .bf16) (harg5 : arg5.IsWhole) (arg6 : Memref sig .tc .vmem S4x1x4096x128 .bf16) (harg6 : arg6.IsWhole)
  (arg7 : Memref sig .tc .vmem S256x256 .bf16) (harg7 : arg7.IsWhole) (arg8 : Memref sig .tc .vmem S4x1x4096x128 .f32) (harg8 : arg8.IsWhole)
  (arg9 : Memref sig .tc .vmem S2x512x128 .f32) (harg9 : arg9.IsWhole) (arg10 : Memref sig .tc .vmem S2x4x512x128 .f32) (harg10 : arg10.IsWhole)
  (arg11 : Memref sig .tc .vmem S4x512x128 .bf16) (harg11 : arg11.IsWhole) (arg12 : Memref sig .tc .vmem S4x512x128 .bf16) (harg12 : arg12.IsWhole)
  (arg13 : Memref sig .tc .vmem S3x2x512x128 .f32) (harg13 : arg13.IsWhole)

local notation "Held" => held arg1 arg2 arg3 arg4 arg5 arg6 arg7 arg8 arg9 arg10 arg11 arg12 arg13

/-! ## An iteration -/

/-- Every entry of the tables passes the kernel's checks. -/
def Good (I : Ins F) : Prop :=
  ∀ n : S288.Idx, k0_chk1 (I.t1 n) (I.t2 n) ∧ k0_chk2 (I.t1 n) (I.t3 n) ∧ k0_chk3 (I.t1 n) (I.t2 n) ∧ k0_chk4 (I.t1 n) (I.t2 n) (I.t3 n)

/-- The state after the iteration numbered `i`, reading slot `r` and writing slot `w`. -/
def stepIter (I : Ins F) (g : Good I) (i : BitVec 32) {r w : ℕ} (hr : r < 2) (hw : w < 2) (s : St F) : St F :=
  let a := tabIdx (Scalar.subi i 2#32)
  let b := tabIdx (Scalar.subi i 1#32)
  let d := tabIdx i
  stepAB1 I
    (stepB2C1 I (stepC2 I s (I.t1 a) (I.t2 a) (I.t3 a) (g a).1 (g a).2.1) (I.t2 b) (I.t3 b) hr)
    (I.t1 d) (I.t2 d) (I.t3 d) (g d).2.2.1 (g d).2.2.2 hw

theorem iter_run (c : Dev nD) (I : Ins F) (g : Good I) (s : St F) (i : BitVec 32) {r w : ℕ} (hr : r < 2) (hw : w < 2) :
    Runs arg1 arg2 arg3 arg4 arg5 arg6 arg7 arg8 arg9 arg10 arg11 arg12 arg13 c I (iter arg1 arg2 arg3 arg4 arg5 arg6 arg7 arg8 arg9 arg10 arg11 harg11 arg12 harg12 arg13 i hr hw) s (stepIter I g i hr hw s) :=
  Runs.bind arg1 arg2 arg3 arg4 arg5 arg6 arg7 arg8 arg9 arg10 arg11 arg12 arg13
    (stageC2_run arg1 arg2 arg3 arg4 arg5 arg6 arg7 arg8 arg9 arg10 arg11 arg12 arg13 c I s _ _ _ _ rfl rfl rfl _ _) <|
  Runs.bind arg1 arg2 arg3 arg4 arg5 arg6 arg7 arg8 arg9 arg10 arg11 arg12 arg13
    (stageB2C1_run arg1 arg2 arg3 arg4 arg5 arg6 arg7 arg8 arg9 arg10 arg11 arg12 harg12 arg13 c I _ _ _ _ rfl rfl hr)
    (stageAB1_run arg1 arg2 arg3 arg4 arg5 arg6 arg7 arg8 arg9 arg10 arg11 harg11 arg12 arg13 c I _ _ _ _ _ rfl rfl rfl _ _ hw)

/-- The state after iteration number `n`: an even one reads slot 1 and writes slot 0, an odd one the other way round. -/
def stepAt (I : Ins F) (g : Good I) (n : ℕ) (s : St F) : St F :=
  stepIter I g (BitVec.ofNat 32 n) (r := (n + 1) % 2) (w := n % 2) (Nat.mod_lt _ (by decide)) (Nat.mod_lt _ (by decide)) s

/-- The state after the first `n` iterations. -/
def stAfter (I : Ins F) (g : Good I) (s : St F) : ℕ → St F
  | 0 => s
  | n + 1 => stepAt I g n (stAfter I g s n)

theorem stepIter_slots (I : Ins F) (g : Good I) (i : BitVec 32) {r w r' w' : ℕ} (hr : r < 2) (hw : w < 2) (hr' : r' < 2) (hw' : w' < 2) (s : St F)
    (er : r = r') (ew : w = w') : stepIter I g i hr hw s = stepIter I g i hr' hw' s := by
  subst er; subst ew; rfl

theorem iter2_run (c : Dev nD) (I : Ins F) (g : Good I) (s : St F) (i i' : BitVec 32) (n : ℕ) (hn : n % 2 = 0) (hi : i = BitVec.ofNat 32 n) (hi' : i' = BitVec.ofNat 32 (n + 1)) :
    Runs arg1 arg2 arg3 arg4 arg5 arg6 arg7 arg8 arg9 arg10 arg11 arg12 arg13 c I (iter2 arg1 arg2 arg3 arg4 arg5 arg6 arg7 arg8 arg9 arg10 arg11 harg11 arg12 harg12 arg13 i i') (stAfter I g s n) (stAfter I g s (n + 2)) := by
  have e : stAfter I g s (n + 2)
      = stepIter I g i' (r := 0) (w := 1) (by decide) (by decide) (stepIter I g i (r := 1) (w := 0) (by decide) (by decide) (stAfter I g s n)) := by
    show stepAt I g (n + 1) (stepAt I g n (stAfter I g s n)) = _
    unfold stepAt
    subst hi; subst hi'
    rw [stepIter_slots I g (BitVec.ofNat 32 n) _ _ (by decide : 1 < 2) (by decide : 0 < 2) _ (by omega) (by omega),
      stepIter_slots I g (BitVec.ofNat 32 (n + 1)) _ _ (by decide : 0 < 2) (by decide : 1 < 2) _ (by omega) (by omega)]
  rw [e]
  exact Runs.bind arg1 arg2 arg3 arg4 arg5 arg6 arg7 arg8 arg9 arg10 arg11 arg12 arg13 (iter_run arg1 arg2 arg3 arg4 arg5 arg6 arg7 arg8 arg9 arg10 arg11 harg11 arg12 harg12 arg13 c I g _ i _ _) (iter_run arg1 arg2 arg3 arg4 arg5 arg6 arg7 arg8 arg9 arg10 arg11 harg11 arg12 harg12 arg13 c I g _ i' _ _)

theorem itNo_eq (k : Fin k0_t1_loop.trips) (u : ℕ) (hu : u < 16) : itNo (Scf.iv 0#32 1#32 k) (BitVec.ofNat 32 u) = BitVec.ofNat 32 (16 * k.val + u) := by
  apply BitVec.eq_of_toNat_eq
  have hk : k.val < 18 := lt_of_lt_of_eq k.isLt (by decide)
  simp only [itNo, Scalar.addi, Scalar.muli, IntOp.addi, IntOp.muli, Scf.iv, BitVec.toNat_add, BitVec.toNat_mul, BitVec.toNat_ofNat]
  omega

theorem trip_run (c : Dev nD) (I : Ins F) (g : Good I) (s : St F) (k : Fin k0_t1_loop.trips) :
    Runs arg1 arg2 arg3 arg4 arg5 arg6 arg7 arg8 arg9 arg10 arg11 arg12 arg13 c I (trip arg1 arg2 arg3 arg4 arg5 arg6 arg7 arg8 arg9 arg10 arg11 harg11 arg12 harg12 arg13 (Scf.iv 0#32 1#32 k)) (stAfter I g s (16 * k.val)) (stAfter I g s (16 * (k.val + 1))) := by
  have h : ∀ u, u + 1 < 16 → u % 2 = 0 →
      Runs arg1 arg2 arg3 arg4 arg5 arg6 arg7 arg8 arg9 arg10 arg11 arg12 arg13 c I (iter2 arg1 arg2 arg3 arg4 arg5 arg6 arg7 arg8 arg9 arg10 arg11 harg11 arg12 harg12 arg13 (itNo (Scf.iv 0#32 1#32 k) (BitVec.ofNat 32 u)) (itNo (Scf.iv 0#32 1#32 k) (BitVec.ofNat 32 (u + 1))))
        (stAfter I g s (16 * k.val + u)) (stAfter I g s (16 * k.val + (u + 2))) := fun u hu he =>
    iter2_run arg1 arg2 arg3 arg4 arg5 arg6 arg7 arg8 arg9 arg10 arg11 harg11 arg12 harg12 arg13 c I g s _ _ (16 * k.val + u) (by omega) (itNo_eq k u (by omega)) (itNo_eq k (u + 1) (by omega))
  exact Runs.bind arg1 arg2 arg3 arg4 arg5 arg6 arg7 arg8 arg9 arg10 arg11 arg12 arg13 (h 0 (by decide) rfl) <| Runs.bind arg1 arg2 arg3 arg4 arg5 arg6 arg7 arg8 arg9 arg10 arg11 arg12 arg13 (h 2 (by decide) rfl) <| Runs.bind arg1 arg2 arg3 arg4 arg5 arg6 arg7 arg8 arg9 arg10 arg11 arg12 arg13 (h 4 (by decide) rfl) <|
    Runs.bind arg1 arg2 arg3 arg4 arg5 arg6 arg7 arg8 arg9 arg10 arg11 arg12 arg13 (h 6 (by decide) rfl) <| Runs.bind arg1 arg2 arg3 arg4 arg5 arg6 arg7 arg8 arg9 arg10 arg11 arg12 arg13 (h 8 (by decide) rfl) <| Runs.bind arg1 arg2 arg3 arg4 arg5 arg6 arg7 arg8 arg9 arg10 arg11 arg12 arg13 (h 10 (by decide) rfl) <|
    Runs.bind arg1 arg2 arg3 arg4 arg5 arg6 arg7 arg8 arg9 arg10 arg11 arg12 arg13 (h 12 (by decide) rfl) (h 14 (by decide) rfl)

theorem loop_run (c : Dev nD) (I : Ins F) (g : Good I) (s : St F) :
    Runs arg1 arg2 arg3 arg4 arg5 arg6 arg7 arg8 arg9 arg10 arg11 arg12 arg13 c I (Scf.Loop.for k0_t1_loop k0_t1_ok ⟨⟩ fun k _ => trip arg1 arg2 arg3 arg4 arg5 arg6 arg7 arg8 arg9 arg10 arg11 harg11 arg12 harg12 arg13 (Scf.iv 0#32 1#32 k)) s (stAfter I g s (16 * Scf.trips k0_t1_loop.lb k0_t1_loop.ub k0_t1_loop.st)) := by
  intro E K
  refine .trans ?_ (Scf.wp_for frame (wpE (defs₀ (F := F)) Variants.none c none) E _ _ _ k0_t1_ok PUnit.unit
    (fun k _ => trip arg1 arg2 arg3 arg4 arg5 arg6 arg7 arg8 arg9 arg10 arg11 harg11 arg12 harg12 arg13 (Scf.iv 0#32 1#32 k)) (fun n _ => Held c I (stAfter I g s (16 * n))) (fun k acc => ?_))
  · iintro ⟨H, Hk⟩
    isplitl [H]; · iexact H
    iintro %_ H
    iapply Hk
    iexact H
  · have h := trip_run arg1 arg2 arg3 arg4 arg5 arg6 arg7 arg8 arg9 arg10 arg11 harg11 arg12 harg12 arg13 c I g s k E (fun _ => Held c I (stAfter I g s (16 * (k.val + 1))))
    beta_reduce
    generalize stAfter I g s (16 * k.val) = s₀ at h ⊢
    generalize stAfter I g s (16 * (k.val + 1)) = s₁ at h ⊢
    iintro H
    iapply h
    isplitl [H]; · iexact H
    iintro H
    iexact H

/-! ## The start -/

/-- The state the loop starts from. -/
def zeroSt : St F where
  o := broadcast S4x1x4096x128 (Scalar.ofBits .f32 0x00000000#32 : F .f32)
  c := shapeCast S2x512x128 (broadcast S2x512x128 (Scalar.ofBits .f32 0x00000000#32 : F .f32)) shapeCasts_S2x512x128_S2x512x128
  z := shapeCast S2x4x512x128 (broadcast S2x4x512x128 (Scalar.ofBits .f32 0x00000000#32 : F .f32)) shapeCasts_S2x4x512x128_S2x4x512x128
  sp := shapeCast S4x512x128 (broadcast S4x512x128 (Scalar.ofBits .bf16 0x0000#16 : F .bf16)) shapeCasts_S4x512x128_S4x512x128
  w := shapeCast S4x512x128 (broadcast S4x512x128 (Scalar.ofBits .bf16 0x0000#16 : F .bf16)) shapeCasts_S4x512x128_S4x512x128

/-- The penalties, over whatever was there. -/
def penPut (p : Vec F S3x2x512x128 .f32) : Vec F S3x2x512x128 .f32 :=
  VecWindow.put (VecWindow.put (VecWindow.put (VecWindow.put
    (VecWindow.put p ![0, 0, 0, 0] S1x2x512x128.size (shapeCast S1x2x512x128 (broadcast S2x512x128 (Scalar.ofBits .f32 0x00000000#32 : F .f32)) shapeCasts_S2x512x128_S1x2x512x128 : FVec F S1x2x512x128 .f32))
    ![1, 0, 0, 0] S1x1x512x128.size (penVal 0#32)) ![1, 1, 0, 0] S1x1x512x128.size (penVal 128#32))
    ![2, 0, 0, 0] S1x1x512x128.size (penVal 256#32)) ![2, 1, 0, 0] S1x1x512x128.size (penVal 384#32)

theorem prologue_run (c : Dev nD) (I : Ins F) (s : St F) :
    ∀ (E : Set ℕ) (K : PUnit → sProp 𝕄),
      iprop(Held c I s ∗ (Held c { I with pen := penPut I.pen } zeroSt -∗ K ⟨⟩))
        ⊢ wp frame (wpE (defs₀ (F := F)) Variants.none c none) E (prologue arg8 arg9 arg10 arg11 harg11 arg12 harg12 arg13) K := by
  intro E K
  unfold prologue storePen held
  rcases s with ⟨o, cc, z, sp, w⟩
  rcases I with ⟨t1, t2, t3, q, k, v, tri, pen⟩
  unfold owns
  iintro ⟨⟨H1, H2, H3, H4, H5, H6, H7, ⟨%f8, %h8, H8⟩, ⟨%f9, %h9, H9⟩, ⟨%f10, %h10, H10⟩, ⟨%f11, %h11, H11⟩, ⟨%f12, %h12, H12⟩, ⟨%f13, %h13, H13⟩⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro
    exact View.read_writes_full arg8.view f8 _ _ _
  isplitl [H9]
  · iexists _; isplitr; swap; · iexact H9
    ipureintro
    exact View.read_writes_full arg9.view f9 _ _ _
  isplitl [H10]
  · iexists _; isplitr; swap; · iexact H10
    ipureintro
    exact View.read_writes_full arg10.view f10 _ _ _
  isplitl [H11]
  · iexists _; isplitr; swap; · iexact H11
    ipureintro
    exact View.read_writes_full arg11.view f11 _ _ _
  isplitl [H12]
  · iexists _; isplitr; swap; · iexact H12
    ipureintro
    exact View.read_writes_full arg12.view f12 _ _ _
  iexists _; isplitr; swap; · iexact H13
  ipureintro
  rw [View.read_writes_cons_put arg13.view f13 _ _ _ rfl, View.read_writes_cons_put arg13.view f13 _ _ _ rfl, View.read_writes_cons_put arg13.view f13 _ _ _ rfl,
    View.read_writes_cons_put arg13.view f13 _ _ _ rfl, View.read_writes_cons_put arg13.view f13 _ _ _ rfl]
  cases h13
  rfl

/-- A place of the table of penalties lies in a window of whole tiles. -/
theorem mem_window {off size : Fin 4 → ℕ} (y : S3x2x512x128.Idx) (h0 : off 0 ≤ (y 0).val ∧ (y 0).val < off 0 + size 0)
    (h1 : off 1 ≤ (y 1).val ∧ (y 1).val < off 1 + size 1) (h2 : (off 2, size 2) = (0, 512)) (h3 : (off 3, size 3) = (0, 128)) :
    ∀ a : Fin 4, off a ≤ (y a).val ∧ (y a).val < off a + size a := by
  have b2 : (y 2).val < 512 := (y 2).isLt
  have b3 : (y 3).val < 128 := (y 3).isLt
  simp only [Prod.mk.injEq] at h2 h3
  intro a
  fin_cases a
  · exact h0
  · exact h1
  · show off 2 ≤ (y 2).val ∧ (y 2).val < off 2 + size 2
    omega
  · show off 3 ≤ (y 3).val ∧ (y 3).val < off 3 + size 3
    omega

/-- The five windows of the penalties cover the table: what was there before does not matter. -/
theorem penPut_eq (p p' : Vec F S3x2x512x128 .f32) : penPut p = penPut p' := by
  funext y
  unfold penPut VecWindow.put
  split; · rfl
  split; · rfl
  split; · rfl
  split; · rfl
  split; · rfl
  rename_i h0 h1 h2 h3 h4
  exfalso
  have b0 : (y 0).val < 3 := (y 0).isLt
  have b1 : (y 1).val < 2 := (y 1).isLt
  by_cases e0 : (y 0).val = 0
  · exact h4 (mem_window y ⟨Nat.zero_le _, by show _ < 0 + 1; omega⟩ ⟨Nat.zero_le _, by show _ < 0 + 2; omega⟩ rfl rfl)
  by_cases e1 : (y 0).val = 1
  · by_cases f : (y 1).val = 0
    · exact h3 (mem_window y ⟨by show 1 ≤ _; omega, by show _ < 1 + 1; omega⟩ ⟨Nat.zero_le _, by show _ < 0 + 1; omega⟩ rfl rfl)
    · exact h2 (mem_window y ⟨by show 1 ≤ _; omega, by show _ < 1 + 1; omega⟩ ⟨by show 1 ≤ _; omega, by show _ < 1 + 1; omega⟩ rfl rfl)
  · by_cases f : (y 1).val = 0
    · exact h1 (mem_window y ⟨by show 2 ≤ _; omega, by show _ < 2 + 1; omega⟩ ⟨Nat.zero_le _, by show _ < 0 + 1; omega⟩ rfl rfl)
    · exact h0 (mem_window y ⟨by show 2 ≤ _; omega, by show _ < 2 + 1; omega⟩ ⟨by show 1 ≤ _; omega, by show _ < 1 + 1; omega⟩ rfl rfl)

/-- The penalties. -/
def penTable : Vec F S3x2x512x128 .f32 := penPut (fun _ => Scalar.ofBits .f32 0x00000000#32)

/-! ## The whole function -/

/-- The state the function ends in. -/
def finalSt (I : Ins F) (g : Good I) : St F := stAfter I g zeroSt 290

attribute [local irreducible] stAfter

theorem whole_run (c : Dev nD) (I : Ins F) (g : Good I) (s : St F) (p : Vec F S3x2x512x128 .f32) (hI : I.pen = penTable) (i : grid0.Coords)
    (E : Set ℕ) (K : PUnit → sProp 𝕄) :
    iprop(Held c { I with pen := p } s ∗ (Held c I (finalSt I g) -∗ K ⟨⟩))
      ⊢ wp frame (wpE (defs₀ (F := F)) Variants.none c none) E
        (cc0_stickbreak (F := F) i arg1 harg1 arg2 harg2 arg3 harg3 arg4 harg4 arg5 harg5 arg6 harg6 arg7 harg7 arg8 harg8 arg9 harg9 arg10 harg10 arg11 harg11 arg12 harg12 arg13 harg13) K := by
  rw [whole_eq]
  unfold whole
  rw [wp_bind_eq]
  have eI : (⟨I.t1, I.t2, I.t3, I.q, I.k, I.v, I.tri, penPut p⟩ : Ins F) = I := by
    rcases I with ⟨t1, t2, t3, q, k, v, tri, pen⟩
    have e : penPut p = pen := (penPut_eq p _).trans hI.symm
    rw [e]
  have e : 16 * Scf.trips k0_t1_loop.lb k0_t1_loop.ub k0_t1_loop.st = 288 := by decide
  have H : Runs arg1 arg2 arg3 arg4 arg5 arg6 arg7 arg8 arg9 arg10 arg11 arg12 arg13 c I (do
      Scf.Loop.for k0_t1_loop k0_t1_ok ⟨⟩ fun k _ => trip arg1 arg2 arg3 arg4 arg5 arg6 arg7 arg8 arg9 arg10 arg11 harg11 arg12 harg12 arg13 (Scf.iv 0#32 1#32 k)
      iter2 arg1 arg2 arg3 arg4 arg5 arg6 arg7 arg8 arg9 arg10 arg11 harg11 arg12 harg12 arg13 288#32 289#32) zeroSt (finalSt I g) :=
    Runs.bind arg1 arg2 arg3 arg4 arg5 arg6 arg7 arg8 arg9 arg10 arg11 arg12 arg13 (loop_run arg1 arg2 arg3 arg4 arg5 arg6 arg7 arg8 arg9 arg10 arg11 harg11 arg12 harg12 arg13 c I g zeroSt) <| by
      rw [e]
      exact iter2_run arg1 arg2 arg3 arg4 arg5 arg6 arg7 arg8 arg9 arg10 arg11 harg11 arg12 harg12 arg13 c I g zeroSt 288#32 289#32 288 rfl rfl rfl
  generalize hp : (do
      Scf.Loop.for k0_t1_loop k0_t1_ok ⟨⟩ fun k _ => trip arg1 arg2 arg3 arg4 arg5 arg6 arg7 arg8 arg9 arg10 arg11 harg11 arg12 harg12 arg13 (Scf.iv 0#32 1#32 k)
      iter2 arg1 arg2 arg3 arg4 arg5 arg6 arg7 arg8 arg9 arg10 arg11 harg11 arg12 harg12 arg13 288#32 289#32 : Prog (TpuEff nD τ sig (Elt F) Λ₀ .tc) PUnit) = rest at H ⊢
  have P : iprop(Held c ⟨I.t1, I.t2, I.t3, I.q, I.k, I.v, I.tri, p⟩ s ∗
        (Held c ⟨I.t1, I.t2, I.t3, I.q, I.k, I.v, I.tri, penPut p⟩ zeroSt -∗ wp frame (wpE (defs₀ (F := F)) Variants.none c none) E rest K))
      ⊢ wp frame (wpE (defs₀ (F := F)) Variants.none c none) E (prologue arg8 arg9 arg10 arg11 harg11 arg12 harg12 arg13)
          (fun _ => wp frame (wpE (defs₀ (F := F)) Variants.none c none) E rest K) :=
    prologue_run arg1 arg2 arg3 arg4 arg5 arg6 arg7 arg8 arg9 arg10 arg11 harg11 arg12 harg12 arg13 c ⟨I.t1, I.t2, I.t3, I.q, I.k, I.v, I.tri, p⟩ s E
      (fun _ => wp frame (wpE (defs₀ (F := F)) Variants.none c none) E rest K)
  rw [eI] at P
  refine BIBase.Entails.trans ?_ P
  iintro ⟨H, Hk⟩
  isplitl [H]; · iexact H
  iintro H
  iapply H E K
  isplitl [H]; · iexact H
  iexact Hk

end Cert.KernelIdeal.Stick

end
-- ==== Proof.Tables.lean ====
/- The list of items: which head pair, which query tile and which key tile each one is. -/
module

public import proofs.«01_k».proof.Proof.Loop
public import proofs.«01_k».proof.Proof.Gen.KernelIdeal.Launch

@[expose] public section

set_option maxRecDepth 16384

noncomputable section

namespace Cert.KernelIdeal.Stick

open Idealize.ShloMosaic Idealize.ShloMosaic.TcCoe
open Cert.KernelIdeal Cert.KernelIdeal.Facts₀ Cert.KernelIdeal.Facts

variable {F : FTy → Type} [FloatOps F] [Named F]

/-- The head pair of item `n`: each pair has 72 items. -/
def hpOf (n : ℕ) : ℕ := n / 72
/-- The query tile of the `m`-th item of a pair: tile `q` begins at item `q (q + 1)`. -/
def tileOf (m : ℕ) : ℕ :=
  if m < 2 then 0 else if m < 6 then 1 else if m < 12 then 2 else if m < 20 then 3 else if m < 30 then 4 else if m < 42 then 5 else if m < 56 then 6 else 7
/-- The query tile of item `n`. -/
def qiOf (n : ℕ) : ℕ := tileOf (n % 72)
/-- The key tile of item `n`: a query tile's key tiles come from the diagonal down. -/
def ktOf (n : ℕ) : ℕ := 2 * qiOf n + 1 - (n % 72 - qiOf n * (qiOf n + 1))

theorem lit0_eq : ∀ n : Fin 288, lit0 n = BitVec.ofNat 32 (hpOf n) := by decide +kernel
theorem lit1_eq : ∀ n : Fin 288, lit1 n = BitVec.ofNat 32 (qiOf n) := by decide +kernel
theorem lit2_eq : ∀ n : Fin 288, lit2 n = BitVec.ofNat 32 (ktOf n) := by decide +kernel

/-- Every item passes the kernel's checks. -/
theorem items_good : ∀ n : Fin 288, k0_chk1 (lit0 n) (lit1 n) ∧ k0_chk2 (lit0 n) (lit2 n) ∧ k0_chk3 (lit0 n) (lit1 n) ∧ k0_chk4 (lit0 n) (lit1 n) (lit2 n) := by
  decide +kernel

/-- The tables the kernel is handed. -/
def tabHp : Vec F S288 .i32 := fun i => lit0 (S288.rowMajor i)
def tabQi : Vec F S288 .i32 := fun i => lit1 (S288.rowMajor i)
def tabKt : Vec F S288 .i32 := fun i => lit2 (S288.rowMajor i)

/-- What the kernel reads at one grid point, of its three blocks and the scan matrix. -/
abbrev insOf (q k v : Vec F S4x1x4096x128 .bf16) (tri : Vec F S256x256 .bf16) : Ins F := ⟨tabHp, tabQi, tabKt, q, k, v, tri, penTable⟩

theorem good_insOf (q k v : Vec F S4x1x4096x128 .bf16) (tri : Vec F S256x256 .bf16) : Good (insOf q k v tri) := fun n => items_good (S288.rowMajor n)

end Cert.KernelIdeal.Stick

end
-- ==== Proof.Region.lean ====
/- The launch: the kernel's call at every grid point, and what the program leaves in memory. -/
module

public import proofs.«01_k».proof.Proof.Tables
public import Idealize.ShloMosaic.Lib.Pipeline.FrameBody
public import Idealize.ShloMosaic.Lib.Tactic
public import Idealize.ShloMosaic.Lib.Claim
public import Idealize.ShloMosaic.Lib.StableHlo.RunRead

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Facts Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memory the call is entered with -/

/-- Core `c`'s buffers when the call is entered: after the operations before it. -/
def V (c : Dev nD) (b : Ref sig .tc) : Buf (Elt F) ((c : Thread nD τ).loc b) := StableHlo.after hostOps0 (fun b => m (c, b)) b

theorem entry_main (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl, rfl, rfl, rfl, rfl, rfl, rfl, rfl⟩ main_chain

/-- The scan matrix. -/
def triVal : Vec F S256x256 .bf16 :=
  Host.negf (uitofp .bf16 (cmpi .sge
    (broadcastInDim S256x256 ![0, 1] Facts₀.bcast_S256x1_S256x256_0_1 (broadcastInDim S256x1 ![0] Facts₀.bcast_S256_S256x1_0 (iotaInDim S256 32 0)))
    (broadcastInDim S256x256 ![0, 1] Facts₀.bcast_S1x256_S256x256_0_1 (broadcastInDim S1x256 ![1] Facts₀.bcast_S256_S1x256_1 (iotaInDim S256 32 0)))))

theorem V_q (c : Dev nD) : V m c main_arg0 = m ((c : Thread nD τ).loc main_arg0) := by unfold V; after_reads_simp; try rfl
theorem V_k (c : Dev nD) : V m c main_arg1 = m ((c : Thread nD τ).loc main_arg1) := by unfold V; after_reads_simp; try rfl
theorem V_v (c : Dev nD) : V m c main_arg2 = m ((c : Thread nD τ).loc main_arg2) := by unfold V; after_reads_simp; try rfl
theorem V_hp (c : Dev nD) : V m c main_c = tabHp (F := F) := by unfold V; after_reads_simp; try rfl
theorem V_qi (c : Dev nD) : V m c main_c_0 = tabQi (F := F) := by unfold V; after_reads_simp; try rfl
theorem V_kt (c : Dev nD) : V m c main_c_1 = tabKt (F := F) := by unfold V; after_reads_simp; try rfl
theorem V_tri (c : Dev nD) : V m c main_v7 = triVal (F := F) := by unfold V; after_reads_simp; try rfl

/-! ## The tables -/

/-- The tables' contents at the call. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem tables_eq (c : Dev nD) : (Pipeline.ΦT pre0 (tbl m) c : sProp 𝕄)
    = iprop(owns (c : Thread nD τ) (Memref.whole main_c) fullShare.right (tabHp (F := F)) ∗ owns (c : Thread nD τ) (Memref.whole main_c_0) fullShare.right (tabQi (F := F))
        ∗ owns (c : Thread nD τ) (Memref.whole main_c_1) fullShare.right (tabKt (F := F))) := by
  rw [owns_whole, owns_whole, owns_whole, ← V_hp m 0, ← V_qi m 0, ← V_kt m 0]
  unfold Pipeline.ΦT Pipeline.prefHeld
  rw [show (Finset.univ : Finset (Fin 3)) = {(0 : Fin 3), (1 : Fin 3), (2 : Fin 3)} from by decide,
    bigSep_insert (by decide), bigSep_insert (by decide), bigSep_singleton]
  rfl

theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

/-! ## The windows -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the kernel reads at point `t`. -/
def insAt (c : Dev nD) (t : Fin (cfgM m).N) : Ins F := insOf (iblk m c 0 t) (iblk m c 1 t) (iblk m c 2 t) (iblk m c 3 t)
theorem insAt_good (c : Dev nD) (t : Fin (cfgM m).N) : Good (insAt m c t) := good_insOf _ _ _ _

/-- What the kernel leaves in the output's block at point `t`. -/
def outAt (c : Dev nD) (t : Fin (cfgM m).N) : Vec F S4x1x4096x128 .f32 := (finalSt (insAt m c t) (insAt_good m c t)).o

theorem before_of_0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The windows' buffers at point `t`. -/
abbrev stg0 (t : Fin (cfgM m).N) : Memref sig .tc .vmem S4x1x4096x128 .bf16 := spec0_0.stage ((cfgM m).slots t 0)
abbrev stg1 (t : Fin (cfgM m).N) : Memref sig .tc .vmem S4x1x4096x128 .bf16 := spec0_1.stage ((cfgM m).slots t 1)
abbrev stg2 (t : Fin (cfgM m).N) : Memref sig .tc .vmem S4x1x4096x128 .bf16 := spec0_2.stage ((cfgM m).slots t 2)
abbrev stg3 (t : Fin (cfgM m).N) : Memref sig .tc .vmem S256x256 .bf16 := spec0_3.stage ((cfgM m).slots t 3)
abbrev stg4 (t : Fin (cfgM m).N) : Memref sig .tc .vmem S4x1x4096x128 .f32 := spec0_4.stage ((cfgM m).slots t 4)

/-- What the pipeline holds around the call at each point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := iprop(Pipeline.ΦA spec0 c ∗ Pipeline.ΦT pre0 (tbl m) c)
  q _ := fullShare
  owed _ := 0

theorem dats_A (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = outAt m c t := by dsimp only [dats]; try rfl
theorem before_0 (c : Dev nD) (t : Fin (cfgM m).N) (d) : (dats m 0 c).before 0 t d = iblk m c 0 t := before_of_0 m (dats m 0 c) (dats_A m c 0) (after_0 m c) t d
theorem before_1 (c : Dev nD) (t : Fin (cfgM m).N) (d) : (dats m 0 c).before 1 t d = iblk m c 1 t := before_of_1 m (dats m 0 c) (dats_A m c 1) (after_1 m c) t d
theorem before_2 (c : Dev nD) (t : Fin (cfgM m).N) (d) : (dats m 0 c).before 2 t d = iblk m c 2 t := before_of_2 m (dats m 0 c) (dats_A m c 2) (after_2 m c) t d
theorem before_3 (c : Dev nD) (t : Fin (cfgM m).N) (d) : (dats m 0 c).before 3 t d = iblk m c 3 t := before_of_3 m (dats m 0 c) (dats_A m c 3) (after_3 m c) t d

/-- The kernel's call at point `t`. -/
abbrev bodyAt (t : Fin (cfgM m).N) : Prog (TpuEff nD τ sig (Elt F) Λ₀ .tc) PUnit :=
  cc0_stickbreak (grid0.coords t) (Memref.whole main_c) (Memref.isWhole_whole _) (Memref.whole main_c_0) (Memref.isWhole_whole _) (Memref.whole main_c_1) (Memref.isWhole_whole _)
    (stg0 m t) (Facts₀.hstage0_0 (((cfgM m).slots t 0).cast Facts₀.nbuf0_0))
    (stg1 m t) (Facts₀.hstage0_1 (((cfgM m).slots t 1).cast Facts₀.nbuf0_1))
    (stg2 m t) (Facts₀.hstage0_2 (((cfgM m).slots t 2).cast Facts₀.nbuf0_2))
    (stg3 m t) (Facts₀.hstage0_3 (((cfgM m).slots t 3).cast Facts₀.nbuf0_3))
    (stg4 m t) (Facts₀.hstage0_4 (((cfgM m).slots t 4).cast Facts₀.nbuf0_4))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (stg0 m t) fullShare ((dats m 0 c).before 0 t d))
    ∗ (∃ d, owns (c : Thread nD τ) (stg1 m t) fullShare ((dats m 0 c).before 1 t d))
    ∗ (∃ d, owns (c : Thread nD τ) (stg2 m t) fullShare ((dats m 0 c).before 2 t d))
    ∗ (∃ d, owns (c : Thread nD τ) (stg3 m t) fullShare ((dats m 0 c).before 3 t d))
    ∗ (∃ d, owns (c : Thread nD τ) (stg4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (stg0 m t) fullShare ((dats m 0 c).after 0 t)
    ∗ owns (c : Thread nD τ) (stg1 m t) fullShare ((dats m 0 c).after 1 t)
    ∗ owns (c : Thread nD τ) (stg2 m t) fullShare ((dats m 0 c).after 2 t)
    ∗ owns (c : Thread nD τ) (stg3 m t) fullShare ((dats m 0 c).after 3 t)
    ∗ owns (c : Thread nD τ) (stg4 m t) fullShare ((dats m 0 c).after 4 t))

theorem body_sound (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl, after_0, after_1, after_2, after_3, after_4]
  rw [show (dats m 0 c).Φ t.castSucc = iprop(Pipeline.ΦA spec0 c ∗ Pipeline.ΦT pre0 (tbl m) c) from rfl, tables_eq, scratch_eq]
  iintro ⟨⟨⟨⟨⟨%x0, S0⟩, ⟨%x1, S1⟩, ⟨%x2, S2⟩, ⟨%x3, S3⟩, ⟨%x4, S4⟩⟩, Hg⟩, T0, T1, T2⟩, Ho, ⟨%d0, H0⟩, ⟨%d1, H1⟩, ⟨%d2, H2⟩, ⟨%d3, H3⟩, ⟨%d4, H4⟩⟩
  iapply (whole_run (Memref.whole main_c) (Memref.isWhole_whole _) (Memref.whole main_c_0) (Memref.isWhole_whole _) (Memref.whole main_c_1) (Memref.isWhole_whole _)
    (stg0 m t) (Facts₀.hstage0_0 (((cfgM m).slots t 0).cast Facts₀.nbuf0_0))
    (stg1 m t) (Facts₀.hstage0_1 (((cfgM m).slots t 1).cast Facts₀.nbuf0_1))
    (stg2 m t) (Facts₀.hstage0_2 (((cfgM m).slots t 2).cast Facts₀.nbuf0_2))
    (stg3 m t) (Facts₀.hstage0_3 (((cfgM m).slots t 3).cast Facts₀.nbuf0_3))
    (stg4 m t) (Facts₀.hstage0_4 (((cfgM m).slots t 4).cast Facts₀.nbuf0_4))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    c (insAt m c t) (insAt_good m c t) ⟨(dats m 0 c).before 4 t d4, x0, x1, x2, x3⟩ x4 rfl (grid0.coords t) Set.univ _)
  unfold held
  isplitl [H0 H1 H2 H3 H4 S0 S1 S2 S3 S4 T0 T1 T2]
  · isplitl [T0]; · iexact T0
    isplitl [T1]; · iexact T1
    isplitl [T2]; · iexact T2
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iexact S4
  iintro ⟨T0, T1, T2, H0, H1, H2, H3, H4, S0, S1, S2, S3, S4⟩
  isplitl [S0 S1 S2 S3 S4 Hg T0 T1 T2]
  · isplitl [S0 S1 S2 S3 S4 Hg]
    · isplitl [S0 S1 S2 S3 S4]
      · isplitl [S0]; · iexists _; iexact S0
        isplitl [S1]; · iexists _; iexact S1
        isplitl [S2]; · iexists _; iexact S2
        isplitl [S3]; · iexists _; iexact S3
        iexists _; iexact S4
      iexact Hg
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  iexact H4

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (body_sound m c t) rfl .rfl fun _ => .rfl

/-! ## The run -/

set_option backward.isDefEq.respectTransparency.types false in
/-- Every execution ends; the arrays then hold what the calls left in them, and every counter is zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := entry_main m Variants.none) (hA := dats_A m) (hpf := V_pre m) (hΦ := fun _ _ => rfl)

end Cert.KernelIdeal.Stick

end
-- ==== Proof.Frame.lean ====
/- The kernel ends with its arguments as they were. -/
module

public import proofs.«01_k».proof.Proof.Region

@[expose] public section

set_option maxRecDepth 16384

noncomputable section

namespace Cert.KernelIdeal.Stick

open Idealize.ShloMosaic Idealize.ShloMosaic.TcCoe
open Idealize.SL.Sem
open Idealize.ShloMosaic.Rounds
open Cert.KernelIdeal Cert.KernelIdeal.Gen

variable {F : FTy → Type} [FloatOps F] [Named F]
variable (m : (ℓ : Loc nD τ sig) → Buf (Elt F) ℓ) (ρ : Dev nD → PrngReg)

/-- What the output array holds at the end. -/
def result (c : Dev nD) : Buf (Elt F) ((c.tc : Thread nD τ).loc main_v8) := (dats m 0 c).arrAt 4 (cfgM m).N

/-- Every execution ends with the output array at `result` and the arguments unchanged. -/
theorem run_values : θ_run defs (onTc (τ := τ) (main (F := F))) ⟨m, fun _ => 0, ρ⟩ (fun r => (∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4,
      ((h.1 c).1 0).trans (((dats m 0 c).arrAt_in 0 rfl _).trans ((dats_A m c 0).trans (V_q m c))),
      ((h.1 c).1 1).trans (((dats m 0 c).arrAt_in 1 rfl _).trans ((dats_A m c 1).trans (V_k m c))),
      ((h.1 c).1 2).trans (((dats m 0 c).arrAt_in 2 rfl _).trans ((dats_A m c 2).trans (V_v m c)))⟩, h.2⟩) (run_main m ρ)

/-- Every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_values m ρ)

end Cert.KernelIdeal.Stick

end
-- ==== Proof.KernelFrame.lean ====
/- The kernel as compiled is, name for name, the kernel whose constants are read as the bits they are written with. -/
module

public import proofs.«01_k».proof.Proof.Frame
public import proofs.«01_k».proof.Proof.Gen.Kernel
public import proofs.«01_k».proof.Defs

@[expose] public section

set_option maxRecDepth 16384

noncomputable section

namespace Cert.Proof

open Idealize.ShloMosaic Idealize.ShloMosaic.TcCoe Idealize.ShloMosaic.Tactic
open Idealize.SL.Sem

/-- A named constant read as the bits it is written with. -/
abbrev bitsNamed : Named Bits := ⟨fun _ _ {φ} bits => Scalar.ofBits φ bits⟩

/-- The frame of the kernel with its constants so read. -/
def FrameNamed : Prop :=
  letI := bitsNamed
  ∀ (m : (ℓ : Loc Cert.KernelIdeal.nD Cert.KernelIdeal.τ Cert.KernelIdeal.sig) → Buf (Elt Bits) ℓ) (g : Dev Cert.KernelIdeal.nD → PrngReg),
    True → θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frameNamed : FrameNamed := fun m g _ => @Cert.KernelIdeal.Stick.run_frame Bits _ bitsNamed m g

theorem frameNamed_eq : FrameNamed = Cert.quiescent_Kernel (hKernel := Cert.Kernel.Gen.facts) := by
  sl_kernel_rfl

theorem frame_Kernel : Cert.quiescent_Kernel (hKernel := Cert.Kernel.Gen.facts) := frameNamed_eq ▸ frameNamed

end Cert.Proof

end
-- ==== Proof.Claims.lean ====
/- The claims that need no values: the reference's frame, the kernel's frame at the ideal values, the named constants. -/
module

public import proofs.«01_k».proof.Proof.KernelFrame
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

theorem frame_KernelIdeal : Cert.quiescent_KernelIdeal (hKernelIdeal := Cert.KernelIdeal.Gen.facts) :=
  fun m g _ => Cert.KernelIdeal.Stick.run_frame m g

theorem frame_ReferenceIdeal : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩) (Cert.ReferenceIdeal.Value.run m g)

theorem named : Cert.preserves_Kernel_KernelIdeal :=
  ⟨IdealRules.named_const.statement Cert.KernelIdeal.κ "mask" .f32 0xF149F2CA#32 ⊥ rfl,
    IdealRules.named_const.statement Cert.KernelIdeal.κ "neg_log2e" .f32 0xBFB8AA3B#32 ((-((Real.log 2)⁻¹) : ℝ) : EReal) rfl⟩

end Cert.Proof

end
-- ==== Proof.Soft.lean ====
/- The extended-real mathematics of stick-breaking weights: the softplus, and the two ways of writing a weight. -/
module

public import Idealize.ShloMosaic.Lib.Pointwise

@[expose] public section

noncomputable section

namespace Cert.Stick

open Idealize.ShloMosaic

/-- The softplus of an extended real. -/
def soft (x : EReal) : EReal := max x 0 + Ideal.log (1 + Ideal.exp (-(max x (-x))))

theorem soft_bot : soft ⊥ = 0 := by
  unfold soft
  rw [EReal.neg_bot, max_eq_right (bot_le : (⊥ : EReal) ≤ ⊤), EReal.neg_top, Ideal.exp_bot, max_eq_right (bot_le : (⊥ : EReal) ≤ 0), zero_add, add_zero]
  show Ideal.log ((1 : ℝ) : EReal) = 0
  rw [Ideal.log_coe, if_neg (by norm_num), Real.log_one]; rfl

theorem soft_top : soft ⊤ = ⊤ := by
  unfold soft
  rw [EReal.neg_top, max_eq_left (bot_le : (⊥ : EReal) ≤ ⊤), EReal.neg_top, Ideal.exp_bot, max_eq_left (le_top : (0 : EReal) ≤ ⊤), add_zero]
  have : Ideal.log (1 : EReal) = 0 := by
    show Ideal.log ((1 : ℝ) : EReal) = 0
    rw [Ideal.log_coe, if_neg (by norm_num), Real.log_one]; rfl
  rw [this, add_zero]

theorem max_coe (a b : ℝ) : max (a : EReal) b = ((max a b : ℝ) : EReal) := by
  rcases le_total a b with h | h
  · rw [max_eq_right h, max_eq_right (EReal.coe_le_coe_iff.mpr h)]
  · rw [max_eq_left h, max_eq_left (EReal.coe_le_coe_iff.mpr h)]

theorem abs_coe (x : ℝ) : max (x : EReal) (-(x : EReal)) = ((max x (-x) : ℝ) : EReal) := by rw [← EReal.coe_neg, max_coe]

/-- The softplus of a real number. -/
def softR (x : ℝ) : ℝ := max x 0 + Real.log (1 + Real.exp (-(max x (-x))))

theorem soft_coe (x : ℝ) : soft x = softR x := by
  unfold soft softR
  have e2 : max (x : EReal) 0 = ((max x 0 : ℝ) : EReal) := max_coe x 0
  rw [abs_coe, e2, ← EReal.coe_neg, Ideal.exp_coe]
  have e3 : (1 : EReal) + ((Real.exp (-(max x (-x))) : ℝ) : EReal) = ((1 + Real.exp (-(max x (-x))) : ℝ) : EReal) := by rw [EReal.coe_add]; rfl
  rw [e3, Ideal.log_coe, if_neg (by have := Real.exp_pos (-(max x (-x))); linarith), ← EReal.coe_add]

theorem softR_neg (x : ℝ) : x + -softR x = -softR (-x) := by
  unfold softR
  rw [neg_neg, max_comm (-x) x]
  rcases le_total x 0 with h | h
  · rw [max_eq_right h, max_eq_left (by linarith : (0 : ℝ) ≤ -x)]; ring
  · rw [max_eq_left h, max_eq_right (by linarith : -x ≤ (0 : ℝ))]; ring

/-- The softplus written with the power of two. -/
theorem soft_pow (x : EReal) : Ideal.log (1 + Ideal.exp2 (max x (-x) * ((-((Real.log 2)⁻¹) : ℝ) : EReal))) + max x 0 = soft x := by
  have hl : 0 < Real.log 2 := Real.log_pos (by norm_num)
  have hneg : -((Real.log 2)⁻¹) < 0 := by have := inv_pos.mpr hl; linarith
  have key : Ideal.exp2 (max x (-x) * ((-((Real.log 2)⁻¹) : ℝ) : EReal)) = Ideal.exp (-(max x (-x))) := by
    induction x with
    | bot => rw [EReal.neg_bot, max_eq_right (bot_le : (⊥ : EReal) ≤ ⊤), EReal.top_mul_coe_of_neg hneg, EReal.neg_top, Ideal.exp2_bot, Ideal.exp_bot]
    | top => rw [EReal.neg_top, max_eq_left (bot_le : (⊥ : EReal) ≤ ⊤), EReal.top_mul_coe_of_neg hneg, EReal.neg_top, Ideal.exp2_bot, Ideal.exp_bot]
    | coe r =>
      rw [abs_coe, ← EReal.coe_mul, ← EReal.coe_neg, Ideal.exp_coe, Ideal.exp2_coe]
      congr 1
      show (2 : ℝ) ^ (max r (-r) * -(Real.log 2)⁻¹) = _
      rw [Real.rpow_def_of_pos (by norm_num)]
      congr 1
      field_simp
  unfold soft
  rw [key, add_comm]

/-- The weight of a key, from the sums that include it and from the sums that leave it out. -/
theorem weight_eq (z t : EReal) : -soft (-z) + ((-soft z + t) - (-soft z)) = z + (-soft z + t) := by
  induction z with
  | bot => rw [EReal.neg_bot, soft_top, EReal.neg_top, EReal.bot_add, EReal.bot_add]
  | top =>
    rw [soft_top, EReal.neg_top, EReal.bot_add, EReal.add_bot, sub_eq_add_neg, EReal.bot_add, EReal.add_bot]
  | coe r =>
    rw [← EReal.coe_neg, soft_coe, soft_coe, ← EReal.coe_neg, ← EReal.coe_neg, sub_eq_add_neg, ← EReal.coe_neg, neg_neg,
      ← add_assoc ((r : ℝ) : EReal), ← EReal.coe_add, softR_neg, add_comm ((-softR r : ℝ) : EReal) t, add_assoc t, ← EReal.coe_add,
      neg_add_cancel, EReal.coe_zero, add_zero]

/-! ## Sums over the keys -/

/-- The score of key `j` for query `i`, keys that are not earlier masked. -/
def masked (z : ℕ → ℕ → EReal) (i j : ℕ) : EReal := if j < i then z i j else ⊥

theorem masked_of_lt (z : ℕ → ℕ → EReal) {i j : ℕ} (h : j < i) : masked z i j = z i j := if_pos h
theorem masked_of_le (z : ℕ → ℕ → EReal) {i j : ℕ} (h : i ≤ j) : masked z i j = ⊥ := if_neg (not_lt.mpr h)

/-- The sum of the negated softplus of the keys from `a` up to `b`. -/
def span (z : ℕ → ℕ → EReal) (i a b : ℕ) : EReal := ∑ k ∈ Finset.Ico a b, -soft (masked z i k)

theorem span_self (z : ℕ → ℕ → EReal) (i a : ℕ) : span z i a a = 0 := by unfold span; simp

theorem span_add (z : ℕ → ℕ → EReal) (i : ℕ) {a b c : ℕ} (h : a ≤ b) (h' : b ≤ c) : span z i a b + span z i b c = span z i a c :=
  Finset.sum_Ico_consecutive _ h h'

theorem span_zero (z : ℕ → ℕ → EReal) (i : ℕ) {a b : ℕ} (h : i ≤ a) : span z i a b = 0 := by
  unfold span
  refine Finset.sum_eq_zero fun k hk => ?_
  rw [masked_of_le z (h.trans (Finset.mem_Ico.mp hk).1), soft_bot, neg_zero]

theorem span_head (z : ℕ → ℕ → EReal) (i : ℕ) {a b : ℕ} (h : a < b) : span z i a b = -soft (masked z i a) + span z i (a + 1) b := by
  unfold span
  rw [Finset.sum_eq_sum_Ico_succ_bot h]

theorem span_ext (z : ℕ → ℕ → EReal) (i : ℕ) {a b c : ℕ} (hab : a ≤ b) (hbc : b ≤ c) (h : i ≤ b) : span z i a c = span z i a b := by
  rw [← span_add z i hab hbc, span_zero z i h, add_zero]

/-- The weight of key `j` for query `i`. -/
def weight (z : ℕ → ℕ → EReal) (i j : ℕ) (n : ℕ) : EReal := Ideal.exp (masked z i j + span z i j n)

theorem weight_masked (z : ℕ → ℕ → EReal) {i j : ℕ} (n : ℕ) (h : i ≤ j) : weight z i j n = 0 := by
  unfold weight; rw [masked_of_le z h, EReal.bot_add, Ideal.exp_bot]

end Cert.Stick

end
-- ==== Proof.Reads.lean ====
/- The values of an iteration, read at an index over the extended reals. -/
module

public import proofs.«01_k».proof.Proof.Region
public import proofs.«01_k».proof.Proof.Soft

@[expose] public section

set_option maxRecDepth 16384

noncomputable section

namespace Cert.KernelIdeal.Stick

open Idealize.ShloMosaic
open Cert.KernelIdeal
open Cert.Stick

/-! ## Windows -/

/-- Entry `(hp, i, l)` of a block of the queries, keys or values; zero outside it. -/
def rd (x : S4x1x4096x128.Idx → EReal) (hp i l : ℕ) : EReal :=
  if h : hp < 4 ∧ i < 4096 ∧ l < 128 then x (ix4 ⟨hp, h.1⟩ 0 ⟨i, h.2.1⟩ ⟨l, h.2.2⟩) else 0

theorem rd_eq (x : S4x1x4096x128.Idx → EReal) (a : Fin 4) (i : Fin 4096) (l : Fin 128) : x (ix4 a 0 i l) = rd x a.val i.val l.val := by
  unfold rd; rw [dif_pos ⟨a.isLt, i.isLt, l.isLt⟩]

theorem window_512 (x : S4x1x4096x128.Idx → EReal) {off : Fin 4 → ℕ} {a b : ℕ} (h : off = ![a, 0, b, 0]) (inb) (r : Fin 512) (l : Fin 128) :
    VecWindow.window x off S1x1x512x128.size inb (ix4 0 0 r l) = rd x a (b + r.val) l.val := by
  subst h
  have h0 := inb 0; have h2 := inb 2
  have h0' : a + 1 ≤ 4 := h0
  have h2' : b + 512 ≤ 4096 := h2
  unfold rd VecWindow.window
  rw [dif_pos ⟨by omega, by omega, l.isLt⟩]
  congr 1
  funext j; apply Fin.ext
  fin_cases j
  · show a + 1 * 0 = a; omega
  · show 0 + 1 * 0 = 0; omega
  · show b + 1 * r.val = b + r.val; omega
  · show 0 + 1 * l.val = l.val; omega

theorem window_256 (x : S4x1x4096x128.Idx → EReal) {off : Fin 4 → ℕ} {a b : ℕ} (h : off = ![a, 0, b, 0]) (inb) (r : Fin 256) (l : Fin 128) :
    VecWindow.window x off S1x1x256x128.size inb (ix4 0 0 r l) = rd x a (b + r.val) l.val := by
  subst h
  have h0 := inb 0; have h2 := inb 2
  have h0' : a + 1 ≤ 4 := h0
  have h2' : b + 256 ≤ 4096 := h2
  unfold rd VecWindow.window
  rw [dif_pos ⟨by omega, by omega, l.isLt⟩]
  congr 1
  funext j; apply Fin.ext
  fin_cases j
  · show a + 1 * 0 = a; omega
  · show 0 + 1 * 0 = 0; omega
  · show b + 1 * r.val = b + r.val; omega
  · show 0 + 1 * l.val = l.val; omega

section
variable {α : Type}

/-- One block of a buffer of blocks. -/
theorem window_blk {m : ℕ} (x : (⟨3, ![m, 512, 128]⟩ : Shape).Idx → α) {a : ℕ} (ha : a < m) (inb) (r : Fin 512) (l : Fin 128) :
    VecWindow.window (s := ⟨3, ![m, 512, 128]⟩) x ![a, 0, 0] S1x512x128.size inb (ix3 0 r l) = x (ix3 ⟨a, ha⟩ r l) := by
  unfold VecWindow.window
  congr 1
  funext j; apply Fin.ext
  fin_cases j
  · show a + 1 * 0 = a; omega
  · show 0 + 1 * r.val = r.val; omega
  · show 0 + 1 * l.val = l.val; omega

theorem window_blk2 {m n : ℕ} (x : (⟨4, ![m, n, 512, 128]⟩ : Shape).Idx → α) {off : Fin 4 → ℕ} {a b : ℕ} (h : off = ![a, b, 0, 0]) (ha : a < m) (hb : b < n) (inb) (r : Fin 512) (l : Fin 128) :
    VecWindow.window (s := ⟨4, ![m, n, 512, 128]⟩) x off S1x1x512x128.size inb (ix4 0 0 r l) = x (ix4 ⟨a, ha⟩ ⟨b, hb⟩ r l) := by
  subst h
  unfold VecWindow.window
  congr 1
  funext j; apply Fin.ext
  fin_cases j
  · show a + 1 * 0 = a; omega
  · show b + 1 * 0 = b; omega
  · show 0 + 1 * r.val = r.val; omega
  · show 0 + 1 * l.val = l.val; omega

theorem put_blk_same {m : ℕ} (x : (⟨3, ![m, 512, 128]⟩ : Shape).Idx → α) {a : ℕ} (w : S1x512x128.Idx → α) (b : Fin m) (r : Fin 512) (l : Fin 128) (h : b.val = a) :
    VecWindow.put (s := ⟨3, ![m, 512, 128]⟩) x ![a, 0, 0] S1x512x128.size w (ix3 b r l) = w (ix3 0 r l) := by
  unfold VecWindow.put
  rw [dif_pos]
  · congr 1
    funext j; apply Fin.ext
    fin_cases j
    · show b.val - a = 0; omega
    · show r.val - 0 = r.val; omega
    · show l.val - 0 = l.val; omega
  · intro j
    fin_cases j
    · show a ≤ b.val ∧ b.val < a + 1; omega
    · show 0 ≤ r.val ∧ r.val < 0 + 512; omega
    · show 0 ≤ l.val ∧ l.val < 0 + 128; omega

theorem put_blk_other {m : ℕ} (x : (⟨3, ![m, 512, 128]⟩ : Shape).Idx → α) {a : ℕ} (w : S1x512x128.Idx → α) (b : Fin m) (r : Fin 512) (l : Fin 128) (h : b.val ≠ a) :
    VecWindow.put (s := ⟨3, ![m, 512, 128]⟩) x ![a, 0, 0] S1x512x128.size w (ix3 b r l) = x (ix3 b r l) := by
  unfold VecWindow.put
  rw [dif_neg]
  intro hh
  have h0 : a ≤ b.val ∧ b.val < a + 1 := hh 0
  omega

theorem put_blk2_same {m n : ℕ} (x : (⟨4, ![m, n, 512, 128]⟩ : Shape).Idx → α) {a b : ℕ} (w : S1x1x512x128.Idx → α) (A : Fin m) (B : Fin n) (r : Fin 512) (l : Fin 128)
    (h : A.val = a) (h' : B.val = b) :
    VecWindow.put (s := ⟨4, ![m, n, 512, 128]⟩) x ![a, b, 0, 0] S1x1x512x128.size w (ix4 A B r l) = w (ix4 0 0 r l) := by
  unfold VecWindow.put
  rw [dif_pos]
  · congr 1
    funext j; apply Fin.ext
    fin_cases j
    · show A.val - a = 0; omega
    · show B.val - b = 0; omega
    · show r.val - 0 = r.val; omega
    · show l.val - 0 = l.val; omega
  · intro j
    fin_cases j
    · show a ≤ A.val ∧ A.val < a + 1; omega
    · show b ≤ B.val ∧ B.val < b + 1; omega
    · show 0 ≤ r.val ∧ r.val < 0 + 512; omega
    · show 0 ≤ l.val ∧ l.val < 0 + 128; omega

theorem put_blk2_other {m n : ℕ} (x : (⟨4, ![m, n, 512, 128]⟩ : Shape).Idx → α) {a b : ℕ} (w : S1x1x512x128.Idx → α) (A : Fin m) (B : Fin n) (r : Fin 512) (l : Fin 128)
    (h : ¬ (A.val = a ∧ B.val = b)) :
    VecWindow.put (s := ⟨4, ![m, n, 512, 128]⟩) x ![a, b, 0, 0] S1x1x512x128.size w (ix4 A B r l) = x (ix4 A B r l) := by
  unfold VecWindow.put
  rw [dif_neg]
  intro hh
  have h0 : a ≤ A.val ∧ A.val < a + 1 := hh 0
  have h1 : b ≤ B.val ∧ B.val < b + 1 := hh 1
  omega

end

theorem put_rows_same (x : S4x1x4096x128.Idx → EReal) {off : Fin 4 → ℕ} {a b : ℕ} (h : off = ![a, 0, b, 0]) (ha : a < 4) (hb : b + 512 ≤ 4096) (w : S1x1x512x128.Idx → EReal)
    (r : Fin 512) (l : Fin 128) : rd (VecWindow.put x off S1x1x512x128.size w) a (b + r.val) l.val = w (ix4 0 0 r l) := by
  subst h
  unfold rd VecWindow.put
  rw [dif_pos ⟨ha, by omega, l.isLt⟩, dif_pos]
  · congr 1
    funext j; apply Fin.ext
    fin_cases j
    · show a - a = 0; omega
    · show 0 - 0 = 0; omega
    · show b + r.val - b = r.val; omega
    · show l.val - 0 = l.val; omega
  · intro j
    fin_cases j
    · show a ≤ a ∧ a < a + 1; omega
    · show 0 ≤ 0 ∧ 0 < 0 + 1; omega
    · show b ≤ b + r.val ∧ b + r.val < b + 512; omega
    · show 0 ≤ l.val ∧ l.val < 0 + 128; omega

theorem put_rows_other (x : S4x1x4096x128.Idx → EReal) {off : Fin 4 → ℕ} {a b : ℕ} (h : off = ![a, 0, b, 0]) (w : S1x1x512x128.Idx → EReal)
    (a' i l : ℕ) (hn : ¬ (a' = a ∧ b ≤ i ∧ i < b + 512)) : rd (VecWindow.put x off S1x1x512x128.size w) a' i l = rd x a' i l := by
  subst h
  unfold rd VecWindow.put
  by_cases hc : a' < 4 ∧ i < 4096 ∧ l < 128
  · rw [dif_pos hc, dif_pos hc, dif_neg]
    intro hh
    have h0 : a ≤ a' ∧ a' < a + 1 := hh 0
    have h2 : b ≤ i ∧ i < b + 512 := hh 2
    omega
  · rw [dif_neg hc, dif_neg hc]

/-! ## The pieces -/

theorem laneHead_apply (r : Fin 256) (l : Fin 128) : laneHead (ix2 r l) = BitVec.ofNat 32 (l.val / 64) := by
  pointwise [laneHead]
  revert l
  decide +kernel

theorem sel_lane (l : Fin 128) (h : Fin 2) (x : EReal) :
    Scalar.select (IntOp.cmpi CmpIPredicate.eq (BitVec.ofNat 32 (l.val / 64)) (BitVec.ofNat 32 h.val)) x 0 = if l.val / 64 = h.val then x else 0 := by
  have e : IntOp.cmpi CmpIPredicate.eq (BitVec.ofNat 32 (l.val / 64)) (BitVec.ofNat 32 h.val) = if l.val / 64 = h.val then 1#1 else 0#1 := by
    revert l h; decide +kernel
  rw [e]
  split <;> rfl

/-- The rows of head `h` keep that head's lanes. -/
theorem headRows_apply (x : Vec Ideal S1x1x256x128 .bf16) (c : Fin 512) (l : Fin 128) :
    headRows x (ix2 c l) = if l.val / 64 = c.val / 256 then (x (ix4 0 0 ⟨c.val % 256, Nat.mod_lt _ (by decide)⟩ l) : EReal) else 0 := by
  pointwise [headRows]
  by_cases h : c.val < 256
  · refine (dif_pos h).trans ?_
    rw [laneHead_apply]
    have e : (⟨c.val % 256, Nat.mod_lt _ (by decide)⟩ : Fin 256) = ⟨c.val, h⟩ := Fin.ext (Nat.mod_eq_of_lt h)
    have e0 : c.val / 256 = 0 := Nat.div_eq_of_lt h
    rw [e, e0]
    exact sel_lane l 0 _
  · refine (dif_neg h).trans ?_
    have hlt : c.val - 256 < 256 := by have := c.isLt; omega
    have e : (⟨c.val % 256, Nat.mod_lt _ (by decide)⟩ : Fin 256) = ⟨c.val - 256, hlt⟩ := Fin.ext (by show c.val % 256 = c.val - 256; omega)
    have e0 : c.val / 256 = 1 := by omega
    rw [laneHead_apply, e, e0]
    exact sel_lane l 1 _

/-- A sum over the lanes of one head. -/
theorem sum_head (f : ℕ → EReal) {h : ℕ} (hh : h < 2) : ∑ x : Fin 128, (if x.val / 64 = h then f x.val else 0) = ∑ d ∈ Finset.range 64, f (64 * h + d) := by
  rw [← Finset.sum_range (fun x => if x / 64 = h then f x else 0), Finset.sum_range_add (fun x => if x / 64 = h then f x else 0) 64 64]
  have a : ∀ d ∈ Finset.range 64, (if d / 64 = h then f d else 0) = if 0 = h then f d else 0 := fun d hd => by
    rw [Nat.div_eq_of_lt (Finset.mem_range.mp hd)]
  have b : ∀ d ∈ Finset.range 64, (if (64 + d) / 64 = h then f (64 + d) else 0) = if 1 = h then f (64 + d) else 0 := fun d hd => by
    have := Finset.mem_range.mp hd
    rw [show (64 + d) / 64 = 1 by omega]
  rw [Finset.sum_congr rfl a, Finset.sum_congr rfl b]
  interval_cases h <;> simp

/-- A score, over the lanes of its head. -/
theorem scoreVal_apply (q : Vec Ideal S1x1x512x128 .bf16) (k : Vec Ideal S1x1x256x128 .bf16) (r c : Fin 512) (Q K : ℕ → EReal)
    (hq : ∀ x : Fin 128, q (ix4 0 0 r x) = Q x.val) (hk : ∀ x : Fin 128, k (ix4 0 0 ⟨c.val % 256, Nat.mod_lt _ (by decide)⟩ x) = K x.val) :
    scoreVal q k (ix2 r c) = ∑ d ∈ Finset.range 64, Q (64 * (c.val / 256) + d) * K (64 * (c.val / 256) + d) := by
  pointwise [scoreVal]
  rw [← sum_head (fun x => Q x * K x) (by have := c.isLt; omega)]
  refine Finset.sum_congr rfl fun x _ => ?_
  rw [headRows_apply, hq, hk]
  split
  · rfl
  · exact mul_zero _

/-- The softplus of a masked score. -/
theorem softplusVal_apply (zm : FVec Ideal S512x128 .f32) (i : Fin 512) (l : Fin 128) : softplusVal zm (ix2 i l) = soft (zm (ix2 i l)) := by
  pointwise [softplusVal]
  exact soft_pow _

theorem maskedVal_apply (zz : FVec Ideal S512x512 .f32) (b : ℕ) (hb : b < 4) (pen : Vec Ideal S1x1x512x128 .f32) (i : Fin 512) (l : Fin 128) :
    maskedVal zz b hb pen (ix2 i l) = (zz (ix2 i ⟨128 * b + l.val, by omega⟩) : EReal) + pen (ix4 0 0 i l) := by
  pointwise [maskedVal]

theorem weightVal_apply (z : Vec Ideal S1x1x512x128 .f32) (r c : FVec Ideal S512x128 .f32) (i : Fin 512) (l : Fin 128) :
    weightVal z r c (ix3 0 i l) = Ideal.exp ((z (ix4 0 0 i l) : EReal) + r (ix2 i l) + c (ix2 i l)) := by
  pointwise [weightVal]

theorem carryVal_apply (r : FVec Ideal S512x256 .f32) (c : FVec Ideal S512x128 .f32) (i : Fin 512) (l : Fin 128) :
    carryVal r c (ix3 0 i l) = (c (ix2 i l) : EReal) + r (ix2 i 0) := by
  pointwise [carryVal]

theorem toInt_small {n : ℕ} (h : n < 2147483648) : (BitVec.ofNat 32 n).toInt = (n : ℤ) := by
  have e : (BitVec.ofNat 32 n).toNat = n := by rw [BitVec.toNat_ofNat]; omega
  rw [BitVec.toInt_eq_toNat_of_lt (by omega), e]

/-- The penalties of a block of keys. -/
theorem penVal_apply (c : ℕ) (hc : c < 512) (i : Fin 512) (l : Fin 128) :
    penVal (F := Ideal) (BitVec.ofNat 32 c) (ix4 0 0 i l) = (if l.val + c < i.val then 0 else ⊥ : EReal) := by
  pointwise [penVal]
  have e : IntOp.cmpi CmpIPredicate.slt (IntOp.addi (BitVec.ofNat 32 l.val) (BitVec.ofNat 32 c)) (BitVec.ofNat 32 i.val) = if l.val + c < i.val then 1#1 else 0#1 := by
    have hl := l.isLt; have hi := i.isLt
    unfold IntOp.cmpi IntOp.addi
    rw [← BitVec.ofNat_add]
    have e1 : (BitVec.ofNat 32 (l.val + c)).toInt = (l.val + c : ℕ) := toInt_small (by omega)
    have e2 : (BitVec.ofNat 32 i.val).toInt = (i.val : ℕ) := toInt_small (by omega)
    simp only [BitVec.slt, e1, e2]
    by_cases h : l.val + c < i.val
    · rw [if_pos h]; rw [decide_eq_true (by exact_mod_cast h)]; rfl
    · rw [if_neg h]; rw [decide_eq_false (by exact_mod_cast h)]; rfl
  rw [e]
  split <;> rfl

/-- An entry of the scan matrix. -/
theorem triVal_apply (i j : Fin 256) : triVal (F := Ideal) (ix2 i j) = (if j.val ≤ i.val then -1 else 0 : EReal) := by
  pointwise [triVal]
  have e : IntOp.cmpi CmpIPredicate.sge (BitVec.ofNat 32 i.val) (BitVec.ofNat 32 j.val) = if j.val ≤ i.val then 1#1 else 0#1 := by
    have hi := i.isLt; have hj := j.isLt
    have e1 : (BitVec.ofNat 32 i.val).toInt = (i.val : ℕ) := toInt_small (by omega)
    have e2 : (BitVec.ofNat 32 j.val).toInt = (j.val : ℕ) := toInt_small (by omega)
    unfold IntOp.cmpi
    simp only [BitVec.sle, e1, e2]
    by_cases h : j.val ≤ i.val
    · rw [if_pos h]; have : ((j.val : ℕ) : ℤ) ≤ (i.val : ℕ) := by exact_mod_cast h
      simp [this]
    · rw [if_neg h]; have : ¬ ((j.val : ℕ) : ℤ) ≤ (i.val : ℕ) := by exact_mod_cast h
      simp [this]
  rw [e]
  split
  · show -(((1#1 : BitVec 1).toNat : ℝ) : EReal) = -1
    simp
  · show -(((0#1 : BitVec 1).toNat : ℝ) : EReal) = 0
    simp

end Cert.KernelIdeal.Stick

end
-- ==== Proof.Items.lean ====
/- Where each item reads and writes, and how the items follow one another. -/
module

public import proofs.«01_k».proof.Proof.Reads

@[expose] public section

set_option maxRecDepth 16384

noncomputable section

namespace Cert.KernelIdeal.Stick

open Idealize.ShloMosaic
open Cert.KernelIdeal

/-- The table of penalties an item uses: none below the diagonal tiles. -/
def kindOf (n : ℕ) : ℕ := ktOf n + 1 - 2 * qiOf n

theorem off2_eq : ∀ n : Fin 288, k0_off2 (lit0 n) (lit1 n) = ![hpOf n, 0, 512 * qiOf n, 0] := by decide +kernel
theorem off3_eq : ∀ n : Fin 288, k0_off3 (lit0 n) (lit2 n) = ![hpOf n, 0, 256 * ktOf n, 0] := by decide +kernel
theorem off4_eq : ∀ n : Fin 288, k0_off4 (lit0 n) (lit1 n) = ![hpOf n, 0, 512 * qiOf n, 0] := by decide +kernel
theorem off7_eq : ∀ n : Fin 288, k0_off7 (lit0 n) (lit1 n) = ![hpOf n, 0, 512 * qiOf n, 0] := by decide +kernel
theorem off8_eq : ∀ n : Fin 288, k0_off8 (lit0 n) (lit2 n) = ![hpOf n, 0, 256 * ktOf n, 0] := by decide +kernel
theorem off9_eq : ∀ n : Fin 288, k0_off9 (lit1 n) (lit2 n) = ![kindOf n, 0, 0, 0] := by decide +kernel
theorem off10_eq : ∀ n : Fin 288, k0_off10 (lit1 n) (lit2 n) = ![kindOf n, 1, 0, 0] := by decide +kernel
theorem isDiag_eq : ∀ n : Fin 288, isDiag (lit1 n) (lit2 n) = if ktOf n = 2 * qiOf n + 1 then 1#1 else 0#1 := by decide +kernel

theorem item_bounds : ∀ n : Fin 288, hpOf n < 4 ∧ qiOf n < 8 ∧ ktOf n ≤ 2 * qiOf n + 1 := by decide +kernel

/-- The items of a row of query tiles come one after the other, from the diagonal down, and the rows in order. -/
theorem item_next : ∀ n : Fin 287,
    (hpOf (n + 1) = hpOf n ∧ qiOf (n + 1) = qiOf n ∧ ktOf n = ktOf (n + 1) + 1 ∧ ktOf (n + 1) ≠ 2 * qiOf (n + 1) + 1) ∨
      (ktOf n = 0 ∧ ktOf (n + 1) = 2 * qiOf (n + 1) + 1 ∧ 8 * hpOf (n + 1) + qiOf (n + 1) = 8 * hpOf n + qiOf n + 1) := by decide +kernel

theorem item_first : hpOf 0 = 0 ∧ qiOf 0 = 0 ∧ ktOf 0 = 1 := by decide
theorem item_last : hpOf 287 = 3 ∧ qiOf 287 = 7 ∧ ktOf 287 = 0 := by decide

theorem tabOff_item : ∀ n : Fin 288, tabOff (BitVec.ofNat 32 n.val) 0 = n.val := by decide +kernel

/-- A number of the list, clipped into it, is itself. -/
theorem tabIdx_eq (j : BitVec 32) (n : Fin 288) (h : j = BitVec.ofNat 32 n.val) : S288.rowMajor (tabIdx j) = n := by
  subst h
  apply Fin.ext
  refine (Shape.rowMajor_val_one _).trans ?_
  exact tabOff_item n

theorem sub2_eq (n : ℕ) : Scalar.subi (BitVec.ofNat 32 (n + 2)) 2#32 = BitVec.ofNat 32 n := by
  show BitVec.ofNat 32 (n + 2) - 2#32 = _
  rw [BitVec.ofNat_add]; exact BitVec.add_sub_cancel _ _

theorem sub1_eq (n : ℕ) : Scalar.subi (BitVec.ofNat 32 (n + 1)) 1#32 = BitVec.ofNat 32 n := by
  show BitVec.ofNat 32 (n + 1) - 1#32 = _
  rw [BitVec.ofNat_add]; exact BitVec.add_sub_cancel _ _

end Cert.KernelIdeal.Stick

end
-- ==== Proof.Sums.lean ====
/- Scores, scans and the sum against the values, as sums over keys. -/
module

public import proofs.«01_k».proof.Proof.Reads

@[expose] public section

set_option maxRecDepth 16384

noncomputable section

namespace Cert.KernelIdeal.Stick

open Idealize.ShloMosaic
open Cert.KernelIdeal
open Cert.Stick

/-- The score of query `i` against key `j`, for head `h` of head pair `hp`. -/
def zs (q k : S4x1x4096x128.Idx → EReal) (hp h : ℕ) : ℕ → ℕ → EReal := fun i j =>
  ∑ d ∈ Finset.range 64, rd q hp i (64 * h + d) * rd k hp j (64 * h + d)

/-- The keys of tile `t` and above, up to the end of query tile `qi`: what they add to lane `l` of the output row of query `i`. -/
def acc (q k v : S4x1x4096x128.Idx → EReal) (hp qi i l t : ℕ) : EReal :=
  ∑ j ∈ Finset.Ico (256 * t) (512 * (qi + 1)), weight (zs q k hp (l / 64)) i j (512 * (qi + 1)) * rd v hp j l

/-- No tile yet. -/
theorem acc_end (q k v : S4x1x4096x128.Idx → EReal) (hp qi i l : ℕ) : acc q k v hp qi i l (2 * qi + 2) = 0 := by
  unfold acc
  rw [show 256 * (2 * qi + 2) = 512 * (qi + 1) by ring]; simp

/-- One tile more. -/
theorem acc_step (q k v : S4x1x4096x128.Idx → EReal) (hp qi i l t : ℕ) (h : t ≤ 2 * qi + 1) :
    acc q k v hp qi i l (t + 1) + ∑ j ∈ Finset.range 256, weight (zs q k hp (l / 64)) i (256 * t + j) (512 * (qi + 1)) * rd v hp (256 * t + j) l
      = acc q k v hp qi i l t := by
  unfold acc
  rw [← Finset.sum_Ico_consecutive _ (show 256 * t ≤ 256 * (t + 1) by omega) (show 256 * (t + 1) ≤ 512 * (qi + 1) by omega), add_comm]
  congr 1
  rw [Finset.sum_Ico_eq_sum_range, show 256 * (t + 1) - 256 * t = 256 by omega]

/-- The sum over the four blocks of weights, of which the lane's head has two. -/
theorem sum_blocks (W V : ℕ → EReal) (g : Fin 512 → EReal) {h : ℕ} (hh : h < 2)
    (hg : ∀ x : Fin 512, g x = if h = x.val / 256 then W (x.val % 256) * V (x.val % 256) else 0) :
    ∑ x : Fin 512, g x = ∑ j ∈ Finset.range 256, W j * V j := by
  rw [Finset.sum_congr rfl fun x _ => hg x, ← Finset.sum_range (fun x => if h = x / 256 then W (x % 256) * V (x % 256) else 0),
    Finset.sum_range_add (fun x => if h = x / 256 then W (x % 256) * V (x % 256) else 0) 256 256]
  have a : ∀ d ∈ Finset.range 256, (if h = d / 256 then W (d % 256) * V (d % 256) else 0) = if h = 0 then W d * V d else 0 := fun d hd => by
    rw [Nat.div_eq_of_lt (Finset.mem_range.mp hd), Nat.mod_eq_of_lt (Finset.mem_range.mp hd)]
  have b : ∀ d ∈ Finset.range 256, (if h = (256 + d) / 256 then W ((256 + d) % 256) * V ((256 + d) % 256) else 0) = if h = 1 then W d * V d else 0 :=
    fun d hd => by
      have := Finset.mem_range.mp hd
      rw [show (256 + d) / 256 = 1 by omega, show (256 + d) % 256 = d by omega]
  rw [Finset.sum_congr rfl a, Finset.sum_congr rfl b]
  interval_cases h <;> simp

theorem accVal_apply (d : BitVec 1) (o : Vec Ideal S1x1x512x128 .f32) (w0 w1 w2 w3 : Vec Ideal S1x512x128 .bf16) (v : Vec Ideal S1x1x256x128 .bf16)
    (r : Fin 512) (l : Fin 128) (W V : ℕ → EReal)
    (hw : ∀ x : Fin 128, ∀ (b : Fin 4), b.val / 2 = l.val / 64 →
      (if b.val = 0 then w0 (ix3 0 r x) else if b.val = 1 then w1 (ix3 0 r x) else if b.val = 2 then w2 (ix3 0 r x) else w3 (ix3 0 r x)) = W (128 * (b.val % 2) + x.val))
    (hv : ∀ x : Fin 256, v (ix4 0 0 x l) = V x.val) :
    accVal d o w0 w1 w2 w3 v (ix4 0 0 r l) = Scalar.select d 0 (o (ix4 0 0 r l) : EReal) + ∑ j ∈ Finset.range 256, W j * V j := by
  pointwise [accVal, resetAt]
  congr 1
  have hl : l.val / 64 < 2 := by have := l.isLt; omega
  refine sum_blocks W V _ hl fun x => ?_
  rw [headRows_apply]
  by_cases hx : l.val / 64 = x.val / 256
  swap
  · rw [if_neg hx, if_neg hx]; exact mul_zero _
  rw [if_pos hx, if_pos hx, hv]
  congr 1
  have hx' := x.isLt
  have key := hw ⟨x.val % 128, Nat.mod_lt _ (by decide)⟩ ⟨x.val / 128, by omega⟩ (by show x.val / 128 / 2 = _; omega)
  rw [show 128 * (x.val / 128 % 2) + x.val % 128 = x.val % 256 by omega] at key
  rw [← key]
  have c0 : ∀ n : ℕ, n < 128 → (if n / 128 = 0 then 0 else if n / 128 = 1 then 1 else if n / 128 = 2 then 2 else 3) = 0 := by
    intro n hn; simp [Nat.div_eq_of_lt hn]
  by_cases h0 : x.val < 128
  · refine (dif_pos h0).trans ?_
    rw [if_pos (show x.val / 128 = 0 by omega)]
    congr 2; apply Fin.ext; show x.val = x.val % 128; omega
  refine (dif_neg h0).trans ?_
  rw [if_neg (show ¬ x.val / 128 = 0 by omega)]
  by_cases h1 : x.val - 128 < 128
  · refine (dif_pos h1).trans ?_
    rw [if_pos (show x.val / 128 = 1 by omega)]
    congr 2; apply Fin.ext; show x.val - 128 = x.val % 128; omega
  refine (dif_neg h1).trans ?_
  rw [if_neg (show ¬ x.val / 128 = 1 by omega)]
  by_cases h2 : x.val - 128 - 128 < 128
  · refine (dif_pos h2).trans ?_
    rw [if_pos (show x.val / 128 = 2 by omega)]
    congr 2; apply Fin.ext; show x.val - 128 - 128 = x.val % 128; omega
  refine (dif_neg h2).trans ?_
  rw [if_neg (show ¬ x.val / 128 = 2 by omega)]
  congr 2; apply Fin.ext; show x.val - 128 - 128 - 128 = x.val % 128; omega

/-- A sum against a column of the scan matrix keeps the entries from the diagonal on, negated. -/
theorem scanVal_apply (s0 s1 : Vec Ideal S1x512x128 .bf16) (tri : Vec Ideal S256x256 .bf16) (r : Fin 512) (c : Fin 256) (S : ℕ → EReal)
    (h0 : ∀ x : Fin 128, s0 (ix3 0 r x) = S x.val) (h1 : ∀ x : Fin 128, s1 (ix3 0 r x) = S (128 + x.val))
    (ht : ∀ i j : Fin 256, tri (ix2 i j) = if j.val ≤ i.val then -1 else 0) :
    scanVal s0 s1 tri (ix2 r c) = (∑ x ∈ Finset.Ico c.val 256, -S x : EReal) := by
  pointwise [scanVal]
  have e : ∀ n : ℕ, ∀ s : EReal, s * (if c.val ≤ n then -1 else 0) = if c.val ≤ n then -s else 0 := fun n s => by
    split
    · rw [mul_neg, mul_one]
    · exact mul_zero _
  have a0 : ∑ x : Fin 128, s0 (ix3 0 r x) * tri (ix2 ⟨x.val, by omega⟩ c) = ∑ x ∈ Finset.range 128, (if c.val ≤ x then -S x else 0) := by
    rw [Finset.sum_range (fun x => if c.val ≤ x then -S x else 0)]
    refine Finset.sum_congr rfl fun x _ => ?_
    rw [h0, ht]; exact e _ _
  have a1 : ∑ x : Fin 128, s1 (ix3 0 r x) * tri (ix2 ⟨128 + x.val, by omega⟩ c) = ∑ x ∈ Finset.range 128, (if c.val ≤ 128 + x then -S (128 + x) else 0) := by
    rw [Finset.sum_range (fun x => if c.val ≤ 128 + x then -S (128 + x) else 0)]
    refine Finset.sum_congr rfl fun x _ => ?_
    rw [h1, ht]; exact e _ _
  refine (congrArg₂ (· + ·) a0 a1).trans ?_
  rw [← Finset.sum_range_add (fun x => if c.val ≤ x then -S x else 0) 128 128, ← Finset.sum_filter]
  refine Finset.sum_congr ?_ fun _ _ => rfl
  ext x
  simp only [Finset.mem_filter, Finset.mem_range, Finset.mem_Ico]
  omega

/-- An entry of the penalties. -/
theorem penTable_apply (a : Fin 3) (b : Fin 2) (i : Fin 512) (l : Fin 128) :
    penTable (F := Ideal) (ix4 a b i l) = (if a.val = 0 ∨ l.val + 128 * b.val + 256 * (a.val - 1) < i.val then 0 else ⊥ : EReal) := by
  unfold penTable penPut
  have plane : ∀ b : Fin 2, VecWindow.put (s := S3x2x512x128) (fun _ => (Scalar.ofBits .f32 0x00000000#32 : Ideal .f32)) ![0, 0, 0, 0] S1x2x512x128.size
      (shapeCast S1x2x512x128 (broadcast S2x512x128 (Scalar.ofBits .f32 0x00000000#32 : Ideal .f32)) Facts₀.shapeCasts_S2x512x128_S1x2x512x128 : FVec Ideal S1x2x512x128 .f32)
      (ix4 (0 : Fin 3) b i l) = (0 : EReal) := fun b => by
    unfold VecWindow.put
    split
    · pointwise
    · exact Ideal.ofBits_zero_f32
  fin_cases a <;> fin_cases b
  · rw [put_blk2_other (a := 2) (b := 1) _ _ _ _ _ _ (by decide), put_blk2_other (a := 2) (b := 0) _ _ _ _ _ _ (by decide),
      put_blk2_other (a := 1) (b := 1) _ _ _ _ _ _ (by decide), put_blk2_other (a := 1) (b := 0) _ _ _ _ _ _ (by decide)]
    exact (plane 0).trans (by simp)
  · rw [put_blk2_other (a := 2) (b := 1) _ _ _ _ _ _ (by decide), put_blk2_other (a := 2) (b := 0) _ _ _ _ _ _ (by decide),
      put_blk2_other (a := 1) (b := 1) _ _ _ _ _ _ (by decide), put_blk2_other (a := 1) (b := 0) _ _ _ _ _ _ (by decide)]
    exact (plane 1).trans (by simp)
  · rw [put_blk2_other (a := 2) (b := 1) _ _ _ _ _ _ (by decide), put_blk2_other (a := 2) (b := 0) _ _ _ _ _ _ (by decide),
      put_blk2_other (a := 1) (b := 1) _ _ _ _ _ _ (by decide), put_blk2_same (a := 1) (b := 0) _ _ _ _ _ _ (by rfl) (by rfl)]
    exact (penVal_apply 0 (by decide) i l).trans (by simp)
  · rw [put_blk2_other (a := 2) (b := 1) _ _ _ _ _ _ (by decide), put_blk2_other (a := 2) (b := 0) _ _ _ _ _ _ (by decide),
      put_blk2_same (a := 1) (b := 1) _ _ _ _ _ _ (by rfl) (by rfl)]
    exact (penVal_apply 128 (by decide) i l).trans (by simp)
  · rw [put_blk2_other (a := 2) (b := 1) _ _ _ _ _ _ (by decide), put_blk2_same (a := 2) (b := 0) _ _ _ _ _ _ (by rfl) (by rfl)]
    exact (penVal_apply 256 (by decide) i l).trans (by simp)
  · rw [put_blk2_same (a := 2) (b := 1) _ _ _ _ _ _ (by rfl) (by rfl)]
    exact (penVal_apply 384 (by decide) i l).trans (by simp [add_assoc])

end Cert.KernelIdeal.Stick

end
-- ==== Proof.Steps.lean ====
/- What the three stages of an iteration do, in closed form. -/
module

public import proofs.«01_k».proof.Proof.Items
public import proofs.«01_k».proof.Proof.Sums

@[expose] public section

set_option maxRecDepth 16384

noncomputable section

namespace Cert.KernelIdeal.Stick

open Idealize.ShloMosaic
open Cert.KernelIdeal
open Cert.Stick

/-- The masked score of item `n` in block `b`, at query row `i` and key lane `l`. -/
def tile (q k : S4x1x4096x128.Idx → EReal) (n b i l : ℕ) : EReal :=
  masked (zs q k (hpOf n) (b / 2)) (512 * qiOf n + i) (256 * ktOf n + (128 * (b % 2) + l))

/-- The weight of item `n` in block `b`. -/
def wt (q k : S4x1x4096x128.Idx → EReal) (n b i l : ℕ) : EReal :=
  weight (zs q k (hpOf n) (b / 2)) (512 * qiOf n + i) (256 * ktOf n + (128 * (b % 2) + l)) (512 * (qiOf n + 1))

/-- What item `n` carries on to the tile below: the sum over the keys above. -/
def cr (q k : S4x1x4096x128.Idx → EReal) (n h i t : ℕ) : EReal :=
  span (zs q k (hpOf n) h) (512 * qiOf n + i) (256 * t) (512 * (qiOf n + 1))

/-- The scores of item `n` are in slot `r`. -/
def ScoresAt (q k : S4x1x4096x128.Idx → EReal) (s : St Ideal) (n : ℕ) {r : ℕ} (hr : r < 2) : Prop :=
  ∀ (b : Fin 4) (i : Fin 512) (l : Fin 128),
    s.z (ix4 ⟨r, hr⟩ b i l) = tile q k n b.val i.val l.val ∧ s.sp (ix3 b i l) = soft (tile q k n b.val i.val l.val)

/-- The weights of item `n`, and the sums carried below it. -/
def WeightsAt (q k : S4x1x4096x128.Idx → EReal) (s : St Ideal) (n : ℕ) : Prop :=
  (∀ (b : Fin 4) (i : Fin 512) (l : Fin 128), s.w (ix3 b i l) = wt q k n b.val i.val l.val) ∧
    ∀ (h : Fin 2) (i : Fin 512) (l : Fin 128), s.c (ix3 h i l) = cr q k n h.val i.val (ktOf n)

section
variable (q k v : Vec Ideal S4x1x4096x128 .bf16)

/-! ## Scores -/

theorem itemScore_apply (n : Fin 288) (tri : Vec Ideal S256x256 .bf16) (hw3 : k0_chk3 (lit0 n) (lit1 n)) (hw4 : k0_chk4 (lit0 n) (lit1 n) (lit2 n)) (i c : Fin 512) :
    itemScore (insOf q k v tri) (lit0 n) (lit1 n) (lit2 n) hw3 hw4 (ix2 i c)
      = zs q k (hpOf n) (c.val / 256) (512 * qiOf n + i.val) (256 * ktOf n + c.val % 256) :=
  scoreVal_apply _ _ i c (fun x => rd q (hpOf n) (512 * qiOf n + i.val) x) (fun x => rd k (hpOf n) (256 * ktOf n + c.val % 256) x)
    (fun x => window_512 q (off7_eq n) _ i x) (fun x => window_256 k (off8_eq n) _ _ x)

theorem masked_tile (n : Fin 288) (tri : Vec Ideal S256x256 .bf16) (hw3 : k0_chk3 (lit0 n) (lit1 n)) (hw4 : k0_chk4 (lit0 n) (lit1 n) (lit2 n))
    (b : ℕ) (hb : b < 4) (off : Fin 4 → ℕ) (inb : ∀ a, off a + S1x1x512x128.size a ≤ S3x2x512x128.size a) (ho : off = ![kindOf n, b % 2, 0, 0]) (i : Fin 512) (l : Fin 128) :
    maskedVal (itemScore (insOf q k v tri) (lit0 n) (lit1 n) (lit2 n) hw3 hw4) b hb
      (VecWindow.window (insOf q k v tri).pen off S1x1x512x128.size inb) (ix2 i l) = tile q k n b i.val l.val := by
  have hk := item_bounds n
  have hk3 : kindOf n < 3 := by unfold kindOf; omega
  rw [maskedVal_apply, itemScore_apply, window_blk2 (m := 3) (n := 2) _ ho hk3 (Nat.mod_lt _ (by decide))]
  show _ + penTable (F := Ideal) _ = _
  rw [penTable_apply]
  show zs q k (hpOf n) ((128 * b + l.val) / 256) _ (256 * ktOf n + (128 * b + l.val) % 256) + _ = _
  have hl := l.isLt; have hi := i.isLt
  rw [show (128 * b + l.val) / 256 = b / 2 by omega, show (128 * b + l.val) % 256 = 128 * (b % 2) + l.val by omega]
  unfold tile masked
  by_cases hc : 256 * ktOf n + (128 * (b % 2) + l.val) < 512 * qiOf n + i.val
  · rw [if_pos hc, if_pos, add_zero]
    show kindOf n = 0 ∨ l.val + 128 * (b % 2) + 256 * (kindOf n - 1) < i.val
    unfold kindOf; omega
  · rw [if_neg hc, if_neg, EReal.add_bot]
    show ¬ (kindOf n = 0 ∨ l.val + 128 * (b % 2) + 256 * (kindOf n - 1) < i.val)
    unfold kindOf; omega

section
variable (I : Ins Ideal) (s : St Ideal) (zz : FVec Ideal S512x512 .f32) {b r : ℕ} (hr : r < 2) (hb : b < 4) (off : Fin 4 → ℕ)
    (inb : ∀ a, off a + S1x1x512x128.size a ≤ S3x2x512x128.size a)

theorem stepBlk_z_same (b' : Fin 4) (h : b'.val = b) (i : Fin 512) (l : Fin 128) :
    (stepBlk I s zz hr hb off inb).z (ix4 ⟨r, hr⟩ b' i l) = maskedVal zz b hb (VecWindow.window I.pen off S1x1x512x128.size inb) (ix2 i l) := by
  unfold stepBlk
  refine (put_blk2_same (m := 2) (n := 4) s.z _ ⟨r, hr⟩ b' i l rfl h).trans ?_
  pointwise

theorem stepBlk_z_other (a : Fin 2) (b' : Fin 4) (h : b'.val ≠ b) (i : Fin 512) (l : Fin 128) :
    (stepBlk I s zz hr hb off inb).z (ix4 a b' i l) = s.z (ix4 a b' i l) :=
  put_blk2_other (m := 2) (n := 4) s.z _ a b' i l fun hh => h hh.2

theorem stepBlk_sp_same (b' : Fin 4) (h : b'.val = b) (i : Fin 512) (l : Fin 128) :
    (stepBlk I s zz hr hb off inb).sp (ix3 b' i l) = soft (maskedVal zz b hb (VecWindow.window I.pen off S1x1x512x128.size inb) (ix2 i l)) := by
  unfold stepBlk
  refine (put_blk_same (m := 4) s.sp _ b' i l h).trans ?_
  refine .trans ?_ (softplusVal_apply _ i l)
  pointwise

theorem stepBlk_sp_other (b' : Fin 4) (h : b'.val ≠ b) (i : Fin 512) (l : Fin 128) :
    (stepBlk I s zz hr hb off inb).sp (ix3 b' i l) = s.sp (ix3 b' i l) :=
  put_blk_other (m := 4) s.sp _ b' i l h

end

/-- The stage of the scores. -/
theorem stepAB1_scores (n : Fin 288) (tri : Vec Ideal S256x256 .bf16) (s : St Ideal) {hp qi t : BitVec 32} (e1 : hp = lit0 n) (e2 : qi = lit1 n) (e3 : t = lit2 n)
    (hw3 : k0_chk3 hp qi) (hw4 : k0_chk4 hp qi t) {r : ℕ} (hr : r < 2) :
    ScoresAt q k (stepAB1 (insOf q k v tri) s hp qi t hw3 hw4 hr) n hr := by
  subst e1 e2 e3
  intro b i l
  unfold stepAB1
  fin_cases b
  · constructor
    · refine (stepBlk_z_other _ _ _ _ _ _ _ _ _ (by decide) _ _).trans <| (stepBlk_z_other _ _ _ _ _ _ _ _ _ (by decide) _ _).trans <|
        (stepBlk_z_other _ _ _ _ _ _ _ _ _ (by decide) _ _).trans <| (stepBlk_z_same _ _ _ _ _ _ _ _ (by rfl) _ _).trans ?_
      exact masked_tile q k v n tri hw3 hw4 0 _ _ _ (off9_eq n) i l
    · refine (stepBlk_sp_other _ _ _ _ _ _ _ _ (by decide) _ _).trans <| (stepBlk_sp_other _ _ _ _ _ _ _ _ (by decide) _ _).trans <|
        (stepBlk_sp_other _ _ _ _ _ _ _ _ (by decide) _ _).trans <| (stepBlk_sp_same _ _ _ _ _ _ _ _ (by rfl) _ _).trans ?_
      exact congrArg soft (masked_tile q k v n tri hw3 hw4 0 _ _ _ (off9_eq n) i l)
  · constructor
    · refine (stepBlk_z_other _ _ _ _ _ _ _ _ _ (by decide) _ _).trans <| (stepBlk_z_other _ _ _ _ _ _ _ _ _ (by decide) _ _).trans <|
        (stepBlk_z_same _ _ _ _ _ _ _ _ (by rfl) _ _).trans ?_
      exact masked_tile q k v n tri hw3 hw4 1 _ _ _ (off10_eq n) i l
    · refine (stepBlk_sp_other _ _ _ _ _ _ _ _ (by decide) _ _).trans <| (stepBlk_sp_other _ _ _ _ _ _ _ _ (by decide) _ _).trans <|
        (stepBlk_sp_same _ _ _ _ _ _ _ _ (by rfl) _ _).trans ?_
      exact congrArg soft (masked_tile q k v n tri hw3 hw4 1 _ _ _ (off10_eq n) i l)
  · constructor
    · refine (stepBlk_z_other _ _ _ _ _ _ _ _ _ (by decide) _ _).trans <| (stepBlk_z_same _ _ _ _ _ _ _ _ (by rfl) _ _).trans ?_
      exact masked_tile q k v n tri hw3 hw4 2 _ _ _ (off9_eq n) i l
    · refine (stepBlk_sp_other _ _ _ _ _ _ _ _ (by decide) _ _).trans <| (stepBlk_sp_same _ _ _ _ _ _ _ _ (by rfl) _ _).trans ?_
      exact congrArg soft (masked_tile q k v n tri hw3 hw4 2 _ _ _ (off9_eq n) i l)
  · constructor
    · refine (stepBlk_z_same _ _ _ _ _ _ _ _ (by rfl) _ _).trans ?_
      exact masked_tile q k v n tri hw3 hw4 3 _ _ _ (off10_eq n) i l
    · refine (stepBlk_sp_same _ _ _ _ _ _ _ _ (by rfl) _ _).trans ?_
      exact congrArg soft (masked_tile q k v n tri hw3 hw4 3 _ _ _ (off10_eq n) i l)

/-! ## Weights -/

/-- The sums within the tile, for one head. -/
theorem headScan_apply (s : St Ideal) (n : ℕ) {h b0 b1 : ℕ} (hb0 : b0 < 4) (hb1 : b1 < 4) (e0 : b0 = 2 * h) (e1 : b1 = 2 * h + 1)
    (hs : ∀ (b : Fin 4) (i : Fin 512) (l : Fin 128), s.sp (ix3 b i l) = soft (tile q k n b.val i.val l.val)) (i : Fin 512) (c : Fin 256) :
    headScan (insOf q k v triVal) s hb0 hb1 (ix2 i c)
      = span (zs q k (hpOf n) h) (512 * qiOf n + i.val) (256 * ktOf n + c.val) (256 * (ktOf n + 1)) := by
  unfold headScan
  rw [scanVal_apply _ _ _ i c (fun x => soft (masked (zs q k (hpOf n) h) (512 * qiOf n + i.val) (256 * ktOf n + x)))
    (fun x => ?_) (fun x => ?_) (fun a b => ?_)]
  · unfold span
    rw [Finset.sum_Ico_eq_sum_range, Finset.sum_Ico_eq_sum_range, show 256 * (ktOf n + 1) - (256 * ktOf n + c.val) = 256 - c.val by omega]
    refine Finset.sum_congr rfl fun x _ => ?_
    rw [add_assoc]
  · refine (window_blk (m := 4) s.sp hb0 _ i x).trans ((hs _ i x).trans ?_)
    unfold tile
    show soft (masked (zs q k (hpOf n) (b0 / 2)) _ (_ + (128 * (b0 % 2) + _))) = _
    rw [show b0 / 2 = h by omega, show b0 % 2 = 0 by omega, Nat.mul_zero, Nat.zero_add]
  · refine (window_blk (m := 4) s.sp hb1 _ i x).trans ((hs _ i x).trans ?_)
    unfold tile
    show soft (masked (zs q k (hpOf n) (b1 / 2)) _ (_ + (128 * (b1 % 2) + _))) = _
    rw [show b1 / 2 = h by omega, show b1 % 2 = 1 by omega, Nat.mul_one]
  · refine .trans ?_ (triVal_apply a b)
    refine congrArg (triVal (F := Ideal)) (?_ : _ = ix2 a b)
    funext j; apply Fin.ext
    fin_cases j
    · show 0 + 1 * a.val = a.val; omega
    · show 0 + 1 * b.val = b.val; omega

theorem resetAt_apply (d : BitVec 1) (x : Vec Ideal S1x512x128 .f32) (i : Fin 512) (l : Fin 128) :
    resetAt (F := Ideal) d (shapeCast S512x128 x Facts₀.shapeCasts_S1x512x128_S512x128) (ix2 i l) = Scalar.select d 0 (x (ix3 0 i l) : EReal) := by
  pointwise [resetAt]

theorem headCarry_apply (s : St Ideal) (n : Fin 288) {h : ℕ} (hh : h < 2)
    (hc : ktOf n ≠ 2 * qiOf n + 1 → ∀ (i : Fin 512) (l : Fin 128), s.c (ix3 ⟨h, hh⟩ i l) = cr q k n h i.val (ktOf n + 1)) (i : Fin 512) (l : Fin 128) :
    headCarry s (lit1 n) (lit2 n) hh (ix2 i l) = cr q k n h i.val (ktOf n + 1) := by
  unfold headCarry
  rw [isDiag_eq, resetAt_apply]
  by_cases hd : ktOf n = 2 * qiOf n + 1
  · rw [if_pos hd]
    unfold cr
    rw [hd, show 256 * (2 * qiOf n + 1 + 1) = 512 * (qiOf n + 1) by ring, span_self]
    rfl
  · rw [if_neg hd, ← hc hd i l, ← window_blk (m := 2) s.c hh (inbHead hh) i l]
    rfl

/-- The stage of the weights, for one head. -/
theorem stepHead_weights (n : Fin 288) (s : St Ideal) {r h b0 b1 : ℕ} (hr : r < 2) (hh : h < 2) (hb0 : b0 < 4) (hb1 : b1 < 4)
    (e0 : b0 = 2 * h) (e1 : b1 = 2 * h + 1) (hs : ScoresAt q k s n hr)
    (hc : ktOf n ≠ 2 * qiOf n + 1 → ∀ (i : Fin 512) (l : Fin 128), s.c (ix3 ⟨h, hh⟩ i l) = cr q k n h i.val (ktOf n + 1)) :
    (∀ (b : Fin 4) (i : Fin 512) (l : Fin 128), b.val / 2 = h →
        (stepHead (insOf q k v triVal) s (lit1 n) (lit2 n) hr hh hb0 hb1).w (ix3 b i l) = wt q k n b.val i.val l.val) ∧
      (∀ (i : Fin 512) (l : Fin 128), (stepHead (insOf q k v triVal) s (lit1 n) (lit2 n) hr hh hb0 hb1).c (ix3 ⟨h, hh⟩ i l) = cr q k n h i.val (ktOf n)) := by
  have hbd := item_bounds n
  have hx := headScan_apply q k v s n hb0 hb1 e0 e1 fun b i l => (hs b i l).2
  have hy := headCarry_apply q k s n hh hc
  constructor
  · intro b i l hb
    unfold stepHead
    by_cases e : b.val = b1
    · refine (put_blk_same (m := 4) _ _ b i l e).trans ?_
      rw [weightVal_apply, hy, window_blk2 (m := 2) (n := 4) s.z rfl hr hb1, (hs _ i l).1]
      have ex : extractStridedSlice S512x128 ![0, 128] (headScan (insOf q k v triVal) s hb0 hb1) Facts₀.slices_S512x256_o0_128_S512x128 (ix2 i l)
          = headScan (insOf q k v triVal) s hb0 hb1 (ix2 i ⟨128 + l.val, by omega⟩) := by pointwise
      rw [ex, hx]
      unfold wt weight tile cr
      show Ideal.exp (masked (zs q k (hpOf n) (b1 / 2)) _ (_ + (128 * (b1 % 2) + _)) + _ + _) = _
      rw [← e, hb, show b.val % 2 = 1 by omega, Nat.mul_one, add_assoc, span_add _ _ (by show _ + (128 + _) ≤ _; omega) (by omega)]
    · refine (put_blk_other (m := 4) _ _ b i l e).trans ?_
      have e' : b.val = b0 := by omega
      refine (put_blk_same (m := 4) _ _ b i l e').trans ?_
      rw [weightVal_apply, hy, window_blk2 (m := 2) (n := 4) s.z rfl hr hb0, (hs _ i l).1]
      have ex : extractStridedSlice S512x128 ![0, 0] (headScan (insOf q k v triVal) s hb0 hb1) Facts₀.slices_S512x256_o0_0_S512x128 (ix2 i l)
          = headScan (insOf q k v triVal) s hb0 hb1 (ix2 i ⟨l.val, by omega⟩) := by pointwise
      rw [ex, hx]
      unfold wt weight tile cr
      show Ideal.exp (masked (zs q k (hpOf n) (b0 / 2)) _ (_ + (128 * (b0 % 2) + _)) + _ + _) = _
      rw [← e', hb, show b.val % 2 = 0 by omega, Nat.mul_zero, Nat.zero_add, add_assoc, span_add _ _ (by show _ + _ ≤ _; omega) (by omega)]
  · intro i l
    unfold stepHead
    refine (put_blk_same (m := 2) _ _ ⟨h, hh⟩ i l rfl).trans ?_
    rw [carryVal_apply, hy, hx]
    unfold cr
    rw [add_comm]
    exact span_add _ _ (by show _ + 0 ≤ _; omega) (by omega)

theorem stepHead_w_other (I : Ins Ideal) (s : St Ideal) (qi t : BitVec 32) {r h b0 b1 : ℕ} (hr : r < 2) (hh : h < 2) (hb0 : b0 < 4) (hb1 : b1 < 4)
    (b : Fin 4) (i : Fin 512) (l : Fin 128) (h0 : b.val ≠ b0) (h1 : b.val ≠ b1) : (stepHead I s qi t hr hh hb0 hb1).w (ix3 b i l) = s.w (ix3 b i l) :=
  (put_blk_other (m := 4) _ _ b i l h1).trans (put_blk_other (m := 4) _ _ b i l h0)

theorem stepHead_c_other (I : Ins Ideal) (s : St Ideal) (qi t : BitVec 32) {r h b0 b1 : ℕ} (hr : r < 2) (hh : h < 2) (hb0 : b0 < 4) (hb1 : b1 < 4)
    (h' : Fin 2) (i : Fin 512) (l : Fin 128) (h0 : h'.val ≠ h) : (stepHead I s qi t hr hh hb0 hb1).c (ix3 h' i l) = s.c (ix3 h' i l) :=
  put_blk_other (m := 2) _ _ h' i l h0

/-- The stage of the weights. -/
theorem stepB2C1_weights (n : Fin 288) (s : St Ideal) {qi t : BitVec 32} (e2 : qi = lit1 n) (e3 : t = lit2 n) {r : ℕ} (hr : r < 2) (hs : ScoresAt q k s n hr)
    (hc : ktOf n ≠ 2 * qiOf n + 1 → ∀ (h : Fin 2) (i : Fin 512) (l : Fin 128), s.c (ix3 h i l) = cr q k n h.val i.val (ktOf n + 1)) :
    WeightsAt q k (stepB2C1 (insOf q k v triVal) s qi t hr) n := by
  subst e2 e3
  have h0 := stepHead_weights q k v n s hr (h := 0) (b0 := 0) (b1 := 1) (by decide) (by decide) (by decide) rfl rfl hs (fun hd => hc hd 0)
  have h1 := stepHead_weights q k v n (stepHead (insOf q k v triVal) s (lit1 n) (lit2 n) hr (h := 0) (b0 := 0) (b1 := 1) (by decide) (by decide) (by decide))
    hr (h := 1) (b0 := 2) (b1 := 3) (by decide) (by decide) (by decide) rfl rfl hs
    (fun hd i l => (stepHead_c_other _ _ _ _ _ _ _ _ _ _ _ (by decide)).trans (hc hd 1 i l))
  unfold stepB2C1
  constructor
  · intro b i l
    by_cases e : b.val / 2 = 1
    · exact h1.1 b i l e
    · have hb := b.isLt
      exact (stepHead_w_other _ _ _ _ _ _ _ _ b i l (by omega) (by omega)).trans (h0.1 b i l (by omega))
  · intro h i l
    fin_cases h
    · exact (stepHead_c_other _ _ _ _ _ _ _ _ _ i l (by decide)).trans (h0.2 i l)
    · exact h1.2 i l

/-! ## Accumulation -/

/-- The stage of the accumulation. -/
theorem stepC2_out (n : Fin 288) (tri : Vec Ideal S256x256 .bf16) (s : St Ideal) {hp qi t : BitVec 32} (e1 : hp = lit0 n) (e2 : qi = lit1 n) (e3 : t = lit2 n)
    (hw1 : k0_chk1 hp qi) (hw2 : k0_chk2 hp t) (hw : ∀ (b : Fin 4) (i : Fin 512) (l : Fin 128), s.w (ix3 b i l) = wt q k n b.val i.val l.val)
    (ho : ktOf n ≠ 2 * qiOf n + 1 → ∀ (i : Fin 512) (l : Fin 128),
      rd s.o (hpOf n) (512 * qiOf n + i.val) l.val = acc q k v (hpOf n) (qiOf n) (512 * qiOf n + i.val) l.val (ktOf n + 1)) :
    (∀ (i : Fin 512) (l : Fin 128), rd (stepC2 (insOf q k v tri) s hp qi t hw1 hw2).o (hpOf n) (512 * qiOf n + i.val) l.val
        = acc q k v (hpOf n) (qiOf n) (512 * qiOf n + i.val) l.val (ktOf n)) ∧
      ∀ a i l : ℕ, ¬ (a = hpOf n ∧ 512 * qiOf n ≤ i ∧ i < 512 * qiOf n + 512) → rd (stepC2 (insOf q k v tri) s hp qi t hw1 hw2).o a i l = rd s.o a i l := by
  subst e1 e2 e3
  have hbd := item_bounds n
  constructor
  · intro i l
    refine (put_rows_same s.o (off4_eq n) hbd.1 (by omega) _ i l).trans ?_
    rw [accVal_apply _ _ _ _ _ _ _ i l (fun j => weight (zs q k (hpOf n) (l.val / 64)) (512 * qiOf n + i.val) (256 * ktOf n + j) (512 * (qiOf n + 1)))
      (fun j => rd v (hpOf n) (256 * ktOf n + j) l.val) (fun x b hb => ?_) (fun x => window_256 v (off3_eq n) _ x l)]
    · rw [← acc_step q k v _ _ _ _ _ hbd.2.2, isDiag_eq]
      congr 1
      by_cases hd : ktOf n = 2 * qiOf n + 1
      · rw [if_pos hd, hd, acc_end]; rfl
      · rw [if_neg hd, ← ho hd i l, ← window_512 s.o (off2_eq n) (k0_off2_inb _ _ hw1) i l]; rfl
    · rw [← hb]
      have e := hw b i x
      unfold wt at e
      rw [← e]
      fin_cases b
      · exact window_blk (m := 4) s.w (by decide) _ i x
      · exact window_blk (m := 4) s.w (by decide) _ i x
      · exact window_blk (m := 4) s.w (by decide) _ i x
      · exact window_blk (m := 4) s.w (by decide) _ i x
  · intro a i l hn
    exact put_rows_other s.o (off4_eq n) _ a i l hn

end

end Cert.KernelIdeal.Stick

end
-- ==== Proof.Invariant.lean ====
/- The three stages together, over all iterations: what the output holds at the end. -/
module

public import proofs.«01_k».proof.Proof.Steps

@[expose] public section

set_option maxRecDepth 16384

noncomputable section

namespace Cert.KernelIdeal.Stick

open Idealize.ShloMosaic
open Cert.KernelIdeal
open Cert.Stick

/-- The rows finished once item `n` is in: those of the query tiles before its own, and its own down to its key tile. -/
def OutAt (q k v : S4x1x4096x128.Idx → EReal) (s : St Ideal) (n : ℕ) : Prop :=
  (∀ hp qi : ℕ, hp < 4 → qi < 8 → 8 * hp + qi < 8 * hpOf n + qiOf n → ∀ (i : Fin 512) (l : Fin 128),
      rd s.o hp (512 * qi + i.val) l.val = acc q k v hp qi (512 * qi + i.val) l.val 0) ∧
    ∀ (i : Fin 512) (l : Fin 128), rd s.o (hpOf n) (512 * qiOf n + i.val) l.val = acc q k v (hpOf n) (qiOf n) (512 * qiOf n + i.val) l.val (ktOf n)

/-- What holds after `n` iterations: each stage is one item behind the one before it. -/
structure Inv (q k v : S4x1x4096x128.Idx → EReal) (s : St Ideal) (n : ℕ) : Prop where
  scores : ∀ m, n = m + 1 → m < 288 → ∀ {r : ℕ} (hr : r < 2), r = m % 2 → ScoresAt q k s m hr
  weights : ∀ m, n = m + 2 → m < 288 → WeightsAt q k s m
  out : ∀ m, n = m + 3 → m < 288 → OutAt q k v s m

theorem kt_zero (m : ℕ) (hm : m < 288) (h : ktOf m ≠ 2 * qiOf m + 1) :
    ∃ p, m = p + 1 ∧ p < 288 ∧ hpOf m = hpOf p ∧ qiOf m = qiOf p ∧ ktOf p = ktOf m + 1 := by
  rcases m with _ | p
  · exact absurd (by decide) h
  · refine ⟨p, rfl, by omega, ?_⟩
    rcases item_next ⟨p, by omega⟩ with h' | h'
    · exact ⟨h'.1, h'.2.1, h'.2.2.1⟩
    · exact absurd h'.2.1 h

section
variable (I : Ins Ideal) (s : St Ideal) (hp qi t : BitVec 32)

theorem scores_C2 (q k : S4x1x4096x128.Idx → EReal) (n : ℕ) {r : ℕ} (hr : r < 2) (hw1 : k0_chk1 hp qi) (hw2 : k0_chk2 hp t) (h : ScoresAt q k s n hr) :
    ScoresAt q k (stepC2 I s hp qi t hw1 hw2) n hr := fun b i l => h b i l

theorem AB1_w (hw3 : k0_chk3 hp qi) (hw4 : k0_chk4 hp qi t) {r : ℕ} (hr : r < 2) : (stepAB1 I s hp qi t hw3 hw4 hr).w = s.w := rfl
theorem AB1_c (hw3 : k0_chk3 hp qi) (hw4 : k0_chk4 hp qi t) {r : ℕ} (hr : r < 2) : (stepAB1 I s hp qi t hw3 hw4 hr).c = s.c := rfl
theorem weights_AB1 (q k : S4x1x4096x128.Idx → EReal) (n : ℕ) (hw3 : k0_chk3 hp qi) (hw4 : k0_chk4 hp qi t) {r : ℕ} (hr : r < 2) (h : WeightsAt q k s n) :
    WeightsAt q k (stepAB1 I s hp qi t hw3 hw4 hr) n := by
  unfold WeightsAt
  rw [AB1_w, AB1_c]
  exact h
theorem AB1_o (hw3 : k0_chk3 hp qi) (hw4 : k0_chk4 hp qi t) {r : ℕ} (hr : r < 2) : (stepAB1 I s hp qi t hw3 hw4 hr).o = s.o := rfl
theorem B2C1_o {r : ℕ} (hr : r < 2) : (stepB2C1 I s qi t hr).o = s.o := rfl
theorem C2_c (hw1 : k0_chk1 hp qi) (hw2 : k0_chk2 hp t) : (stepC2 I s hp qi t hw1 hw2).c = s.c := rfl

end

section
variable (q k v : Vec Ideal S4x1x4096x128 .bf16)

theorem inv_step (g : Good (insOf q k v triVal)) (s : St Ideal) (n : ℕ) (hn : n < 290) (h : Inv q k v s n) :
    Inv q k v (stepAt (insOf q k v triVal) g n s) (n + 1) := by
  unfold stepAt stepIter
  refine ⟨?_, ?_, ?_⟩
  · intro m hm hm' r hr er
    obtain rfl : n = m := by omega
    subst er
    have ht := tabIdx_eq (BitVec.ofNat 32 n) ⟨n, hm'⟩ rfl
    exact stepAB1_scores q k v ⟨n, hm'⟩ triVal _ (congrArg lit0 ht) (congrArg lit1 ht) (congrArg lit2 ht) _ _ hr
  · intro m hm hm'
    obtain rfl : n = m + 1 := by omega
    have ht := tabIdx_eq (Scalar.subi (BitVec.ofNat 32 (m + 1)) 1#32) ⟨m, hm'⟩ (sub1_eq m)
    refine weights_AB1 _ _ _ _ _ _ _ _ _ _ _ ?_
    have e2 : (insOf q k v triVal).t2 (tabIdx (Scalar.subi (BitVec.ofNat 32 (m + 1)) 1#32)) = lit1 ⟨m, hm'⟩ := congrArg lit1 ht
    have e3 : (insOf q k v triVal).t3 (tabIdx (Scalar.subi (BitVec.ofNat 32 (m + 1)) 1#32)) = lit2 ⟨m, hm'⟩ := congrArg lit2 ht
    generalize (insOf q k v triVal).t2 (tabIdx (Scalar.subi (BitVec.ofNat 32 (m + 1)) 1#32)) = x2 at e2 ⊢
    generalize (insOf q k v triVal).t3 (tabIdx (Scalar.subi (BitVec.ofNat 32 (m + 1)) 1#32)) = x3 at e3 ⊢
    refine stepB2C1_weights q k v ⟨m, hm'⟩ _ e2 e3 _ ?_ ?_
    · exact scores_C2 _ _ _ _ _ _ _ _ _ _ _ (h.scores m rfl hm' _ (by omega))
    · intro hd hh i l
      rw [C2_c]
      obtain ⟨p, rfl, hp, e1, e2, e3⟩ := kt_zero m hm' hd
      refine ((h.weights p rfl hp).2 hh i l).trans ?_
      show cr q k p hh.val i.val (ktOf p) = cr q k (p + 1) hh.val i.val (ktOf (p + 1) + 1)
      unfold cr
      rw [e1, e2, e3]
  · intro m hm hm'
    obtain rfl : n = m + 2 := by omega
    have ht := tabIdx_eq (Scalar.subi (BitVec.ofNat 32 (m + 2)) 2#32) ⟨m, hm'⟩ (sub2_eq m)
    have e1 : (insOf q k v triVal).t1 (tabIdx (Scalar.subi (BitVec.ofNat 32 (m + 2)) 2#32)) = lit0 ⟨m, hm'⟩ := congrArg lit0 ht
    have e2 : (insOf q k v triVal).t2 (tabIdx (Scalar.subi (BitVec.ofNat 32 (m + 2)) 2#32)) = lit1 ⟨m, hm'⟩ := congrArg lit1 ht
    have e3 : (insOf q k v triVal).t3 (tabIdx (Scalar.subi (BitVec.ofNat 32 (m + 2)) 2#32)) = lit2 ⟨m, hm'⟩ := congrArg lit2 ht
    have key := stepC2_out q k v ⟨m, hm'⟩ triVal s e1 e2 e3 (g _).1 (g _).2.1 (h.weights m rfl hm').1 ?_
    swap
    · intro hd i l
      obtain ⟨p, rfl, hp, e1, e2, e3⟩ := kt_zero m hm' hd
      have := (h.out p rfl hp).2 i l
      rw [← e1, ← e2, e3] at this
      exact this
    unfold OutAt
    rw [AB1_o, B2C1_o]
    refine ⟨fun hp qi hhp hqi hlt i l => ?_, fun i l => key.1 i l⟩
    have hb := item_bounds ⟨m, hm'⟩
    have hb1 : hpOf m < 4 := hb.1
    have hb2 : qiOf m < 8 := hb.2.1
    refine (key.2 hp (512 * qi + i.val) l.val ?_).trans ?_
    · rintro ⟨a, b, c⟩
      have a' : hp = hpOf m := a
      have b' : 512 * qiOf m ≤ 512 * qi + i.val := b
      have c' : 512 * qi + i.val < 512 * qiOf m + 512 := c
      have := i.isLt
      omega
    · rcases m with _ | p
      · exact absurd hlt (by rw [item_first.1, item_first.2.1]; omega)
      have hprev := h.out p rfl (by omega)
      have hp1 : hpOf p < 4 := (item_bounds ⟨p, by omega⟩).1
      have hp2 : qiOf p < 8 := (item_bounds ⟨p, by omega⟩).2.1
      rcases item_next ⟨p, by omega⟩ with h' | h'
      · have h1 : hpOf (p + 1) = hpOf p := h'.1
        have h2 : qiOf (p + 1) = qiOf p := h'.2.1
        exact hprev.1 hp qi hhp hqi (by rw [← h1, ← h2]; exact hlt) i l
      · have h1 : ktOf p = 0 := h'.1
        have h3 : 8 * hpOf (p + 1) + qiOf (p + 1) = 8 * hpOf p + qiOf p + 1 := h'.2.2
        by_cases e : 8 * hp + qi < 8 * hpOf p + qiOf p
        · exact hprev.1 hp qi hhp hqi e i l
        · obtain ⟨rfl, rfl⟩ : hp = hpOf p ∧ qi = qiOf p := by omega
          have := hprev.2 i l
          rw [h1] at this
          exact this

theorem inv_all (g : Good (insOf q k v triVal)) (s : St Ideal) : ∀ n, n ≤ 290 → Inv q k v (stAfter (insOf q k v triVal) g s n) n
  | 0, _ => ⟨fun m h => by omega, fun m h => by omega, fun m h => by omega⟩
  | n + 1, hn => inv_step q k v g _ n (by omega) (inv_all g s n (by omega))

attribute [local irreducible] stAfter

/-- The attention of query `i`: the weighted sum of the values over all keys. -/
def attn (q k v : S4x1x4096x128.Idx → EReal) (hp i l : ℕ) : EReal :=
  ∑ j ∈ Finset.range 4096, weight (zs q k hp (l / 64)) i j 4096 * rd v hp j l

theorem acc_attn (q k v : S4x1x4096x128.Idx → EReal) (hp i l : ℕ) (hi : i < 4096) : acc q k v hp (i / 512) i l 0 = attn q k v hp i l := by
  unfold acc attn
  have hn : 512 * (i / 512 + 1) ≤ 4096 := by omega
  have hi' : i ≤ 512 * (i / 512 + 1) := by omega
  rw [Nat.mul_zero, ← Finset.range_eq_Ico]
  symm
  rw [← Finset.sum_subset (Finset.range_mono hn) fun j _ hj => ?_]
  · refine Finset.sum_congr rfl fun j hj => ?_
    have hj' := Finset.mem_range.mp hj
    unfold weight
    rw [span_ext _ _ (by omega) hn hi']
  · have hj' : 512 * (i / 512 + 1) ≤ j := by simpa using hj
    rw [weight_masked _ _ (hi'.trans hj'), zero_mul]

/-- The output at the end. -/
theorem final_apply (g : Good (insOf q k v triVal)) (hp : Fin 4) (i : Fin 4096) (l : Fin 128) :
    (finalSt (insOf q k v triVal) g).o (ix4 hp 0 i l) = attn q k v hp.val i.val l.val := by
  have h := (inv_all q k v g zeroSt 290 le_rfl).out 287 rfl (by decide)
  have hi := i.isLt; have hhp := hp.isLt
  rw [rd_eq (finalSt (insOf q k v triVal) g).o, ← acc_attn q k v _ _ _ hi]
  unfold finalSt
  have e : 512 * (i.val / 512) + i.val % 512 = i.val := Nat.div_add_mod _ _
  by_cases hlt : 8 * hp.val + i.val / 512 < 31
  · have := h.1 hp.val (i.val / 512) hhp (by omega) (by rw [item_last.1, item_last.2.1]; exact hlt) ⟨i.val % 512, Nat.mod_lt _ (by decide)⟩ l
    simp only [e] at this
    exact this
  · have := h.2 ⟨i.val % 512, Nat.mod_lt _ (by decide)⟩ l
    rw [item_last.1, item_last.2.1, item_last.2.2] at this
    have e3 : hp.val = 3 := by omega
    have e7 : i.val / 512 = 7 := by omega
    rw [e7] at e
    simp only [e] at this
    rw [e3, e7]
    exact this

end

end Cert.KernelIdeal.Stick

end
-- ==== Proof.ResultArray.lean ====
/- The kernel's result: the attention, at every entry of the array. -/
module

public import proofs.«01_k».proof.Proof.Invariant
public import proofs.«01_k».proof.Proof.Frame

@[expose] public section

set_option maxRecDepth 16384

noncomputable section

namespace Cert.KernelIdeal.Stick

open Idealize.ShloMosaic Idealize.ShloMosaic.TcCoe
open Idealize.ShloMosaic.Pipeline (Dat Cfg Window)
open Cert.KernelIdeal Cert.KernelIdeal.Gen
open Cert.Stick

/-- One sequence of the batch, out of an array of all head pairs and sequences. -/
def slab (x : S4x4x4096x128.Idx → EReal) (b : Fin 4) : S4x1x4096x128.Idx → EReal := fun y => x (ix4 (y 0) b (y 2) (y 3))

/-- The attention of the whole batch. -/
def attnAll (q k v : S4x4x4096x128.Idx → EReal) : S4x4x4096x128.Idx → EReal := fun y =>
  attn (slab q (y 1)) (slab k (y 1)) (slab v (y 1)) (y 0).val (y 2).val (y 3).val

variable (m : (ℓ : Loc nD τ sig) → Buf (Elt Ideal) ℓ)

theorem points_eq : grid0.N = 4 := by decide

/-- The grid point of sequence `b`. -/
def pt (b : Fin 4) : Fin (cfgM m).N := ⟨b.val, lt_of_lt_of_eq b.isLt points_eq.symm⟩

theorem pt_all (t : Fin (cfgM m).N) : ∃ b, t = pt m b := ⟨⟨t.val, lt_of_lt_of_eq t.isLt points_eq⟩, rfl⟩

theorem index_0 : ∀ t : Fin 4, cc0_transform_0 (grid0.coords ⟨t.val, lt_of_lt_of_eq t.isLt points_eq.symm⟩) = ![0, t.val, 0, 0] := by decide +kernel
theorem index_1 : ∀ t : Fin 4, cc0_transform_1 (grid0.coords ⟨t.val, lt_of_lt_of_eq t.isLt points_eq.symm⟩) = ![0, t.val, 0, 0] := by decide +kernel
theorem index_2 : ∀ t : Fin 4, cc0_transform_2 (grid0.coords ⟨t.val, lt_of_lt_of_eq t.isLt points_eq.symm⟩) = ![0, t.val, 0, 0] := by decide +kernel
theorem index_3 : ∀ t : Fin 4, cc0_transform_3 (grid0.coords ⟨t.val, lt_of_lt_of_eq t.isLt points_eq.symm⟩) = ![0, 0] := by decide +kernel
theorem index_4 : ∀ t : Fin 4, cc0_transform_4 (grid0.coords ⟨t.val, lt_of_lt_of_eq t.isLt points_eq.symm⟩) = ![0, t.val, 0, 0] := by decide +kernel

theorem emb_0 (t : Fin 4) (j : S4x1x4096x128.Idx) : (((cfgM m).win 0).blk (pt m t)).view.emb j = (ix4 (j 0) t (j 2) (j 3) : S4x4x4096x128.Idx) := by
  have h1 : (j 1).val < 1 := (j 1).isLt
  funext a; apply Fin.ext
  match a with
  | ⟨0, _⟩ => show cc0_transform_0 (grid0.coords (pt m t)) 0 * 4 + 1 * (j 0).val = (j 0).val; erw [index_0]; show 0 * 4 + _ = _; omega
  | ⟨1, _⟩ => show cc0_transform_0 (grid0.coords (pt m t)) 1 * 1 + 1 * (j 1).val = t.val; erw [index_0]; show t.val * 1 + _ = _; omega
  | ⟨2, _⟩ => show cc0_transform_0 (grid0.coords (pt m t)) 2 * 4096 + 1 * (j 2).val = (j 2).val; erw [index_0]; show 0 * 4096 + _ = _; omega
  | ⟨3, _⟩ => show cc0_transform_0 (grid0.coords (pt m t)) 3 * 128 + 1 * (j 3).val = (j 3).val; erw [index_0]; show 0 * 128 + _ = _; omega

theorem emb_1 (t : Fin 4) (j : S4x1x4096x128.Idx) : (((cfgM m).win 1).blk (pt m t)).view.emb j = (ix4 (j 0) t (j 2) (j 3) : S4x4x4096x128.Idx) := by
  have h1 : (j 1).val < 1 := (j 1).isLt
  funext a; apply Fin.ext
  match a with
  | ⟨0, _⟩ => show cc0_transform_1 (grid0.coords (pt m t)) 0 * 4 + 1 * (j 0).val = (j 0).val; erw [index_1]; show 0 * 4 + _ = _; omega
  | ⟨1, _⟩ => show cc0_transform_1 (grid0.coords (pt m t)) 1 * 1 + 1 * (j 1).val = t.val; erw [index_1]; show t.val * 1 + _ = _; omega
  | ⟨2, _⟩ => show cc0_transform_1 (grid0.coords (pt m t)) 2 * 4096 + 1 * (j 2).val = (j 2).val; erw [index_1]; show 0 * 4096 + _ = _; omega
  | ⟨3, _⟩ => show cc0_transform_1 (grid0.coords (pt m t)) 3 * 128 + 1 * (j 3).val = (j 3).val; erw [index_1]; show 0 * 128 + _ = _; omega

theorem emb_2 (t : Fin 4) (j : S4x1x4096x128.Idx) : (((cfgM m).win 2).blk (pt m t)).view.emb j = (ix4 (j 0) t (j 2) (j 3) : S4x4x4096x128.Idx) := by
  have h1 : (j 1).val < 1 := (j 1).isLt
  funext a; apply Fin.ext
  match a with
  | ⟨0, _⟩ => show cc0_transform_2 (grid0.coords (pt m t)) 0 * 4 + 1 * (j 0).val = (j 0).val; erw [index_2]; show 0 * 4 + _ = _; omega
  | ⟨1, _⟩ => show cc0_transform_2 (grid0.coords (pt m t)) 1 * 1 + 1 * (j 1).val = t.val; erw [index_2]; show t.val * 1 + _ = _; omega
  | ⟨2, _⟩ => show cc0_transform_2 (grid0.coords (pt m t)) 2 * 4096 + 1 * (j 2).val = (j 2).val; erw [index_2]; show 0 * 4096 + _ = _; omega
  | ⟨3, _⟩ => show cc0_transform_2 (grid0.coords (pt m t)) 3 * 128 + 1 * (j 3).val = (j 3).val; erw [index_2]; show 0 * 128 + _ = _; omega

theorem iblk_q (c : Dev nD) (t : Fin 4) : iblk m c 0 (pt m t) = slab (m ((c : Thread nD τ).loc main_arg0)) t :=
  funext fun j => (congrFun (V_q m c) _).trans (congrArg (m ((c : Thread nD τ).loc main_arg0)) (emb_0 m t j))

theorem iblk_k (c : Dev nD) (t : Fin 4) : iblk m c 1 (pt m t) = slab (m ((c : Thread nD τ).loc main_arg1)) t :=
  funext fun j => (congrFun (V_k m c) _).trans (congrArg (m ((c : Thread nD τ).loc main_arg1)) (emb_1 m t j))

theorem iblk_v (c : Dev nD) (t : Fin 4) : iblk m c 2 (pt m t) = slab (m ((c : Thread nD τ).loc main_arg2)) t :=
  funext fun j => (congrFun (V_v m c) _).trans (congrArg (m ((c : Thread nD τ).loc main_arg2)) (emb_2 m t j))

theorem emb_3 (t : Fin 4) (j : S256x256.Idx) : (((cfgM m).win 3).blk (pt m t)).view.emb j = (j : S256x256.Idx) := by
  funext a; apply Fin.ext
  match a with
  | ⟨0, _⟩ => show cc0_transform_3 (grid0.coords (pt m t)) 0 * 256 + 1 * (j 0).val = (j 0).val; erw [index_3]; show 0 * 256 + _ = _; omega
  | ⟨1, _⟩ => show cc0_transform_3 (grid0.coords (pt m t)) 1 * 256 + 1 * (j 1).val = (j 1).val; erw [index_3]; show 0 * 256 + _ = _; omega

theorem iblk_tri (c : Dev nD) (t : Fin 4) : iblk m c 3 (pt m t) = triVal (F := Ideal) :=
  funext fun j => (congrFun (V_tri m c) _).trans (congrArg (triVal (F := Ideal)) (emb_3 m t j))

theorem insAt_eq (c : Dev nD) (t : Fin 4) : insAt m c (pt m t)
    = insOf (slab (m ((c : Thread nD τ).loc main_arg0)) t) (slab (m ((c : Thread nD τ).loc main_arg1)) t) (slab (m ((c : Thread nD τ).loc main_arg2)) t) (triVal (F := Ideal)) := by
  rw [← iblk_q, ← iblk_k, ← iblk_v, ← iblk_tri m c t]; rfl

theorem final_congr {I J : Ins Ideal} (e : I = J) (g : Good I) (g' : Good J) : finalSt I g = finalSt J g' := by subst e; rfl

/-- What point `t` leaves is the attention of sequence `t`. -/
theorem outAt_apply (c : Dev nD) (t : Fin 4) (a : Fin 4) (i : Fin 4096) (l : Fin 128) : outAt m c (pt m t) (ix4 a 0 i l)
    = attn (slab (m ((c : Thread nD τ).loc main_arg0)) t) (slab (m ((c : Thread nD τ).loc main_arg1)) t) (slab (m ((c : Thread nD τ).loc main_arg2)) t) a.val i.val l.val := by
  unfold outAt
  rw [final_congr (insAt_eq m c t) _ (good_insOf _ _ _ _)]
  exact final_apply _ _ _ _ a i l

/-- The attention of the arguments. -/
abbrev spec (c : Dev nD) : S4x4x4096x128.Idx → EReal :=
  attnAll (m ((c : Thread nD τ).loc main_arg0)) (m ((c : Thread nD τ).loc main_arg1)) (m ((c : Thread nD τ).loc main_arg2))

theorem flushOf_4 : ∀ t : Fin grid0.N, Window.flushOf grid0 true cc0_transform_4 t = true := by decide +kernel
theorem flush_all (t : Fin (cfgM m).N) : ((cfgM m).win 4).flush t = true := (Window.flush_eq_flushOf _ _).trans (flushOf_4 t)

/-- Where an entry of point `t`'s block lies in the array. -/
theorem emb_4 (t : Fin 4) (j : S4x1x4096x128.Idx) : (((cfgM m).win 4).blk (pt m t)).view.emb j = (ix4 (j 0) t (j 2) (j 3) : S4x4x4096x128.Idx) := by
  have h1 : (j 1).val < 1 := (j 1).isLt
  funext a; apply Fin.ext
  match a with
  | ⟨0, _⟩ => show cc0_transform_4 (grid0.coords (pt m t)) 0 * 4 + 1 * (j 0).val = (j 0).val; erw [index_4]; show 0 * 4 + _ = _; omega
  | ⟨1, _⟩ => show cc0_transform_4 (grid0.coords (pt m t)) 1 * 1 + 1 * (j 1).val = t.val; erw [index_4]; show t.val * 1 + _ = _; omega
  | ⟨2, _⟩ => show cc0_transform_4 (grid0.coords (pt m t)) 2 * 4096 + 1 * (j 2).val = (j 2).val; erw [index_4]; show 0 * 4096 + _ = _; omega
  | ⟨3, _⟩ => show cc0_transform_4 (grid0.coords (pt m t)) 3 * 128 + 1 * (j 3).val = (j 3).val; erw [index_4]; show 0 * 128 + _ = _; omega

theorem outAt_spec (c : Dev nD) (t : Fin 4) (j : S4x1x4096x128.Idx) : outAt m c (pt m t) j = spec m c (ix4 (j 0) t (j 2) (j 3)) := by
  have h1 : (j 1).val < 1 := (j 1).isLt
  have e1 : (ix4 (j 0) 0 (j 2) (j 3) : S4x1x4096x128.Idx) = j := by
    funext a; apply Fin.ext
    match a with
    | ⟨0, _⟩ => rfl
    | ⟨1, _⟩ => show 0 = (j 1).val; omega
    | ⟨2, _⟩ => rfl
    | ⟨3, _⟩ => rfl
  have e := outAt_apply m c t (j 0) (j 2) (j 3)
  rw [e1] at e
  exact e

theorem flushed_eq (c : Dev nD) (t : Fin (cfgM m).N) (_ : ((cfgM m).win 4).flush t = true) :
    (dats m 0 c).flushed 4 t = (((cfgM m).win 4).blk t).view.read (Elt Ideal) (spec m c) := by
  obtain ⟨b, rfl⟩ := pt_all m t
  show ((cfgM m).win 4).cut ((cfgM m).grid.coords (pt m b)) ((dats m 0 c).after 4 (pt m b)) = _
  rw [after_4]
  funext j
  refine (outAt_spec m c b j).trans ?_
  exact (congrArg (spec m c) (emb_4 m b j)).symm

theorem cover (y : S4x4x4096x128.Idx) : ∃ t : Fin (cfgM m).N, ((cfgM m).win 4).flush t = true ∧ y ∈ (((cfgM m).win 4).blk t).view.set := by
  refine ⟨pt m (y 1), flush_all m _, ?_⟩
  have h := (((cfgM m).win 4).blk (pt m (y 1))).view.emb_mem_set (ix4 (y 0) 0 (y 2) (y 3) : S4x1x4096x128.Idx)
  have e : (((cfgM m).win 4).blk (pt m (y 1))).view.emb (ix4 (y 0) 0 (y 2) (y 3) : S4x1x4096x128.Idx) = y := by
    refine (emb_4 m (y 1) _).trans ?_
    funext a
    match a with
    | ⟨0, _⟩ => rfl
    | ⟨1, _⟩ => rfl
    | ⟨2, _⟩ => rfl
    | ⟨3, _⟩ => rfl
  exact (congrArg (fun x => x ∈ (((cfgM m).win 4).blk (pt m (y 1))).view.set) e).mp h

/-- The result array is the attention of the arguments. -/
theorem result_eq (c : Dev nD) : result m c = spec m c :=
  (dats m 0 c).arrAt_eq_of_cover 4 (spec m c) (flushed_eq m c) fun i => cover m i

end Cert.KernelIdeal.Stick

end
-- ==== Proof.RefValue.lean ====
/- The plain attention, read at an index. -/
module

public import proofs.«01_k».proof.Proof.Gen.ReferenceIdeal.Run
public import proofs.«01_k».proof.Proof.ResultArray

@[expose] public section

set_option maxRecDepth 16384

noncomputable section

namespace Cert.ReferenceIdeal.Stick

open Idealize.ShloMosaic Idealize.ShloMosaic.TcCoe
open Cert.ReferenceIdeal Cert.ReferenceIdeal.Facts₀ Cert.ReferenceIdeal.Facts
open Cert.Stick
open Cert.KernelIdeal.Stick (rd rd_eq slab zs attn attnAll)

variable {F : FTy → Type} [FloatOps F] [Named F]

/-! ## Its operations, grouped -/

/-- The sixteen heads apart. -/
def headsR (x : FVec F S4x4x4096x128 .bf16) : FVec F S4x8x4096x64 .f32 :=
  shapeCast _ (transpose S4x4x2x4096x64 [1, 0, 3, 2, 4] (shapeCast _ (extf .f32 x bitsLt_bf16_f32) shapeCasts_S4x4x4096x128_S4x4x4096x2x64)
    transposes_S4x4x4096x2x64_S4x4x2x4096x64_1_0_3_2_4) shapeCasts_S4x4x2x4096x64_S4x8x4096x64

/-- The scores. -/
def scoresR (q k : FVec F S4x8x4096x64 .f32) : FVec F S4x8x4096x4096 .f32 :=
  Host.dotGeneral dot_S4x8x4096x64_S4x8x4096x64_S4x8x4096x4096_3_3_2_2_01_01 none q k

/-- Which keys come before a query. -/
def earlierR : IVec S4x8x4096x4096 1 :=
  broadcastInDim S4x8x4096x4096 ![2, 3] bcast_S4096x4096_S4x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- Zeros. -/
def zeroR : FVec F S4x8x4096x4096 .f32 := broadcastInDim S4x8x4096x4096 ![] bcast_S_S4x8x4096x4096 (constant S_ .f32 0x00000000#32)

/-- The logarithm of the sigmoid of `-x`. -/
def logSigR (x : FVec F S4x8x4096x4096 .f32) : FVec F S4x8x4096x4096 .f32 :=
  Host.negf (select (cmpf .une (subf x zeroR) (subf x zeroR)) (addf x zeroR)
    (addf (maximumf x zeroR) (Host.log1p (Host.exp (Host.negf (Host.absf (subf x zeroR)))))))

/-- What each key takes off, zero for the keys that do not come before the query. -/
def offR (z : FVec F S4x8x4096x4096 .f32) : FVec F S4x8x4096x4096 .f32 := select earlierR (logSigR (Host.negf (Host.negf z))) zeroR

/-- The sums from each key on. -/
def sumsR (x : FVec F S4x8x4096x4096 .f32) : FVec F S4x8x4096x4096 .f32 :=
  Host.reduceWindowAdd ![1, 1, 1, 4096] ![1, 1, 1, 1] ![0, 0, 0, 0] ![0, 0, 0, 4095] x (broadcastInDim S_ ![] bcast_S_S_ (constant S_ .f32 0x00000000#32))
    reduceWindows_S4x8x4096x4096_S4x8x4096x4096_w1s1p0_0_w1s1p0_0_w1s1p0_0_w4096s1p0_4095 h_S_

/-- The weights. -/
def weightsR (z : FVec F S4x8x4096x4096 .f32) : FVec F S4x8x4096x4096 .f32 :=
  select earlierR (Host.exp (addf (logSigR (Host.negf z)) (subf (sumsR (offR z)) (offR z)))) zeroR

/-- The weighted values, the heads together again. -/
def outR (w : FVec F S4x8x4096x4096 .f32) (v : FVec F S4x8x4096x64 .f32) : FVec F S4x4x4096x128 .f32 :=
  shapeCast _ (transpose S4x4x4096x2x64 [1, 0, 3, 2, 4] (shapeCast _ (Host.dotGeneral dot_S4x8x4096x4096_S4x8x4096x64_S4x8x4096x64_3_2_2_3_01_01 none w v)
    shapeCasts_S4x8x4096x64_S4x4x2x4096x64) transposes_S4x4x2x4096x64_S4x4x4096x2x64_1_0_3_2_4) shapeCasts_S4x4x4096x2x64_S4x4x4096x128

theorem res_eq (m : (ℓ : Loc nD τ sig) → Buf (Elt F) ℓ) (c : Dev nD) : Value.res_out0 m c
    = outR (weightsR (scoresR (headsR (m ((c : Thread nD τ).loc main_arg0))) (headsR (m ((c : Thread nD τ).loc main_arg1))))) (headsR (m ((c : Thread nD τ).loc main_arg2))) := rfl

/-! ## At an index -/

section

/-- A head's row: in the lanes of its half. -/
theorem headsR_apply (x : FVec Ideal S4x4x4096x128 .bf16) (b : Fin 4) (h : Fin 8) (i : Fin 4096) (d : Fin 64) :
    headsR x (ix4 b h i d) = x (ix4 (⟨h.val / 2, by omega⟩ : Fin 4) b i (⟨h.val % 2 * 64 + d.val, by omega⟩ : Fin 128)) := by
  pointwise [headsR]

theorem scoresR_apply (q k : FVec Ideal S4x8x4096x64 .f32) (b : Fin 4) (h : Fin 8) (i j : Fin 4096) :
    scoresR q k (ix4 b h i j) = (∑ d : Fin 64, q (ix4 b h i d) * k (ix4 b h j d) : EReal) := by
  pointwise [scoresR]

theorem earlierR_apply (b : Fin 4) (h : Fin 8) (i j : Fin 4096) : earlierR (ix4 b h i j) = if j.val < i.val then 1#1 else 0#1 := by
  pointwise [earlierR]
  have hi := i.isLt; have hj := j.isLt
  have e1 : (BitVec.ofNat 32 j.val).toInt = (j.val : ℕ) := Cert.KernelIdeal.Stick.toInt_small (by omega)
  have e2 : (BitVec.ofNat 32 i.val).toInt = (i.val : ℕ) := Cert.KernelIdeal.Stick.toInt_small (by omega)
  unfold IntOp.cmpi
  simp only [BitVec.slt, e1, e2]
  by_cases h : j.val < i.val
  · rw [if_pos h, decide_eq_true (by exact_mod_cast h)]; rfl
  · rw [if_neg h, decide_eq_false (by exact_mod_cast h)]; rfl

theorem zeroR_apply (y : S4x8x4096x4096.Idx) : zeroR (F := Ideal) y = (0 : EReal) := by
  pointwise [zeroR]

theorem logSigR_apply (x : FVec Ideal S4x8x4096x4096 .f32) (y : S4x8x4096x4096.Idx) : logSigR x y = (-soft (x y) : EReal) := by
  pointwise [logSigR]
  rw [zeroR_apply, if_neg (fun h => h rfl)]
  refine congrArg (- · : EReal → EReal) ?_
  change max (x y : EReal) 0 + Ideal.log (1 + Ideal.exp (-(max ((x y : EReal) - 0) (-((x y : EReal) - 0))))) = soft (x y)
  rw [sub_zero]
  rfl

/-- The heads together again: lane `l` is lane `l % 64` of the pair's head `l / 64`. -/
theorem outR_apply (w : FVec Ideal S4x8x4096x4096 .f32) (v : FVec Ideal S4x8x4096x64 .f32) (hp b : Fin 4) (i : Fin 4096) (l : Fin 128) :
    outR w v (ix4 hp b i l) = (∑ j : Fin 4096, w (ix4 b (⟨hp.val * 2 + l.val / 64, by omega⟩ : Fin 8) i j)
      * v (ix4 b (⟨hp.val * 2 + l.val / 64, by omega⟩ : Fin 8) j (⟨l.val % 64, by omega⟩ : Fin 64)) : EReal) := by
  pointwise [outR]

/-! ## The sums from each key on -/

/-- The offsets of a window that runs along the last axis. -/
def alongLast : (⟨4, ![1, 1, 1, 4096]⟩ : Shape).Idx ≃ Fin 4096 where
  toFun p := p 3
  invFun n := ix4 (0 : Fin 1) (0 : Fin 1) (0 : Fin 1) n
  left_inv p := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A sum over the offsets that stay inside is a sum over what they reach. -/
theorem sum_offsets (f : ℕ → EReal) (j n : ℕ) (hj : j ≤ n) :
    (∑ w ∈ Finset.range n, if j + w < n then f (j + w) else 0) = ∑ k ∈ Finset.Ico j n, f k := by
  rw [Finset.sum_Ico_eq_sum_range, ← Finset.sum_filter]
  refine Finset.sum_congr ?_ (fun _ _ => rfl)
  ext w
  simp only [Finset.mem_filter, Finset.mem_range]
  omega

theorem sumsR_apply (x : FVec Ideal S4x8x4096x4096 .f32) (f : ℕ → EReal) (b : Fin 4) (h : Fin 8) (i j : Fin 4096)
    (hx : ∀ k : Fin 4096, x (ix4 b h i k) = f k.val) : sumsR x (ix4 b h i j) = ∑ k ∈ Finset.Ico j.val 4096, f k := by
  have hz : broadcastInDim S_ ![] bcast_S_S_ (constant (F := Ideal) S_ .f32 0x00000000#32) (Shape.Idx.first h_S_) = (0 : EReal) := Ideal.ofBits_zero_f32
  have hs : sumsR x (ix4 b h i j) = (List.finRange (⟨4, ![1, 1, 1, 4096]⟩ : Shape).numel).foldl
      (fun r n => r + (if j.val + (alongLast ((⟨4, ![1, 1, 1, 4096]⟩ : Shape).rowMajor.symm n)).val < 4096
        then f (j.val + (alongLast ((⟨4, ![1, 1, 1, 4096]⟩ : Shape).rowMajor.symm n)).val) else 0)) (0 : EReal) := by
    unfold sumsR
    unfold Host.reduceWindowAdd
    rw [Ideal.hostReduceWindowAdd_def]
    unfold Ideal.hostReduceWindowAdd Host.reduceWindow
    dsimp only
    rw [hz]
    refine congrArg (fun g => List.foldl g (0 : EReal) _) ?_
    funext r n
    refine congrArg (r + ·) ?_
    let p : (⟨4, ![1, 1, 1, 4096]⟩ : Shape).Idx := (⟨4, ![1, 1, 1, 4096]⟩ : Shape).rowMajor.symm n
    have hp : ∀ a : Fin 4, a.val < 3 → (p a).val = 0 := by
      intro a ha
      match a with
      | ⟨0, _⟩ => exact Nat.lt_one_iff.mp (p 0).isLt
      | ⟨1, _⟩ => exact Nat.lt_one_iff.mp (p 1).isLt
      | ⟨2, _⟩ => exact Nat.lt_one_iff.mp (p 2).isLt
    by_cases hk : j.val + (alongLast p).val < 4096
    · refine Eq.trans ?_ (if_pos hk).symm
      refine (dif_pos ?_).trans ?_
      · intro a
        match a with
        | ⟨0, _⟩ => exact ⟨Nat.zero_le _, (by have := hp 0 (by decide); have := b.isLt; change b.val * 1 + (p 0).val - 0 < 4; omega)⟩
        | ⟨1, _⟩ => exact ⟨Nat.zero_le _, (by have := hp 1 (by decide); have := h.isLt; change h.val * 1 + (p 1).val - 0 < 8; omega)⟩
        | ⟨2, _⟩ => exact ⟨Nat.zero_le _, (by have := hp 2 (by decide); have := i.isLt; change i.val * 1 + (p 2).val - 0 < 4096; omega)⟩
        | ⟨3, _⟩ => exact ⟨Nat.zero_le _, (by change j.val * 1 + (alongLast p).val - 0 < 4096; omega)⟩
      · refine Eq.trans (congrArg x ?_) (hx ⟨j.val + (alongLast p).val, hk⟩)
        funext a
        match a with
        | ⟨0, _⟩ => exact Fin.ext (by have := hp 0 (by decide); change b.val * 1 + (p 0).val - 0 = b.val; omega)
        | ⟨1, _⟩ => exact Fin.ext (by have := hp 1 (by decide); change h.val * 1 + (p 1).val - 0 = h.val; omega)
        | ⟨2, _⟩ => exact Fin.ext (by have := hp 2 (by decide); change i.val * 1 + (p 2).val - 0 = i.val; omega)
        | ⟨3, _⟩ => exact Fin.ext (by change j.val * 1 + (alongLast p).val - 0 = j.val + (alongLast p).val; omega)
    · refine Eq.trans ?_ (if_neg hk).symm
      refine dif_neg (fun hin => hk ?_)
      have h3 : j.val * 1 + (alongLast p).val - 0 < 4096 := (hin 3).2
      omega
  rw [hs, foldl_add, zero_add, ← Fin.sum_univ_def]
  refine (Equiv.sum_comp ((⟨4, ![1, 1, 1, 4096]⟩ : Shape).rowMajor.symm.trans alongLast) (fun w : Fin 4096 => if j.val + w.val < 4096 then f (j.val + w.val) else (0 : EReal))).trans ?_
  rw [← Finset.sum_range (fun w => if j.val + w < 4096 then f (j.val + w) else (0 : EReal))]
  exact sum_offsets f j.val 4096 j.isLt.le

/-! ## The weights -/

section

variable (z : FVec Ideal S4x8x4096x4096 .f32) (s : ℕ → ℕ → EReal) (b : Fin 4) (h : Fin 8) (i : Fin 4096)
  (hz : ∀ k : Fin 4096, z (ix4 b h i k) = s i.val k.val)

include hz

theorem offR_apply (k : Fin 4096) : offR z (ix4 b h i k) = (-soft (masked s i.val k.val) : EReal) := by
  have e : offR z (ix4 b h i k) = if earlierR (ix4 b h i k) = 1#1 then (logSigR (Host.negf (Host.negf z)) (ix4 b h i k) : EReal) else zeroR (F := Ideal) (ix4 b h i k) := rfl
  rw [e, earlierR_apply, logSigR_apply, zeroR_apply]
  by_cases hk : k.val < i.val
  · rw [if_pos hk, if_pos rfl, masked_of_lt s hk]
    change -soft (- -(z (ix4 b h i k) : EReal)) = _
    rw [hz, neg_neg]
  · rw [if_neg hk, if_neg (by decide), masked_of_le s (by omega), soft_bot, neg_zero]

theorem weightsR_apply (j : Fin 4096) : weightsR z (ix4 b h i j) = weight s i.val j.val 4096 := by
  have e : weightsR z (ix4 b h i j) = if earlierR (ix4 b h i j) = 1#1
      then Ideal.exp ((logSigR (Host.negf z) (ix4 b h i j) : EReal) + ((sumsR (offR z) (ix4 b h i j) : EReal) - (offR z (ix4 b h i j) : EReal)))
      else zeroR (F := Ideal) (ix4 b h i j) := rfl
  rw [e, earlierR_apply, logSigR_apply, zeroR_apply, offR_apply z s b h i hz j,
    sumsR_apply (offR z) (fun k => -soft (masked s i.val k)) b h i j (offR_apply z s b h i hz)]
  by_cases hj : j.val < i.val
  · rw [if_pos hj, if_pos rfl]
    change Ideal.exp (-soft (-(z (ix4 b h i j) : EReal)) + (span s i.val j.val 4096 - _)) = _
    rw [hz]
    unfold weight
    rw [span_head s i.val (by omega), masked_of_lt s hj]
    exact congrArg Ideal.exp (weight_eq _ _)
  · rw [if_neg hj, if_neg (by decide), weight_masked s 4096 (by omega)]

end

/-! ## The result -/

theorem out_eq (q k v : FVec Ideal S4x4x4096x128 .bf16) :
    outR (weightsR (scoresR (headsR q) (headsR k))) (headsR v) = Cert.KernelIdeal.Stick.attnAll q k v := by
  funext y
  obtain ⟨hp, b, i, l, rfl⟩ : ∃ (hp b : Fin 4) (i : Fin 4096) (l : Fin 128), y = ix4 hp b i l := ⟨y 0, y 1, y 2, y 3, by funext a; fin_cases a <;> rfl⟩
  have hH : (hp.val * 2 + l.val / 64) / 2 = hp.val ∧ (hp.val * 2 + l.val / 64) % 2 = l.val / 64 := by omega
  have hr : ∀ (x : FVec Ideal S4x4x4096x128 .bf16) (n : Fin 4096) (d : Fin 64), headsR x (ix4 b (⟨hp.val * 2 + l.val / 64, by omega⟩ : Fin 8) n d)
      = rd (slab x b) hp.val n.val (64 * (l.val / 64) + d.val) := by
    intro x n d
    rw [headsR_apply]
    refine Eq.trans ?_ (rd_eq (slab x b) hp n (⟨64 * (l.val / 64) + d.val, by omega⟩ : Fin 128))
    refine congrArg x ?_
    have e1 : (⟨(hp.val * 2 + l.val / 64) / 2, by omega⟩ : Fin 4) = hp := Fin.ext hH.1
    have e2 : (⟨(hp.val * 2 + l.val / 64) % 2 * 64 + d.val, by omega⟩ : Fin 128) = ⟨64 * (l.val / 64) + d.val, by omega⟩ := Fin.ext (by dsimp only; omega)
    exact congrArg₂ (fun (a : Fin 4) (e : Fin 128) => (ix4 a b n e : S4x4x4096x128.Idx)) e1 e2
  have hz : ∀ j : Fin 4096, scoresR (headsR q) (headsR k) (ix4 b (⟨hp.val * 2 + l.val / 64, by omega⟩ : Fin 8) i j)
      = zs (slab q b) (slab k b) hp.val (l.val / 64) i.val j.val := by
    intro j
    rw [scoresR_apply]
    unfold zs
    rw [Finset.sum_range]
    refine Finset.sum_congr rfl (fun d _ => ?_)
    rw [hr, hr]
  rw [outR_apply]
  change _ = attn (slab q b) (slab k b) (slab v b) hp.val i.val l.val
  unfold attn
  rw [Finset.sum_range]
  refine Finset.sum_congr rfl (fun j _ => ?_)
  rw [weightsR_apply _ _ b _ i hz j, hr, show 64 * (l.val / 64) + l.val % 64 = l.val by omega]

end

end Cert.ReferenceIdeal.Stick

end
-- ==== Proof.Values.lean ====
/- The kernel and the plain attention compute the same array. -/
module

public import proofs.«01_k».proof.Proof.RefValue
public import proofs.«01_k».proof.Proof.Claims

@[expose] public section

set_option maxRecDepth 16384

noncomputable section

namespace Cert.Proof

open Idealize.ShloMosaic Idealize.ShloMosaic.TcCoe Idealize.SL.Sem

/-- From arguments that agree, both end with the attention of the whole batch. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Stick.result m c,
    (θ_run Cert.KernelIdeal.defs _ _).mono (fun _ h => h.1) (Cert.KernelIdeal.Stick.run_values m g), ?_⟩
  refine (θ_run Cert.ReferenceIdeal.defs _ _).mono (fun _ h c => ?_) (Cert.ReferenceIdeal.Value.run m' g')
  obtain rfl : c = 0 := Subsingleton.elim _ _
  refine ⟨(h 0).1.trans ?_, (h 0).2⟩
  refine (Cert.ReferenceIdeal.Stick.res_eq m' 0).trans ?_
  refine (Cert.ReferenceIdeal.Stick.out_eq _ _ _).trans ?_
  refine Eq.trans ?_ (Cert.KernelIdeal.Stick.result_eq m 0).symm
  unfold Cert.KernelIdeal.Stick.spec
  erw [(hagree 0).1, (hagree 0).2.1, (hagree 0).2.2]

end Cert.Proof

end
-- ==== Proof.Load.lean ====
/- How a weight matrix comes into fast memory: blocks of 128 rows, fetched ahead of their use into a ring of six slots, cast to bf16 row block by row block. -/
module

public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Load

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

abbrev S1 : Shape := ⟨1, ![1]⟩
abbrev S_ : Shape := ⟨0, ![]⟩
abbrev S6 : Shape := ⟨1, ![6]⟩
abbrev S6x128x2816 : Shape := ⟨3, ![6, 128, 2816]⟩
theorem squeezes_S1_S_ : S1.Squeezes S_ := by decide
theorem bitsLt_bf16_f32 : FTy.bf16.bits < FTy.f32.bits := by decide

abbrev UU (nD : ℕ) (τ : Topo) (sig : RefSig) := UR sig nD τ × Counters

variable {nD : ℕ} {τ : Topo} {sig : RefSig} {Λ₀ : Labels} {F : FTy → Type} [FloatOps F]

local notation "𝕄" => MT nD τ sig Unit (Elt F) ℕ (UU nD τ sig) ℕ

/-- What running a program on core `c` needs, for `Q` to hold of its result. -/
abbrev WP (defs₀ : Defs nD τ sig (Elt F) Λ₀) {α : Type} (c : Dev nD) (p : Prog (TpuEff nD τ sig (Elt F) Λ₀ .tc) α) (Q : α → sProp 𝕄) : sProp 𝕄 :=
  wp frame (wpE defs₀ Variants.none (c : Thread nD τ) none) Set.univ p Q

variable {defs₀ : Defs nD τ sig (Elt F) Λ₀}

/-! ## The pieces -/

theorem semInb {s : ℕ} (h : s < 6) : ∀ a, (![s] : Fin 1 → ℕ) a + S1.size a ≤ S6.size a := by
  intro a; fin_cases a; show s + 1 ≤ 6; omega
theorem slotInb {s : ℕ} (h : s < 6) {C : ℕ} (hC : C ≤ 2816) : ∀ a, (![s, 0, 0] : Fin 3 → ℕ) a + (⟨3, ![1, 128, C]⟩ : Shape).size a ≤ S6x128x2816.size a := by
  intro a; fin_cases a
  · show s + 1 ≤ 6; omega
  · show 0 + 128 ≤ 128; omega
  · show 0 + C ≤ 2816; omega
theorem blkInb {R C b : ℕ} (h : 128 * b + 128 ≤ R) : ∀ a, (![128 * b, 0] : Fin 2 → ℕ) a + (⟨2, ![128, C]⟩ : Shape).size a ≤ (⟨2, ![R, C]⟩ : Shape).size a := by
  intro a; fin_cases a
  · show 128 * b + 128 ≤ R; omega
  · show 0 + C ≤ C; omega

variable (c : Dev nD) (arg15 : Memref sig .tc .vmem S6x128x2816 .f32) (arg16 : DmaSems sig S6)

/-- The semaphore of slot `s`. -/
abbrev semAt (s : Fin 6) : DmaSem sig := ((arg16.slice (Rect.unit (s := S6) ![s.val] S1.size (semInb s.isLt))).squeeze S_ squeezes_S1_S_).sem

/-- The elements of slot `s`: its whole rows. -/
abbrev slotSet (s : Fin 6) : Finset (Idx (arg15.view.loc (c : Thread nD τ))) :=
  (arg15.view.slice (Rect.unit (s := S6x128x2816) ![s.val, 0, 0] (⟨3, ![1, 128, 2816]⟩ : Shape).size (slotInb s.isLt le_rfl))).set

/-- Slot `s` at rest: its semaphore at zero, its rows at anything. -/
def base (s : Fin 6) : sProp 𝕄 :=
  iprop(semVal ((c : Thread nD τ), SemLoc.dma (semAt arg16 s)) 0 ∗ ∃ f : Buf (Elt F) (arg15.view.loc (c : Thread nD τ)), arg15.view.loc (c : Thread nD τ) ↦[slotSet c arg15 s]{fullShare} f)

variable {R C : ℕ} (hC : C ≤ 2816) (hsq : (⟨3, ![1, 128, C]⟩ : Shape).Squeezes ⟨2, ![128, C]⟩)
  (M : Memref sig .tc .hbm ⟨2, ![R, C]⟩ .f32) (XA : Buf (Elt F) (M.view.loc (c : Thread nD τ)))

/-- The first `C` columns of slot `s`, as a matrix. -/
abbrev slotM (s : Fin 6) : Memref sig .tc .vmem ⟨2, ![128, C]⟩ .f32 :=
  (arg15.slice (Rect.unit (s := S6x128x2816) ![s.val, 0, 0] (⟨3, ![1, 128, C]⟩ : Shape).size (slotInb s.isLt hC)) (fun _ => rfl)).squeeze ⟨2, ![128, C]⟩ hsq

/-- Rows `128 b` to `128 b + 127` of the matrix. -/
abbrev srcM (b : ℕ) (h : 128 * b + 128 ≤ R) : Memref sig .tc .hbm ⟨2, ![128, C]⟩ .f32 :=
  M.slice (Rect.unit (s := ⟨2, ![R, C]⟩) ![128 * b, 0] (⟨2, ![128, C]⟩ : Shape).size (blkInb h)) (fun _ => rfl)

/-- The part of the matrix's read permission that goes with slot `s`. -/
abbrev tok (s : Fin 6) : sProp 𝕄 := M.view.loc (c : Thread nD τ) ↦[M.view.set]{shareTok fullShare 6 s} XA

/-- What a transfer of block `b` into slot `s` delivers. -/
def deliv (s : Fin 6) (b : ℕ) (h : 128 * b + 128 ≤ R) : sProp 𝕄 :=
  iprop((∃ f : Buf (Elt F) (arg15.view.loc (c : Thread nD τ)), ⌜(slotM arg15 hC hsq s).view.read (Elt F) f = (srcM M b h).view.read (Elt F) XA⌝
      ∗ (arg15.view.loc (c : Thread nD τ) ↦[slotSet c arg15 s]{fullShare} f))
    ∗ M.view.loc (c : Thread nD τ) ↦[(srcM M b h).view.set]{shareTok fullShare 6 s} XA)

/-- The units a transfer counts. -/
abbrev unitsOf (C : ℕ) : ℕ := arg15.view.ref.dmaCredit ⟨2, ![128, C]⟩ .f32

/-- Slot `s` free: at rest, with its read permission. -/
def free (s : Fin 6) : sProp 𝕄 := iprop(base c arg15 arg16 s ∗ tok c M XA s)

/-- Slot `s` with block `b` on its way. -/
def flying (s : Fin 6) (b : ℕ) (h : 128 * b + 128 ≤ R) : sProp 𝕄 :=
  iprop(Flight countersEmb (c : Thread nD τ) (SemLoc.dma (semAt arg16 s)) () (unitsOf arg15 C) (deliv c arg15 hC hsq M XA s b h)
    ∗ M.view.loc (c : Thread nD τ) ↦[M.view.set \ (srcM M b h).view.set]{shareTok fullShare 6 s} XA)

/-- The block slot `s` serves next once `k` blocks have been consumed. -/
def role (k : ℕ) (s : Fin 6) : ℕ := k + (s.val + 6 - k % 6) % 6

/-- Slot `s` once `k` blocks have been consumed and `a` fetches started. -/
def slotSt (k a : ℕ) (s : Fin 6) : sProp 𝕄 :=
  if h : role k s < a ∧ 128 * role k s + 128 ≤ R then flying c arg15 arg16 hC hsq M XA s (role k s) h.2 else free c arg15 arg16 M XA s

/-- The ring then. -/
def ring (k a : ℕ) : sProp 𝕄 := bigSep Finset.univ (slotSt c arg15 arg16 hC hsq M XA k a)

/-- The slot of block `b`. -/
abbrev slotOf (b : ℕ) : Fin 6 := ⟨b % 6, Nat.mod_lt _ (by decide)⟩

theorem role_self {k a : ℕ} (h : k ≤ a) (h' : a < k + 6) : role k (slotOf a) = a := by
  unfold role; show k + (a % 6 + 6 - k % 6) % 6 = a; omega

theorem ring_issue {k a : ℕ} (h : k ≤ a) (h' : a < k + 6) (hR : 128 * a + 128 ≤ R) :
    ∃ P : sProp 𝕄, ring c arg15 arg16 hC hsq M XA k a = iprop(free c arg15 arg16 M XA (slotOf a) ∗ P)
      ∧ ring c arg15 arg16 hC hsq M XA k (a + 1) = iprop(flying c arg15 arg16 hC hsq M XA (slotOf a) a hR ∗ P) := by
  refine ⟨bigSep (Finset.univ.erase (slotOf a)) (slotSt c arg15 arg16 hC hsq M XA k a), ?_, ?_⟩
  · unfold ring
    rw [bigSep_univ_split (slotOf a)]
    congr 1
    unfold slotSt
    exact dif_neg (fun hh => by rw [role_self h h'] at hh; omega)
  · unfold ring
    rw [bigSep_univ_split (slotOf a)]
    congr 1
    · unfold slotSt
      have e := role_self h h'
      rw [dif_pos (by rw [e]; exact ⟨by omega, hR⟩)]
      congr 1
    · refine bigSep_congr fun s hs => ?_
      have hne : s.val ≠ a % 6 := fun e => (Finset.ne_of_mem_erase hs) (Fin.ext e)
      have hs6 := s.isLt
      unfold slotSt
      have e : role k s < a + 1 ∧ 128 * role k s + 128 ≤ R ↔ role k s < a ∧ 128 * role k s + 128 ≤ R := by
        have : role k s ≠ a := by unfold role; omega
        omega
      by_cases hh : role k s < a ∧ 128 * role k s + 128 ≤ R
      · rw [dif_pos (e.2 hh), dif_pos hh]
      · rw [dif_neg (fun x => hh (e.1 x)), dif_neg hh]

theorem ring_consume {k a : ℕ} (h : k < a) (h' : a ≤ k + 6) (hR : 128 * k + 128 ≤ R) :
    ∃ P : sProp 𝕄, ring c arg15 arg16 hC hsq M XA k a = iprop(flying c arg15 arg16 hC hsq M XA (slotOf k) k hR ∗ P)
      ∧ ring c arg15 arg16 hC hsq M XA (k + 1) a = iprop(free c arg15 arg16 M XA (slotOf k) ∗ P) := by
  refine ⟨bigSep (Finset.univ.erase (slotOf k)) (slotSt c arg15 arg16 hC hsq M XA k a), ?_, ?_⟩
  · unfold ring
    rw [bigSep_univ_split (slotOf k)]
    congr 1
    unfold slotSt
    have e := role_self (le_refl k) (show k < k + 6 by omega)
    rw [dif_pos (by rw [e]; exact ⟨h, hR⟩)]
    congr 1
  · unfold ring
    rw [bigSep_univ_split (slotOf k)]
    congr 1
    · unfold slotSt
      refine dif_neg (fun hh => ?_)
      have : role (k + 1) (slotOf k) = k + 6 := by unfold role; show k + 1 + (k % 6 + 6 - (k + 1) % 6) % 6 = k + 6; omega
      omega
    · refine bigSep_congr fun s hs => ?_
      have hne : s.val ≠ k % 6 := fun e => (Finset.ne_of_mem_erase hs) (Fin.ext e)
      have hs6 := s.isLt
      have e : role (k + 1) s = role k s := by unfold role; omega
      unfold slotSt
      by_cases hh : role k s < a ∧ 128 * role k s + 128 ≤ R
      · rw [dif_pos (by rw [e]; exact hh), dif_pos hh]
        congr 1
      · rw [dif_neg (by rw [e]; exact hh), dif_neg hh]

/-! ## One fetch, one wait -/

theorem rect_sub (s : Fin 6) : (Rect.unit (s := S6x128x2816) ![s.val, 0, 0] (⟨3, ![1, 128, C]⟩ : Shape).size (slotInb s.isLt hC)).set
    ⊆ (Rect.unit (s := S6x128x2816) ![s.val, 0, 0] (⟨3, ![1, 128, 2816]⟩ : Shape).size (slotInb s.isLt le_rfl)).set := by
  intro y hy
  rw [Rect.mem_set_unit] at hy ⊢
  intro a
  have := hy a
  fin_cases a
  · exact this
  · exact this
  · have h2 : 0 ≤ (y 2).val ∧ (y 2).val < 0 + C := this
    show 0 ≤ (y 2).val ∧ (y 2).val < 0 + 2816
    omega

theorem view_sub (s : Fin 6) : (arg15.view.slice (Rect.unit (s := S6x128x2816) ![s.val, 0, 0] (⟨3, ![1, 128, C]⟩ : Shape).size (slotInb s.isLt hC))).set
    ⊆ slotSet (τ := τ) c arg15 s :=
  (View.set_slice _ _).le.trans ((Finset.map_subset_map.mpr (rect_sub hC s)).trans (View.set_slice _ _).ge)

theorem slot_sub (s : Fin 6) : (slotM arg15 hC hsq s).view.set ⊆ slotSet (τ := τ) c arg15 s :=
  (View.set_reshape _ _).le.trans (view_sub c arg15 hC s)

theorem issue {α : Type} {k a : ℕ} (h : k ≤ a) (h' : a < k + 6) (hR : 128 * a + 128 ≤ R) (hN : 0 < unitsOf arg15 C)
    {offS : Fin 2 → ℕ} {offL : Fin 3 → ℕ} {offM : Fin 1 → ℕ} (hS) (hL) (hM)
    (eS : offS = ![128 * a, 0]) (eL : offL = ![a % 6, 0, 0]) (eM : offM = ![a % 6]) (p1) (p2) (p3)
    (kont : PUnit → Prog (TpuEff nD τ sig (Elt F) Λ₀ .tc) α) (Q : α → sProp 𝕄) :
    iprop(ring c arg15 arg16 hC hsq M XA k a ∗ (ring c arg15 arg16 hC hsq M XA k (a + 1) -∗ WP defs₀ c (kont ⟨⟩) Q))
      ⊢ WP defs₀ c (.op (.enqueueDma (M.slice (Rect.unit (s := ⟨2, ![R, C]⟩) offS (⟨2, ![128, C]⟩ : Shape).size hS) (fun _ => rfl))
          (.here ((arg15.slice (Rect.unit (s := S6x128x2816) offL (⟨3, ![1, 128, C]⟩ : Shape).size hL) (fun _ => rfl)).squeeze ⟨2, ![128, C]⟩ hsq))
          (.dma ((arg16.slice (Rect.unit (s := S6) offM S1.size hM)).squeeze S_ squeezes_S1_S_).sem) p1 p2 p3) kont) Q := by
  subst eS eL eM
  obtain ⟨P, e0, e1⟩ := ring_issue c arg15 arg16 hC hsq M XA h h' hR
  rw [e0, e1]
  unfold free base flying
  iintro ⟨⟨⟨⟨Hv, %f, Hf⟩, Ht⟩, HP⟩, Hk⟩
  ihave Ht2 := ((pointsTo_split_subset (View.set_slice_subset M.view (Rect.unit (s := ⟨2, ![R, C]⟩) ![128 * a, 0] (⟨2, ![128, C]⟩ : Shape).size hS))).1) $$ Ht
  icases Ht2 with ⟨Hs, Hr⟩
  iapply (wp_dmaLocal countersEmb Variants.none (c : Thread nD τ) none (src := srcM M a hR) (dst := slotM arg15 hC hsq (slotOf a)) (fd := f)
    (q := shareTok fullShare 6 (slotOf a)) (fs := XA) () (unitsOf arg15 C) rfl hN (slot_sub c arg15 hC hsq (slotOf a))) $$ [Hs Hf Hv]
  · isplitl [Hs]; · iexact Hs
    isplitl [Hf]; · iexact Hf
    iexact Hv
  iintro HF
  iapply Hk
  isplitl [HF Hr]
  · isplitl [HF]
    · iapply (Flight_mono countersEmb (c : Thread nD τ) (D' := deliv c arg15 hC hsq M XA (slotOf a) a hR) ?_) $$ HF
      unfold deliv
      iintro ⟨Hd, Hs⟩
      isplitl [Hd]
      · iexists _
        isplitr; swap; · iexact Hd
        ipureintro
        exact View.read_write_univ _ _
      iexact Hs
    iexact Hr
  iexact HP

theorem await {α : Type} {k a : ℕ} (h : k < a) (h' : a ≤ k + 6) (hR : 128 * k + 128 ≤ R)
    {offS : Fin 2 → ℕ} {offL : Fin 3 → ℕ} {offM : Fin 1 → ℕ} (hS) (hL) (hM)
    (eL : offL = ![k % 6, 0, 0]) (eM : offM = ![k % 6]) (p1) (p2)
    (kont : PUnit → Prog (TpuEff nD τ sig (Elt F) Λ₀ .tc) α) (Q : α → sProp 𝕄) :
    iprop(ring c arg15 arg16 hC hsq M XA k a ∗ (∃ W, owes (c : Thread nD τ) 0 W)
        ∗ (∀ f : Buf (Elt F) (arg15.view.loc (c : Thread nD τ)), ⌜(slotM arg15 hC hsq (slotOf k)).view.read (Elt F) f = (srcM M k hR).view.read (Elt F) XA⌝
          -∗ (arg15.view.loc (c : Thread nD τ) ↦[slotSet c arg15 (slotOf k)]{fullShare} f) -∗ (∃ W, owes (c : Thread nD τ) 0 W)
          -∗ ((arg15.view.loc (c : Thread nD τ) ↦[slotSet c arg15 (slotOf k)]{fullShare} f) -∗ ring c arg15 arg16 hC hsq M XA (k + 1) a) -∗ WP defs₀ c (kont ⟨⟩) Q))
      ⊢ WP defs₀ c (.op (.waitDma2 ((arg16.slice (Rect.unit (s := S6) offM S1.size hM)).squeeze S_ squeezes_S1_S_).sem
          (M.slice (Rect.unit (s := ⟨2, ![R, C]⟩) offS (⟨2, ![128, C]⟩ : Shape).size hS) (fun _ => rfl))
          ((arg15.slice (Rect.unit (s := S6x128x2816) offL (⟨3, ![1, 128, C]⟩ : Shape).size hL) (fun _ => rfl)).squeeze ⟨2, ![128, C]⟩ hsq) p1 p2) kont) Q := by
  subst eL eM
  obtain ⟨P, e0, e1⟩ := ring_consume c arg15 arg16 hC hsq M XA h h' hR
  rw [e0, e1]
  unfold free base flying
  iintro ⟨⟨⟨HF, Hr⟩, HP⟩, ⟨%W, HW⟩, Hk⟩
  iapply (wp_waitLocal countersEmb Variants.none (c : Thread nD τ) none () (N := unitsOf arg15 C) rfl) $$ [HF HW]
  · isplitl [HF]; · iexact HF
    iexact HW
  unfold deliv
  iintro ⟨⟨⟨%f, %hf, Hf⟩, Hs⟩, Hv, HW⟩
  iapply Hk $$ %f %hf Hf [HW] [Hs Hr Hv HP]
  · iexists _; iexact HW
  iintro Hf
  isplitr [HP]; swap; · iexact HP
  isplitl [Hv Hf]
  · isplitl [Hv]; · iexact Hv
    iexists f; iexact Hf
  iapply ((pointsTo_split_subset (View.set_slice_subset M.view (Rect.unit (s := ⟨2, ![R, C]⟩) ![128 * k, 0] (⟨2, ![128, C]⟩ : Shape).size (blkInb hR)))).2)
  isplitl [Hs]; · iexact Hs
  iexact Hr

/-! ## One trip of a load -/

variable (D : Memref sig .tc .vmem ⟨2, ![R, C]⟩ .bf16)

/-- The matrix, cast. -/
def castV (X : Vec F ⟨2, ![R, C]⟩ .f32) : Vec F ⟨2, ![R, C]⟩ .bf16 := truncf .bf16 X bitsLt_bf16_f32

/-- The first `k` blocks cast, the rest as it was. -/
def fill (X : Vec F ⟨2, ![R, C]⟩ .f32) (v : Vec F ⟨2, ![R, C]⟩ .bf16) (k : ℕ) : Vec F ⟨2, ![R, C]⟩ .bf16 :=
  fun y => if (y 0).val < 128 * k then castV X y else v y

theorem fill_zero (X : Vec F ⟨2, ![R, C]⟩ .f32) (v : Vec F ⟨2, ![R, C]⟩ .bf16) : fill X v 0 = v := by
  funext y; unfold fill; rw [if_neg (by omega)]

theorem fill_all (X : Vec F ⟨2, ![R, C]⟩ .f32) (v : Vec F ⟨2, ![R, C]⟩ .bf16) {n : ℕ} (h : R = 128 * n) : fill X v n = castV X := by
  funext y
  have h0 : (y 0).val < R := (y 0).isLt
  unfold fill; rw [if_pos (by omega)]

theorem fill_step (X : Vec F ⟨2, ![R, C]⟩ .f32) (v : Vec F ⟨2, ![R, C]⟩ .bf16) {k : ℕ} (inb : ∀ a, (![128 * k, 0] : Fin 2 → ℕ) a + (⟨2, ![128, C]⟩ : Shape).size a ≤ (⟨2, ![R, C]⟩ : Shape).size a)
    (w : Vec F ⟨2, ![128, C]⟩ .bf16) (hw : ∀ z, w z = castV X ((Rect.unit (s := ⟨2, ![R, C]⟩) ![128 * k, 0] (⟨2, ![128, C]⟩ : Shape).size inb).emb z)) :
    VecWindow.put (fill X v k) ![128 * k, 0] (⟨2, ![128, C]⟩ : Shape).size w = fill X v (k + 1) := by
  funext y
  have h1 : (y 1).val < C := (y 1).isLt
  unfold VecWindow.put
  split
  · rename_i h
    have h0 : 128 * k ≤ (y 0).val ∧ (y 0).val < 128 * k + 128 := h 0
    rw [hw]
    unfold fill
    rw [if_pos (by omega)]
    congr 1
    refine funext fun a => Fin.ext ?_
    have ha : (![128 * k, 0] : Fin 2 → ℕ) a ≤ (y a).val := (h a).1
    show (![128 * k, 0] : Fin 2 → ℕ) a + 1 * ((y a).val - (![128 * k, 0] : Fin 2 → ℕ) a) = (y a).val
    omega
  · rename_i h
    have h0 : ¬ (128 * k ≤ (y 0).val ∧ (y 0).val < 128 * k + 128) := fun hh => h (fun a => by
      fin_cases a
      · exact hh
      · show 0 ≤ (y 1).val ∧ (y 1).val < 0 + C; omega)
    unfold fill
    by_cases e : (y 0).val < 128 * k
    · rw [if_pos e, if_pos (by omega)]
    · rw [if_neg e, if_neg (by omega)]

/-- What is held before trip `k` of `n`. -/
def loadInv (n : ℕ) (v : Vec F ⟨2, ![R, C]⟩ .bf16) (k : ℕ) : sProp 𝕄 :=
  iprop(ring c arg15 arg16 hC hsq M XA k (min (k + 5) n) ∗ (∃ W, owes (c : Thread nD τ) 0 W)
    ∗ owns (c : Thread nD τ) D fullShare (fill (M.view.read (Elt F) XA) v k))

theorem put_row {k : ℕ} (v : Vec F ⟨2, ![R, C]⟩ .bf16) (hR : 128 * k + 128 ≤ R) {offD : Fin 2 → ℕ} (hD) (eD : offD = ![128 * k, 0])
    (g : Buf (Elt F) (D.view.loc (c : Thread nD τ))) (hg : D.view.read (Elt F) g = fill (M.view.read (Elt F) XA) v k)
    (f : Buf (Elt F) (arg15.view.loc (c : Thread nD τ))) (hf : (slotM arg15 hC hsq (slotOf k)).view.read (Elt F) f = (srcM M k hR).view.read (Elt F) XA)
    {offL : Fin 3 → ℕ} (hL) (eL : offL = ![k % 6, 0, 0]) (hc1) (hc2) :
    D.view.read (Elt F) ((D.access (Rect.unit (s := ⟨2, ![R, C]⟩) offD (⟨2, ![128, C]⟩ : Shape).size hD)).write (Elt F) g
      (shapeCast ⟨2, ![128, C]⟩ (truncf .bf16 (shapeCast ⟨2, ![128, C]⟩ (arg15.view.readAt (Elt F) (Rect.unit (s := S6x128x2816) offL (⟨3, ![1, 128, C]⟩ : Shape).size hL).toLoadRect f
        : FVec F ⟨3, ![1, 128, C]⟩ .f32) hc1 : FVec F ⟨2, ![128, C]⟩ .f32) bitsLt_bf16_f32 : FVec F ⟨2, ![128, C]⟩ .bf16) hc2) Finset.univ)
      = fill (M.view.read (Elt F) XA) v (k + 1) := by
  subst eD eL
  refine (View.read_writes_cons_put D.view g hD _ [] rfl).trans ?_
  refine (congrArg (fun x => VecWindow.put x _ _ _) hg).trans ?_
  refine fill_step _ _ hD _ fun z => ?_
  have e : shapeCast ⟨2, ![128, C]⟩ (arg15.view.readAt (Elt F) (Rect.unit (s := S6x128x2816) ![k % 6, 0, 0] (⟨3, ![1, 128, C]⟩ : Shape).size hL).toLoadRect f
      : FVec F ⟨3, ![1, 128, C]⟩ .f32) hc1 = (srcM M k hR).view.read (Elt F) XA := hf
  have e2 : shapeCast ⟨2, ![128, C]⟩ (truncf .bf16 (shapeCast ⟨2, ![128, C]⟩ (arg15.view.readAt (Elt F) (Rect.unit (s := S6x128x2816) ![k % 6, 0, 0] (⟨3, ![1, 128, C]⟩ : Shape).size hL).toLoadRect f
        : FVec F ⟨3, ![1, 128, C]⟩ .f32) hc1 : FVec F ⟨2, ![128, C]⟩ .f32) bitsLt_bf16_f32 : FVec F ⟨2, ![128, C]⟩ .bf16) hc2
      = truncf .bf16 ((srcM M k hR).view.read (Elt F) XA : FVec F ⟨2, ![128, C]⟩ .f32) bitsLt_bf16_f32 :=
    (shapeCast_id _ hc2).trans (congrArg (fun x : FVec F ⟨2, ![128, C]⟩ .f32 => truncf .bf16 x bitsLt_bf16_f32) e)
  exact congrFun e2 z

theorem done (c : Dev nD) (K : PUnit → sProp 𝕄) :
    K ⟨⟩ ⊢ WP defs₀ c ((Prog.ret PUnit.unit : Prog (TpuEff nD τ sig (Elt F) Λ₀ .tc) PUnit).bind fun _ => (Pure.pure PUnit.unit : Prog (TpuEff nD τ sig (Elt F) Λ₀ .tc) PUnit)) K := by
  show K ⟨⟩ ⊢ wp frame (wpE defs₀ Variants.none (c : Thread nD τ) none) Set.univ (Prog.ret PUnit.unit : Prog (TpuEff nD τ sig (Elt F) Λ₀ .tc) PUnit) K
  iintro H
  sl_step
  iexact H

theorem trip_run {n k : ℕ} (v : Vec F ⟨2, ![R, C]⟩ .bf16) (hn : R = 128 * n) (hk : k < n) (hN : 0 < unitsOf arg15 C)
    {cond : BitVec 1} (hcond : cond = 1#1 ↔ k + 5 < n)
    {offS5 offS offD : Fin 2 → ℕ} {offL5 offL offL7 : Fin 3 → ℕ} {offM5 offM : Fin 1 → ℕ}
    (hS5 : ∀ h : cond = 1#1, _) (hL5 : ∀ h : cond = 1#1, _) (hM5 : ∀ h : cond = 1#1, _) (hS) (hL) (hM) (hL7) (hD)
    (eS5 : cond = 1#1 → offS5 = ![128 * (k + 5), 0]) (eL5 : cond = 1#1 → offL5 = ![(k + 5) % 6, 0, 0]) (eM5 : cond = 1#1 → offM5 = ![(k + 5) % 6])
    (eL : offL = ![k % 6, 0, 0]) (eM : offM = ![k % 6]) (eL7 : offL7 = ![k % 6, 0, 0]) (eD : offD = ![128 * k, 0])
    (p1 : ∀ h : cond = 1#1, _) (p2 : ∀ h : cond = 1#1, _) (p3 : ∀ h : cond = 1#1, _) (p4) (p5) (p6) (p7) (p8) (p9) (hc1) (hc2)
    (K : PUnit → sProp 𝕄) :
    iprop(loadInv c arg15 arg16 hC hsq M XA D n v k ∗ (loadInv c arg15 arg16 hC hsq M XA D n v (k + 1) -∗ K ⟨⟩))
      ⊢ WP defs₀ c (do
        if h : cond = 1#1 then do
          Prog.lift (.enqueueDma (M.slice (Rect.unit (s := ⟨2, ![R, C]⟩) offS5 (⟨2, ![128, C]⟩ : Shape).size (hS5 h)) (fun _ => rfl))
            (.here ((arg15.slice (Rect.unit (s := S6x128x2816) offL5 (⟨3, ![1, 128, C]⟩ : Shape).size (hL5 h)) (fun _ => rfl)).squeeze ⟨2, ![128, C]⟩ hsq))
            (.dma ((arg16.slice (Rect.unit (s := S6) offM5 S1.size (hM5 h))).squeeze S_ squeezes_S1_S_).sem) (p1 h) (p2 h) (p3 h))
          pure ⟨⟩
        else do
          pure ⟨⟩
        Prog.lift (.waitDma2 ((arg16.slice (Rect.unit (s := S6) offM S1.size hM)).squeeze S_ squeezes_S1_S_).sem
          (M.slice (Rect.unit (s := ⟨2, ![R, C]⟩) offS (⟨2, ![128, C]⟩ : Shape).size hS) (fun _ => rfl))
          ((arg15.slice (Rect.unit (s := S6x128x2816) offL (⟨3, ![1, 128, C]⟩ : Shape).size hL) (fun _ => rfl)).squeeze ⟨2, ![128, C]⟩ hsq) p4 p5)
        let x : Vec F ⟨3, ![1, 128, C]⟩ .f32 ← Prog.lift (.load arg15 (Rect.unit (s := S6x128x2816) offL7 (⟨3, ![1, 128, C]⟩ : Shape).size hL7).toLoadRect p6)
        let _y : Vec F ⟨2, ![128, C]⟩ .bf16 ← Prog.lift (.load D (Rect.unit (s := ⟨2, ![R, C]⟩) offD (⟨2, ![128, C]⟩ : Shape).size hD).toLoadRect p7)
        Prog.lift (.store D (Rect.unit (s := ⟨2, ![R, C]⟩) offD (⟨2, ![128, C]⟩ : Shape).size hD)
          (shapeCast ⟨2, ![128, C]⟩ (truncf .bf16 (shapeCast ⟨2, ![128, C]⟩ x hc1 : FVec F ⟨2, ![128, C]⟩ .f32) bitsLt_bf16_f32 : FVec F ⟨2, ![128, C]⟩ .bf16) hc2)
          Finset.univ p8 p9)
        pure ⟨⟩) K := by
  have hR : 128 * k + 128 ≤ R := by omega
  -- the second half: the wait, the cast and the store, from a ring with `a` fetches started
  have half : ∀ a, k < a → a ≤ k + 6 → a = min (k + 1 + 5) n →
      iprop(ring c arg15 arg16 hC hsq M XA k a ∗ (∃ W, owes (c : Thread nD τ) 0 W)
          ∗ owns (c : Thread nD τ) D fullShare (fill (M.view.read (Elt F) XA) v k)
          ∗ (loadInv c arg15 arg16 hC hsq M XA D n v (k + 1) -∗ K ⟨⟩))
        ⊢ WP defs₀ c (do
        Prog.lift (.waitDma2 ((arg16.slice (Rect.unit (s := S6) offM S1.size hM)).squeeze S_ squeezes_S1_S_).sem
          (M.slice (Rect.unit (s := ⟨2, ![R, C]⟩) offS (⟨2, ![128, C]⟩ : Shape).size hS) (fun _ => rfl))
          ((arg15.slice (Rect.unit (s := S6x128x2816) offL (⟨3, ![1, 128, C]⟩ : Shape).size hL) (fun _ => rfl)).squeeze ⟨2, ![128, C]⟩ hsq) p4 p5)
        let x : Vec F ⟨3, ![1, 128, C]⟩ .f32 ← Prog.lift (.load arg15 (Rect.unit (s := S6x128x2816) offL7 (⟨3, ![1, 128, C]⟩ : Shape).size hL7).toLoadRect p6)
        let _y : Vec F ⟨2, ![128, C]⟩ .bf16 ← Prog.lift (.load D (Rect.unit (s := ⟨2, ![R, C]⟩) offD (⟨2, ![128, C]⟩ : Shape).size hD).toLoadRect p7)
        Prog.lift (.store D (Rect.unit (s := ⟨2, ![R, C]⟩) offD (⟨2, ![128, C]⟩ : Shape).size hD)
          (shapeCast ⟨2, ![128, C]⟩ (truncf .bf16 (shapeCast ⟨2, ![128, C]⟩ x hc1 : FVec F ⟨2, ![128, C]⟩ .f32) bitsLt_bf16_f32 : FVec F ⟨2, ![128, C]⟩ .bf16) hc2)
          Finset.univ p8 p9)
        pure ⟨⟩) K := by
    intro a h1 h2 ha
    refine BIBase.Entails.trans ?_ (await c arg15 arg16 hC hsq M XA h1 h2 hR hS hL hM eL eM p4 p5 _ K)
    unfold owns
    iintro ⟨HR, HW, ⟨%g, %hg, HD⟩, Hk⟩
    isplitl [HR]; · iexact HR
    isplitl [HW]; · iexact HW
    iintro %f %hf Hf HW Hback
    iapply (wp_load Variants.none (c : Thread nD τ) none Set.univ (S := slotSet c arg15 (slotOf k)) (q := fullShare) (f := f) (by
      subst eL7
      exact (View.set_slice _ _).ge.trans (view_sub c arg15 hC (slotOf k)))) $$ Hf
    iintro Hf
    iapply (wp_load Variants.none (c : Thread nD τ) none Set.univ (m := D) (S := D.view.set) (q := fullShare) (f := g)
      ((View.set_slice D.view (Rect.unit (s := ⟨2, ![R, C]⟩) offD (⟨2, ![128, C]⟩ : Shape).size hD)).ge.trans (View.set_slice_subset _ _))) $$ HD
    iintro HD
    iapply (wp_store Variants.none (c : Thread nD τ) none Set.univ (m := D) (r := Rect.unit (s := ⟨2, ![R, C]⟩) offD (⟨2, ![128, C]⟩ : Shape).size hD) (S := (D.view.set : Finset D.view.ty.Idx)) (f := g) (View.set_slice_subset _ _)) $$ HD
    iintro HD
    iapply (done c K)
    iapply Hk
    unfold loadInv owns
    subst ha
    isplitl [Hf Hback]
    · iapply Hback; iexact Hf
    isplitl [HW]; · iexact HW
    iexists _
    isplitr; swap; · iexact HD
    ipureintro
    exact put_row c arg15 hC hsq M XA D v hR hD eD g hg f hf hL7 eL7 hc1 hc2
  by_cases h : cond = 1#1
  · have hlt := hcond.1 h
    simp only [dif_pos h]
    refine BIBase.Entails.trans ?_ (issue c arg15 arg16 hC hsq M XA (k := k) (a := k + 5) (by omega) (by omega) (by omega) hN (hS5 h) (hL5 h) (hM5 h) (eS5 h) (eL5 h) (eM5 h) (p1 h) (p2 h) (p3 h) _ K)
    unfold loadInv
    rw [show min (k + 5) n = k + 5 by omega]
    iintro ⟨⟨HR, HW, HD⟩, Hk⟩
    isplitl [HR]; · iexact HR
    iintro HR
    iapply (half (k + 5 + 1) (by omega) (by omega) (by omega))
    isplitl [HR]; · iexact HR
    isplitl [HW]; · iexact HW
    isplitl [HD]; · iexact HD
    unfold loadInv
    iexact Hk
  · have hge : ¬ k + 5 < n := fun hh => h (hcond.2 hh)
    simp only [dif_neg h]
    refine BIBase.Entails.trans ?_ (half (min (k + 5) n) (by omega) (by omega) (by omega))
    unfold loadInv
    iintro ⟨⟨HR, HW, HD⟩, Hk⟩
    isplitl [HR]; · iexact HR
    isplitl [HW]; · iexact HW
    isplitl [HD]; · iexact HD
    iexact Hk

/-! ## The whole matrix -/

/-- The six slots at rest. -/
def rest : sProp 𝕄 := bigSep Finset.univ (base (F := F) c arg15 arg16)

/-- The whole matrix. -/
abbrev full : sProp 𝕄 := M.view.loc (c : Thread nD τ) ↦[M.view.set]{fullShare} XA

/-- What is left of its permission while the six slots have theirs. -/
abbrev kept : sProp 𝕄 := M.view.loc (c : Thread nD τ) ↦[M.view.set]{shareDrop fullShare 6} XA

/-- The core owes something or nothing. -/
abbrev due : sProp 𝕄 := iprop(∃ W, owes (c : Thread nD τ) 0 W)

theorem ring_free {k a : ℕ} (h : a ≤ k) :
    ring c arg15 arg16 hC hsq M XA k a = iprop(rest c arg15 arg16 ∗ bigSep Finset.univ (fun s => tok c M XA s)) := by
  unfold ring rest
  refine (bigSep_congr fun s _ => ?_).trans (BI.bigSep_sep Finset.univ (base (F := F) c arg15 arg16) (fun s => tok c M XA s))
  unfold slotSt
  rw [dif_neg (fun hh => by have : k ≤ role k s := Nat.le_add_right _ _; omega)]
  rfl

theorem ring_enter : iprop(rest c arg15 arg16 ∗ full c M XA) ⊢ iprop(ring c arg15 arg16 hC hsq M XA 0 0 ∗ kept c M XA) := by
  rw [ring_free c arg15 arg16 hC hsq M XA (le_refl 0)]
  iintro ⟨Hr, Hf⟩
  ihave H := (pointsTo_toks_split fullShare 6) $$ Hf
  icases H with ⟨Hk, Ht⟩
  isplitr [Hk]; swap; · iexact Hk
  isplitl [Hr]; · iexact Hr
  iexact Ht

theorem ring_exit (n : ℕ) : iprop(ring c arg15 arg16 hC hsq M XA n n ∗ kept c M XA) ⊢ iprop(rest c arg15 arg16 ∗ full c M XA) := by
  rw [ring_free c arg15 arg16 hC hsq M XA (le_refl n)]
  iintro ⟨⟨Hr, Ht⟩, Hk⟩
  isplitl [Hr]; · iexact Hr
  iapply (pointsTo_toks_join fullShare 6)
  isplitl [Hk]; · iexact Hk
  iexact Ht

theorem loop_run {n : ℕ} (l : Scf.Loop 32) (hok : l.OK) (hl : l.trips = n) (hn : R = 128 * n) (h5 : 5 ≤ n) (v : Vec F ⟨2, ![R, C]⟩ .bf16)
    (body : Fin l.trips → PUnit → Prog (TpuEff nD τ sig (Elt F) Λ₀ .tc) PUnit)
    (hbody : ∀ (k : Fin l.trips) (K : PUnit → sProp 𝕄), iprop(loadInv c arg15 arg16 hC hsq M XA D n v k.val ∗ (loadInv c arg15 arg16 hC hsq M XA D n v (k.val + 1) -∗ K ⟨⟩))
      ⊢ WP defs₀ c (body k ⟨⟩) K)
    {α : Type} (kk : PUnit → Prog (TpuEff nD τ sig (Elt F) Λ₀ .tc) α) (Q : α → sProp 𝕄) :
    iprop((ring c arg15 arg16 hC hsq M XA 0 5 ∗ kept c M XA ∗ due c ∗ owns (c : Thread nD τ) D fullShare v)
        ∗ ((rest c arg15 arg16 ∗ full c M XA ∗ due c ∗ owns (c : Thread nD τ) D fullShare (castV (M.view.read (Elt F) XA))) -∗ WP defs₀ c (kk ⟨⟩) Q))
      ⊢ WP defs₀ c (Scf.Loop.for l hok ⟨⟩ body >>= kk) Q := by
  iintro ⟨⟨HR, Hk, HW, HD⟩, HK⟩
  iapply (Scf.wp_for_bind frame (wpE defs₀ Variants.none (c : Thread nD τ) none) Set.univ _ _ _ hok PUnit.unit body
    (fun k _ => loadInv c arg15 arg16 hC hsq M XA D n v k) (fun k acc => by
      refine BIBase.Entails.trans ?_ (hbody k (fun _ => loadInv c arg15 arg16 hC hsq M XA D n v (k.val + 1)))
      iintro H
      isplitl [H]; · iexact H
      iintro H; iexact H) (kk := kk) (Q := Q)) $$ [HR HW HD]
  · unfold loadInv
    rw [fill_zero, show min (0 + 5) n = 5 by omega]
    isplitl [HR]; · iexact HR
    isplitl [HW]; · iexact HW
    iexact HD
  · iintro %acc
    rw [show Scf.trips l.lb l.ub l.st = n from hl]
    unfold loadInv
    rw [fill_all _ _ hn, show min (n + 5) n = n by omega]
    iintro ⟨HR, HW, HD⟩
    iapply HK
    ihave H := (ring_exit c arg15 arg16 hC hsq M XA n) $$ [HR Hk]
    · isplitl [HR]; · iexact HR
      iexact Hk
    icases H with ⟨Hr, Hf⟩
    isplitl [Hr]; · iexact Hr
    isplitl [Hf]; · iexact Hf
    isplitl [HW]; · iexact HW
    iexact HD

end Cert.Load

end
-- ==== Proof.FfnLoad.lean ====
/- The second half's programs, and what running one needs. -/
module

public import proofs.«01_k».proof.Proof.Load
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Kernel2Ideal Cert.Kernel2Ideal.Facts₀ Cert.Kernel2Ideal.Facts

abbrev UU := Load.UU nD τ sig

variable {F : FTy → Type} [FloatOps F]

local notation "𝕄" => MT nD τ sig Unit (Elt F) ℕ UU ℕ

/-- What running a program on core `c` needs, for `Q` to hold of its result. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

end Cert.Kernel2Ideal.Ffn

end
-- ==== Proof.FfnParts.lean ====
/- The four weight matrices come in one after another: the printed text of each part of the start, run. -/
module

public import proofs.«01_k».proof.Proof.FfnLoad
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

variable {F : FTy → Type} [FloatOps F]

local notation "𝕄" => MT nD τ sig Unit (Elt F) ℕ UU ℕ

/-! ## The offsets the loops compute -/

theorem trips1 : k0_t1_loop.trips = 8 := by decide +kernel
theorem cond2_iff : ∀ k : Fin k0_t1_loop.trips, k0_cond2 k = 1#1 ↔ k.val + 5 < 8 := by decide +kernel
theorem off1_eq : ∀ k : Fin k0_t1_loop.trips, k0_off1 k = ![(k.val + 5) % 6] := by decide +kernel
theorem off2_eq : ∀ k : Fin k0_t1_loop.trips, k0_off2 k = ![(k.val + 5) % 6, 0, 0] := by decide +kernel
theorem off3_eq : ∀ k : Fin k0_t1_loop.trips, k0_off3 k = ![128 * (k.val + 5), 0] := by decide +kernel
theorem off4_eq : ∀ k : Fin k0_t1_loop.trips, k0_off4 k = ![k.val % 6] := by decide +kernel
theorem off5_eq : ∀ k : Fin k0_t1_loop.trips, k0_off5 k = ![k.val % 6, 0, 0] := by decide +kernel
theorem off7_eq : ∀ k : Fin k0_t1_loop.trips, k0_off7 k = ![k.val % 6, 0, 0] := by decide +kernel
theorem off8_eq : ∀ k : Fin k0_t1_loop.trips, k0_off8 k = ![128 * k.val, 0] := by decide +kernel

theorem trips2 : k0_t2_loop.trips = 8 := by decide +kernel
theorem cond3_iff : ∀ k : Fin k0_t2_loop.trips, k0_cond3 k = 1#1 ↔ k.val + 5 < 8 := by decide +kernel
theorem off9_eq : ∀ k : Fin k0_t2_loop.trips, k0_off9 k = ![(k.val + 5) % 6] := by decide +kernel
theorem off10_eq : ∀ k : Fin k0_t2_loop.trips, k0_off10 k = ![(k.val + 5) % 6, 0, 0] := by decide +kernel
theorem off11_eq : ∀ k : Fin k0_t2_loop.trips, k0_off11 k = ![128 * (k.val + 5), 0] := by decide +kernel
theorem off12_eq : ∀ k : Fin k0_t2_loop.trips, k0_off12 k = ![k.val % 6] := by decide +kernel
theorem off13_eq : ∀ k : Fin k0_t2_loop.trips, k0_off13 k = ![k.val % 6, 0, 0] := by decide +kernel
theorem off15_eq : ∀ k : Fin k0_t2_loop.trips, k0_off15 k = ![k.val % 6, 0, 0] := by decide +kernel
theorem off16_eq : ∀ k : Fin k0_t2_loop.trips, k0_off16 k = ![128 * k.val, 0] := by decide +kernel

theorem trips3 : k0_t3_loop.trips = 8 := by decide +kernel
theorem cond4_iff : ∀ k : Fin k0_t3_loop.trips, k0_cond4 k = 1#1 ↔ k.val + 5 < 8 := by decide +kernel
theorem off17_eq : ∀ k : Fin k0_t3_loop.trips, k0_off17 k = ![(k.val + 5) % 6] := by decide +kernel
theorem off18_eq : ∀ k : Fin k0_t3_loop.trips, k0_off18 k = ![(k.val + 5) % 6, 0, 0] := by decide +kernel
theorem off19_eq : ∀ k : Fin k0_t3_loop.trips, k0_off19 k = ![128 * (k.val + 5), 0] := by decide +kernel
theorem off20_eq : ∀ k : Fin k0_t3_loop.trips, k0_off20 k = ![k.val % 6] := by decide +kernel
theorem off21_eq : ∀ k : Fin k0_t3_loop.trips, k0_off21 k = ![k.val % 6, 0, 0] := by decide +kernel
theorem off23_eq : ∀ k : Fin k0_t3_loop.trips, k0_off23 k = ![k.val % 6, 0, 0] := by decide +kernel
theorem off24_eq : ∀ k : Fin k0_t3_loop.trips, k0_off24 k = ![128 * k.val, 0] := by decide +kernel

theorem trips4 : k0_t4_loop.trips = 22 := by decide +kernel
theorem cond5_iff : ∀ k : Fin k0_t4_loop.trips, k0_cond5 k = 1#1 ↔ k.val + 5 < 22 := by decide +kernel
theorem off25_eq : ∀ k : Fin k0_t4_loop.trips, k0_off25 k = ![(k.val + 5) % 6] := by decide +kernel
theorem off26_eq : ∀ k : Fin k0_t4_loop.trips, k0_off26 k = ![(k.val + 5) % 6, 0, 0] := by decide +kernel
theorem off27_eq : ∀ k : Fin k0_t4_loop.trips, k0_off27 k = ![128 * (k.val + 5), 0] := by decide +kernel
theorem off28_eq : ∀ k : Fin k0_t4_loop.trips, k0_off28 k = ![k.val % 6] := by decide +kernel
theorem off29_eq : ∀ k : Fin k0_t4_loop.trips, k0_off29 k = ![k.val % 6, 0, 0] := by decide +kernel
theorem off31_eq : ∀ k : Fin k0_t4_loop.trips, k0_off31 k = ![k.val % 6, 0, 0] := by decide +kernel
theorem off32_eq : ∀ k : Fin k0_t4_loop.trips, k0_off32 k = ![128 * k.val, 0] := by decide +kernel

/-! ## The printed parts -/

section Parts
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S4x512x128 .f32) (harg3 : arg3.IsWhole) (arg4 : Memref sig .tc .vmem S1x512 .f32) (harg4 : arg4.IsWhole) (arg5 : Memref sig .tc .hbm S1024x1024 .f32) (harg5 : arg5.IsWhole) (arg6 : Memref sig .tc .vmem S1x1024 .f32) (harg6 : arg6.IsWhole) (arg7 : Memref sig .tc .hbm S1024x2816 .f32) (harg7 : arg7.IsWhole) (arg8 : Memref sig .tc .hbm S1024x2816 .f32) (harg8 : arg8.IsWhole) (arg9 : Memref sig .tc .hbm S2816x1024 .f32) (harg9 : arg9.IsWhole) (arg10 : Memref sig .tc .vmem S512x1024 .f32) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S6x128x2816 .f32) (harg15 : arg15.IsWhole) (arg16 : DmaSems sig S6) (arg17 : Memref sig .tc .vmem S1024x1024 .bf16) (harg17 : arg17.IsWhole)
  (X5 : Buf (Elt F) (arg5.view.loc (c : Thread nD τ))) (X7 : Buf (Elt F) (arg7.view.loc (c : Thread nD τ))) (X8 : Buf (Elt F) (arg8.view.loc (c : Thread nD τ))) (X9 : Buf (Elt F) (arg9.view.loc (c : Thread nD τ)))

theorem narrow : 1024 ≤ 2816 := by decide
theorem units1024 : 0 < unitsOf arg15 1024 := View.dmaCredit_pos (slotM arg15 narrow squeezes_S1x128x1024_S128x1024 0).view (by decide)
theorem units2816 : 0 < unitsOf arg15 2816 := View.dmaCredit_pos (slotM arg15 le_rfl squeezes_S1x128x2816_S128x2816 0).view (by decide)

theorem part1_run (K : PUnit → sProp 𝕄) :
    iprop(ring c arg15 arg16 narrow squeezes_S1x128x1024_S128x1024 arg5 X5 0 0 ∗ (ring c arg15 arg16 narrow squeezes_S1x128x1024_S128x1024 arg5 X5 0 5 -∗ K ⟨⟩))
      ⊢ WP c (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17) K := by
  have go := fun a (h : a < 5) => @issue nD τ sig Λ₀ F _ defs₀ c arg15 arg16 1024 1024 narrow squeezes_S1x128x1024_S128x1024 arg5 X5 PUnit 0 a (by omega) (by omega) (by omega) (units1024 arg15)
  unfold k0_part1
  refine BIBase.Entails.trans ?_ (go 0 (by decide) _ _ _ rfl rfl rfl _ _ _ _ K)
  iintro ⟨HR, Hk⟩
  isplitl [HR]; · iexact HR
  iintro HR
  iapply (go 1 (by decide) _ _ _ rfl rfl rfl _ _ _ _ K)
  isplitl [HR]; · iexact HR
  iintro HR
  iapply (go 2 (by decide) _ _ _ rfl rfl rfl _ _ _ _ K)
  isplitl [HR]; · iexact HR
  iintro HR
  iapply (go 3 (by decide) _ _ _ rfl rfl rfl _ _ _ _ K)
  isplitl [HR]; · iexact HR
  iintro HR
  iapply (go 4 (by decide) _ _ _ rfl rfl rfl _ _ _ _ K)
  isplitl [HR]; · iexact HR
  iintro HR
  iapply (done c K)
  iapply Hk
  iexact HR

theorem part2_run (k0_h1 : k0_cond1 i = 1#1) (v : Vec F ⟨2, ![1024, 1024]⟩ .bf16) (K : PUnit → sProp 𝕄) :
    iprop((ring c arg15 arg16 narrow squeezes_S1x128x1024_S128x1024 arg5 X5 0 5 ∗ kept c arg5 X5 ∗ due c ∗ owns (c : Thread nD τ) arg17 fullShare v ∗ full c arg7 X7)
        ∗ ((full c arg5 X5 ∗ ring c arg15 arg16 le_rfl squeezes_S1x128x2816_S128x2816 arg7 X7 0 4 ∗ kept c arg7 X7 ∗ due c ∗ owns (c : Thread nD τ) arg17 fullShare (castV (arg5.view.read (Elt F) X5))) -∗ K ⟨⟩))
      ⊢ WP c (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 k0_h1) K := by
  have go2 := fun a (h : a < 5) => @issue nD τ sig Λ₀ F _ defs₀ c arg15 arg16 1024 2816 le_rfl squeezes_S1x128x2816_S128x2816 arg7 X7 PUnit 0 a (by omega) (by omega) (by omega) (units2816 arg15)
  unfold k0_part2
  iintro ⟨⟨HR, Hkept, HW, HD, Hnext⟩, Hk⟩
  iapply (loop_run c arg15 arg16 narrow squeezes_S1x128x1024_S128x1024 arg5 X5 arg17 k0_t1_loop (k0_t1_ok i k0_h1) trips1 rfl (by decide) v _ ?_)
  · intro k K
    exact trip_run c arg15 arg16 narrow squeezes_S1x128x1024_S128x1024 arg5 X5 arg17 v rfl (lt_of_lt_of_eq k.isLt trips1) (units1024 arg15) (cond2_iff k)
      _ _ _ _ _ _ _ _ (fun _ => off3_eq k) (fun _ => off2_eq k) (fun _ => off1_eq k) (off5_eq k) (off4_eq k) (off7_eq k) (off8_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, Hfull, HW, HD⟩
  ihave H := (ring_enter c arg15 arg16 le_rfl squeezes_S1x128x2816_S128x2816 arg7 X7) $$ [Hrest Hnext]
  · isplitl [Hrest]; · iexact Hrest
    iexact Hnext
  icases H with ⟨HR, Hkept⟩
  iapply (go2 0 (by decide) _ _ _ rfl rfl rfl _ _ _ _ _)
  isplitl [HR]; · iexact HR
  iintro HR
  iapply (go2 1 (by decide) _ _ _ rfl rfl rfl _ _ _ _ _)
  isplitl [HR]; · iexact HR
  iintro HR
  iapply (go2 2 (by decide) _ _ _ rfl rfl rfl _ _ _ _ _)
  isplitl [HR]; · iexact HR
  iintro HR
  iapply (go2 3 (by decide) _ _ _ rfl rfl rfl _ _ _ _ _)
  isplitl [HR]; · iexact HR
  iintro HR
  iapply (done c K)
  iapply Hk
  isplitl [Hfull]; · iexact Hfull
  isplitl [HR]; · iexact HR
  isplitl [Hkept]; · iexact Hkept
  isplitl [HW]; · iexact HW
  iexact HD

theorem part3_run (k0_h1 : k0_cond1 i = 1#1) (v : Vec F ⟨2, ![1024, 2816]⟩ .bf16) (K : PUnit → sProp 𝕄) :
    iprop((ring c arg15 arg16 le_rfl squeezes_S1x128x2816_S128x2816 arg7 X7 0 4 ∗ kept c arg7 X7 ∗ due c ∗ owns (c : Thread nD τ) arg12 fullShare v ∗ full c arg8 X8)
        ∗ ((full c arg7 X7 ∗ ring c arg15 arg16 le_rfl squeezes_S1x128x2816_S128x2816 arg8 X8 0 4 ∗ kept c arg8 X8 ∗ due c ∗ owns (c : Thread nD τ) arg12 fullShare (castV (arg7.view.read (Elt F) X7))) -∗ K ⟨⟩))
      ⊢ WP c (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 k0_h1) K := by
  have go2 := fun a (h : a < 5) => @issue nD τ sig Λ₀ F _ defs₀ c arg15 arg16 1024 2816 le_rfl squeezes_S1x128x2816_S128x2816 arg7 X7 PUnit 0 a (by omega) (by omega) (by omega) (units2816 arg15)
  have go3 := fun a (h : a < 5) => @issue nD τ sig Λ₀ F _ defs₀ c arg15 arg16 1024 2816 le_rfl squeezes_S1x128x2816_S128x2816 arg8 X8 PUnit 0 a (by omega) (by omega) (by omega) (units2816 arg15)
  unfold k0_part3
  iintro ⟨⟨HR, Hkept, HW, HD, Hnext⟩, Hk⟩
  iapply (go2 4 (by decide) _ _ _ rfl rfl rfl _ _ _ _ _)
  isplitl [HR]; · iexact HR
  iintro HR
  iapply (loop_run c arg15 arg16 le_rfl squeezes_S1x128x2816_S128x2816 arg7 X7 arg12 k0_t2_loop (k0_t2_ok i k0_h1) trips2 rfl (by decide) v _ ?_)
  · intro k K
    exact trip_run c arg15 arg16 le_rfl squeezes_S1x128x2816_S128x2816 arg7 X7 arg12 v rfl (lt_of_lt_of_eq k.isLt trips2) (units2816 arg15) (cond3_iff k)
      _ _ _ _ _ _ _ _ (fun _ => off11_eq k) (fun _ => off10_eq k) (fun _ => off9_eq k) (off13_eq k) (off12_eq k) (off15_eq k) (off16_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, Hfull, HW, HD⟩
  ihave H := (ring_enter c arg15 arg16 le_rfl squeezes_S1x128x2816_S128x2816 arg8 X8) $$ [Hrest Hnext]
  · isplitl [Hrest]; · iexact Hrest
    iexact Hnext
  icases H with ⟨HR, Hkept⟩
  iapply (go3 0 (by decide) _ _ _ rfl rfl rfl _ _ _ _ _)
  isplitl [HR]; · iexact HR
  iintro HR
  iapply (go3 1 (by decide) _ _ _ rfl rfl rfl _ _ _ _ _)
  isplitl [HR]; · iexact HR
  iintro HR
  iapply (go3 2 (by decide) _ _ _ rfl rfl rfl _ _ _ _ _)
  isplitl [HR]; · iexact HR
  iintro HR
  iapply (go3 3 (by decide) _ _ _ rfl rfl rfl _ _ _ _ _)
  isplitl [HR]; · iexact HR
  iintro HR
  iapply (done c K)
  iapply Hk
  isplitl [Hfull]; · iexact Hfull
  isplitl [HR]; · iexact HR
  isplitl [Hkept]; · iexact Hkept
  isplitl [HW]; · iexact HW
  iexact HD

theorem part4_run (k0_h1 : k0_cond1 i = 1#1) (v : Vec F ⟨2, ![1024, 2816]⟩ .bf16) (K : PUnit → sProp 𝕄) :
    iprop((ring c arg15 arg16 le_rfl squeezes_S1x128x2816_S128x2816 arg8 X8 0 4 ∗ kept c arg8 X8 ∗ due c ∗ owns (c : Thread nD τ) arg13 fullShare v ∗ full c arg9 X9)
        ∗ ((full c arg8 X8 ∗ ring c arg15 arg16 narrow squeezes_S1x128x1024_S128x1024 arg9 X9 0 3 ∗ kept c arg9 X9 ∗ due c ∗ owns (c : Thread nD τ) arg13 fullShare (castV (arg8.view.read (Elt F) X8))) -∗ K ⟨⟩))
      ⊢ WP c (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 k0_h1) K := by
  have go3 := fun a (h : a < 5) => @issue nD τ sig Λ₀ F _ defs₀ c arg15 arg16 1024 2816 le_rfl squeezes_S1x128x2816_S128x2816 arg8 X8 PUnit 0 a (by omega) (by omega) (by omega) (units2816 arg15)
  have go4 := fun a (h : a < 5) => @issue nD τ sig Λ₀ F _ defs₀ c arg15 arg16 2816 1024 narrow squeezes_S1x128x1024_S128x1024 arg9 X9 PUnit 0 a (by omega) (by omega) (by omega) (units1024 arg15)
  unfold k0_part4
  iintro ⟨⟨HR, Hkept, HW, HD, Hnext⟩, Hk⟩
  iapply (go3 4 (by decide) _ _ _ rfl rfl rfl _ _ _ _ _)
  isplitl [HR]; · iexact HR
  iintro HR
  iapply (loop_run c arg15 arg16 le_rfl squeezes_S1x128x2816_S128x2816 arg8 X8 arg13 k0_t3_loop (k0_t3_ok i k0_h1) trips3 rfl (by decide) v _ ?_)
  · intro k K
    exact trip_run c arg15 arg16 le_rfl squeezes_S1x128x2816_S128x2816 arg8 X8 arg13 v rfl (lt_of_lt_of_eq k.isLt trips3) (units2816 arg15) (cond4_iff k)
      _ _ _ _ _ _ _ _ (fun _ => off19_eq k) (fun _ => off18_eq k) (fun _ => off17_eq k) (off21_eq k) (off20_eq k) (off23_eq k) (off24_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, Hfull, HW, HD⟩
  ihave H := (ring_enter c arg15 arg16 narrow squeezes_S1x128x1024_S128x1024 arg9 X9) $$ [Hrest Hnext]
  · isplitl [Hrest]; · iexact Hrest
    iexact Hnext
  icases H with ⟨HR, Hkept⟩
  iapply (go4 0 (by decide) _ _ _ rfl rfl rfl _ _ _ _ _)
  isplitl [HR]; · iexact HR
  iintro HR
  iapply (go4 1 (by decide) _ _ _ rfl rfl rfl _ _ _ _ _)
  isplitl [HR]; · iexact HR
  iintro HR
  iapply (go4 2 (by decide) _ _ _ rfl rfl rfl _ _ _ _ _)
  isplitl [HR]; · iexact HR
  iintro HR
  iapply (done c K)
  iapply Hk
  isplitl [Hfull]; · iexact Hfull
  isplitl [HR]; · iexact HR
  isplitl [Hkept]; · iexact Hkept
  isplitl [HW]; · iexact HW
  iexact HD

end Parts

end Cert.Kernel2Ideal.Ffn

end
-- ==== Proof.FfnBody.lean ====
/- One grid point of the second half: at the first the weights come in, at each the block of rows is computed from them. -/
module

public import proofs.«01_k».proof.Proof.FfnParts
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

variable {F : FTy → Type} [FloatOps F]

local notation "𝕄" => MT nD τ sig Unit (Elt F) ℕ UU ℕ

/-! ## The block, as a function of what is read -/

/-- The recurrence's rows and the attention's, the latter normalised and cast. -/
def normYa (ya : Vec F S4x512x128 .f32) (ga : Vec F S1x512 .f32) : FVec F S512x512 .bf16 :=
  have v11 : FVec F S512x512 .f32 := concatenate S512x512 1
    [⟨S512x128, shapeCast S512x128 (VecWindow.window ya ![0, 0, 0] S1x512x128.size inb_S4x512x128_S1x512x128_0_0_0 : FVec F S1x512x128 .f32) shapeCasts_S1x512x128_S512x128⟩,
     ⟨S512x128, shapeCast S512x128 (VecWindow.window ya ![1, 0, 0] S1x512x128.size inb_S4x512x128_S1x512x128_1_0_0 : FVec F S1x512x128 .f32) shapeCasts_S1x512x128_S512x128⟩,
     ⟨S512x128, shapeCast S512x128 (VecWindow.window ya ![2, 0, 0] S1x512x128.size inb_S4x512x128_S1x512x128_2_0_0 : FVec F S1x512x128 .f32) shapeCasts_S1x512x128_S512x128⟩,
     ⟨S512x128, shapeCast S512x128 (VecWindow.window ya ![3, 0, 0] S1x512x128.size inb_S4x512x128_S1x512x128_3_0_0 : FVec F S1x512x128 .f32) shapeCasts_S1x512x128_S512x128⟩]
    concatenates_S512x128_S512x128_S512x128_S512x128_S512x512_d1
  have v20 : FVec F S512x1 .f32 := rsqrt (addf (divf (shapeCast S512x1 (multiReduction .add [1] S512 (mulf v11 v11) 0x00000000#32 reduces_S512x512_S512 (.inl rfl) rfl : FVec F S512 .f32) shapeCasts_S512_S512x1)
    (broadcast S512x1 (Scalar.ofBits .f32 0x44000000#32 : F .f32) : FVec F S512x1 .f32)) (broadcast S512x1 (Scalar.ofBits .f32 0x358637BD#32 : F .f32)))
  truncf .bf16 (mulf (mulf v11 (broadcastTo S512x512 v20 broadcasts_S512x1_S512x512))
    (broadcastTo S512x512 (VecWindow.window ga ![0, 0] S1x512.size inb_S1x512_S1x512_0_0 : FVec F S1x512 .f32) broadcasts_S1x512_S512x512)) bitsLt_bf16_f32

/-- The residual after the output projection. -/
def mid (x : Vec F S512x1024 .f32) (yr : Vec F S512x512 .bf16) (y : FVec F S512x512 .bf16) (wo : Vec F S1024x1024 .bf16) : FVec F S512x1024 .f32 :=
  addf (addf (VecWindow.window x ![0, 0] S512x1024.size inb_S512x1024_S512x1024_0_0 : FVec F S512x1024 .f32)
      (matmul dot_S512x512_S512x1024_S512x1024_1_0_0_1_n_n none (VecWindow.window yr ![0, 0] S512x512.size inb_S512x512_S512x512_0_0 : FVec F S512x512 .bf16)
        (VecWindow.window wo ![0, 0] S512x1024.size inb_S1024x1024_S512x1024_0_0 : FVec F S512x1024 .bf16) (constant S512x1024 .f32 0x00000000#32)))
    (matmul dot_S512x512_S512x1024_S512x1024_1_0_0_1_n_n none y (VecWindow.window wo ![512, 0] S512x1024.size inb_S1024x1024_S512x1024_512_0 : FVec F S512x1024 .bf16) (constant S512x1024 .f32 0x00000000#32))

/-- It, normalised and cast. -/
def normMid (v33 : FVec F S512x1024 .f32) (g2 : Vec F S1x1024 .f32) : FVec F S512x1024 .bf16 :=
  have v42 : FVec F S512x1 .f32 := rsqrt (addf (divf (shapeCast S512x1 (multiReduction .add [1] S512 (mulf v33 v33) 0x00000000#32 reduces_S512x1024_S512 (.inl rfl) rfl : FVec F S512 .f32) shapeCasts_S512_S512x1)
    (broadcast S512x1 (Scalar.ofBits .f32 0x44800000#32 : F .f32) : FVec F S512x1 .f32)) (broadcast S512x1 (Scalar.ofBits .f32 0x358637BD#32 : F .f32)))
  truncf .bf16 (mulf (mulf v33 (broadcastTo S512x1024 v42 broadcasts_S512x1_S512x1024))
    (broadcastTo S512x1024 (VecWindow.window g2 ![0, 0] S1x1024.size inb_S1x1024_S1x1024_0_0 : FVec F S1x1024 .f32) broadcasts_S1x1024_S512x1024)) bitsLt_bf16_f32

/-- 256 columns of the gated product. -/
def gated (p : FVec F S512x1024 .bf16) (wg wu : FVec F S1024x256 .bf16) : FVec F S512x256 .bf16 :=
  have a : FVec F S512x256 .f32 := matmul dot_S512x1024_S1024x256_S512x256_1_0_0_1_n_n none p wg (constant S512x256 .f32 0x00000000#32)
  have b : FVec F S512x256 .f32 := matmul dot_S512x1024_S1024x256_S512x256_1_0_0_1_n_n none p wu (constant S512x256 .f32 0x00000000#32)
  truncf .bf16 (mulf (mulf a (logistic a)) b) bitsLt_bf16_f32

theorem inbW {o : ℕ} (h : o + 256 ≤ 2816) : ∀ a, (![0, o] : Fin 2 → ℕ) a + S1024x256.size a ≤ S1024x2816.size a := by
  intro a; fin_cases a
  · show 0 + 1024 ≤ 1024; omega
  · show o + 256 ≤ 2816; omega

/-- The columns from `o` on. -/
def gatedAt (p : FVec F S512x1024 .bf16) (wg wu : Vec F S1024x2816 .bf16) (o : ℕ) (h : o + 256 ≤ 2816) : FVec F S512x256 .bf16 :=
  shapeCast S512x256 (gated p (VecWindow.window wg ![0, o] S1024x256.size (inbW h) : FVec F S1024x256 .bf16) (VecWindow.window wu ![0, o] S1024x256.size (inbW h) : FVec F S1024x256 .bf16)) shapeCasts_S512x256_S512x256

/-- All of them, put over what was there. -/
def hidden (p : FVec F S512x1024 .bf16) (wg wu : Vec F S1024x2816 .bf16) (h : Vec F S512x2816 .bf16) : Vec F S512x2816 .bf16 :=
  VecWindow.put (VecWindow.put (VecWindow.put (VecWindow.put (VecWindow.put (VecWindow.put (VecWindow.put (VecWindow.put (VecWindow.put (VecWindow.put (VecWindow.put h ![0, 0] S512x256.size (gatedAt p wg wu 0 (by decide))) ![0, 256] S512x256.size (gatedAt p wg wu 256 (by decide))) ![0, 512] S512x256.size (gatedAt p wg wu 512 (by decide))) ![0, 768] S512x256.size (gatedAt p wg wu 768 (by decide))) ![0, 1024] S512x256.size (gatedAt p wg wu 1024 (by decide))) ![0, 1280] S512x256.size (gatedAt p wg wu 1280 (by decide))) ![0, 1536] S512x256.size (gatedAt p wg wu 1536 (by decide))) ![0, 1792] S512x256.size (gatedAt p wg wu 1792 (by decide))) ![0, 2048] S512x256.size (gatedAt p wg wu 2048 (by decide))) ![0, 2304] S512x256.size (gatedAt p wg wu 2304 (by decide))) ![0, 2560] S512x256.size (gatedAt p wg wu 2560 (by decide))

/-- The block of the result. -/
def outBlk (x : Vec F S512x1024 .f32) (yr : Vec F S512x512 .bf16) (ya : Vec F S4x512x128 .f32) (ga : Vec F S1x512 .f32) (g2 : Vec F S1x1024 .f32)
    (wo : Vec F S1024x1024 .bf16) (wg wu : Vec F S1024x2816 .bf16) (wd : Vec F S2816x1024 .bf16) (h : Vec F S512x2816 .bf16) : FVec F S512x1024 .f32 :=
  have m := mid x yr (normYa ya ga) wo
  addf m (mulf (broadcast S512x1024 (Scalar.ofBits .f32 0x3F000000#32 : F .f32))
    (matmul dot_S512x2816_S2816x1024_S512x1024_1_0_0_1_n_n none (VecWindow.window (hidden (normMid m g2) wg wu h) ![0, 0] S512x2816.size inb_S512x2816_S512x2816_0_0 : FVec F S512x2816 .bf16)
      (VecWindow.window wd ![0, 0] S2816x1024.size inb_S2816x1024_S2816x1024_0_0 : FVec F S2816x1024 .bf16) (constant S512x1024 .f32 0x00000000#32)))

/-! ## The start -/

/-- The start: at the first grid point only, the four matrices come in. -/
noncomputable def start {α : Type} (i : grid0.Coords) (arg1 : Memref sig .tc .vmem S512x1024 .f32) (harg1 : arg1.IsWhole) (arg2 : Memref sig .tc .vmem S512x512 .bf16) (harg2 : arg2.IsWhole) (arg3 : Memref sig .tc .vmem S4x512x128 .f32) (harg3 : arg3.IsWhole) (arg4 : Memref sig .tc .vmem S1x512 .f32) (harg4 : arg4.IsWhole) (arg5 : Memref sig .tc .hbm S1024x1024 .f32) (harg5 : arg5.IsWhole) (arg6 : Memref sig .tc .vmem S1x1024 .f32) (harg6 : arg6.IsWhole) (arg7 : Memref sig .tc .hbm S1024x2816 .f32) (harg7 : arg7.IsWhole) (arg8 : Memref sig .tc .hbm S1024x2816 .f32) (harg8 : arg8.IsWhole) (arg9 : Memref sig .tc .hbm S2816x1024 .f32) (harg9 : arg9.IsWhole) (arg10 : Memref sig .tc .vmem S512x1024 .f32) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S6x128x2816 .f32) (harg15 : arg15.IsWhole) (arg16 : DmaSems sig S6) (arg17 : Memref sig .tc .vmem S1024x1024 .bf16) (harg17 : arg17.IsWhole)
    (kk : PUnit → Prog (TpuEff nD τ sig (Elt F) Λ₀ .tc) α) : Prog (TpuEff nD τ sig (Elt F) Λ₀ .tc) α :=
  if k0_h1 : k0_cond1 i = 1#1 then do
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17
    k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 k0_h1
    k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 k0_h1
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 k0_h1
    let v271 : Memref sig .tc .vmem S1x128x1024 .f32 := arg15.slice (Rect.unit (s := S6x128x2816) ![3, 0, 0] S1x128x1024.size inb_S6x128x2816_S1x128x1024_3_0_0) (fun _ => rfl)
    let v272 : Memref sig .tc .vmem S128x1024 .f32 := v271.squeeze S128x1024 squeezes_S1x128x1024_S128x1024
    let v273 : Memref sig .tc .hbm S128x1024 .f32 := arg9.slice (Rect.unit (s := S2816x1024) ![384, 0] S128x1024.size inb_S2816x1024_S128x1024_384_0) (fun _ => rfl)
    let v269 : DmaSems sig S1 := arg16.slice (Rect.unit (s := S6) ![3] S1.size inb_S6_S1_3)
    let v270 : DmaSems sig S_ := v269.squeeze S_ squeezes_S1_S_
    Prog.lift (.enqueueDma v273 (.here v272) (.dma v270.sem) (View.wordExact_bits rfl) ((View.wordExact_bits rfl).reshape _ _) ⟨Or.inl rfl, trivial⟩)
    let v274 : DmaSems sig S1 := arg16.slice (Rect.unit (s := S6) ![4] S1.size inb_S6_S1_4)
    let v275 : DmaSems sig S_ := v274.squeeze S_ squeezes_S1_S_
    let v276 : Memref sig .tc .vmem S1x128x1024 .f32 := arg15.slice (Rect.unit (s := S6x128x2816) ![4, 0, 0] S1x128x1024.size inb_S6x128x2816_S1x128x1024_4_0_0) (fun _ => rfl)
    let v277 : Memref sig .tc .vmem S128x1024 .f32 := v276.squeeze S128x1024 squeezes_S1x128x1024_S128x1024
    let v278 : Memref sig .tc .hbm S128x1024 .f32 := arg9.slice (Rect.unit (s := S2816x1024) ![512, 0] S128x1024.size inb_S2816x1024_S128x1024_512_0) (fun _ => rfl)
    Prog.lift (.enqueueDma v278 (.here v277) (.dma v275.sem) (View.wordExact_bits rfl) ((View.wordExact_bits rfl).reshape _ _) ⟨Or.inl rfl, trivial⟩)
    Scf.Loop.for k0_t4_loop (k0_t4_ok i k0_h1) ⟨⟩ fun k0_t4 _ => do
      if k0_h5 : k0_cond5 k0_t4 = 1#1 then do
        let v322 : DmaSems sig S1 := arg16.slice (Rect.unit (s := S6) (k0_off25 k0_t4) S1.size (k0_off25_inb i k0_t4 k0_h1 k0_h5))
        let v323 : DmaSems sig S_ := v322.squeeze S_ squeezes_S1_S_
        let v324 : Memref sig .tc .vmem S1x128x1024 .f32 := arg15.slice (Rect.unit (s := S6x128x2816) (k0_off26 k0_t4) S1x128x1024.size (k0_off26_inb i k0_t4 k0_h1 k0_h5)) (fun _ => rfl)
        let v325 : Memref sig .tc .vmem S128x1024 .f32 := v324.squeeze S128x1024 squeezes_S1x128x1024_S128x1024
        let v326 : Memref sig .tc .hbm S128x1024 .f32 := arg9.slice (Rect.unit (s := S2816x1024) (k0_off27 k0_t4) S128x1024.size (k0_off27_inb i k0_t4 k0_h1 k0_h5)) (fun _ => rfl)
        Prog.lift (.enqueueDma v326 (.here v325) (.dma v323.sem) (View.wordExact_bits rfl) ((View.wordExact_bits rfl).reshape _ _) ⟨Or.inl rfl, trivial⟩)
        pure ⟨⟩
      else do
        pure ⟨⟩
      let v296 : DmaSems sig S1 := arg16.slice (Rect.unit (s := S6) (k0_off28 k0_t4) S1.size (k0_off28_inb i k0_t4 k0_h1))
      let v297 : DmaSems sig S_ := v296.squeeze S_ squeezes_S1_S_
      let v298 : Memref sig .tc .vmem S1x128x1024 .f32 := arg15.slice (Rect.unit (s := S6x128x2816) (k0_off29 k0_t4) S1x128x1024.size (k0_off29_inb i k0_t4 k0_h1)) (fun _ => rfl)
      let v299 : Memref sig .tc .vmem S128x1024 .f32 := v298.squeeze S128x1024 squeezes_S1x128x1024_S128x1024
      let v300 : Memref sig .tc .hbm S128x1024 .f32 := arg9.slice (Rect.unit (s := S2816x1024) (k0_off30 k0_t4) S128x1024.size (k0_off30_inb i k0_t4 k0_h1)) (fun _ => rfl)
      Prog.lift (.waitDma2 v297.sem v300 v299 (View.wordExact_bits rfl) ((View.wordExact_bits rfl).reshape _ _))
      let v304 : Vec F S1x128x1024 .f32 ← Prog.lift (.load arg15 (Rect.unit (s := S6x128x2816) (k0_off31 k0_t4) S1x128x1024.size (k0_off31_inb i k0_t4 k0_h1)).toLoadRect (View.loadsAt_vmem h_S1x128x1024))
      have v305 : FVec F S128x1024 .f32 := shapeCast S128x1024 v304 shapeCasts_S1x128x1024_S128x1024
      have v306 : FVec F S128x1024 .bf16 := truncf .bf16 v305 bitsLt_bf16_f32
      let v308 : Vec F S128x1024 .bf16 ← Prog.lift (.load arg14 (Rect.unit (s := S2816x1024) (k0_off32 k0_t4) S128x1024.size (k0_off32_inb i k0_t4 k0_h1)).toLoadRect (View.loadsAt_vmem h_S128x1024))
      have v309 : FVec F S128x1024 .bf16 := shapeCast S128x1024 v308 shapeCasts_S128x1024_S128x1024
      have v310 : FVec F S128x1024 .bf16 := shapeCast S128x1024 v306 shapeCasts_S128x1024_S128x1024
      Prog.lift (.store arg14 (Rect.unit (s := S2816x1024) (k0_off32 k0_t4) S128x1024.size (k0_off32_inb i k0_t4 k0_h1)) v310 Finset.univ (View.stores_vmem h_S128x1024 (harg14.storeExact_slice rfl _ (k0_off32_packedbf16 i k0_t4 k0_h1)) (fun _ => rfl)) (.inl rfl))
      pure ⟨⟩
    kk ⟨⟩
  else do
    kk ⟨⟩

/-- What follows the start, to the first half of the output projection. -/
noncomputable def afterStart (i : grid0.Coords) (arg1 : Memref sig .tc .vmem S512x1024 .f32) (harg1 : arg1.IsWhole) (arg2 : Memref sig .tc .vmem S512x512 .bf16) (harg2 : arg2.IsWhole) (arg3 : Memref sig .tc .vmem S4x512x128 .f32) (harg3 : arg3.IsWhole) (arg4 : Memref sig .tc .vmem S1x512 .f32) (harg4 : arg4.IsWhole) (arg5 : Memref sig .tc .hbm S1024x1024 .f32) (harg5 : arg5.IsWhole) (arg6 : Memref sig .tc .vmem S1x1024 .f32) (harg6 : arg6.IsWhole) (arg7 : Memref sig .tc .hbm S1024x2816 .f32) (harg7 : arg7.IsWhole) (arg8 : Memref sig .tc .hbm S1024x2816 .f32) (harg8 : arg8.IsWhole) (arg9 : Memref sig .tc .hbm S2816x1024 .f32) (harg9 : arg9.IsWhole) (arg10 : Memref sig .tc .vmem S512x1024 .f32) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S6x128x2816 .f32) (harg15 : arg15.IsWhole) (arg16 : DmaSems sig S6) (arg17 : Memref sig .tc .vmem S1024x1024 .bf16) (harg17 : arg17.IsWhole) (_ : PUnit) :
    Prog (TpuEff nD τ sig (Elt F) Λ₀ .tc) (Σ' (v25 : FVec F S512x512 .bf16), FVec F S512x1024 .f32) := do
  let v3 : Vec F S1x512x128 .f32 ← Prog.lift (.load arg3 (Rect.unit (s := S4x512x128) ![0, 0, 0] S1x512x128.size inb_S4x512x128_S1x512x128_0_0_0).toLoadRect (View.loadsAt_vmem h_S1x512x128))
  have v4 : FVec F S512x128 .f32 := shapeCast S512x128 v3 shapeCasts_S1x512x128_S512x128
  let v5 : Vec F S1x512x128 .f32 ← Prog.lift (.load arg3 (Rect.unit (s := S4x512x128) ![1, 0, 0] S1x512x128.size inb_S4x512x128_S1x512x128_1_0_0).toLoadRect (View.loadsAt_vmem h_S1x512x128))
  have v6 : FVec F S512x128 .f32 := shapeCast S512x128 v5 shapeCasts_S1x512x128_S512x128
  let v7 : Vec F S1x512x128 .f32 ← Prog.lift (.load arg3 (Rect.unit (s := S4x512x128) ![2, 0, 0] S1x512x128.size inb_S4x512x128_S1x512x128_2_0_0).toLoadRect (View.loadsAt_vmem h_S1x512x128))
  have v8 : FVec F S512x128 .f32 := shapeCast S512x128 v7 shapeCasts_S1x512x128_S512x128
  let v9 : Vec F S1x512x128 .f32 ← Prog.lift (.load arg3 (Rect.unit (s := S4x512x128) ![3, 0, 0] S1x512x128.size inb_S4x512x128_S1x512x128_3_0_0).toLoadRect (View.loadsAt_vmem h_S1x512x128))
  have v10 : FVec F S512x128 .f32 := shapeCast S512x128 v9 shapeCasts_S1x512x128_S512x128
  have v11 : FVec F S512x512 .f32 := concatenate S512x512 1 [⟨S512x128, v4⟩, ⟨S512x128, v6⟩, ⟨S512x128, v8⟩, ⟨S512x128, v10⟩] concatenates_S512x128_S512x128_S512x128_S512x128_S512x512_d1
  let v12 : Vec F S1x512 .f32 ← Prog.lift (.load arg4 (Rect.unit (s := S1x512) ![0, 0] S1x512.size inb_S1x512_S1x512_0_0).toLoadRect (View.loadsAt_vmem h_S1x512))
  have v13 : FVec F S512x512 .f32 := mulf v11 v11
  have cst : FVec F S512 .f32 := constant S512 .f32 0x00000000#32
  have v14 : FVec F S512 .f32 := multiReduction .add [1] S512 v13 0x00000000#32 reduces_S512x512_S512 (.inl rfl) rfl
  have v15 : FVec F S512x1 .f32 := shapeCast S512x1 v14 shapeCasts_S512_S512x1
  have cst_11 : F .f32 := Scalar.ofBits .f32 0x44000000#32
  have v16 : FVec F S512x1 .f32 := broadcast S512x1 cst_11
  have v17 : FVec F S512x1 .f32 := divf v15 v16
  have cst_12 : F .f32 := Scalar.ofBits .f32 0x358637BD#32
  have v18 : FVec F S512x1 .f32 := broadcast S512x1 cst_12
  have v19 : FVec F S512x1 .f32 := addf v17 v18
  have v20 : FVec F S512x1 .f32 := rsqrt v19
  have v21 : FVec F S512x512 .f32 := broadcastTo S512x512 v20 broadcasts_S512x1_S512x512
  have v22 : FVec F S512x512 .f32 := mulf v11 v21
  have v23 : FVec F S512x512 .f32 := broadcastTo S512x512 v12 broadcasts_S1x512_S512x512
  have v24 : FVec F S512x512 .f32 := mulf v22 v23
  have v25 : FVec F S512x512 .bf16 := truncf .bf16 v24 bitsLt_bf16_f32
  let v26 : Vec F S512x1024 .f32 ← Prog.lift (.load arg1 (Rect.unit (s := S512x1024) ![0, 0] S512x1024.size inb_S512x1024_S512x1024_0_0).toLoadRect (View.loadsAt_vmem h_S512x1024))
  let v27 : Vec F S512x512 .bf16 ← Prog.lift (.load arg2 (Rect.unit (s := S512x512) ![0, 0] S512x512.size inb_S512x512_S512x512_0_0).toLoadRect (View.loadsAt_vmem h_S512x512))
  let v28 : Vec F S512x1024 .bf16 ← Prog.lift (.load arg17 (Rect.unit (s := S1024x1024) ![0, 0] S512x1024.size inb_S1024x1024_S512x1024_0_0).toLoadRect (View.loadsAt_vmem h_S512x1024))
  have cst_19 : FVec F S512x1024 .f32 := constant S512x1024 .f32 0x00000000#32
  have v29 : FVec F S512x1024 .f32 := matmul dot_S512x512_S512x1024_S512x1024_1_0_0_1_n_n none v27 v28 cst_19
  have v30 : FVec F S512x1024 .f32 := addf v26 v29
  pure ⟨v25, v30⟩

theorem part5_eq (i : grid0.Coords) (arg1 : Memref sig .tc .vmem S512x1024 .f32) (harg1 : arg1.IsWhole) (arg2 : Memref sig .tc .vmem S512x512 .bf16) (harg2 : arg2.IsWhole) (arg3 : Memref sig .tc .vmem S4x512x128 .f32) (harg3 : arg3.IsWhole) (arg4 : Memref sig .tc .vmem S1x512 .f32) (harg4 : arg4.IsWhole) (arg5 : Memref sig .tc .hbm S1024x1024 .f32) (harg5 : arg5.IsWhole) (arg6 : Memref sig .tc .vmem S1x1024 .f32) (harg6 : arg6.IsWhole) (arg7 : Memref sig .tc .hbm S1024x2816 .f32) (harg7 : arg7.IsWhole) (arg8 : Memref sig .tc .hbm S1024x2816 .f32) (harg8 : arg8.IsWhole) (arg9 : Memref sig .tc .hbm S2816x1024 .f32) (harg9 : arg9.IsWhole) (arg10 : Memref sig .tc .vmem S512x1024 .f32) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S6x128x2816 .f32) (harg15 : arg15.IsWhole) (arg16 : DmaSems sig S6) (arg17 : Memref sig .tc .vmem S1024x1024 .bf16) (harg17 : arg17.IsWhole) :
    k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 = start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 (afterStart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17) := rfl

section Start
theorem WP_bind {α β : Type} (c : Dev nD) (p : Prog (TpuEff nD τ sig (Elt F) Λ₀ .tc) α) (f : α → Prog (TpuEff nD τ sig (Elt F) Λ₀ .tc) β) (Q : β → sProp 𝕄) :
    WP c (p >>= f) Q = WP c p (fun a => WP c (f a) Q) := wp_bind _ _ _ _ _ _

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S4x512x128 .f32) (harg3 : arg3.IsWhole) (arg4 : Memref sig .tc .vmem S1x512 .f32) (harg4 : arg4.IsWhole) (arg5 : Memref sig .tc .hbm S1024x1024 .f32) (harg5 : arg5.IsWhole) (arg6 : Memref sig .tc .vmem S1x1024 .f32) (harg6 : arg6.IsWhole) (arg7 : Memref sig .tc .hbm S1024x2816 .f32) (harg7 : arg7.IsWhole) (arg8 : Memref sig .tc .hbm S1024x2816 .f32) (harg8 : arg8.IsWhole) (arg9 : Memref sig .tc .hbm S2816x1024 .f32) (harg9 : arg9.IsWhole) (arg10 : Memref sig .tc .vmem S512x1024 .f32) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S6x128x2816 .f32) (harg15 : arg15.IsWhole) (arg16 : DmaSems sig S6) (arg17 : Memref sig .tc .vmem S1024x1024 .bf16) (harg17 : arg17.IsWhole)
  (X5 : Buf (Elt F) (arg5.view.loc (c : Thread nD τ))) (X7 : Buf (Elt F) (arg7.view.loc (c : Thread nD τ))) (X8 : Buf (Elt F) (arg8.view.loc (c : Thread nD τ))) (X9 : Buf (Elt F) (arg9.view.loc (c : Thread nD τ)))

/-- The weights in fast memory. -/
def weights (w17 : Vec F S1024x1024 .bf16) (w12 w13 : Vec F S1024x2816 .bf16) (w14 : Vec F S2816x1024 .bf16) : sProp 𝕄 :=
  iprop(owns (c : Thread nD τ) arg17 fullShare w17 ∗ owns (c : Thread nD τ) arg12 fullShare w12 ∗ owns (c : Thread nD τ) arg13 fullShare w13 ∗ owns (c : Thread nD τ) arg14 fullShare w14)

/-- What only the start needs: the slots at rest and the matrices where they come from. -/
def store : sProp 𝕄 :=
  iprop(rest c arg15 arg16 ∗ full c arg5 X5 ∗ full c arg7 X7 ∗ full c arg8 X8 ∗ full c arg9 X9)

theorem start_later {α : Type} (h1 : ¬ k0_cond1 i = 1#1) (kk : PUnit → Prog (TpuEff nD τ sig (Elt F) Λ₀ .tc) α) (K : α → sProp 𝕄) :
    WP c (kk ⟨⟩) K ⊢ WP c (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 kk) K := by
  unfold start
  rw [dif_neg h1]

theorem start_first {α : Type} (kk : PUnit → Prog (TpuEff nD τ sig (Elt F) Λ₀ .tc) α) (k0_h1 : k0_cond1 i = 1#1) (w17 : Vec F S1024x1024 .bf16) (w12 w13 : Vec F S1024x2816 .bf16) (w14 : Vec F S2816x1024 .bf16) (K : α → sProp 𝕄) :
    iprop((store c arg5 arg7 arg8 arg9 arg15 arg16 X5 X7 X8 X9 ∗ due c ∗ weights c arg12 arg13 arg14 arg17 w17 w12 w13 w14)
        ∗ ((store c arg5 arg7 arg8 arg9 arg15 arg16 X5 X7 X8 X9 ∗ due c ∗ weights c arg12 arg13 arg14 arg17 (castV (arg5.view.read (Elt F) X5)) (castV (arg7.view.read (Elt F) X7)) (castV (arg8.view.read (Elt F) X8)) (castV (arg9.view.read (Elt F) X9))) -∗ WP c (kk ⟨⟩) K))
      ⊢ WP c (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 kk) K := by
  have go4 := fun a (h : a < 5) => @issue nD τ sig Λ₀ F _ defs₀ c arg15 arg16 2816 1024 narrow squeezes_S1x128x1024_S128x1024 arg9 X9 α 0 a (by omega) (by omega) (by omega) (units1024 arg15)
  unfold start
  rw [dif_pos k0_h1]
  rw [WP_bind]
  refine BIBase.Entails.trans ?_ (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 X5 _)
  unfold store weights
  iintro ⟨⟨⟨Hrest, H5, H7, H8, H9⟩, HW, H17, H12, H13, H14⟩, Hk⟩
  ihave H := (ring_enter c arg15 arg16 narrow squeezes_S1x128x1024_S128x1024 arg5 X5) $$ [Hrest H5]
  · isplitl [Hrest]; · iexact Hrest
    iexact H5
  icases H with ⟨HR, Hkept⟩
  isplitl [HR]; · iexact HR
  iintro HR
  rw [WP_bind]
  iapply (part2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 X5 X7 k0_h1 w17 _)
  isplitl [HR Hkept HW H17 H7]
  · isplitl [HR]; · iexact HR
    isplitl [Hkept]; · iexact Hkept
    isplitl [HW]; · iexact HW
    isplitl [H17]; · iexact H17
    iexact H7
  iintro ⟨H5, HR, Hkept, HW, H17⟩
  rw [WP_bind]
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 X7 X8 k0_h1 w12 _)
  isplitl [HR Hkept HW H12 H8]
  · isplitl [HR]; · iexact HR
    isplitl [Hkept]; · iexact Hkept
    isplitl [HW]; · iexact HW
    isplitl [H12]; · iexact H12
    iexact H8
  iintro ⟨H7, HR, Hkept, HW, H12⟩
  rw [WP_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 X8 X9 k0_h1 w13 _)
  isplitl [HR Hkept HW H13 H9]
  · isplitl [HR]; · iexact HR
    isplitl [Hkept]; · iexact Hkept
    isplitl [HW]; · iexact HW
    isplitl [H13]; · iexact H13
    iexact H9
  iintro ⟨H8, HR, Hkept, HW, H13⟩
  iapply (go4 3 (by decide) _ _ _ rfl rfl rfl _ _ _ _ _)
  isplitl [HR]; · iexact HR
  iintro HR
  iapply (go4 4 (by decide) _ _ _ rfl rfl rfl _ _ _ _ _)
  isplitl [HR]; · iexact HR
  iintro HR
  iapply (loop_run c arg15 arg16 narrow squeezes_S1x128x1024_S128x1024 arg9 X9 arg14 k0_t4_loop (k0_t4_ok i k0_h1) trips4 rfl (by decide) w14 _ ?_)
  · intro k K
    exact trip_run c arg15 arg16 narrow squeezes_S1x128x1024_S128x1024 arg9 X9 arg14 w14 rfl (lt_of_lt_of_eq k.isLt trips4) (units1024 arg15) (cond5_iff k)
      _ _ _ _ _ _ _ _ (fun _ => off27_eq k) (fun _ => off26_eq k) (fun _ => off25_eq k) (off29_eq k) (off28_eq k) (off31_eq k) (off32_eq k)
      _ _ _ _ _ _ _ _ _ _ _ K
  isplitl [HR Hkept HW H14]
  · isplitl [HR]; · iexact HR
    isplitl [Hkept]; · iexact Hkept
    isplitl [HW]; · iexact HW
    iexact H14
  iintro ⟨Hrest, H9, HW, H14⟩
  iapply Hk
  isplitl [Hrest H5 H7 H8 H9]
  · isplitl [Hrest]; · iexact Hrest
    isplitl [H5]; · iexact H5
    isplitl [H7]; · iexact H7
    isplitl [H8]; · iexact H8
    iexact H9
  isplitl [HW]; · iexact HW
  isplitl [H17]; · iexact H17
  isplitl [H12]; · iexact H12
  isplitl [H13]; · iexact H13
  iexact H14

/-! ## The whole -/

theorem body_run (x : Vec F S512x1024 .f32) (yr : Vec F S512x512 .bf16) (ya : Vec F S4x512x128 .f32) (ga : Vec F S1x512 .f32) (g2 : Vec F S1x1024 .f32)
    (w17 : Vec F S1024x1024 .bf16) (w12 w13 : Vec F S1024x2816 .bf16) (w14 : Vec F S2816x1024 .bf16)
    (Pre Post : sProp 𝕄)
    (hstart : ∀ {α : Type} (kk : PUnit → Prog (TpuEff nD τ sig (Elt F) Λ₀ .tc) α) (K : α → sProp 𝕄),
      iprop(Pre ∗ ((Post ∗ weights c arg12 arg13 arg14 arg17 w17 w12 w13 w14) -∗ WP c (kk ⟨⟩) K)) ⊢ WP c (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17 kk) K)
    (K : PUnit → sProp 𝕄) :
    iprop((Pre ∗ owns (c : Thread nD τ) arg1 fullShare x ∗ owns (c : Thread nD τ) arg2 fullShare yr ∗ owns (c : Thread nD τ) arg3 fullShare ya
          ∗ owns (c : Thread nD τ) arg4 fullShare ga ∗ owns (c : Thread nD τ) arg6 fullShare g2
          ∗ (∃ o, owns (c : Thread nD τ) arg10 fullShare o) ∗ (∃ h, owns (c : Thread nD τ) arg11 fullShare h))
        ∗ ((Post ∗ weights c arg12 arg13 arg14 arg17 w17 w12 w13 w14 ∗ owns (c : Thread nD τ) arg1 fullShare x ∗ owns (c : Thread nD τ) arg2 fullShare yr
            ∗ owns (c : Thread nD τ) arg3 fullShare ya ∗ owns (c : Thread nD τ) arg4 fullShare ga ∗ owns (c : Thread nD τ) arg6 fullShare g2
            ∗ (∃ h, owns (c : Thread nD τ) arg10 fullShare (outBlk x yr ya ga g2 w17 w12 w13 w14 h)) ∗ (∃ h, owns (c : Thread nD τ) arg11 fullShare h)) -∗ K ⟨⟩))
      ⊢ WP c (cc0_ffn_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 harg17) K := by
  unfold cc0_ffn_out
  rw [WP_bind]
  rw [part5_eq]
  refine BIBase.Entails.trans ?_ (hstart _ _)
  unfold weights owns
  iintro ⟨⟨HP, ⟨%f1, %h1, H1⟩, ⟨%f2, %h2, H2⟩, ⟨%f3, %h3, H3⟩, ⟨%f4, %h4, H4⟩, ⟨%f6, %h6, H6⟩, ⟨%o10, %f10, %h10, H10⟩, ⟨%o11, %f11, %h11, H11⟩⟩, Hk⟩
  isplitl [HP]; · iexact HP
  iintro ⟨HP, ⟨%f17, %h17, H17⟩, ⟨%f12, %h12, H12⟩, ⟨%f13, %h13, H13⟩, ⟨%f14, %h14, H14⟩⟩
  delta WP
  beta_reduce
  sl_exec
  sl_step
  have e10 : arg10.view.read (Elt F) (arg10.view.writes (Elt F) f10
      [⟨Rect.unit ![0, 0] S512x1024.size inb_S512x1024_S512x1024_0_0,
          body_run.sl.v174 c arg1 arg2 arg3 arg4 arg6 arg11 arg12 arg13 arg14 arg17 f1 f2 f3 f4 f6 f17 f12 f13 f14⟩])
      = outBlk x yr ya ga g2 w17 w12 w13 w14 (arg11.view.read (Elt F) arg11.view.junk) := by
    refine (View.read_writes_full arg10.view f10 inb_S512x1024_S512x1024_0_0 _ []).trans ?_
    have e11 : arg11.view.readCov (body_run.sl.H11_11 c arg1 arg2 arg3 arg4 arg6 arg12 arg13 arg17 f1 f2 f3 f4 f6 f17 f12 f13)
        (Rect.unit ![0, 0] S512x2816.size inb_S512x2816_S512x2816_0_0).toLoadRect
        = VecWindow.window (hidden (normMid (mid x yr (normYa ya ga) w17) g2) w12 w13 (arg11.view.read (Elt F) arg11.view.junk)) ![0, 0] S512x2816.size inb_S512x2816_S512x2816_0_0 := by
      refine (View.readAt_unit arg11.view _ inb_S512x2816_S512x2816_0_0 rfl inb_S512x2816_S512x2816_0_0).trans ?_
      refine congrArg (fun z => VecWindow.window z _ _ _) ?_
      delta body_run.sl.H11_11
      rw [View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl, View.read_writes_cons_put arg11.view arg11.view.junk _ _ _ rfl]
      cases h1; cases h2; cases h3; cases h4; cases h6; cases h17; cases h12; cases h13
      rfl
    delta body_run.sl.v174 body_run.sl.v173 body_run.sl.v171 body_run.sl.v169
    rw [e11]
    cases h1; cases h2; cases h3; cases h4; cases h6; cases h17; cases h14
    rfl
  iapply Hk
  isplitl [HP]; · iexact HP
  isplitl [H17 H12 H13 H14]
  · isplitl [H17]; · iexists _; isplitr; swap; · iexact H17
                     ipureintro; exact h17
    isplitl [H12]; · iexists _; isplitr; swap; · iexact H12
                     ipureintro; exact h12
    isplitl [H13]; · iexists _; isplitr; swap; · iexact H13
                     ipureintro; exact h13
    iexists _; isplitr; swap; · iexact H14
    ipureintro; exact h14
  isplitl [H1]; · iexists _; isplitr; swap; · iexact H1
                  ipureintro; exact h1
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H6]; · iexists _; isplitr; swap; · iexact H6
                  ipureintro; exact h6
  isplitl [H10]
  · iexists (arg11.view.read (Elt F) arg11.view.junk)
    iexists _; isplitr; swap; · iexact H10
    ipureintro; exact e10
  iexists _; iexists _; isplitr; swap; · iexact H11
  ipureintro; rfl

end Start

end Cert.Kernel2Ideal.Ffn

end
-- ==== Proof.FfnHidden.lean ====
/- The gated product, column block by column block, is one array whatever the scratch held before. -/
module

public import proofs.«01_k».proof.Proof.FfnBody
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

variable {F : FTy → Type} [FloatOps F]

local notation "𝕄" => MT nD τ sig Unit (Elt F) ℕ UU ℕ

theorem put_agree {v G : Vec F S512x2816 .bf16} {o : ℕ} {w : Vec F S512x256 .bf16} (hv : ∀ y, (y 1).val < o → v y = G y)
    (hw : ∀ (y : S512x2816.Idx) (h : o ≤ (y 1).val ∧ (y 1).val < o + 256), w (ix2 (n0 := 512) (n1 := 256) (y 0) ⟨(y 1).val - o, by omega⟩) = G y) (y : S512x2816.Idx) (hy : (y 1).val < o + 256) :
    VecWindow.put v ![0, o] S512x256.size w y = G y := by
  have y0 : (y 0).val < 512 := (y 0).isLt
  unfold VecWindow.put
  split
  · rename_i h
    have h1 : o ≤ (y 1).val ∧ (y 1).val < o + 256 := h 1
    rw [← hw y h1]
    congr 1
    funext a; apply Fin.ext
    fin_cases a
    · show (y 0).val - 0 = (y 0).val; omega
    · rfl
  · rename_i h
    refine hv y ?_
    by_contra hn
    refine h fun a => ?_
    fin_cases a
    · show 0 ≤ (y 0).val ∧ (y 0).val < 0 + 512; omega
    · show o ≤ (y 1).val ∧ (y 1).val < o + 256; omega

theorem col_inb (y : S512x2816.Idx) : 256 * ((y 1).val / 256) + 256 ≤ 2816 := by
  have h1 : (y 1).val < 2816 := (y 1).isLt
  omega

/-- The gated product as one array. -/
def hid (p : FVec F S512x1024 .bf16) (wg wu : Vec F S1024x2816 .bf16) : Vec F S512x2816 .bf16 :=
  fun y => gatedAt p wg wu (256 * ((y 1).val / 256)) (col_inb y) (ix2 (n0 := 512) (n1 := 256) (y 0) ⟨(y 1).val % 256, Nat.mod_lt _ (by decide)⟩)

theorem hid_at (p : FVec F S512x1024 .bf16) (wg wu : Vec F S1024x2816 .bf16) {o k : ℕ} (h : o + 256 ≤ 2816) (y : S512x2816.Idx)
    (hy : o ≤ (y 1).val ∧ (y 1).val < o + 256) (hk : o = 256 * k) :
    gatedAt p wg wu o h (ix2 (n0 := 512) (n1 := 256) (y 0) ⟨(y 1).val - o, by omega⟩) = hid p wg wu y := by
  have go : ∀ {o' : ℕ} (h' : o' + 256 ≤ 2816) {i j : Fin 256}, o = o' → i = j →
      gatedAt p wg wu o h (ix2 (n0 := 512) (n1 := 256) (y 0) i) = gatedAt p wg wu o' h' (ix2 (n0 := 512) (n1 := 256) (y 0) j) := by
    rintro _ _ _ _ rfl rfl; rfl
  refine go _ (by omega) (Fin.ext ?_)
  show (y 1).val - o = (y 1).val % 256
  omega

theorem hidden_eq (p : FVec F S512x1024 .bf16) (wg wu : Vec F S1024x2816 .bf16) (h : Vec F S512x2816 .bf16) : hidden p wg wu h = hid p wg wu := by
  have h0 : ∀ y : S512x2816.Idx, (y 1).val < 0 → h y = hid p wg wu y := fun y hy => absurd hy (Nat.not_lt_zero _)
  have h1 := put_agree (o := 0) h0 fun y h => hid_at p wg wu (by decide) y h (k := 0) rfl
  have h2 := put_agree (o := 256) h1 fun y h => hid_at p wg wu (by decide) y h (k := 1) rfl
  have h3 := put_agree (o := 512) h2 fun y h => hid_at p wg wu (by decide) y h (k := 2) rfl
  have h4 := put_agree (o := 768) h3 fun y h => hid_at p wg wu (by decide) y h (k := 3) rfl
  have h5 := put_agree (o := 1024) h4 fun y h => hid_at p wg wu (by decide) y h (k := 4) rfl
  have h6 := put_agree (o := 1280) h5 fun y h => hid_at p wg wu (by decide) y h (k := 5) rfl
  have h7 := put_agree (o := 1536) h6 fun y h => hid_at p wg wu (by decide) y h (k := 6) rfl
  have h8 := put_agree (o := 1792) h7 fun y h => hid_at p wg wu (by decide) y h (k := 7) rfl
  have h9 := put_agree (o := 2048) h8 fun y h => hid_at p wg wu (by decide) y h (k := 8) rfl
  have h10 := put_agree (o := 2304) h9 fun y h => hid_at p wg wu (by decide) y h (k := 9) rfl
  have h11 := put_agree (o := 2560) h10 fun y h => hid_at p wg wu (by decide) y h (k := 10) rfl
  funext y
  exact h11 y (y 1).isLt

/-- The block of the result, without what the scratch held. -/
def outV (x : Vec F S512x1024 .f32) (yr : Vec F S512x512 .bf16) (ya : Vec F S4x512x128 .f32) (ga : Vec F S1x512 .f32) (g2 : Vec F S1x1024 .f32)
    (wo : Vec F S1024x1024 .bf16) (wg wu : Vec F S1024x2816 .bf16) (wd : Vec F S2816x1024 .bf16) : FVec F S512x1024 .f32 :=
  addf (mid x yr (normYa ya ga) wo) (mulf (broadcast S512x1024 (Scalar.ofBits .f32 0x3F000000#32 : F .f32))
    (matmul dot_S512x2816_S2816x1024_S512x1024_1_0_0_1_n_n none
      (VecWindow.window (hid (normMid (mid x yr (normYa ya ga) wo) g2) wg wu) ![0, 0] S512x2816.size inb_S512x2816_S512x2816_0_0 : FVec F S512x2816 .bf16)
      (VecWindow.window wd ![0, 0] S2816x1024.size inb_S2816x1024_S2816x1024_0_0 : FVec F S2816x1024 .bf16) (constant S512x1024 .f32 0x00000000#32)))

theorem outBlk_eq (x : Vec F S512x1024 .f32) (yr : Vec F S512x512 .bf16) (ya : Vec F S4x512x128 .f32) (ga : Vec F S1x512 .f32) (g2 : Vec F S1x1024 .f32)
    (wo : Vec F S1024x1024 .bf16) (wg wu : Vec F S1024x2816 .bf16) (wd : Vec F S2816x1024 .bf16) (h : Vec F S512x2816 .bf16) :
    outBlk x yr ya ga g2 wo wg wu wd h = outV x yr ya ga g2 wo wg wu wd := by
  unfold outBlk outV
  simp only [hidden_eq]

end Cert.Kernel2Ideal.Ffn

end
-- ==== Proof.FfnRegion.lean ====
/- The launch: the call at every grid point, and what the program leaves in memory. -/
module

public import proofs.«01_k».proof.Proof.FfnHidden
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Pipeline.FrameBody
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

variable {F : FTy → Type} [FloatOps F]

local notation "𝕄" => MT nD τ sig Unit (Elt F) ℕ UU ℕ

open Idealize.ShloMosaic.Pipeline (Dat Cfg Window BodyObligation cellOf)
open Cert.Kernel2Ideal.Gen

variable (m : (ℓ : Loc nD τ sig) → Buf (Elt F) ℓ) (ρ : Dev nD → PrngReg)

abbrev EP : Emb (UR sig nD τ) (MT nD τ sig Unit (Elt F) ℕ UU ℕ) := embL

/-- Core `c`'s buffers when the call is entered. -/
abbrev V (c : Dev nD) (b : Ref sig .tc) : Buf (Elt F) ((c : Thread nD τ).loc b) := m ((c : Thread nD τ).loc b)

/-! ## The scratch -/

abbrev stage : Memref sig .tc .vmem S6x128x2816 .f32 := Memref.whole cc0_scratch4
abbrev osem : Fin 6 → SemLoc sig := fun s => .dma (semAt cc0_scratch5 s)
theorem ownSemFacts : Pipeline.OwnSemFacts spec0 osem := by decide

abbrev rows (s : Fin 6) : Finset S6x128x2816.Idx := (Rect.unit (s := S6x128x2816) ![s.val, 0, 0] (⟨3, ![1, 128, 2816]⟩ : Shape).size (slotInb s.isLt le_rfl)).set

theorem mem_rows (s : Fin 6) (y : S6x128x2816.Idx) : y ∈ rows s ↔ (y 0).val = s.val := by
  rw [Rect.mem_set_unit]
  have h1 : (y 1).val < 128 := (y 1).isLt
  have h2 : (y 2).val < 2816 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2816; omega
theorem rows_disjoint : ∀ s s' : Fin 6, s ≠ s' → Disjoint (rows s) (rows s') := by
  intro s s' hne; rw [Finset.disjoint_left]; intro y hy hy'; rw [mem_rows] at hy hy'; exact hne (Fin.ext (hy.symm.trans hy'))
theorem rows_cover : (Finset.univ : Finset (Fin 6)).biUnion rows = Finset.univ := by
  ext y; simp only [Finset.mem_biUnion, Finset.mem_univ, true_and, iff_true]; exact ⟨(y 0).cast (by decide), by rw [mem_rows]; rfl⟩
theorem slotSet_eq (c : Dev nD) (s : Fin 6) : slotSet (τ := τ) c stage s = rows s := View.set_slice_whole _ _

/-- The slots at rest are the semaphores at zero and the slots' rows. -/
theorem rest_eq (c : Dev nD) : (rest c stage cc0_scratch5 : sProp 𝕄)
    = iprop(Pipeline.ownSems0 osem c ∗ bigSep Finset.univ (fun s => iprop(∃ f : Buf (Elt F) ((c : Thread nD τ).loc cc0_scratch4), ((c : Thread nD τ).loc cc0_scratch4) ↦[rows s]{fullShare} f))) := by
  unfold rest Pipeline.ownSems0
  refine (bigSep_congr fun s _ => ?_).trans (BI.bigSep_sep Finset.univ (fun s => semVal ((c : Thread nD τ), osem s) 0)
    (fun s => iprop(∃ f : Buf (Elt F) ((c : Thread nD τ).loc cc0_scratch4), ((c : Thread nD τ).loc cc0_scratch4) ↦[rows s]{fullShare} f)))
  unfold base
  rw [slotSet_eq]
  rfl

theorem slot_any (c : Dev nD) (s : Fin 6) (f : Buf (Elt F) ((c : Thread nD τ).loc cc0_scratch4)) :
    iprop(((c : Thread nD τ).loc cc0_scratch4) ↦[rows s]{fullShare} f)
      ⊢ (iprop(∃ f : Buf (Elt F) ((c : Thread nD τ).loc cc0_scratch4), ((c : Thread nD τ).loc cc0_scratch4) ↦[rows s]{fullShare} f) : sProp 𝕄) := by
  iintro H; iexists f; iexact H

theorem rows_any (c : Dev nD) (f : Buf (Elt F) ((c : Thread nD τ).loc cc0_scratch4)) :
    iprop(((c : Thread nD τ).loc cc0_scratch4) ↦{fullShare} f)
      ⊢ (iprop(bigSep Finset.univ (fun s => iprop(∃ f : Buf (Elt F) ((c : Thread nD τ).loc cc0_scratch4), ((c : Thread nD τ).loc cc0_scratch4) ↦[rows s]{fullShare} f))) : sProp 𝕄) := by
  rw [Ring.pointsTo_blocks (ℓ := (c : Thread nD τ).loc cc0_scratch4) rows rows_disjoint rows_cover]
  exact bigSep_mono fun s _ => slot_any c s f

theorem rest_enter (c : Dev nD) : iprop(Pipeline.ownSems0 osem c ∗ ∃ f : Buf (Elt F) ((c : Thread nD τ).loc cc0_scratch4), ((c : Thread nD τ).loc cc0_scratch4) ↦{fullShare} f)
    ⊢ (rest c stage cc0_scratch5 : sProp 𝕄) := by
  rw [rest_eq]
  iintro ⟨Hs, %f, H⟩
  isplitl [Hs]; · iexact Hs
  iapply (rows_any c f); iexact H

theorem rest_exit (c : Dev nD) : (rest c stage cc0_scratch5 : sProp 𝕄)
    ⊢ iprop(Pipeline.ownSems0 osem c ∗ ∃ f : Buf (Elt F) ((c : Thread nD τ).loc cc0_scratch4), ((c : Thread nD τ).loc cc0_scratch4) ↦{fullShare} f) := by
  rw [rest_eq]
  iintro ⟨Hs, H⟩
  isplitl [Hs]; · iexact Hs
  iapply (Ring.pointsTo_blocks_join_exists (ℓ := (c : Thread nD τ).loc cc0_scratch4) rows rows_disjoint rows_cover (fun _ => Classical.arbitrary _)) $$ H

/-- The weights where they come from. -/
abbrev X4 (c : Dev nD) : Vec F S1024x1024 .f32 := V m c main_arg4
abbrev X6 (c : Dev nD) : Vec F S1024x2816 .f32 := V m c main_arg6
abbrev X7 (c : Dev nD) : Vec F S1024x2816 .f32 := V m c main_arg7
abbrev X8 (c : Dev nD) : Vec F S2816x1024 .f32 := V m c main_arg8

/-- The slots at rest and the four matrices. -/
abbrev mats (c : Dev nD) : sProp 𝕄 := store c (Memref.whole main_arg4) (Memref.whole main_arg6) (Memref.whole main_arg7) (Memref.whole main_arg8) stage cc0_scratch5 (X4 m c) (X6 m c) (X7 m c) (X8 m c)

/-- The weights in fast memory. -/
abbrev fast (c : Dev nD) (w17 : Vec F S1024x1024 .bf16) (w12 w13 : Vec F S1024x2816 .bf16) (w14 : Vec F S2816x1024 .bf16) : sProp 𝕄 :=
  weights c (Memref.whole cc0_scratch1) (Memref.whole cc0_scratch2) (Memref.whole cc0_scratch3) (Memref.whole cc0_scratch6) w17 w12 w13 w14

/-- What they hold before point `k`: at first anything, then the matrices. -/
def phase (c : Dev nD) (k : ℕ) : sProp 𝕄 :=
  if k = 0 then iprop(∃ w17 w12 w13 w14, fast c w17 w12 w13 w14) else fast c (castV (X4 m c)) (castV (X6 m c)) (castV (X7 m c)) (castV (X8 m c))

/-- What is kept around the call from point to point. -/
def Φ (c : Dev nD) (k : ℕ) : sProp 𝕄 :=
  iprop(mats m c ∗ (∃ h, owns (c : Thread nD τ) (Memref.whole cc0_scratch0) fullShare h) ∗ phase m c k)

/-! ## The windows -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call leaves in the result's block at point `t`. -/
def outAt (c : Dev nD) (t : Fin cfg0.N) : Vec F S512x1024 .f32 :=
  outV (iblk m c 0 t) (iblk m c 1 t) (iblk m c 2 t) (iblk m c 3 t) (iblk m c 4 t) (castV (X4 m c)) (castV (X6 m c)) (castV (X7 m c)) (castV (X8 m c))

theorem before_of_0 {c : Dev nD} (dat : Dat τ (Elt F) Unit ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ UU ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ UU ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ UU ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The windows' buffers at point `t`. -/
abbrev stg0 (t : Fin cfg0.N) : Memref sig .tc .vmem S512x1024 .f32 := win0_0.stage (cfg0.slots t 0)
abbrev stg1 (t : Fin cfg0.N) : Memref sig .tc .vmem S512x512 .bf16 := win0_1.stage (cfg0.slots t 1)
abbrev stg2 (t : Fin cfg0.N) : Memref sig .tc .vmem S4x512x128 .f32 := win0_2.stage (cfg0.slots t 2)
abbrev stg3 (t : Fin cfg0.N) : Memref sig .tc .vmem S1x512 .f32 := win0_3.stage (cfg0.slots t 3)
abbrev stg4 (t : Fin cfg0.N) : Memref sig .tc .vmem S1x1024 .f32 := win0_4.stage (cfg0.slots t 4)
abbrev stg5 (t : Fin cfg0.N) : Memref sig .tc .vmem S512x1024 .f32 := win0_5.stage (cfg0.slots t 5)

/-- What the pipeline holds around the call at each point. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := Φ m c k.val
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = outAt m c t := by dsimp only [dats]; try rfl
theorem before_0 (c : Dev nD) (t : Fin cfg0.N) (d) : (dats m 0 c).before 0 t d = iblk m c 0 t := before_of_0 m (dats m 0 c) (dats_A m c 0) (after_0 m c) t d
theorem before_1 (c : Dev nD) (t : Fin cfg0.N) (d) : (dats m 0 c).before 1 t d = iblk m c 1 t := before_of_1 m (dats m 0 c) (dats_A m c 1) (after_1 m c) t d
theorem before_2 (c : Dev nD) (t : Fin cfg0.N) (d) : (dats m 0 c).before 2 t d = iblk m c 2 t := before_of_2 m (dats m 0 c) (dats_A m c 2) (after_2 m c) t d
theorem before_3 (c : Dev nD) (t : Fin cfg0.N) (d) : (dats m 0 c).before 3 t d = iblk m c 3 t := before_of_3 m (dats m 0 c) (dats_A m c 3) (after_3 m c) t d
theorem before_4 (c : Dev nD) (t : Fin cfg0.N) (d) : (dats m 0 c).before 4 t d = iblk m c 4 t := before_of_4 m (dats m 0 c) (dats_A m c 4) (after_4 m c) t d

/-- The call at point `t`. -/
abbrev bodyAt (t : Fin cfg0.N) : Prog (TpuEff nD τ sig (Elt F) Λ₀ .tc) PUnit :=
  cc0_ffn_out (grid0.coords t) (stg0 t) (Facts₀.hstage0_0 ((cfg0.slots t 0).cast Facts₀.nbuf0_0)) (stg1 t) (Facts₀.hstage0_1 ((cfg0.slots t 1).cast Facts₀.nbuf0_1)) (stg2 t) (Facts₀.hstage0_2 ((cfg0.slots t 2).cast Facts₀.nbuf0_2)) (stg3 t) (Facts₀.hstage0_3 ((cfg0.slots t 3).cast Facts₀.nbuf0_3)) (Memref.whole main_arg4) (Memref.isWhole_whole _) (stg4 t) (Facts₀.hstage0_4 ((cfg0.slots t 4).cast Facts₀.nbuf0_4)) (Memref.whole main_arg6) (Memref.isWhole_whole _) (Memref.whole main_arg7) (Memref.isWhole_whole _) (Memref.whole main_arg8) (Memref.isWhole_whole _) (stg5 t) (Facts₀.hstage0_5 ((cfg0.slots t 5).cast Facts₀.nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _)

theorem defs₀_row (t : Fin cfg0.N) : defs₀ (F := F) .tc cfg0.body (cfg0.bodyArgs t (cfg0.slots t)) = bodyAt t := by
  unfold defs₀; rw [Defs.onTc_tc]

theorem first_iff : ∀ t : Fin grid0.N, k0_cond1 (grid0.coords t) = 1#1 ↔ t.val = 0 := by decide

/-- The start, at any point. -/
theorem start_any {α : Type} (c : Dev nD) (t : Fin cfg0.N) (kk : PUnit → Prog (TpuEff nD τ sig (Elt F) Λ₀ .tc) α) (K : α → sProp 𝕄) :
    iprop((mats m c ∗ due c ∗ phase m c t.val)
        ∗ (((mats m c ∗ due c) ∗ fast c (castV (X4 m c)) (castV (X6 m c)) (castV (X7 m c)) (castV (X8 m c))) -∗ WP c (kk ⟨⟩) K))
      ⊢ WP c (start (grid0.coords t) (stg0 t) (Facts₀.hstage0_0 ((cfg0.slots t 0).cast Facts₀.nbuf0_0)) (stg1 t) (Facts₀.hstage0_1 ((cfg0.slots t 1).cast Facts₀.nbuf0_1)) (stg2 t) (Facts₀.hstage0_2 ((cfg0.slots t 2).cast Facts₀.nbuf0_2)) (stg3 t) (Facts₀.hstage0_3 ((cfg0.slots t 3).cast Facts₀.nbuf0_3)) (Memref.whole main_arg4) (Memref.isWhole_whole _) (stg4 t) (Facts₀.hstage0_4 ((cfg0.slots t 4).cast Facts₀.nbuf0_4)) (Memref.whole main_arg6) (Memref.isWhole_whole _) (Memref.whole main_arg7) (Memref.isWhole_whole _) (Memref.whole main_arg8) (Memref.isWhole_whole _) (stg5 t) (Facts₀.hstage0_5 ((cfg0.slots t 5).cast Facts₀.nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) kk) K := by
  by_cases h : t.val = 0
  · unfold phase
    rw [if_pos h]
    iintro ⟨⟨Hm, Hd, %w17, %w12, %w13, %w14, Hw⟩, Hk⟩
    iapply (start_first c (grid0.coords t) (stg0 t) (Facts₀.hstage0_0 ((cfg0.slots t 0).cast Facts₀.nbuf0_0)) (stg1 t) (Facts₀.hstage0_1 ((cfg0.slots t 1).cast Facts₀.nbuf0_1)) (stg2 t) (Facts₀.hstage0_2 ((cfg0.slots t 2).cast Facts₀.nbuf0_2)) (stg3 t) (Facts₀.hstage0_3 ((cfg0.slots t 3).cast Facts₀.nbuf0_3)) (Memref.whole main_arg4) (Memref.isWhole_whole _) (stg4 t) (Facts₀.hstage0_4 ((cfg0.slots t 4).cast Facts₀.nbuf0_4)) (Memref.whole main_arg6) (Memref.isWhole_whole _) (Memref.whole main_arg7) (Memref.isWhole_whole _) (Memref.whole main_arg8) (Memref.isWhole_whole _) (stg5 t) (Facts₀.hstage0_5 ((cfg0.slots t 5).cast Facts₀.nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (X4 m c) (X6 m c) (X7 m c) (X8 m c) kk ((first_iff t).2 h) w17 w12 w13 w14 K)
    isplitl [Hm Hd Hw]
    · isplitl [Hm]; · iexact Hm
      isplitl [Hd]; · iexact Hd
      iexact Hw
    iintro ⟨Hm, Hd, Hw⟩
    iapply Hk
    isplitl [Hm Hd]
    · isplitl [Hm]; · iexact Hm
      iexact Hd
    iexact Hw
  · unfold phase
    rw [if_neg h]
    iintro ⟨⟨Hm, Hd, Hw⟩, Hk⟩
    iapply (start_later c (grid0.coords t) (stg0 t) (Facts₀.hstage0_0 ((cfg0.slots t 0).cast Facts₀.nbuf0_0)) (stg1 t) (Facts₀.hstage0_1 ((cfg0.slots t 1).cast Facts₀.nbuf0_1)) (stg2 t) (Facts₀.hstage0_2 ((cfg0.slots t 2).cast Facts₀.nbuf0_2)) (stg3 t) (Facts₀.hstage0_3 ((cfg0.slots t 3).cast Facts₀.nbuf0_3)) (Memref.whole main_arg4) (Memref.isWhole_whole _) (stg4 t) (Facts₀.hstage0_4 ((cfg0.slots t 4).cast Facts₀.nbuf0_4)) (Memref.whole main_arg6) (Memref.isWhole_whole _) (Memref.whole main_arg7) (Memref.isWhole_whole _) (Memref.whole main_arg8) (Memref.isWhole_whole _) (stg5 t) (Facts₀.hstage0_5 ((cfg0.slots t 5).cast Facts₀.nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (fun e => h ((first_iff t).1 e)) kk K)
    iapply Hk
    isplitl [Hm Hd]
    · isplitl [Hm]; · iexact Hm
      iexact Hd
    iexact Hw

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t))

theorem body_sound (c : Dev nD) (t : Fin cfg0.N) :
    bodyPre m c t ⊢ WP c (bodyAt t) (fun _ => bodyPost m c t) := by
  unfold bodyPre bodyPost bodyAt
  simp only [before_0, before_1, before_2, before_3, before_4]
  rw [after_0, after_1, after_2, after_3, after_4, after_5]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  iintro ⟨⟨Hm, Hh, Hp⟩, ⟨%W, -, HW⟩, ⟨%d0, H0⟩, ⟨%d1, H1⟩, ⟨%d2, H2⟩, ⟨%d3, H3⟩, ⟨%d4, H4⟩, ⟨%d5, H5⟩⟩
  iapply (body_run.{1} c (grid0.coords t) (stg0 t) (Facts₀.hstage0_0 ((cfg0.slots t 0).cast Facts₀.nbuf0_0)) (stg1 t) (Facts₀.hstage0_1 ((cfg0.slots t 1).cast Facts₀.nbuf0_1)) (stg2 t) (Facts₀.hstage0_2 ((cfg0.slots t 2).cast Facts₀.nbuf0_2)) (stg3 t) (Facts₀.hstage0_3 ((cfg0.slots t 3).cast Facts₀.nbuf0_3)) (Memref.whole main_arg4) (Memref.isWhole_whole _) (stg4 t) (Facts₀.hstage0_4 ((cfg0.slots t 4).cast Facts₀.nbuf0_4)) (Memref.whole main_arg6) (Memref.isWhole_whole _) (Memref.whole main_arg7) (Memref.isWhole_whole _) (Memref.whole main_arg8) (Memref.isWhole_whole _) (stg5 t) (Facts₀.hstage0_5 ((cfg0.slots t 5).cast Facts₀.nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (iblk m c 0 t) (iblk m c 1 t) (iblk m c 2 t) (iblk m c 3 t) (iblk m c 4 t)
    (castV (X4 m c)) (castV (X6 m c)) (castV (X7 m c)) (castV (X8 m c))
    iprop(mats m c ∗ due c ∗ phase m c t.val) iprop(mats m c ∗ due c) (by intro α kk K; exact start_any m c t kk K) _)
  isplitl [Hm Hh Hp HW H0 H1 H2 H3 H4 H5]
  · isplitl [Hm HW Hp]
    · isplitl [Hm]; · iexact Hm
      isplitl [HW]; · iexists W; iexact HW
      iexact Hp
    isplitl [H0]; · iexact H0
    isplitl [H1]; · iexact H1
    isplitl [H2]; · iexact H2
    isplitl [H3]; · iexact H3
    isplitl [H4]; · iexact H4
    isplitl [H5]; · iexists _; iexact H5
    iexact Hh
  iintro ⟨⟨Hm, ⟨%W', HW⟩⟩, Hw, H0, H1, H2, H3, H4, ⟨%h, H5⟩, Hh⟩
  isplitl [Hm Hh Hw]
  · isplitl [Hm]; · iexact Hm
    isplitl [Hh]; · iexact Hh
    unfold phase
    rw [if_neg (Nat.succ_ne_zero _)]
    iexact Hw
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  rw [outBlk_eq]
  iexact H5

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The run -/

/-- The four matrices as they were. -/
def held (c : Dev nD) : sProp 𝕄 :=
  iprop((((c : Thread nD τ).loc main_arg4) ↦{fullShare} V m c main_arg4) ∗ (((c : Thread nD τ).loc main_arg6) ↦{fullShare} V m c main_arg6)
    ∗ (((c : Thread nD τ).loc main_arg7) ↦{fullShare} V m c main_arg7) ∗ (((c : Thread nD τ).loc main_arg8) ↦{fullShare} V m c main_arg8))

theorem mats_eq (c : Dev nD) : (mats m c : sProp 𝕄) = iprop(rest c stage cc0_scratch5 ∗ held m c) := by
  unfold mats store held full
  simp only [Memref.whole, View.set_whole]

def u₀ : UU := (initOf (Pipeline.cells cfgs Gen.cellOf_inj) (Pipeline.launchToks cfgs Gen.cellOf_inj), 1)
def QY (c : Dev nD) (s : MemSt nD τ sig (Elt F)) : Prop :=
  s.mem ((c : Thread nD τ).loc main_arg4) = m ((c : Thread nD τ).loc main_arg4) ∧ s.mem ((c : Thread nD τ).loc main_arg6) = m ((c : Thread nD τ).loc main_arg6)
    ∧ s.mem ((c : Thread nD τ).loc main_arg7) = m ((c : Thread nD τ).loc main_arg7) ∧ s.mem ((c : Thread nD τ).loc main_arg8) = m ((c : Thread nD τ).loc main_arg8)

set_option backward.isDefEq.respectTransparency.types false in
/-- Every execution ends; the windows' arrays then hold what the calls left in them, the matrices are as they were, and every counter is zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = (dats m 0 c).arrAt w cfg0.N) ∧ QY m c r.2) ∧ r.2.sem = fun _ => 0) :=
  Pipeline.θ_run_region_kit_quiescent cfgs (dats m) () (0 : Fin 1) launch0 ownSemFacts EP defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun c => iprop(held m c ∗ Pipeline.ownSems0 osem c)) (Y := fun c => held m c) (Z := fun _ => iprop(emp))
    (hX := fun c => by
      rw [unscopedRest0_eq]
      unfold held
      iintro ⟨H0, HS, -, -, -⟩; imodintro
      isplitl [H0 HS]
      · isplitl [H0]; · iexact H0
        iexact HS
      iempintro)
    (hin := fun c => by
      rw [scopedRest0_eq, show (dats m 0 c).Φ 0 = Φ m c 0 from rfl]
      unfold Φ phase fast weights
      rw [mats_eq, if_pos rfl]
      simp only [owns_whole]
      iintro ⟨⟨H0, Hs⟩, S0, ⟨%s1, S1⟩, ⟨%s2, S2⟩, ⟨%s3, S3⟩, S4, ⟨%s6, S6⟩⟩
      isplitl [H0 Hs S4]
      · isplitl [Hs S4]
        · iapply (rest_enter c)
          isplitl [Hs]; · iexact Hs
          iexact S4
        iexact H0
      isplitl [S0]; · iexact S0
      iexists s6; iexists s1; iexists s2; iexists s3
      isplitl [S6]; · iexact S6
      isplitl [S1]; · iexact S1
      isplitl [S2]; · iexact S2
      iexact S3)
    (hout := fun c => by
      rw [scopedRest0_eq, show (dats m 0 c).Φ (Fin.last cfg0.N) = Φ m c 32 from rfl]
      unfold Φ phase fast weights
      rw [mats_eq, if_neg (by decide)]
      simp only [owns_whole]
      iintro ⟨⟨HR, H0⟩, S0, S6, S1, S2, S3⟩
      ihave H := (rest_exit c) $$ HR
      icases H with ⟨Hs, S4⟩
      isplitl [H0]; · iexact H0
      isplitl [Hs]; · iexact Hs
      isplitl [S0]; · iexact S0
      isplitl [S1]; · iexists _; iexact S1
      isplitl [S2]; · iexists _; iexact S2
      isplitl [S3]; · iexists _; iexact S3
      isplitl [S4]; · iexact S4
      iexists _; iexact S6)
    (QY := QY m)
    (hY := fun c s' => by
      unfold held
      iintro ⟨⟨H4, H6, H7, H8⟩, -, HSI⟩
      icombine HSI H4 gives %h4
      icombine HSI H6 gives %h6
      icombine HSI H7 gives %h7
      icombine HSI H8 gives %h8
      imodintro
      isplitr; · ipureintro; exact ⟨Buf.eq_of_forall_mem_univ h4, Buf.eq_of_forall_mem_univ h6, Buf.eq_of_forall_mem_univ h7, Buf.eq_of_forall_mem_univ h8⟩
      iexact HSI)
    (hQ := fun _ hh hz => ⟨hh, hz⟩)

end Cert.Kernel2Ideal.Ffn

end
-- ==== Proof.FfnFrame.lean ====
/- The second half ends with its arguments as they were. -/
module

public import proofs.«01_k».proof.Proof.FfnRegion
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

variable {F : FTy → Type} [FloatOps F]

local notation "𝕄" => MT nD τ sig Unit (Elt F) ℕ UU ℕ

open Cert.Kernel2Ideal.Gen

variable (m : (ℓ : Loc nD τ sig) → Buf (Elt F) ℓ) (ρ : Dev nD → PrngReg)

/-- What the result's array holds at the end. -/
def result (c : Dev nD) : Buf (Elt F) ((c.tc : Thread nD τ).loc main_v0) := (dats m 0 c).arrAt 5 cfg0.N

/-- Every execution ends with the result's array at `result` and the arguments unchanged. -/
theorem run_values : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).1 5,
      ((h.1 c).1 0).trans (((dats m 0 c).arrAt_in 0 rfl _).trans (dats_A m c 0)),
      ((h.1 c).1 1).trans (((dats m 0 c).arrAt_in 1 rfl _).trans (dats_A m c 1)),
      ((h.1 c).1 2).trans (((dats m 0 c).arrAt_in 2 rfl _).trans (dats_A m c 2)),
      ((h.1 c).1 3).trans (((dats m 0 c).arrAt_in 3 rfl _).trans (dats_A m c 3)),
      (h.1 c).2.1,
      ((h.1 c).1 4).trans (((dats m 0 c).arrAt_in 4 rfl _).trans (dats_A m c 4)),
      (h.1 c).2.2.1,
      (h.1 c).2.2.2.1,
      (h.1 c).2.2.2.2⟩, h.2⟩) (run_main m ρ)

/-- Every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run_values m ρ)

end Cert.Kernel2Ideal.Ffn

end
-- ==== Proof.FfnClaims.lean ====
/- The second half's claims that need no values: its frame, as compiled and at the ideal values, and its reference's. -/
module

public import proofs.«01_k».proof.Proof.FfnFrame
public import proofs.«01_k».proof.Proof.Gen.Kernel2
public import proofs.«01_k».proof.Proof.Gen.Reference2Ideal.Run
public import proofs.«01_k».proof.Defs
public import Idealize.ShloMosaic.Lib.Quiescent

@[expose] public section

set_option maxRecDepth 16384

noncomputable section

namespace Cert.Proof

open Idealize.ShloMosaic Idealize.ShloMosaic.TcCoe Idealize.ShloMosaic.Tactic
open Idealize.SL.Sem

/-- The frame of the second half's text at the machine's floats. -/
def FrameFfn : Prop :=
  ∀ (m : (ℓ : Loc Cert.Kernel2Ideal.nD Cert.Kernel2Ideal.τ Cert.Kernel2Ideal.sig) → Buf (Elt Bits) ℓ) (g : Dev Cert.Kernel2Ideal.nD → PrngReg),
    True → θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

theorem frameFfn : FrameFfn := fun m g _ => Cert.Kernel2Ideal.Ffn.run_frame m g

theorem frameFfn_eq : FrameFfn = Cert.quiescent_Kernel2 (hKernel2 := Cert.Kernel2.Gen.facts) := by
  sl_kernel_rfl

theorem frame_Kernel2 : Cert.quiescent_Kernel2 (hKernel2 := Cert.Kernel2.Gen.facts) := frameFfn_eq ▸ frameFfn

theorem frame_Kernel2Ideal : Cert.quiescent_Kernel2Ideal (hKernel2Ideal := Cert.Kernel2Ideal.Gen.facts) :=
  fun m g _ => Cert.Kernel2Ideal.Ffn.run_frame m g

theorem frame_Reference2Ideal : Cert.quiescent_Reference2Ideal (hReference2Ideal := Cert.Reference2Ideal.Gen.facts) := fun m g _ =>
  (θ_run Cert.Reference2Ideal.defs _ _).mono
    (fun r h => ⟨fun c => (h c).2, Idealize.ShloMosaic.sem_eq_zero_of_no_sems (by decide) r.2⟩) (Cert.Reference2Ideal.Value.run m g)

theorem unchanged : Cert.preserves_Kernel2_Kernel2Ideal := trivial

end Cert.Proof

end
-- ==== Proof.FfnReads.lean ====
/- The block of the result, read at an index over the extended reals. -/
module

public import proofs.«01_k».proof.Proof.FfnHidden
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Pipeline.FrameBody
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

/-! ## One row of the layer's second half, over the extended reals -/

/-- What is added under the root. -/
def eps : EReal := Ideal.ofBits FTy.f32 0x358637BD#32

/-- A row over its root mean square, scaled; `c` is the number of its entries. -/
def normRow {n : ℕ} (c : EReal) (v g : Fin n → EReal) (j : Fin n) : EReal := v j * Ideal.rsqrt (Ideal.div (∑ x, v x * v x) c + eps) * g j

/-- The row with the two projections added. -/
def midRow (X : Fin 1024 → EReal) (R A ga : Fin 512 → EReal) (wo : S1024x1024.Idx → EReal) (n : Fin 1024) : EReal :=
  X n + ∑ k, R k * wo (ix2 (⟨k.val, by omega⟩ : Fin 1024) n)
    + ∑ k, normRow (Ideal.ofBits FTy.f32 0x44000000#32) A ga k * wo (ix2 (⟨512 + k.val, by omega⟩ : Fin 1024) n)

/-- The gated product of a row. -/
def hidRow (p : Fin 1024 → EReal) (wg wu : S1024x2816.Idx → EReal) (j : Fin 2816) : EReal :=
  (∑ k, p k * wg (ix2 k j)) * Ideal.logistic (∑ k, p k * wg (ix2 k j)) * ∑ k, p k * wu (ix2 k j)

/-- The row with half of the gated feed-forward layer added. -/
def lastRow (M g2 : Fin 1024 → EReal) (wg wu : S1024x2816.Idx → EReal) (wd : S2816x1024.Idx → EReal) (n : Fin 1024) : EReal :=
  M n + Ideal.ofBits FTy.f32 0x3F000000#32
    * ∑ j, hidRow (normRow (Ideal.ofBits FTy.f32 0x44800000#32) M g2) wg wu j * wd (ix2 j n)

/-! ## The block -/

theorem window2 {α : Type} {N0 N1 : ℕ} (x : (⟨2, ![N0, N1]⟩ : Shape).Idx → α) (o0 o1 a b : ℕ) (inb : ∀ d : Fin 2, ![o0, o1] d + ![a, b] d ≤ ![N0, N1] d)
    (i : Fin a) (j : Fin b) : VecWindow.window (s := ⟨2, ![N0, N1]⟩) x ![o0, o1] ![a, b] inb (ix2 i j)
      = x (ix2 (⟨o0 + i.val, lt_of_lt_of_le (Nat.add_lt_add_left i.isLt _) (inb 0)⟩ : Fin N0) (⟨o1 + j.val, lt_of_lt_of_le (Nat.add_lt_add_left j.isLt _) (inb 1)⟩ : Fin N1)) := by
  refine congrArg x (funext fun d => Fin.ext ?_)
  match d with
  | ⟨0, _⟩ => show o0 + 1 * i.val = o0 + i.val; omega
  | ⟨1, _⟩ => show o1 + 1 * j.val = o1 + j.val; omega

theorem window_ya (x : S4x512x128.Idx → EReal) (o : ℕ) (inb : ∀ d : Fin 3, ![o, 0, 0] d + ![1, 512, 128] d ≤ ![4, 512, 128] d)
    (r : Fin 512) (l : Fin 128) (k : Fin 4) (hk : k.val = o) : VecWindow.window (s := S4x512x128) x ![o, 0, 0] ![1, 512, 128] inb (ix3 (0 : Fin 1) r l) = x (ix3 k r l) := by
  refine congrArg x (funext fun d => Fin.ext ?_)
  match d with
  | ⟨0, _⟩ => show o + 1 * 0 = k.val; omega
  | ⟨1, _⟩ => show 0 + 1 * r.val = r.val; omega
  | ⟨2, _⟩ => show 0 + 1 * l.val = l.val; omega

/-- The four groups side by side. -/
def catYa {F : FTy → Type} [FloatOps F] (ya : Vec F S4x512x128 .f32) : FVec F S512x512 .f32 :=
  concatenate S512x512 1
    [⟨S512x128, shapeCast S512x128 (VecWindow.window ya ![0, 0, 0] S1x512x128.size inb_S4x512x128_S1x512x128_0_0_0 : FVec F S1x512x128 .f32) shapeCasts_S1x512x128_S512x128⟩,
     ⟨S512x128, shapeCast S512x128 (VecWindow.window ya ![1, 0, 0] S1x512x128.size inb_S4x512x128_S1x512x128_1_0_0 : FVec F S1x512x128 .f32) shapeCasts_S1x512x128_S512x128⟩,
     ⟨S512x128, shapeCast S512x128 (VecWindow.window ya ![2, 0, 0] S1x512x128.size inb_S4x512x128_S1x512x128_2_0_0 : FVec F S1x512x128 .f32) shapeCasts_S1x512x128_S512x128⟩,
     ⟨S512x128, shapeCast S512x128 (VecWindow.window ya ![3, 0, 0] S1x512x128.size inb_S4x512x128_S1x512x128_3_0_0 : FVec F S1x512x128 .f32) shapeCasts_S1x512x128_S512x128⟩]
    concatenates_S512x128_S512x128_S512x128_S512x128_S512x512_d1

/-- Lane `j` of the whole is lane `j % 128` of group `j / 128`. -/
theorem catYa_apply (ya : Vec Ideal S4x512x128 .f32) (r j : Fin 512) :
    catYa ya (ix2 r j) = ya (ix3 (⟨j.val / 128, by omega⟩ : Fin 4) r (⟨j.val % 128, by omega⟩ : Fin 128)) := by
  have go : ∀ {l : ℕ} (hl : l < 128), l = j.val % 128 → ya (ix3 (⟨j.val / 128, by omega⟩ : Fin 4) r (⟨l, hl⟩ : Fin 128))
      = ya (ix3 (⟨j.val / 128, by omega⟩ : Fin 4) r (⟨j.val % 128, by omega⟩ : Fin 128)) := by
    rintro _ _ rfl; rfl
  pointwise [catYa]
  by_cases h0 : j.val < 128
  · rw [dif_pos h0]
    exact (window_ya ya 0 _ r _ _ (by show j.val / 128 = 0; omega)).trans (go _ (by omega))
  rw [dif_neg h0]
  by_cases h1 : j.val - 128 < 128
  · rw [dif_pos h1]
    exact (window_ya ya 1 _ r _ _ (by show j.val / 128 = 1; omega)).trans (go _ (by omega))
  rw [dif_neg h1]
  by_cases h2 : j.val - 128 - 128 < 128
  · rw [dif_pos h2]
    exact (window_ya ya 2 _ r _ _ (by show j.val / 128 = 2; omega)).trans (go _ (by omega))
  rw [dif_neg h2]
  exact (window_ya ya 3 _ r _ _ (by show j.val / 128 = 3; omega)).trans (go _ (by omega))

/-- Rows normalised and scaled. -/
def normed512 {F : FTy → Type} [FloatOps F] (v11 : FVec F S512x512 .f32) (ga : Vec F S1x512 .f32) : FVec F S512x512 .bf16 :=
  have v20 : FVec F S512x1 .f32 := rsqrt (addf (divf (shapeCast S512x1 (multiReduction .add [1] S512 (mulf v11 v11) 0x00000000#32 reduces_S512x512_S512 (.inl rfl) rfl : FVec F S512 .f32) shapeCasts_S512_S512x1)
    (broadcast S512x1 (Scalar.ofBits .f32 0x44000000#32 : F .f32) : FVec F S512x1 .f32)) (broadcast S512x1 (Scalar.ofBits .f32 0x358637BD#32 : F .f32)))
  truncf .bf16 (mulf (mulf v11 (broadcastTo S512x512 v20 broadcasts_S512x1_S512x512))
    (broadcastTo S512x512 (VecWindow.window ga ![0, 0] S1x512.size inb_S1x512_S1x512_0_0 : FVec F S1x512 .f32) broadcasts_S1x512_S512x512)) bitsLt_bf16_f32

theorem normYa_eq {F : FTy → Type} [FloatOps F] (ya : Vec F S4x512x128 .f32) (ga : Vec F S1x512 .f32) : normYa ya ga = normed512 (catYa ya) ga := rfl

theorem normed512_apply (v : FVec Ideal S512x512 .f32) (ga : Vec Ideal S1x512 .f32) (r j : Fin 512) :
    normed512 v ga (ix2 r j) = normRow (Ideal.ofBits FTy.f32 0x44000000#32) (fun k => v (ix2 r k)) (fun k => ga (ix2 (0 : Fin 1) k)) j := by
  pointwise [normed512]
  rw [window2]
  simp only [Nat.zero_add]
  rfl

theorem normYa_apply (ya : Vec Ideal S4x512x128 .f32) (ga : Vec Ideal S1x512 .f32) (r j : Fin 512) :
    normYa ya ga (ix2 r j) = normRow (Ideal.ofBits FTy.f32 0x44000000#32)
      (fun k => ya (ix3 (⟨k.val / 128, by omega⟩ : Fin 4) r (⟨k.val % 128, by omega⟩ : Fin 128))) (fun k => ga (ix2 (0 : Fin 1) k)) j := by
  rw [normYa_eq, normed512_apply]
  simp only [catYa_apply]

theorem mid_apply (x : Vec Ideal S512x1024 .f32) (yr : Vec Ideal S512x512 .bf16) (y : FVec Ideal S512x512 .bf16) (wo : Vec Ideal S1024x1024 .bf16) (r : Fin 512) (n : Fin 1024) :
    mid x yr y wo (ix2 r n) = (x (ix2 r n) + ∑ k : Fin 512, yr (ix2 r k) * wo (ix2 (⟨k.val, by omega⟩ : Fin 1024) n)
      + ∑ k : Fin 512, y (ix2 r k) * wo (ix2 (⟨512 + k.val, by omega⟩ : Fin 1024) n) : EReal) := by
  pointwise [mid]
  simp only [window2, Nat.zero_add]

theorem normMid_apply (v : FVec Ideal S512x1024 .f32) (g2 : Vec Ideal S1x1024 .f32) (r : Fin 512) (n : Fin 1024) :
    normMid v g2 (ix2 r n) = normRow (Ideal.ofBits FTy.f32 0x44800000#32) (fun k => v (ix2 r k)) (fun k => g2 (ix2 (0 : Fin 1) k)) n := by
  pointwise [normMid]
  rw [window2]
  simp only [Nat.zero_add]
  rfl

theorem gatedAt_apply (p : FVec Ideal S512x1024 .bf16) (wg wu : Vec Ideal S1024x2816 .bf16) (o : ℕ) (h : o + 256 ≤ 2816) (r : Fin 512) (n : Fin 256) :
    gatedAt p wg wu o h (ix2 r n) = hidRow (fun k => p (ix2 r k)) wg wu ⟨o + n.val, by omega⟩ := by
  pointwise [gatedAt, gated]
  simp only [window2, Nat.zero_add]
  rfl

theorem hid_apply (p : FVec Ideal S512x1024 .bf16) (wg wu : Vec Ideal S1024x2816 .bf16) (r : Fin 512) (j : Fin 2816) :
    hid p wg wu (ix2 r j) = hidRow (fun k => p (ix2 r k)) wg wu j := by
  refine (gatedAt_apply p wg wu _ _ r _).trans (congrArg (hidRow _ wg wu) (Fin.ext ?_))
  exact Nat.div_add_mod j.val 256

/-- An entry of the block: its row's. -/
theorem outV_apply (x : Vec Ideal S512x1024 .f32) (yr : Vec Ideal S512x512 .bf16) (ya : Vec Ideal S4x512x128 .f32) (ga : Vec Ideal S1x512 .f32) (g2 : Vec Ideal S1x1024 .f32)
    (wo : Vec Ideal S1024x1024 .bf16) (wg wu : Vec Ideal S1024x2816 .bf16) (wd : Vec Ideal S2816x1024 .bf16) (r : Fin 512) (n : Fin 1024) :
    outV x yr ya ga g2 wo wg wu wd (ix2 r n)
      = lastRow (midRow (fun k => x (ix2 r k)) (fun k => yr (ix2 r k))
          (fun k => ya (ix3 (⟨k.val / 128, by omega⟩ : Fin 4) r (⟨k.val % 128, by omega⟩ : Fin 128))) (fun k => ga (ix2 (0 : Fin 1) k)) wo)
        (fun k => g2 (ix2 (0 : Fin 1) k)) wg wu wd n := by
  have em : ∀ n, mid x yr (normYa ya ga) wo (ix2 r n) = midRow (fun k => x (ix2 r k)) (fun k => yr (ix2 r k))
      (fun k => ya (ix3 (⟨k.val / 128, by omega⟩ : Fin 4) r (⟨k.val % 128, by omega⟩ : Fin 128))) (fun k => ga (ix2 (0 : Fin 1) k)) wo n := by
    intro n
    rw [mid_apply]
    simp only [normYa_apply]
    rfl
  pointwise [outV]
  simp only [window2, Nat.zero_add, em, hid_apply, normMid_apply]
  rfl

end Cert.Kernel2Ideal.Ffn

end
-- ==== Proof.FfnResult.lean ====
/- The result of the second program: every row of the array from the rows of the arguments. -/
module

public import proofs.«01_k».proof.Proof.FfnReads
public import proofs.«01_k».proof.Proof.FfnFrame
public import proofs.«01_k».proof.Proof.Gen.Kernel2Ideal
public import proofs.«01_k».proof.Proof.Gen.Kernel2Ideal.Launch
public import Idealize.ShloMosaic.Lib.Pipeline.KitQuiescent
public import Idealize.ShloMosaic.Lib.Ring
public import Idealize.ShloMosaic.Lib.Pipeline.FrameBody
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal Cert.Kernel2Ideal.Facts₀ Cert.Kernel2Ideal.Facts

open Idealize.ShloMosaic.Pipeline (Dat Cfg Window)
open Cert.Kernel2Ideal.Gen

/-- The layer's second half from its first half's output, the recurrence's output and the attention's output: each row from the rows at its place. -/
def layerAll (x : S16384x1024.Idx → EReal) (yr : S16384x512.Idx → EReal) (ya : S4x16384x128.Idx → EReal) (ga : S1x512.Idx → EReal) (wo : S1024x1024.Idx → EReal)
    (g2 : S1x1024.Idx → EReal) (wg wu : S1024x2816.Idx → EReal) (wd : S2816x1024.Idx → EReal) : S16384x1024.Idx → EReal := fun y =>
  lastRow (midRow (fun k => x (ix2 (n0 := 16384) (y 0) k)) (fun k => yr (ix2 (n0 := 16384) (y 0) k))
      (fun k => ya (ix3 (n1 := 16384) (⟨k.val / 128, by omega⟩ : Fin 4) (y 0) (⟨k.val % 128, by omega⟩ : Fin 128))) (fun k => ga (ix2 (0 : Fin 1) k)) wo)
    (fun k => g2 (ix2 (0 : Fin 1) k)) wg wu wd (y 1)

variable (m : (ℓ : Loc nD τ sig) → Buf (Elt Ideal) ℓ)

theorem points_eq : cfg0.N = 32 := by decide

/-- Point `t`'s row `r` of the block, in the array. -/
def row (t : Fin cfg0.N) (r : Fin 512) : Fin 16384 := ⟨t.val * 512 + r.val, by have := points_eq; omega⟩

theorem index_0 : ∀ t : Fin grid0.N, cc0_transform_0 (grid0.coords t) = ![t.val, 0] := by decide +kernel
theorem index_1 : ∀ t : Fin grid0.N, cc0_transform_1 (grid0.coords t) = ![t.val, 0] := by decide +kernel
theorem index_2 : ∀ t : Fin grid0.N, cc0_transform_2 (grid0.coords t) = ![0, t.val, 0] := by decide +kernel
theorem index_3 : ∀ t : Fin grid0.N, cc0_transform_3 (grid0.coords t) = ![0, 0] := by decide +kernel
theorem index_5 : ∀ t : Fin grid0.N, cc0_transform_5 (grid0.coords t) = ![0, 0] := by decide +kernel
theorem index_9 : ∀ t : Fin grid0.N, cc0_transform_9 (grid0.coords t) = ![t.val, 0] := by decide +kernel

theorem emb_0 (t : Fin cfg0.N) (r : Fin 512) (k : Fin 1024) : ((cfg0.win 0).blk t).view.emb (ix2 r k : S512x1024.Idx) = (ix2 (row t r) k : S16384x1024.Idx) := by
  funext a; apply Fin.ext
  match a with
  | ⟨0, _⟩ => show cc0_transform_0 (grid0.coords t) 0 * 512 + 1 * r.val = t.val * 512 + r.val; erw [index_0]; show t.val * 512 + _ = _; omega
  | ⟨1, _⟩ => show cc0_transform_0 (grid0.coords t) 1 * 1024 + 1 * k.val = k.val; erw [index_0]; show 0 * 1024 + _ = _; omega

theorem emb_1 (t : Fin cfg0.N) (r k : Fin 512) : ((cfg0.win 1).blk t).view.emb (ix2 r k : S512x512.Idx) = (ix2 (row t r) k : S16384x512.Idx) := by
  funext a; apply Fin.ext
  match a with
  | ⟨0, _⟩ => show cc0_transform_1 (grid0.coords t) 0 * 512 + 1 * r.val = t.val * 512 + r.val; erw [index_1]; show t.val * 512 + _ = _; omega
  | ⟨1, _⟩ => show cc0_transform_1 (grid0.coords t) 1 * 512 + 1 * k.val = k.val; erw [index_1]; show 0 * 512 + _ = _; omega

theorem emb_2 (t : Fin cfg0.N) (a : Fin 4) (r : Fin 512) (k : Fin 128) : ((cfg0.win 2).blk t).view.emb (ix3 a r k : S4x512x128.Idx) = (ix3 a (row t r) k : S4x16384x128.Idx) := by
  funext d; apply Fin.ext
  match d with
  | ⟨0, _⟩ => show cc0_transform_2 (grid0.coords t) 0 * 4 + 1 * a.val = a.val; erw [index_2]; show 0 * 4 + _ = _; omega
  | ⟨1, _⟩ => show cc0_transform_2 (grid0.coords t) 1 * 512 + 1 * r.val = t.val * 512 + r.val; erw [index_2]; show t.val * 512 + _ = _; omega
  | ⟨2, _⟩ => show cc0_transform_2 (grid0.coords t) 2 * 128 + 1 * k.val = k.val; erw [index_2]; show 0 * 128 + _ = _; omega

theorem emb_3 (t : Fin cfg0.N) (k : Fin 512) : ((cfg0.win 3).blk t).view.emb (ix2 (0 : Fin 1) k : S1x512.Idx) = (ix2 (0 : Fin 1) k : S1x512.Idx) := by
  funext a; apply Fin.ext
  match a with
  | ⟨0, _⟩ => show cc0_transform_3 (grid0.coords t) 0 * 1 + 1 * 0 = 0; erw [index_3]; rfl
  | ⟨1, _⟩ => show cc0_transform_3 (grid0.coords t) 1 * 512 + 1 * k.val = k.val; erw [index_3]; show 0 * 512 + _ = _; omega

theorem emb_4 (t : Fin cfg0.N) (k : Fin 1024) : ((cfg0.win 4).blk t).view.emb (ix2 (0 : Fin 1) k : S1x1024.Idx) = (ix2 (0 : Fin 1) k : S1x1024.Idx) := by
  funext a; apply Fin.ext
  match a with
  | ⟨0, _⟩ => show cc0_transform_5 (grid0.coords t) 0 * 1 + 1 * 0 = 0; erw [index_5]; rfl
  | ⟨1, _⟩ => show cc0_transform_5 (grid0.coords t) 1 * 1024 + 1 * k.val = k.val; erw [index_5]; show 0 * 1024 + _ = _; omega

theorem emb_5 (t : Fin cfg0.N) (r : Fin 512) (k : Fin 1024) : ((cfg0.win 5).blk t).view.emb (ix2 r k : S512x1024.Idx) = (ix2 (row t r) k : S16384x1024.Idx) := by
  funext a; apply Fin.ext
  match a with
  | ⟨0, _⟩ => show cc0_transform_9 (grid0.coords t) 0 * 512 + 1 * r.val = t.val * 512 + r.val; erw [index_9]; show t.val * 512 + _ = _; omega
  | ⟨1, _⟩ => show cc0_transform_9 (grid0.coords t) 1 * 1024 + 1 * k.val = k.val; erw [index_9]; show 0 * 1024 + _ = _; omega

theorem iblk_0 (c : Dev nD) (t : Fin cfg0.N) (r : Fin 512) (k : Fin 1024) : iblk m c 0 t (ix2 r k : S512x1024.Idx) = m ((c : Thread nD τ).loc main_arg0) (ix2 (row t r) k : S16384x1024.Idx) :=
  congrArg (m ((c : Thread nD τ).loc main_arg0)) (emb_0 t r k)

theorem iblk_1 (c : Dev nD) (t : Fin cfg0.N) (r k : Fin 512) : iblk m c 1 t (ix2 r k : S512x512.Idx) = m ((c : Thread nD τ).loc main_arg1) (ix2 (row t r) k : S16384x512.Idx) :=
  congrArg (m ((c : Thread nD τ).loc main_arg1)) (emb_1 t r k)

theorem iblk_2 (c : Dev nD) (t : Fin cfg0.N) (a : Fin 4) (r : Fin 512) (k : Fin 128) : iblk m c 2 t (ix3 a r k : S4x512x128.Idx) = m ((c : Thread nD τ).loc main_arg2) (ix3 a (row t r) k : S4x16384x128.Idx) :=
  congrArg (m ((c : Thread nD τ).loc main_arg2)) (emb_2 t a r k)

theorem iblk_3 (c : Dev nD) (t : Fin cfg0.N) (k : Fin 512) : iblk m c 3 t (ix2 (0 : Fin 1) k : S1x512.Idx) = m ((c : Thread nD τ).loc main_arg3) (ix2 (0 : Fin 1) k : S1x512.Idx) :=
  congrArg (m ((c : Thread nD τ).loc main_arg3)) (emb_3 t k)

theorem iblk_4 (c : Dev nD) (t : Fin cfg0.N) (k : Fin 1024) : iblk m c 4 t (ix2 (0 : Fin 1) k : S1x1024.Idx) = m ((c : Thread nD τ).loc main_arg5) (ix2 (0 : Fin 1) k : S1x1024.Idx) :=
  congrArg (m ((c : Thread nD τ).loc main_arg5)) (emb_4 t k)

/-- The second half of the arguments. -/
abbrev spec (c : Dev nD) : S16384x1024.Idx → EReal :=
  layerAll (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

theorem outAt_apply (c : Dev nD) (t : Fin cfg0.N) (r : Fin 512) (n : Fin 1024) : outAt m c t (ix2 r n) = spec m c (ix2 (row t r) n) := by
  refine (outV_apply _ _ _ _ _ _ _ _ _ r n).trans ?_
  have e0 : (fun k : Fin 1024 => (iblk m c 0 t (ix2 r k : S512x1024.Idx) : EReal)) = fun k => m ((c : Thread nD τ).loc main_arg0) (ix2 (row t r) k : S16384x1024.Idx) := funext (iblk_0 m c t r)
  have e1 : (fun k : Fin 512 => (iblk m c 1 t (ix2 r k : S512x512.Idx) : EReal)) = fun k => m ((c : Thread nD τ).loc main_arg1) (ix2 (row t r) k : S16384x512.Idx) := funext (iblk_1 m c t r)
  have e2 : (fun k : Fin 512 => (iblk m c 2 t (ix3 (⟨k.val / 128, by omega⟩ : Fin 4) r (⟨k.val % 128, by omega⟩ : Fin 128) : S4x512x128.Idx) : EReal))
      = fun k => m ((c : Thread nD τ).loc main_arg2) (ix3 (⟨k.val / 128, by omega⟩ : Fin 4) (row t r) (⟨k.val % 128, by omega⟩ : Fin 128) : S4x16384x128.Idx) := funext fun k => iblk_2 m c t _ r _
  have e3 : (fun k : Fin 512 => (iblk m c 3 t (ix2 (0 : Fin 1) k : S1x512.Idx) : EReal)) = fun k => m ((c : Thread nD τ).loc main_arg3) (ix2 (0 : Fin 1) k : S1x512.Idx) := funext (iblk_3 m c t)
  have e4 : (fun k : Fin 1024 => (iblk m c 4 t (ix2 (0 : Fin 1) k : S1x1024.Idx) : EReal)) = fun k => m ((c : Thread nD τ).loc main_arg5) (ix2 (0 : Fin 1) k : S1x1024.Idx) := funext (iblk_4 m c t)
  erw [e0, e1, e2, e3, e4]
  rfl

theorem flushOf_5 : ∀ t : Fin grid0.N, Window.flushOf grid0 true cc0_transform_9 t = true := by decide +kernel
theorem flush_all (t : Fin cfg0.N) : (cfg0.win 5).flush t = true := (Window.flush_eq_flushOf _ _).trans (flushOf_5 t)

theorem flushed_eq (c : Dev nD) (t : Fin cfg0.N) (_ : (cfg0.win 5).flush t = true) :
    (dats m 0 c).flushed 5 t = ((cfg0.win 5).blk t).view.read (Elt Ideal) (spec m c) := by
  show (cfg0.win 5).cut (cfg0.grid.coords t) ((dats m 0 c).after 5 t) = _
  rw [after_5]
  funext j
  have ej : (ix2 (j 0) (j 1) : S512x1024.Idx) = j := ix2_eta (n0 := 512) (n1 := 1024) j
  have e := outAt_apply m c t (j 0) (j 1)
  have e' := emb_5 t (j 0) (j 1)
  rw [ej] at e e'
  exact e.trans (congrArg (spec m c) e').symm

theorem cover (y : S16384x1024.Idx) : ∃ t : Fin cfg0.N, (cfg0.win 5).flush t = true ∧ y ∈ ((cfg0.win 5).blk t).view.set := by
  have h0 : (y 0).val < 16384 := (y 0).isLt
  have ht : (y 0).val / 512 < cfg0.N := by rw [points_eq]; omega
  refine ⟨⟨(y 0).val / 512, ht⟩, flush_all _, ?_⟩
  have h := ((cfg0.win 5).blk ⟨(y 0).val / 512, ht⟩).view.emb_mem_set (ix2 (⟨(y 0).val % 512, Nat.mod_lt _ (by decide)⟩ : Fin 512) (y 1) : S512x1024.Idx)
  have e : ((cfg0.win 5).blk ⟨(y 0).val / 512, ht⟩).view.emb (ix2 (⟨(y 0).val % 512, Nat.mod_lt _ (by decide)⟩ : Fin 512) (y 1) : S512x1024.Idx) = y := by
    refine (emb_5 _ _ _).trans ?_
    funext a; apply Fin.ext
    match a with
    | ⟨0, _⟩ => show (y 0).val / 512 * 512 + (y 0).val % 512 = (y 0).val; omega
    | ⟨1, _⟩ => rfl
  exact (congrArg (fun x => x ∈ ((cfg0.win 5).blk ⟨(y 0).val / 512, ht⟩).view.set) e).mp h

/-- The result array is the second half of the arguments. -/
theorem result_eq (c : Dev nD) : result m c = spec m c :=
  (dats m 0 c).arrAt_eq_of_cover 5 (spec m c) (flushed_eq m c) fun i => cover i

end Cert.Kernel2Ideal.Ffn

end
-- ==== Proof.FfnRef.lean ====
/- The plain second half of the layer, read at an index. -/
module

public import proofs.«01_k».proof.Proof.Gen.Reference2Ideal.Run
public import proofs.«01_k».proof.Proof.FfnResult

@[expose] public section

set_option maxRecDepth 16384

noncomputable section

namespace Cert.Reference2Ideal.Ffn

open Idealize.ShloMosaic Idealize.ShloMosaic.TcCoe
open Cert.Reference2Ideal Cert.Reference2Ideal.Facts₀ Cert.Reference2Ideal.Facts
open Cert.Kernel2Ideal.Ffn (eps normRow midRow hidRow lastRow layerAll)

variable {F : FTy → Type} [FloatOps F]

/-! ## Its operations, grouped -/

/-- The four groups side by side. -/
def sideR (ya : FVec F S4x16384x128 .f32) : FVec F S16384x512 .f32 :=
  shapeCast _ (transpose S16384x4x128 [1, 0, 2] ya transposes_S4x16384x128_S16384x4x128_1_0_2) shapeCasts_S16384x4x128_S16384x512

/-- Rows of 512 normalised and scaled. -/
def norm512R (v : FVec F S16384x512 .f32) (g : FVec F S1x512 .f32) : FVec F S16384x512 .f32 :=
  mulf (mulf v (broadcastInDim S16384x512 ![0, 1] bcast_S16384x1_S16384x512_0_1 (Host.rsqrt (addf (Host.divf (broadcastInDim S16384x1 ![0] bcast_S16384_S16384x1_0
    (Host.reduceAdd (mulf v v) (constant S_ .f32 0x00000000#32) reducesTo_S16384x512_S16384_d1 h_S_)) (broadcastInDim S16384x1 ![] bcast_S_S16384x1 (constant S_ .f32 0x44000000#32)))
      (broadcastInDim S16384x1 ![] bcast_S_S16384x1 (constant S_ .f32 0x358637BD#32)))))) (broadcastInDim S16384x512 ![0, 1] bcast_S1x512_S16384x512_0_1 g)

/-- Rows of 1024 normalised and scaled. -/
def norm1024R (v : FVec F S16384x1024 .f32) (g : FVec F S1x1024 .f32) : FVec F S16384x1024 .f32 :=
  mulf (mulf v (broadcastInDim S16384x1024 ![0, 1] bcast_S16384x1_S16384x1024_0_1 (Host.rsqrt (addf (Host.divf (broadcastInDim S16384x1 ![0] bcast_S16384_S16384x1_0
    (Host.reduceAdd (mulf v v) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32)))))) (broadcastInDim S16384x1024 ![0, 1] bcast_S1x1024_S16384x1024_0_1 g)

/-- The rows with the projection of both halves added. -/
def midR (x : FVec F S16384x1024 .f32) (yr : FVec F S16384x512 .bf16) (a : FVec F S16384x512 .f32) (wo : FVec F S1024x1024 .f32) : FVec F S16384x1024 .f32 :=
  addf x (Host.dotGeneral dot_S16384x1024_S1024x1024_S16384x1024_1_0_0_1_n_n none
    (concatenate S16384x1024 1 [⟨S16384x512, (extf .f32 yr bitsLt_bf16_f32)⟩, ⟨S16384x512, a⟩] concatenates_S16384x512_S16384x512_S16384x1024_d1) wo)

/-- The gated product. -/
def hidR (p : FVec F S16384x1024 .f32) (wg wu : FVec F S1024x2816 .f32) : FVec F S16384x2816 .f32 :=
  have a : FVec F S16384x2816 .f32 := Host.dotGeneral dot_S16384x1024_S1024x2816_S16384x2816_1_0_0_1_n_n none p wg
  mulf (mulf a (Host.divf (broadcastInDim S16384x2816 ![] bcast_S_S16384x2816 (constant S_ .f32 0x3F800000#32))
    (addf (broadcastInDim S16384x2816 ![] bcast_S_S16384x2816 (constant S_ .f32 0x3F800000#32)) (Host.exp (Host.negf a)))))
    (Host.dotGeneral dot_S16384x1024_S1024x2816_S16384x2816_1_0_0_1_n_n none p wu)

/-- The rows with half of the gated layer added. -/
def lastR (M : FVec F S16384x1024 .f32) (g2 : FVec F S1x1024 .f32) (wg wu : FVec F S1024x2816 .f32) (wd : FVec F S2816x1024 .f32) : FVec F S16384x1024 .f32 :=
  addf M (mulf (broadcastInDim S16384x1024 ![] bcast_S_S16384x1024 (constant S_ .f32 0x3F000000#32))
    (Host.dotGeneral dot_S16384x2816_S2816x1024_S16384x1024_1_0_0_1_n_n none (hidR (norm1024R M g2) wg wu) wd))

theorem res_eq (m : (ℓ : Loc nD τ sig) → Buf (Elt F) ℓ) (c : Dev nD) : Value.res_out0 m c
    = lastR (midR (m ((c : Thread nD τ).loc main_arg0)) (m ((c : Thread nD τ).loc main_arg1)) (norm512R (sideR (m ((c : Thread nD τ).loc main_arg2))) (m ((c : Thread nD τ).loc main_arg3)))
      (m ((c : Thread nD τ).loc main_arg4))) (m ((c : Thread nD τ).loc main_arg5)) (m ((c : Thread nD τ).loc main_arg6)) (m ((c : Thread nD τ).loc main_arg7)) (m ((c : Thread nD τ).loc main_arg8)) := rfl

/-! ## At an index -/

theorem sideR_apply (ya : FVec Ideal S4x16384x128 .f32) (i : Fin 16384) (j : Fin 512) :
    sideR ya (ix2 i j) = ya (ix3 (⟨j.val / 128, by omega⟩ : Fin 4) i (⟨j.val % 128, by omega⟩ : Fin 128)) := by
  pointwise [sideR]

theorem norm512R_apply (v : FVec Ideal S16384x512 .f32) (g : FVec Ideal S1x512 .f32) (i : Fin 16384) (j : Fin 512) :
    norm512R v g (ix2 i j) = normRow (Ideal.ofBits FTy.f32 0x44000000#32) (fun k => v (ix2 i k)) (fun k => g (ix2 (0 : Fin 1) k)) j := by
  pointwise [norm512R]
  rfl

theorem norm1024R_apply (v : FVec Ideal S16384x1024 .f32) (g : FVec Ideal S1x1024 .f32) (i : Fin 16384) (j : Fin 1024) :
    norm1024R v g (ix2 i j) = normRow (Ideal.ofBits FTy.f32 0x44800000#32) (fun k => v (ix2 i k)) (fun k => g (ix2 (0 : Fin 1) k)) j := by
  pointwise [norm1024R]
  rfl

theorem midR_apply (x : FVec Ideal S16384x1024 .f32) (yr : FVec Ideal S16384x512 .bf16) (a : FVec Ideal S16384x512 .f32) (wo : FVec Ideal S1024x1024 .f32) (i : Fin 16384) (n : Fin 1024) :
    midR x yr a wo (ix2 i n) = (x (ix2 i n) + ∑ k : Fin 512, yr (ix2 i k) * wo (ix2 (⟨k.val, by omega⟩ : Fin 1024) n)
      + ∑ k : Fin 512, a (ix2 i k) * wo (ix2 (⟨512 + k.val, by omega⟩ : Fin 1024) n) : EReal) := by
  pointwise [midR]
  exact (add_assoc _ _ _).symm

theorem hidR_apply (p : FVec Ideal S16384x1024 .f32) (wg wu : FVec Ideal S1024x2816 .f32) (i : Fin 16384) (j : Fin 2816) :
    hidR p wg wu (ix2 i j) = hidRow (fun k => p (ix2 i k)) wg wu j := by
  pointwise [hidR]
  rfl

/-- The reference is the second half of its arguments. -/
theorem out_eq (x : FVec Ideal S16384x1024 .f32) (yr : FVec Ideal S16384x512 .bf16) (ya : FVec Ideal S4x16384x128 .f32) (ga : FVec Ideal S1x512 .f32) (wo : FVec Ideal S1024x1024 .f32)
    (g2 : FVec Ideal S1x1024 .f32) (wg wu : FVec Ideal S1024x2816 .f32) (wd : FVec Ideal S2816x1024 .f32) :
    lastR (midR x yr (norm512R (sideR ya) ga) wo) g2 wg wu wd = layerAll x yr ya ga wo g2 wg wu wd := by
  funext y
  obtain ⟨i, n, rfl⟩ : ∃ (i : Fin 16384) (n : Fin 1024), y = ix2 i n := ⟨y 0, y 1, (ix2_eta (n0 := 16384) (n1 := 1024) y).symm⟩
  have em : ∀ n, midR x yr (norm512R (sideR ya) ga) wo (ix2 i n) = midRow (fun k => x (ix2 i k)) (fun k => yr (ix2 i k))
      (fun k => ya (ix3 (⟨k.val / 128, by omega⟩ : Fin 4) i (⟨k.val % 128, by omega⟩ : Fin 128))) (fun k => ga (ix2 (0 : Fin 1) k)) wo n := by
    intro n
    rw [midR_apply]
    simp only [norm512R_apply, sideR_apply]
    rfl
  pointwise [lastR]
  simp only [em, hidR_apply, norm1024R_apply]
  rfl

end Cert.Reference2Ideal.Ffn

end
-- ==== Proof.FfnValues.lean ====
/- The second program and the plain second half of the layer compute the same array. -/
module

public import proofs.«01_k».proof.Proof.FfnRef
public import proofs.«01_k».proof.Proof.FfnClaims

@[expose] public section

set_option maxRecDepth 16384

noncomputable section

namespace Cert.Proof

open Idealize.ShloMosaic Idealize.ShloMosaic.TcCoe Idealize.SL.Sem

/-- From arguments that agree, both end with the layer's second half. -/
theorem algebraicFfn : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Ffn.result m c,
    (θ_run Cert.Kernel2Ideal.defs _ _).mono (fun _ h => h.1) (Cert.Kernel2Ideal.Ffn.run_values m g), ?_⟩
  refine (θ_run Cert.Reference2Ideal.defs _ _).mono (fun _ h c => ?_) (Cert.Reference2Ideal.Value.run m' g')
  obtain rfl : c = 0 := Subsingleton.elim _ _
  refine ⟨(h 0).1.trans ?_, (h 0).2⟩
  refine (Cert.Reference2Ideal.Ffn.res_eq m' 0).trans ?_
  refine (Cert.Reference2Ideal.Ffn.out_eq _ _ _ _ _ _ _ _ _).trans ?_
  refine Eq.trans ?_ (Cert.Kernel2Ideal.Ffn.result_eq m 0).symm
  unfold Cert.Kernel2Ideal.Ffn.spec
  obtain ⟨e0, e1, e2, e3, e4, e5, e6, e7, e8⟩ := hagree 0
  erw [e0, e1, e2, e3, e4, e5, e6, e7, e8]

end Cert.Proof

end
-- ==== Proof.HalfParts.lean ====
/- The four weight matrices of the first half come in one after another: the printed text of each part of the start, run. -/
module

public import proofs.«01_k».proof.Proof.Load
public import proofs.«01_k».proof.Proof.Gen.Kernel3Ideal
public import proofs.«01_k».proof.Proof.Gen.Kernel3Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel3Ideal Cert.Kernel3Ideal.Facts₀ Cert.Kernel3Ideal.Facts

variable {F : FTy → Type} [FloatOps F]

abbrev UU := Load.UU nD τ sig

local notation "𝕄" => MT nD τ sig Unit (Elt F) ℕ UU ℕ

/-- What running a program on core `c` needs, for `Q` to hold of its result. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

theorem WP_bind {α β : Type} (c : Dev nD) (p : Prog (TpuEff nD τ sig (Elt F) Λ₀ .tc) α) (f : α → Prog (TpuEff nD τ sig (Elt F) Λ₀ .tc) β) (Q : β → sProp 𝕄) :
    WP c (p >>= f) Q = WP c p (fun a => WP c (f a) Q) := wp_bind _ _ _ _ _ _

/-! ## The offsets the loops compute -/

theorem trips1 : k0_t1_loop.trips = 8 := by decide +kernel
theorem cond2_iff : ∀ k : Fin k0_t1_loop.trips, k0_cond2 k = 1#1 ↔ k.val + 5 < 8 := by decide +kernel
theorem off1_eq : ∀ k : Fin k0_t1_loop.trips, k0_off1 k = ![(k.val + 5) % 6] := by decide +kernel
theorem off2_eq : ∀ k : Fin k0_t1_loop.trips, k0_off2 k = ![(k.val + 5) % 6, 0, 0] := by decide +kernel
theorem off3_eq : ∀ k : Fin k0_t1_loop.trips, k0_off3 k = ![128 * (k.val + 5), 0] := by decide +kernel
theorem off4_eq : ∀ k : Fin k0_t1_loop.trips, k0_off4 k = ![k.val % 6] := by decide +kernel
theorem off5_eq : ∀ k : Fin k0_t1_loop.trips, k0_off5 k = ![k.val % 6, 0, 0] := by decide +kernel
theorem off7_eq : ∀ k : Fin k0_t1_loop.trips, k0_off7 k = ![k.val % 6, 0, 0] := by decide +kernel
theorem off8_eq : ∀ k : Fin k0_t1_loop.trips, k0_off8 k = ![128 * k.val, 0] := by decide +kernel

theorem trips2 : k0_t2_loop.trips = 8 := by decide +kernel
theorem cond3_iff : ∀ k : Fin k0_t2_loop.trips, k0_cond3 k = 1#1 ↔ k.val + 5 < 8 := by decide +kernel
theorem off9_eq : ∀ k : Fin k0_t2_loop.trips, k0_off9 k = ![(k.val + 5) % 6] := by decide +kernel
theorem off10_eq : ∀ k : Fin k0_t2_loop.trips, k0_off10 k = ![(k.val + 5) % 6, 0, 0] := by decide +kernel
theorem off11_eq : ∀ k : Fin k0_t2_loop.trips, k0_off11 k = ![128 * (k.val + 5), 0] := by decide +kernel
theorem off12_eq : ∀ k : Fin k0_t2_loop.trips, k0_off12 k = ![k.val % 6] := by decide +kernel
theorem off13_eq : ∀ k : Fin k0_t2_loop.trips, k0_off13 k = ![k.val % 6, 0, 0] := by decide +kernel
theorem off15_eq : ∀ k : Fin k0_t2_loop.trips, k0_off15 k = ![k.val % 6, 0, 0] := by decide +kernel
theorem off16_eq : ∀ k : Fin k0_t2_loop.trips, k0_off16 k = ![128 * k.val, 0] := by decide +kernel

theorem trips3 : k0_t3_loop.trips = 22 := by decide +kernel
theorem cond4_iff : ∀ k : Fin k0_t3_loop.trips, k0_cond4 k = 1#1 ↔ k.val + 5 < 22 := by decide +kernel
theorem off17_eq : ∀ k : Fin k0_t3_loop.trips, k0_off17 k = ![(k.val + 5) % 6] := by decide +kernel
theorem off18_eq : ∀ k : Fin k0_t3_loop.trips, k0_off18 k = ![(k.val + 5) % 6, 0, 0] := by decide +kernel
theorem off19_eq : ∀ k : Fin k0_t3_loop.trips, k0_off19 k = ![128 * (k.val + 5), 0] := by decide +kernel
theorem off20_eq : ∀ k : Fin k0_t3_loop.trips, k0_off20 k = ![k.val % 6] := by decide +kernel
theorem off21_eq : ∀ k : Fin k0_t3_loop.trips, k0_off21 k = ![k.val % 6, 0, 0] := by decide +kernel
theorem off23_eq : ∀ k : Fin k0_t3_loop.trips, k0_off23 k = ![k.val % 6, 0, 0] := by decide +kernel
theorem off24_eq : ∀ k : Fin k0_t3_loop.trips, k0_off24 k = ![128 * k.val, 0] := by decide +kernel

theorem trips4 : k0_t4_loop.trips = 8 := by decide +kernel
theorem cond5_iff : ∀ k : Fin k0_t4_loop.trips, k0_cond5 k = 1#1 ↔ k.val + 5 < 8 := by decide +kernel
theorem off25_eq : ∀ k : Fin k0_t4_loop.trips, k0_off25 k = ![(k.val + 5) % 6] := by decide +kernel
theorem off26_eq : ∀ k : Fin k0_t4_loop.trips, k0_off26 k = ![(k.val + 5) % 6, 0, 0] := by decide +kernel
theorem off27_eq : ∀ k : Fin k0_t4_loop.trips, k0_off27 k = ![128 * (k.val + 5), 0] := by decide +kernel
theorem off28_eq : ∀ k : Fin k0_t4_loop.trips, k0_off28 k = ![k.val % 6] := by decide +kernel
theorem off29_eq : ∀ k : Fin k0_t4_loop.trips, k0_off29 k = ![k.val % 6, 0, 0] := by decide +kernel
theorem off31_eq : ∀ k : Fin k0_t4_loop.trips, k0_off31 k = ![k.val % 6, 0, 0] := by decide +kernel
theorem off32_eq : ∀ k : Fin k0_t4_loop.trips, k0_off32 k = ![128 * k.val, 0] := by decide +kernel

/-! ## The printed parts -/

/-- An array of zeros. -/
def zeros (s : Shape) : Vec F s .f32 := broadcast s (Scalar.ofBits .f32 0x00000000#32 : F .f32)

section Parts
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .hbm S1024x2560 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S256x128 .bf16) (harg10 : arg10.IsWhole) (arg11 : Memref sig .tc .vmem S4x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .f32) (harg19 : arg19.IsWhole) (arg20 : Memref sig .tc .vmem S512x512 .bf16) (harg20 : arg20.IsWhole) (arg21 : Memref sig .tc .vmem S4x512x128 .bf16) (harg21 : arg21.IsWhole) (arg22 : Memref sig .tc .vmem S4x512x128 .bf16) (harg22 : arg22.IsWhole) (arg23 : Memref sig .tc .vmem S4x512x128 .bf16) (harg23 : arg23.IsWhole) (arg24 : Memref sig .tc .vmem S512x2816 .bf16) (harg24 : arg24.IsWhole) (arg25 : Memref sig .tc .vmem S1024x2816 .bf16) (harg25 : arg25.IsWhole) (arg26 : Memref sig .tc .vmem S1024x2816 .bf16) (harg26 : arg26.IsWhole) (arg27 : Memref sig .tc .vmem S2816x1024 .bf16) (harg27 : arg27.IsWhole) (arg28 : Memref sig .tc .vmem S6x128x2816 .f32) (harg28 : arg28.IsWhole) (arg29 : DmaSems sig S6) (arg30 : Memref sig .tc .vmem S1024x2560 .bf16) (harg30 : arg30.IsWhole) (arg31 : Memref sig .tc .vmem S512x512 .f32) (harg31 : arg31.IsWhole) (arg32 : Memref sig .tc .vmem S512x512 .f32) (harg32 : arg32.IsWhole) (arg33 : Memref sig .tc .vmem S520x512 .f32) (harg33 : arg33.IsWhole) (arg34 : Memref sig .tc .vmem S1x512 .f32) (harg34 : arg34.IsWhole)
  (X3 : Buf (Elt F) (arg3.view.loc (c : Thread nD τ))) (X4 : Buf (Elt F) (arg4.view.loc (c : Thread nD τ))) (X5 : Buf (Elt F) (arg5.view.loc (c : Thread nD τ))) (X7 : Buf (Elt F) (arg7.view.loc (c : Thread nD τ)))

theorem narrow : 1024 ≤ 2816 := by decide
theorem broad : 2560 ≤ 2816 := by decide
theorem units1024 : 0 < unitsOf arg28 1024 := View.dmaCredit_pos (slotM arg28 narrow squeezes_S1x128x1024_S128x1024 0).view (by decide)
theorem units2560 : 0 < unitsOf arg28 2560 := View.dmaCredit_pos (slotM arg28 broad squeezes_S1x128x2560_S128x2560 0).view (by decide)
theorem units2816 : 0 < unitsOf arg28 2816 := View.dmaCredit_pos (slotM arg28 le_rfl squeezes_S1x128x2816_S128x2816 0).view (by decide)

theorem part1_run (K : PUnit → sProp 𝕄) :
    iprop(ring c arg28 arg29 le_rfl squeezes_S1x128x2816_S128x2816 arg3 X3 0 0 ∗ (ring c arg28 arg29 le_rfl squeezes_S1x128x2816_S128x2816 arg3 X3 0 5 -∗ K ⟨⟩))
      ⊢ WP c (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34) K := by
  have go1 := fun a (h : a < 5) => @issue nD τ sig Λ₀ F _ defs₀ c arg28 arg29 1024 2816 le_rfl squeezes_S1x128x2816_S128x2816 arg3 X3 PUnit 0 a (by omega) (by omega) (by omega) (units2816 arg28)
  unfold k0_part1
  iintro ⟨HR, Hk⟩
  iapply (go1 0 (by decide) _ _ _ rfl rfl rfl _ _ _ _ _)
  isplitl [HR]; · iexact HR
  iintro HR
  iapply (go1 1 (by decide) _ _ _ rfl rfl rfl _ _ _ _ _)
  isplitl [HR]; · iexact HR
  iintro HR
  iapply (go1 2 (by decide) _ _ _ rfl rfl rfl _ _ _ _ _)
  isplitl [HR]; · iexact HR
  iintro HR
  iapply (go1 3 (by decide) _ _ _ rfl rfl rfl _ _ _ _ _)
  isplitl [HR]; · iexact HR
  iintro HR
  iapply (go1 4 (by decide) _ _ _ rfl rfl rfl _ _ _ _ _)
  isplitl [HR]; · iexact HR
  iintro HR
  iapply (done c K)
  iapply Hk
  iexact HR

theorem part2_run (k0_h1 : k0_cond1 i = 1#1) (v : Vec F ⟨2, ![1024, 2816]⟩ .bf16) (K : PUnit → sProp 𝕄) :
    iprop((ring c arg28 arg29 le_rfl squeezes_S1x128x2816_S128x2816 arg3 X3 0 5 ∗ kept c arg3 X3 ∗ due c ∗ owns (c : Thread nD τ) arg25 fullShare v ∗ full c arg4 X4)
        ∗ ((full c arg3 X3 ∗ ring c arg28 arg29 le_rfl squeezes_S1x128x2816_S128x2816 arg4 X4 0 4 ∗ kept c arg4 X4 ∗ due c ∗ owns (c : Thread nD τ) arg25 fullShare (castV (arg3.view.read (Elt F) X3))) -∗ K ⟨⟩))
      ⊢ WP c (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 k0_h1) K := by
  have go2 := fun a (h : a < 5) => @issue nD τ sig Λ₀ F _ defs₀ c arg28 arg29 1024 2816 le_rfl squeezes_S1x128x2816_S128x2816 arg4 X4 PUnit 0 a (by omega) (by omega) (by omega) (units2816 arg28)
  unfold k0_part2
  iintro ⟨⟨HR, Hkept, HW, HD, Hnext⟩, Hk⟩
  iapply (loop_run c arg28 arg29 le_rfl squeezes_S1x128x2816_S128x2816 arg3 X3 arg25 k0_t1_loop (k0_t1_ok i k0_h1) trips1 rfl (by decide) v _ ?_)
  · intro k K
    exact trip_run c arg28 arg29 le_rfl squeezes_S1x128x2816_S128x2816 arg3 X3 arg25 v rfl (lt_of_lt_of_eq k.isLt trips1) (units2816 arg28) (cond2_iff k)
      _ _ _ _ _ _ _ _ (fun _ => off3_eq k) (fun _ => off2_eq k) (fun _ => off1_eq k) (off5_eq k) (off4_eq k) (off7_eq k) (off8_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, Hfull, HW, HD⟩
  ihave H := (ring_enter c arg28 arg29 le_rfl squeezes_S1x128x2816_S128x2816 arg4 X4) $$ [Hrest Hnext]
  · isplitl [Hrest]; · iexact Hrest
    iexact Hnext
  icases H with ⟨HR, Hkept⟩
  iapply (go2 0 (by decide) _ _ _ rfl rfl rfl _ _ _ _ _)
  isplitl [HR]; · iexact HR
  iintro HR
  iapply (go2 1 (by decide) _ _ _ rfl rfl rfl _ _ _ _ _)
  isplitl [HR]; · iexact HR
  iintro HR
  iapply (go2 2 (by decide) _ _ _ rfl rfl rfl _ _ _ _ _)
  isplitl [HR]; · iexact HR
  iintro HR
  iapply (go2 3 (by decide) _ _ _ rfl rfl rfl _ _ _ _ _)
  isplitl [HR]; · iexact HR
  iintro HR
  iapply (done c K)
  iapply Hk
  isplitl [Hfull]; · iexact Hfull
  isplitl [HR]; · iexact HR
  isplitl [Hkept]; · iexact Hkept
  isplitl [HW]; · iexact HW
  iexact HD

theorem part3_run (k0_h1 : k0_cond1 i = 1#1) (v : Vec F ⟨2, ![1024, 2816]⟩ .bf16) (K : PUnit → sProp 𝕄) :
    iprop((ring c arg28 arg29 le_rfl squeezes_S1x128x2816_S128x2816 arg4 X4 0 4 ∗ kept c arg4 X4 ∗ due c ∗ owns (c : Thread nD τ) arg26 fullShare v ∗ full c arg5 X5)
        ∗ ((full c arg4 X4 ∗ ring c arg28 arg29 narrow squeezes_S1x128x1024_S128x1024 arg5 X5 0 4 ∗ kept c arg5 X5 ∗ due c ∗ owns (c : Thread nD τ) arg26 fullShare (castV (arg4.view.read (Elt F) X4))) -∗ K ⟨⟩))
      ⊢ WP c (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 k0_h1) K := by
  have go1 := fun a (h : a < 5) => @issue nD τ sig Λ₀ F _ defs₀ c arg28 arg29 1024 2816 le_rfl squeezes_S1x128x2816_S128x2816 arg4 X4 PUnit 0 a (by omega) (by omega) (by omega) (units2816 arg28)
  have go2 := fun a (h : a < 5) => @issue nD τ sig Λ₀ F _ defs₀ c arg28 arg29 2816 1024 narrow squeezes_S1x128x1024_S128x1024 arg5 X5 PUnit 0 a (by omega) (by omega) (by omega) (units1024 arg28)
  unfold k0_part3
  iintro ⟨⟨HR, Hkept, HW, HD, Hnext⟩, Hk⟩
  iapply (go1 4 (by decide) _ _ _ rfl rfl rfl _ _ _ _ _)
  isplitl [HR]; · iexact HR
  iintro HR
  iapply (loop_run c arg28 arg29 le_rfl squeezes_S1x128x2816_S128x2816 arg4 X4 arg26 k0_t2_loop (k0_t2_ok i k0_h1) trips2 rfl (by decide) v _ ?_)
  · intro k K
    exact trip_run c arg28 arg29 le_rfl squeezes_S1x128x2816_S128x2816 arg4 X4 arg26 v rfl (lt_of_lt_of_eq k.isLt trips2) (units2816 arg28) (cond3_iff k)
      _ _ _ _ _ _ _ _ (fun _ => off11_eq k) (fun _ => off10_eq k) (fun _ => off9_eq k) (off13_eq k) (off12_eq k) (off15_eq k) (off16_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, Hfull, HW, HD⟩
  ihave H := (ring_enter c arg28 arg29 narrow squeezes_S1x128x1024_S128x1024 arg5 X5) $$ [Hrest Hnext]
  · isplitl [Hrest]; · iexact Hrest
    iexact Hnext
  icases H with ⟨HR, Hkept⟩
  iapply (go2 0 (by decide) _ _ _ rfl rfl rfl _ _ _ _ _)
  isplitl [HR]; · iexact HR
  iintro HR
  iapply (go2 1 (by decide) _ _ _ rfl rfl rfl _ _ _ _ _)
  isplitl [HR]; · iexact HR
  iintro HR
  iapply (go2 2 (by decide) _ _ _ rfl rfl rfl _ _ _ _ _)
  isplitl [HR]; · iexact HR
  iintro HR
  iapply (go2 3 (by decide) _ _ _ rfl rfl rfl _ _ _ _ _)
  isplitl [HR]; · iexact HR
  iintro HR
  iapply (done c K)
  iapply Hk
  isplitl [Hfull]; · iexact Hfull
  isplitl [HR]; · iexact HR
  isplitl [Hkept]; · iexact Hkept
  isplitl [HW]; · iexact HW
  iexact HD

theorem part4_run (k0_h1 : k0_cond1 i = 1#1) (v : Vec F ⟨2, ![2816, 1024]⟩ .bf16) (K : PUnit → sProp 𝕄) :
    iprop((ring c arg28 arg29 narrow squeezes_S1x128x1024_S128x1024 arg5 X5 0 4 ∗ kept c arg5 X5 ∗ due c ∗ owns (c : Thread nD τ) arg27 fullShare v ∗ full c arg7 X7)
        ∗ ((full c arg5 X5 ∗ ring c arg28 arg29 broad squeezes_S1x128x2560_S128x2560 arg7 X7 0 3 ∗ kept c arg7 X7 ∗ due c ∗ owns (c : Thread nD τ) arg27 fullShare (castV (arg5.view.read (Elt F) X5))) -∗ K ⟨⟩))
      ⊢ WP c (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 k0_h1) K := by
  have go1 := fun a (h : a < 5) => @issue nD τ sig Λ₀ F _ defs₀ c arg28 arg29 2816 1024 narrow squeezes_S1x128x1024_S128x1024 arg5 X5 PUnit 0 a (by omega) (by omega) (by omega) (units1024 arg28)
  have go2 := fun a (h : a < 5) => @issue nD τ sig Λ₀ F _ defs₀ c arg28 arg29 1024 2560 broad squeezes_S1x128x2560_S128x2560 arg7 X7 PUnit 0 a (by omega) (by omega) (by omega) (units2560 arg28)
  unfold k0_part4
  iintro ⟨⟨HR, Hkept, HW, HD, Hnext⟩, Hk⟩
  iapply (go1 4 (by decide) _ _ _ rfl rfl rfl _ _ _ _ _)
  isplitl [HR]; · iexact HR
  iintro HR
  iapply (loop_run c arg28 arg29 narrow squeezes_S1x128x1024_S128x1024 arg5 X5 arg27 k0_t3_loop (k0_t3_ok i k0_h1) trips3 rfl (by decide) v _ ?_)
  · intro k K
    exact trip_run c arg28 arg29 narrow squeezes_S1x128x1024_S128x1024 arg5 X5 arg27 v rfl (lt_of_lt_of_eq k.isLt trips3) (units1024 arg28) (cond4_iff k)
      _ _ _ _ _ _ _ _ (fun _ => off19_eq k) (fun _ => off18_eq k) (fun _ => off17_eq k) (off21_eq k) (off20_eq k) (off23_eq k) (off24_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, Hfull, HW, HD⟩
  ihave H := (ring_enter c arg28 arg29 broad squeezes_S1x128x2560_S128x2560 arg7 X7) $$ [Hrest Hnext]
  · isplitl [Hrest]; · iexact Hrest
    iexact Hnext
  icases H with ⟨HR, Hkept⟩
  iapply (go2 0 (by decide) _ _ _ rfl rfl rfl _ _ _ _ _)
  isplitl [HR]; · iexact HR
  iintro HR
  iapply (go2 1 (by decide) _ _ _ rfl rfl rfl _ _ _ _ _)
  isplitl [HR]; · iexact HR
  iintro HR
  iapply (go2 2 (by decide) _ _ _ rfl rfl rfl _ _ _ _ _)
  isplitl [HR]; · iexact HR
  iintro HR
  iapply (done c K)
  iapply Hk
  isplitl [Hfull]; · iexact Hfull
  isplitl [HR]; · iexact HR
  isplitl [Hkept]; · iexact Hkept
  isplitl [HW]; · iexact HW
  iexact HD

/-- The weights in fast memory. -/
def weights (w25 : Vec F ⟨2, ![1024, 2816]⟩ .bf16) (w26 : Vec F ⟨2, ![1024, 2816]⟩ .bf16) (w27 : Vec F ⟨2, ![2816, 1024]⟩ .bf16) (w30 : Vec F ⟨2, ![1024, 2560]⟩ .bf16) : sProp 𝕄 :=
  iprop(owns (c : Thread nD τ) arg25 fullShare w25 ∗ owns (c : Thread nD τ) arg26 fullShare w26 ∗ owns (c : Thread nD τ) arg27 fullShare w27 ∗ owns (c : Thread nD τ) arg30 fullShare w30)

/-- What only the start needs: the slots at rest and the matrices where they come from. -/
def store : sProp 𝕄 :=
  iprop(rest c arg28 arg29 ∗ full c arg3 X3 ∗ full c arg4 X4 ∗ full c arg5 X5 ∗ full c arg7 X7)

/-- The recurrence's memory. -/
def memory (x31 x32 : Vec F S512x512 .f32) (x33 : Vec F S520x512 .f32) (x34 : Vec F S1x512 .f32) : sProp 𝕄 :=
  iprop(owns (c : Thread nD τ) arg31 fullShare x31 ∗ owns (c : Thread nD τ) arg32 fullShare x32 ∗ owns (c : Thread nD τ) arg33 fullShare x33 ∗ owns (c : Thread nD τ) arg34 fullShare x34)

theorem part5_run (k0_h1 : k0_cond1 i = 1#1) (w25 : Vec F ⟨2, ![1024, 2816]⟩ .bf16) (w26 : Vec F ⟨2, ![1024, 2816]⟩ .bf16) (w27 : Vec F ⟨2, ![2816, 1024]⟩ .bf16) (w30 : Vec F ⟨2, ![1024, 2560]⟩ .bf16) (x31 x32 : Vec F S512x512 .f32) (x33 : Vec F S520x512 .f32) (x34 : Vec F S1x512 .f32) (K : PUnit → sProp 𝕄) :
    iprop((store c arg3 arg4 arg5 arg7 arg28 arg29 X3 X4 X5 X7 ∗ due c ∗ weights c arg25 arg26 arg27 arg30 w25 w26 w27 w30 ∗ memory c arg31 arg32 arg33 arg34 x31 x32 x33 x34)
        ∗ ((store c arg3 arg4 arg5 arg7 arg28 arg29 X3 X4 X5 X7 ∗ due c ∗ weights c arg25 arg26 arg27 arg30 (castV (arg3.view.read (Elt F) X3)) (castV (arg4.view.read (Elt F) X4)) (castV (arg5.view.read (Elt F) X5)) (castV (arg7.view.read (Elt F) X7)) ∗ memory c arg31 arg32 arg33 arg34 (zeros _) (zeros _) (zeros _) (zeros _)) -∗ K ⟨⟩))
      ⊢ WP c (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 k0_h1) K := by
  have go1 := fun a (h : a < 5) => @issue nD τ sig Λ₀ F _ defs₀ c arg28 arg29 1024 2560 broad squeezes_S1x128x2560_S128x2560 arg7 X7 PUnit 0 a (by omega) (by omega) (by omega) (units2560 arg28)
  unfold k0_part5
  rw [WP_bind]
  refine BIBase.Entails.trans ?_ (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 X3 _)
  unfold store weights memory
  iintro ⟨⟨⟨Hrest, H3, H4, H5, H7⟩, HW, ⟨H25, H26, H27, HD⟩, HM⟩, Hk⟩
  ihave H := (ring_enter c arg28 arg29 le_rfl squeezes_S1x128x2816_S128x2816 arg3 X3) $$ [Hrest H3]
  · isplitl [Hrest]; · iexact Hrest
    iexact H3
  icases H with ⟨HR, Hkept⟩
  isplitl [HR]; · iexact HR
  iintro HR
  rw [WP_bind]
  iapply (part2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 X3 X4 k0_h1 w25 _)
  isplitl [HR Hkept HW H25 H4]
  · isplitl [HR]; · iexact HR
    isplitl [Hkept]; · iexact Hkept
    isplitl [HW]; · iexact HW
    isplitl [H25]; · iexact H25
    iexact H4
  iintro ⟨H3, HR, Hkept, HW, H25⟩
  rw [WP_bind]
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 X4 X5 k0_h1 w26 _)
  isplitl [HR Hkept HW H26 H5]
  · isplitl [HR]; · iexact HR
    isplitl [Hkept]; · iexact Hkept
    isplitl [HW]; · iexact HW
    isplitl [H26]; · iexact H26
    iexact H5
  iintro ⟨H4, HR, Hkept, HW, H26⟩
  rw [WP_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 X5 X7 k0_h1 w27 _)
  isplitl [HR Hkept HW H27 H7]
  · isplitl [HR]; · iexact HR
    isplitl [Hkept]; · iexact Hkept
    isplitl [HW]; · iexact HW
    isplitl [H27]; · iexact H27
    iexact H7
  iintro ⟨H5, HR, Hkept, HW, H27⟩
  iapply (go1 3 (by decide) _ _ _ rfl rfl rfl _ _ _ _ _)
  isplitl [HR]; · iexact HR
  iintro HR
  iapply (go1 4 (by decide) _ _ _ rfl rfl rfl _ _ _ _ _)
  isplitl [HR]; · iexact HR
  iintro HR
  iapply (loop_run c arg28 arg29 broad squeezes_S1x128x2560_S128x2560 arg7 X7 arg30 k0_t4_loop (k0_t4_ok i k0_h1) trips4 rfl (by decide) w30 _ ?_)
  · intro k K
    exact trip_run c arg28 arg29 broad squeezes_S1x128x2560_S128x2560 arg7 X7 arg30 w30 rfl (lt_of_lt_of_eq k.isLt trips4) (units2560 arg28) (cond5_iff k)
      _ _ _ _ _ _ _ _ (fun _ => off27_eq k) (fun _ => off26_eq k) (fun _ => off25_eq k) (off29_eq k) (off28_eq k) (off31_eq k) (off32_eq k)
      _ _ _ _ _ _ _ _ _ _ _ K
  isplitl [HR Hkept HW HD]
  · isplitl [HR]; · iexact HR
    isplitl [Hkept]; · iexact Hkept
    isplitl [HW]; · iexact HW
    iexact HD
  iintro ⟨Hrest, H7, HW, H30⟩
  unfold owns
  icases HM with ⟨⟨%f31, %h31, H31⟩, ⟨%f32, %h32, H32⟩, ⟨%f33, %h33, H33⟩, ⟨%f34, %h34, H34⟩⟩
  delta Cert.Load.WP
  beta_reduce
  sl_exec
  sl_step
  iapply Hk
  isplitl [Hrest H3 H4 H5 H7]
  · isplitl [Hrest]; · iexact Hrest
    isplitl [H3]; · iexact H3
    isplitl [H4]; · iexact H4
    isplitl [H5]; · iexact H5
    iexact H7
  isplitl [HW]; · iexact HW
  isplitl [H25 H26 H27 H30]
  · isplitl [H25]; · iexact H25
    isplitl [H26]; · iexact H26
    isplitl [H27]; · iexact H27
    iexact H30
  isplitl [H31]
  · iexists _; isplitr; swap; · iexact H31
    ipureintro; exact (View.read_writes_full arg31.view f31 _ _ _).trans (funext fun _ => rfl)
  isplitl [H32]
  · iexists _; isplitr; swap; · iexact H32
    ipureintro; exact (View.read_writes_full arg32.view f32 _ _ _).trans (funext fun _ => rfl)
  isplitl [H33]
  · iexists _; isplitr; swap; · iexact H33
    ipureintro; exact (View.read_writes_full arg33.view f33 _ _ _).trans (funext fun _ => rfl)
  iexists _; isplitr; swap; · iexact H34
  ipureintro; exact (View.read_writes_full arg34.view f34 _ _ _).trans (funext fun _ => rfl)

end Parts

end Cert.Kernel3Ideal.Half

end
-- ==== Proof.HalfRun.lean ====
/- The first half at a grid point: the printed text, run, and what it leaves. -/
module

public import proofs.«01_k».proof.Proof.HalfParts
public import proofs.«01_k».proof.Proof.FfnHidden
public import proofs.«01_k».proof.Proof.Gen.Kernel3Ideal
public import proofs.«01_k».proof.Proof.Gen.Kernel3Ideal.Launch
public import Idealize.ShloMosaic.Lib.Pipeline.KitQuiescent
public import Idealize.ShloMosaic.Lib.Ring
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal.Ffn (normMid hidden hid hidden_eq)
open Cert.Kernel3Ideal Cert.Kernel3Ideal.Facts₀ Cert.Kernel3Ideal.Facts

variable {F : FTy → Type} [FloatOps F]

local notation "𝕄" => MT nD τ sig Unit (Elt F) ℕ UU ℕ

theorem inbE {o : ℕ} (h : o + 128 ≤ 512) : S512x512.Slices ![0, o] S512x128 :=
  ⟨rfl, fun a => by
    fin_cases a
    · show 0 + 512 ≤ 512; omega
    · show o + 128 ≤ 512; omega⟩

/-! ## The blocks, as functions of what is read -/

/-- The block after the feed-forward half, from the gated product. -/
def halfOf (x : Vec F S512x1024 .f32) (h : Vec F S512x2816 .bf16) (wd : Vec F S2816x1024 .bf16) : FVec F S512x1024 .f32 :=
  addf (VecWindow.window x ![0, 0] S512x1024.size inb_S512x1024_S512x1024_0_0 : FVec F S512x1024 .f32) (mulf (broadcast S512x1024 (Scalar.ofBits .f32 0x3F000000#32 : F .f32))
    (matmul dot_S512x2816_S2816x1024_S512x1024_1_0_0_1_n_n none (VecWindow.window h ![0, 0] S512x2816.size inb_S512x2816_S512x2816_0_0 : FVec F S512x2816 .bf16)
      (VecWindow.window wd ![0, 0] S2816x1024.size inb_S2816x1024_S2816x1024_0_0 : FVec F S2816x1024 .bf16) (constant S512x1024 .f32 0x00000000#32)))

/-- The block, normalised and cast, before the gates. -/
def normIn (x : Vec F S512x1024 .f32) (g : Vec F S1x1024 .f32) : FVec F S512x1024 .bf16 :=
  normMid (VecWindow.window x ![0, 0] S512x1024.size inb_S512x1024_S512x1024_0_0 : FVec F S512x1024 .f32) g

/-- The block after the feed-forward half. -/
def halfV (x : Vec F S512x1024 .f32) (g : Vec F S1x1024 .f32) (wg wu : Vec F S1024x2816 .bf16) (wd : Vec F S2816x1024 .bf16) : FVec F S512x1024 .f32 :=
  halfOf x (hid (normIn x g) wg wu) wd

/-- The values: the block normalised, times the last 512 columns, cast. -/
def valV (x1 : FVec F S512x1024 .f32) (g : Vec F S1x1024 .f32) (w : Vec F S1024x2560 .bf16) : FVec F S512x512 .bf16 :=
  truncf .bf16 (matmul dot_S512x1024_S1024x512_S512x512_1_0_0_1_n_n none (normMid x1 g)
    (VecWindow.window w ![0, 2048] S1024x512.size inb_S1024x2560_S1024x512_0_2048 : FVec F S1024x512 .bf16) (constant S512x512 .f32 0x00000000#32)) bitsLt_bf16_f32

/-- 128 columns, as one pair of heads. -/
def slab (v : FVec F S512x512 .bf16) (o : ℕ) (h : o + 128 ≤ 512) : FVec F S1x512x128 .bf16 :=
  shapeCast S1x512x128 (extractStridedSlice S512x128 ![0, o] v (inbE h) : FVec F S512x128 .bf16) shapeCasts_S512x128_S1x512x128

/-- The pairs of heads, one after another. -/
def pairV (v : FVec F S512x512 .bf16) : Vec F S4x512x128 .bf16 :=
  fun y => slab v (128 * (y 0).val) (by have h : (y 0).val < 4 := (y 0).isLt; omega) (ix3 (n0 := 1) (n1 := 512) (n2 := 128) 0 (y 1) (y 2))

theorem put_pair {v G : Vec F S4x512x128 .bf16} {p : ℕ} {w : Vec F S1x512x128 .bf16} (hv : ∀ y, (y 0).val < p → v y = G y)
    (hw : ∀ (y : S4x512x128.Idx), (y 0).val = p → w (ix3 (n0 := 1) (n1 := 512) (n2 := 128) 0 (y 1) (y 2)) = G y) (y : S4x512x128.Idx) (hy : (y 0).val < p + 1) :
    VecWindow.put v ![p, 0, 0] S1x512x128.size w y = G y := by
  have y1 : (y 1).val < 512 := (y 1).isLt
  have y2 : (y 2).val < 128 := (y 2).isLt
  unfold VecWindow.put
  split
  · rename_i h
    have h0 : p ≤ (y 0).val ∧ (y 0).val < p + 1 := h 0
    rw [← hw y (by omega)]
    congr 1
    funext a; apply Fin.ext
    fin_cases a
    · show (y 0).val - p = 0; omega
    · show (y 1).val - 0 = (y 1).val; omega
    · show (y 2).val - 0 = (y 2).val; omega
  · rename_i h
    refine hv y ?_
    by_contra hn
    refine h fun a => ?_
    fin_cases a
    · show p ≤ (y 0).val ∧ (y 0).val < p + 1; omega
    · show 0 ≤ (y 1).val ∧ (y 1).val < 0 + 512; omega
    · show 0 ≤ (y 2).val ∧ (y 2).val < 0 + 128; omega

theorem slab_at (v : FVec F S512x512 .bf16) {o p : ℕ} (h : o + 128 ≤ 512) (ho : o = 128 * p) (y : S4x512x128.Idx) (hy : (y 0).val = p) :
    slab v o h (ix3 (n0 := 1) (n1 := 512) (n2 := 128) 0 (y 1) (y 2)) = pairV v y := by
  have go : ∀ {o' : ℕ} (h' : o' + 128 ≤ 512) (j : S1x512x128.Idx), o = o' → slab v o h j = slab v o' h' j := by
    rintro _ _ _ rfl; rfl
  exact go _ _ (by omega)

theorem pairs_eq (v : FVec F S512x512 .bf16) (u : Vec F S4x512x128 .bf16) :
    VecWindow.put (VecWindow.put (VecWindow.put (VecWindow.put u ![0, 0, 0] S1x512x128.size (slab v 0 (by decide))) ![1, 0, 0] S1x512x128.size (slab v 128 (by decide)))
      ![2, 0, 0] S1x512x128.size (slab v 256 (by decide))) ![3, 0, 0] S1x512x128.size (slab v 384 (by decide)) = pairV v := by
  have h0 : ∀ y : S4x512x128.Idx, (y 0).val < 0 → u y = pairV v y := fun y hy => absurd hy (Nat.not_lt_zero _)
  have h1 := put_pair (p := 0) h0 fun y h => slab_at v (o := 0) (by decide) rfl y h
  have h2 := put_pair (p := 1) h1 fun y h => slab_at v (o := 128) (by decide) rfl y h
  have h3 := put_pair (p := 2) h2 fun y h => slab_at v (o := 256) (by decide) rfl y h
  have h4 := put_pair (p := 3) h3 fun y h => slab_at v (o := 384) (by decide) rfl y h
  funext y
  exact h4 y (y 0).isLt

/-! ## The text -/

/-- The start: at the first grid point only, the four matrices come in and the recurrence's memory is cleared. -/
noncomputable def start {α : Type} (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .hbm S1024x2560 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S256x128 .bf16) (harg10 : arg10.IsWhole) (arg11 : Memref sig .tc .vmem S4x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .f32) (harg19 : arg19.IsWhole) (arg20 : Memref sig .tc .vmem S512x512 .bf16) (harg20 : arg20.IsWhole) (arg21 : Memref sig .tc .vmem S4x512x128 .bf16) (harg21 : arg21.IsWhole) (arg22 : Memref sig .tc .vmem S4x512x128 .bf16) (harg22 : arg22.IsWhole) (arg23 : Memref sig .tc .vmem S4x512x128 .bf16) (harg23 : arg23.IsWhole) (arg24 : Memref sig .tc .vmem S512x2816 .bf16) (harg24 : arg24.IsWhole) (arg25 : Memref sig .tc .vmem S1024x2816 .bf16) (harg25 : arg25.IsWhole) (arg26 : Memref sig .tc .vmem S1024x2816 .bf16) (harg26 : arg26.IsWhole) (arg27 : Memref sig .tc .vmem S2816x1024 .bf16) (harg27 : arg27.IsWhole) (arg28 : Memref sig .tc .vmem S6x128x2816 .f32) (harg28 : arg28.IsWhole) (arg29 : DmaSems sig S6) (arg30 : Memref sig .tc .vmem S1024x2560 .bf16) (harg30 : arg30.IsWhole) (arg31 : Memref sig .tc .vmem S512x512 .f32) (harg31 : arg31.IsWhole) (arg32 : Memref sig .tc .vmem S512x512 .f32) (harg32 : arg32.IsWhole) (arg33 : Memref sig .tc .vmem S520x512 .f32) (harg33 : arg33.IsWhole) (arg34 : Memref sig .tc .vmem S1x512 .f32) (harg34 : arg34.IsWhole)
    (kk : PUnit → Prog (TpuEff nD τ sig (Elt F) Λ₀ .tc) α) : Prog (TpuEff nD τ sig (Elt F) Λ₀ .tc) α :=
  if k0_h1 : k0_cond1 i = 1#1 then do
    k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 k0_h1
    kk ⟨⟩
  else do
    kk ⟨⟩

/-- What follows the start, to the first gate. -/
noncomputable def afterStart (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .hbm S1024x2560 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S256x128 .bf16) (harg10 : arg10.IsWhole) (arg11 : Memref sig .tc .vmem S4x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .f32) (harg19 : arg19.IsWhole) (arg20 : Memref sig .tc .vmem S512x512 .bf16) (harg20 : arg20.IsWhole) (arg21 : Memref sig .tc .vmem S4x512x128 .bf16) (harg21 : arg21.IsWhole) (arg22 : Memref sig .tc .vmem S4x512x128 .bf16) (harg22 : arg22.IsWhole) (arg23 : Memref sig .tc .vmem S4x512x128 .bf16) (harg23 : arg23.IsWhole) (arg24 : Memref sig .tc .vmem S512x2816 .bf16) (harg24 : arg24.IsWhole) (arg25 : Memref sig .tc .vmem S1024x2816 .bf16) (harg25 : arg25.IsWhole) (arg26 : Memref sig .tc .vmem S1024x2816 .bf16) (harg26 : arg26.IsWhole) (arg27 : Memref sig .tc .vmem S2816x1024 .bf16) (harg27 : arg27.IsWhole) (arg28 : Memref sig .tc .vmem S6x128x2816 .f32) (harg28 : arg28.IsWhole) (arg29 : DmaSems sig S6) (arg30 : Memref sig .tc .vmem S1024x2560 .bf16) (harg30 : arg30.IsWhole) (arg31 : Memref sig .tc .vmem S512x512 .f32) (harg31 : arg31.IsWhole) (arg32 : Memref sig .tc .vmem S512x512 .f32) (harg32 : arg32.IsWhole) (arg33 : Memref sig .tc .vmem S520x512 .f32) (harg33 : arg33.IsWhole) (arg34 : Memref sig .tc .vmem S1x512 .f32) (harg34 : arg34.IsWhole) :
    Prog (TpuEff nD τ sig (Elt F) Λ₀ .tc) (Σ' (v14 : BitVec 1) (v15 : Vec F S512x1024 .f32) (v29 : FVec F S512x1024 .bf16) (v31 : FVec F S512x256 .f32) (v33 : FVec F S512x256 .f32), FVec F S512x256 .f32) := do
  let arg0 : BitVec 32 := BitVec.ofNat 32 (i 0).val
  let c7_i32 : BitVec 32 := 7#32
  let v3 : BitVec 32 := Scalar.addi arg0 c7_i32
  let c8_i32 : BitVec 32 := 8#32
  let c0_i32_1 : BitVec 32 := 0#32
  let v4 : BitVec 1 := Scalar.cmpi .eq c8_i32 c0_i32_1
  let c1_i32 : BitVec 32 := 1#32
  let v5 : BitVec 32 := Scalar.select v4 c1_i32 c8_i32
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let c0 : Index := 0#32
  let c0_6 : Index := 0#32
  let v15 : Vec F S512x1024 .f32 ← Prog.lift (.load arg1 (Rect.unit (s := S512x1024) ![0, 0] S512x1024.size inb_S512x1024_S512x1024_0_0).toLoadRect (View.loadsAt_vmem h_S512x1024))
  let c0_7 : Index := 0#32
  let c0_8 : Index := 0#32
  let v16 : Vec F S1x1024 .f32 ← Prog.lift (.load arg2 (Rect.unit (s := S1x1024) ![0, 0] S1x1024.size inb_S1x1024_S1x1024_0_0).toLoadRect (View.loadsAt_vmem h_S1x1024))
  have v17 : FVec F S512x1024 .f32 := mulf v15 v15
  have cst : FVec F S512 .f32 := constant S512 .f32 0x00000000#32
  have v18 : FVec F S512 .f32 := multiReduction .add [1] S512 v17 0x00000000#32 reduces_S512x1024_S512 (.inl rfl) rfl
  have v19 : FVec F S512x1 .f32 := shapeCast S512x1 v18 shapeCasts_S512_S512x1
  have cst_9 : F .f32 := Scalar.ofBits .f32 0x44800000#32
  have v20 : FVec F S512x1 .f32 := broadcast S512x1 cst_9
  have v21 : FVec F S512x1 .f32 := divf v19 v20
  have cst_10 : F .f32 := Scalar.ofBits .f32 0x358637BD#32
  have v22 : FVec F S512x1 .f32 := broadcast S512x1 cst_10
  have v23 : FVec F S512x1 .f32 := addf v21 v22
  have v24 : FVec F S512x1 .f32 := rsqrt v23
  have v25 : FVec F S512x1024 .f32 := broadcastTo S512x1024 v24 broadcasts_S512x1_S512x1024
  have v26 : FVec F S512x1024 .f32 := mulf v15 v25
  have v27 : FVec F S512x1024 .f32 := broadcastTo S512x1024 v16 broadcasts_S1x1024_S512x1024
  have v28 : FVec F S512x1024 .f32 := mulf v26 v27
  have v29 : FVec F S512x1024 .bf16 := truncf .bf16 v28 bitsLt_bf16_f32
  let c0_11 : Index := 0#32
  let c0_12 : Index := 0#32
  let v30 : Vec F S1024x256 .bf16 ← Prog.lift (.load arg25 (Rect.unit (s := S1024x2816) ![0, 0] S1024x256.size inb_S1024x2816_S1024x256_0_0).toLoadRect (View.loadsAt_vmem h_S1024x256))
  have cst_13 : FVec F S512x256 .f32 := constant S512x256 .f32 0x00000000#32
  have v31 : FVec F S512x256 .f32 := matmul dot_S512x1024_S1024x256_S512x256_1_0_0_1_n_n none v29 v30 cst_13
  let c0_14 : Index := 0#32
  let c0_15 : Index := 0#32
  let v32 : Vec F S1024x256 .bf16 ← Prog.lift (.load arg26 (Rect.unit (s := S1024x2816) ![0, 0] S1024x256.size inb_S1024x2816_S1024x256_0_0).toLoadRect (View.loadsAt_vmem h_S1024x256))
  have cst_16 : FVec F S512x256 .f32 := constant S512x256 .f32 0x00000000#32
  have v33 : FVec F S512x256 .f32 := matmul dot_S512x1024_S1024x256_S512x256_1_0_0_1_n_n none v29 v32 cst_16
  have v34 : FVec F S512x256 .f32 := logistic v31
  pure ⟨v14, v15, v29, v31, v33, v34⟩

theorem part6_eq (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .hbm S1024x2560 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S256x128 .bf16) (harg10 : arg10.IsWhole) (arg11 : Memref sig .tc .vmem S4x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .f32) (harg19 : arg19.IsWhole) (arg20 : Memref sig .tc .vmem S512x512 .bf16) (harg20 : arg20.IsWhole) (arg21 : Memref sig .tc .vmem S4x512x128 .bf16) (harg21 : arg21.IsWhole) (arg22 : Memref sig .tc .vmem S4x512x128 .bf16) (harg22 : arg22.IsWhole) (arg23 : Memref sig .tc .vmem S4x512x128 .bf16) (harg23 : arg23.IsWhole) (arg24 : Memref sig .tc .vmem S512x2816 .bf16) (harg24 : arg24.IsWhole) (arg25 : Memref sig .tc .vmem S1024x2816 .bf16) (harg25 : arg25.IsWhole) (arg26 : Memref sig .tc .vmem S1024x2816 .bf16) (harg26 : arg26.IsWhole) (arg27 : Memref sig .tc .vmem S2816x1024 .bf16) (harg27 : arg27.IsWhole) (arg28 : Memref sig .tc .vmem S6x128x2816 .f32) (harg28 : arg28.IsWhole) (arg29 : DmaSems sig S6) (arg30 : Memref sig .tc .vmem S1024x2560 .bf16) (harg30 : arg30.IsWhole) (arg31 : Memref sig .tc .vmem S512x512 .f32) (harg31 : arg31.IsWhole) (arg32 : Memref sig .tc .vmem S512x512 .f32) (harg32 : arg32.IsWhole) (arg33 : Memref sig .tc .vmem S520x512 .f32) (harg33 : arg33.IsWhole) (arg34 : Memref sig .tc .vmem S1x512 .f32) (harg34 : arg34.IsWhole) :
    k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 = start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 (fun _ => afterStart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34) := rfl

set_option maxHeartbeats 8000000 in
theorem body_run (c : Dev nD) (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .hbm S1024x2560 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S256x128 .bf16) (harg10 : arg10.IsWhole) (arg11 : Memref sig .tc .vmem S4x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .f32) (harg19 : arg19.IsWhole) (arg20 : Memref sig .tc .vmem S512x512 .bf16) (harg20 : arg20.IsWhole) (arg21 : Memref sig .tc .vmem S4x512x128 .bf16) (harg21 : arg21.IsWhole) (arg22 : Memref sig .tc .vmem S4x512x128 .bf16) (harg22 : arg22.IsWhole) (arg23 : Memref sig .tc .vmem S4x512x128 .bf16) (harg23 : arg23.IsWhole) (arg24 : Memref sig .tc .vmem S512x2816 .bf16) (harg24 : arg24.IsWhole) (arg25 : Memref sig .tc .vmem S1024x2816 .bf16) (harg25 : arg25.IsWhole) (arg26 : Memref sig .tc .vmem S1024x2816 .bf16) (harg26 : arg26.IsWhole) (arg27 : Memref sig .tc .vmem S2816x1024 .bf16) (harg27 : arg27.IsWhole) (arg28 : Memref sig .tc .vmem S6x128x2816 .f32) (harg28 : arg28.IsWhole) (arg29 : DmaSems sig S6) (arg30 : Memref sig .tc .vmem S1024x2560 .bf16) (harg30 : arg30.IsWhole) (arg31 : Memref sig .tc .vmem S512x512 .f32) (harg31 : arg31.IsWhole) (arg32 : Memref sig .tc .vmem S512x512 .f32) (harg32 : arg32.IsWhole) (arg33 : Memref sig .tc .vmem S520x512 .f32) (harg33 : arg33.IsWhole) (arg34 : Memref sig .tc .vmem S1x512 .f32) (harg34 : arg34.IsWhole)
    (x1 : Vec F S512x1024 .f32) (x2 : Vec F S1x1024 .f32) (x6 : Vec F S1x1024 .f32) (x8 : Vec F S1x512 .f32) (x9 : Vec F S1x512 .f32) (x10 : Vec F S256x128 .bf16) (x11 : Vec F S4x512 .f32) (x12 : Vec F S1x512 .f32) (x13 : Vec F S512x512 .bf16) (x14 : Vec F S1x512 .f32) (x15 : Vec F S512x512 .bf16) (x16 : Vec F S1x512 .f32) (x17 : Vec F S1x512 .f32) (x18 : Vec F S1x512 .f32) (x25 : Vec F S1024x2816 .bf16) (x26 : Vec F S1024x2816 .bf16) (x27 : Vec F S2816x1024 .bf16) (x30 : Vec F S1024x2560 .bf16)
    (Pre Post : sProp 𝕄)
    (hstart : ∀ {α : Type} (kk : PUnit → Prog (TpuEff nD τ sig (Elt F) Λ₀ .tc) α) (K : α → sProp 𝕄),
      iprop(Pre ∗ ((Post ∗ weights c arg25 arg26 arg27 arg30 x25 x26 x27 x30 ∗ (∃ y31 y32 y33 y34, memory c arg31 arg32 arg33 arg34 y31 y32 y33 y34)) -∗ WP c (kk ⟨⟩) K)) ⊢ WP c (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 kk) K)
    (K : PUnit → sProp 𝕄) :
    iprop((Pre ∗ owns (c : Thread nD τ) arg1 fullShare x1 ∗ owns (c : Thread nD τ) arg2 fullShare x2 ∗ owns (c : Thread nD τ) arg6 fullShare x6 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ x, owns (c : Thread nD τ) arg19 fullShare x) ∗ (∃ x, owns (c : Thread nD τ) arg20 fullShare x) ∗ (∃ x, owns (c : Thread nD τ) arg21 fullShare x) ∗ (∃ x, owns (c : Thread nD τ) arg22 fullShare x) ∗ (∃ x, owns (c : Thread nD τ) arg23 fullShare x) ∗ (∃ x, owns (c : Thread nD τ) arg24 fullShare x))
        ∗ ((Post ∗ weights c arg25 arg26 arg27 arg30 x25 x26 x27 x30 ∗ (∃ y31 y32 y33 y34, memory c arg31 arg32 arg33 arg34 y31 y32 y33 y34) ∗ owns (c : Thread nD τ) arg1 fullShare x1 ∗ owns (c : Thread nD τ) arg2 fullShare x2 ∗ owns (c : Thread nD τ) arg6 fullShare x6 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (halfV x1 x2 x25 x26 x27) ∗ (∃ x, owns (c : Thread nD τ) arg20 fullShare x) ∗ (∃ x, owns (c : Thread nD τ) arg21 fullShare x) ∗ (∃ x, owns (c : Thread nD τ) arg22 fullShare x) ∗ owns (c : Thread nD τ) arg23 fullShare (pairV (valV (halfV x1 x2 x25 x26 x27) x6 x30)) ∗ (∃ x, owns (c : Thread nD τ) arg24 fullShare x)) -∗ K ⟨⟩))
      ⊢ WP c (cc0_ffn_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34) K := by
  unfold cc0_ffn_in
  rw [WP_bind]
  unfold k0_part67
  rw [WP_bind]
  rw [part6_eq]
  refine BIBase.Entails.trans ?_ (hstart _ _)
  unfold weights memory owns
  iintro ⟨⟨HP, ⟨%f1, %h1, H1⟩, ⟨%f2, %h2, H2⟩, ⟨%f6, %h6, H6⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%o19, %f19, %h19, H19⟩, ⟨%o20, %f20, %h20, H20⟩, ⟨%o21, %f21, %h21, H21⟩, ⟨%o22, %f22, %h22, H22⟩, ⟨%o23, %f23, %h23, H23⟩, ⟨%o24, %f24, %h24, H24⟩⟩, Hk⟩
  isplitl [HP]; · iexact HP
  iintro ⟨HP, ⟨⟨%f25, %h25, H25⟩, ⟨%f26, %h26, H26⟩, ⟨%f27, %h27, H27⟩, ⟨%f30, %h30, H30⟩⟩, ⟨%y31, %y32, %y33, %y34, ⟨%f31, %h31, H31⟩, ⟨%f32, %h32, H32⟩, ⟨%f33, %h33, H33⟩, ⟨%f34, %h34, H34⟩⟩⟩
  delta WP
  beta_reduce
  sl_exec!
  sl_step
  have e24 : ∀ inb, arg24.view.readCov (body_run.sl.H24_11 c arg1 arg2 arg25 arg26 f1 f2 f25 f26) (Rect.unit ![0, 0] S512x2816.size inb).toLoadRect
      = VecWindow.window (hid (normIn x1 x2) x25 x26) ![0, 0] S512x2816.size inb_S512x2816_S512x2816_0_0 := by
    intro inb
    refine (View.readAt_unit arg24.view _ inb rfl inb).trans ?_
    refine congrArg (fun z => VecWindow.window z _ _ _) ?_
    delta body_run.sl.H24_11
    rw [View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.read_writes_cons_put arg24.view arg24.view.junk _ _ _ rfl, View.writes_nil, ← hidden_eq _ _ _ (arg24.view.read (Elt F) arg24.view.junk)]
    cases h1; cases h2; cases h25; cases h26
    rfl
  have e19 : body_run.sl.v2964 c arg1 arg2 arg24 arg25 arg26 arg27 f1 f2 f25 f26 f27 = halfV x1 x2 x25 x26 x27 := by
    delta body_run.sl.v2964 body_run.sl.v2963 body_run.sl.v2961 body_run.sl.v2959
    rw [e24]
    cases h1; cases h27
    rfl
  have e23 : body_run.sl.v3086 c arg1 arg2 arg6 arg24 arg25 arg26 arg27 arg30 f1 f2 f6 f25 f26 f27 f30 = valV (halfV x1 x2 x25 x26 x27) x6 x30 := by
    refine Eq.trans ?_ (congrArg (fun z => valV z x6 x30) e19)
    cases h6; cases h30
    rfl
  iapply Hk
  isplitl [HP]; · iexact HP
  isplitl [H25 H26 H27 H30]
  · isplitl [H25]
    · iexists _; isplitr; swap; · iexact H25
      ipureintro; exact h25
    isplitl [H26]
    · iexists _; isplitr; swap; · iexact H26
      ipureintro; exact h26
    isplitl [H27]
    · iexists _; isplitr; swap; · iexact H27
      ipureintro; exact h27
    iexists _; isplitr; swap; · iexact H30
    ipureintro; exact h30
  isplitl [H31 H32 H33 H34]
  · iexists _; iexists _; iexists _; iexists _
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    iexists _; isplitr; swap; · iexact H34
    ipureintro; rfl
  isplitl [H1]
  · iexists _; isplitr; swap; · iexact H1
    ipureintro; exact h1
  isplitl [H2]
  · iexists _; isplitr; swap; · iexact H2
    ipureintro; exact h2
  isplitl [H6]
  · iexists _; isplitr; swap; · iexact H6
    ipureintro; exact h6
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  isplitl [H19]
  · iexists _; isplitr; swap; · iexact H19
    ipureintro
    exact (View.read_writes_full arg19.view _ inb_S512x1024_S512x1024_0_0 _ []).trans e19
  isplitl [H20]
  · iexists _; iexists _; isplitr; swap; · iexact H20
    ipureintro; rfl
  isplitl [H21]
  · iexists _; iexists _; isplitr; swap; · iexact H21
    ipureintro; rfl
  isplitl [H22]
  · iexists _; iexists _; isplitr; swap; · iexact H22
    ipureintro; rfl
  isplitl [H23]
  · iexists _; isplitr; swap; · iexact H23
    ipureintro;
    delta body_run.sl.H23_4
    rw [View.read_writes_cons_put arg23.view arg23.view.junk _ _ _ rfl, View.read_writes_cons_put arg23.view arg23.view.junk _ _ _ rfl, View.read_writes_cons_put arg23.view arg23.view.junk _ _ _ rfl, View.read_writes_cons_put arg23.view arg23.view.junk _ _ _ rfl, View.writes_nil, ← e23]
    exact pairs_eq _ _
  iexists _; iexists _; isplitr; swap; · iexact H24
  ipureintro; rfl

end Cert.Kernel3Ideal.Half

end
-- ==== Proof.HalfRegion.lean ====
/- The first half's launch: the call at every grid point, and what the program leaves in memory. -/
module

public import proofs.«01_k».proof.Proof.HalfRun
public import proofs.«01_k».proof.Proof.FfnRegion
public import proofs.«01_k».proof.Proof.Gen.Kernel3Ideal
public import proofs.«01_k».proof.Proof.Gen.Kernel3Ideal.Launch
public import Idealize.ShloMosaic.Lib.Pipeline.KitQuiescent
public import Idealize.ShloMosaic.Lib.Ring
public import Idealize.ShloMosaic.Lib.Pipeline.FrameBody
public import Idealize.ShloMosaic.Lib.Scf
public import Idealize.ShloMosaic.Lib.VecWindow
public import Idealize.ShloMosaic.Lib.Pointwise
public import Idealize.ShloMosaic.Lib.Tactic

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal.Ffn (rows rows_disjoint rows_cover)
open Cert.Kernel3Ideal Cert.Kernel3Ideal.Facts₀ Cert.Kernel3Ideal.Facts

variable {F : FTy → Type} [FloatOps F]

local notation "𝕄" => MT nD τ sig Unit (Elt F) ℕ UU ℕ

open Idealize.ShloMosaic.Pipeline (Dat Cfg Window BodyObligation BodyObligationLoose cellOf)
open Cert.Kernel3Ideal.Gen

section Start

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .hbm S1024x2560 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S256x128 .bf16) (harg10 : arg10.IsWhole) (arg11 : Memref sig .tc .vmem S4x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .f32) (harg19 : arg19.IsWhole) (arg20 : Memref sig .tc .vmem S512x512 .bf16) (harg20 : arg20.IsWhole) (arg21 : Memref sig .tc .vmem S4x512x128 .bf16) (harg21 : arg21.IsWhole) (arg22 : Memref sig .tc .vmem S4x512x128 .bf16) (harg22 : arg22.IsWhole) (arg23 : Memref sig .tc .vmem S4x512x128 .bf16) (harg23 : arg23.IsWhole) (arg24 : Memref sig .tc .vmem S512x2816 .bf16) (harg24 : arg24.IsWhole) (arg25 : Memref sig .tc .vmem S1024x2816 .bf16) (harg25 : arg25.IsWhole) (arg26 : Memref sig .tc .vmem S1024x2816 .bf16) (harg26 : arg26.IsWhole) (arg27 : Memref sig .tc .vmem S2816x1024 .bf16) (harg27 : arg27.IsWhole) (arg28 : Memref sig .tc .vmem S6x128x2816 .f32) (harg28 : arg28.IsWhole) (arg29 : DmaSems sig S6) (arg30 : Memref sig .tc .vmem S1024x2560 .bf16) (harg30 : arg30.IsWhole) (arg31 : Memref sig .tc .vmem S512x512 .f32) (harg31 : arg31.IsWhole) (arg32 : Memref sig .tc .vmem S512x512 .f32) (harg32 : arg32.IsWhole) (arg33 : Memref sig .tc .vmem S520x512 .f32) (harg33 : arg33.IsWhole) (arg34 : Memref sig .tc .vmem S1x512 .f32) (harg34 : arg34.IsWhole)

theorem start_later {α : Type} (h1 : ¬ k0_cond1 i = 1#1) (kk : PUnit → Prog (TpuEff nD τ sig (Elt F) Λ₀ .tc) α) (K : α → sProp 𝕄) :
    WP c (kk ⟨⟩) K ⊢ WP c (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 kk) K := by
  unfold start
  rw [dif_neg h1]

theorem start_first {α : Type} (X3 : arg3.view.ty.Contents (Elt F)) (X4 : arg4.view.ty.Contents (Elt F)) (X5 : arg5.view.ty.Contents (Elt F)) (X7 : arg7.view.ty.Contents (Elt F)) (kk : PUnit → Prog (TpuEff nD τ sig (Elt F) Λ₀ .tc) α) (k0_h1 : k0_cond1 i = 1#1)
    (w25 w26 : Vec F S1024x2816 .bf16) (w27 : Vec F S2816x1024 .bf16) (w30 : Vec F S1024x2560 .bf16) (x31 x32 : Vec F S512x512 .f32) (x33 : Vec F S520x512 .f32) (x34 : Vec F S1x512 .f32) (K : α → sProp 𝕄) :
    iprop((store c arg3 arg4 arg5 arg7 arg28 arg29 X3 X4 X5 X7 ∗ due c ∗ weights c arg25 arg26 arg27 arg30 w25 w26 w27 w30 ∗ memory c arg31 arg32 arg33 arg34 x31 x32 x33 x34)
        ∗ ((store c arg3 arg4 arg5 arg7 arg28 arg29 X3 X4 X5 X7 ∗ due c ∗ weights c arg25 arg26 arg27 arg30 (castV (arg3.view.read (Elt F) X3)) (castV (arg4.view.read (Elt F) X4)) (castV (arg5.view.read (Elt F) X5)) (castV (arg7.view.read (Elt F) X7)) ∗ memory c arg31 arg32 arg33 arg34 (zeros _) (zeros _) (zeros _) (zeros _)) -∗ WP c (kk ⟨⟩) K))
      ⊢ WP c (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 kk) K := by
  unfold start
  rw [dif_pos k0_h1]
  rw [WP_bind]
  exact part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 arg30 harg30 arg31 harg31 arg32 harg32 arg33 harg33 arg34 harg34 X3 X4 X5 X7 k0_h1 w25 w26 w27 w30 x31 x32 x33 x34 (fun _ => WP c (kk ⟨⟩) K)

end Start

variable (m : (ℓ : Loc nD τ sig) → Buf (Elt F) ℓ) (ρ : Dev nD → PrngReg)

abbrev EP : Emb (UR sig nD τ) (MT nD τ sig Unit (Elt F) ℕ UU ℕ) := embL

/-- Core `c`'s buffers when the call is entered. -/
abbrev V (c : Dev nD) (b : Ref sig .tc) : Buf (Elt F) ((c : Thread nD τ).loc b) := m ((c : Thread nD τ).loc b)

/-! ## The scratch -/

abbrev stage : Memref sig .tc .vmem S6x128x2816 .f32 := Memref.whole cc0_scratch4
abbrev osem : Fin 6 → SemLoc sig := fun s => .dma (semAt cc0_scratch5 s)
theorem ownSemFacts : Pipeline.OwnSemFacts spec0 osem := by decide

theorem slotSet_eq (c : Dev nD) (s : Fin 6) : slotSet (τ := τ) c stage s = rows s := View.set_slice_whole _ _

/-- The slots at rest are the semaphores at zero and the slots' rows. -/
theorem rest_eq (c : Dev nD) : (rest c stage cc0_scratch5 : sProp 𝕄)
    = iprop(Pipeline.ownSems0 osem c ∗ bigSep Finset.univ (fun s => iprop(∃ f : Buf (Elt F) ((c : Thread nD τ).loc cc0_scratch4), ((c : Thread nD τ).loc cc0_scratch4) ↦[rows s]{fullShare} f))) := by
  unfold rest Pipeline.ownSems0
  refine (bigSep_congr fun s _ => ?_).trans (BI.bigSep_sep Finset.univ (fun s => semVal ((c : Thread nD τ), osem s) 0)
    (fun s => iprop(∃ f : Buf (Elt F) ((c : Thread nD τ).loc cc0_scratch4), ((c : Thread nD τ).loc cc0_scratch4) ↦[rows s]{fullShare} f)))
  unfold base
  rw [slotSet_eq]
  rfl

theorem slot_any (c : Dev nD) (s : Fin 6) (f : Buf (Elt F) ((c : Thread nD τ).loc cc0_scratch4)) :
    iprop(((c : Thread nD τ).loc cc0_scratch4) ↦[rows s]{fullShare} f)
      ⊢ (iprop(∃ f : Buf (Elt F) ((c : Thread nD τ).loc cc0_scratch4), ((c : Thread nD τ).loc cc0_scratch4) ↦[rows s]{fullShare} f) : sProp 𝕄) := by
  iintro H; iexists f; iexact H

theorem rows_any (c : Dev nD) (f : Buf (Elt F) ((c : Thread nD τ).loc cc0_scratch4)) :
    iprop(((c : Thread nD τ).loc cc0_scratch4) ↦{fullShare} f)
      ⊢ (iprop(bigSep Finset.univ (fun s => iprop(∃ f : Buf (Elt F) ((c : Thread nD τ).loc cc0_scratch4), ((c : Thread nD τ).loc cc0_scratch4) ↦[rows s]{fullShare} f))) : sProp 𝕄) := by
  rw [Ring.pointsTo_blocks (ℓ := (c : Thread nD τ).loc cc0_scratch4) rows rows_disjoint rows_cover]
  exact bigSep_mono fun s _ => slot_any c s f

theorem rest_enter (c : Dev nD) : iprop(Pipeline.ownSems0 osem c ∗ ∃ f : Buf (Elt F) ((c : Thread nD τ).loc cc0_scratch4), ((c : Thread nD τ).loc cc0_scratch4) ↦{fullShare} f)
    ⊢ (rest c stage cc0_scratch5 : sProp 𝕄) := by
  rw [rest_eq]
  iintro ⟨Hs, %f, H⟩
  isplitl [Hs]; · iexact Hs
  iapply (rows_any c f); iexact H

theorem rest_exit (c : Dev nD) : (rest c stage cc0_scratch5 : sProp 𝕄)
    ⊢ iprop(Pipeline.ownSems0 osem c ∗ ∃ f : Buf (Elt F) ((c : Thread nD τ).loc cc0_scratch4), ((c : Thread nD τ).loc cc0_scratch4) ↦{fullShare} f) := by
  rw [rest_eq]
  iintro ⟨Hs, H⟩
  isplitl [Hs]; · iexact Hs
  iapply (Ring.pointsTo_blocks_join_exists (ℓ := (c : Thread nD τ).loc cc0_scratch4) rows rows_disjoint rows_cover (fun _ => Classical.arbitrary _)) $$ H

/-- The weights where they come from. -/
abbrev X3 (c : Dev nD) : Vec F S1024x2816 .f32 := V m c main_arg2
abbrev X4 (c : Dev nD) : Vec F S1024x2816 .f32 := V m c main_arg3
abbrev X5 (c : Dev nD) : Vec F S2816x1024 .f32 := V m c main_arg4
abbrev X7 (c : Dev nD) : Vec F S1024x2560 .f32 := V m c main_arg6

/-- The slots at rest and the four matrices. -/
abbrev mats (c : Dev nD) : sProp 𝕄 := store c (Memref.whole main_arg2) (Memref.whole main_arg3) (Memref.whole main_arg4) (Memref.whole main_arg6) stage cc0_scratch5 (X3 m c) (X4 m c) (X5 m c) (X7 m c)

/-- The weights in fast memory. -/
abbrev fast (c : Dev nD) (w25 w26 : Vec F S1024x2816 .bf16) (w27 : Vec F S2816x1024 .bf16) (w30 : Vec F S1024x2560 .bf16) : sProp 𝕄 :=
  weights c (Memref.whole cc0_scratch1) (Memref.whole cc0_scratch2) (Memref.whole cc0_scratch3) (Memref.whole cc0_scratch6) w25 w26 w27 w30

/-- The recurrence's memory, at some contents. -/
abbrev anyMemory (c : Dev nD) : sProp 𝕄 :=
  iprop(∃ y31 y32 y33 y34, memory (F := F) c (Memref.whole cc0_scratch7) (Memref.whole cc0_scratch8) (Memref.whole cc0_scratch9) (Memref.whole cc0_scratch10) y31 y32 y33 y34)

/-- What the weights' buffers hold before point `k`: at first anything, then the matrices. -/
def phase (c : Dev nD) (k : ℕ) : sProp 𝕄 :=
  if k = 0 then iprop(∃ w25 w26 w27 w30, fast c w25 w26 w27 w30) else fast c (castV (X3 m c)) (castV (X4 m c)) (castV (X5 m c)) (castV (X7 m c))

/-- What is kept around the call from point to point. -/
def Φ (c : Dev nD) (k : ℕ) : sProp 𝕄 :=
  iprop(mats m c ∗ (∃ h, owns (c : Thread nD τ) (Memref.whole cc0_scratch0) fullShare h) ∗ phase m c k ∗ anyMemory c)

/-! ## The windows -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call leaves in the first result's block at point `t`. -/
def halfAt (c : Dev nD) (t : Fin cfg0.N) : FVec F S512x1024 .f32 :=
  halfV (iblk m c 0 t) (iblk m c 1 t) (castV (X3 m c)) (castV (X4 m c)) (castV (X5 m c))

/-- What the call leaves in the values' block at point `t`. -/
def valAt (c : Dev nD) (t : Fin cfg0.N) : Vec F S4x512x128 .bf16 :=
  pairV (valV (halfAt m c t) (iblk m c 2 t) (castV (X7 m c)))

/-- The windows' buffers at point `t`. -/
abbrev stg0 (t : Fin cfg0.N) : Memref sig .tc .vmem S512x1024 .f32 := win0_0.stage (cfg0.slots t 0)
abbrev stg1 (t : Fin cfg0.N) : Memref sig .tc .vmem S1x1024 .f32 := win0_1.stage (cfg0.slots t 1)
abbrev stg2 (t : Fin cfg0.N) : Memref sig .tc .vmem S1x1024 .f32 := win0_2.stage (cfg0.slots t 2)
abbrev stg3 (t : Fin cfg0.N) : Memref sig .tc .vmem S1x512 .f32 := win0_3.stage (cfg0.slots t 3)
abbrev stg4 (t : Fin cfg0.N) : Memref sig .tc .vmem S1x512 .f32 := win0_4.stage (cfg0.slots t 4)
abbrev stg5 (t : Fin cfg0.N) : Memref sig .tc .vmem S256x128 .bf16 := win0_5.stage (cfg0.slots t 5)
abbrev stg6 (t : Fin cfg0.N) : Memref sig .tc .vmem S4x512 .f32 := win0_6.stage (cfg0.slots t 6)
abbrev stg7 (t : Fin cfg0.N) : Memref sig .tc .vmem S1x512 .f32 := win0_7.stage (cfg0.slots t 7)
abbrev stg8 (t : Fin cfg0.N) : Memref sig .tc .vmem S512x512 .bf16 := win0_8.stage (cfg0.slots t 8)
abbrev stg9 (t : Fin cfg0.N) : Memref sig .tc .vmem S1x512 .f32 := win0_9.stage (cfg0.slots t 9)
abbrev stg10 (t : Fin cfg0.N) : Memref sig .tc .vmem S512x512 .bf16 := win0_10.stage (cfg0.slots t 10)
abbrev stg11 (t : Fin cfg0.N) : Memref sig .tc .vmem S1x512 .f32 := win0_11.stage (cfg0.slots t 11)
abbrev stg12 (t : Fin cfg0.N) : Memref sig .tc .vmem S1x512 .f32 := win0_12.stage (cfg0.slots t 12)
abbrev stg13 (t : Fin cfg0.N) : Memref sig .tc .vmem S1x512 .f32 := win0_13.stage (cfg0.slots t 13)
abbrev stg14 (t : Fin cfg0.N) : Memref sig .tc .vmem S512x1024 .f32 := win0_14.stage (cfg0.slots t 14)
abbrev stg15 (t : Fin cfg0.N) : Memref sig .tc .vmem S512x512 .bf16 := win0_15.stage (cfg0.slots t 15)
abbrev stg16 (t : Fin cfg0.N) : Memref sig .tc .vmem S4x512x128 .bf16 := win0_16.stage (cfg0.slots t 16)
abbrev stg17 (t : Fin cfg0.N) : Memref sig .tc .vmem S4x512x128 .bf16 := win0_17.stage (cfg0.slots t 17)
abbrev stg18 (t : Fin cfg0.N) : Memref sig .tc .vmem S4x512x128 .bf16 := win0_18.stage (cfg0.slots t 18)

/-- What the pipeline holds around the call at each point. The recurrence's output, the queries and the keys are not followed. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => halfAt m c t
    | ⟨15, _⟩ => iblk m c 15 t
    | ⟨16, _⟩ => iblk m c 16 t
    | ⟨17, _⟩ => iblk m c 17 t
    | ⟨18, _⟩ => valAt m c t
    | ⟨_ + 19, h⟩ => absurd h (Nat.not_lt.2 (Nat.le_add_left _ _))
  Φ k := Φ m c k.val
  q _ := fullShare
  owed _ := 0

/-- The windows that are not followed. -/
def unnamed (w : Fin cfg0.W) : Bool := Nat.ble 15 w.val && Nat.ble w.val 17

theorem dats_A (c : Dev nD) (w : Fin cfg0.W) : (dats m 0 c).A w = V m c (Pipeline.arrRef spec0 w) := by dsimp only [dats]
theorem after_14 (c : Dev nD) (t : Fin cfg0.N) : (dats m 0 c).after 14 t = halfAt m c t := by dsimp only [dats]; try rfl
theorem after_18 (c : Dev nD) (t : Fin cfg0.N) : (dats m 0 c).after 18 t = valAt m c t := by dsimp only [dats]; try rfl
theorem after_0 (c : Dev nD) (t : Fin cfg0.N) : (dats m 0 c).after 0 t = iblk m c 0 t := by dsimp only [dats]; try rfl
theorem before_0 (c : Dev nD) (t : Fin cfg0.N) (d) : (dats m 0 c).before 0 t d = iblk m c 0 t :=
  ((dats m 0 c).before_in_eq_fetched 0 rfl (fun _ => rfl) (fun _ _ _ => rfl) (fun t => (after_0 m c t).trans rfl) t d).trans rfl
theorem after_1 (c : Dev nD) (t : Fin cfg0.N) : (dats m 0 c).after 1 t = iblk m c 1 t := by dsimp only [dats]; try rfl
theorem before_1 (c : Dev nD) (t : Fin cfg0.N) (d) : (dats m 0 c).before 1 t d = iblk m c 1 t :=
  ((dats m 0 c).before_in_eq_fetched 1 rfl (fun _ => rfl) (fun _ _ _ => rfl) (fun t => (after_1 m c t).trans rfl) t d).trans rfl
theorem after_2 (c : Dev nD) (t : Fin cfg0.N) : (dats m 0 c).after 2 t = iblk m c 2 t := by dsimp only [dats]; try rfl
theorem before_2 (c : Dev nD) (t : Fin cfg0.N) (d) : (dats m 0 c).before 2 t d = iblk m c 2 t :=
  ((dats m 0 c).before_in_eq_fetched 2 rfl (fun _ => rfl) (fun _ _ _ => rfl) (fun t => (after_2 m c t).trans rfl) t d).trans rfl
theorem after_3 (c : Dev nD) (t : Fin cfg0.N) : (dats m 0 c).after 3 t = iblk m c 3 t := by dsimp only [dats]; try rfl
theorem before_3 (c : Dev nD) (t : Fin cfg0.N) (d) : (dats m 0 c).before 3 t d = iblk m c 3 t :=
  ((dats m 0 c).before_in_eq_fetched 3 rfl (fun _ => rfl) (fun _ _ _ => rfl) (fun t => (after_3 m c t).trans rfl) t d).trans rfl
theorem after_4 (c : Dev nD) (t : Fin cfg0.N) : (dats m 0 c).after 4 t = iblk m c 4 t := by dsimp only [dats]; try rfl
theorem before_4 (c : Dev nD) (t : Fin cfg0.N) (d) : (dats m 0 c).before 4 t d = iblk m c 4 t :=
  ((dats m 0 c).before_in_eq_fetched 4 rfl (fun _ => rfl) (fun _ _ _ => rfl) (fun t => (after_4 m c t).trans rfl) t d).trans rfl
theorem after_5 (c : Dev nD) (t : Fin cfg0.N) : (dats m 0 c).after 5 t = iblk m c 5 t := by dsimp only [dats]; try rfl
theorem before_5 (c : Dev nD) (t : Fin cfg0.N) (d) : (dats m 0 c).before 5 t d = iblk m c 5 t :=
  ((dats m 0 c).before_in_eq_fetched 5 rfl (fun _ => rfl) (fun _ _ _ => rfl) (fun t => (after_5 m c t).trans rfl) t d).trans rfl
theorem after_6 (c : Dev nD) (t : Fin cfg0.N) : (dats m 0 c).after 6 t = iblk m c 6 t := by dsimp only [dats]; try rfl
theorem before_6 (c : Dev nD) (t : Fin cfg0.N) (d) : (dats m 0 c).before 6 t d = iblk m c 6 t :=
  ((dats m 0 c).before_in_eq_fetched 6 rfl (fun _ => rfl) (fun _ _ _ => rfl) (fun t => (after_6 m c t).trans rfl) t d).trans rfl
theorem after_7 (c : Dev nD) (t : Fin cfg0.N) : (dats m 0 c).after 7 t = iblk m c 7 t := by dsimp only [dats]; try rfl
theorem before_7 (c : Dev nD) (t : Fin cfg0.N) (d) : (dats m 0 c).before 7 t d = iblk m c 7 t :=
  ((dats m 0 c).before_in_eq_fetched 7 rfl (fun _ => rfl) (fun _ _ _ => rfl) (fun t => (after_7 m c t).trans rfl) t d).trans rfl
theorem after_8 (c : Dev nD) (t : Fin cfg0.N) : (dats m 0 c).after 8 t = iblk m c 8 t := by dsimp only [dats]; try rfl
theorem before_8 (c : Dev nD) (t : Fin cfg0.N) (d) : (dats m 0 c).before 8 t d = iblk m c 8 t :=
  ((dats m 0 c).before_in_eq_fetched 8 rfl (fun _ => rfl) (fun _ _ _ => rfl) (fun t => (after_8 m c t).trans rfl) t d).trans rfl
theorem after_9 (c : Dev nD) (t : Fin cfg0.N) : (dats m 0 c).after 9 t = iblk m c 9 t := by dsimp only [dats]; try rfl
theorem before_9 (c : Dev nD) (t : Fin cfg0.N) (d) : (dats m 0 c).before 9 t d = iblk m c 9 t :=
  ((dats m 0 c).before_in_eq_fetched 9 rfl (fun _ => rfl) (fun _ _ _ => rfl) (fun t => (after_9 m c t).trans rfl) t d).trans rfl
theorem after_10 (c : Dev nD) (t : Fin cfg0.N) : (dats m 0 c).after 10 t = iblk m c 10 t := by dsimp only [dats]; try rfl
theorem before_10 (c : Dev nD) (t : Fin cfg0.N) (d) : (dats m 0 c).before 10 t d = iblk m c 10 t :=
  ((dats m 0 c).before_in_eq_fetched 10 rfl (fun _ => rfl) (fun _ _ _ => rfl) (fun t => (after_10 m c t).trans rfl) t d).trans rfl
theorem after_11 (c : Dev nD) (t : Fin cfg0.N) : (dats m 0 c).after 11 t = iblk m c 11 t := by dsimp only [dats]; try rfl
theorem before_11 (c : Dev nD) (t : Fin cfg0.N) (d) : (dats m 0 c).before 11 t d = iblk m c 11 t :=
  ((dats m 0 c).before_in_eq_fetched 11 rfl (fun _ => rfl) (fun _ _ _ => rfl) (fun t => (after_11 m c t).trans rfl) t d).trans rfl
theorem after_12 (c : Dev nD) (t : Fin cfg0.N) : (dats m 0 c).after 12 t = iblk m c 12 t := by dsimp only [dats]; try rfl
theorem before_12 (c : Dev nD) (t : Fin cfg0.N) (d) : (dats m 0 c).before 12 t d = iblk m c 12 t :=
  ((dats m 0 c).before_in_eq_fetched 12 rfl (fun _ => rfl) (fun _ _ _ => rfl) (fun t => (after_12 m c t).trans rfl) t d).trans rfl
theorem after_13 (c : Dev nD) (t : Fin cfg0.N) : (dats m 0 c).after 13 t = iblk m c 13 t := by dsimp only [dats]; try rfl
theorem before_13 (c : Dev nD) (t : Fin cfg0.N) (d) : (dats m 0 c).before 13 t d = iblk m c 13 t :=
  ((dats m 0 c).before_in_eq_fetched 13 rfl (fun _ => rfl) (fun _ _ _ => rfl) (fun t => (after_13 m c t).trans rfl) t d).trans rfl

/-- The call at point `t`. -/
abbrev bodyAt (t : Fin cfg0.N) : Prog (TpuEff nD τ sig (Elt F) Λ₀ .tc) PUnit :=
  cc0_ffn_in (grid0.coords t) (stg0 t) (Facts₀.hstage0_0 ((cfg0.slots t 0).cast Facts₀.nbuf0_0)) (stg1 t) (Facts₀.hstage0_1 ((cfg0.slots t 1).cast Facts₀.nbuf0_1)) (Memref.whole main_arg2) (Memref.isWhole_whole _) (Memref.whole main_arg3) (Memref.isWhole_whole _) (Memref.whole main_arg4) (Memref.isWhole_whole _) (stg2 t) (Facts₀.hstage0_2 ((cfg0.slots t 2).cast Facts₀.nbuf0_2)) (Memref.whole main_arg6) (Memref.isWhole_whole _) (stg3 t) (Facts₀.hstage0_3 ((cfg0.slots t 3).cast Facts₀.nbuf0_3)) (stg4 t) (Facts₀.hstage0_4 ((cfg0.slots t 4).cast Facts₀.nbuf0_4)) (stg5 t) (Facts₀.hstage0_5 ((cfg0.slots t 5).cast Facts₀.nbuf0_5)) (stg6 t) (Facts₀.hstage0_6 ((cfg0.slots t 6).cast Facts₀.nbuf0_6)) (stg7 t) (Facts₀.hstage0_7 ((cfg0.slots t 7).cast Facts₀.nbuf0_7)) (stg8 t) (Facts₀.hstage0_8 ((cfg0.slots t 8).cast Facts₀.nbuf0_8)) (stg9 t) (Facts₀.hstage0_9 ((cfg0.slots t 9).cast Facts₀.nbuf0_9)) (stg10 t) (Facts₀.hstage0_10 ((cfg0.slots t 10).cast Facts₀.nbuf0_10)) (stg11 t) (Facts₀.hstage0_11 ((cfg0.slots t 11).cast Facts₀.nbuf0_11)) (stg12 t) (Facts₀.hstage0_12 ((cfg0.slots t 12).cast Facts₀.nbuf0_12)) (stg13 t) (Facts₀.hstage0_13 ((cfg0.slots t 13).cast Facts₀.nbuf0_13)) (stg14 t) (Facts₀.hstage0_14 ((cfg0.slots t 14).cast Facts₀.nbuf0_14)) (stg15 t) (Facts₀.hstage0_15 ((cfg0.slots t 15).cast Facts₀.nbuf0_15)) (stg16 t) (Facts₀.hstage0_16 ((cfg0.slots t 16).cast Facts₀.nbuf0_16)) (stg17 t) (Facts₀.hstage0_17 ((cfg0.slots t 17).cast Facts₀.nbuf0_17)) (stg18 t) (Facts₀.hstage0_18 ((cfg0.slots t 18).cast Facts₀.nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

theorem defs₀_row (t : Fin cfg0.N) : defs₀ (F := F) .tc cfg0.body (cfg0.bodyArgs t (cfg0.slots t)) = bodyAt t := by
  unfold defs₀; rw [Defs.onTc_tc]

theorem first_iff : ∀ t : Fin grid0.N, k0_cond1 (grid0.coords t) = 1#1 ↔ t.val = 0 := by decide

/-- The start, at any point. -/
theorem start_any {α : Type} (c : Dev nD) (t : Fin cfg0.N) (kk : PUnit → Prog (TpuEff nD τ sig (Elt F) Λ₀ .tc) α) (K : α → sProp 𝕄) :
    iprop((mats m c ∗ due c ∗ phase m c t.val ∗ anyMemory c)
        ∗ (((mats m c ∗ due c) ∗ fast c (castV (X3 m c)) (castV (X4 m c)) (castV (X5 m c)) (castV (X7 m c)) ∗ anyMemory c) -∗ WP c (kk ⟨⟩) K))
      ⊢ WP c (start (grid0.coords t) (stg0 t) (Facts₀.hstage0_0 ((cfg0.slots t 0).cast Facts₀.nbuf0_0)) (stg1 t) (Facts₀.hstage0_1 ((cfg0.slots t 1).cast Facts₀.nbuf0_1)) (Memref.whole main_arg2) (Memref.isWhole_whole _) (Memref.whole main_arg3) (Memref.isWhole_whole _) (Memref.whole main_arg4) (Memref.isWhole_whole _) (stg2 t) (Facts₀.hstage0_2 ((cfg0.slots t 2).cast Facts₀.nbuf0_2)) (Memref.whole main_arg6) (Memref.isWhole_whole _) (stg3 t) (Facts₀.hstage0_3 ((cfg0.slots t 3).cast Facts₀.nbuf0_3)) (stg4 t) (Facts₀.hstage0_4 ((cfg0.slots t 4).cast Facts₀.nbuf0_4)) (stg5 t) (Facts₀.hstage0_5 ((cfg0.slots t 5).cast Facts₀.nbuf0_5)) (stg6 t) (Facts₀.hstage0_6 ((cfg0.slots t 6).cast Facts₀.nbuf0_6)) (stg7 t) (Facts₀.hstage0_7 ((cfg0.slots t 7).cast Facts₀.nbuf0_7)) (stg8 t) (Facts₀.hstage0_8 ((cfg0.slots t 8).cast Facts₀.nbuf0_8)) (stg9 t) (Facts₀.hstage0_9 ((cfg0.slots t 9).cast Facts₀.nbuf0_9)) (stg10 t) (Facts₀.hstage0_10 ((cfg0.slots t 10).cast Facts₀.nbuf0_10)) (stg11 t) (Facts₀.hstage0_11 ((cfg0.slots t 11).cast Facts₀.nbuf0_11)) (stg12 t) (Facts₀.hstage0_12 ((cfg0.slots t 12).cast Facts₀.nbuf0_12)) (stg13 t) (Facts₀.hstage0_13 ((cfg0.slots t 13).cast Facts₀.nbuf0_13)) (stg14 t) (Facts₀.hstage0_14 ((cfg0.slots t 14).cast Facts₀.nbuf0_14)) (stg15 t) (Facts₀.hstage0_15 ((cfg0.slots t 15).cast Facts₀.nbuf0_15)) (stg16 t) (Facts₀.hstage0_16 ((cfg0.slots t 16).cast Facts₀.nbuf0_16)) (stg17 t) (Facts₀.hstage0_17 ((cfg0.slots t 17).cast Facts₀.nbuf0_17)) (stg18 t) (Facts₀.hstage0_18 ((cfg0.slots t 18).cast Facts₀.nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) kk) K := by
  by_cases h : t.val = 0
  · unfold phase
    rw [if_pos h]
    iintro ⟨⟨Hm, Hd, ⟨%w25, %w26, %w27, %w30, Hw⟩, ⟨%y31, %y32, %y33, %y34, HM⟩⟩, Hk⟩
    iapply (start_first c (grid0.coords t) (stg0 t) (Facts₀.hstage0_0 ((cfg0.slots t 0).cast Facts₀.nbuf0_0)) (stg1 t) (Facts₀.hstage0_1 ((cfg0.slots t 1).cast Facts₀.nbuf0_1)) (Memref.whole main_arg2) (Memref.isWhole_whole _) (Memref.whole main_arg3) (Memref.isWhole_whole _) (Memref.whole main_arg4) (Memref.isWhole_whole _) (stg2 t) (Facts₀.hstage0_2 ((cfg0.slots t 2).cast Facts₀.nbuf0_2)) (Memref.whole main_arg6) (Memref.isWhole_whole _) (stg3 t) (Facts₀.hstage0_3 ((cfg0.slots t 3).cast Facts₀.nbuf0_3)) (stg4 t) (Facts₀.hstage0_4 ((cfg0.slots t 4).cast Facts₀.nbuf0_4)) (stg5 t) (Facts₀.hstage0_5 ((cfg0.slots t 5).cast Facts₀.nbuf0_5)) (stg6 t) (Facts₀.hstage0_6 ((cfg0.slots t 6).cast Facts₀.nbuf0_6)) (stg7 t) (Facts₀.hstage0_7 ((cfg0.slots t 7).cast Facts₀.nbuf0_7)) (stg8 t) (Facts₀.hstage0_8 ((cfg0.slots t 8).cast Facts₀.nbuf0_8)) (stg9 t) (Facts₀.hstage0_9 ((cfg0.slots t 9).cast Facts₀.nbuf0_9)) (stg10 t) (Facts₀.hstage0_10 ((cfg0.slots t 10).cast Facts₀.nbuf0_10)) (stg11 t) (Facts₀.hstage0_11 ((cfg0.slots t 11).cast Facts₀.nbuf0_11)) (stg12 t) (Facts₀.hstage0_12 ((cfg0.slots t 12).cast Facts₀.nbuf0_12)) (stg13 t) (Facts₀.hstage0_13 ((cfg0.slots t 13).cast Facts₀.nbuf0_13)) (stg14 t) (Facts₀.hstage0_14 ((cfg0.slots t 14).cast Facts₀.nbuf0_14)) (stg15 t) (Facts₀.hstage0_15 ((cfg0.slots t 15).cast Facts₀.nbuf0_15)) (stg16 t) (Facts₀.hstage0_16 ((cfg0.slots t 16).cast Facts₀.nbuf0_16)) (stg17 t) (Facts₀.hstage0_17 ((cfg0.slots t 17).cast Facts₀.nbuf0_17)) (stg18 t) (Facts₀.hstage0_18 ((cfg0.slots t 18).cast Facts₀.nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (X3 m c) (X4 m c) (X5 m c) (X7 m c) kk ((first_iff t).2 h) w25 w26 w27 w30 y31 y32 y33 y34 K)
    isplitl [Hm Hd Hw HM]
    · isplitl [Hm]; · iexact Hm
      isplitl [Hd]; · iexact Hd
      isplitl [Hw]; · iexact Hw
      iexact HM
    iintro ⟨Hm, Hd, Hw, HM⟩
    iapply Hk
    isplitl [Hm Hd]
    · isplitl [Hm]; · iexact Hm
      iexact Hd
    isplitl [Hw]; · iexact Hw
    iexists _; iexists _; iexists _; iexists _; iexact HM
  · unfold phase
    rw [if_neg h]
    iintro ⟨⟨Hm, Hd, Hw, HM⟩, Hk⟩
    iapply (start_later c (grid0.coords t) (stg0 t) (Facts₀.hstage0_0 ((cfg0.slots t 0).cast Facts₀.nbuf0_0)) (stg1 t) (Facts₀.hstage0_1 ((cfg0.slots t 1).cast Facts₀.nbuf0_1)) (Memref.whole main_arg2) (Memref.isWhole_whole _) (Memref.whole main_arg3) (Memref.isWhole_whole _) (Memref.whole main_arg4) (Memref.isWhole_whole _) (stg2 t) (Facts₀.hstage0_2 ((cfg0.slots t 2).cast Facts₀.nbuf0_2)) (Memref.whole main_arg6) (Memref.isWhole_whole _) (stg3 t) (Facts₀.hstage0_3 ((cfg0.slots t 3).cast Facts₀.nbuf0_3)) (stg4 t) (Facts₀.hstage0_4 ((cfg0.slots t 4).cast Facts₀.nbuf0_4)) (stg5 t) (Facts₀.hstage0_5 ((cfg0.slots t 5).cast Facts₀.nbuf0_5)) (stg6 t) (Facts₀.hstage0_6 ((cfg0.slots t 6).cast Facts₀.nbuf0_6)) (stg7 t) (Facts₀.hstage0_7 ((cfg0.slots t 7).cast Facts₀.nbuf0_7)) (stg8 t) (Facts₀.hstage0_8 ((cfg0.slots t 8).cast Facts₀.nbuf0_8)) (stg9 t) (Facts₀.hstage0_9 ((cfg0.slots t 9).cast Facts₀.nbuf0_9)) (stg10 t) (Facts₀.hstage0_10 ((cfg0.slots t 10).cast Facts₀.nbuf0_10)) (stg11 t) (Facts₀.hstage0_11 ((cfg0.slots t 11).cast Facts₀.nbuf0_11)) (stg12 t) (Facts₀.hstage0_12 ((cfg0.slots t 12).cast Facts₀.nbuf0_12)) (stg13 t) (Facts₀.hstage0_13 ((cfg0.slots t 13).cast Facts₀.nbuf0_13)) (stg14 t) (Facts₀.hstage0_14 ((cfg0.slots t 14).cast Facts₀.nbuf0_14)) (stg15 t) (Facts₀.hstage0_15 ((cfg0.slots t 15).cast Facts₀.nbuf0_15)) (stg16 t) (Facts₀.hstage0_16 ((cfg0.slots t 16).cast Facts₀.nbuf0_16)) (stg17 t) (Facts₀.hstage0_17 ((cfg0.slots t 17).cast Facts₀.nbuf0_17)) (stg18 t) (Facts₀.hstage0_18 ((cfg0.slots t 18).cast Facts₀.nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (fun e => h ((first_iff t).1 e)) kk K)
    iapply Hk
    isplitl [Hm Hd]
    · isplitl [Hm]; · iexact Hm
      iexact Hd
    isplitl [Hw]; · iexact Hw
    iexact HM

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)) ∗ (∃ d, owns (c : Thread nD τ) (stg6 t) fullShare ((dats m 0 c).before 6 t d)) ∗ (∃ d, owns (c : Thread nD τ) (stg7 t) fullShare ((dats m 0 c).before 7 t d)) ∗ (∃ d, owns (c : Thread nD τ) (stg8 t) fullShare ((dats m 0 c).before 8 t d)) ∗ (∃ d, owns (c : Thread nD τ) (stg9 t) fullShare ((dats m 0 c).before 9 t d)) ∗ (∃ d, owns (c : Thread nD τ) (stg10 t) fullShare ((dats m 0 c).before 10 t d)) ∗ (∃ d, owns (c : Thread nD τ) (stg11 t) fullShare ((dats m 0 c).before 11 t d)) ∗ (∃ d, owns (c : Thread nD τ) (stg12 t) fullShare ((dats m 0 c).before 12 t d)) ∗ (∃ d, owns (c : Thread nD τ) (stg13 t) fullShare ((dats m 0 c).before 13 t d)) ∗ (∃ d, owns (c : Thread nD τ) (stg14 t) fullShare ((dats m 0 c).before 14 t d)) ∗ (∃ X, owns (c : Thread nD τ) (stg15 t) fullShare X) ∗ (∃ X, owns (c : Thread nD τ) (stg16 t) fullShare X) ∗ (∃ X, owns (c : Thread nD τ) (stg17 t) fullShare X) ∗ (∃ d, owns (c : Thread nD τ) (stg18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t) ∗ owns (c : Thread nD τ) (stg6 t) fullShare ((dats m 0 c).after 6 t) ∗ owns (c : Thread nD τ) (stg7 t) fullShare ((dats m 0 c).after 7 t) ∗ owns (c : Thread nD τ) (stg8 t) fullShare ((dats m 0 c).after 8 t) ∗ owns (c : Thread nD τ) (stg9 t) fullShare ((dats m 0 c).after 9 t) ∗ owns (c : Thread nD τ) (stg10 t) fullShare ((dats m 0 c).after 10 t) ∗ owns (c : Thread nD τ) (stg11 t) fullShare ((dats m 0 c).after 11 t) ∗ owns (c : Thread nD τ) (stg12 t) fullShare ((dats m 0 c).after 12 t) ∗ owns (c : Thread nD τ) (stg13 t) fullShare ((dats m 0 c).after 13 t) ∗ owns (c : Thread nD τ) (stg14 t) fullShare ((dats m 0 c).after 14 t) ∗ (∃ X, owns (c : Thread nD τ) (stg15 t) fullShare X) ∗ (∃ X, owns (c : Thread nD τ) (stg16 t) fullShare X) ∗ (∃ X, owns (c : Thread nD τ) (stg17 t) fullShare X) ∗ owns (c : Thread nD τ) (stg18 t) fullShare ((dats m 0 c).after 18 t))

theorem body_sound (c : Dev nD) (t : Fin cfg0.N) :
    bodyPre m c t ⊢ WP c (bodyAt t) (fun _ => bodyPost m c t) := by
  unfold bodyPre bodyPost bodyAt
  simp only [before_0, before_1, before_2, before_3, before_4, before_5, before_6, before_7, before_8, before_9, before_10, before_11, before_12, before_13]
  rw [after_0, after_1, after_2, after_3, after_4, after_5, after_6, after_7, after_8, after_9, after_10, after_11, after_12, after_13, after_14, after_18]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  iintro ⟨⟨Hm, Hh, Hp, HM⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run.{1} c (grid0.coords t) (stg0 t) (Facts₀.hstage0_0 ((cfg0.slots t 0).cast Facts₀.nbuf0_0)) (stg1 t) (Facts₀.hstage0_1 ((cfg0.slots t 1).cast Facts₀.nbuf0_1)) (Memref.whole main_arg2) (Memref.isWhole_whole _) (Memref.whole main_arg3) (Memref.isWhole_whole _) (Memref.whole main_arg4) (Memref.isWhole_whole _) (stg2 t) (Facts₀.hstage0_2 ((cfg0.slots t 2).cast Facts₀.nbuf0_2)) (Memref.whole main_arg6) (Memref.isWhole_whole _) (stg3 t) (Facts₀.hstage0_3 ((cfg0.slots t 3).cast Facts₀.nbuf0_3)) (stg4 t) (Facts₀.hstage0_4 ((cfg0.slots t 4).cast Facts₀.nbuf0_4)) (stg5 t) (Facts₀.hstage0_5 ((cfg0.slots t 5).cast Facts₀.nbuf0_5)) (stg6 t) (Facts₀.hstage0_6 ((cfg0.slots t 6).cast Facts₀.nbuf0_6)) (stg7 t) (Facts₀.hstage0_7 ((cfg0.slots t 7).cast Facts₀.nbuf0_7)) (stg8 t) (Facts₀.hstage0_8 ((cfg0.slots t 8).cast Facts₀.nbuf0_8)) (stg9 t) (Facts₀.hstage0_9 ((cfg0.slots t 9).cast Facts₀.nbuf0_9)) (stg10 t) (Facts₀.hstage0_10 ((cfg0.slots t 10).cast Facts₀.nbuf0_10)) (stg11 t) (Facts₀.hstage0_11 ((cfg0.slots t 11).cast Facts₀.nbuf0_11)) (stg12 t) (Facts₀.hstage0_12 ((cfg0.slots t 12).cast Facts₀.nbuf0_12)) (stg13 t) (Facts₀.hstage0_13 ((cfg0.slots t 13).cast Facts₀.nbuf0_13)) (stg14 t) (Facts₀.hstage0_14 ((cfg0.slots t 14).cast Facts₀.nbuf0_14)) (stg15 t) (Facts₀.hstage0_15 ((cfg0.slots t 15).cast Facts₀.nbuf0_15)) (stg16 t) (Facts₀.hstage0_16 ((cfg0.slots t 16).cast Facts₀.nbuf0_16)) (stg17 t) (Facts₀.hstage0_17 ((cfg0.slots t 17).cast Facts₀.nbuf0_17)) (stg18 t) (Facts₀.hstage0_18 ((cfg0.slots t 18).cast Facts₀.nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (castV (X3 m c)) (castV (X4 m c)) (castV (X5 m c)) (castV (X7 m c))
    iprop(mats m c ∗ due c ∗ phase m c t.val ∗ anyMemory c) iprop(mats m c ∗ due c) (by intro α kk K; exact start_any m c t kk K) _)
  isplitl [Hm Hh Hp HM HW H0 H1 H2 H3 H4 H5 H6 H7 H8 H9 H10 H11 H12 H13 H14 H15 H16 H17 H18]
  · isplitl [Hm HW Hp HM]
    · isplitl [Hm]; · iexact Hm
      isplitl [HW]; · iexists W; iexact HW
      isplitl [Hp]; · iexact Hp
      iexact HM
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    iexact Hh
  iintro ⟨⟨Hm, ⟨%W', HW⟩⟩, Hw, HM, H0, H1, H2, H3, H4, H5, H6, H7, H8, H9, H10, H11, H12, H13, H14, H15, H16, H17, H18, Hh⟩
  isplitl [Hm Hh Hw HM]
  · isplitl [Hm]; · iexact Hm
    isplitl [Hh]; · iexact Hh
    isplitl [Hw]
    · unfold phase
      rw [if_neg (Nat.succ_ne_zero _)]
      iexact Hw
    iexact HM
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligationLoose (dats (F := F) m 0 c) (defs₀ (F := F)) Variants.none () Set.univ unnamed := fun t => by
  rw [bigSep_W0, bigSep_W0, defs₀_row]
  exact triple_restated (body_sound m c t) rfl .rfl fun _ => .rfl

/-! ## The run -/

/-- The four matrices as they were. -/
def held (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg6) ↦{fullShare} V m c main_arg6))

theorem mats_eq (c : Dev nD) : (mats m c : sProp 𝕄) = iprop(rest c stage cc0_scratch5 ∗ held m c) := by
  unfold mats store held full
  simp only [Memref.whole, View.set_whole]

def u₀ : UU := (initOf (Pipeline.cells cfgs Gen.cellOf_inj) (Pipeline.launchToks cfgs Gen.cellOf_inj), 1)
def QY (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg6) = m ((c : Thread nD τ).loc main_arg6)

set_option backward.isDefEq.respectTransparency.types false in
/-- Every execution ends; the followed windows' arrays then hold what the calls left in them, the matrices are as they were, and every counter is zero. -/
theorem run_main : θ_run defs (onTc (τ := τ) (main (F := F))) ⟨m, fun _ => 0, ρ⟩
    (fun r => (∀ c : Dev nD, (∀ w : Fin cfg0.W, unnamed w = false → r.2.mem ((cfg0.win w).arr.view.loc (c : Thread nD τ)) = (dats m 0 c).arrAt w cfg0.N) ∧ QY m c r.2) ∧ r.2.sem = fun _ => 0) :=
  Pipeline.θ_run_region_kit_forget_quiescent cfgs (dats m) () (0 : Fin 1) launch0 ownSemFacts EP defs₀ Variants.none unnamed m ρ main
    (hbody := fun c => body_obligation m c) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun c => iprop(held m c ∗ Pipeline.ownSems0 osem c)) (Y := fun c => held m c) (Z := fun _ => iprop(emp))
    (hX := fun c => by
      rw [unscopedRest0_eq]
      unfold held
      iintro ⟨H0, HS, -, -, -⟩; imodintro
      isplitl [H0 HS]
      · isplitl [H0]; · iexact H0
        iexact HS
      iempintro)
    (hin := fun c => by
      rw [scopedRest0_eq, show (dats m 0 c).Φ 0 = Φ m c 0 from rfl]
      unfold Φ phase fast anyMemory weights memory
      rw [mats_eq, if_pos rfl]
      simp only [owns_whole]
      iintro ⟨⟨H0, Hs⟩, S0, ⟨%s1, S1⟩, ⟨%s2, S2⟩, ⟨%s3, S3⟩, S4, ⟨%s6, S6⟩, ⟨%s7, S7⟩, ⟨%s8, S8⟩, ⟨%s9, S9⟩, ⟨%s10, S10⟩⟩
      isplitl [H0 Hs S4]
      · isplitl [Hs S4]
        · iapply (rest_enter c)
          isplitl [Hs]; · iexact Hs
          iexact S4
        iexact H0
      isplitl [S0]; · iexact S0
      isplitl [S1 S2 S3 S6]
      · iexists s1; iexists s2; iexists s3; iexists s6
        isplitl [S1]; · iexact S1
        isplitl [S2]; · iexact S2
        isplitl [S3]; · iexact S3
        iexact S6
      iexists s7; iexists s8; iexists s9; iexists s10
      isplitl [S7]; · iexact S7
      isplitl [S8]; · iexact S8
      isplitl [S9]; · iexact S9
      iexact S10)
    (hout := fun c => by
      rw [scopedRest0_eq, show (dats m 0 c).Φ (Fin.last cfg0.N) = Φ m c 33 from rfl]
      unfold Φ phase fast anyMemory weights memory
      rw [mats_eq, if_neg (by decide)]
      simp only [owns_whole]
      iintro ⟨⟨HR, H0⟩, S0, ⟨S1, S2, S3, S6⟩, ⟨%y7, %y8, %y9, %y10, S7, S8, S9, S10⟩⟩
      ihave H := (rest_exit c) $$ HR
      icases H with ⟨Hs, S4⟩
      isplitl [H0]; · iexact H0
      isplitl [Hs]; · iexact Hs
      isplitl [S0]; · iexact S0
      isplitl [S1]; · iexists _; iexact S1
      isplitl [S2]; · iexists _; iexact S2
      isplitl [S3]; · iexists _; iexact S3
      isplitl [S4]; · iexact S4
      isplitl [S6]; · iexists _; iexact S6
      isplitl [S7]; · iexists _; iexact S7
      isplitl [S8]; · iexists _; iexact S8
      isplitl [S9]; · iexists _; iexact S9
      iexists _; iexact S10)
    (QY := QY m)
    (hY := fun c s' => by
      unfold held
      iintro ⟨⟨H4, H6, H7, H8⟩, -, HSI⟩
      icombine HSI H4 gives %h4
      icombine HSI H6 gives %h6
      icombine HSI H7 gives %h7
      icombine HSI H8 gives %h8
      imodintro
      isplitr; · ipureintro; exact ⟨Buf.eq_of_forall_mem_univ h4, Buf.eq_of_forall_mem_univ h6, Buf.eq_of_forall_mem_univ h7, Buf.eq_of_forall_mem_univ h8⟩
      iexact HSI)
    (hQ := fun _ hh hz => ⟨fun c => ⟨fun w hw => ((dats m 0 c).toRForget_arrAt_iff hw _ _).1 ((hh c).1 w), (hh c).2⟩, hz⟩)

end Cert.Kernel3Ideal.Half

end
-- ==== Proof.HalfFrame.lean ====
/- What the first half's call leaves in memory: the two followed results, the arguments as they were. -/
module

public import proofs.«01_k».proof.Proof.HalfRegion

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel3Ideal Cert.Kernel3Ideal.Facts₀ Cert.Kernel3Ideal.Facts

open Idealize.ShloMosaic.Pipeline (Dat Cfg Window)
open Cert.Kernel3Ideal.Gen

variable {F : FTy → Type} [FloatOps F]

variable (m : (ℓ : Loc nD τ sig) → Buf (Elt F) ℓ) (ρ : Dev nD → PrngReg)

/-- What the first result's array holds at the end. -/
def halfResult (c : Dev nD) : Buf (Elt F) ((c.tc : Thread nD τ).loc main_v0_0) := (dats m 0 c).arrAt 14 cfg0.N

/-- What the values' array holds at the end. -/
def valResult (c : Dev nD) : Buf (Elt F) ((c.tc : Thread nD τ).loc main_v0_4) := (dats m 0 c).arrAt 18 cfg0.N

/-- Every execution ends with the two results' arrays at these and the arguments unchanged. -/
theorem run_values : θ_run defs (onTc (τ := τ) (main (F := F))) ⟨m, fun _ => 0, ρ⟩ (fun r => (∀ c : Dev nD,
      r.2.mem ((c.tc : Thread nD τ).loc main_v0_0) = halfResult m c
      ∧ r.2.mem ((c.tc : Thread nD τ).loc main_v0_4) = valResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  refine (θ_run defs _ _).mono (fun r h => ⟨fun c => ?_, h.2⟩) (run_main m ρ)
  have kept : ∀ (w : Fin cfg0.W), unnamed w = false → (cfg0.win w).isOut = false → r.2.mem ((cfg0.win w).arr.view.loc (c : Thread nD τ)) = V m c (Pipeline.arrRef spec0 w) :=
    fun w hw hi => ((h.1 c).1 w hw).trans (((dats m 0 c).arrAt_in w hi _).trans (dats_A m c w))
  exact ⟨(h.1 c).1 14 rfl, (h.1 c).1 18 rfl,
      kept 0 rfl rfl,
      kept 1 rfl rfl,
      (h.1 c).2.1,
      (h.1 c).2.2.1,
      (h.1 c).2.2.2.1,
      kept 2 rfl rfl,
      (h.1 c).2.2.2.2,
      kept 3 rfl rfl,
      kept 4 rfl rfl,
      kept 5 rfl rfl,
      kept 6 rfl rfl,
      kept 7 rfl rfl,
      kept 8 rfl rfl,
      kept 9 rfl rfl,
      kept 10 rfl rfl,
      kept 11 rfl rfl,
      kept 12 rfl rfl,
      kept 13 rfl rfl⟩

/-- Every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => (h.1 c).2.2, h.2⟩) (run_values m ρ)

end Cert.Kernel3Ideal.Half

end
-- ==== Proof.HalfClaims.lean ====
/- The first half's claims that need no values: its frame, as compiled and at the ideal values, and its reference's. -/
module

public import proofs.«01_k».proof.Proof.HalfFrame
public import proofs.«01_k».proof.Proof.Gen.Kernel3
public import proofs.«01_k».proof.Proof.Gen.Reference3Ideal.Run
public import proofs.«01_k».proof.Defs
public import Idealize.ShloMosaic.Lib.Quiescent

@[expose] public section

set_option maxRecDepth 16384

noncomputable section

namespace Cert.Proof

open Idealize.ShloMosaic Idealize.ShloMosaic.TcCoe Idealize.ShloMosaic.Tactic
open Idealize.SL.Sem

section Text

open Cert.Kernel3Ideal

/-- The frame of the first half's text at the machine's floats. -/
def FrameHalf : Prop :=
  ∀ (m : (ℓ : Loc nD τ sig) → Buf (Elt Bits) ℓ) (g : Dev nD → PrngReg),
    True → θ_run (Cert.Kernel3Ideal.defs (F := Bits)) (onTc (τ := τ) (Cert.Kernel3Ideal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)

theorem frameHalf : FrameHalf := fun m g _ => Cert.Kernel3Ideal.Half.run_frame m g

end Text

theorem frameHalf_eq : FrameHalf = Cert.quiescent_Kernel3 (hKernel3 := Cert.Kernel3.Gen.facts) := by
  sl_kernel_rfl

theorem frame_Kernel3 : Cert.quiescent_Kernel3 (hKernel3 := Cert.Kernel3.Gen.facts) := frameHalf_eq ▸ frameHalf

theorem frame_Kernel3Ideal : Cert.quiescent_Kernel3Ideal (hKernel3Ideal := Cert.Kernel3Ideal.Gen.facts) :=
  fun m g _ => Cert.Kernel3Ideal.Half.run_frame m g

theorem frame_Reference3Ideal : Cert.quiescent_Reference3Ideal (hReference3Ideal := Cert.Reference3Ideal.Gen.facts) := fun m g _ =>
  (θ_run Cert.Reference3Ideal.defs _ _).mono
    (fun r h => ⟨fun c => (h c).2.2, Idealize.ShloMosaic.sem_eq_zero_of_no_sems (by decide) r.2⟩) (Cert.Reference3Ideal.Value.run m g)

theorem unchangedHalf : Cert.preserves_Kernel3_Kernel3Ideal := trivial

end Cert.Proof

end
-- ==== Proof.HalfReads.lean ====
/- A row of the first half over the extended reals, and the call's blocks read at an index. -/
module

public import proofs.«01_k».proof.Proof.FfnReads
public import proofs.«01_k».proof.Proof.HalfRun

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal.Ffn (normMid hid normRow hidRow lastRow window2 normMid_apply hid_apply)
open Cert.Kernel3Ideal Cert.Kernel3Ideal.Facts₀ Cert.Kernel3Ideal.Facts

/-- A row normalised, times the last 512 columns. -/
def valRow (X g : Fin 1024 → EReal) (w : S1024x2560.Idx → EReal) (j : Fin 512) : EReal :=
  ∑ k, normRow (Ideal.ofBits FTy.f32 0x44800000#32) X g k * w (ix2 k (⟨2048 + j.val, by omega⟩ : Fin 2560))

theorem halfV_apply (x : Vec Ideal S512x1024 .f32) (g : Vec Ideal S1x1024 .f32) (wg wu : Vec Ideal S1024x2816 .bf16) (wd : Vec Ideal S2816x1024 .bf16) (r : Fin 512) (n : Fin 1024) :
    halfV x g wg wu wd (ix2 r n) = lastRow (fun k => x (ix2 r k)) (fun k => g (ix2 (0 : Fin 1) k)) wg wu wd n := by
  have ex : (VecWindow.window x ![0, 0] S512x1024.size inb_S512x1024_S512x1024_0_0 : FVec Ideal S512x1024 .f32) = x := by
    funext y
    obtain ⟨i, j, rfl⟩ : ∃ (i : Fin 512) (j : Fin 1024), y = ix2 i j := ⟨y 0, y 1, (ix2_eta (n0 := 512) (n1 := 1024) y).symm⟩
    rw [window2]
    simp only [Nat.zero_add]
  unfold halfV normIn
  rw [ex]
  pointwise [halfOf]
  simp only [window2, Nat.zero_add, hid_apply, normMid_apply]
  rfl

theorem valV_apply (x1 : FVec Ideal S512x1024 .f32) (g : Vec Ideal S1x1024 .f32) (w : Vec Ideal S1024x2560 .bf16) (r j : Fin 512) :
    valV x1 g w (ix2 r j) = valRow (fun k => x1 (ix2 r k)) (fun k => g (ix2 (0 : Fin 1) k)) w j := by
  pointwise [valV]
  simp only [window2, Nat.zero_add, normMid_apply]
  rfl

theorem slab_apply (v : FVec Ideal S512x512 .bf16) (o : ℕ) (h : o + 128 ≤ 512) (r : Fin 512) (k : Fin 128) :
    slab v o h (ix3 (0 : Fin 1) r k) = v (ix2 r (⟨o + k.val, by omega⟩ : Fin 512)) := by
  pointwise [slab]

theorem pairV_apply (v : FVec Ideal S512x512 .bf16) (a : Fin 4) (r : Fin 512) (k : Fin 128) :
    pairV v (ix3 a r k) = v (ix2 r (⟨128 * a.val + k.val, by omega⟩ : Fin 512)) :=
  slab_apply v (128 * a.val) (by omega) r k

end Cert.Kernel3Ideal.Half

end
-- ==== Proof.HalfResult.lean ====
/- The first half's result arrays, each row from the row at its place. -/
module

public import proofs.«01_k».proof.Proof.HalfReads
public import proofs.«01_k».proof.Proof.HalfFrame

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Load hiding S1 S_ S6 S6x128x2816 squeezes_S1_S_ bitsLt_bf16_f32 UU WP
open Cert.Kernel2Ideal.Ffn (normRow hidRow lastRow)
open Cert.Kernel3Ideal Cert.Kernel3Ideal.Facts₀ Cert.Kernel3Ideal.Facts

open Idealize.ShloMosaic.Pipeline (Dat Cfg Window)
open Cert.Kernel3Ideal.Gen

/-- The rows after the feed-forward half. -/
def halfAll (x : S16384x1024.Idx → EReal) (g : S1x1024.Idx → EReal) (wg wu : S1024x2816.Idx → EReal) (wd : S2816x1024.Idx → EReal) : S16384x1024.Idx → EReal := fun y =>
  lastRow (fun k => x (ix2 (n0 := 16384) (y 0) k)) (fun k => g (ix2 (0 : Fin 1) k)) wg wu wd (y 1)

/-- The values of the rows, by pairs of heads. -/
def valAll (x1 : S16384x1024.Idx → EReal) (g : S1x1024.Idx → EReal) (w : S1024x2560.Idx → EReal) : S4x16384x128.Idx → EReal := fun y =>
  valRow (fun k => x1 (ix2 (n0 := 16384) (y 1) k)) (fun k => g (ix2 (0 : Fin 1) k)) w
    ⟨128 * (y 0).val + (y 2).val, by have h0 : (y 0).val < 4 := (y 0).isLt; have h2 : (y 2).val < 128 := (y 2).isLt; omega⟩

variable (m : (ℓ : Loc nD τ sig) → Buf (Elt Ideal) ℓ)

theorem points_eq : cfg0.N = 33 := by decide

/-- Point `t`'s row `r` of the block, in the array: the last two points take the same block. -/
def row (t : Fin cfg0.N) (r : Fin 512) : Fin 16384 := ⟨min t.val 31 * 512 + r.val, by omega⟩

theorem index_0 : ∀ t : Fin grid0.N, cc0_transform_0 (grid0.coords t) = ![min t.val 31, 0] := by decide +kernel
theorem index_1 : ∀ t : Fin grid0.N, cc0_transform_1 (grid0.coords t) = ![0, 0] := by decide +kernel
theorem index_5 : ∀ t : Fin grid0.N, cc0_transform_5 (grid0.coords t) = ![0, 0] := by decide +kernel
theorem index_18 : ∀ t : Fin grid0.N, cc0_transform_18 (grid0.coords t) = ![min t.val 31, 0] := by decide +kernel
theorem index_22 : ∀ t : Fin grid0.N, cc0_transform_22 (grid0.coords t) = ![0, min t.val 31, 0] := by decide +kernel

theorem emb_0 (t : Fin cfg0.N) (r : Fin 512) (k : Fin 1024) : ((cfg0.win 0).blk t).view.emb (ix2 r k : S512x1024.Idx) = (ix2 (row t r) k : S16384x1024.Idx) := by
  funext a; apply Fin.ext
  match a with
  | ⟨0, _⟩ => show cc0_transform_0 (grid0.coords t) 0 * 512 + 1 * r.val = min t.val 31 * 512 + r.val; erw [index_0]; show min t.val 31 * 512 + _ = _; omega
  | ⟨1, _⟩ => show cc0_transform_0 (grid0.coords t) 1 * 1024 + 1 * k.val = k.val; erw [index_0]; show 0 * 1024 + _ = _; omega

theorem emb_1 (t : Fin cfg0.N) (k : Fin 1024) : ((cfg0.win 1).blk t).view.emb (ix2 (0 : Fin 1) k : S1x1024.Idx) = (ix2 (0 : Fin 1) k : S1x1024.Idx) := by
  funext a; apply Fin.ext
  match a with
  | ⟨0, _⟩ => show cc0_transform_1 (grid0.coords t) 0 * 1 + 1 * 0 = 0; erw [index_1]; rfl
  | ⟨1, _⟩ => show cc0_transform_1 (grid0.coords t) 1 * 1024 + 1 * k.val = k.val; erw [index_1]; show 0 * 1024 + _ = _; omega

theorem emb_2 (t : Fin cfg0.N) (k : Fin 1024) : ((cfg0.win 2).blk t).view.emb (ix2 (0 : Fin 1) k : S1x1024.Idx) = (ix2 (0 : Fin 1) k : S1x1024.Idx) := by
  funext a; apply Fin.ext
  match a with
  | ⟨0, _⟩ => show cc0_transform_5 (grid0.coords t) 0 * 1 + 1 * 0 = 0; erw [index_5]; rfl
  | ⟨1, _⟩ => show cc0_transform_5 (grid0.coords t) 1 * 1024 + 1 * k.val = k.val; erw [index_5]; show 0 * 1024 + _ = _; omega

theorem emb_14 (t : Fin cfg0.N) (r : Fin 512) (k : Fin 1024) : ((cfg0.win 14).blk t).view.emb (ix2 r k : S512x1024.Idx) = (ix2 (row t r) k : S16384x1024.Idx) := by
  funext a; apply Fin.ext
  match a with
  | ⟨0, _⟩ => show cc0_transform_18 (grid0.coords t) 0 * 512 + 1 * r.val = min t.val 31 * 512 + r.val; erw [index_18]; show min t.val 31 * 512 + _ = _; omega
  | ⟨1, _⟩ => show cc0_transform_18 (grid0.coords t) 1 * 1024 + 1 * k.val = k.val; erw [index_18]; show 0 * 1024 + _ = _; omega

theorem emb_18 (t : Fin cfg0.N) (a : Fin 4) (r : Fin 512) (k : Fin 128) : ((cfg0.win 18).blk t).view.emb (ix3 a r k : S4x512x128.Idx) = (ix3 a (row t r) k : S4x16384x128.Idx) := by
  funext d; apply Fin.ext
  match d with
  | ⟨0, _⟩ => show cc0_transform_22 (grid0.coords t) 0 * 4 + 1 * a.val = a.val; erw [index_22]; show 0 * 4 + _ = _; omega
  | ⟨1, _⟩ => show cc0_transform_22 (grid0.coords t) 1 * 512 + 1 * r.val = min t.val 31 * 512 + r.val; erw [index_22]; show min t.val 31 * 512 + _ = _; omega
  | ⟨2, _⟩ => show cc0_transform_22 (grid0.coords t) 2 * 128 + 1 * k.val = k.val; erw [index_22]; show 0 * 128 + _ = _; omega

theorem iblk_0 (c : Dev nD) (t : Fin cfg0.N) (r : Fin 512) (k : Fin 1024) : iblk m c 0 t (ix2 r k : S512x1024.Idx) = m ((c : Thread nD τ).loc main_arg0) (ix2 (row t r) k : S16384x1024.Idx) :=
  congrArg (m ((c : Thread nD τ).loc main_arg0)) (emb_0 t r k)

theorem iblk_1 (c : Dev nD) (t : Fin cfg0.N) (k : Fin 1024) : iblk m c 1 t (ix2 (0 : Fin 1) k : S1x1024.Idx) = m ((c : Thread nD τ).loc main_arg1) (ix2 (0 : Fin 1) k : S1x1024.Idx) :=
  congrArg (m ((c : Thread nD τ).loc main_arg1)) (emb_1 t k)

theorem iblk_2 (c : Dev nD) (t : Fin cfg0.N) (k : Fin 1024) : iblk m c 2 t (ix2 (0 : Fin 1) k : S1x1024.Idx) = m ((c : Thread nD τ).loc main_arg5) (ix2 (0 : Fin 1) k : S1x1024.Idx) :=
  congrArg (m ((c : Thread nD τ).loc main_arg5)) (emb_2 t k)

/-- The first result from the arguments. -/
abbrev halfSpec (c : Dev nD) : S16384x1024.Idx → EReal :=
  halfAll (m ((c : Thread nD τ).loc main_arg0)) (m ((c : Thread nD τ).loc main_arg1)) (m ((c : Thread nD τ).loc main_arg2)) (m ((c : Thread nD τ).loc main_arg3)) (m ((c : Thread nD τ).loc main_arg4))

/-- The values from the arguments. -/
abbrev valSpec (c : Dev nD) : S4x16384x128.Idx → EReal :=
  valAll (halfSpec m c) (m ((c : Thread nD τ).loc main_arg5)) (m ((c : Thread nD τ).loc main_arg6))

theorem halfAt_apply (c : Dev nD) (t : Fin cfg0.N) (r : Fin 512) (n : Fin 1024) : halfAt m c t (ix2 r n) = halfSpec m c (ix2 (row t r) n) := by
  refine (halfV_apply _ _ _ _ _ r n).trans ?_
  have e0 : (fun k : Fin 1024 => (iblk m c 0 t (ix2 r k : S512x1024.Idx) : EReal)) = fun k => m ((c : Thread nD τ).loc main_arg0) (ix2 (row t r) k : S16384x1024.Idx) := funext (iblk_0 m c t r)
  have e1 : (fun k : Fin 1024 => (iblk m c 1 t (ix2 (0 : Fin 1) k : S1x1024.Idx) : EReal)) = fun k => m ((c : Thread nD τ).loc main_arg1) (ix2 (0 : Fin 1) k : S1x1024.Idx) := funext (iblk_1 m c t)
  erw [e0, e1]
  rfl

theorem valAt_apply (c : Dev nD) (t : Fin cfg0.N) (a : Fin 4) (r : Fin 512) (k : Fin 128) : valAt m c t (ix3 a r k) = valSpec m c (ix3 a (row t r) k) := by
  refine (pairV_apply _ a r k).trans ((valV_apply _ _ _ r _).trans ?_)
  have e0 : (fun n : Fin 1024 => (halfAt m c t (ix2 r n) : EReal)) = fun n => halfSpec m c (ix2 (row t r) n) := funext (halfAt_apply m c t r)
  have e1 : (fun n : Fin 1024 => (iblk m c 2 t (ix2 (0 : Fin 1) n : S1x1024.Idx) : EReal)) = fun n => m ((c : Thread nD τ).loc main_arg5) (ix2 (0 : Fin 1) n : S1x1024.Idx) := funext (iblk_2 m c t)
  erw [e0, e1]
  rfl

/-- The point that leaves block `b` for good. -/
def lastOf (b : ℕ) (h : b < 32) : Fin cfg0.N := ⟨if b = 31 then 32 else b, by rw [points_eq]; split <;> omega⟩

theorem min_lastOf (b : ℕ) (h : b < 32) : min (lastOf b h).val 31 = b := by
  unfold lastOf
  dsimp only
  split <;> omega

theorem flushOf_14 : ∀ t : Fin grid0.N, t.val ≠ 31 → Window.flushOf grid0 true cc0_transform_18 t = true := by decide +kernel
theorem flushOf_18 : ∀ t : Fin grid0.N, t.val ≠ 31 → Window.flushOf grid0 true cc0_transform_22 t = true := by decide +kernel
theorem lastOf_ne (b : ℕ) (h : b < 32) : (lastOf b h).val ≠ 31 := by
  unfold lastOf
  dsimp only
  split <;> omega

theorem half_flushed (c : Dev nD) (t : Fin cfg0.N) (_ : (cfg0.win 14).flush t = true) :
    (dats m 0 c).flushed 14 t = ((cfg0.win 14).blk t).view.read (Elt Ideal) (halfSpec m c) := by
  show (cfg0.win 14).cut (cfg0.grid.coords t) ((dats m 0 c).after 14 t) = _
  rw [after_14]
  funext j
  have ej : (ix2 (j 0) (j 1) : S512x1024.Idx) = j := ix2_eta (n0 := 512) (n1 := 1024) j
  have e := halfAt_apply m c t (j 0) (j 1)
  have e' := emb_14 t (j 0) (j 1)
  rw [ej] at e e'
  exact e.trans (congrArg (halfSpec m c) e').symm

theorem val_flushed (c : Dev nD) (t : Fin cfg0.N) (_ : (cfg0.win 18).flush t = true) :
    (dats m 0 c).flushed 18 t = ((cfg0.win 18).blk t).view.read (Elt Ideal) (valSpec m c) := by
  show (cfg0.win 18).cut (cfg0.grid.coords t) ((dats m 0 c).after 18 t) = _
  rw [after_18]
  funext j
  have ej : (ix3 (j 0) (j 1) (j 2) : S4x512x128.Idx) = j := ix3_eta (n0 := 4) (n1 := 512) (n2 := 128) j
  have e := valAt_apply m c t (j 0) (j 1) (j 2)
  have e' := emb_18 t (j 0) (j 1) (j 2)
  rw [ej] at e e'
  exact e.trans (congrArg (valSpec m c) e').symm

theorem row_lastOf (i : Fin 16384) : row (lastOf (i.val / 512) (by omega)) ⟨i.val % 512, Nat.mod_lt _ (by decide)⟩ = i := by
  apply Fin.ext
  show min (lastOf (i.val / 512) _).val 31 * 512 + i.val % 512 = i.val
  rw [min_lastOf]
  omega

theorem half_cover (y : S16384x1024.Idx) : ∃ t : Fin cfg0.N, (cfg0.win 14).flush t = true ∧ y ∈ ((cfg0.win 14).blk t).view.set := by
  have h0 : (y 0).val < 16384 := (y 0).isLt
  have hb : (y 0).val / 512 < 32 := by omega
  refine ⟨lastOf ((y 0).val / 512) hb, (Window.flush_eq_flushOf _ _).trans (flushOf_14 _ (lastOf_ne _ hb)), ?_⟩
  have h := ((cfg0.win 14).blk (lastOf ((y 0).val / 512) hb)).view.emb_mem_set (ix2 (⟨(y 0).val % 512, Nat.mod_lt _ (by decide)⟩ : Fin 512) (y 1) : S512x1024.Idx)
  have e : ((cfg0.win 14).blk (lastOf ((y 0).val / 512) hb)).view.emb (ix2 (⟨(y 0).val % 512, Nat.mod_lt _ (by decide)⟩ : Fin 512) (y 1) : S512x1024.Idx) = y := by
    refine (emb_14 _ _ _).trans ?_
    rw [row_lastOf (y 0)]
    exact ix2_eta (n0 := 16384) (n1 := 1024) y
  exact (congrArg (fun x => x ∈ ((cfg0.win 14).blk (lastOf ((y 0).val / 512) hb)).view.set) e).mp h

theorem val_cover (y : S4x16384x128.Idx) : ∃ t : Fin cfg0.N, (cfg0.win 18).flush t = true ∧ y ∈ ((cfg0.win 18).blk t).view.set := by
  have h0 : (y 1).val < 16384 := (y 1).isLt
  have hb : (y 1).val / 512 < 32 := by omega
  refine ⟨lastOf ((y 1).val / 512) hb, (Window.flush_eq_flushOf _ _).trans (flushOf_18 _ (lastOf_ne _ hb)), ?_⟩
  have h := ((cfg0.win 18).blk (lastOf ((y 1).val / 512) hb)).view.emb_mem_set (ix3 (y 0) (⟨(y 1).val % 512, Nat.mod_lt _ (by decide)⟩ : Fin 512) (y 2) : S4x512x128.Idx)
  have e : ((cfg0.win 18).blk (lastOf ((y 1).val / 512) hb)).view.emb (ix3 (y 0) (⟨(y 1).val % 512, Nat.mod_lt _ (by decide)⟩ : Fin 512) (y 2) : S4x512x128.Idx) = y := by
    refine (emb_18 _ _ _ _).trans ?_
    rw [row_lastOf (y 1)]
    exact ix3_eta (n0 := 4) (n1 := 16384) (n2 := 128) y
  exact (congrArg (fun x => x ∈ ((cfg0.win 18).blk (lastOf ((y 1).val / 512) hb)).view.set) e).mp h

/-- The first result's array, from the arguments. -/
theorem halfResult_eq (c : Dev nD) : halfResult m c = halfSpec m c :=
  (dats m 0 c).arrAt_eq_of_cover 14 (halfSpec m c) (half_flushed m c) fun i => half_cover i

/-- The values' array, from the arguments. -/
theorem valResult_eq (c : Dev nD) : valResult m c = valSpec m c :=
  (dats m 0 c).arrAt_eq_of_cover 18 (valSpec m c) (val_flushed m c) fun i => val_cover i

end Cert.Kernel3Ideal.Half

end
-- ==== Proof.HalfRef.lean ====
/- The plain first half of the layer, read at an index. -/
module

public import proofs.«01_k».proof.Proof.Gen.Reference3Ideal.Run
public import proofs.«01_k».proof.Proof.FfnRef
public import proofs.«01_k».proof.Proof.HalfResult

@[expose] public section

set_option maxRecDepth 16384

noncomputable section

namespace Cert.Reference3Ideal.Half

open Idealize.ShloMosaic Idealize.ShloMosaic.TcCoe
open Cert.Reference3Ideal Cert.Reference3Ideal.Facts₀ Cert.Reference3Ideal.Facts
open Cert.Kernel2Ideal.Ffn (normRow lastRow)
open Cert.Reference2Ideal.Ffn (lastR norm1024R hidR_apply norm1024R_apply)
open Cert.Kernel3Ideal.Half (valRow halfAll valAll)

variable {F : FTy → Type} [FloatOps F]

/-- The values, by pairs of heads. -/
def valR (M : FVec F S16384x1024 .f32) (g : FVec F S1x1024 .f32) (w : FVec F S1024x2560 .f32) : FVec F S4x16384x128 .bf16 :=
  truncf .bf16 (transpose S4x16384x128 [1, 0, 2] (shapeCast S16384x4x128 (extractStridedSlice S16384x512 ![0, 2048]
    (Host.dotGeneral dot_S16384x1024_S1024x2560_S16384x2560_1_0_0_1_n_n none (norm1024R M g) w : FVec F S16384x2560 .f32) slices_S16384x2560_S16384x512_0_2048 : FVec F S16384x512 .f32)
    shapeCasts_S16384x512_S16384x4x128) transposes_S16384x4x128_S4x16384x128_1_0_2 : FVec F S4x16384x128 .f32) bitsLt_bf16_f32

theorem val_res (m : (ℓ : Loc nD τ sig) → Buf (Elt F) ℓ) (c : Dev nD) : Value.res_out1 m c
    = valR (lastR (m ((c : Thread nD τ).loc main_arg0)) (m ((c : Thread nD τ).loc main_arg1)) (m ((c : Thread nD τ).loc main_arg2)) (m ((c : Thread nD τ).loc main_arg3)) (m ((c : Thread nD τ).loc main_arg4)))
      (m ((c : Thread nD τ).loc main_arg5)) (m ((c : Thread nD τ).loc main_arg6)) := rfl

/-- The rows after the feed-forward half. -/
theorem half_eq (x : FVec Ideal S16384x1024 .f32) (g : FVec Ideal S1x1024 .f32) (wg wu : FVec Ideal S1024x2816 .f32) (wd : FVec Ideal S2816x1024 .f32) :
    lastR x g wg wu wd = halfAll x g wg wu wd := by
  funext y
  obtain ⟨i, n, rfl⟩ : ∃ (i : Fin 16384) (n : Fin 1024), y = ix2 i n := ⟨y 0, y 1, (ix2_eta (n0 := 16384) (n1 := 1024) y).symm⟩
  pointwise [lastR]
  simp only [hidR_apply, norm1024R_apply]
  rfl

/-- The values. -/
theorem val_eq (M : FVec Ideal S16384x1024 .f32) (g : FVec Ideal S1x1024 .f32) (w : FVec Ideal S1024x2560 .f32) :
    valR M g w = valAll M g w := by
  funext y
  obtain ⟨a, i, k, rfl⟩ : ∃ (a : Fin 4) (i : Fin 16384) (k : Fin 128), y = ix3 a i k := ⟨y 0, y 1, y 2, (ix3_eta (n0 := 4) (n1 := 16384) (n2 := 128) y).symm⟩
  pointwise [valR]
  simp only [norm1024R_apply]
  unfold valAll valRow
  refine Finset.sum_congr rfl fun x _ => ?_
  refine congrArg (_ * w ·) (congrArg (ix2 x ·) (Fin.ext ?_))
  show 2048 + (a.val * 128 + k.val) = 2048 + (128 * a.val + k.val)
  omega

end Cert.Reference3Ideal.Half

end
-- ==== Proof.HalfValues.lean ====
/- The third program and the plain first half of the layer compute the same two arrays. -/
module

public import proofs.«01_k».proof.Proof.HalfRef
public import proofs.«01_k».proof.Proof.HalfClaims

@[expose] public section

set_option maxRecDepth 16384

noncomputable section

namespace Cert.Proof

open Idealize.ShloMosaic Idealize.ShloMosaic.TcCoe Idealize.SL.Sem

/-- From arguments that agree, both end with the rows after the feed-forward half and with the values. -/
theorem algebraicHalf : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Half.halfResult m c, fun c => Cert.Kernel3Ideal.Half.valResult m c,
    (θ_run Cert.Kernel3Ideal.defs _ _).mono (fun _ h => h.1) (Cert.Kernel3Ideal.Half.run_values m g), ?_⟩
  refine (θ_run Cert.Reference3Ideal.defs _ _).mono (fun _ h c => ?_) (Cert.Reference3Ideal.Value.run m' g')
  obtain rfl : c = 0 := Subsingleton.elim _ _
  obtain ⟨e0, e1, e2, e3, e4, e5, e6, -⟩ := hagree 0
  refine ⟨(h 0).1.trans ?_, (h 0).2.1.trans ?_, (h 0).2.2⟩
  · refine (Cert.Reference3Ideal.Half.half_eq _ _ _ _ _).trans ?_
    refine Eq.trans ?_ (Cert.Kernel3Ideal.Half.halfResult_eq m 0).symm
    unfold Cert.Kernel3Ideal.Half.halfSpec
    erw [e0, e1, e2, e3, e4]
  · refine (Cert.Reference3Ideal.Half.val_res m' 0).trans ((Cert.Reference3Ideal.Half.val_eq _ _ _).trans ?_)
    refine Eq.trans ?_ (Cert.Kernel3Ideal.Half.valResult_eq m 0).symm
    rw [Cert.Reference3Ideal.Half.half_eq]
    unfold Cert.Kernel3Ideal.Half.valSpec Cert.Kernel3Ideal.Half.halfSpec
    erw [e0, e1, e2, e3, e4, e5, e6]

end Cert.Proof

end
-- ==== Proof.lean ====
module

public import proofs.«01_k».proof.Defs
public import proofs.«01_k».proof.Proof.Claims
public import proofs.«01_k».proof.Proof.Values
public import proofs.«01_k».proof.Proof.Gen.ReferenceIdeal
public import proofs.«01_k».proof.Proof.Gen.ReferenceIdeal.Run
public import proofs.«01_k».proof.Proof.FfnClaims
public import proofs.«01_k».proof.Proof.FfnValues
public import proofs.«01_k».proof.Proof.HalfClaims
public import proofs.«01_k».proof.Proof.HalfValues

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_Kernel, frame_KernelIdeal, frame_ReferenceIdeal, frame_Kernel2, frame_Kernel2Ideal, frame_Reference2Ideal,
    frame_Kernel3, frame_Kernel3Ideal, frame_Reference3Ideal, named, algebraic, unchanged, algebraicFfn, unchangedHalf, algebraicHalf⟩

end Cert.Proof

end
